-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Proj4Kernel (m : (ℓ : Loc Cert.Proj4Kernel.nD Cert.Proj4Kernel.τ Cert.Proj4Kernel.sig) → Buf (Elt Bits) ℓ) : Prop :=
  True

def Pre_Proj4KernelIdeal (m : (ℓ : Loc Cert.Proj4KernelIdeal.nD Cert.Proj4KernelIdeal.τ Cert.Proj4KernelIdeal.sig) → Buf (Elt Ideal) ℓ) : Prop :=
  True

def Pre_Proj4ReferenceIdeal (m : (ℓ : Loc Cert.Proj4ReferenceIdeal.nD Cert.Proj4ReferenceIdeal.τ Cert.Proj4ReferenceIdeal.sig) → Buf (Elt Ideal) ℓ) : Prop :=
  True

def Pre_Proj16Kernel (m : (ℓ : Loc Cert.Proj16Kernel.nD Cert.Proj16Kernel.τ Cert.Proj16Kernel.sig) → Buf (Elt Bits) ℓ) : Prop :=
  True

def Pre_Proj16KernelIdeal (m : (ℓ : Loc Cert.Proj16KernelIdeal.nD Cert.Proj16KernelIdeal.τ Cert.Proj16KernelIdeal.sig) → Buf (Elt Ideal) ℓ) : Prop :=
  True

def Pre_Proj16ReferenceIdeal (m : (ℓ : Loc Cert.Proj16ReferenceIdeal.nD Cert.Proj16ReferenceIdeal.τ Cert.Proj16ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3)
      ∧ r.2.mem ((c.tc : Thread Cert.ConvKernel.nD Cert.ConvKernel.τ).loc Cert.ConvKernel.main_arg4) = m ((c.tc : Thread Cert.ConvKernel.nD Cert.ConvKernel.τ).loc Cert.ConvKernel.main_arg4)
      ∧ r.2.mem ((c.tc : Thread Cert.ConvKernel.nD Cert.ConvKernel.τ).loc Cert.ConvKernel.main_arg5) = m ((c.tc : Thread Cert.ConvKernel.nD Cert.ConvKernel.τ).loc Cert.ConvKernel.main_arg5)
      ∧ r.2.mem ((c.tc : Thread Cert.ConvKernel.nD Cert.ConvKernel.τ).loc Cert.ConvKernel.main_arg6) = m ((c.tc : Thread Cert.ConvKernel.nD Cert.ConvKernel.τ).loc Cert.ConvKernel.main_arg6)
      ∧ r.2.mem ((c.tc : Thread Cert.ConvKernel.nD Cert.ConvKernel.τ).loc Cert.ConvKernel.main_arg7) = m ((c.tc : Thread Cert.ConvKernel.nD Cert.ConvKernel.τ).loc Cert.ConvKernel.main_arg7))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
      ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
      ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6)
      ∧ r.2.mem ((c.tc : Thread Cert.ConvKernelIdeal.nD Cert.ConvKernelIdeal.τ).loc Cert.ConvKernelIdeal.main_arg7) = m ((c.tc : Thread Cert.ConvKernelIdeal.nD Cert.ConvKernelIdeal.τ).loc Cert.ConvKernelIdeal.main_arg7))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6)
      ∧ r.2.mem ((c.tc : Thread Cert.ConvReferenceIdeal.nD Cert.ConvReferenceIdeal.τ).loc Cert.ConvReferenceIdeal.main_arg7) = m ((c.tc : Thread Cert.ConvReferenceIdeal.nD Cert.ConvReferenceIdeal.τ).loc Cert.ConvReferenceIdeal.main_arg7))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5)
      ∧ r.2.mem ((c.tc : Thread Cert.ProjKernel.nD Cert.ProjKernel.τ).loc Cert.ProjKernel.main_arg6) = m ((c.tc : Thread Cert.ProjKernel.nD Cert.ProjKernel.τ).loc Cert.ProjKernel.main_arg6))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_Proj4Kernel [hProj4Kernel : Cert.Proj4Kernel.Facts] : Prop :=
  ∀ (m : (ℓ : Loc Cert.Proj4Kernel.nD Cert.Proj4Kernel.τ Cert.Proj4Kernel.sig) → Buf (Elt Bits) ℓ) (g : Dev Cert.Proj4Kernel.nD → PrngReg), Pre_Proj4Kernel m →
    θ_run (Cert.Proj4Kernel.defs (F := Bits)) (onTc (τ := Cert.Proj4Kernel.τ) (Cert.Proj4Kernel.main (F := Bits))) ⟨m, fun _ => 0, g⟩ (fun r => (∀ c : Dev Cert.Proj4Kernel.nD,
      r.2.mem ((c.tc : Thread Cert.Proj4Kernel.nD Cert.Proj4Kernel.τ).loc Cert.Proj4Kernel.main_arg0) = m ((c.tc : Thread Cert.Proj4Kernel.nD Cert.Proj4Kernel.τ).loc Cert.Proj4Kernel.main_arg0)
      ∧ r.2.mem ((c.tc : Thread Cert.Proj4Kernel.nD Cert.Proj4Kernel.τ).loc Cert.Proj4Kernel.main_arg1) = m ((c.tc : Thread Cert.Proj4Kernel.nD Cert.Proj4Kernel.τ).loc Cert.Proj4Kernel.main_arg1)
      ∧ r.2.mem ((c.tc : Thread Cert.Proj4Kernel.nD Cert.Proj4Kernel.τ).loc Cert.Proj4Kernel.main_arg2) = m ((c.tc : Thread Cert.Proj4Kernel.nD Cert.Proj4Kernel.τ).loc Cert.Proj4Kernel.main_arg2)
      ∧ r.2.mem ((c.tc : Thread Cert.Proj4Kernel.nD Cert.Proj4Kernel.τ).loc Cert.Proj4Kernel.main_arg3) = m ((c.tc : Thread Cert.Proj4Kernel.nD Cert.Proj4Kernel.τ).loc Cert.Proj4Kernel.main_arg3)
      ∧ r.2.mem ((c.tc : Thread Cert.Proj4Kernel.nD Cert.Proj4Kernel.τ).loc Cert.Proj4Kernel.main_arg4) = m ((c.tc : Thread Cert.Proj4Kernel.nD Cert.Proj4Kernel.τ).loc Cert.Proj4Kernel.main_arg4)
      ∧ r.2.mem ((c.tc : Thread Cert.Proj4Kernel.nD Cert.Proj4Kernel.τ).loc Cert.Proj4Kernel.main_arg5) = m ((c.tc : Thread Cert.Proj4Kernel.nD Cert.Proj4Kernel.τ).loc Cert.Proj4Kernel.main_arg5)
      ∧ r.2.mem ((c.tc : Thread Cert.Proj4Kernel.nD Cert.Proj4Kernel.τ).loc Cert.Proj4Kernel.main_arg6) = m ((c.tc : Thread Cert.Proj4Kernel.nD Cert.Proj4Kernel.τ).loc Cert.Proj4Kernel.main_arg6))
      ∧ r.2.sem = fun _ => 0)

def quiescent_Proj4KernelIdeal [hProj4KernelIdeal : Cert.Proj4KernelIdeal.Facts] : Prop :=
  ∀ (m : (ℓ : Loc Cert.Proj4KernelIdeal.nD Cert.Proj4KernelIdeal.τ Cert.Proj4KernelIdeal.sig) → Buf (Elt Ideal) ℓ) (g : Dev Cert.Proj4KernelIdeal.nD → PrngReg), Pre_Proj4KernelIdeal m →
    θ_run (Cert.Proj4KernelIdeal.defs (F := Ideal)) (onTc (τ := Cert.Proj4KernelIdeal.τ) (Cert.Proj4KernelIdeal.main (F := Ideal))) ⟨m, fun _ => 0, g⟩ (fun r => (∀ c : Dev Cert.Proj4KernelIdeal.nD,
      r.2.mem ((c.tc : Thread Cert.Proj4KernelIdeal.nD Cert.Proj4KernelIdeal.τ).loc Cert.Proj4KernelIdeal.main_arg0) = m ((c.tc : Thread Cert.Proj4KernelIdeal.nD Cert.Proj4KernelIdeal.τ).loc Cert.Proj4KernelIdeal.main_arg0)
      ∧ r.2.mem ((c.tc : Thread Cert.Proj4KernelIdeal.nD Cert.Proj4KernelIdeal.τ).loc Cert.Proj4KernelIdeal.main_arg1) = m ((c.tc : Thread Cert.Proj4KernelIdeal.nD Cert.Proj4KernelIdeal.τ).loc Cert.Proj4KernelIdeal.main_arg1)
      ∧ r.2.mem ((c.tc : Thread Cert.Proj4KernelIdeal.nD Cert.Proj4KernelIdeal.τ).loc Cert.Proj4KernelIdeal.main_arg2) = m ((c.tc : Thread Cert.Proj4KernelIdeal.nD Cert.Proj4KernelIdeal.τ).loc Cert.Proj4KernelIdeal.main_arg2)
      ∧ r.2.mem ((c.tc : Thread Cert.Proj4KernelIdeal.nD Cert.Proj4KernelIdeal.τ).loc Cert.Proj4KernelIdeal.main_arg3) = m ((c.tc : Thread Cert.Proj4KernelIdeal.nD Cert.Proj4KernelIdeal.τ).loc Cert.Proj4KernelIdeal.main_arg3)
      ∧ r.2.mem ((c.tc : Thread Cert.Proj4KernelIdeal.nD Cert.Proj4KernelIdeal.τ).loc Cert.Proj4KernelIdeal.main_arg4) = m ((c.tc : Thread Cert.Proj4KernelIdeal.nD Cert.Proj4KernelIdeal.τ).loc Cert.Proj4KernelIdeal.main_arg4)
      ∧ r.2.mem ((c.tc : Thread Cert.Proj4KernelIdeal.nD Cert.Proj4KernelIdeal.τ).loc Cert.Proj4KernelIdeal.main_arg5) = m ((c.tc : Thread Cert.Proj4KernelIdeal.nD Cert.Proj4KernelIdeal.τ).loc Cert.Proj4KernelIdeal.main_arg5)
      ∧ r.2.mem ((c.tc : Thread Cert.Proj4KernelIdeal.nD Cert.Proj4KernelIdeal.τ).loc Cert.Proj4KernelIdeal.main_arg6) = m ((c.tc : Thread Cert.Proj4KernelIdeal.nD Cert.Proj4KernelIdeal.τ).loc Cert.Proj4KernelIdeal.main_arg6))
      ∧ r.2.sem = fun _ => 0)

def quiescent_Proj4ReferenceIdeal [hProj4ReferenceIdeal : Cert.Proj4ReferenceIdeal.Facts] : Prop :=
  ∀ (m : (ℓ : Loc Cert.Proj4ReferenceIdeal.nD Cert.Proj4ReferenceIdeal.τ Cert.Proj4ReferenceIdeal.sig) → Buf (Elt Ideal) ℓ) (g : Dev Cert.Proj4ReferenceIdeal.nD → PrngReg), Pre_Proj4ReferenceIdeal m →
    θ_run (Cert.Proj4ReferenceIdeal.defs (F := Ideal)) (onTc (τ := Cert.Proj4ReferenceIdeal.τ) (Cert.Proj4ReferenceIdeal.main (F := Ideal))) ⟨m, fun _ => 0, g⟩ (fun r => (∀ c : Dev Cert.Proj4ReferenceIdeal.nD,
      r.2.mem ((c.tc : Thread Cert.Proj4ReferenceIdeal.nD Cert.Proj4ReferenceIdeal.τ).loc Cert.Proj4ReferenceIdeal.main_arg0) = m ((c.tc : Thread Cert.Proj4ReferenceIdeal.nD Cert.Proj4ReferenceIdeal.τ).loc Cert.Proj4ReferenceIdeal.main_arg0)
      ∧ r.2.mem ((c.tc : Thread Cert.Proj4ReferenceIdeal.nD Cert.Proj4ReferenceIdeal.τ).loc Cert.Proj4ReferenceIdeal.main_arg1) = m ((c.tc : Thread Cert.Proj4ReferenceIdeal.nD Cert.Proj4ReferenceIdeal.τ).loc Cert.Proj4ReferenceIdeal.main_arg1)
      ∧ r.2.mem ((c.tc : Thread Cert.Proj4ReferenceIdeal.nD Cert.Proj4ReferenceIdeal.τ).loc Cert.Proj4ReferenceIdeal.main_arg2) = m ((c.tc : Thread Cert.Proj4ReferenceIdeal.nD Cert.Proj4ReferenceIdeal.τ).loc Cert.Proj4ReferenceIdeal.main_arg2)
      ∧ r.2.mem ((c.tc : Thread Cert.Proj4ReferenceIdeal.nD Cert.Proj4ReferenceIdeal.τ).loc Cert.Proj4ReferenceIdeal.main_arg3) = m ((c.tc : Thread Cert.Proj4ReferenceIdeal.nD Cert.Proj4ReferenceIdeal.τ).loc Cert.Proj4ReferenceIdeal.main_arg3)
      ∧ r.2.mem ((c.tc : Thread Cert.Proj4ReferenceIdeal.nD Cert.Proj4ReferenceIdeal.τ).loc Cert.Proj4ReferenceIdeal.main_arg4) = m ((c.tc : Thread Cert.Proj4ReferenceIdeal.nD Cert.Proj4ReferenceIdeal.τ).loc Cert.Proj4ReferenceIdeal.main_arg4)
      ∧ r.2.mem ((c.tc : Thread Cert.Proj4ReferenceIdeal.nD Cert.Proj4ReferenceIdeal.τ).loc Cert.Proj4ReferenceIdeal.main_arg5) = m ((c.tc : Thread Cert.Proj4ReferenceIdeal.nD Cert.Proj4ReferenceIdeal.τ).loc Cert.Proj4ReferenceIdeal.main_arg5)
      ∧ r.2.mem ((c.tc : Thread Cert.Proj4ReferenceIdeal.nD Cert.Proj4ReferenceIdeal.τ).loc Cert.Proj4ReferenceIdeal.main_arg6) = m ((c.tc : Thread Cert.Proj4ReferenceIdeal.nD Cert.Proj4ReferenceIdeal.τ).loc Cert.Proj4ReferenceIdeal.main_arg6))
      ∧ r.2.sem = fun _ => 0)

def quiescent_Proj16Kernel [hProj16Kernel : Cert.Proj16Kernel.Facts] : Prop :=
  ∀ (m : (ℓ : Loc Cert.Proj16Kernel.nD Cert.Proj16Kernel.τ Cert.Proj16Kernel.sig) → Buf (Elt Bits) ℓ) (g : Dev Cert.Proj16Kernel.nD → PrngReg), Pre_Proj16Kernel m →
    θ_run (Cert.Proj16Kernel.defs (F := Bits)) (onTc (τ := Cert.Proj16Kernel.τ) (Cert.Proj16Kernel.main (F := Bits))) ⟨m, fun _ => 0, g⟩ (fun r => (∀ c : Dev Cert.Proj16Kernel.nD,
      r.2.mem ((c.tc : Thread Cert.Proj16Kernel.nD Cert.Proj16Kernel.τ).loc Cert.Proj16Kernel.main_arg0) = m ((c.tc : Thread Cert.Proj16Kernel.nD Cert.Proj16Kernel.τ).loc Cert.Proj16Kernel.main_arg0)
      ∧ r.2.mem ((c.tc : Thread Cert.Proj16Kernel.nD Cert.Proj16Kernel.τ).loc Cert.Proj16Kernel.main_arg1) = m ((c.tc : Thread Cert.Proj16Kernel.nD Cert.Proj16Kernel.τ).loc Cert.Proj16Kernel.main_arg1)
      ∧ r.2.mem ((c.tc : Thread Cert.Proj16Kernel.nD Cert.Proj16Kernel.τ).loc Cert.Proj16Kernel.main_arg2) = m ((c.tc : Thread Cert.Proj16Kernel.nD Cert.Proj16Kernel.τ).loc Cert.Proj16Kernel.main_arg2)
      ∧ r.2.mem ((c.tc : Thread Cert.Proj16Kernel.nD Cert.Proj16Kernel.τ).loc Cert.Proj16Kernel.main_arg3) = m ((c.tc : Thread Cert.Proj16Kernel.nD Cert.Proj16Kernel.τ).loc Cert.Proj16Kernel.main_arg3)
      ∧ r.2.mem ((c.tc : Thread Cert.Proj16Kernel.nD Cert.Proj16Kernel.τ).loc Cert.Proj16Kernel.main_arg4) = m ((c.tc : Thread Cert.Proj16Kernel.nD Cert.Proj16Kernel.τ).loc Cert.Proj16Kernel.main_arg4)
      ∧ r.2.mem ((c.tc : Thread Cert.Proj16Kernel.nD Cert.Proj16Kernel.τ).loc Cert.Proj16Kernel.main_arg5) = m ((c.tc : Thread Cert.Proj16Kernel.nD Cert.Proj16Kernel.τ).loc Cert.Proj16Kernel.main_arg5)
      ∧ r.2.mem ((c.tc : Thread Cert.Proj16Kernel.nD Cert.Proj16Kernel.τ).loc Cert.Proj16Kernel.main_arg6) = m ((c.tc : Thread Cert.Proj16Kernel.nD Cert.Proj16Kernel.τ).loc Cert.Proj16Kernel.main_arg6))
      ∧ r.2.sem = fun _ => 0)

def quiescent_Proj16KernelIdeal [hProj16KernelIdeal : Cert.Proj16KernelIdeal.Facts] : Prop :=
  ∀ (m : (ℓ : Loc Cert.Proj16KernelIdeal.nD Cert.Proj16KernelIdeal.τ Cert.Proj16KernelIdeal.sig) → Buf (Elt Ideal) ℓ) (g : Dev Cert.Proj16KernelIdeal.nD → PrngReg), Pre_Proj16KernelIdeal m →
    θ_run (Cert.Proj16KernelIdeal.defs (F := Ideal)) (onTc (τ := Cert.Proj16KernelIdeal.τ) (Cert.Proj16KernelIdeal.main (F := Ideal))) ⟨m, fun _ => 0, g⟩ (fun r => (∀ c : Dev Cert.Proj16KernelIdeal.nD,
      r.2.mem ((c.tc : Thread Cert.Proj16KernelIdeal.nD Cert.Proj16KernelIdeal.τ).loc Cert.Proj16KernelIdeal.main_arg0) = m ((c.tc : Thread Cert.Proj16KernelIdeal.nD Cert.Proj16KernelIdeal.τ).loc Cert.Proj16KernelIdeal.main_arg0)
      ∧ r.2.mem ((c.tc : Thread Cert.Proj16KernelIdeal.nD Cert.Proj16KernelIdeal.τ).loc Cert.Proj16KernelIdeal.main_arg1) = m ((c.tc : Thread Cert.Proj16KernelIdeal.nD Cert.Proj16KernelIdeal.τ).loc Cert.Proj16KernelIdeal.main_arg1)
      ∧ r.2.mem ((c.tc : Thread Cert.Proj16KernelIdeal.nD Cert.Proj16KernelIdeal.τ).loc Cert.Proj16KernelIdeal.main_arg2) = m ((c.tc : Thread Cert.Proj16KernelIdeal.nD Cert.Proj16KernelIdeal.τ).loc Cert.Proj16KernelIdeal.main_arg2)
      ∧ r.2.mem ((c.tc : Thread Cert.Proj16KernelIdeal.nD Cert.Proj16KernelIdeal.τ).loc Cert.Proj16KernelIdeal.main_arg3) = m ((c.tc : Thread Cert.Proj16KernelIdeal.nD Cert.Proj16KernelIdeal.τ).loc Cert.Proj16KernelIdeal.main_arg3)
      ∧ r.2.mem ((c.tc : Thread Cert.Proj16KernelIdeal.nD Cert.Proj16KernelIdeal.τ).loc Cert.Proj16KernelIdeal.main_arg4) = m ((c.tc : Thread Cert.Proj16KernelIdeal.nD Cert.Proj16KernelIdeal.τ).loc Cert.Proj16KernelIdeal.main_arg4)
      ∧ r.2.mem ((c.tc : Thread Cert.Proj16KernelIdeal.nD Cert.Proj16KernelIdeal.τ).loc Cert.Proj16KernelIdeal.main_arg5) = m ((c.tc : Thread Cert.Proj16KernelIdeal.nD Cert.Proj16KernelIdeal.τ).loc Cert.Proj16KernelIdeal.main_arg5)
      ∧ r.2.mem ((c.tc : Thread Cert.Proj16KernelIdeal.nD Cert.Proj16KernelIdeal.τ).loc Cert.Proj16KernelIdeal.main_arg6) = m ((c.tc : Thread Cert.Proj16KernelIdeal.nD Cert.Proj16KernelIdeal.τ).loc Cert.Proj16KernelIdeal.main_arg6))
      ∧ r.2.sem = fun _ => 0)

def quiescent_Proj16ReferenceIdeal [hProj16ReferenceIdeal : Cert.Proj16ReferenceIdeal.Facts] : Prop :=
  ∀ (m : (ℓ : Loc Cert.Proj16ReferenceIdeal.nD Cert.Proj16ReferenceIdeal.τ Cert.Proj16ReferenceIdeal.sig) → Buf (Elt Ideal) ℓ) (g : Dev Cert.Proj16ReferenceIdeal.nD → PrngReg), Pre_Proj16ReferenceIdeal m →
    θ_run (Cert.Proj16ReferenceIdeal.defs (F := Ideal)) (onTc (τ := Cert.Proj16ReferenceIdeal.τ) (Cert.Proj16ReferenceIdeal.main (F := Ideal))) ⟨m, fun _ => 0, g⟩ (fun r => (∀ c : Dev Cert.Proj16ReferenceIdeal.nD,
      r.2.mem ((c.tc : Thread Cert.Proj16ReferenceIdeal.nD Cert.Proj16ReferenceIdeal.τ).loc Cert.Proj16ReferenceIdeal.main_arg0) = m ((c.tc : Thread Cert.Proj16ReferenceIdeal.nD Cert.Proj16ReferenceIdeal.τ).loc Cert.Proj16ReferenceIdeal.main_arg0)
      ∧ r.2.mem ((c.tc : Thread Cert.Proj16ReferenceIdeal.nD Cert.Proj16ReferenceIdeal.τ).loc Cert.Proj16ReferenceIdeal.main_arg1) = m ((c.tc : Thread Cert.Proj16ReferenceIdeal.nD Cert.Proj16ReferenceIdeal.τ).loc Cert.Proj16ReferenceIdeal.main_arg1)
      ∧ r.2.mem ((c.tc : Thread Cert.Proj16ReferenceIdeal.nD Cert.Proj16ReferenceIdeal.τ).loc Cert.Proj16ReferenceIdeal.main_arg2) = m ((c.tc : Thread Cert.Proj16ReferenceIdeal.nD Cert.Proj16ReferenceIdeal.τ).loc Cert.Proj16ReferenceIdeal.main_arg2)
      ∧ r.2.mem ((c.tc : Thread Cert.Proj16ReferenceIdeal.nD Cert.Proj16ReferenceIdeal.τ).loc Cert.Proj16ReferenceIdeal.main_arg3) = m ((c.tc : Thread Cert.Proj16ReferenceIdeal.nD Cert.Proj16ReferenceIdeal.τ).loc Cert.Proj16ReferenceIdeal.main_arg3)
      ∧ r.2.mem ((c.tc : Thread Cert.Proj16ReferenceIdeal.nD Cert.Proj16ReferenceIdeal.τ).loc Cert.Proj16ReferenceIdeal.main_arg4) = m ((c.tc : Thread Cert.Proj16ReferenceIdeal.nD Cert.Proj16ReferenceIdeal.τ).loc Cert.Proj16ReferenceIdeal.main_arg4)
      ∧ r.2.mem ((c.tc : Thread Cert.Proj16ReferenceIdeal.nD Cert.Proj16ReferenceIdeal.τ).loc Cert.Proj16ReferenceIdeal.main_arg5) = m ((c.tc : Thread Cert.Proj16ReferenceIdeal.nD Cert.Proj16ReferenceIdeal.τ).loc Cert.Proj16ReferenceIdeal.main_arg5)
      ∧ r.2.mem ((c.tc : Thread Cert.Proj16ReferenceIdeal.nD Cert.Proj16ReferenceIdeal.τ).loc Cert.Proj16ReferenceIdeal.main_arg6) = m ((c.tc : Thread Cert.Proj16ReferenceIdeal.nD Cert.Proj16ReferenceIdeal.τ).loc Cert.Proj16ReferenceIdeal.main_arg6))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)) →
    ∃ (v0 : (c : Dev Cert.OutKernelIdeal.nD) → Buf (Elt Ideal) ((c.tc : Thread Cert.OutKernelIdeal.nD Cert.OutKernelIdeal.τ).loc Cert.OutKernelIdeal.main_v7)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v7) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v20) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)
      ∧ m' ((c.tc : Thread Cert.ConvReferenceIdeal.nD Cert.ConvReferenceIdeal.τ).loc Cert.ConvReferenceIdeal.main_arg4) = m ((c.tc : Thread Cert.ConvKernelIdeal.nD Cert.ConvKernelIdeal.τ).loc Cert.ConvKernelIdeal.main_arg4)
      ∧ m' ((c.tc : Thread Cert.ConvReferenceIdeal.nD Cert.ConvReferenceIdeal.τ).loc Cert.ConvReferenceIdeal.main_arg5) = m ((c.tc : Thread Cert.ConvKernelIdeal.nD Cert.ConvKernelIdeal.τ).loc Cert.ConvKernelIdeal.main_arg5)
      ∧ m' ((c.tc : Thread Cert.ConvReferenceIdeal.nD Cert.ConvReferenceIdeal.τ).loc Cert.ConvReferenceIdeal.main_arg6) = m ((c.tc : Thread Cert.ConvKernelIdeal.nD Cert.ConvKernelIdeal.τ).loc Cert.ConvKernelIdeal.main_arg6)
      ∧ m' ((c.tc : Thread Cert.ConvReferenceIdeal.nD Cert.ConvReferenceIdeal.τ).loc Cert.ConvReferenceIdeal.main_arg7) = m ((c.tc : Thread Cert.ConvKernelIdeal.nD Cert.ConvKernelIdeal.τ).loc Cert.ConvKernelIdeal.main_arg7)) →
    ∃ (v0 : (c : Dev Cert.ConvKernelIdeal.nD) → Buf (Elt Ideal) ((c.tc : Thread Cert.ConvKernelIdeal.nD Cert.ConvKernelIdeal.τ).loc Cert.ConvKernelIdeal.main_v9)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v9) = v0 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
          ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
          ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
          ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6)
          ∧ r.2.mem ((c.tc : Thread Cert.ConvKernelIdeal.nD Cert.ConvKernelIdeal.τ).loc Cert.ConvKernelIdeal.main_arg7) = m ((c.tc : Thread Cert.ConvKernelIdeal.nD Cert.ConvKernelIdeal.τ).loc Cert.ConvKernelIdeal.main_arg7))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v42) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6)
          ∧ r.2.mem ((c.tc : Thread Cert.ConvReferenceIdeal.nD Cert.ConvReferenceIdeal.τ).loc Cert.ConvReferenceIdeal.main_arg7) = m' ((c.tc : Thread Cert.ConvReferenceIdeal.nD Cert.ConvReferenceIdeal.τ).loc Cert.ConvReferenceIdeal.main_arg7))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v3_0)) (v1 : (c : Dev Cert.GateKernelIdeal.nD) → Buf (Elt Ideal) ((c.tc : Thread Cert.GateKernelIdeal.nD Cert.GateKernelIdeal.τ).loc Cert.GateKernelIdeal.main_v3_1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v3_0) = v0 c
          ∧ r.2.mem ((c.tc : Thread Cert.GateKernelIdeal.nD Cert.GateKernelIdeal.τ).loc Cert.GateKernelIdeal.main_v3_1) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v19) = v0 c
          ∧ r.2.mem ((c.tc : Thread Cert.GateReferenceIdeal.nD Cert.GateReferenceIdeal.τ).loc Cert.GateReferenceIdeal.main_v21) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)
      ∧ m' ((c.tc : Thread Cert.ProjReferenceIdeal.nD Cert.ProjReferenceIdeal.τ).loc Cert.ProjReferenceIdeal.main_arg6) = m ((c.tc : Thread Cert.ProjKernelIdeal.nD Cert.ProjKernelIdeal.τ).loc Cert.ProjKernelIdeal.main_arg6)) →
    ∃ (v0 : (c : Dev Cert.ProjKernelIdeal.nD) → Buf (Elt Ideal) ((c.tc : Thread Cert.ProjKernelIdeal.nD Cert.ProjKernelIdeal.τ).loc Cert.ProjKernelIdeal.main_v11_0)) (v1 : (c : Dev Cert.ProjKernelIdeal.nD) → Buf (Elt Ideal) ((c.tc : Thread Cert.ProjKernelIdeal.nD Cert.ProjKernelIdeal.τ).loc Cert.ProjKernelIdeal.main_v11_1)) (v2 : (c : Dev Cert.ProjKernelIdeal.nD) → Buf (Elt Ideal) ((c.tc : Thread Cert.ProjKernelIdeal.nD Cert.ProjKernelIdeal.τ).loc Cert.ProjKernelIdeal.main_v11_2)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v11_0) = v0 c
          ∧ r.2.mem ((c.tc : Thread Cert.ProjKernelIdeal.nD Cert.ProjKernelIdeal.τ).loc Cert.ProjKernelIdeal.main_v11_1) = v1 c
          ∧ r.2.mem ((c.tc : Thread Cert.ProjKernelIdeal.nD Cert.ProjKernelIdeal.τ).loc Cert.ProjKernelIdeal.main_v11_2) = v2 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
          ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v99) = v0 c
          ∧ r.2.mem ((c.tc : Thread Cert.ProjReferenceIdeal.nD Cert.ProjReferenceIdeal.τ).loc Cert.ProjReferenceIdeal.main_v100) = v1 c
          ∧ r.2.mem ((c.tc : Thread Cert.ProjReferenceIdeal.nD Cert.ProjReferenceIdeal.τ).loc Cert.ProjReferenceIdeal.main_v101) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6))

def preserves_Proj4Kernel_Proj4KernelIdeal : Prop :=
  True

def algebraic_Proj4KernelIdeal_Proj4ReferenceIdeal [hProj4KernelIdeal : Cert.Proj4KernelIdeal.Facts] [hProj4ReferenceIdeal : Cert.Proj4ReferenceIdeal.Facts] : Prop :=
  ∀ (m : (ℓ : Loc Cert.Proj4KernelIdeal.nD Cert.Proj4KernelIdeal.τ Cert.Proj4KernelIdeal.sig) → Buf (Elt Ideal) ℓ) (g : Dev Cert.Proj4KernelIdeal.nD → PrngReg)
    (m' : (ℓ : Loc Cert.Proj4ReferenceIdeal.nD Cert.Proj4ReferenceIdeal.τ Cert.Proj4ReferenceIdeal.sig) → Buf (Elt Ideal) ℓ) (g' : Dev Cert.Proj4ReferenceIdeal.nD → PrngReg), Pre_Proj4KernelIdeal m →
    (∀ c : Dev Cert.Proj4KernelIdeal.nD,
      m' ((c.tc : Thread Cert.Proj4ReferenceIdeal.nD Cert.Proj4ReferenceIdeal.τ).loc Cert.Proj4ReferenceIdeal.main_arg0) = m ((c.tc : Thread Cert.Proj4KernelIdeal.nD Cert.Proj4KernelIdeal.τ).loc Cert.Proj4KernelIdeal.main_arg0)
      ∧ m' ((c.tc : Thread Cert.Proj4ReferenceIdeal.nD Cert.Proj4ReferenceIdeal.τ).loc Cert.Proj4ReferenceIdeal.main_arg1) = m ((c.tc : Thread Cert.Proj4KernelIdeal.nD Cert.Proj4KernelIdeal.τ).loc Cert.Proj4KernelIdeal.main_arg1)
      ∧ m' ((c.tc : Thread Cert.Proj4ReferenceIdeal.nD Cert.Proj4ReferenceIdeal.τ).loc Cert.Proj4ReferenceIdeal.main_arg2) = m ((c.tc : Thread Cert.Proj4KernelIdeal.nD Cert.Proj4KernelIdeal.τ).loc Cert.Proj4KernelIdeal.main_arg2)
      ∧ m' ((c.tc : Thread Cert.Proj4ReferenceIdeal.nD Cert.Proj4ReferenceIdeal.τ).loc Cert.Proj4ReferenceIdeal.main_arg3) = m ((c.tc : Thread Cert.Proj4KernelIdeal.nD Cert.Proj4KernelIdeal.τ).loc Cert.Proj4KernelIdeal.main_arg3)
      ∧ m' ((c.tc : Thread Cert.Proj4ReferenceIdeal.nD Cert.Proj4ReferenceIdeal.τ).loc Cert.Proj4ReferenceIdeal.main_arg4) = m ((c.tc : Thread Cert.Proj4KernelIdeal.nD Cert.Proj4KernelIdeal.τ).loc Cert.Proj4KernelIdeal.main_arg4)
      ∧ m' ((c.tc : Thread Cert.Proj4ReferenceIdeal.nD Cert.Proj4ReferenceIdeal.τ).loc Cert.Proj4ReferenceIdeal.main_arg5) = m ((c.tc : Thread Cert.Proj4KernelIdeal.nD Cert.Proj4KernelIdeal.τ).loc Cert.Proj4KernelIdeal.main_arg5)
      ∧ m' ((c.tc : Thread Cert.Proj4ReferenceIdeal.nD Cert.Proj4ReferenceIdeal.τ).loc Cert.Proj4ReferenceIdeal.main_arg6) = m ((c.tc : Thread Cert.Proj4KernelIdeal.nD Cert.Proj4KernelIdeal.τ).loc Cert.Proj4KernelIdeal.main_arg6)) →
    ∃ (v0 : (c : Dev Cert.Proj4KernelIdeal.nD) → Buf (Elt Ideal) ((c.tc : Thread Cert.Proj4KernelIdeal.nD Cert.Proj4KernelIdeal.τ).loc Cert.Proj4KernelIdeal.main_v11_0)) (v1 : (c : Dev Cert.Proj4KernelIdeal.nD) → Buf (Elt Ideal) ((c.tc : Thread Cert.Proj4KernelIdeal.nD Cert.Proj4KernelIdeal.τ).loc Cert.Proj4KernelIdeal.main_v11_1)) (v2 : (c : Dev Cert.Proj4KernelIdeal.nD) → Buf (Elt Ideal) ((c.tc : Thread Cert.Proj4KernelIdeal.nD Cert.Proj4KernelIdeal.τ).loc Cert.Proj4KernelIdeal.main_v11_2)),
      θ_run (Cert.Proj4KernelIdeal.defs (F := Ideal)) (onTc (τ := Cert.Proj4KernelIdeal.τ) (Cert.Proj4KernelIdeal.main (F := Ideal))) ⟨m, fun _ => 0, g⟩ (fun r => ∀ c : Dev Cert.Proj4KernelIdeal.nD,
          r.2.mem ((c.tc : Thread Cert.Proj4KernelIdeal.nD Cert.Proj4KernelIdeal.τ).loc Cert.Proj4KernelIdeal.main_v11_0) = v0 c
          ∧ r.2.mem ((c.tc : Thread Cert.Proj4KernelIdeal.nD Cert.Proj4KernelIdeal.τ).loc Cert.Proj4KernelIdeal.main_v11_1) = v1 c
          ∧ r.2.mem ((c.tc : Thread Cert.Proj4KernelIdeal.nD Cert.Proj4KernelIdeal.τ).loc Cert.Proj4KernelIdeal.main_v11_2) = v2 c
          ∧ r.2.mem ((c.tc : Thread Cert.Proj4KernelIdeal.nD Cert.Proj4KernelIdeal.τ).loc Cert.Proj4KernelIdeal.main_arg0) = m ((c.tc : Thread Cert.Proj4KernelIdeal.nD Cert.Proj4KernelIdeal.τ).loc Cert.Proj4KernelIdeal.main_arg0)
          ∧ r.2.mem ((c.tc : Thread Cert.Proj4KernelIdeal.nD Cert.Proj4KernelIdeal.τ).loc Cert.Proj4KernelIdeal.main_arg1) = m ((c.tc : Thread Cert.Proj4KernelIdeal.nD Cert.Proj4KernelIdeal.τ).loc Cert.Proj4KernelIdeal.main_arg1)
          ∧ r.2.mem ((c.tc : Thread Cert.Proj4KernelIdeal.nD Cert.Proj4KernelIdeal.τ).loc Cert.Proj4KernelIdeal.main_arg2) = m ((c.tc : Thread Cert.Proj4KernelIdeal.nD Cert.Proj4KernelIdeal.τ).loc Cert.Proj4KernelIdeal.main_arg2)
          ∧ r.2.mem ((c.tc : Thread Cert.Proj4KernelIdeal.nD Cert.Proj4KernelIdeal.τ).loc Cert.Proj4KernelIdeal.main_arg3) = m ((c.tc : Thread Cert.Proj4KernelIdeal.nD Cert.Proj4KernelIdeal.τ).loc Cert.Proj4KernelIdeal.main_arg3)
          ∧ r.2.mem ((c.tc : Thread Cert.Proj4KernelIdeal.nD Cert.Proj4KernelIdeal.τ).loc Cert.Proj4KernelIdeal.main_arg4) = m ((c.tc : Thread Cert.Proj4KernelIdeal.nD Cert.Proj4KernelIdeal.τ).loc Cert.Proj4KernelIdeal.main_arg4)
          ∧ r.2.mem ((c.tc : Thread Cert.Proj4KernelIdeal.nD Cert.Proj4KernelIdeal.τ).loc Cert.Proj4KernelIdeal.main_arg5) = m ((c.tc : Thread Cert.Proj4KernelIdeal.nD Cert.Proj4KernelIdeal.τ).loc Cert.Proj4KernelIdeal.main_arg5)
          ∧ r.2.mem ((c.tc : Thread Cert.Proj4KernelIdeal.nD Cert.Proj4KernelIdeal.τ).loc Cert.Proj4KernelIdeal.main_arg6) = m ((c.tc : Thread Cert.Proj4KernelIdeal.nD Cert.Proj4KernelIdeal.τ).loc Cert.Proj4KernelIdeal.main_arg6))
      ∧ θ_run (Cert.Proj4ReferenceIdeal.defs (F := Ideal)) (onTc (τ := Cert.Proj4ReferenceIdeal.τ) (Cert.Proj4ReferenceIdeal.main (F := Ideal))) ⟨m', fun _ => 0, g'⟩ (fun r => ∀ c : Dev Cert.Proj4ReferenceIdeal.nD,
          r.2.mem ((c.tc : Thread Cert.Proj4ReferenceIdeal.nD Cert.Proj4ReferenceIdeal.τ).loc Cert.Proj4ReferenceIdeal.main_v99) = v0 c
          ∧ r.2.mem ((c.tc : Thread Cert.Proj4ReferenceIdeal.nD Cert.Proj4ReferenceIdeal.τ).loc Cert.Proj4ReferenceIdeal.main_v100) = v1 c
          ∧ r.2.mem ((c.tc : Thread Cert.Proj4ReferenceIdeal.nD Cert.Proj4ReferenceIdeal.τ).loc Cert.Proj4ReferenceIdeal.main_v101) = v2 c
          ∧ r.2.mem ((c.tc : Thread Cert.Proj4ReferenceIdeal.nD Cert.Proj4ReferenceIdeal.τ).loc Cert.Proj4ReferenceIdeal.main_arg0) = m' ((c.tc : Thread Cert.Proj4ReferenceIdeal.nD Cert.Proj4ReferenceIdeal.τ).loc Cert.Proj4ReferenceIdeal.main_arg0)
          ∧ r.2.mem ((c.tc : Thread Cert.Proj4ReferenceIdeal.nD Cert.Proj4ReferenceIdeal.τ).loc Cert.Proj4ReferenceIdeal.main_arg1) = m' ((c.tc : Thread Cert.Proj4ReferenceIdeal.nD Cert.Proj4ReferenceIdeal.τ).loc Cert.Proj4ReferenceIdeal.main_arg1)
          ∧ r.2.mem ((c.tc : Thread Cert.Proj4ReferenceIdeal.nD Cert.Proj4ReferenceIdeal.τ).loc Cert.Proj4ReferenceIdeal.main_arg2) = m' ((c.tc : Thread Cert.Proj4ReferenceIdeal.nD Cert.Proj4ReferenceIdeal.τ).loc Cert.Proj4ReferenceIdeal.main_arg2)
          ∧ r.2.mem ((c.tc : Thread Cert.Proj4ReferenceIdeal.nD Cert.Proj4ReferenceIdeal.τ).loc Cert.Proj4ReferenceIdeal.main_arg3) = m' ((c.tc : Thread Cert.Proj4ReferenceIdeal.nD Cert.Proj4ReferenceIdeal.τ).loc Cert.Proj4ReferenceIdeal.main_arg3)
          ∧ r.2.mem ((c.tc : Thread Cert.Proj4ReferenceIdeal.nD Cert.Proj4ReferenceIdeal.τ).loc Cert.Proj4ReferenceIdeal.main_arg4) = m' ((c.tc : Thread Cert.Proj4ReferenceIdeal.nD Cert.Proj4ReferenceIdeal.τ).loc Cert.Proj4ReferenceIdeal.main_arg4)
          ∧ r.2.mem ((c.tc : Thread Cert.Proj4ReferenceIdeal.nD Cert.Proj4ReferenceIdeal.τ).loc Cert.Proj4ReferenceIdeal.main_arg5) = m' ((c.tc : Thread Cert.Proj4ReferenceIdeal.nD Cert.Proj4ReferenceIdeal.τ).loc Cert.Proj4ReferenceIdeal.main_arg5)
          ∧ r.2.mem ((c.tc : Thread Cert.Proj4ReferenceIdeal.nD Cert.Proj4ReferenceIdeal.τ).loc Cert.Proj4ReferenceIdeal.main_arg6) = m' ((c.tc : Thread Cert.Proj4ReferenceIdeal.nD Cert.Proj4ReferenceIdeal.τ).loc Cert.Proj4ReferenceIdeal.main_arg6))

def preserves_Proj16Kernel_Proj16KernelIdeal : Prop :=
  True

def algebraic_Proj16KernelIdeal_Proj16ReferenceIdeal [hProj16KernelIdeal : Cert.Proj16KernelIdeal.Facts] [hProj16ReferenceIdeal : Cert.Proj16ReferenceIdeal.Facts] : Prop :=
  ∀ (m : (ℓ : Loc Cert.Proj16KernelIdeal.nD Cert.Proj16KernelIdeal.τ Cert.Proj16KernelIdeal.sig) → Buf (Elt Ideal) ℓ) (g : Dev Cert.Proj16KernelIdeal.nD → PrngReg)
    (m' : (ℓ : Loc Cert.Proj16ReferenceIdeal.nD Cert.Proj16ReferenceIdeal.τ Cert.Proj16ReferenceIdeal.sig) → Buf (Elt Ideal) ℓ) (g' : Dev Cert.Proj16ReferenceIdeal.nD → PrngReg), Pre_Proj16KernelIdeal m →
    (∀ c : Dev Cert.Proj16KernelIdeal.nD,
      m' ((c.tc : Thread Cert.Proj16ReferenceIdeal.nD Cert.Proj16ReferenceIdeal.τ).loc Cert.Proj16ReferenceIdeal.main_arg0) = m ((c.tc : Thread Cert.Proj16KernelIdeal.nD Cert.Proj16KernelIdeal.τ).loc Cert.Proj16KernelIdeal.main_arg0)
      ∧ m' ((c.tc : Thread Cert.Proj16ReferenceIdeal.nD Cert.Proj16ReferenceIdeal.τ).loc Cert.Proj16ReferenceIdeal.main_arg1) = m ((c.tc : Thread Cert.Proj16KernelIdeal.nD Cert.Proj16KernelIdeal.τ).loc Cert.Proj16KernelIdeal.main_arg1)
      ∧ m' ((c.tc : Thread Cert.Proj16ReferenceIdeal.nD Cert.Proj16ReferenceIdeal.τ).loc Cert.Proj16ReferenceIdeal.main_arg2) = m ((c.tc : Thread Cert.Proj16KernelIdeal.nD Cert.Proj16KernelIdeal.τ).loc Cert.Proj16KernelIdeal.main_arg2)
      ∧ m' ((c.tc : Thread Cert.Proj16ReferenceIdeal.nD Cert.Proj16ReferenceIdeal.τ).loc Cert.Proj16ReferenceIdeal.main_arg3) = m ((c.tc : Thread Cert.Proj16KernelIdeal.nD Cert.Proj16KernelIdeal.τ).loc Cert.Proj16KernelIdeal.main_arg3)
      ∧ m' ((c.tc : Thread Cert.Proj16ReferenceIdeal.nD Cert.Proj16ReferenceIdeal.τ).loc Cert.Proj16ReferenceIdeal.main_arg4) = m ((c.tc : Thread Cert.Proj16KernelIdeal.nD Cert.Proj16KernelIdeal.τ).loc Cert.Proj16KernelIdeal.main_arg4)
      ∧ m' ((c.tc : Thread Cert.Proj16ReferenceIdeal.nD Cert.Proj16ReferenceIdeal.τ).loc Cert.Proj16ReferenceIdeal.main_arg5) = m ((c.tc : Thread Cert.Proj16KernelIdeal.nD Cert.Proj16KernelIdeal.τ).loc Cert.Proj16KernelIdeal.main_arg5)
      ∧ m' ((c.tc : Thread Cert.Proj16ReferenceIdeal.nD Cert.Proj16ReferenceIdeal.τ).loc Cert.Proj16ReferenceIdeal.main_arg6) = m ((c.tc : Thread Cert.Proj16KernelIdeal.nD Cert.Proj16KernelIdeal.τ).loc Cert.Proj16KernelIdeal.main_arg6)) →
    ∃ (v0 : (c : Dev Cert.Proj16KernelIdeal.nD) → Buf (Elt Ideal) ((c.tc : Thread Cert.Proj16KernelIdeal.nD Cert.Proj16KernelIdeal.τ).loc Cert.Proj16KernelIdeal.main_v11_0)) (v1 : (c : Dev Cert.Proj16KernelIdeal.nD) → Buf (Elt Ideal) ((c.tc : Thread Cert.Proj16KernelIdeal.nD Cert.Proj16KernelIdeal.τ).loc Cert.Proj16KernelIdeal.main_v11_1)) (v2 : (c : Dev Cert.Proj16KernelIdeal.nD) → Buf (Elt Ideal) ((c.tc : Thread Cert.Proj16KernelIdeal.nD Cert.Proj16KernelIdeal.τ).loc Cert.Proj16KernelIdeal.main_v11_2)),
      θ_run (Cert.Proj16KernelIdeal.defs (F := Ideal)) (onTc (τ := Cert.Proj16KernelIdeal.τ) (Cert.Proj16KernelIdeal.main (F := Ideal))) ⟨m, fun _ => 0, g⟩ (fun r => ∀ c : Dev Cert.Proj16KernelIdeal.nD,
          r.2.mem ((c.tc : Thread Cert.Proj16KernelIdeal.nD Cert.Proj16KernelIdeal.τ).loc Cert.Proj16KernelIdeal.main_v11_0) = v0 c
          ∧ r.2.mem ((c.tc : Thread Cert.Proj16KernelIdeal.nD Cert.Proj16KernelIdeal.τ).loc Cert.Proj16KernelIdeal.main_v11_1) = v1 c
          ∧ r.2.mem ((c.tc : Thread Cert.Proj16KernelIdeal.nD Cert.Proj16KernelIdeal.τ).loc Cert.Proj16KernelIdeal.main_v11_2) = v2 c
          ∧ r.2.mem ((c.tc : Thread Cert.Proj16KernelIdeal.nD Cert.Proj16KernelIdeal.τ).loc Cert.Proj16KernelIdeal.main_arg0) = m ((c.tc : Thread Cert.Proj16KernelIdeal.nD Cert.Proj16KernelIdeal.τ).loc Cert.Proj16KernelIdeal.main_arg0)
          ∧ r.2.mem ((c.tc : Thread Cert.Proj16KernelIdeal.nD Cert.Proj16KernelIdeal.τ).loc Cert.Proj16KernelIdeal.main_arg1) = m ((c.tc : Thread Cert.Proj16KernelIdeal.nD Cert.Proj16KernelIdeal.τ).loc Cert.Proj16KernelIdeal.main_arg1)
          ∧ r.2.mem ((c.tc : Thread Cert.Proj16KernelIdeal.nD Cert.Proj16KernelIdeal.τ).loc Cert.Proj16KernelIdeal.main_arg2) = m ((c.tc : Thread Cert.Proj16KernelIdeal.nD Cert.Proj16KernelIdeal.τ).loc Cert.Proj16KernelIdeal.main_arg2)
          ∧ r.2.mem ((c.tc : Thread Cert.Proj16KernelIdeal.nD Cert.Proj16KernelIdeal.τ).loc Cert.Proj16KernelIdeal.main_arg3) = m ((c.tc : Thread Cert.Proj16KernelIdeal.nD Cert.Proj16KernelIdeal.τ).loc Cert.Proj16KernelIdeal.main_arg3)
          ∧ r.2.mem ((c.tc : Thread Cert.Proj16KernelIdeal.nD Cert.Proj16KernelIdeal.τ).loc Cert.Proj16KernelIdeal.main_arg4) = m ((c.tc : Thread Cert.Proj16KernelIdeal.nD Cert.Proj16KernelIdeal.τ).loc Cert.Proj16KernelIdeal.main_arg4)
          ∧ r.2.mem ((c.tc : Thread Cert.Proj16KernelIdeal.nD Cert.Proj16KernelIdeal.τ).loc Cert.Proj16KernelIdeal.main_arg5) = m ((c.tc : Thread Cert.Proj16KernelIdeal.nD Cert.Proj16KernelIdeal.τ).loc Cert.Proj16KernelIdeal.main_arg5)
          ∧ r.2.mem ((c.tc : Thread Cert.Proj16KernelIdeal.nD Cert.Proj16KernelIdeal.τ).loc Cert.Proj16KernelIdeal.main_arg6) = m ((c.tc : Thread Cert.Proj16KernelIdeal.nD Cert.Proj16KernelIdeal.τ).loc Cert.Proj16KernelIdeal.main_arg6))
      ∧ θ_run (Cert.Proj16ReferenceIdeal.defs (F := Ideal)) (onTc (τ := Cert.Proj16ReferenceIdeal.τ) (Cert.Proj16ReferenceIdeal.main (F := Ideal))) ⟨m', fun _ => 0, g'⟩ (fun r => ∀ c : Dev Cert.Proj16ReferenceIdeal.nD,
          r.2.mem ((c.tc : Thread Cert.Proj16ReferenceIdeal.nD Cert.Proj16ReferenceIdeal.τ).loc Cert.Proj16ReferenceIdeal.main_v99) = v0 c
          ∧ r.2.mem ((c.tc : Thread Cert.Proj16ReferenceIdeal.nD Cert.Proj16ReferenceIdeal.τ).loc Cert.Proj16ReferenceIdeal.main_v100) = v1 c
          ∧ r.2.mem ((c.tc : Thread Cert.Proj16ReferenceIdeal.nD Cert.Proj16ReferenceIdeal.τ).loc Cert.Proj16ReferenceIdeal.main_v101) = v2 c
          ∧ r.2.mem ((c.tc : Thread Cert.Proj16ReferenceIdeal.nD Cert.Proj16ReferenceIdeal.τ).loc Cert.Proj16ReferenceIdeal.main_arg0) = m' ((c.tc : Thread Cert.Proj16ReferenceIdeal.nD Cert.Proj16ReferenceIdeal.τ).loc Cert.Proj16ReferenceIdeal.main_arg0)
          ∧ r.2.mem ((c.tc : Thread Cert.Proj16ReferenceIdeal.nD Cert.Proj16ReferenceIdeal.τ).loc Cert.Proj16ReferenceIdeal.main_arg1) = m' ((c.tc : Thread Cert.Proj16ReferenceIdeal.nD Cert.Proj16ReferenceIdeal.τ).loc Cert.Proj16ReferenceIdeal.main_arg1)
          ∧ r.2.mem ((c.tc : Thread Cert.Proj16ReferenceIdeal.nD Cert.Proj16ReferenceIdeal.τ).loc Cert.Proj16ReferenceIdeal.main_arg2) = m' ((c.tc : Thread Cert.Proj16ReferenceIdeal.nD Cert.Proj16ReferenceIdeal.τ).loc Cert.Proj16ReferenceIdeal.main_arg2)
          ∧ r.2.mem ((c.tc : Thread Cert.Proj16ReferenceIdeal.nD Cert.Proj16ReferenceIdeal.τ).loc Cert.Proj16ReferenceIdeal.main_arg3) = m' ((c.tc : Thread Cert.Proj16ReferenceIdeal.nD Cert.Proj16ReferenceIdeal.τ).loc Cert.Proj16ReferenceIdeal.main_arg3)
          ∧ r.2.mem ((c.tc : Thread Cert.Proj16ReferenceIdeal.nD Cert.Proj16ReferenceIdeal.τ).loc Cert.Proj16ReferenceIdeal.main_arg4) = m' ((c.tc : Thread Cert.Proj16ReferenceIdeal.nD Cert.Proj16ReferenceIdeal.τ).loc Cert.Proj16ReferenceIdeal.main_arg4)
          ∧ r.2.mem ((c.tc : Thread Cert.Proj16ReferenceIdeal.nD Cert.Proj16ReferenceIdeal.τ).loc Cert.Proj16ReferenceIdeal.main_arg5) = m' ((c.tc : Thread Cert.Proj16ReferenceIdeal.nD Cert.Proj16ReferenceIdeal.τ).loc Cert.Proj16ReferenceIdeal.main_arg5)
          ∧ r.2.mem ((c.tc : Thread Cert.Proj16ReferenceIdeal.nD Cert.Proj16ReferenceIdeal.τ).loc Cert.Proj16ReferenceIdeal.main_arg6) = m' ((c.tc : Thread Cert.Proj16ReferenceIdeal.nD Cert.Proj16ReferenceIdeal.τ).loc Cert.Proj16ReferenceIdeal.main_arg6))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hConvKernel : Cert.ConvKernel.Facts) (hConvKernelIdeal : Cert.ConvKernelIdeal.Facts) (hConvReferenceIdeal : Cert.ConvReferenceIdeal.Facts) (hGateKernel : Cert.GateKernel.Facts) (hGateKernelIdeal : Cert.GateKernelIdeal.Facts) (hGateReferenceIdeal : Cert.GateReferenceIdeal.Facts) (hProjKernel : Cert.ProjKernel.Facts) (hProjKernelIdeal : Cert.ProjKernelIdeal.Facts) (hProjReferenceIdeal : Cert.ProjReferenceIdeal.Facts) (hProj4Kernel : Cert.Proj4Kernel.Facts) (hProj4KernelIdeal : Cert.Proj4KernelIdeal.Facts) (hProj4ReferenceIdeal : Cert.Proj4ReferenceIdeal.Facts) (hProj16Kernel : Cert.Proj16Kernel.Facts) (hProj16KernelIdeal : Cert.Proj16KernelIdeal.Facts) (hProj16ReferenceIdeal : Cert.Proj16ReferenceIdeal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_Proj4Kernel (hProj4Kernel := hProj4Kernel)
    ∧ quiescent_Proj4KernelIdeal (hProj4KernelIdeal := hProj4KernelIdeal)
    ∧ quiescent_Proj4ReferenceIdeal (hProj4ReferenceIdeal := hProj4ReferenceIdeal)
    ∧ quiescent_Proj16Kernel (hProj16Kernel := hProj16Kernel)
    ∧ quiescent_Proj16KernelIdeal (hProj16KernelIdeal := hProj16KernelIdeal)
    ∧ quiescent_Proj16ReferenceIdeal (hProj16ReferenceIdeal := hProj16ReferenceIdeal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_OutKernel_OutKernelIdeal
    ∧ algebraic_OutKernelIdeal_OutReferenceIdeal (hOutKernelIdeal := hOutKernelIdeal) (hOutReferenceIdeal := hOutReferenceIdeal)
    ∧ preserves_ConvKernel_ConvKernelIdeal
    ∧ algebraic_ConvKernelIdeal_ConvReferenceIdeal (hConvKernelIdeal := hConvKernelIdeal) (hConvReferenceIdeal := hConvReferenceIdeal)
    ∧ preserves_GateKernel_GateKernelIdeal
    ∧ algebraic_GateKernelIdeal_GateReferenceIdeal (hGateKernelIdeal := hGateKernelIdeal) (hGateReferenceIdeal := hGateReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_Proj4Kernel_Proj4KernelIdeal
    ∧ algebraic_Proj4KernelIdeal_Proj4ReferenceIdeal (hProj4KernelIdeal := hProj4KernelIdeal) (hProj4ReferenceIdeal := hProj4ReferenceIdeal)
    ∧ preserves_Proj16Kernel_Proj16KernelIdeal
    ∧ algebraic_Proj16KernelIdeal_Proj16ReferenceIdeal (hProj16KernelIdeal := hProj16KernelIdeal) (hProj16ReferenceIdeal := hProj16ReferenceIdeal)
-- ==== Pre_finite_queries_and_keys.lean ====
abbrev S4x8192x1024 : Shape := ⟨3, ![4, 8192, 1024]⟩
abbrev S4x8192x256 : Shape := ⟨3, ![4, 8192, 256]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S4x8192x256 : S_.BroadcastsInDim S4x8192x256 (![] : Fin 0 → Fin S4x8192x256.rank)
  reducesTo_S4x8192x256_S_d0_1_2 : S4x8192x256.ReducesTo [0, 1, 2] S_

variable [Facts]

def fn {F : FTy → Type} [FloatOps F] (main_arg0 : FVec F S4x8192x1024 .f32) (main_arg1 : FVec F S4x8192x256 .f32) (main_arg2 : FVec F S4x8192x256 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x8192x256 .f32 := Host.absf main_arg1
  let main_cst_0 : FVec F S_ .f32 := constant S_ .f32 0x7F800000#32
  let main_v5 : FVec F S4x8192x256 .f32 := broadcastInDim S4x8192x256 ![] bcast_S_S4x8192x256 main_cst_0
  let main_v6 : IVec S4x8192x256 1 := cmpf .olt main_v4 main_v5
  let main_c_1 : IVec S_ 1 := constantI S_ 1 1#1
  let main_v7 : IVec S_ 1 := (fun x v => Host.reduce IntOp.andi x v reducesTo_S4x8192x256_S_d0_1_2 h_S_) main_v6 main_c_1
  let main_v8 : IVec S_ 1 := andi main_v3 main_v7
  main_v8
-- ==== Kernel.lean ====
abbrev S4x8192x1024 : Shape := ⟨3, ![4, 8192, 1024]⟩
abbrev S4x8192x256 : Shape := ⟨3, ![4, 8192, 256]⟩
abbrev S_ : Shape := ⟨0, ![]⟩
abbrev S4x1024x8192 : Shape := ⟨3, ![4, 1024, 8192]⟩
abbrev S4x256x8192 : Shape := ⟨3, ![4, 256, 8192]⟩
abbrev S4x4x64x16x512 : Shape := ⟨5, ![4, 4, 64, 16, 512]⟩
abbrev S4x4x16x64x512 : Shape := ⟨5, ![4, 4, 16, 64, 512]⟩
abbrev S4x4x16x16x512 : Shape := ⟨5, ![4, 4, 16, 16, 512]⟩
abbrev S4x4x16x80x512 : Shape := ⟨5, ![4, 4, 16, 80, 512]⟩
abbrev S1x256x512 : Shape := ⟨3, ![1, 256, 512]⟩
abbrev S1x8192x128 : Shape := ⟨3, ![1, 8192, 128]⟩
abbrev S1x1x16x80x512 : Shape := ⟨5, ![1, 1, 16, 80, 512]⟩
abbrev S128x2048 : Shape := ⟨2, ![128, 2048]⟩
abbrev S80x2048 : Shape := ⟨2, ![80, 2048]⟩
abbrev S2x4x512x512 : Shape := ⟨4, ![2, 4, 512, 512]⟩
abbrev S2x512x2048 : Shape := ⟨3, ![2, 512, 2048]⟩
abbrev S2x1x2048 : Shape := ⟨3, ![2, 1, 2048]⟩
abbrev S1x2048 : Shape := ⟨2, ![1, 2048]⟩
abbrev S64x2048 : Shape := ⟨2, ![64, 2048]⟩
abbrev S128x512 : Shape := ⟨2, ![128, 512]⟩
abbrev S1x64x512 : Shape := ⟨3, ![1, 64, 512]⟩
abbrev S64x512 : Shape := ⟨2, ![64, 512]⟩
abbrev S1x512x128 : Shape := ⟨3, ![1, 512, 128]⟩
abbrev S512x128 : Shape := ⟨2, ![512, 128]⟩
abbrev S512x512 : Shape := ⟨2, ![512, 512]⟩
abbrev S1x1x512x512 : Shape := ⟨4, ![1, 1, 512, 512]⟩
abbrev S1x1x1x80x512 : Shape := ⟨5, ![1, 1, 1, 80, 512]⟩
abbrev S80x512 : Shape := ⟨2, ![80, 512]⟩
abbrev S1x1x2048 : Shape := ⟨3, ![1, 1, 2048]⟩
abbrev S1 : Shape := ⟨1, ![1]⟩
abbrev S1x1x1 : Shape := ⟨3, ![1, 1, 1]⟩
abbrev S512x2048 : Shape := ⟨2, ![512, 2048]⟩
abbrev S1x512x2048 : Shape := ⟨3, ![1, 512, 2048]⟩
abbrev S2048 : Shape := ⟨1, ![2048]⟩
abbrev S1x1x1x64x512 : Shape := ⟨5, ![1, 1, 1, 64, 512]⟩

abbrev nBuf : Space → Nat
  | .hbm => 25
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .f32⟩
  | .hbm, ⟨2, _⟩ => ⟨S4x8192x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x8192x1024, .f32⟩
  | .hbm, ⟨8, _⟩ => ⟨S4x8192x1024, .f32⟩
  | .hbm, ⟨9, _⟩ => ⟨S4x1024x8192, .f32⟩
  | .hbm, ⟨10, _⟩ => ⟨S4x1024x8192, .bf16⟩
  | .hbm, ⟨11, _⟩ => ⟨S4x8192x256, .bf16⟩
  | .hbm, ⟨12, _⟩ => ⟨S4x256x8192, .f32⟩
  | .hbm, ⟨13, _⟩ => ⟨S4x4x64x16x512, .f32⟩
  | .hbm, ⟨14, _⟩ => ⟨S4x4x16x64x512, .f32⟩
  | .hbm, ⟨15, _⟩ => ⟨S4x4x16x64x512, .bf16⟩
  | .hbm, ⟨16, _⟩ => ⟨S4x4x16x16x512, .i32⟩
  | .hbm, ⟨17, _⟩ => ⟨S_, .i32⟩
  | .hbm, ⟨18, _⟩ => ⟨S4x4x16x16x512, .i32⟩
  | .hbm, ⟨19, _⟩ => ⟨S4x4x16x16x512, .i1⟩
  | .hbm, ⟨20, _⟩ => ⟨S4x4x16x16x512, .i32⟩
  | .hbm, ⟨21, _⟩ => ⟨S4x4x16x16x512, .f32⟩
  | .hbm, ⟨22, _⟩ => ⟨S4x4x16x16x512, .bf16⟩
  | .hbm, ⟨23, _⟩ => ⟨S4x4x16x80x512, .bf16⟩
  | .hbm, ⟨24, _⟩ => ⟨S4x1024x8192, .bf16⟩
  | .local _ .vmem, ⟨0, _⟩ => ⟨S1x256x512, .bf16⟩
  | .local _ .vmem, ⟨1, _⟩ => ⟨S1x256x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x1x16x80x512, .bf16⟩
  | .local _ .vmem, ⟨5, _⟩ => ⟨S1x1x16x80x512, .bf16⟩
  | .local _ .vmem, ⟨6, _⟩ => ⟨S1x256x512, .bf16⟩
  | .local _ .vmem, ⟨7, _⟩ => ⟨S1x256x512, .bf16⟩
  | .local _ .vmem, ⟨8, _⟩ => ⟨S128x2048, .bf16⟩
  | .local _ .vmem, ⟨9, _⟩ => ⟨S80x2048, .f32⟩
  | .local _ .vmem, ⟨10, _⟩ => ⟨S2x4x512x512, .bf16⟩
  | .local _ .vmem, ⟨11, _⟩ => ⟨S2x512x2048, .f32⟩
  | .local _ .vmem, ⟨12, _⟩ => ⟨S2x1x2048, .f32⟩
  | .local _ .vmem, ⟨13, _⟩ => ⟨S1x2048, .f32⟩
  | .local _ .vmem, ⟨14, _⟩ => ⟨S1x2048, .f32⟩
  | .local _ .vmem, ⟨15, _⟩ => ⟨S64x2048, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def k0_mult1 : BitVec 32 :=
  let c16_i32 : BitVec 32 := 16#32
  let c0_i32_28 : BitVec 32 := 0#32
  let v73 : BitVec 32 := Scalar.muli c16_i32 c0_i32_28
  let c0_i32_29 : BitVec 32 := 0#32
  let v74 : BitVec 32 := Scalar.addi v73 c0_i32_29
  let c1_i32_30 : BitVec 32 := 1#32
  let v75 : BitVec 32 := Scalar.muli v74 c1_i32_30
  let c512_i32 : BitVec 32 := 512#32
  let v76 : BitVec 32 := Scalar.muli v75 c512_i32
  v76
def k0_off1 (c0_i32_29 : BitVec 32) : Fin 3 → Nat :=
  let c0_31 : Index := 0#32
  let c16_i32 : BitVec 32 := 16#32
  let c0_i32_28 : BitVec 32 := 0#32
  let v73 : BitVec 32 := Scalar.muli c16_i32 c0_i32_28
  let v74 : BitVec 32 := Scalar.addi v73 c0_i32_29
  let c1_i32_30 : BitVec 32 := 1#32
  let v75 : BitVec 32 := Scalar.muli v74 c1_i32_30
  let c512_i32 : BitVec 32 := 512#32
  let v76 : BitVec 32 := Scalar.muli v75 c512_i32
  let v77 : BitVec 32 := v76
  let v78 : Index := Scalar.indexCast v77
  let c0_32 : Index := 0#32
  ![0, v78.toNat, 0]
def k0_mult2 : BitVec 32 :=
  let c16_i32_58 : BitVec 32 := 16#32
  let c0_i32_28 : BitVec 32 := 0#32
  let v109 : BitVec 32 := Scalar.muli c16_i32_58 c0_i32_28
  let c1_i32_59 : BitVec 32 := 1#32
  let v110 : BitVec 32 := Scalar.addi v109 c1_i32_59
  let c1_i32_60 : BitVec 32 := 1#32
  let v111 : BitVec 32 := Scalar.muli v110 c1_i32_60
  let c512_i32_61 : BitVec 32 := 512#32
  let v112 : BitVec 32 := Scalar.muli v111 c512_i32_61
  v112
def k0_off2 (c0_i32_29 : BitVec 32) : Fin 5 → Nat :=
  let c0_68 : Index := 0#32
  let c0_69 : Index := 0#32
  let c16_i32 : BitVec 32 := 16#32
  let c0_i32_28 : BitVec 32 := 0#32
  let v73 : BitVec 32 := Scalar.muli c16_i32 c0_i32_28
  let v74 : BitVec 32 := Scalar.addi v73 c0_i32_29
  let c1_i32_30 : BitVec 32 := 1#32
  let v75 : BitVec 32 := Scalar.muli v74 c1_i32_30
  let c0_i32_67 : BitVec 32 := 0#32
  let v119 : BitVec 32 := Scalar.addi v75 c0_i32_67
  let v120 : Index := Scalar.indexCast v119
  let c0_70 : Index := 0#32
  let c0_71 : Index := 0#32
  ![0, 0, v120.toNat, 0, 0]
def k0_mult3 : BitVec 32 :=
  let c16_i32_132 : BitVec 32 := 16#32
  let c0_i32_28 : BitVec 32 := 0#32
  let v173 : BitVec 32 := Scalar.muli c16_i32_132 c0_i32_28
  let c2_i32_133 : BitVec 32 := 2#32
  let v174 : BitVec 32 := Scalar.addi v173 c2_i32_133
  let c1_i32_134 : BitVec 32 := 1#32
  let v175 : BitVec 32 := Scalar.muli v174 c1_i32_134
  let c512_i32_135 : BitVec 32 := 512#32
  let v176 : BitVec 32 := Scalar.muli v175 c512_i32_135
  v176
def k0_mult4 : BitVec 32 :=
  let c16_i32_206 : BitVec 32 := 16#32
  let c0_i32_28 : BitVec 32 := 0#32
  let v241 : BitVec 32 := Scalar.muli c16_i32_206 c0_i32_28
  let c3_i32 : BitVec 32 := 3#32
  let v242 : BitVec 32 := Scalar.addi v241 c3_i32
  let c1_i32_207 : BitVec 32 := 1#32
  let v243 : BitVec 32 := Scalar.muli v242 c1_i32_207
  let c512_i32_208 : BitVec 32 := 512#32
  let v244 : BitVec 32 := Scalar.muli v243 c512_i32_208
  v244
def k0_mult5 : BitVec 32 :=
  let c16_i32_279 : BitVec 32 := 16#32
  let c0_i32_28 : BitVec 32 := 0#32
  let v309 : BitVec 32 := Scalar.muli c16_i32_279 c0_i32_28
  let c4_i32 : BitVec 32 := 4#32
  let v310 : BitVec 32 := Scalar.addi v309 c4_i32
  let c1_i32_280 : BitVec 32 := 1#32
  let v311 : BitVec 32 := Scalar.muli v310 c1_i32_280
  let c512_i32_281 : BitVec 32 := 512#32
  let v312 : BitVec 32 := Scalar.muli v311 c512_i32_281
  v312
def k0_mult6 : BitVec 32 :=
  let c16_i32_352 : BitVec 32 := 16#32
  let c0_i32_28 : BitVec 32 := 0#32
  let v377 : BitVec 32 := Scalar.muli c16_i32_352 c0_i32_28
  let c5_i32 : BitVec 32 := 5#32
  let v378 : BitVec 32 := Scalar.addi v377 c5_i32
  let c1_i32_353 : BitVec 32 := 1#32
  let v379 : BitVec 32 := Scalar.muli v378 c1_i32_353
  let c512_i32_354 : BitVec 32 := 512#32
  let v380 : BitVec 32 := Scalar.muli v379 c512_i32_354
  v380
def k0_mult7 : BitVec 32 :=
  let c16_i32_425 : BitVec 32 := 16#32
  let c0_i32_28 : BitVec 32 := 0#32
  let v445 : BitVec 32 := Scalar.muli c16_i32_425 c0_i32_28
  let c6_i32 : BitVec 32 := 6#32
  let v446 : BitVec 32 := Scalar.addi v445 c6_i32
  let c1_i32_426 : BitVec 32 := 1#32
  let v447 : BitVec 32 := Scalar.muli v446 c1_i32_426
  let c512_i32_427 : BitVec 32 := 512#32
  let v448 : BitVec 32 := Scalar.muli v447 c512_i32_427
  v448
def k0_mult8 : BitVec 32 :=
  let c16_i32_498 : BitVec 32 := 16#32
  let c0_i32_28 : BitVec 32 := 0#32
  let v513 : BitVec 32 := Scalar.muli c16_i32_498 c0_i32_28
  let c7_i32 : BitVec 32 := 7#32
  let v514 : BitVec 32 := Scalar.addi v513 c7_i32
  let c1_i32_499 : BitVec 32 := 1#32
  let v515 : BitVec 32 := Scalar.muli v514 c1_i32_499
  let c512_i32_500 : BitVec 32 := 512#32
  let v516 : BitVec 32 := Scalar.muli v515 c512_i32_500
  v516
def k0_mult9 : BitVec 32 :=
  let c16_i32_571 : BitVec 32 := 16#32
  let c0_i32_28 : BitVec 32 := 0#32
  let v581 : BitVec 32 := Scalar.muli c16_i32_571 c0_i32_28
  let c8_i32 : BitVec 32 := 8#32
  let v582 : BitVec 32 := Scalar.addi v581 c8_i32
  let c1_i32_572 : BitVec 32 := 1#32
  let v583 : BitVec 32 := Scalar.muli v582 c1_i32_572
  let c512_i32_573 : BitVec 32 := 512#32
  let v584 : BitVec 32 := Scalar.muli v583 c512_i32_573
  v584
def k0_mult10 : BitVec 32 :=
  let c16_i32_644 : BitVec 32 := 16#32
  let c0_i32_28 : BitVec 32 := 0#32
  let v649 : BitVec 32 := Scalar.muli c16_i32_644 c0_i32_28
  let c9_i32 : BitVec 32 := 9#32
  let v650 : BitVec 32 := Scalar.addi v649 c9_i32
  let c1_i32_645 : BitVec 32 := 1#32
  let v651 : BitVec 32 := Scalar.muli v650 c1_i32_645
  let c512_i32_646 : BitVec 32 := 512#32
  let v652 : BitVec 32 := Scalar.muli v651 c512_i32_646
  v652
def k0_mult11 : BitVec 32 :=
  let c16_i32_717 : BitVec 32 := 16#32
  let c0_i32_28 : BitVec 32 := 0#32
  let v717 : BitVec 32 := Scalar.muli c16_i32_717 c0_i32_28
  let c10_i32 : BitVec 32 := 10#32
  let v718 : BitVec 32 := Scalar.addi v717 c10_i32
  let c1_i32_718 : BitVec 32 := 1#32
  let v719 : BitVec 32 := Scalar.muli v718 c1_i32_718
  let c512_i32_719 : BitVec 32 := 512#32
  let v720 : BitVec 32 := Scalar.muli v719 c512_i32_719
  v720
def k0_mult12 : BitVec 32 :=
  let c16_i32_790 : BitVec 32 := 16#32
  let c0_i32_28 : BitVec 32 := 0#32
  let v785 : BitVec 32 := Scalar.muli c16_i32_790 c0_i32_28
  let c11_i32 : BitVec 32 := 11#32
  let v786 : BitVec 32 := Scalar.addi v785 c11_i32
  let c1_i32_791 : BitVec 32 := 1#32
  let v787 : BitVec 32 := Scalar.muli v786 c1_i32_791
  let c512_i32_792 : BitVec 32 := 512#32
  let v788 : BitVec 32 := Scalar.muli v787 c512_i32_792
  v788
def k0_mult13 : BitVec 32 :=
  let c16_i32_863 : BitVec 32 := 16#32
  let c0_i32_28 : BitVec 32 := 0#32
  let v853 : BitVec 32 := Scalar.muli c16_i32_863 c0_i32_28
  let c12_i32 : BitVec 32 := 12#32
  let v854 : BitVec 32 := Scalar.addi v853 c12_i32
  let c1_i32_864 : BitVec 32 := 1#32
  let v855 : BitVec 32 := Scalar.muli v854 c1_i32_864
  let c512_i32_865 : BitVec 32 := 512#32
  let v856 : BitVec 32 := Scalar.muli v855 c512_i32_865
  v856
def k0_mult14 : BitVec 32 :=
  let c16_i32_936 : BitVec 32 := 16#32
  let c0_i32_28 : BitVec 32 := 0#32
  let v921 : BitVec 32 := Scalar.muli c16_i32_936 c0_i32_28
  let c13_i32 : BitVec 32 := 13#32
  let v922 : BitVec 32 := Scalar.addi v921 c13_i32
  let c1_i32_937 : BitVec 32 := 1#32
  let v923 : BitVec 32 := Scalar.muli v922 c1_i32_937
  let c512_i32_938 : BitVec 32 := 512#32
  let v924 : BitVec 32 := Scalar.muli v923 c512_i32_938
  v924
def k0_mult15 : BitVec 32 :=
  let c16_i32_1009 : BitVec 32 := 16#32
  let c0_i32_28 : BitVec 32 := 0#32
  let v989 : BitVec 32 := Scalar.muli c16_i32_1009 c0_i32_28
  let c14_i32 : BitVec 32 := 14#32
  let v990 : BitVec 32 := Scalar.addi v989 c14_i32
  let c1_i32_1010 : BitVec 32 := 1#32
  let v991 : BitVec 32 := Scalar.muli v990 c1_i32_1010
  let c512_i32_1011 : BitVec 32 := 512#32
  let v992 : BitVec 32 := Scalar.muli v991 c512_i32_1011
  v992
def k0_mult16 : BitVec 32 :=
  let c16_i32_1082 : BitVec 32 := 16#32
  let c0_i32_28 : BitVec 32 := 0#32
  let v1057 : BitVec 32 := Scalar.muli c16_i32_1082 c0_i32_28
  let c15_i32 : BitVec 32 := 15#32
  let v1058 : BitVec 32 := Scalar.addi v1057 c15_i32
  let c1_i32_1083 : BitVec 32 := 1#32
  let v1059 : BitVec 32 := Scalar.muli v1058 c1_i32_1083
  let c512_i32_1084 : BitVec 32 := 512#32
  let v1060 : BitVec 32 := Scalar.muli v1059 c512_i32_1084
  v1060
def k0_mult17 : BitVec 32 :=
  let c0_i32_1229 : BitVec 32 := 0#32
  c0_i32_1229
@[reducible] def k0_t1_loop : Scf.Loop 32 :=
  let c0_i32_1242 : BitVec 32 := 0#32
  let c7_i32_1243 : BitVec 32 := 7#32
  let v1220 : BitVec 32 := Scalar.addi c0_i32_1242 c7_i32_1243
  let c1_i32_1244 : BitVec 32 := 1#32
  ⟨c0_i32_1242, v1220, c1_i32_1244⟩
def k0_mult18 (k0_t1 : Fin k0_t1_loop.trips) : BitVec 32 :=
  let c2_i32_1322 : BitVec 32 := 2#32
  let c0_i32_1242 : BitVec 32 := 0#32
  let c1_i32_1244 : BitVec 32 := 1#32
  let arg15 : BitVec 32 := Scf.iv c0_i32_1242 c1_i32_1244 k0_t1
  let v1325 : BitVec 32 := Scalar.muli c2_i32_1322 arg15
  let c1_i32_1323 : BitVec 32 := 1#32
  let v1326 : BitVec 32 := Scalar.addi v1325 c1_i32_1323
  let c512_i32_1324 : BitVec 32 := 512#32
  let v1327 : BitVec 32 := Scalar.muli v1326 c512_i32_1324
  v1327
def k0_off3 (k0_t1 : Fin k0_t1_loop.trips) (c1_i32_1323 : BitVec 32) : Fin 3 → Nat :=
  let c0_1325 : Index := 0#32
  let c2_i32_1322 : BitVec 32 := 2#32
  let c0_i32_1242 : BitVec 32 := 0#32
  let c1_i32_1244 : BitVec 32 := 1#32
  let arg15 : BitVec 32 := Scf.iv c0_i32_1242 c1_i32_1244 k0_t1
  let v1325 : BitVec 32 := Scalar.muli c2_i32_1322 arg15
  let v1326 : BitVec 32 := Scalar.addi v1325 c1_i32_1323
  let c512_i32_1324 : BitVec 32 := 512#32
  let v1327 : BitVec 32 := Scalar.muli v1326 c512_i32_1324
  let v1328 : BitVec 32 := v1327
  let v1329 : Index := Scalar.indexCast v1328
  let c0_1326 : Index := 0#32
  ![0, v1329.toNat, 0]
def k0_off4 (k0_t1 : Fin k0_t1_loop.trips) : Fin 5 → Nat :=
  let c0_1352 : Index := 0#32
  let c0_1353 : Index := 0#32
  let c2_i32_1322 : BitVec 32 := 2#32
  let c0_i32_1242 : BitVec 32 := 0#32
  let c1_i32_1244 : BitVec 32 := 1#32
  let arg15 : BitVec 32 := Scf.iv c0_i32_1242 c1_i32_1244 k0_t1
  let v1325 : BitVec 32 := Scalar.muli c2_i32_1322 arg15
  let v1364 : Index := Scalar.indexCast v1325
  let c0_1354 : Index := 0#32
  let c0_1355 : Index := 0#32
  ![0, 0, v1364.toNat, 0, 0]
def k0_mult19 (k0_t1 : Fin k0_t1_loop.trips) : BitVec 32 :=
  let c2_i32_1322 : BitVec 32 := 2#32
  let c0_i32_1242 : BitVec 32 := 0#32
  let c1_i32_1244 : BitVec 32 := 1#32
  let arg15 : BitVec 32 := Scf.iv c0_i32_1242 c1_i32_1244 k0_t1
  let v1325 : BitVec 32 := Scalar.muli c2_i32_1322 arg15
  let c2_i32_1361 : BitVec 32 := 2#32
  let v1376 : BitVec 32 := Scalar.addi v1325 c2_i32_1361
  let c512_i32_1362 : BitVec 32 := 512#32
  let v1377 : BitVec 32 := Scalar.muli v1376 c512_i32_1362
  v1377
def k0_off5 (k0_t1 : Fin k0_t1_loop.trips) : Fin 5 → Nat :=
  let c0_1391 : Index := 0#32
  let c0_1392 : Index := 0#32
  let c2_i32_1322 : BitVec 32 := 2#32
  let c0_i32_1242 : BitVec 32 := 0#32
  let c1_i32_1244 : BitVec 32 := 1#32
  let arg15 : BitVec 32 := Scf.iv c0_i32_1242 c1_i32_1244 k0_t1
  let v1325 : BitVec 32 := Scalar.muli c2_i32_1322 arg15
  let c1_i32_1375 : BitVec 32 := 1#32
  let v1392 : BitVec 32 := Scalar.addi v1325 c1_i32_1375
  let v1415 : Index := Scalar.indexCast v1392
  let c0_1393 : Index := 0#32
  let c0_1394 : Index := 0#32
  ![0, 0, v1415.toNat, 0, 0]
def k0_mult20 : BitVec 32 :=
  let c7680_i32 : BitVec 32 := 7680#32
  c7680_i32
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8192x1024 : Shape := ⟨3, ![4, 8192, 1024]⟩
abbrev S4x8192x256 : Shape := ⟨3, ![4, 8192, 256]⟩
abbrev S4x8192x4x4x64 : Shape := ⟨5, ![4, 8192, 4, 4, 64]⟩
abbrev S4x8192x4x64 : Shape := ⟨4, ![4, 8192, 4, 64]⟩
abbrev S4x4x8192x8192x4 : Shape := ⟨5, ![4, 4, 8192, 8192, 4]⟩
abbrev S4x4x4x8192x8192 : Shape := ⟨5, ![4, 4, 4, 8192, 8192]⟩
abbrev S_ : Shape := ⟨0, ![]⟩
abbrev S4x4x4x8192 : Shape := ⟨4, ![4, 4, 4, 8192]⟩
abbrev S4x4x4x8192x1 : Shape := ⟨5, ![4, 4, 4, 8192, 1]⟩
abbrev S4x4x64x4x8192 : Shape := ⟨5, ![4, 4, 64, 4, 8192]⟩
abbrev S4x1024x8192 : Shape := ⟨3, ![4, 1024, 8192]⟩

abbrev nBuf : Space → Nat
  | .hbm => 30
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .f32⟩
  | .hbm, ⟨2, _⟩ => ⟨S4x8192x256, .f32⟩
  | .hbm, ⟨3, _⟩ => ⟨S4x8192x4x4x64, .f32⟩
  | .hbm, ⟨4, _⟩ => ⟨S4x8192x4x64, .f32⟩
  | .hbm, ⟨5, _⟩ => ⟨S4x8192x4x64, .f32⟩
  | .hbm, ⟨6, _⟩ => ⟨S4x4x8192x8192x4, .f32⟩
  | .hbm, ⟨7, _⟩ => ⟨S4x4x4x8192x8192, .f32⟩
  | .hbm, ⟨8, _⟩ => ⟨S_, .f32⟩
  | .hbm, ⟨9, _⟩ => ⟨S4x4x4x8192x8192, .f32⟩
  | .hbm, ⟨10, _⟩ => ⟨S4x4x4x8192x8192, .f32⟩
  | .hbm, ⟨11, _⟩ => ⟨S_, .f32⟩
  | .hbm, ⟨12, _⟩ => ⟨S4x4x4x8192, .f32⟩
  | .hbm, ⟨13, _⟩ => ⟨S_, .f32⟩
  | .hbm, ⟨14, _⟩ => ⟨S4x4x4x8192, .f32⟩
  | .hbm, ⟨15, _⟩ => ⟨S4x4x4x8192, .f32⟩
  | .hbm, ⟨16, _⟩ => ⟨S4x4x4x8192x1, .f32⟩
  | .hbm, ⟨17, _⟩ => ⟨S4x4x4x8192x8192, .f32⟩
  | .hbm, ⟨18, _⟩ => ⟨S4x4x4x8192x8192, .f32⟩
  | .hbm, ⟨19, _⟩ => ⟨S4x4x4x8192x8192, .f32⟩
  | .hbm, ⟨20, _⟩ => ⟨S_, .f32⟩
  | .hbm, ⟨21, _⟩ => ⟨S4x4x4x8192, .f32⟩
  | .hbm, ⟨22, _⟩ => ⟨S4x4x4x8192x1, .f32⟩
  | .hbm, ⟨23, _⟩ => ⟨S4x4x4x8192x8192, .f32⟩
  | .hbm, ⟨24, _⟩ => ⟨S4x4x4x8192x8192, .f32⟩
  | .hbm, ⟨25, _⟩ => ⟨S4x4x64x4x8192, .f32⟩
  | .hbm, ⟨26, _⟩ => ⟨S4x8192x4x4x64, .f32⟩
  | .hbm, ⟨27, _⟩ => ⟨S4x8192x1024, .f32⟩
  | .hbm, ⟨28, _⟩ => ⟨S4x1024x8192, .f32⟩
  | .hbm, ⟨29, _⟩ => ⟨S4x1024x8192, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== OutKernel.lean ====
abbrev S4x8192x1024 : Shape := ⟨3, ![4, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x1024x8192 : Shape := ⟨3, ![4, 1024, 8192]⟩
abbrev S32768x1024 : Shape := ⟨2, ![32768, 1024]⟩
abbrev S1x1024 : Shape := ⟨2, ![1, 1024]⟩
abbrev S1x1024x512 : Shape := ⟨3, ![1, 1024, 512]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S4x1024x8192, .f32⟩
  | .hbm, ⟨7, _⟩ => ⟨S4x1024x8192, .bf16⟩
  | .hbm, ⟨8, _⟩ => ⟨S1024x1024, .bf16⟩
  | .hbm, ⟨9, _⟩ => ⟨S32768x1024, .f32⟩
  | .hbm, ⟨10, _⟩ => ⟨S1x1024, .f32⟩
  | .hbm, ⟨11, _⟩ => ⟨S1024x4096, .bf16⟩
  | .hbm, ⟨12, _⟩ => ⟨S4096x1024, .bf16⟩
  | .hbm, ⟨13, _⟩ => ⟨S32768x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutReferenceIdeal.lean ====
abbrev S4x8192x1024 : Shape := ⟨3, ![4, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S32768x1024 : Shape := ⟨2, ![32768, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S4x8192x1024, .f32⟩
  | .hbm, ⟨7, _⟩ => ⟨S4x8192x1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x8192x4096, .f32⟩
  | .hbm, ⟨25, _⟩ => ⟨S_, .f32⟩
  | .hbm, ⟨26, _⟩ => ⟨S4x8192x4096, .f32⟩
  | .hbm, ⟨27, _⟩ => ⟨S4x8192x4096, .f32⟩
  | .hbm, ⟨28, _⟩ => ⟨S4x8192x4096, .f32⟩
  | .hbm, ⟨29, _⟩ => ⟨S4x8192x1024, .f32⟩
  | .hbm, ⟨30, _⟩ => ⟨S4x8192x1024, .f32⟩
  | .hbm, ⟨31, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== ConvKernel.lean ====
abbrev S4x8192x1024 : Shape := ⟨3, ![4, 8192, 1024]⟩
abbrev S3x1024 : Shape := ⟨2, ![3, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S512x1024 : Shape := ⟨2, ![512, 1024]⟩
abbrev S16x1024 : Shape := ⟨2, ![16, 1024]⟩
abbrev S544x1024 : Shape := ⟨2, ![544, 1024]⟩
abbrev S512 : Shape := ⟨1, ![512]⟩
abbrev S512x1 : Shape := ⟨2, ![512, 1]⟩

abbrev nBuf : Space → Nat
  | .hbm => 18
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S3x1024, .f32⟩
  | .hbm, ⟨3, _⟩ => ⟨S1024x1024, .f32⟩
  | .hbm, ⟨4, _⟩ => ⟨S4x8192x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S4x8192x1024, .bf16⟩
  | .hbm, ⟨9, _⟩ => ⟨S32768x1024, .bf16⟩
  | .hbm, ⟨10, _⟩ => ⟨S4x8192x1024, .bf16⟩
  | .hbm, ⟨11, _⟩ => ⟨S32768x1024, .bf16⟩
  | .hbm, ⟨12, _⟩ => ⟨S32768x1024, .f32⟩
  | .hbm, ⟨13, _⟩ => ⟨S1024x1024, .bf16⟩
  | .hbm, ⟨14, _⟩ => ⟨S1x1024, .f32⟩
  | .hbm, ⟨15, _⟩ => ⟨S1024x4096, .bf16⟩
  | .hbm, ⟨16, _⟩ => ⟨S4096x1024, .bf16⟩
  | .hbm, ⟨17, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S512x1024, .bf16⟩
  | .local _ .vmem, ⟨7, _⟩ => ⟨S512x1024, .bf16⟩
  | .local _ .vmem, ⟨8, _⟩ => ⟨S3x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1024x4096, .bf16⟩
  | .local _ .vmem, ⟨14, _⟩ => ⟨S4096x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S544x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.addi v0 c1_i32
  let c32_i32 : BitVec 32 := 32#32
  let v2 : BitVec 32 := Scalar.muli v1 c32_i32
  let c2047_i32 : BitVec 32 := 2047#32
  let v3 : BitVec 32 := Scalar.minsi v2 c2047_i32
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvReferenceIdeal.lean ====
abbrev S4x8192x1024 : Shape := ⟨3, ![4, 8192, 1024]⟩
abbrev S3x1024 : Shape := ⟨2, ![3, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x8194x1024 : Shape := ⟨3, ![4, 8194, 1024]⟩
abbrev S1x1024 : Shape := ⟨2, ![1, 1024]⟩
abbrev S1x1x1024 : Shape := ⟨3, ![1, 1, 1024]⟩
abbrev S4x8192 : Shape := ⟨2, ![4, 8192]⟩
abbrev S4x8192x1 : Shape := ⟨3, ![4, 8192, 1]⟩
abbrev S4x8192x4096 : Shape := ⟨3, ![4, 8192, 4096]⟩
abbrev S32768x1024 : Shape := ⟨2, ![32768, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S3x1024, .f32⟩
  | .hbm, ⟨3, _⟩ => ⟨S1024x1024, .f32⟩
  | .hbm, ⟨4, _⟩ => ⟨S4x8192x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S_, .i32⟩
  | .hbm, ⟨9, _⟩ => ⟨S_, .f32⟩
  | .hbm, ⟨10, _⟩ => ⟨S4x8194x1024, .f32⟩
  | .hbm, ⟨11, _⟩ => ⟨S4x8192x1024, .f32⟩
  | .hbm, ⟨12, _⟩ => ⟨S1x1024, .f32⟩
  | .hbm, ⟨13, _⟩ => ⟨S1024, .f32⟩
  | .hbm, ⟨14, _⟩ => ⟨S1x1x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S_, .f32⟩
  | .hbm, ⟨42, _⟩ => ⟨S4x8192x1, .f32⟩
  | .hbm, ⟨43, _⟩ => ⟨S4x8192x1, .f32⟩
  | .hbm, ⟨44, _⟩ => ⟨S4x8192x1, .f32⟩
  | .hbm, ⟨45, _⟩ => ⟨S4x8192x1024, .f32⟩
  | .hbm, ⟨46, _⟩ => ⟨S4x8192x1024, .f32⟩
  | .hbm, ⟨47, _⟩ => ⟨S1x1x1024, .f32⟩
  | .hbm, ⟨48, _⟩ => ⟨S4x8192x1024, .f32⟩
  | .hbm, ⟨49, _⟩ => ⟨S4x8192x1024, .f32⟩
  | .hbm, ⟨50, _⟩ => ⟨S4x8192x4096, .f32⟩
  | .hbm, ⟨51, _⟩ => ⟨S_, .f32⟩
  | .hbm, ⟨52, _⟩ => ⟨S4x8192x4096, .f32⟩
  | .hbm, ⟨53, _⟩ => ⟨S4x8192x4096, .f32⟩
  | .hbm, ⟨54, _⟩ => ⟨S4x8192x4096, .f32⟩
  | .hbm, ⟨55, _⟩ => ⟨S4x8192x1024, .f32⟩
  | .hbm, ⟨56, _⟩ => ⟨S4x8192x1024, .f32⟩
  | .hbm, ⟨57, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_cst_0 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call1_cst : Ref sig .tc := ⟨.hbm, 51, rfl⟩
abbrev main_call1_v0 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== GateKernel.lean ====
abbrev S4x8192x1024 : Shape := ⟨3, ![4, 8192, 1024]⟩
abbrev S1024 : Shape := ⟨1, ![1024]⟩
abbrev S1024x3072 : Shape := ⟨2, ![1024, 3072]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S1x1024, .f32⟩
  | .hbm, ⟨5, _⟩ => ⟨S1024x3072, .bf16⟩
  | .hbm, ⟨6, _⟩ => ⟨S32768x1024, .bf16⟩
  | .hbm, ⟨7, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateReferenceIdeal.lean ====
abbrev S4x8192x1024 : Shape := ⟨3, ![4, 8192, 1024]⟩
abbrev S1024 : Shape := ⟨1, ![1024]⟩
abbrev S1024x3072 : Shape := ⟨2, ![1024, 3072]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S32768x1024 : Shape := ⟨2, ![32768, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x3072, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x1024, .bf16⟩
  | .hbm, ⟨25, _⟩ => ⟨S32768x1024, .bf16⟩
  | .hbm, ⟨26, _⟩ => ⟨S4x8192x1024, .bf16⟩
  | .hbm, ⟨27, _⟩ => ⟨S32768x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== ProjKernel.lean ====
abbrev S4x8192x1024 : Shape := ⟨3, ![4, 8192, 1024]⟩
abbrev S1024 : Shape := ⟨1, ![1024]⟩
abbrev S1024x3072 : Shape := ⟨2, ![1024, 3072]⟩
abbrev S64 : Shape := ⟨1, ![64]⟩
abbrev S8192x8 : Shape := ⟨2, ![8192, 8]⟩
abbrev S8192x1x8 : Shape := ⟨3, ![8192, 1, 8]⟩
abbrev S1x8x8192 : Shape := ⟨3, ![1, 8, 8192]⟩
abbrev S64x1 : Shape := ⟨2, ![64, 1]⟩
abbrev S64x256 : Shape := ⟨2, ![64, 256]⟩
abbrev S1x1024 : Shape := ⟨2, ![1, 1024]⟩
abbrev S3072x1024 : Shape := ⟨2, ![3072, 1024]⟩
abbrev S4x1x64x1024x128 : Shape := ⟨5, ![4, 1, 64, 1024, 128]⟩
abbrev S4x1x8192x1024 : Shape := ⟨4, ![4, 1, 8192, 1024]⟩
abbrev S4x1x64x1152x128 : Shape := ⟨5, ![4, 1, 64, 1152, 128]⟩
abbrev S1x1024x128 : Shape := ⟨3, ![1, 1024, 128]⟩
abbrev S1x8x1024 : Shape := ⟨3, ![1, 8, 1024]⟩
abbrev S1x1x8x1024x128 : Shape := ⟨5, ![1, 1, 8, 1024, 128]⟩
abbrev S1x1x1024x1024 : Shape := ⟨4, ![1, 1, 1024, 1024]⟩
abbrev S1x1x8x1152x128 : Shape := ⟨5, ![1, 1, 8, 1152, 128]⟩
abbrev S1x256x128 : Shape := ⟨3, ![1, 256, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1x8x256 : Shape := ⟨3, ![1, 8, 256]⟩
abbrev S8x256 : Shape := ⟨2, ![8, 256]⟩
abbrev S1024x1024 : Shape := ⟨2, ![1024, 1024]⟩
abbrev S1024x256 : Shape := ⟨2, ![1024, 256]⟩
abbrev S16x64x256 : Shape := ⟨3, ![16, 64, 256]⟩
abbrev S16x256 : Shape := ⟨2, ![16, 256]⟩
abbrev S16x1x256 : Shape := ⟨3, ![16, 1, 256]⟩
abbrev S1x64x256 : Shape := ⟨3, ![1, 64, 256]⟩
abbrev S16x8x256 : Shape := ⟨3, ![16, 8, 256]⟩
abbrev S16x48x256 : Shape := ⟨3, ![16, 48, 256]⟩
abbrev S8x16x256 : Shape := ⟨3, ![8, 16, 256]⟩
abbrev S8x128x256 : Shape := ⟨3, ![8, 128, 256]⟩
abbrev S8x144x256 : Shape := ⟨3, ![8, 144, 256]⟩
abbrev S1152x256 : Shape := ⟨2, ![1152, 256]⟩
abbrev S1x1x256x1024 : Shape := ⟨4, ![1, 1, 256, 1024]⟩
abbrev S1024x128 : Shape := ⟨2, ![1024, 128]⟩
abbrev S1x1x1x1024x128 : Shape := ⟨5, ![1, 1, 1, 1024, 128]⟩
abbrev S1152x128 : Shape := ⟨2, ![1152, 128]⟩
abbrev S1x1x1x1152x128 : Shape := ⟨5, ![1, 1, 1, 1152, 128]⟩

abbrev nBuf : Space → Nat
  | .hbm => 21
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S8192x8, .f32⟩
  | .hbm, ⟨6, _⟩ => ⟨S8192x8, .f32⟩
  | .hbm, ⟨7, _⟩ => ⟨S8192x1x8, .f32⟩
  | .hbm, ⟨8, _⟩ => ⟨S1x8x8192, .f32⟩
  | .hbm, ⟨9, _⟩ => ⟨S8192x1x8, .f32⟩
  | .hbm, ⟨10, _⟩ => ⟨S1x8x8192, .f32⟩
  | .hbm, ⟨11, _⟩ => ⟨S64x1, .f32⟩
  | .hbm, ⟨12, _⟩ => ⟨S64x256, .f32⟩
  | .hbm, ⟨13, _⟩ => ⟨S64x1, .f32⟩
  | .hbm, ⟨14, _⟩ => ⟨S64x256, .f32⟩
  | .hbm, ⟨15, _⟩ => ⟨S1x1024, .f32⟩
  | .hbm, ⟨16, _⟩ => ⟨S3072x1024, .f32⟩
  | .hbm, ⟨17, _⟩ => ⟨S3072x1024, .bf16⟩
  | .hbm, ⟨18, _⟩ => ⟨S4x1x64x1024x128, .bf16⟩
  | .hbm, ⟨19, _⟩ => ⟨S4x1x8192x1024, .bf16⟩
  | .hbm, ⟨20, _⟩ => ⟨S4x1x64x1152x128, .bf16⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x128, .f32⟩
  | .local _ .vmem, ⟨15, _⟩ => ⟨S1x1024x128, .f32⟩
  | .local _ .vmem, ⟨16, _⟩ => ⟨S1x1024, .f32⟩
  | .local _ .vmem, ⟨17, _⟩ => ⟨S3072x1024, .bf16⟩
  | .local _ .vmem, ⟨18, _⟩ => ⟨S64x256, .f32⟩
  | .local _ .vmem, ⟨19, _⟩ => ⟨S64x256, .f32⟩
  | .local _ .vmem, ⟨20, _⟩ => ⟨S1x8x1024, .f32⟩
  | .local _ .vmem, ⟨21, _⟩ => ⟨S1x8x1024, .f32⟩
  | .local _ .vmem, ⟨22, _⟩ => ⟨S1x8x1024, .f32⟩
  | .local _ .vmem, ⟨23, _⟩ => ⟨S1x8x1024, .f32⟩
  | .local _ .vmem, ⟨24, _⟩ => ⟨S1x1x8x1024x128, .bf16⟩
  | .local _ .vmem, ⟨25, _⟩ => ⟨S1x1x8x1024x128, .bf16⟩
  | .local _ .vmem, ⟨26, _⟩ => ⟨S1x1x1024x1024, .bf16⟩
  | .local _ .vmem, ⟨27, _⟩ => ⟨S1x1x1024x1024, .bf16⟩
  | .local _ .vmem, ⟨28, _⟩ => ⟨S1x1x8x1152x128, .bf16⟩
  | .local _ .vmem, ⟨29, _⟩ => ⟨S1x1x8x1152x128, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3072x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1x8x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x8x1152x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ProjKernelIdeal.lean ====
abbrev S4x8192x1024 : Shape := ⟨3, ![4, 8192, 1024]⟩
abbrev S1024 : Shape := ⟨1, ![1024]⟩
abbrev S1024x3072 : Shape := ⟨2, ![1024, 3072]⟩
abbrev S64 : Shape := ⟨1, ![64]⟩
abbrev S8192x8 : Shape := ⟨2, ![8192, 8]⟩
abbrev S8192x1x8 : Shape := ⟨3, ![8192, 1, 8]⟩
abbrev S1x8x8192 : Shape := ⟨3, ![1, 8, 8192]⟩
abbrev S64x1 : Shape := ⟨2, ![64, 1]⟩
abbrev S64x256 : Shape := ⟨2, ![64, 256]⟩
abbrev S1x1024 : Shape := ⟨2, ![1, 1024]⟩
abbrev S3072x1024 : Shape := ⟨2, ![3072, 1024]⟩
abbrev S4x1x64x1024x128 : Shape := ⟨5, ![4, 1, 64, 1024, 128]⟩
abbrev S4x1x8192x1024 : Shape := ⟨4, ![4, 1, 8192, 1024]⟩
abbrev S4x1x64x1152x128 : Shape := ⟨5, ![4, 1, 64, 1152, 128]⟩
abbrev S1x1024x128 : Shape := ⟨3, ![1, 1024, 128]⟩
abbrev S1x8x1024 : Shape := ⟨3, ![1, 8, 1024]⟩
abbrev S1x1x8x1024x128 : Shape := ⟨5, ![1, 1, 8, 1024, 128]⟩
abbrev S1x1x1024x1024 : Shape := ⟨4, ![1, 1, 1024, 1024]⟩
abbrev S1x1x8x1152x128 : Shape := ⟨5, ![1, 1, 8, 1152, 128]⟩
abbrev S1x256x128 : Shape := ⟨3, ![1, 256, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1x8x256 : Shape := ⟨3, ![1, 8, 256]⟩
abbrev S8x256 : Shape := ⟨2, ![8, 256]⟩
abbrev S1024x1024 : Shape := ⟨2, ![1024, 1024]⟩
abbrev S1024x256 : Shape := ⟨2, ![1024, 256]⟩
abbrev S16x64x256 : Shape := ⟨3, ![16, 64, 256]⟩
abbrev S16x256 : Shape := ⟨2, ![16, 256]⟩
abbrev S16x1x256 : Shape := ⟨3, ![16, 1, 256]⟩
abbrev S1x64x256 : Shape := ⟨3, ![1, 64, 256]⟩
abbrev S16x8x256 : Shape := ⟨3, ![16, 8, 256]⟩
abbrev S16x48x256 : Shape := ⟨3, ![16, 48, 256]⟩
abbrev S8x16x256 : Shape := ⟨3, ![8, 16, 256]⟩
abbrev S8x128x256 : Shape := ⟨3, ![8, 128, 256]⟩
abbrev S8x144x256 : Shape := ⟨3, ![8, 144, 256]⟩
abbrev S1152x256 : Shape := ⟨2, ![1152, 256]⟩
abbrev S1x1x256x1024 : Shape := ⟨4, ![1, 1, 256, 1024]⟩
abbrev S1024x128 : Shape := ⟨2, ![1024, 128]⟩
abbrev S1x1x1x1024x128 : Shape := ⟨5, ![1, 1, 1, 1024, 128]⟩
abbrev S1152x128 : Shape := ⟨2, ![1152, 128]⟩
abbrev S1x1x1x1152x128 : Shape := ⟨5, ![1, 1, 1, 1152, 128]⟩

abbrev nBuf : Space → Nat
  | .hbm => 21
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S8192x8, .f32⟩
  | .hbm, ⟨6, _⟩ => ⟨S8192x8, .f32⟩
  | .hbm, ⟨7, _⟩ => ⟨S8192x1x8, .f32⟩
  | .hbm, ⟨8, _⟩ => ⟨S1x8x8192, .f32⟩
  | .hbm, ⟨9, _⟩ => ⟨S8192x1x8, .f32⟩
  | .hbm, ⟨10, _⟩ => ⟨S1x8x8192, .f32⟩
  | .hbm, ⟨11, _⟩ => ⟨S64x1, .f32⟩
  | .hbm, ⟨12, _⟩ => ⟨S64x256, .f32⟩
  | .hbm, ⟨13, _⟩ => ⟨S64x1, .f32⟩
  | .hbm, ⟨14, _⟩ => ⟨S64x256, .f32⟩
  | .hbm, ⟨15, _⟩ => ⟨S1x1024, .f32⟩
  | .hbm, ⟨16, _⟩ => ⟨S3072x1024, .f32⟩
  | .hbm, ⟨17, _⟩ => ⟨S3072x1024, .bf16⟩
  | .hbm, ⟨18, _⟩ => ⟨S4x1x64x1024x128, .bf16⟩
  | .hbm, ⟨19, _⟩ => ⟨S4x1x8192x1024, .bf16⟩
  | .hbm, ⟨20, _⟩ => ⟨S4x1x64x1152x128, .bf16⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x128, .f32⟩
  | .local _ .vmem, ⟨15, _⟩ => ⟨S1x1024x128, .f32⟩
  | .local _ .vmem, ⟨16, _⟩ => ⟨S1x1024, .f32⟩
  | .local _ .vmem, ⟨17, _⟩ => ⟨S3072x1024, .bf16⟩
  | .local _ .vmem, ⟨18, _⟩ => ⟨S64x256, .f32⟩
  | .local _ .vmem, ⟨19, _⟩ => ⟨S64x256, .f32⟩
  | .local _ .vmem, ⟨20, _⟩ => ⟨S1x8x1024, .f32⟩
  | .local _ .vmem, ⟨21, _⟩ => ⟨S1x8x1024, .f32⟩
  | .local _ .vmem, ⟨22, _⟩ => ⟨S1x8x1024, .f32⟩
  | .local _ .vmem, ⟨23, _⟩ => ⟨S1x8x1024, .f32⟩
  | .local _ .vmem, ⟨24, _⟩ => ⟨S1x1x8x1024x128, .bf16⟩
  | .local _ .vmem, ⟨25, _⟩ => ⟨S1x1x8x1024x128, .bf16⟩
  | .local _ .vmem, ⟨26, _⟩ => ⟨S1x1x1024x1024, .bf16⟩
  | .local _ .vmem, ⟨27, _⟩ => ⟨S1x1x1024x1024, .bf16⟩
  | .local _ .vmem, ⟨28, _⟩ => ⟨S1x1x8x1152x128, .bf16⟩
  | .local _ .vmem, ⟨29, _⟩ => ⟨S1x1x8x1152x128, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3072x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1x8x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x8x1152x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ProjReferenceIdeal.lean ====
abbrev S4x8192x1024 : Shape := ⟨3, ![4, 8192, 1024]⟩
abbrev S1024 : Shape := ⟨1, ![1024]⟩
abbrev S1024x3072 : Shape := ⟨2, ![1024, 3072]⟩
abbrev S64 : Shape := ⟨1, ![64]⟩
abbrev S8192x8 : Shape := ⟨2, ![8192, 8]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S4x8192x16x64 : Shape := ⟨4, ![4, 8192, 16, 64]⟩
abbrev S4x8192x16 : Shape := ⟨3, ![4, 8192, 16]⟩
abbrev S4x8192x16x1 : Shape := ⟨4, ![4, 8192, 16, 1]⟩
abbrev S1x1x1x64 : Shape := ⟨4, ![1, 1, 1, 64]⟩
abbrev S4x8192x16x8 : Shape := ⟨4, ![4, 8192, 16, 8]⟩
abbrev S4x8192x16x48 : Shape := ⟨4, ![4, 8192, 16, 48]⟩
abbrev S8192x1x8 : Shape := ⟨3, ![8192, 1, 8]⟩
abbrev S1x8192x1x8 : Shape := ⟨4, ![1, 8192, 1, 8]⟩
abbrev S4x64x128x1x1024 : Shape := ⟨5, ![4, 64, 128, 1, 1024]⟩
abbrev S4x1x64x1024x128 : Shape := ⟨5, ![4, 1, 64, 1024, 128]⟩
abbrev S4x8192x1x1024 : Shape := ⟨4, ![4, 8192, 1, 1024]⟩
abbrev S4x1x8192x1024 : Shape := ⟨4, ![4, 1, 8192, 1024]⟩
abbrev S4x64x128x1x8x128 : Shape := ⟨6, ![4, 64, 128, 1, 8, 128]⟩
abbrev S4x1x64x8x128x128 : Shape := ⟨6, ![4, 1, 64, 8, 128, 128]⟩
abbrev S4x1x64x8x1x128 : Shape := ⟨6, ![4, 1, 64, 8, 1, 128]⟩
abbrev S4x1x64x8x15x128 : Shape := ⟨6, ![4, 1, 64, 8, 15, 128]⟩
abbrev S4x1x64x8x144x128 : Shape := ⟨6, ![4, 1, 64, 8, 144, 128]⟩
abbrev S4x1x64x1152x128 : Shape := ⟨5, ![4, 1, 64, 1152, 128]⟩

abbrev nBuf : Space → Nat
  | .hbm => 121
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S8192x8, .f32⟩
  | .hbm, ⟨6, _⟩ => ⟨S8192x8, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x8192x3072, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x16x64, .f32⟩
  | .hbm, ⟨28, _⟩ => ⟨S4x8192x16x64, .f32⟩
  | .hbm, ⟨29, _⟩ => ⟨S_, .f32⟩
  | .hbm, ⟨30, _⟩ => ⟨S4x8192x16, .f32⟩
  | .hbm, ⟨31, _⟩ => ⟨S4x8192x16x1, .f32⟩
  | .hbm, ⟨32, _⟩ => ⟨S_, .f32⟩
  | .hbm, ⟨33, _⟩ => ⟨S4x8192x16x1, .f32⟩
  | .hbm, ⟨34, _⟩ => ⟨S4x8192x16x1, .f32⟩
  | .hbm, ⟨35, _⟩ => ⟨S_, .f32⟩
  | .hbm, ⟨36, _⟩ => ⟨S4x8192x16x1, .f32⟩
  | .hbm, ⟨37, _⟩ => ⟨S4x8192x16x1, .f32⟩
  | .hbm, ⟨38, _⟩ => ⟨S4x8192x16x1, .f32⟩
  | .hbm, ⟨39, _⟩ => ⟨S4x8192x16x64, .f32⟩
  | .hbm, ⟨40, _⟩ => ⟨S4x8192x16x64, .f32⟩
  | .hbm, ⟨41, _⟩ => ⟨S1x1x1x64, .f32⟩
  | .hbm, ⟨42, _⟩ => ⟨S4x8192x16x64, .f32⟩
  | .hbm, ⟨43, _⟩ => ⟨S4x8192x16x64, .f32⟩
  | .hbm, ⟨44, _⟩ => ⟨S4x8192x16x8, .f32⟩
  | .hbm, ⟨45, _⟩ => ⟨S4x8192x16x8, .f32⟩
  | .hbm, ⟨46, _⟩ => ⟨S4x8192x16x48, .f32⟩
  | .hbm, ⟨47, _⟩ => ⟨S8192x1x8, .f32⟩
  | .hbm, ⟨48, _⟩ => ⟨S8192x1x8, .f32⟩
  | .hbm, ⟨49, _⟩ => ⟨S1x8192x1x8, .f32⟩
  | .hbm, ⟨50, _⟩ => ⟨S4x8192x16x8, .f32⟩
  | .hbm, ⟨51, _⟩ => ⟨S4x8192x16x8, .f32⟩
  | .hbm, ⟨52, _⟩ => ⟨S1x8192x1x8, .f32⟩
  | .hbm, ⟨53, _⟩ => ⟨S4x8192x16x8, .f32⟩
  | .hbm, ⟨54, _⟩ => ⟨S4x8192x16x8, .f32⟩
  | .hbm, ⟨55, _⟩ => ⟨S4x8192x16x8, .f32⟩
  | .hbm, ⟨56, _⟩ => ⟨S1x8192x1x8, .f32⟩
  | .hbm, ⟨57, _⟩ => ⟨S4x8192x16x8, .f32⟩
  | .hbm, ⟨58, _⟩ => ⟨S4x8192x16x8, .f32⟩
  | .hbm, ⟨59, _⟩ => ⟨S1x8192x1x8, .f32⟩
  | .hbm, ⟨60, _⟩ => ⟨S4x8192x16x8, .f32⟩
  | .hbm, ⟨61, _⟩ => ⟨S4x8192x16x8, .f32⟩
  | .hbm, ⟨62, _⟩ => ⟨S4x8192x16x8, .f32⟩
  | .hbm, ⟨63, _⟩ => ⟨S4x8192x16x64, .f32⟩
  | .hbm, ⟨64, _⟩ => ⟨S4x8192x1024, .f32⟩
  | .hbm, ⟨65, _⟩ => ⟨S_, .f32⟩
  | .hbm, ⟨66, _⟩ => ⟨S4x8192x1024, .f32⟩
  | .hbm, ⟨67, _⟩ => ⟨S4x8192x1024, .f32⟩
  | .hbm, ⟨68, _⟩ => ⟨S4x8192x16x64, .f32⟩
  | .hbm, ⟨69, _⟩ => ⟨S4x8192x16x64, .f32⟩
  | .hbm, ⟨70, _⟩ => ⟨S_, .f32⟩
  | .hbm, ⟨71, _⟩ => ⟨S4x8192x16, .f32⟩
  | .hbm, ⟨72, _⟩ => ⟨S4x8192x16x1, .f32⟩
  | .hbm, ⟨73, _⟩ => ⟨S_, .f32⟩
  | .hbm, ⟨74, _⟩ => ⟨S4x8192x16x1, .f32⟩
  | .hbm, ⟨75, _⟩ => ⟨S4x8192x16x1, .f32⟩
  | .hbm, ⟨76, _⟩ => ⟨S_, .f32⟩
  | .hbm, ⟨77, _⟩ => ⟨S4x8192x16x1, .f32⟩
  | .hbm, ⟨78, _⟩ => ⟨S4x8192x16x1, .f32⟩
  | .hbm, ⟨79, _⟩ => ⟨S4x8192x16x1, .f32⟩
  | .hbm, ⟨80, _⟩ => ⟨S4x8192x16x64, .f32⟩
  | .hbm, ⟨81, _⟩ => ⟨S4x8192x16x64, .f32⟩
  | .hbm, ⟨82, _⟩ => ⟨S1x1x1x64, .f32⟩
  | .hbm, ⟨83, _⟩ => ⟨S4x8192x16x64, .f32⟩
  | .hbm, ⟨84, _⟩ => ⟨S4x8192x16x64, .f32⟩
  | .hbm, ⟨85, _⟩ => ⟨S4x8192x16x8, .f32⟩
  | .hbm, ⟨86, _⟩ => ⟨S4x8192x16x8, .f32⟩
  | .hbm, ⟨87, _⟩ => ⟨S4x8192x16x48, .f32⟩
  | .hbm, ⟨88, _⟩ => ⟨S8192x1x8, .f32⟩
  | .hbm, ⟨89, _⟩ => ⟨S8192x1x8, .f32⟩
  | .hbm, ⟨90, _⟩ => ⟨S1x8192x1x8, .f32⟩
  | .hbm, ⟨91, _⟩ => ⟨S4x8192x16x8, .f32⟩
  | .hbm, ⟨92, _⟩ => ⟨S4x8192x16x8, .f32⟩
  | .hbm, ⟨93, _⟩ => ⟨S1x8192x1x8, .f32⟩
  | .hbm, ⟨94, _⟩ => ⟨S4x8192x16x8, .f32⟩
  | .hbm, ⟨95, _⟩ => ⟨S4x8192x16x8, .f32⟩
  | .hbm, ⟨96, _⟩ => ⟨S4x8192x16x8, .f32⟩
  | .hbm, ⟨97, _⟩ => ⟨S1x8192x1x8, .f32⟩
  | .hbm, ⟨98, _⟩ => ⟨S4x8192x16x8, .f32⟩
  | .hbm, ⟨99, _⟩ => ⟨S4x8192x16x8, .f32⟩
  | .hbm, ⟨100, _⟩ => ⟨S1x8192x1x8, .f32⟩
  | .hbm, ⟨101, _⟩ => ⟨S4x8192x16x8, .f32⟩
  | .hbm, ⟨102, _⟩ => ⟨S4x8192x16x8, .f32⟩
  | .hbm, ⟨103, _⟩ => ⟨S4x8192x16x8, .f32⟩
  | .hbm, ⟨104, _⟩ => ⟨S4x8192x16x64, .f32⟩
  | .hbm, ⟨105, _⟩ => ⟨S4x8192x1024, .f32⟩
  | .hbm, ⟨106, _⟩ => ⟨S4x64x128x1x1024, .f32⟩
  | .hbm, ⟨107, _⟩ => ⟨S4x1x64x1024x128, .f32⟩
  | .hbm, ⟨108, _⟩ => ⟨S4x8192x1x1024, .f32⟩
  | .hbm, ⟨109, _⟩ => ⟨S4x1x8192x1024, .f32⟩
  | .hbm, ⟨110, _⟩ => ⟨S4x64x128x1x8x128, .f32⟩
  | .hbm, ⟨111, _⟩ => ⟨S4x1x64x8x128x128, .f32⟩
  | .hbm, ⟨112, _⟩ => ⟨S_, .f32⟩
  | .hbm, ⟨113, _⟩ => ⟨S4x1x64x8x1x128, .f32⟩
  | .hbm, ⟨114, _⟩ => ⟨S_, .f32⟩
  | .hbm, ⟨115, _⟩ => ⟨S4x1x64x8x15x128, .f32⟩
  | .hbm, ⟨116, _⟩ => ⟨S4x1x64x8x144x128, .f32⟩
  | .hbm, ⟨117, _⟩ => ⟨S4x1x64x1152x128, .f32⟩
  | .hbm, ⟨118, _⟩ => ⟨S4x1x64x1024x128, .bf16⟩
  | .hbm, ⟨119, _⟩ => ⟨S4x1x8192x1024, .bf16⟩
  | .hbm, ⟨120, _⟩ => ⟨S4x1x64x1152x128, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_9 : Ref sig .tc := ⟨.hbm, 112, rfl⟩
abbrev main_v95 : Ref sig .tc := ⟨.hbm, 113, rfl⟩
abbrev main_cst_10 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩

abbrev nD : Nat := 1
abbrev τ : Topo := Topo.v7x

variable {F : FTy → Type} [FloatOps F]
-- ==== Proj4Kernel.lean ====
abbrev S4x8192x1024 : Shape := ⟨3, ![4, 8192, 1024]⟩
abbrev S1024 : Shape := ⟨1, ![1024]⟩
abbrev S1024x3072 : Shape := ⟨2, ![1024, 3072]⟩
abbrev S64 : Shape := ⟨1, ![64]⟩
abbrev S8192x8 : Shape := ⟨2, ![8192, 8]⟩
abbrev S2048x4x8 : Shape := ⟨3, ![2048, 4, 8]⟩
abbrev S4x8x2048 : Shape := ⟨3, ![4, 8, 2048]⟩
abbrev S64x1 : Shape := ⟨2, ![64, 1]⟩
abbrev S64x256 : Shape := ⟨2, ![64, 256]⟩
abbrev S1x1024 : Shape := ⟨2, ![1, 1024]⟩
abbrev S3072x1024 : Shape := ⟨2, ![3072, 1024]⟩
abbrev S4x4x16x1024x128 : Shape := ⟨5, ![4, 4, 16, 1024, 128]⟩
abbrev S4x4x2048x1024 : Shape := ⟨4, ![4, 4, 2048, 1024]⟩
abbrev S4x4x16x1152x128 : Shape := ⟨5, ![4, 4, 16, 1152, 128]⟩
abbrev S1x1024x128 : Shape := ⟨3, ![1, 1024, 128]⟩
abbrev S4x8x256 : Shape := ⟨3, ![4, 8, 256]⟩
abbrev S1x4x2x1024x128 : Shape := ⟨5, ![1, 4, 2, 1024, 128]⟩
abbrev S1x4x256x1024 : Shape := ⟨4, ![1, 4, 256, 1024]⟩
abbrev S1x4x2x1152x128 : Shape := ⟨5, ![1, 4, 2, 1152, 128]⟩
abbrev S1x256x128 : Shape := ⟨3, ![1, 256, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1x8x256 : Shape := ⟨3, ![1, 8, 256]⟩
abbrev S8x256 : Shape := ⟨2, ![8, 256]⟩
abbrev S1024x1024 : Shape := ⟨2, ![1024, 1024]⟩
abbrev S1024x256 : Shape := ⟨2, ![1024, 256]⟩
abbrev S16x64x256 : Shape := ⟨3, ![16, 64, 256]⟩
abbrev S16x256 : Shape := ⟨2, ![16, 256]⟩
abbrev S16x1x256 : Shape := ⟨3, ![16, 1, 256]⟩
abbrev S1x64x256 : Shape := ⟨3, ![1, 64, 256]⟩
abbrev S16x8x256 : Shape := ⟨3, ![16, 8, 256]⟩
abbrev S16x48x256 : Shape := ⟨3, ![16, 48, 256]⟩
abbrev S8x16x256 : Shape := ⟨3, ![8, 16, 256]⟩
abbrev S8x128x256 : Shape := ⟨3, ![8, 128, 256]⟩
abbrev S8x144x256 : Shape := ⟨3, ![8, 144, 256]⟩
abbrev S1152x256 : Shape := ⟨2, ![1152, 256]⟩
abbrev S1x1x256x1024 : Shape := ⟨4, ![1, 1, 256, 1024]⟩
abbrev S1024x128 : Shape := ⟨2, ![1024, 128]⟩
abbrev S1x1x1x1024x128 : Shape := ⟨5, ![1, 1, 1, 1024, 128]⟩
abbrev S1152x128 : Shape := ⟨2, ![1152, 128]⟩
abbrev S1x1x1x1152x128 : Shape := ⟨5, ![1, 1, 1, 1152, 128]⟩

abbrev nBuf : Space → Nat
  | .hbm => 21
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S8192x8, .f32⟩
  | .hbm, ⟨6, _⟩ => ⟨S8192x8, .f32⟩
  | .hbm, ⟨7, _⟩ => ⟨S2048x4x8, .f32⟩
  | .hbm, ⟨8, _⟩ => ⟨S4x8x2048, .f32⟩
  | .hbm, ⟨9, _⟩ => ⟨S2048x4x8, .f32⟩
  | .hbm, ⟨10, _⟩ => ⟨S4x8x2048, .f32⟩
  | .hbm, ⟨11, _⟩ => ⟨S64x1, .f32⟩
  | .hbm, ⟨12, _⟩ => ⟨S64x256, .f32⟩
  | .hbm, ⟨13, _⟩ => ⟨S64x1, .f32⟩
  | .hbm, ⟨14, _⟩ => ⟨S64x256, .f32⟩
  | .hbm, ⟨15, _⟩ => ⟨S1x1024, .f32⟩
  | .hbm, ⟨16, _⟩ => ⟨S3072x1024, .f32⟩
  | .hbm, ⟨17, _⟩ => ⟨S3072x1024, .bf16⟩
  | .hbm, ⟨18, _⟩ => ⟨S4x4x16x1024x128, .bf16⟩
  | .hbm, ⟨19, _⟩ => ⟨S4x4x2048x1024, .bf16⟩
  | .hbm, ⟨20, _⟩ => ⟨S4x4x16x1152x128, .bf16⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x128, .f32⟩
  | .local _ .vmem, ⟨15, _⟩ => ⟨S1x1024x128, .f32⟩
  | .local _ .vmem, ⟨16, _⟩ => ⟨S1x1024, .f32⟩
  | .local _ .vmem, ⟨17, _⟩ => ⟨S3072x1024, .bf16⟩
  | .local _ .vmem, ⟨18, _⟩ => ⟨S64x256, .f32⟩
  | .local _ .vmem, ⟨19, _⟩ => ⟨S64x256, .f32⟩
  | .local _ .vmem, ⟨20, _⟩ => ⟨S4x8x256, .f32⟩
  | .local _ .vmem, ⟨21, _⟩ => ⟨S4x8x256, .f32⟩
  | .local _ .vmem, ⟨22, _⟩ => ⟨S4x8x256, .f32⟩
  | .local _ .vmem, ⟨23, _⟩ => ⟨S4x8x256, .f32⟩
  | .local _ .vmem, ⟨24, _⟩ => ⟨S1x4x2x1024x128, .bf16⟩
  | .local _ .vmem, ⟨25, _⟩ => ⟨S1x4x2x1024x128, .bf16⟩
  | .local _ .vmem, ⟨26, _⟩ => ⟨S1x4x256x1024, .bf16⟩
  | .local _ .vmem, ⟨27, _⟩ => ⟨S1x4x256x1024, .bf16⟩
  | .local _ .vmem, ⟨28, _⟩ => ⟨S1x4x2x1152x128, .bf16⟩
  | .local _ .vmem, ⟨29, _⟩ => ⟨S1x4x2x1152x128, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3072x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S4x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S4x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x4x2x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x2x1152x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Proj4KernelIdeal.lean ====
abbrev S4x8192x1024 : Shape := ⟨3, ![4, 8192, 1024]⟩
abbrev S1024 : Shape := ⟨1, ![1024]⟩
abbrev S1024x3072 : Shape := ⟨2, ![1024, 3072]⟩
abbrev S64 : Shape := ⟨1, ![64]⟩
abbrev S8192x8 : Shape := ⟨2, ![8192, 8]⟩
abbrev S2048x4x8 : Shape := ⟨3, ![2048, 4, 8]⟩
abbrev S4x8x2048 : Shape := ⟨3, ![4, 8, 2048]⟩
abbrev S64x1 : Shape := ⟨2, ![64, 1]⟩
abbrev S64x256 : Shape := ⟨2, ![64, 256]⟩
abbrev S1x1024 : Shape := ⟨2, ![1, 1024]⟩
abbrev S3072x1024 : Shape := ⟨2, ![3072, 1024]⟩
abbrev S4x4x16x1024x128 : Shape := ⟨5, ![4, 4, 16, 1024, 128]⟩
abbrev S4x4x2048x1024 : Shape := ⟨4, ![4, 4, 2048, 1024]⟩
abbrev S4x4x16x1152x128 : Shape := ⟨5, ![4, 4, 16, 1152, 128]⟩
abbrev S1x1024x128 : Shape := ⟨3, ![1, 1024, 128]⟩
abbrev S4x8x256 : Shape := ⟨3, ![4, 8, 256]⟩
abbrev S1x4x2x1024x128 : Shape := ⟨5, ![1, 4, 2, 1024, 128]⟩
abbrev S1x4x256x1024 : Shape := ⟨4, ![1, 4, 256, 1024]⟩
abbrev S1x4x2x1152x128 : Shape := ⟨5, ![1, 4, 2, 1152, 128]⟩
abbrev S1x256x128 : Shape := ⟨3, ![1, 256, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1x8x256 : Shape := ⟨3, ![1, 8, 256]⟩
abbrev S8x256 : Shape := ⟨2, ![8, 256]⟩
abbrev S1024x1024 : Shape := ⟨2, ![1024, 1024]⟩
abbrev S1024x256 : Shape := ⟨2, ![1024, 256]⟩
abbrev S16x64x256 : Shape := ⟨3, ![16, 64, 256]⟩
abbrev S16x256 : Shape := ⟨2, ![16, 256]⟩
abbrev S16x1x256 : Shape := ⟨3, ![16, 1, 256]⟩
abbrev S1x64x256 : Shape := ⟨3, ![1, 64, 256]⟩
abbrev S16x8x256 : Shape := ⟨3, ![16, 8, 256]⟩
abbrev S16x48x256 : Shape := ⟨3, ![16, 48, 256]⟩
abbrev S8x16x256 : Shape := ⟨3, ![8, 16, 256]⟩
abbrev S8x128x256 : Shape := ⟨3, ![8, 128, 256]⟩
abbrev S8x144x256 : Shape := ⟨3, ![8, 144, 256]⟩
abbrev S1152x256 : Shape := ⟨2, ![1152, 256]⟩
abbrev S1x1x256x1024 : Shape := ⟨4, ![1, 1, 256, 1024]⟩
abbrev S1024x128 : Shape := ⟨2, ![1024, 128]⟩
abbrev S1x1x1x1024x128 : Shape := ⟨5, ![1, 1, 1, 1024, 128]⟩
abbrev S1152x128 : Shape := ⟨2, ![1152, 128]⟩
abbrev S1x1x1x1152x128 : Shape := ⟨5, ![1, 1, 1, 1152, 128]⟩

abbrev nBuf : Space → Nat
  | .hbm => 21
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S8192x8, .f32⟩
  | .hbm, ⟨6, _⟩ => ⟨S8192x8, .f32⟩
  | .hbm, ⟨7, _⟩ => ⟨S2048x4x8, .f32⟩
  | .hbm, ⟨8, _⟩ => ⟨S4x8x2048, .f32⟩
  | .hbm, ⟨9, _⟩ => ⟨S2048x4x8, .f32⟩
  | .hbm, ⟨10, _⟩ => ⟨S4x8x2048, .f32⟩
  | .hbm, ⟨11, _⟩ => ⟨S64x1, .f32⟩
  | .hbm, ⟨12, _⟩ => ⟨S64x256, .f32⟩
  | .hbm, ⟨13, _⟩ => ⟨S64x1, .f32⟩
  | .hbm, ⟨14, _⟩ => ⟨S64x256, .f32⟩
  | .hbm, ⟨15, _⟩ => ⟨S1x1024, .f32⟩
  | .hbm, ⟨16, _⟩ => ⟨S3072x1024, .f32⟩
  | .hbm, ⟨17, _⟩ => ⟨S3072x1024, .bf16⟩
  | .hbm, ⟨18, _⟩ => ⟨S4x4x16x1024x128, .bf16⟩
  | .hbm, ⟨19, _⟩ => ⟨S4x4x2048x1024, .bf16⟩
  | .hbm, ⟨20, _⟩ => ⟨S4x4x16x1152x128, .bf16⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x128, .f32⟩
  | .local _ .vmem, ⟨15, _⟩ => ⟨S1x1024x128, .f32⟩
  | .local _ .vmem, ⟨16, _⟩ => ⟨S1x1024, .f32⟩
  | .local _ .vmem, ⟨17, _⟩ => ⟨S3072x1024, .bf16⟩
  | .local _ .vmem, ⟨18, _⟩ => ⟨S64x256, .f32⟩
  | .local _ .vmem, ⟨19, _⟩ => ⟨S64x256, .f32⟩
  | .local _ .vmem, ⟨20, _⟩ => ⟨S4x8x256, .f32⟩
  | .local _ .vmem, ⟨21, _⟩ => ⟨S4x8x256, .f32⟩
  | .local _ .vmem, ⟨22, _⟩ => ⟨S4x8x256, .f32⟩
  | .local _ .vmem, ⟨23, _⟩ => ⟨S4x8x256, .f32⟩
  | .local _ .vmem, ⟨24, _⟩ => ⟨S1x4x2x1024x128, .bf16⟩
  | .local _ .vmem, ⟨25, _⟩ => ⟨S1x4x2x1024x128, .bf16⟩
  | .local _ .vmem, ⟨26, _⟩ => ⟨S1x4x256x1024, .bf16⟩
  | .local _ .vmem, ⟨27, _⟩ => ⟨S1x4x256x1024, .bf16⟩
  | .local _ .vmem, ⟨28, _⟩ => ⟨S1x4x2x1152x128, .bf16⟩
  | .local _ .vmem, ⟨29, _⟩ => ⟨S1x4x2x1152x128, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3072x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S4x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S4x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x4x2x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x2x1152x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Proj4ReferenceIdeal.lean ====
abbrev S4x8192x1024 : Shape := ⟨3, ![4, 8192, 1024]⟩
abbrev S1024 : Shape := ⟨1, ![1024]⟩
abbrev S1024x3072 : Shape := ⟨2, ![1024, 3072]⟩
abbrev S64 : Shape := ⟨1, ![64]⟩
abbrev S8192x8 : Shape := ⟨2, ![8192, 8]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S4x8192x16x64 : Shape := ⟨4, ![4, 8192, 16, 64]⟩
abbrev S4x8192x16 : Shape := ⟨3, ![4, 8192, 16]⟩
abbrev S4x8192x16x1 : Shape := ⟨4, ![4, 8192, 16, 1]⟩
abbrev S1x1x1x64 : Shape := ⟨4, ![1, 1, 1, 64]⟩
abbrev S4x8192x16x8 : Shape := ⟨4, ![4, 8192, 16, 8]⟩
abbrev S4x8192x16x48 : Shape := ⟨4, ![4, 8192, 16, 48]⟩
abbrev S8192x1x8 : Shape := ⟨3, ![8192, 1, 8]⟩
abbrev S1x8192x1x8 : Shape := ⟨4, ![1, 8192, 1, 8]⟩
abbrev S4x16x128x4x1024 : Shape := ⟨5, ![4, 16, 128, 4, 1024]⟩
abbrev S4x4x16x1024x128 : Shape := ⟨5, ![4, 4, 16, 1024, 128]⟩
abbrev S4x2048x4x1024 : Shape := ⟨4, ![4, 2048, 4, 1024]⟩
abbrev S4x4x2048x1024 : Shape := ⟨4, ![4, 4, 2048, 1024]⟩
abbrev S4x16x128x4x8x128 : Shape := ⟨6, ![4, 16, 128, 4, 8, 128]⟩
abbrev S4x4x16x8x128x128 : Shape := ⟨6, ![4, 4, 16, 8, 128, 128]⟩
abbrev S4x4x16x8x1x128 : Shape := ⟨6, ![4, 4, 16, 8, 1, 128]⟩
abbrev S4x4x16x8x15x128 : Shape := ⟨6, ![4, 4, 16, 8, 15, 128]⟩
abbrev S4x4x16x8x144x128 : Shape := ⟨6, ![4, 4, 16, 8, 144, 128]⟩
abbrev S4x4x16x1152x128 : Shape := ⟨5, ![4, 4, 16, 1152, 128]⟩

abbrev nBuf : Space → Nat
  | .hbm => 121
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S8192x8, .f32⟩
  | .hbm, ⟨6, _⟩ => ⟨S8192x8, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x8192x3072, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x16x64, .f32⟩
  | .hbm, ⟨28, _⟩ => ⟨S4x8192x16x64, .f32⟩
  | .hbm, ⟨29, _⟩ => ⟨S_, .f32⟩
  | .hbm, ⟨30, _⟩ => ⟨S4x8192x16, .f32⟩
  | .hbm, ⟨31, _⟩ => ⟨S4x8192x16x1, .f32⟩
  | .hbm, ⟨32, _⟩ => ⟨S_, .f32⟩
  | .hbm, ⟨33, _⟩ => ⟨S4x8192x16x1, .f32⟩
  | .hbm, ⟨34, _⟩ => ⟨S4x8192x16x1, .f32⟩
  | .hbm, ⟨35, _⟩ => ⟨S_, .f32⟩
  | .hbm, ⟨36, _⟩ => ⟨S4x8192x16x1, .f32⟩
  | .hbm, ⟨37, _⟩ => ⟨S4x8192x16x1, .f32⟩
  | .hbm, ⟨38, _⟩ => ⟨S4x8192x16x1, .f32⟩
  | .hbm, ⟨39, _⟩ => ⟨S4x8192x16x64, .f32⟩
  | .hbm, ⟨40, _⟩ => ⟨S4x8192x16x64, .f32⟩
  | .hbm, ⟨41, _⟩ => ⟨S1x1x1x64, .f32⟩
  | .hbm, ⟨42, _⟩ => ⟨S4x8192x16x64, .f32⟩
  | .hbm, ⟨43, _⟩ => ⟨S4x8192x16x64, .f32⟩
  | .hbm, ⟨44, _⟩ => ⟨S4x8192x16x8, .f32⟩
  | .hbm, ⟨45, _⟩ => ⟨S4x8192x16x8, .f32⟩
  | .hbm, ⟨46, _⟩ => ⟨S4x8192x16x48, .f32⟩
  | .hbm, ⟨47, _⟩ => ⟨S8192x1x8, .f32⟩
  | .hbm, ⟨48, _⟩ => ⟨S8192x1x8, .f32⟩
  | .hbm, ⟨49, _⟩ => ⟨S1x8192x1x8, .f32⟩
  | .hbm, ⟨50, _⟩ => ⟨S4x8192x16x8, .f32⟩
  | .hbm, ⟨51, _⟩ => ⟨S4x8192x16x8, .f32⟩
  | .hbm, ⟨52, _⟩ => ⟨S1x8192x1x8, .f32⟩
  | .hbm, ⟨53, _⟩ => ⟨S4x8192x16x8, .f32⟩
  | .hbm, ⟨54, _⟩ => ⟨S4x8192x16x8, .f32⟩
  | .hbm, ⟨55, _⟩ => ⟨S4x8192x16x8, .f32⟩
  | .hbm, ⟨56, _⟩ => ⟨S1x8192x1x8, .f32⟩
  | .hbm, ⟨57, _⟩ => ⟨S4x8192x16x8, .f32⟩
  | .hbm, ⟨58, _⟩ => ⟨S4x8192x16x8, .f32⟩
  | .hbm, ⟨59, _⟩ => ⟨S1x8192x1x8, .f32⟩
  | .hbm, ⟨60, _⟩ => ⟨S4x8192x16x8, .f32⟩
  | .hbm, ⟨61, _⟩ => ⟨S4x8192x16x8, .f32⟩
  | .hbm, ⟨62, _⟩ => ⟨S4x8192x16x8, .f32⟩
  | .hbm, ⟨63, _⟩ => ⟨S4x8192x16x64, .f32⟩
  | .hbm, ⟨64, _⟩ => ⟨S4x8192x1024, .f32⟩
  | .hbm, ⟨65, _⟩ => ⟨S_, .f32⟩
  | .hbm, ⟨66, _⟩ => ⟨S4x8192x1024, .f32⟩
  | .hbm, ⟨67, _⟩ => ⟨S4x8192x1024, .f32⟩
  | .hbm, ⟨68, _⟩ => ⟨S4x8192x16x64, .f32⟩
  | .hbm, ⟨69, _⟩ => ⟨S4x8192x16x64, .f32⟩
  | .hbm, ⟨70, _⟩ => ⟨S_, .f32⟩
  | .hbm, ⟨71, _⟩ => ⟨S4x8192x16, .f32⟩
  | .hbm, ⟨72, _⟩ => ⟨S4x8192x16x1, .f32⟩
  | .hbm, ⟨73, _⟩ => ⟨S_, .f32⟩
  | .hbm, ⟨74, _⟩ => ⟨S4x8192x16x1, .f32⟩
  | .hbm, ⟨75, _⟩ => ⟨S4x8192x16x1, .f32⟩
  | .hbm, ⟨76, _⟩ => ⟨S_, .f32⟩
  | .hbm, ⟨77, _⟩ => ⟨S4x8192x16x1, .f32⟩
  | .hbm, ⟨78, _⟩ => ⟨S4x8192x16x1, .f32⟩
  | .hbm, ⟨79, _⟩ => ⟨S4x8192x16x1, .f32⟩
  | .hbm, ⟨80, _⟩ => ⟨S4x8192x16x64, .f32⟩
  | .hbm, ⟨81, _⟩ => ⟨S4x8192x16x64, .f32⟩
  | .hbm, ⟨82, _⟩ => ⟨S1x1x1x64, .f32⟩
  | .hbm, ⟨83, _⟩ => ⟨S4x8192x16x64, .f32⟩
  | .hbm, ⟨84, _⟩ => ⟨S4x8192x16x64, .f32⟩
  | .hbm, ⟨85, _⟩ => ⟨S4x8192x16x8, .f32⟩
  | .hbm, ⟨86, _⟩ => ⟨S4x8192x16x8, .f32⟩
  | .hbm, ⟨87, _⟩ => ⟨S4x8192x16x48, .f32⟩
  | .hbm, ⟨88, _⟩ => ⟨S8192x1x8, .f32⟩
  | .hbm, ⟨89, _⟩ => ⟨S8192x1x8, .f32⟩
  | .hbm, ⟨90, _⟩ => ⟨S1x8192x1x8, .f32⟩
  | .hbm, ⟨91, _⟩ => ⟨S4x8192x16x8, .f32⟩
  | .hbm, ⟨92, _⟩ => ⟨S4x8192x16x8, .f32⟩
  | .hbm, ⟨93, _⟩ => ⟨S1x8192x1x8, .f32⟩
  | .hbm, ⟨94, _⟩ => ⟨S4x8192x16x8, .f32⟩
  | .hbm, ⟨95, _⟩ => ⟨S4x8192x16x8, .f32⟩
  | .hbm, ⟨96, _⟩ => ⟨S4x8192x16x8, .f32⟩
  | .hbm, ⟨97, _⟩ => ⟨S1x8192x1x8, .f32⟩
  | .hbm, ⟨98, _⟩ => ⟨S4x8192x16x8, .f32⟩
  | .hbm, ⟨99, _⟩ => ⟨S4x8192x16x8, .f32⟩
  | .hbm, ⟨100, _⟩ => ⟨S1x8192x1x8, .f32⟩
  | .hbm, ⟨101, _⟩ => ⟨S4x8192x16x8, .f32⟩
  | .hbm, ⟨102, _⟩ => ⟨S4x8192x16x8, .f32⟩
  | .hbm, ⟨103, _⟩ => ⟨S4x8192x16x8, .f32⟩
  | .hbm, ⟨104, _⟩ => ⟨S4x8192x16x64, .f32⟩
  | .hbm, ⟨105, _⟩ => ⟨S4x8192x1024, .f32⟩
  | .hbm, ⟨106, _⟩ => ⟨S4x16x128x4x1024, .f32⟩
  | .hbm, ⟨107, _⟩ => ⟨S4x4x16x1024x128, .f32⟩
  | .hbm, ⟨108, _⟩ => ⟨S4x2048x4x1024, .f32⟩
  | .hbm, ⟨109, _⟩ => ⟨S4x4x2048x1024, .f32⟩
  | .hbm, ⟨110, _⟩ => ⟨S4x16x128x4x8x128, .f32⟩
  | .hbm, ⟨111, _⟩ => ⟨S4x4x16x8x128x128, .f32⟩
  | .hbm, ⟨112, _⟩ => ⟨S_, .f32⟩
  | .hbm, ⟨113, _⟩ => ⟨S4x4x16x8x1x128, .f32⟩
  | .hbm, ⟨114, _⟩ => ⟨S_, .f32⟩
  | .hbm, ⟨115, _⟩ => ⟨S4x4x16x8x15x128, .f32⟩
  | .hbm, ⟨116, _⟩ => ⟨S4x4x16x8x144x128, .f32⟩
  | .hbm, ⟨117, _⟩ => ⟨S4x4x16x1152x128, .f32⟩
  | .hbm, ⟨118, _⟩ => ⟨S4x4x16x1024x128, .bf16⟩
  | .hbm, ⟨119, _⟩ => ⟨S4x4x2048x1024, .bf16⟩
  | .hbm, ⟨120, _⟩ => ⟨S4x4x16x1152x128, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_9 : Ref sig .tc := ⟨.hbm, 112, rfl⟩
abbrev main_v95 : Ref sig .tc := ⟨.hbm, 113, rfl⟩
abbrev main_cst_10 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩

abbrev nD : Nat := 1
abbrev τ : Topo := Topo.v7x

variable {F : FTy → Type} [FloatOps F]
-- ==== Proj16Kernel.lean ====
abbrev S4x8192x1024 : Shape := ⟨3, ![4, 8192, 1024]⟩
abbrev S1024 : Shape := ⟨1, ![1024]⟩
abbrev S1024x3072 : Shape := ⟨2, ![1024, 3072]⟩
abbrev S64 : Shape := ⟨1, ![64]⟩
abbrev S8192x8 : Shape := ⟨2, ![8192, 8]⟩
abbrev S512x16x8 : Shape := ⟨3, ![512, 16, 8]⟩
abbrev S16x8x512 : Shape := ⟨3, ![16, 8, 512]⟩
abbrev S64x1 : Shape := ⟨2, ![64, 1]⟩
abbrev S64x256 : Shape := ⟨2, ![64, 256]⟩
abbrev S1x1024 : Shape := ⟨2, ![1, 1024]⟩
abbrev S3072x1024 : Shape := ⟨2, ![3072, 1024]⟩
abbrev S4x16x4x1024x128 : Shape := ⟨5, ![4, 16, 4, 1024, 128]⟩
abbrev S4x16x512x1024 : Shape := ⟨4, ![4, 16, 512, 1024]⟩
abbrev S4x16x4x1152x128 : Shape := ⟨5, ![4, 16, 4, 1152, 128]⟩
abbrev S1x2048x128 : Shape := ⟨3, ![1, 2048, 128]⟩
abbrev S16x8x128 : Shape := ⟨3, ![16, 8, 128]⟩
abbrev S1x16x1x1024x128 : Shape := ⟨5, ![1, 16, 1, 1024, 128]⟩
abbrev S1x16x128x1024 : Shape := ⟨4, ![1, 16, 128, 1024]⟩
abbrev S1x16x1x1152x128 : Shape := ⟨5, ![1, 16, 1, 1152, 128]⟩
abbrev S1x128x128 : Shape := ⟨3, ![1, 128, 128]⟩
abbrev S128x128 : Shape := ⟨2, ![128, 128]⟩
abbrev S128x1024 : Shape := ⟨2, ![128, 1024]⟩
abbrev S256x1024 : Shape := ⟨2, ![256, 1024]⟩
abbrev S256 : Shape := ⟨1, ![256]⟩
abbrev S256x1 : Shape := ⟨2, ![256, 1]⟩
abbrev S1x8x128 : Shape := ⟨3, ![1, 8, 128]⟩
abbrev S8x128 : Shape := ⟨2, ![8, 128]⟩
abbrev S8x256 : Shape := ⟨2, ![8, 256]⟩
abbrev S1024x1024 : Shape := ⟨2, ![1024, 1024]⟩
abbrev S1024x256 : Shape := ⟨2, ![1024, 256]⟩
abbrev S16x64x256 : Shape := ⟨3, ![16, 64, 256]⟩
abbrev S16x256 : Shape := ⟨2, ![16, 256]⟩
abbrev S16x1x256 : Shape := ⟨3, ![16, 1, 256]⟩
abbrev S1x64x256 : Shape := ⟨3, ![1, 64, 256]⟩
abbrev S16x8x256 : Shape := ⟨3, ![16, 8, 256]⟩
abbrev S1x8x256 : Shape := ⟨3, ![1, 8, 256]⟩
abbrev S16x48x256 : Shape := ⟨3, ![16, 48, 256]⟩
abbrev S8x16x256 : Shape := ⟨3, ![8, 16, 256]⟩
abbrev S8x128x256 : Shape := ⟨3, ![8, 128, 256]⟩
abbrev S8x144x256 : Shape := ⟨3, ![8, 144, 256]⟩
abbrev S1152x256 : Shape := ⟨2, ![1152, 256]⟩
abbrev S1x1x128x1024 : Shape := ⟨4, ![1, 1, 128, 1024]⟩
abbrev S1024x128 : Shape := ⟨2, ![1024, 128]⟩
abbrev S1x1x1x1024x128 : Shape := ⟨5, ![1, 1, 1, 1024, 128]⟩
abbrev S1152x128 : Shape := ⟨2, ![1152, 128]⟩
abbrev S1x1x1x1152x128 : Shape := ⟨5, ![1, 1, 1, 1152, 128]⟩

abbrev nBuf : Space → Nat
  | .hbm => 21
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S8192x8, .f32⟩
  | .hbm, ⟨6, _⟩ => ⟨S8192x8, .f32⟩
  | .hbm, ⟨7, _⟩ => ⟨S512x16x8, .f32⟩
  | .hbm, ⟨8, _⟩ => ⟨S16x8x512, .f32⟩
  | .hbm, ⟨9, _⟩ => ⟨S512x16x8, .f32⟩
  | .hbm, ⟨10, _⟩ => ⟨S16x8x512, .f32⟩
  | .hbm, ⟨11, _⟩ => ⟨S64x1, .f32⟩
  | .hbm, ⟨12, _⟩ => ⟨S64x256, .f32⟩
  | .hbm, ⟨13, _⟩ => ⟨S64x1, .f32⟩
  | .hbm, ⟨14, _⟩ => ⟨S64x256, .f32⟩
  | .hbm, ⟨15, _⟩ => ⟨S1x1024, .f32⟩
  | .hbm, ⟨16, _⟩ => ⟨S3072x1024, .f32⟩
  | .hbm, ⟨17, _⟩ => ⟨S3072x1024, .bf16⟩
  | .hbm, ⟨18, _⟩ => ⟨S4x16x4x1024x128, .bf16⟩
  | .hbm, ⟨19, _⟩ => ⟨S4x16x512x1024, .bf16⟩
  | .hbm, ⟨20, _⟩ => ⟨S4x16x4x1152x128, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x1024, .f32⟩
  | .local _ .vmem, ⟨17, _⟩ => ⟨S3072x1024, .bf16⟩
  | .local _ .vmem, ⟨18, _⟩ => ⟨S64x256, .f32⟩
  | .local _ .vmem, ⟨19, _⟩ => ⟨S64x256, .f32⟩
  | .local _ .vmem, ⟨20, _⟩ => ⟨S16x8x128, .f32⟩
  | .local _ .vmem, ⟨21, _⟩ => ⟨S16x8x128, .f32⟩
  | .local _ .vmem, ⟨22, _⟩ => ⟨S16x8x128, .f32⟩
  | .local _ .vmem, ⟨23, _⟩ => ⟨S16x8x128, .f32⟩
  | .local _ .vmem, ⟨24, _⟩ => ⟨S1x16x1x1024x128, .bf16⟩
  | .local _ .vmem, ⟨25, _⟩ => ⟨S1x16x1x1024x128, .bf16⟩
  | .local _ .vmem, ⟨26, _⟩ => ⟨S1x16x128x1024, .bf16⟩
  | .local _ .vmem, ⟨27, _⟩ => ⟨S1x16x128x1024, .bf16⟩
  | .local _ .vmem, ⟨28, _⟩ => ⟨S1x16x1x1152x128, .bf16⟩
  | .local _ .vmem, ⟨29, _⟩ => ⟨S1x16x1x1152x128, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3072x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S16x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S16x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x16x1x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x1x1152x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Proj16ReferenceIdeal.lean ====
abbrev S4x8192x1024 : Shape := ⟨3, ![4, 8192, 1024]⟩
abbrev S1024 : Shape := ⟨1, ![1024]⟩
abbrev S1024x3072 : Shape := ⟨2, ![1024, 3072]⟩
abbrev S64 : Shape := ⟨1, ![64]⟩
abbrev S8192x8 : Shape := ⟨2, ![8192, 8]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S4x8192x16x64 : Shape := ⟨4, ![4, 8192, 16, 64]⟩
abbrev S4x8192x16 : Shape := ⟨3, ![4, 8192, 16]⟩
abbrev S4x8192x16x1 : Shape := ⟨4, ![4, 8192, 16, 1]⟩
abbrev S1x1x1x64 : Shape := ⟨4, ![1, 1, 1, 64]⟩
abbrev S4x8192x16x8 : Shape := ⟨4, ![4, 8192, 16, 8]⟩
abbrev S4x8192x16x48 : Shape := ⟨4, ![4, 8192, 16, 48]⟩
abbrev S8192x1x8 : Shape := ⟨3, ![8192, 1, 8]⟩
abbrev S1x8192x1x8 : Shape := ⟨4, ![1, 8192, 1, 8]⟩
abbrev S4x4x128x16x1024 : Shape := ⟨5, ![4, 4, 128, 16, 1024]⟩
abbrev S4x16x4x1024x128 : Shape := ⟨5, ![4, 16, 4, 1024, 128]⟩
abbrev S4x512x16x1024 : Shape := ⟨4, ![4, 512, 16, 1024]⟩
abbrev S4x16x512x1024 : Shape := ⟨4, ![4, 16, 512, 1024]⟩
abbrev S4x4x128x16x8x128 : Shape := ⟨6, ![4, 4, 128, 16, 8, 128]⟩
abbrev S4x16x4x8x128x128 : Shape := ⟨6, ![4, 16, 4, 8, 128, 128]⟩
abbrev S4x16x4x8x1x128 : Shape := ⟨6, ![4, 16, 4, 8, 1, 128]⟩
abbrev S4x16x4x8x15x128 : Shape := ⟨6, ![4, 16, 4, 8, 15, 128]⟩
abbrev S4x16x4x8x144x128 : Shape := ⟨6, ![4, 16, 4, 8, 144, 128]⟩
abbrev S4x16x4x1152x128 : Shape := ⟨5, ![4, 16, 4, 1152, 128]⟩

abbrev nBuf : Space → Nat
  | .hbm => 121
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S8192x8, .f32⟩
  | .hbm, ⟨6, _⟩ => ⟨S8192x8, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x8192x3072, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x16x64, .f32⟩
  | .hbm, ⟨28, _⟩ => ⟨S4x8192x16x64, .f32⟩
  | .hbm, ⟨29, _⟩ => ⟨S_, .f32⟩
  | .hbm, ⟨30, _⟩ => ⟨S4x8192x16, .f32⟩
  | .hbm, ⟨31, _⟩ => ⟨S4x8192x16x1, .f32⟩
  | .hbm, ⟨32, _⟩ => ⟨S_, .f32⟩
  | .hbm, ⟨33, _⟩ => ⟨S4x8192x16x1, .f32⟩
  | .hbm, ⟨34, _⟩ => ⟨S4x8192x16x1, .f32⟩
  | .hbm, ⟨35, _⟩ => ⟨S_, .f32⟩
  | .hbm, ⟨36, _⟩ => ⟨S4x8192x16x1, .f32⟩
  | .hbm, ⟨37, _⟩ => ⟨S4x8192x16x1, .f32⟩
  | .hbm, ⟨38, _⟩ => ⟨S4x8192x16x1, .f32⟩
  | .hbm, ⟨39, _⟩ => ⟨S4x8192x16x64, .f32⟩
  | .hbm, ⟨40, _⟩ => ⟨S4x8192x16x64, .f32⟩
  | .hbm, ⟨41, _⟩ => ⟨S1x1x1x64, .f32⟩
  | .hbm, ⟨42, _⟩ => ⟨S4x8192x16x64, .f32⟩
  | .hbm, ⟨43, _⟩ => ⟨S4x8192x16x64, .f32⟩
  | .hbm, ⟨44, _⟩ => ⟨S4x8192x16x8, .f32⟩
  | .hbm, ⟨45, _⟩ => ⟨S4x8192x16x8, .f32⟩
  | .hbm, ⟨46, _⟩ => ⟨S4x8192x16x48, .f32⟩
  | .hbm, ⟨47, _⟩ => ⟨S8192x1x8, .f32⟩
  | .hbm, ⟨48, _⟩ => ⟨S8192x1x8, .f32⟩
  | .hbm, ⟨49, _⟩ => ⟨S1x8192x1x8, .f32⟩
  | .hbm, ⟨50, _⟩ => ⟨S4x8192x16x8, .f32⟩
  | .hbm, ⟨51, _⟩ => ⟨S4x8192x16x8, .f32⟩
  | .hbm, ⟨52, _⟩ => ⟨S1x8192x1x8, .f32⟩
  | .hbm, ⟨53, _⟩ => ⟨S4x8192x16x8, .f32⟩
  | .hbm, ⟨54, _⟩ => ⟨S4x8192x16x8, .f32⟩
  | .hbm, ⟨55, _⟩ => ⟨S4x8192x16x8, .f32⟩
  | .hbm, ⟨56, _⟩ => ⟨S1x8192x1x8, .f32⟩
  | .hbm, ⟨57, _⟩ => ⟨S4x8192x16x8, .f32⟩
  | .hbm, ⟨58, _⟩ => ⟨S4x8192x16x8, .f32⟩
  | .hbm, ⟨59, _⟩ => ⟨S1x8192x1x8, .f32⟩
  | .hbm, ⟨60, _⟩ => ⟨S4x8192x16x8, .f32⟩
  | .hbm, ⟨61, _⟩ => ⟨S4x8192x16x8, .f32⟩
  | .hbm, ⟨62, _⟩ => ⟨S4x8192x16x8, .f32⟩
  | .hbm, ⟨63, _⟩ => ⟨S4x8192x16x64, .f32⟩
  | .hbm, ⟨64, _⟩ => ⟨S4x8192x1024, .f32⟩
  | .hbm, ⟨65, _⟩ => ⟨S_, .f32⟩
  | .hbm, ⟨66, _⟩ => ⟨S4x8192x1024, .f32⟩
  | .hbm, ⟨67, _⟩ => ⟨S4x8192x1024, .f32⟩
  | .hbm, ⟨68, _⟩ => ⟨S4x8192x16x64, .f32⟩
  | .hbm, ⟨69, _⟩ => ⟨S4x8192x16x64, .f32⟩
  | .hbm, ⟨70, _⟩ => ⟨S_, .f32⟩
  | .hbm, ⟨71, _⟩ => ⟨S4x8192x16, .f32⟩
  | .hbm, ⟨72, _⟩ => ⟨S4x8192x16x1, .f32⟩
  | .hbm, ⟨73, _⟩ => ⟨S_, .f32⟩
  | .hbm, ⟨74, _⟩ => ⟨S4x8192x16x1, .f32⟩
  | .hbm, ⟨75, _⟩ => ⟨S4x8192x16x1, .f32⟩
  | .hbm, ⟨76, _⟩ => ⟨S_, .f32⟩
  | .hbm, ⟨77, _⟩ => ⟨S4x8192x16x1, .f32⟩
  | .hbm, ⟨78, _⟩ => ⟨S4x8192x16x1, .f32⟩
  | .hbm, ⟨79, _⟩ => ⟨S4x8192x16x1, .f32⟩
  | .hbm, ⟨80, _⟩ => ⟨S4x8192x16x64, .f32⟩
  | .hbm, ⟨81, _⟩ => ⟨S4x8192x16x64, .f32⟩
  | .hbm, ⟨82, _⟩ => ⟨S1x1x1x64, .f32⟩
  | .hbm, ⟨83, _⟩ => ⟨S4x8192x16x64, .f32⟩
  | .hbm, ⟨84, _⟩ => ⟨S4x8192x16x64, .f32⟩
  | .hbm, ⟨85, _⟩ => ⟨S4x8192x16x8, .f32⟩
  | .hbm, ⟨86, _⟩ => ⟨S4x8192x16x8, .f32⟩
  | .hbm, ⟨87, _⟩ => ⟨S4x8192x16x48, .f32⟩
  | .hbm, ⟨88, _⟩ => ⟨S8192x1x8, .f32⟩
  | .hbm, ⟨89, _⟩ => ⟨S8192x1x8, .f32⟩
  | .hbm, ⟨90, _⟩ => ⟨S1x8192x1x8, .f32⟩
  | .hbm, ⟨91, _⟩ => ⟨S4x8192x16x8, .f32⟩
  | .hbm, ⟨92, _⟩ => ⟨S4x8192x16x8, .f32⟩
  | .hbm, ⟨93, _⟩ => ⟨S1x8192x1x8, .f32⟩
  | .hbm, ⟨94, _⟩ => ⟨S4x8192x16x8, .f32⟩
  | .hbm, ⟨95, _⟩ => ⟨S4x8192x16x8, .f32⟩
  | .hbm, ⟨96, _⟩ => ⟨S4x8192x16x8, .f32⟩
  | .hbm, ⟨97, _⟩ => ⟨S1x8192x1x8, .f32⟩
  | .hbm, ⟨98, _⟩ => ⟨S4x8192x16x8, .f32⟩
  | .hbm, ⟨99, _⟩ => ⟨S4x8192x16x8, .f32⟩
  | .hbm, ⟨100, _⟩ => ⟨S1x8192x1x8, .f32⟩
  | .hbm, ⟨101, _⟩ => ⟨S4x8192x16x8, .f32⟩
  | .hbm, ⟨102, _⟩ => ⟨S4x8192x16x8, .f32⟩
  | .hbm, ⟨103, _⟩ => ⟨S4x8192x16x8, .f32⟩
  | .hbm, ⟨104, _⟩ => ⟨S4x8192x16x64, .f32⟩
  | .hbm, ⟨105, _⟩ => ⟨S4x8192x1024, .f32⟩
  | .hbm, ⟨106, _⟩ => ⟨S4x4x128x16x1024, .f32⟩
  | .hbm, ⟨107, _⟩ => ⟨S4x16x4x1024x128, .f32⟩
  | .hbm, ⟨108, _⟩ => ⟨S4x512x16x1024, .f32⟩
  | .hbm, ⟨109, _⟩ => ⟨S4x16x512x1024, .f32⟩
  | .hbm, ⟨110, _⟩ => ⟨S4x4x128x16x8x128, .f32⟩
  | .hbm, ⟨111, _⟩ => ⟨S4x16x4x8x128x128, .f32⟩
  | .hbm, ⟨112, _⟩ => ⟨S_, .f32⟩
  | .hbm, ⟨113, _⟩ => ⟨S4x16x4x8x1x128, .f32⟩
  | .hbm, ⟨114, _⟩ => ⟨S_, .f32⟩
  | .hbm, ⟨115, _⟩ => ⟨S4x16x4x8x15x128, .f32⟩
  | .hbm, ⟨116, _⟩ => ⟨S4x16x4x8x144x128, .f32⟩
  | .hbm, ⟨117, _⟩ => ⟨S4x16x4x1152x128, .f32⟩
  | .hbm, ⟨118, _⟩ => ⟨S4x16x4x1024x128, .bf16⟩
  | .hbm, ⟨119, _⟩ => ⟨S4x16x512x1024, .bf16⟩
  | .hbm, ⟨120, _⟩ => ⟨S4x16x4x1152x128, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_9 : Ref sig .tc := ⟨.hbm, 112, rfl⟩
abbrev main_v95 : Ref sig .tc := ⟨.hbm, 113, rfl⟩
abbrev main_cst_10 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩

abbrev nD : Nat := 1
abbrev τ : Topo := Topo.v7x

variable {F : FTy → Type} [FloatOps F]
-- ==== Proof.Pre.lean ====
/-  What the precondition says: every query and every key is a real number. -/
module

public import proofs.«01_k».proof.Pre_finite_queries_and_keys
public import Idealize.ShloMosaic.PureOps.Ideal
public import Idealize.ShloMosaic.Lib.Pipeline.ValueKit
public import Idealize.ShloMosaic.Lib.ReduceAll
public import Idealize.ShloMosaic.Lib.Pointwise

@[expose] public section

set_option maxRecDepth 65536

noncomputable section

namespace Cert.Pre_finite_queries_and_keys.Attn

open Idealize.ShloMosaic Cert.Pre_finite_queries_and_keys

instance facts : Facts where
  bcast_S_S4x8192x1024 := by decide
  reducesTo_S4x8192x1024_S_d0_1_2 := by decide
  h_S_ := by decide
  bcast_S_S4x8192x256 := by decide
  reducesTo_S4x8192x256_S_d0_1_2 := by decide

theorem ofBits_inf : Ideal.ofBits .f32 0x7F800000#32 = ⊤ := by simp [Ideal.ofBits, Ideal.ieee]

/-- An entry below infinity in absolute value is a real number. -/
theorem real_of_abs (x : EReal) (h : (FloatOps.cmpf .olt (FloatOps.absf (F := Ideal) (φ := .f32) x) (⊤ : EReal) : BitVec 1) = 1#1) :
    ∃ r : ℝ, x = (r : EReal) := by
  induction x with
  | bot => simp [FloatOps.cmpf, FloatOps.absf, Ideal.cmp] at h
  | top => simp [FloatOps.cmpf, FloatOps.absf, Ideal.cmp] at h
  | coe r => exact ⟨r, rfl⟩

theorem finite {q : FVec Ideal S4x8192x1024 .f32} {k v : FVec Ideal S4x8192x256 .f32} (h : fn q k v = fun _ => 1#1) :
    (∀ i, ∃ r : ℝ, q i = (r : EReal)) ∧ ∀ i, ∃ r : ℝ, k i = (r : EReal) := by
  have h0 := congrFun h (Shape.Idx.first Facts.h_S_)
  unfold fn at h0
  obtain ⟨hq, hk⟩ := IntOp.andi_eq_one.1 h0
  have : Subsingleton S_.Idx := ⟨fun a b => funext fun k => k.elim0⟩
  refine ⟨fun i => ?_, fun i => ?_⟩
  · have e := Host.reduce_andi_all _ _ _ _ _ hq i
    refine real_of_abs _ ?_
    rw [← ofBits_inf]
    exact e
  · have e := Host.reduce_andi_all _ _ _ _ _ hk i
    refine real_of_abs _ ?_
    rw [← ofBits_inf]
    exact e

end Cert.Pre_finite_queries_and_keys.Attn

end
-- ==== Proof.Body.lean ====
/-  The kernel's body as the source writes it: a pass over sixteen key groups and four query tiles that
    keeps the exponentials of the scores, and the pass that follows when a denominator left the safe range,
    which keeps the running maximum. The printed body is this program. -/
module

public import proofs.«01_k».proof.Proof.Gen.KernelIdeal.Skeleton

@[expose] public section

set_option maxRecDepth 65536

noncomputable section

namespace Cert.KernelIdeal.Attn

open Cert.KernelIdeal Cert.KernelIdeal.Gen
open Idealize.ShloMosaic Idealize.SL.Sem

variable {F : FTy → Type} [FloatOps F]

/-- The programs of the kernel's core. -/
abbrev Body (α : Type) := Prog (TpuEff nD τ sig (Elt F) Λ₀ .tc) α

/-! ## The rectangles -/

theorem inbK (u : Fin 16) : ∀ a, (![0, 512 * u.val, 0] : Fin 3 → Nat) a + S1x512x128.size a ≤ S1x8192x128.size a := by
  revert u; decide
/-- The 512 keys of group `u`. -/
abbrev rK (u : Fin 16) : Rect S1x8192x128 := Rect.unit (s := S1x8192x128) ![0, 512 * u.val, 0] S1x512x128.size (inbK u)

theorem inbV (u : Fin 16) : ∀ a, (![0, 0, u.val, 0, 0] : Fin 5 → Nat) a + S1x1x1x80x512.size a ≤ S1x1x16x80x512.size a := by
  revert u; decide
/-- The values of group `u`, with their row of ones. -/
abbrev rV (u : Fin 16) : Rect S1x1x16x80x512 := Rect.unit (s := S1x1x16x80x512) ![0, 0, u.val, 0, 0] S1x1x1x80x512.size (inbV u)

theorem inbW (u : Fin 16) : ∀ a, (![0, 0, u.val, 0, 0] : Fin 5 → Nat) a + S1x1x1x64x512.size a ≤ S1x1x16x80x512.size a := by
  revert u; decide
/-- The values of group `u` alone. -/
abbrev rW (u : Fin 16) : Rect S1x1x16x80x512 := Rect.unit (s := S1x1x16x80x512) ![0, 0, u.val, 0, 0] S1x1x1x64x512.size (inbW u)

theorem inbQ (j : Fin 4) : ∀ a, (![0, 512 * j.val] : Fin 2 → Nat) a + S128x512.size a ≤ S128x2048.size a := by
  revert j; decide
/-- The masked queries of tile `j`. -/
abbrev rQ (j : Fin 4) : Rect S128x2048 := Rect.unit (s := S128x2048) ![0, 512 * j.val] S128x512.size (inbQ j)

theorem inbO (j : Fin 4) : ∀ a, (![0, 64 * j.val, 0] : Fin 3 → Nat) a + S1x64x512.size a ≤ S1x256x512.size a := by
  revert j; decide
/-- Head `j` of the group, in a block of queries or results. -/
abbrev rO (j : Fin 4) : Rect S1x256x512 := Rect.unit (s := S1x256x512) ![0, 64 * j.val, 0] S1x64x512.size (inbO j)

theorem inbP (b : Fin 2) (j : Fin 4) : ∀ a, (![b.val, j.val, 0, 0] : Fin 4 → Nat) a + S1x1x512x512.size a ≤ S2x4x512x512.size a := by
  revert b j; decide
/-- The exponentials kept in slot `b` for tile `j`. -/
abbrev rP (b : Fin 2) (j : Fin 4) : Rect S2x4x512x512 := Rect.unit (s := S2x4x512x512) ![b.val, j.val, 0, 0] S1x1x512x512.size (inbP b j)

theorem inbA (j : Fin 4) : ∀ a, (![0, 512 * j.val] : Fin 2 → Nat) a + S80x512.size a ≤ S80x2048.size a := by
  revert j; decide
/-- The sums of tile `j`. -/
abbrev rA (j : Fin 4) : Rect S80x2048 := Rect.unit (s := S80x2048) ![0, 512 * j.val] S80x512.size (inbA j)

theorem inbS (b : Fin 2) : ∀ a, (![b.val, 0, 0] : Fin 3 → Nat) a + S1x512x2048.size a ≤ S2x512x2048.size a := by
  revert b; decide
/-- The scores kept in slot `b`. -/
abbrev rS (b : Fin 2) : Rect S2x512x2048 := Rect.unit (s := S2x512x2048) ![b.val, 0, 0] S1x512x2048.size (inbS b)

theorem inbC (b : Fin 2) : ∀ a, (![b.val, 0, 0] : Fin 3 → Nat) a + S1x1x2048.size a ≤ S2x1x2048.size a := by
  revert b; decide
/-- The column maxima kept in slot `b`. -/
abbrev rC (b : Fin 2) : Rect S2x1x2048 := Rect.unit (s := S2x1x2048) ![b.val, 0, 0] S1x1x2048.size (inbC b)

theorem packQ (j : Fin 4) : (rQ j).PackedRows (EltTy.packing .bf16) := by revert j; decide
theorem packO (j : Fin 4) : (rO j).PackedRows (EltTy.packing .bf16) := by revert j; decide
theorem packP (b : Fin 2) (j : Fin 4) : (rP b j).PackedRows (EltTy.packing .bf16) := by revert b j; decide

/-! ## Loads and stores -/

section mem
variable (a3 : Memref sig .tc .vmem S1x256x512 .bf16) (h3 : a3.IsWhole) (a4 : Memref sig .tc .vmem S1x8192x128 .bf16) (h4 : a4.IsWhole)
  (a5 : Memref sig .tc .vmem S1x1x16x80x512 .bf16) (h5 : a5.IsWhole) (a6 : Memref sig .tc .vmem S1x256x512 .bf16) (h6 : a6.IsWhole)
  (a7 : Memref sig .tc .vmem S128x2048 .bf16) (h7 : a7.IsWhole) (a8 : Memref sig .tc .vmem S80x2048 .f32) (h8 : a8.IsWhole)
  (a9 : Memref sig .tc .vmem S2x4x512x512 .bf16) (h9 : a9.IsWhole) (a10 : Memref sig .tc .vmem S2x512x2048 .f32) (h10 : a10.IsWhole)
  (a11 : Memref sig .tc .vmem S2x1x2048 .f32) (h11 : a11.IsWhole) (a12 : Memref sig .tc .vmem S1x2048 .f32) (h12 : a12.IsWhole)
  (a13 : Memref sig .tc .vmem S1x2048 .f32) (h13 : a13.IsWhole) (a14 : Memref sig .tc .vmem S64x2048 .f32) (h14 : a14.IsWhole)

abbrev r8 : Rect S80x2048 := Rect.unit (s := S80x2048) ![0, 0] S80x2048.size inb_S80x2048_S80x2048_0_0
abbrev r8d : Rect S80x2048 := Rect.unit (s := S80x2048) ![64, 0] S1x2048.size inb_S80x2048_S1x2048_64_0
abbrev r8n : Rect S80x2048 := Rect.unit (s := S80x2048) ![0, 0] S64x2048.size inb_S80x2048_S64x2048_0_0
abbrev r7 : Rect S128x2048 := Rect.unit (s := S128x2048) ![0, 0] S128x2048.size inb_S128x2048_S128x2048_0_0
abbrev r12 : Rect S1x2048 := Rect.unit (s := S1x2048) ![0, 0] S1x2048.size inb_S1x2048_S1x2048_0_0
abbrev r14 : Rect S64x2048 := Rect.unit (s := S64x2048) ![0, 0] S64x2048.size inb_S64x2048_S64x2048_0_0

def ldK (u : Fin 16) : Body (F := F) (Vec F S1x512x128 .bf16) := Prog.lift (.load a4 (rK u).toLoadRect (View.loadsAt_vmem h_S1x512x128))
def ldV (u : Fin 16) : Body (F := F) (Vec F S1x1x1x80x512 .bf16) := Prog.lift (.load a5 (rV u).toLoadRect (View.loadsAt_vmem h_S1x1x1x80x512))
def ldW (u : Fin 16) : Body (F := F) (Vec F S1x1x1x64x512 .bf16) := Prog.lift (.load a5 (rW u).toLoadRect (View.loadsAt_vmem h_S1x1x1x64x512))
def ldI (j : Fin 4) : Body (F := F) (Vec F S1x64x512 .bf16) := Prog.lift (.load a3 (rO j).toLoadRect (View.loadsAt_vmem h_S1x64x512))
def ldQ (j : Fin 4) : Body (F := F) (Vec F S128x512 .bf16) := Prog.lift (.load a7 (rQ j).toLoadRect (View.loadsAt_vmem h_S128x512))
def ld7 : Body (F := F) (Vec F S128x2048 .bf16) := Prog.lift (.load a7 r7.toLoadRect (View.loadsAt_vmem h_S128x2048))
def ldP (b : Fin 2) (j : Fin 4) : Body (F := F) (Vec F S1x1x512x512 .bf16) := Prog.lift (.load a9 (rP b j).toLoadRect (View.loadsAt_vmem h_S1x1x512x512))
def ldA (j : Fin 4) : Body (F := F) (Vec F S80x512 .f32) := Prog.lift (.load a8 (rA j).toLoadRect (View.loadsAt_vmem h_S80x512))
def ld8 : Body (F := F) (Vec F S80x2048 .f32) := Prog.lift (.load a8 r8.toLoadRect (View.loadsAt_vmem h_S80x2048))
def ldD : Body (F := F) (Vec F S1x2048 .f32) := Prog.lift (.load a8 r8d.toLoadRect (View.loadsAt_vmem h_S1x2048))
def ldN : Body (F := F) (Vec F S64x2048 .f32) := Prog.lift (.load a8 r8n.toLoadRect (View.loadsAt_vmem h_S64x2048))
def ldS (b : Fin 2) : Body (F := F) (Vec F S1x512x2048 .f32) := Prog.lift (.load a10 (rS b).toLoadRect (View.loadsAt_vmem h_S1x512x2048))
def ldC (b : Fin 2) : Body (F := F) (Vec F S1x1x2048 .f32) := Prog.lift (.load a11 (rC b).toLoadRect (View.loadsAt_vmem h_S1x1x2048))
def ld12 : Body (F := F) (Vec F S1x2048 .f32) := Prog.lift (.load a12 r12.toLoadRect (View.loadsAt_vmem h_S1x2048))
def ld14 : Body (F := F) (Vec F S64x2048 .f32) := Prog.lift (.load a14 r14.toLoadRect (View.loadsAt_vmem h_S64x2048))

def stQ (j : Fin 4) (w : FVec F S128x512 .bf16) : Body (F := F) PUnit :=
  Prog.lift (.store a7 (rQ j) w Finset.univ (View.stores_vmem h_S128x512 (h7.storeExact_slice rfl _ (packQ j)) (fun _ => rfl)) (.inl rfl))
def stP (b : Fin 2) (j : Fin 4) (w : FVec F S1x1x512x512 .bf16) : Body (F := F) PUnit :=
  Prog.lift (.store a9 (rP b j) w Finset.univ (View.stores_vmem h_S1x1x512x512 (h9.storeExact_slice rfl _ (packP b j)) (fun _ => rfl)) (.inl rfl))
def stO (j : Fin 4) (w : FVec F S1x64x512 .bf16) : Body (F := F) PUnit :=
  Prog.lift (.store a6 (rO j) w Finset.univ (View.stores_vmem h_S1x64x512 (h6.storeExact_slice rfl _ (packO j)) (fun _ => rfl)) (.inl rfl))
def stA (j : Fin 4) (w : FVec F S80x512 .f32) : Body (F := F) PUnit :=
  Prog.lift (.store a8 (rA j) w Finset.univ (View.stores_vmem_bits_univ h_S80x512 rfl) (.inl rfl))
def st8 (w : FVec F S80x2048 .f32) : Body (F := F) PUnit :=
  Prog.lift (.store a8 r8 w Finset.univ (View.stores_vmem_bits_univ h_S80x2048 rfl) (.inl rfl))
def stS (b : Fin 2) (w : FVec F S1x512x2048 .f32) : Body (F := F) PUnit :=
  Prog.lift (.store a10 (rS b) w Finset.univ (View.stores_vmem_bits_univ h_S1x512x2048 rfl) (.inl rfl))
def stC (b : Fin 2) (w : FVec F S1x1x2048 .f32) : Body (F := F) PUnit :=
  Prog.lift (.store a11 (rC b) w Finset.univ (View.stores_vmem_bits_univ h_S1x1x2048 rfl) (.inl rfl))
def st12 (w : FVec F S1x2048 .f32) : Body (F := F) PUnit :=
  Prog.lift (.store a12 r12 w Finset.univ (View.stores_vmem_bits_univ h_S1x2048 rfl) (.inl rfl))
def st14 (w : FVec F S64x2048 .f32) : Body (F := F) PUnit :=
  Prog.lift (.store a14 r14 w Finset.univ (View.stores_vmem_bits_univ h_S64x2048 rfl) (.inl rfl))

/-! ## The values -/

/-- A head's queries, in the rows of the lane half its keys lie in; zeros in the other half's. -/
def maskQ (i : grid0.Coords) (q : Vec F S1x64x512 .bf16) : FVec F S128x512 .bf16 := k0_pay54 (k0_pay51 i) q
/-- The exponentials of one key group's scores against one tile of queries. -/
def expo (k : Vec F S1x512x128 .bf16) (q : Vec F S128x512 .bf16) : FVec F S1x1x512x512 .bf16 := k0_pay59 k q
/-- What one key group adds to the sums of a tile. -/
def part (v : Vec F S1x1x1x80x512 .bf16) (p : Vec F S1x1x512x512 .bf16) : FVec F S80x512 .f32 := k0_pay64 v p
/-- The sum of the parts so far with one more. -/
def addPart (s : Option (FVec F S80x512 .f32)) (d : FVec F S80x512 .f32) : FVec F S80x512 .f32 :=
  match s with
  | none => d
  | some x => addf x d
/-- A tile's accumulator with its parts added. -/
def total (s a : FVec F S80x512 .f32) (d : FVec F S80x512 .f32) : FVec F S80x512 .f32 :=
  shapeCast S80x512 (addf a (addf s d)) shapeCasts_S80x512_S80x512
/-- Head `j` of the quotients, as the result's type. -/
def head (j : Fin 4) (o : FVec F S64x2048 .f32) : FVec F S1x64x512 .bf16 :=
  shapeCast S1x64x512 (truncf .bf16 (match j with
    | 0 => extractStridedSlice S64x512 ![0, 0] o slices_S64x2048_o0_0_S64x512
    | 1 => extractStridedSlice S64x512 ![0, 512] o slices_S64x2048_o0_512_S64x512
    | 2 => extractStridedSlice S64x512 ![0, 1024] o slices_S64x2048_o0_1024_S64x512
    | 3 => extractStridedSlice S64x512 ![0, 1536] o slices_S64x2048_o0_1536_S64x512) bitsLt_bf16_f32) shapeCasts_S64x512_S1x64x512
/-- Whether every denominator lies in the safe range. -/
def safe (d : Vec F S1x2048 .f32) : BitVec 1 :=
  Scalar.andi (Scalar.cmpf .ole (k0_pay241 d) (Scalar.ofBits .f32 0x5F800000#32)) (Scalar.cmpf .oge (k0_pay242 d) (Scalar.ofBits .f32 0x1F800000#32))

/-! ## The programs -/

/-- Query head `j` masked into the scratch. -/
def putQ (i : grid0.Coords) (j : Fin 4) : Body (F := F) PUnit := do
  let q ← ldI a3 j
  let _ ← ldQ a7 j
  stQ a7 h7 j (maskQ i q)

/-- The slot of key group `u`. -/
def slot (u : Nat) : Fin 2 := ⟨u % 2, Nat.mod_lt u (by decide)⟩

/-- The first key group, one tile. -/
def tile0 (k : Vec F S1x512x128 .bf16) (j : Fin 4) : Body (F := F) PUnit := do
  let q ← ldQ a7 j
  let _ ← ldP a9 0 j
  stP a9 h9 0 j (expo k q)

/-- Key group `u + 1`, one tile: its exponentials, and the parts of group `u`. -/
def tile (u : Fin 15) (k : Vec F S1x512x128 .bf16) (j : Fin 4) (s : Option (FVec F S80x512 .f32)) : Body (F := F) (FVec F S80x512 .f32) := do
  let q ← ldQ a7 j
  let v ← ldV a5 u.castSucc
  let p ← ldP a9 (slot u.val) j
  let _ ← ldP a9 (slot (u.val + 1)) j
  stP a9 h9 (slot (u.val + 1)) j (expo k q)
  pure (addPart s (part v p))

/-- Key group `u + 1`: the four tiles. -/
def group (u : Fin 15) (s0 s1 s2 s3 : Option (FVec F S80x512 .f32))
    (k : (s0 s1 s2 s3 : Option (FVec F S80x512 .f32)) → Body (F := F) PUnit) : Body (F := F) PUnit := do
  let x ← ldK a4 u.succ
  let r0 ← tile a5 a7 a9 h9 u x 0 s0
  let r1 ← tile a5 a7 a9 h9 u x 1 s1
  let r2 ← tile a5 a7 a9 h9 u x 2 s2
  let r3 ← tile a5 a7 a9 h9 u x 3 s3
  k (some r0) (some r1) (some r2) (some r3)

/-- The key groups after the first, in order. -/
def groups : List (Fin 15) → (s0 s1 s2 s3 : Option (FVec F S80x512 .f32)) →
    ((s0 s1 s2 s3 : Option (FVec F S80x512 .f32)) → Body (F := F) PUnit) → Body (F := F) PUnit
  | [], s0, s1, s2, s3, k => k s0 s1 s2 s3
  | u :: us, s0, s1, s2, s3, k => group a4 a5 a7 a9 h9 u s0 s1 s2 s3 fun r0 r1 r2 r3 => groups us r0 r1 r2 r3 k

/-- The last group's parts and the accumulator, one tile. -/
def finish (j : Fin 4) (s : Option (FVec F S80x512 .f32)) : Body (F := F) PUnit := do
  let a ← ldA a8 j
  let v ← ldV a5 15
  let p ← ldP a9 1 j
  let _ ← ldA a8 j
  stA a8 j (total (s.getD a) a (part v p))

/-- One head of the result. -/
def putO (j : Fin 4) (o : FVec F S64x2048 .f32) : Body (F := F) PUnit := do
  let _ ← ldI a6 j
  stO a6 h6 j (head j o)

/-- The four heads of the result. -/
def putOs (o : FVec F S64x2048 .f32) : Body (F := F) PUnit := do
  putO a6 h6 0 o
  putO a6 h6 1 o
  putO a6 h6 2 o
  putO a6 h6 3 o

/-- The first pass: the sums of the exponentials. -/
def plain (i : grid0.Coords) : Body (F := F) PUnit := do
  putQ a3 a7 h7 i 0
  putQ a3 a7 h7 i 1
  putQ a3 a7 h7 i 2
  putQ a3 a7 h7 i 3
  let _ ← ld8 a8
  st8 a8 k0_pay57
  let k ← ldK a4 0
  tile0 a7 a9 h9 k 0
  tile0 a7 a9 h9 k 1
  tile0 a7 a9 h9 k 2
  tile0 a7 a9 h9 k 3
  groups a4 a5 a7 a9 h9 [0, 1, 2, 3, 4, 5, 6, 7, 8, 9, 10, 11, 12, 13, 14] none none none none fun s0 s1 s2 s3 => do
    finish a5 a8 a9 0 s0
    finish a5 a8 a9 1 s1
    finish a5 a8 a9 2 s2
    finish a5 a8 a9 3 s3

/-- The scores of key group `u` and their column maxima, kept in slot `b`. -/
def scores (u : Fin 16) (b : Fin 2) : Body (F := F) PUnit := do
  let k ← ldK a4 u
  let q ← ld7 a7
  let _ ← ldS a10 b
  stS a10 b (k0_pay4 k q)
  let _ ← ldC a11 b
  stC a11 b (k0_pay5 k q)

/-- The scores kept in slot `b`, those of key group `u`, absorbed into the running maximum, sum and values. -/
def absorb (u : Fin 16) (b : Fin 2) : Body (F := F) PUnit := do
  let m ← ld12 a12
  let cm ← ldC a11 b
  let s ← ldS a10 b
  let l ← ld12 a13
  let _ ← ld12 a13
  st12 a13 (k0_pay21 m cm s l)
  let acc ← ld14 a14
  let v ← ldW a5 u
  let _ ← ld14 a14
  st14 a14 (k0_pay29 (k0_pay22 m cm s acc v))
  let _ ← ld12 a12
  st12 a12 (k0_pay13 (k0_pay6 m cm))

/-- The pass with a running maximum, up to its loop. -/
def online0 : Body (F := F) PUnit := do
  let _ ← ld12 a12
  st12 a12 k0_pay23
  let _ ← ld12 a13
  st12 a13 k0_pay24
  let _ ← ld14 a14
  st14 a14 k0_pay25
  scores a4 a7 a10 a11 0 0

/-- One trip of its loop: two key groups. -/
def online1 (t : Fin 7) : Body (F := F) PUnit := do
  scores a4 a7 a10 a11 ⟨2 * t.val + 1, by omega⟩ 1
  absorb a5 a10 a11 a12 a13 a14 ⟨2 * t.val, by omega⟩ 0
  scores a4 a7 a10 a11 ⟨2 * t.val + 2, by omega⟩ 0
  absorb a5 a10 a11 a12 a13 a14 ⟨2 * t.val + 1, by omega⟩ 1

/-- After its loop: the last two key groups, and the quotients. -/
def online2 : Body (F := F) PUnit := do
  scores a4 a7 a10 a11 15 1
  absorb a5 a10 a11 a12 a13 a14 14 0
  absorb a5 a10 a11 a12 a13 a14 15 1
  let acc ← ld14 a14
  let l ← ld12 a13
  putOs a6 h6 (k0_pay47 acc l)

/-- What follows the sums, by whether the denominators `d` are safe. -/
def rest (i : grid0.Coords) (d : Vec F S1x2048 .f32) (b : BitVec 1) : Body (F := F) PUnit := do
  if Scalar.cmpi .ne (Scalar.extui b : BitVec 32) 0#32 = 1#1 then do
    let n ← ldN a8
    putOs a6 h6 (k0_pay243 d n)
  else pure ⟨⟩
  if Scalar.cmpi .ne (Scalar.extui (Scalar.xori b 1#1) : BitVec 32) 0#32 = 1#1 then do
    online0 a4 a7 a10 a11 a12 a13 a14
    Scf.Loop.for k0_t1_loop k0_t1_ok ⟨⟩ (k0_t1_body i a3 h3 a4 h4 a5 h5 a6 h6 a7 h7 a8 h8 a9 h9 a10 h10 a11 h11 a12 h12 a13 h13 a14 h14)
    online2 a4 a5 a6 h6 a7 a10 a11 a12 a13 a14
    pure ⟨⟩
  else pure ⟨⟩
  pure ⟨⟩

/-- The body. -/
def body (i : grid0.Coords) : Body (F := F) PUnit := do
  plain a3 a4 a5 a7 h7 a8 a9 h9 i
  let d ← ldD a8
  rest a3 h3 a4 h4 a5 h5 a6 h6 a7 h7 a8 h8 a9 h9 a10 h10 a11 h11 a12 h12 a13 h13 a14 h14 i d (safe d)

/-- The quotients of the first pass, as the printed part has them. -/
def tailA (d : Vec F S1x2048 .f32) (b : BitVec 1) : Body (F := F) (BitVec 32) := do
  if Scalar.cmpi .ne (Scalar.extui b : BitVec 32) 0#32 = 1#1 then do
    let n ← ldN a8
    let _ ← ldI a6 0
    stO a6 h6 0 (k0_pay244 d n)
    let _ ← ldI a6 1
    stO a6 h6 1 (k0_pay245 d n)
    let _ ← ldI a6 2
    stO a6 h6 2 (k0_pay246 d n)
    let _ ← ldI a6 3
    stO a6 h6 3 (k0_pay247 d n)
    pure ⟨⟩
  else pure ⟨⟩
  pure (Scalar.extui (Scalar.xori b 1#1))

/-- The second pass, as the printed body has it. -/
def tailB (i : grid0.Coords) (w : BitVec 32) : Body (F := F) PUnit := do
  if Scalar.cmpi .ne w 0#32 = 1#1 then do
    let c ← k0_part4 i a3 h3 a4 h4 a5 h5 a6 h6 a7 h7 a8 h8 a9 h9 a10 h10 a11 h11 a12 h12 a13 h13 a14 h14
    let ⟨v1238, v1243, v1245, v1253⟩ ← k0_part5 i a3 h3 a4 h4 a5 h5 a6 h6 a7 h7 a8 h8 a9 h9 a10 h10 a11 h11 a12 h12 a13 h13 a14 h14 c
    let ⟨v1271, v1276, v1278, v1283⟩ ← k0_part6 i a3 h3 a4 h4 a5 h5 a6 h6 a7 h7 a8 h8 a9 h9 a10 h10 a11 h11 a12 h12 a13 h13 a14 h14 v1238 v1243 v1245 v1253
    let ⟨v1304, v1316⟩ ← k0_part7 i a3 h3 a4 h4 a5 h5 a6 h6 a7 h7 a8 h8 a9 h9 a10 h10 a11 h11 a12 h12 a13 h13 a14 h14 v1271 v1276 v1278 v1283
    let _ ← ldI a6 2
    stO a6 h6 2 (k0_pay1 v1316)
    let _ ← ldI a6 3
    stO a6 h6 3 (k0_pay2 v1304)
    pure ⟨⟩
  else pure ⟨⟩
  pure ⟨⟩

theorem trip_eq (i : grid0.Coords) (t : Fin 7) :
    k0_t1_body (F := F) i a3 h3 a4 h4 a5 h5 a6 h6 a7 h7 a8 h8 a9 h9 a10 h10 a11 h11 a12 h12 a13 h13 a14 h14 t ⟨⟩
      = online1 a4 a5 a7 a10 a11 a12 a13 a14 t := by
  simp only [k0_t1_body, k0_part1_eq_skeleton, k0_part2_eq_skeleton, k0_part3_eq_skeleton]
  fin_cases t <;> rfl

theorem step {α : Type} {β : Type} {p p' : Body (F := F) α} {e : TpuEff nD τ sig (Elt F) Λ₀ .tc β} {k k' : β → Body (F := F) α}
    (h : p = .op e k) (h' : p' = .op e k') (hk : ∀ x, k x = k' x) : p = p' := by
  rw [h, h', funext hk]

theorem step_bind {α β γ : Type} {p p' : Body (F := F) β} {f : β → Body (F := F) γ} {g : γ → Body (F := F) α} {k' : β → Body (F := F) α}
    (h : p = p') (hk : ∀ x, Prog.bind (f x) g = k' x) : Prog.bind (Prog.bind p f) g = Prog.bind p' k' :=
  (Prog.bind_assoc p f g).trans (by rw [h, ← funext hk]; rfl)

theorem bit_cases (b : BitVec 1) : b = 0#1 ∨ b = 1#1 := by
  revert b; decide

set_option maxHeartbeats 0 in
theorem tail_eq (i : grid0.Coords) (d : Vec F S1x2048 .f32) (b : BitVec 1) :
    Prog.bind (tailA (F := F) a6 h6 a8 d b) (tailB a3 h3 a4 h4 a5 h5 a6 h6 a7 h7 a8 h8 a9 h9 a10 h10 a11 h11 a12 h12 a13 h13 a14 h14 i) = rest a3 h3 a4 h4 a5 h5 a6 h6 a7 h7 a8 h8 a9 h9 a10 h10 a11 h11 a12 h12 a13 h13 a14 h14 i d b := by
  rcases bit_cases b with rfl | rfl
  · iterate 12 refine step rfl rfl fun _ => ?_
    simp only [bind, Prog.bind]
    refine step_bind (F := F) rfl fun _ => ?_
    iterate 40 refine step rfl rfl fun _ => ?_
    rfl
  · iterate 9 refine step rfl rfl fun _ => ?_
    rfl

set_option maxHeartbeats 0 in
theorem body_eq (i : grid0.Coords) :
    cc0_c_attn_skel (F := F) i a3 h3 a4 h4 a5 h5 a6 h6 a7 h7 a8 h8 a9 h9 a10 h10 a11 h11 a12 h12 a13 h13 a14 h14
      = body a3 h3 a4 h4 a5 h5 a6 h6 a7 h7 a8 h8 a9 h9 a10 h10 a11 h11 a12 h12 a13 h13 a14 h14 i := by
  iterate 363 refine step rfl rfl fun _ => ?_
  rename_i d
  refine Eq.trans (b := Prog.bind (tailA (F := F) a6 h6 a8 d (safe d)) (tailB a3 h3 a4 h4 a5 h5 a6 h6 a7 h7 a8 h8 a9 h9 a10 h10 a11 h11 a12 h12 a13 h13 a14 h14 i)) rfl ?_
  exact tail_eq a3 h3 a4 h4 a5 h5 a6 h6 a7 h7 a8 h8 a9 h9 a10 h10 a11 h11 a12 h12 a13 h13 a14 h14 i d (safe d)

end mem

end Cert.KernelIdeal.Attn

end
-- ==== Proof.State.lean ====
/-  What the kernel's buffers hold, tile by tile, and how its loads and stores act on that. -/
module

public import proofs.«01_k».proof.Proof.Body
public import Idealize.ShloMosaic.Lib.VecWindow

@[expose] public section

set_option maxRecDepth 65536

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Arrays as families of tiles -/

/-- Windows of one size that partition a shape. -/
structure Tiling (s : Shape) (T : Type) where
  off : T → Fin s.rank → ℕ
  size : Fin s.rank → ℕ
  inb : ∀ t a, off t a + size a ≤ s.size a
  find : s.Idx → T
  lo : ∀ y a, off (find y) a ≤ (y a).val
  hi : ∀ y a, (y a).val < off (find y) a + size a
  uniq : ∀ y t, (∀ a, off t a ≤ (y a).val ∧ (y a).val < off t a + size a) → find y = t

namespace Tiling
variable {s : Shape} {T : Type} (t : Tiling s T) {α : Type}

/-- A tile's payloads. -/
abbrev Tile (α : Type) := ((a : Fin s.rank) → Fin (t.size a)) → α

/-- The array whose tiles are `f`. -/
def glue (f : T → t.Tile α) : s.Idx → α :=
  fun y => f (t.find y) (Rect.unitLocal (s := s) (off := t.off (t.find y)) (size := t.size) y fun a => ⟨t.lo y a, t.hi y a⟩)

theorem glue_at (f : T → t.Tile α) (y : s.Idx) (i : T) (h : ∀ a, t.off i a ≤ (y a).val ∧ (y a).val < t.off i a + t.size a) :
    t.glue f y = f i (Rect.unitLocal (s := s) (off := t.off i) (size := t.size) y h) := by
  have e := t.uniq y i h
  subst e
  rfl

/-- A tile of the array. -/
def tile (x : s.Idx → α) (i : T) : t.Tile α := VecWindow.window x (t.off i) t.size (t.inb i)

theorem window_glue (f : T → t.Tile α) (i : T) : VecWindow.window (t.glue f) (t.off i) t.size (t.inb i) = f i := by
  funext z
  have e (a : Fin s.rank) : ((Rect.unit (t.off i) t.size (t.inb i)).emb z a).val = t.off i a + 1 * (z a).val := rfl
  have h (a : Fin s.rank) : t.off i a ≤ ((Rect.unit (t.off i) t.size (t.inb i)).emb z a).val
      ∧ ((Rect.unit (t.off i) t.size (t.inb i)).emb z a).val < t.off i a + t.size a := by
    have := (z a).isLt
    have hs : (Rect.unit (t.off i) t.size (t.inb i)).shape.size a = t.size a := rfl
    have := e a
    omega
  show t.glue f _ = _
  rw [t.glue_at f _ i h]
  exact congrArg (f i) (funext fun a => Fin.ext (by
    show ((Rect.unit (t.off i) t.size (t.inb i)).emb z a).val - t.off i a = (z a).val
    have := e a
    omega))

theorem glue_tile (x : s.Idx → α) : t.glue (t.tile x) = x := by
  funext y
  exact congrArg x (funext fun a => Fin.ext (by
    show t.off (t.find y) a + 1 * ((y a).val - t.off (t.find y) a) = (y a).val
    have := t.lo y a
    omega))

theorem put_glue [DecidableEq T] (f : T → t.Tile α) (i : T) (w : t.Tile α) :
    VecWindow.put (t.glue f) (t.off i) t.size w = t.glue (Function.update f i w) := by
  funext y
  unfold VecWindow.put
  split
  · rename_i h
    rw [t.glue_at _ y i h, Function.update_self]
  · rename_i h
    unfold glue
    rw [Function.update_of_ne]
    intro e
    exact h fun a => ⟨e ▸ t.lo y a, e ▸ t.hi y a⟩

end Tiling

/-- The masked queries, by head. -/
def tQ : Tiling S128x2048 (Fin 4) where
  off j := ![0, 512 * j.val]
  size := S128x512.size
  inb := inbQ
  find y := ⟨(y 1).val / 512, Nat.div_lt_of_lt_mul (y 1).isLt⟩
  lo y a := by fin_cases a <;> simp <;> omega
  hi y a := by
    have h0 : (y 0).val < 128 := (y 0).isLt
    fin_cases a
    · show (y 0).val < 0 + 128; omega
    · show (y 1).val < 512 * ((y 1).val / 512) + 512; omega
  uniq y j h := Fin.ext (by
    have h1 : 512 * j.val ≤ (y 1).val ∧ (y 1).val < 512 * j.val + 512 := h 1
    show (y 1).val / 512 = j.val
    omega)

/-- The sums, by head. -/
def tA : Tiling S80x2048 (Fin 4) where
  off j := ![0, 512 * j.val]
  size := S80x512.size
  inb := inbA
  find y := ⟨(y 1).val / 512, Nat.div_lt_of_lt_mul (y 1).isLt⟩
  lo y a := by fin_cases a <;> simp <;> omega
  hi y a := by
    have h0 : (y 0).val < 80 := (y 0).isLt
    fin_cases a
    · show (y 0).val < 0 + 80; omega
    · show (y 1).val < 512 * ((y 1).val / 512) + 512; omega
  uniq y j h := Fin.ext (by
    have h1 : 512 * j.val ≤ (y 1).val ∧ (y 1).val < 512 * j.val + 512 := h 1
    show (y 1).val / 512 = j.val
    omega)

/-- A block of queries or results, by head. -/
def tO : Tiling S1x256x512 (Fin 4) where
  off j := ![0, 64 * j.val, 0]
  size := S1x64x512.size
  inb := inbO
  find y := ⟨(y 1).val / 64, Nat.div_lt_of_lt_mul (y 1).isLt⟩
  lo y a := by fin_cases a <;> simp <;> omega
  hi y a := by
    have h0 : (y 0).val < 1 := (y 0).isLt
    have h2 : (y 2).val < 512 := (y 2).isLt
    fin_cases a
    · show (y 0).val < 0 + 1; omega
    · show (y 1).val < 64 * ((y 1).val / 64) + 64; omega
    · show (y 2).val < 0 + 512; omega
  uniq y j h := Fin.ext (by
    have h1 : 64 * j.val ≤ (y 1).val ∧ (y 1).val < 64 * j.val + 64 := h 1
    show (y 1).val / 64 = j.val
    omega)

/-- The exponentials, by slot and head. -/
def tP : Tiling S2x4x512x512 (Fin 2 × Fin 4) where
  off i := ![i.1.val, i.2.val, 0, 0]
  size := S1x1x512x512.size
  inb i := inbP i.1 i.2
  find y := (y 0, y 1)
  lo y a := by fin_cases a <;> simp
  hi y a := by
    have h2 : (y 2).val < 512 := (y 2).isLt
    have h3 : (y 3).val < 512 := (y 3).isLt
    fin_cases a
    · show (y 0).val < (y 0).val + 1; omega
    · show (y 1).val < (y 1).val + 1; omega
    · show (y 2).val < 0 + 512; omega
    · show (y 3).val < 0 + 512; omega
  uniq y i h := by
    have h0 : i.1.val ≤ (y 0).val ∧ (y 0).val < i.1.val + 1 := h 0
    have h1 : i.2.val ≤ (y 1).val ∧ (y 1).val < i.2.val + 1 := h 1
    exact Prod.ext (Fin.ext (by show (y 0).val = _; omega)) (Fin.ext (by show (y 1).val = _; omega))

/-- The scores, by slot. -/
def tS : Tiling S2x512x2048 (Fin 2) where
  off b := ![b.val, 0, 0]
  size := S1x512x2048.size
  inb := inbS
  find y := y 0
  lo y a := by fin_cases a <;> simp
  hi y a := by
    have h1 : (y 1).val < 512 := (y 1).isLt
    have h2 : (y 2).val < 2048 := (y 2).isLt
    fin_cases a
    · show (y 0).val < (y 0).val + 1; omega
    · show (y 1).val < 0 + 512; omega
    · show (y 2).val < 0 + 2048; omega
  uniq y b h := Fin.ext (by
    have h0 : b.val ≤ (y 0).val ∧ (y 0).val < b.val + 1 := h 0
    show (y 0).val = _
    omega)

/-- The column maxima, by slot. -/
def tC : Tiling S2x1x2048 (Fin 2) where
  off b := ![b.val, 0, 0]
  size := S1x1x2048.size
  inb := inbC
  find y := y 0
  lo y a := by fin_cases a <;> simp
  hi y a := by
    have h1 : (y 1).val < 1 := (y 1).isLt
    have h2 : (y 2).val < 2048 := (y 2).isLt
    fin_cases a
    · show (y 0).val < (y 0).val + 1; omega
    · show (y 1).val < 0 + 1; omega
    · show (y 2).val < 0 + 2048; omega
  uniq y b h := Fin.ext (by
    have h0 : b.val ≤ (y 0).val ∧ (y 0).val < b.val + 1 := h 0
    show (y 0).val = _
    omega)

/-! ## The state -/

/-- The contents of the kernel's buffers. -/
structure State (F : FTy → Type) where
  x3 : Fin 4 → Vec F S1x64x512 .bf16
  x4 : Vec F S1x8192x128 .bf16
  x5 : Vec F S1x1x16x80x512 .bf16
  x6 : Fin 4 → Vec F S1x64x512 .bf16
  x7 : Fin 4 → Vec F S128x512 .bf16
  x8 : Fin 4 → Vec F S80x512 .f32
  x9 : Fin 2 × Fin 4 → Vec F S1x1x512x512 .bf16
  x10 : Fin 2 → Vec F S1x512x2048 .f32
  x11 : Fin 2 → Vec F S1x1x2048 .f32
  x12 : Vec F S1x2048 .f32
  x13 : Vec F S1x2048 .f32
  x14 : Vec F S64x2048 .f32

section mem
variable (c : Dev nD) (E : Set ℕ)
  (a3 : Memref sig .tc .vmem S1x256x512 .bf16) (h3 : a3.IsWhole) (a4 : Memref sig .tc .vmem S1x8192x128 .bf16) (h4 : a4.IsWhole)
  (a5 : Memref sig .tc .vmem S1x1x16x80x512 .bf16) (h5 : a5.IsWhole) (a6 : Memref sig .tc .vmem S1x256x512 .bf16) (h6 : a6.IsWhole)
  (a7 : Memref sig .tc .vmem S128x2048 .bf16) (h7 : a7.IsWhole) (a8 : Memref sig .tc .vmem S80x2048 .f32) (h8 : a8.IsWhole)
  (a9 : Memref sig .tc .vmem S2x4x512x512 .bf16) (h9 : a9.IsWhole) (a10 : Memref sig .tc .vmem S2x512x2048 .f32) (h10 : a10.IsWhole)
  (a11 : Memref sig .tc .vmem S2x1x2048 .f32) (h11 : a11.IsWhole) (a12 : Memref sig .tc .vmem S1x2048 .f32) (h12 : a12.IsWhole)
  (a13 : Memref sig .tc .vmem S1x2048 .f32) (h13 : a13.IsWhole) (a14 : Memref sig .tc .vmem S64x2048 .f32) (h14 : a14.IsWhole)

/-- The buffers, at a state. -/
def At (σ : State F) : sProp 𝕄 :=
  iprop(owns (c : Thread nD τ) a3 fullShare (tO.glue σ.x3) ∗ owns (c : Thread nD τ) a4 fullShare σ.x4 ∗ owns (c : Thread nD τ) a5 fullShare σ.x5
    ∗ owns (c : Thread nD τ) a6 fullShare (tO.glue σ.x6) ∗ owns (c : Thread nD τ) a7 fullShare (tQ.glue σ.x7) ∗ owns (c : Thread nD τ) a8 fullShare (tA.glue σ.x8)
    ∗ owns (c : Thread nD τ) a9 fullShare (tP.glue σ.x9) ∗ owns (c : Thread nD τ) a10 fullShare (tS.glue σ.x10) ∗ owns (c : Thread nD τ) a11 fullShare (tC.glue σ.x11)
    ∗ owns (c : Thread nD τ) a12 fullShare σ.x12 ∗ owns (c : Thread nD τ) a13 fullShare σ.x13 ∗ owns (c : Thread nD τ) a14 fullShare σ.x14)

local notation "wpK" => wp frame (wpE (defs₀ (F := F)) Variants.none (c : Thread nD τ) none) E

/-- `p` run from the state `σ` returns a value and reaches a state that `Q` holds of. -/
def Runs {α : Type} (p : Body (F := F) α) (σ : State F) (Q : α → State F → Prop) : Prop :=
  ∃ x σ', Q x σ' ∧ ∀ K : α → sProp 𝕄,
    iprop(At c a3 a4 a5 a6 a7 a8 a9 a10 a11 a12 a13 a14 σ ∗ (At c a3 a4 a5 a6 a7 a8 a9 a10 a11 a12 a13 a14 σ' -∗ K x)) ⊢ wpK p K

variable {c E a3 a4 a5 a6 a7 a8 a9 a10 a11 a12 a13 a14}

local notation "RunsK" => Runs c E a3 a4 a5 a6 a7 a8 a9 a10 a11 a12 a13 a14
local notation "AtK" => At c a3 a4 a5 a6 a7 a8 a9 a10 a11 a12 a13 a14

theorem Runs.pure {α : Type} {x : α} {σ : State F} {Q : α → State F → Prop} (h : Q x σ) : RunsK (.ret x) σ Q :=
  ⟨x, σ, h, fun K => wand_elim_right.trans (le_wp_ret _ _ _ x K)⟩

theorem Runs.bind {α β : Type} {p : Body (F := F) α} {k : α → Body (F := F) β} {σ : State F} {Q : α → State F → Prop} {R : β → State F → Prop}
    (h : RunsK p σ Q) (hk : ∀ x σ', Q x σ' → RunsK (k x) σ' R) : RunsK (p.bind k) σ R := by
  obtain ⟨x, σ', hQ, hp⟩ := h
  obtain ⟨y, σ'', hR, hq⟩ := hk x σ' hQ
  refine ⟨y, σ'', hR, fun K => ?_⟩
  have e : wpK (p.bind k) K = wpK p (fun x => wpK (k x) K) := wp_bind _ _ _ p k K
  rw [e]
  refine BIBase.Entails.trans ?_ (hp _)
  iintro ⟨H, HK⟩
  isplitl [H]
  · iexact H
  iintro H
  iapply (hq K)
  isplitl [H]
  · iexact H
  iexact HK

theorem Runs.mono {α : Type} {p : Body (F := F) α} {σ : State F} {Q Q' : α → State F → Prop} (h : RunsK p σ Q) (hQ : ∀ x σ', Q x σ' → Q' x σ') : RunsK p σ Q' := by
  obtain ⟨x, σ', hq, hp⟩ := h
  exact ⟨x, σ', hQ _ _ hq, hp⟩

/-- A load of a window. -/
theorem Runs.load {s : Shape} {e : EltTy} {a : Memref sig .tc .vmem s e} {X : s.Idx → Elt F e} {σ : State F}
    {off size : Fin s.rank → ℕ} (inb : ∀ i, off i + size i ≤ s.size i) {v : (Rect.unit off size inb).shape.Idx → Elt F e}
    (hv : VecWindow.window X off size inb = v)
    (hf : AtK σ ⊢ iprop(owns (c : Thread nD τ) a fullShare X ∗ (owns (c : Thread nD τ) a fullShare X -∗ AtK σ)))
    {hl : a.view.LoadsAt (Rect.unit off size inb).toLoadRect}
    {Q : ((Rect.unit off size inb).shape.Idx → Elt F e) → State F → Prop} (hQ : Q v σ) :
    RunsK (Prog.lift (.load a (Rect.unit off size inb).toLoadRect hl)) σ Q := by
  refine ⟨_, σ, hQ, fun K => ?_⟩
  unfold owns at hf
  iintro ⟨H, HK⟩
  ihave H' := hf $$ H
  icases H' with ⟨⟨%f, %hX, H⟩, Hb⟩
  subst hX hv
  iapply (wp_load Variants.none (c : Thread nD τ) none E (View.setOn_subset_set _ _)) $$ H
  iintro H
  rw [View.readAt_unit a.view f inb rfl inb]
  iapply (le_wp_ret _ _ _ _ K)
  iapply HK
  iapply Hb
  iexists f
  isplitr
  · ipureintro; rfl
  · iexact H

/-- A store to a window. -/
theorem Runs.store {s : Shape} {e : EltTy} {a : Memref sig .tc .vmem s e} {X Y : s.Idx → Elt F e} {σ σ' : State F}
    {off size : Fin s.rank → ℕ} (inb : ∀ i, off i + size i ≤ s.size i) {w : (Rect.unit off size inb).shape.Idx → Elt F e}
    (hY : VecWindow.put X off size w = Y)
    (hf : AtK σ ⊢ iprop(owns (c : Thread nD τ) a fullShare X ∗ (owns (c : Thread nD τ) a fullShare Y -∗ AtK σ')))
    {hx : (a.access (Rect.unit off size inb)).Stores Finset.univ} {hm}
    {Q : PUnit → State F → Prop} (hQ : Q ⟨⟩ σ') :
    RunsK (Prog.lift (.store a (Rect.unit off size inb) w Finset.univ hx hm)) σ Q := by
  refine ⟨⟨⟩, σ', hQ, fun K => ?_⟩
  unfold owns at hf
  iintro ⟨H, HK⟩
  ihave H' := hf $$ H
  icases H' with ⟨⟨%f, %hX, H⟩, Hb⟩
  subst hX hY
  iapply (wp_store Variants.none (c : Thread nD τ) none E (a.setOn_access_subset (Rect.unit off size inb) Finset.univ)) $$ H
  iintro H
  iapply (le_wp_ret _ _ _ _ K)
  iapply HK
  iapply Hb
  iexists _
  isplitr; swap
  · iexact H
  · ipureintro
    exact View.read_writes_cons_put a.view f inb w [] rfl

theorem off0 : (![0, 0] : Fin 2 → ℕ) = fun _ => 0 := by funext a; fin_cases a <;> rfl

theorem window_full {s : Shape} {α : Type} (x : s.Idx → α) {off : Fin s.rank → ℕ} (h : off = fun _ => 0) (inb : ∀ a, off a + s.size a ≤ s.size a) :
    VecWindow.window x off s.size inb = x := by
  subst h
  funext y
  exact congrArg x (funext fun a => Fin.ext (by show 0 + 1 * (y a).val = (y a).val; omega))

theorem put_full {s : Shape} {α : Type} (x : s.Idx → α) {off : Fin s.rank → ℕ} (h : off = fun _ => 0) (w : s.Idx → α) :
    VecWindow.put x off s.size w = w := by
  subst h
  funext y
  unfold VecWindow.put
  rw [dif_pos fun a => ⟨Nat.zero_le _, by have := (y a).isLt; omega⟩]
  exact congrArg w (funext fun a => Fin.ext (by show (y a).val - 0 = (y a).val; omega))

theorem focus3 (σ : State F) (y : Fin 4 → Vec F S1x64x512 .bf16) : AtK σ ⊢ iprop(owns (c : Thread nD τ) a3 fullShare (tO.glue σ.x3)
    ∗ (owns (c : Thread nD τ) a3 fullShare (tO.glue y) -∗ AtK { σ with x3 := y })) := by
  unfold At; iintro ⟨H3, H4, H5, H6, H7, H8, H9, H10, H11, H12, H13, H14⟩
  isplitl [H3]; · iexact H3
  iintro H3
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem focus4 (σ : State F) (y : Vec F S1x8192x128 .bf16) : AtK σ ⊢ iprop(owns (c : Thread nD τ) a4 fullShare σ.x4
    ∗ (owns (c : Thread nD τ) a4 fullShare y -∗ AtK { σ with x4 := y })) := by
  unfold At; iintro ⟨H3, H4, H5, H6, H7, H8, H9, H10, H11, H12, H13, H14⟩
  isplitl [H4]; · iexact H4
  iintro H4
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem focus5 (σ : State F) (y : Vec F S1x1x16x80x512 .bf16) : AtK σ ⊢ iprop(owns (c : Thread nD τ) a5 fullShare σ.x5
    ∗ (owns (c : Thread nD τ) a5 fullShare y -∗ AtK { σ with x5 := y })) := by
  unfold At; iintro ⟨H3, H4, H5, H6, H7, H8, H9, H10, H11, H12, H13, H14⟩
  isplitl [H5]; · iexact H5
  iintro H5
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem focus6 (σ : State F) (y : Fin 4 → Vec F S1x64x512 .bf16) : AtK σ ⊢ iprop(owns (c : Thread nD τ) a6 fullShare (tO.glue σ.x6)
    ∗ (owns (c : Thread nD τ) a6 fullShare (tO.glue y) -∗ AtK { σ with x6 := y })) := by
  unfold At; iintro ⟨H3, H4, H5, H6, H7, H8, H9, H10, H11, H12, H13, H14⟩
  isplitl [H6]; · iexact H6
  iintro H6
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem focus7 (σ : State F) (y : Fin 4 → Vec F S128x512 .bf16) : AtK σ ⊢ iprop(owns (c : Thread nD τ) a7 fullShare (tQ.glue σ.x7)
    ∗ (owns (c : Thread nD τ) a7 fullShare (tQ.glue y) -∗ AtK { σ with x7 := y })) := by
  unfold At; iintro ⟨H3, H4, H5, H6, H7, H8, H9, H10, H11, H12, H13, H14⟩
  isplitl [H7]; · iexact H7
  iintro H7
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem focus8 (σ : State F) (y : Fin 4 → Vec F S80x512 .f32) : AtK σ ⊢ iprop(owns (c : Thread nD τ) a8 fullShare (tA.glue σ.x8)
    ∗ (owns (c : Thread nD τ) a8 fullShare (tA.glue y) -∗ AtK { σ with x8 := y })) := by
  unfold At; iintro ⟨H3, H4, H5, H6, H7, H8, H9, H10, H11, H12, H13, H14⟩
  isplitl [H8]; · iexact H8
  iintro H8
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem focus9 (σ : State F) (y : Fin 2 × Fin 4 → Vec F S1x1x512x512 .bf16) : AtK σ ⊢ iprop(owns (c : Thread nD τ) a9 fullShare (tP.glue σ.x9)
    ∗ (owns (c : Thread nD τ) a9 fullShare (tP.glue y) -∗ AtK { σ with x9 := y })) := by
  unfold At; iintro ⟨H3, H4, H5, H6, H7, H8, H9, H10, H11, H12, H13, H14⟩
  isplitl [H9]; · iexact H9
  iintro H9
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem focus10 (σ : State F) (y : Fin 2 → Vec F S1x512x2048 .f32) : AtK σ ⊢ iprop(owns (c : Thread nD τ) a10 fullShare (tS.glue σ.x10)
    ∗ (owns (c : Thread nD τ) a10 fullShare (tS.glue y) -∗ AtK { σ with x10 := y })) := by
  unfold At; iintro ⟨H3, H4, H5, H6, H7, H8, H9, H10, H11, H12, H13, H14⟩
  isplitl [H10]; · iexact H10
  iintro H10
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem focus11 (σ : State F) (y : Fin 2 → Vec F S1x1x2048 .f32) : AtK σ ⊢ iprop(owns (c : Thread nD τ) a11 fullShare (tC.glue σ.x11)
    ∗ (owns (c : Thread nD τ) a11 fullShare (tC.glue y) -∗ AtK { σ with x11 := y })) := by
  unfold At; iintro ⟨H3, H4, H5, H6, H7, H8, H9, H10, H11, H12, H13, H14⟩
  isplitl [H11]; · iexact H11
  iintro H11
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem focus12 (σ : State F) (y : Vec F S1x2048 .f32) : AtK σ ⊢ iprop(owns (c : Thread nD τ) a12 fullShare σ.x12
    ∗ (owns (c : Thread nD τ) a12 fullShare y -∗ AtK { σ with x12 := y })) := by
  unfold At; iintro ⟨H3, H4, H5, H6, H7, H8, H9, H10, H11, H12, H13, H14⟩
  isplitl [H12]; · iexact H12
  iintro H12
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem focus13 (σ : State F) (y : Vec F S1x2048 .f32) : AtK σ ⊢ iprop(owns (c : Thread nD τ) a13 fullShare σ.x13
    ∗ (owns (c : Thread nD τ) a13 fullShare y -∗ AtK { σ with x13 := y })) := by
  unfold At; iintro ⟨H3, H4, H5, H6, H7, H8, H9, H10, H11, H12, H13, H14⟩
  isplitl [H13]; · iexact H13
  iintro H13
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem focus14 (σ : State F) (y : Vec F S64x2048 .f32) : AtK σ ⊢ iprop(owns (c : Thread nD τ) a14 fullShare σ.x14
    ∗ (owns (c : Thread nD τ) a14 fullShare y -∗ AtK { σ with x14 := y })) := by
  unfold At; iintro ⟨H3, H4, H5, H6, H7, H8, H9, H10, H11, H12, H13, H14⟩
  isplitl [H14]; · iexact H14
  iintro H14
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem runs_ldK {σ : State F} (u : Fin 16) {Q} (h : Q (VecWindow.window σ.x4 ![0, 512 * u.val, 0] S1x512x128.size (inbK u)) σ) : RunsK (ldK a4 u) σ Q :=
  Runs.load (inbK u) (rfl) (focus4 σ σ.x4) h

theorem runs_ldV {σ : State F} (u : Fin 16) {Q} (h : Q (VecWindow.window σ.x5 ![0, 0, u.val, 0, 0] S1x1x1x80x512.size (inbV u)) σ) : RunsK (ldV a5 u) σ Q :=
  Runs.load (inbV u) (rfl) (focus5 σ σ.x5) h

theorem runs_ldW {σ : State F} (u : Fin 16) {Q} (h : Q (VecWindow.window σ.x5 ![0, 0, u.val, 0, 0] S1x1x1x64x512.size (inbW u)) σ) : RunsK (ldW a5 u) σ Q :=
  Runs.load (inbW u) (rfl) (focus5 σ σ.x5) h

theorem runs_ldI {σ : State F} (j : Fin 4) {Q} (h : Q (σ.x3 j) σ) : RunsK (ldI a3 j) σ Q :=
  Runs.load (inbO j) (tO.window_glue σ.x3 j) (focus3 σ σ.x3) h

theorem runs_ldI_6 {σ : State F} (j : Fin 4) {Q} (h : Q (σ.x6 j) σ) : RunsK (ldI a6 j) σ Q :=
  Runs.load (inbO j) (tO.window_glue σ.x6 j) (focus6 σ σ.x6) h

theorem runs_ldQ {σ : State F} (j : Fin 4) {Q} (h : Q (σ.x7 j) σ) : RunsK (ldQ a7 j) σ Q :=
  Runs.load (inbQ j) (tQ.window_glue σ.x7 j) (focus7 σ σ.x7) h

theorem runs_ld7 {σ : State F} {Q} (h : Q (tQ.glue σ.x7) σ) : RunsK (ld7 a7) σ Q :=
  Runs.load (inb_S128x2048_S128x2048_0_0) (window_full (s := S128x2048) (off := ![0, 0]) (tQ.glue σ.x7) off0 (inb_S128x2048_S128x2048_0_0)) (focus7 σ σ.x7) h

theorem runs_ldP {σ : State F} (b : Fin 2) (j : Fin 4) {Q} (h : Q (σ.x9 (b, j)) σ) : RunsK (ldP a9 b j) σ Q :=
  Runs.load (inbP b j) (tP.window_glue σ.x9 (b, j)) (focus9 σ σ.x9) h

theorem runs_ldA {σ : State F} (j : Fin 4) {Q} (h : Q (σ.x8 j) σ) : RunsK (ldA a8 j) σ Q :=
  Runs.load (inbA j) (tA.window_glue σ.x8 j) (focus8 σ σ.x8) h

theorem runs_ld8 {σ : State F} {Q} (h : Q (tA.glue σ.x8) σ) : RunsK (ld8 a8) σ Q :=
  Runs.load (inb_S80x2048_S80x2048_0_0) (window_full (s := S80x2048) (off := ![0, 0]) (tA.glue σ.x8) off0 (inb_S80x2048_S80x2048_0_0)) (focus8 σ σ.x8) h

theorem runs_ldD {σ : State F} {Q} (h : Q (VecWindow.window (tA.glue σ.x8) ![64, 0] S1x2048.size inb_S80x2048_S1x2048_64_0) σ) : RunsK (ldD a8) σ Q :=
  Runs.load (inb_S80x2048_S1x2048_64_0) (rfl) (focus8 σ σ.x8) h

theorem runs_ldN {σ : State F} {Q} (h : Q (VecWindow.window (tA.glue σ.x8) ![0, 0] S64x2048.size inb_S80x2048_S64x2048_0_0) σ) : RunsK (ldN a8) σ Q :=
  Runs.load (inb_S80x2048_S64x2048_0_0) (rfl) (focus8 σ σ.x8) h

theorem runs_ldS {σ : State F} (b : Fin 2) {Q} (h : Q (σ.x10 b) σ) : RunsK (ldS a10 b) σ Q :=
  Runs.load (inbS b) (tS.window_glue σ.x10 b) (focus10 σ σ.x10) h

theorem runs_ldC {σ : State F} (b : Fin 2) {Q} (h : Q (σ.x11 b) σ) : RunsK (ldC a11 b) σ Q :=
  Runs.load (inbC b) (tC.window_glue σ.x11 b) (focus11 σ σ.x11) h

theorem runs_ld12 {σ : State F} {Q} (h : Q (σ.x12) σ) : RunsK (ld12 a12) σ Q :=
  Runs.load (inb_S1x2048_S1x2048_0_0) (window_full (s := S1x2048) (off := ![0, 0]) (σ.x12) off0 (inb_S1x2048_S1x2048_0_0)) (focus12 σ σ.x12) h

theorem runs_ld12_13 {σ : State F} {Q} (h : Q (σ.x13) σ) : RunsK (ld12 a13) σ Q :=
  Runs.load (inb_S1x2048_S1x2048_0_0) (window_full (s := S1x2048) (off := ![0, 0]) (σ.x13) off0 (inb_S1x2048_S1x2048_0_0)) (focus13 σ σ.x13) h

theorem runs_ld14 {σ : State F} {Q} (h : Q (σ.x14) σ) : RunsK (ld14 a14) σ Q :=
  Runs.load (inb_S64x2048_S64x2048_0_0) (window_full (s := S64x2048) (off := ![0, 0]) (σ.x14) off0 (inb_S64x2048_S64x2048_0_0)) (focus14 σ σ.x14) h

theorem runs_stQ {σ : State F} (j : Fin 4) (w : FVec F S128x512 .bf16) {Q} (h : Q ⟨⟩ { σ with x7 := Function.update σ.x7 j w }) : RunsK (stQ a7 h7 j w) σ Q :=
  Runs.store (inbQ j) (tQ.put_glue σ.x7 j w) (focus7 σ (Function.update σ.x7 j w)) h

theorem runs_stP {σ : State F} (b : Fin 2) (j : Fin 4) (w : FVec F S1x1x512x512 .bf16) {Q} (h : Q ⟨⟩ { σ with x9 := Function.update σ.x9 (b, j) w }) : RunsK (stP a9 h9 b j w) σ Q :=
  Runs.store (inbP b j) (tP.put_glue σ.x9 (b, j) w) (focus9 σ (Function.update σ.x9 (b, j) w)) h

theorem runs_stO {σ : State F} (j : Fin 4) (w : FVec F S1x64x512 .bf16) {Q} (h : Q ⟨⟩ { σ with x6 := Function.update σ.x6 j w }) : RunsK (stO a6 h6 j w) σ Q :=
  Runs.store (inbO j) (tO.put_glue σ.x6 j w) (focus6 σ (Function.update σ.x6 j w)) h

theorem runs_stA {σ : State F} (j : Fin 4) (w : FVec F S80x512 .f32) {Q} (h : Q ⟨⟩ { σ with x8 := Function.update σ.x8 j w }) : RunsK (stA a8 j w) σ Q :=
  Runs.store (inbA j) (tA.put_glue σ.x8 j w) (focus8 σ (Function.update σ.x8 j w)) h

theorem runs_st8 {σ : State F} (w : FVec F S80x2048 .f32) {Q} (h : Q ⟨⟩ { σ with x8 := tA.tile w }) : RunsK (st8 a8 w) σ Q :=
  Runs.store (inb_S80x2048_S80x2048_0_0) ((put_full (off := ![0, 0]) (tA.glue σ.x8) (by funext a; fin_cases a <;> rfl) w).trans (tA.glue_tile w).symm) (focus8 σ (tA.tile w)) h

theorem runs_stS {σ : State F} (b : Fin 2) (w : FVec F S1x512x2048 .f32) {Q} (h : Q ⟨⟩ { σ with x10 := Function.update σ.x10 b w }) : RunsK (stS a10 b w) σ Q :=
  Runs.store (inbS b) (tS.put_glue σ.x10 b w) (focus10 σ (Function.update σ.x10 b w)) h

theorem runs_stC {σ : State F} (b : Fin 2) (w : FVec F S1x1x2048 .f32) {Q} (h : Q ⟨⟩ { σ with x11 := Function.update σ.x11 b w }) : RunsK (stC a11 b w) σ Q :=
  Runs.store (inbC b) (tC.put_glue σ.x11 b w) (focus11 σ (Function.update σ.x11 b w)) h

theorem runs_st12 {σ : State F} (w : FVec F S1x2048 .f32) {Q} (h : Q ⟨⟩ { σ with x12 := w }) : RunsK (st12 a12 w) σ Q :=
  Runs.store (inb_S1x2048_S1x2048_0_0) (put_full (s := S1x2048) (off := ![0, 0]) σ.x12 off0 w) (focus12 σ (w)) h

theorem runs_st12_13 {σ : State F} (w : FVec F S1x2048 .f32) {Q} (h : Q ⟨⟩ { σ with x13 := w }) : RunsK (st12 a13 w) σ Q :=
  Runs.store (inb_S1x2048_S1x2048_0_0) (put_full (s := S1x2048) (off := ![0, 0]) σ.x13 off0 w) (focus13 σ (w)) h

theorem runs_st14 {σ : State F} (w : FVec F S64x2048 .f32) {Q} (h : Q ⟨⟩ { σ with x14 := w }) : RunsK (st14 a14 w) σ Q :=
  Runs.store (inb_S64x2048_S64x2048_0_0) (put_full (s := S64x2048) (off := ![0, 0]) σ.x14 off0 w) (focus14 σ (w)) h

end mem

end Cert.KernelIdeal.Attn

end
-- ==== Proof.Pass.lean ====
/-  One run of the kernel's body: the result block as a function of the three input blocks. -/
module

public import proofs.«01_k».proof.Proof.State

@[expose] public section

set_option maxRecDepth 65536

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The values -/

/-- The keys of group `u`. -/
def kB (x4 : Vec F S1x8192x128 .bf16) (u : Fin 16) : Vec F S1x512x128 .bf16 := VecWindow.window x4 ![0, 512 * u.val, 0] S1x512x128.size (inbK u)
/-- The values of group `u` with their row of ones. -/
def vB (x5 : Vec F S1x1x16x80x512 .bf16) (u : Fin 16) : Vec F S1x1x1x80x512 .bf16 := VecWindow.window x5 ![0, 0, u.val, 0, 0] S1x1x1x80x512.size (inbV u)
/-- The values of group `u` alone. -/
def wB (x5 : Vec F S1x1x16x80x512 .bf16) (u : Fin 16) : Vec F S1x1x1x64x512 .bf16 := VecWindow.window x5 ![0, 0, u.val, 0, 0] S1x1x1x64x512.size (inbW u)

/-- The sum of the parts of the first `n` groups. -/
def parts (d : ℕ → FVec F S80x512 .f32) : ℕ → Option (FVec F S80x512 .f32)
  | 0 => none
  | n + 1 => some (addPart (parts d n) (d n))

/-- Group number `n`. -/
def gp (n : ℕ) : Fin 16 := ⟨n % 16, Nat.mod_lt n (by decide)⟩

section values
variable (i : grid0.Coords) (x3 : Fin 4 → Vec F S1x64x512 .bf16) (x4 : Vec F S1x8192x128 .bf16) (x5 : Vec F S1x1x16x80x512 .bf16)

/-- The masked queries, by head. -/
def qs (j : Fin 4) : FVec F S128x512 .bf16 := maskQ i (x3 j)
/-- What group `n` adds to the sums of head `j`. -/
def add (j : Fin 4) (n : ℕ) : FVec F S80x512 .f32 := part (vB x5 (gp n)) (expo (kB x4 (gp n)) (qs i x3 j))
/-- The sums of head `j`. -/
def sums (j : Fin 4) : FVec F S80x512 .f32 :=
  total ((parts (add i x3 x4 x5 j) 15).getD (tA.tile k0_pay57 j)) (tA.tile k0_pay57 j) (add i x3 x4 x5 j 15)
/-- The denominators. -/
def den : Vec F S1x2048 .f32 := VecWindow.window (tA.glue (sums i x3 x4 x5)) ![64, 0] S1x2048.size inb_S80x2048_S1x2048_64_0
/-- The numerators. -/
def num : Vec F S64x2048 .f32 := VecWindow.window (tA.glue (sums i x3 x4 x5)) ![0, 0] S64x2048.size inb_S80x2048_S64x2048_0_0
/-- The scores of group `n`. -/
def sc (n : ℕ) : FVec F S1x512x2048 .f32 := k0_pay4 (kB x4 (gp n)) (tQ.glue (qs i x3))
/-- Their column maxima. -/
def cm (n : ℕ) : FVec F S1x1x2048 .f32 := k0_pay5 (kB x4 (gp n)) (tQ.glue (qs i x3))
/-- The running maximum, sum and values after `n` groups. -/
def online : ℕ → FVec F S1x2048 .f32 × FVec F S1x2048 .f32 × FVec F S64x2048 .f32
  | 0 => (k0_pay23, k0_pay24, k0_pay25)
  | n + 1 => (k0_pay13 (k0_pay6 (online n).1 (cm i x3 x4 n)), k0_pay21 (online n).1 (cm i x3 x4 n) (sc i x3 x4 n) (online n).2.1,
      k0_pay29 (k0_pay22 (online n).1 (cm i x3 x4 n) (sc i x3 x4 n) (online n).2.2 (wB x5 (gp n))))
/-- The quotients: of the first pass when its denominators are safe, of the second otherwise. -/
def quot : FVec F S64x2048 .f32 :=
  if safe (den i x3 x4 x5) = 1#1 then k0_pay243 (den i x3 x4 x5) (num i x3 x4 x5)
  else k0_pay47 (online i x3 x4 x5 16).2.2 (online i x3 x4 x5 16).2.1
/-- The result block, by head. -/
def out (j : Fin 4) : FVec F S1x64x512 .bf16 := head j (quot i x3 x4 x5)

end values

section mem
variable {c : Dev nD} {E : Set ℕ}
  {a3 : Memref sig .tc .vmem S1x256x512 .bf16} (h3 : a3.IsWhole) {a4 : Memref sig .tc .vmem S1x8192x128 .bf16} (h4 : a4.IsWhole)
  {a5 : Memref sig .tc .vmem S1x1x16x80x512 .bf16} (h5 : a5.IsWhole) {a6 : Memref sig .tc .vmem S1x256x512 .bf16} (h6 : a6.IsWhole)
  {a7 : Memref sig .tc .vmem S128x2048 .bf16} (h7 : a7.IsWhole) {a8 : Memref sig .tc .vmem S80x2048 .f32} (h8 : a8.IsWhole)
  {a9 : Memref sig .tc .vmem S2x4x512x512 .bf16} (h9 : a9.IsWhole) {a10 : Memref sig .tc .vmem S2x512x2048 .f32} (h10 : a10.IsWhole)
  {a11 : Memref sig .tc .vmem S2x1x2048 .f32} (h11 : a11.IsWhole) {a12 : Memref sig .tc .vmem S1x2048 .f32} (h12 : a12.IsWhole)
  {a13 : Memref sig .tc .vmem S1x2048 .f32} (h13 : a13.IsWhole) {a14 : Memref sig .tc .vmem S64x2048 .f32} (h14 : a14.IsWhole)

local notation "RunsK" => Runs c E a3 a4 a5 a6 a7 a8 a9 a10 a11 a12 a13 a14

theorem Runs.next {α β : Type} {p : Body (F := F) α} {k : α → Body (F := F) β} {σ τ' : State F} {v : α} {R : β → State F → Prop}
    (h : RunsK p σ (fun x σ' => x = v ∧ σ' = τ')) (hk : RunsK (k v) τ' R) : RunsK (p.bind k) σ R :=
  Runs.bind h (by rintro _ _ ⟨rfl, rfl⟩; exact hk)

/-- The state after a step that returns nothing. -/
abbrev To (τ' : State F) : PUnit → State F → Prop := fun x σ' => x = ⟨⟩ ∧ σ' = τ'

variable {σ : State F} (i : grid0.Coords)

theorem runs_putQ (j : Fin 4) : RunsK (putQ a3 a7 h7 i j) σ (To { σ with x7 := Function.update σ.x7 j (maskQ i (σ.x3 j)) }) :=
  Runs.next (runs_ldI j ⟨rfl, rfl⟩) <| Runs.next (runs_ldQ j ⟨rfl, rfl⟩) <| runs_stQ h7 j _ ⟨rfl, rfl⟩

theorem runs_tile0 (k : Vec F S1x512x128 .bf16) (j : Fin 4) :
    RunsK (tile0 a7 a9 h9 k j) σ (To { σ with x9 := Function.update σ.x9 (0, j) (expo k (σ.x7 j)) }) :=
  Runs.next (runs_ldQ j ⟨rfl, rfl⟩) <| Runs.next (runs_ldP 0 j ⟨rfl, rfl⟩) <| runs_stP h9 0 j _ ⟨rfl, rfl⟩

theorem runs_tile (u : Fin 15) (k : Vec F S1x512x128 .bf16) (j : Fin 4) (s : Option (FVec F S80x512 .f32)) :
    RunsK (tile a5 a7 a9 h9 u k j s) σ (fun x σ' => x = addPart s (part (vB σ.x5 u.castSucc) (σ.x9 (slot u.val, j)))
      ∧ σ' = { σ with x9 := Function.update σ.x9 (slot (u.val + 1), j) (expo k (σ.x7 j)) }) :=
  Runs.next (runs_ldQ j ⟨rfl, rfl⟩) <| Runs.next (runs_ldV _ ⟨rfl, rfl⟩) <| Runs.next (runs_ldP _ j ⟨rfl, rfl⟩) <|
    Runs.next (runs_ldP _ j ⟨rfl, rfl⟩) <| Runs.next (runs_stP h9 _ j _ ⟨rfl, rfl⟩) <| Runs.pure ⟨rfl, rfl⟩

theorem runs_finish (j : Fin 4) (s : Option (FVec F S80x512 .f32)) :
    RunsK (finish a5 a8 a9 j s) σ (To { σ with x8 := Function.update σ.x8 j (total (s.getD (σ.x8 j)) (σ.x8 j) (part (vB σ.x5 15) (σ.x9 (1, j)))) }) :=
  Runs.next (runs_ldA j ⟨rfl, rfl⟩) <| Runs.next (runs_ldV _ ⟨rfl, rfl⟩) <| Runs.next (runs_ldP _ j ⟨rfl, rfl⟩) <|
    Runs.next (runs_ldA j ⟨rfl, rfl⟩) <| runs_stA j _ ⟨rfl, rfl⟩

theorem runs_putO (j : Fin 4) (o : FVec F S64x2048 .f32) :
    RunsK (putO a6 h6 j o) σ (To { σ with x6 := Function.update σ.x6 j (head j o) }) :=
  Runs.next (runs_ldI_6 j ⟨rfl, rfl⟩) <| runs_stO h6 j _ ⟨rfl, rfl⟩

theorem update4 {α : Fin 4 → Type} (f g : (j : Fin 4) → α j) :
    Function.update (Function.update (Function.update (Function.update f 0 (g 0)) 1 (g 1)) 2 (g 2)) 3 (g 3) = g := by
  funext j
  fin_cases j <;> simp [Function.update]

theorem runs_putOs (o : FVec F S64x2048 .f32) : RunsK (putOs a6 h6 o) σ (To { σ with x6 := fun j => head j o }) :=
  Runs.next (runs_putO h6 0 o) <| Runs.next (runs_putO h6 1 o) <| Runs.next (runs_putO h6 2 o) <|
    (runs_putO h6 3 o).mono fun _ _ h => ⟨rfl, h.2.trans (by rw [← update4 σ.x6 fun j => head j o])⟩

theorem runs_scores (u : Fin 16) (b : Fin 2) :
    RunsK (scores a4 a7 a10 a11 u b) σ (To { σ with
      x10 := Function.update σ.x10 b (k0_pay4 (kB σ.x4 u) (tQ.glue σ.x7))
      x11 := Function.update σ.x11 b (k0_pay5 (kB σ.x4 u) (tQ.glue σ.x7)) }) :=
  Runs.next (runs_ldK u ⟨rfl, rfl⟩) <| Runs.next (runs_ld7 ⟨rfl, rfl⟩) <| Runs.next (runs_ldS b ⟨rfl, rfl⟩) <|
    Runs.next (runs_stS b _ ⟨rfl, rfl⟩) <| Runs.next (runs_ldC b ⟨rfl, rfl⟩) <| runs_stC b _ ⟨rfl, rfl⟩

theorem runs_absorb (u : Fin 16) (b : Fin 2) :
    RunsK (absorb a5 a10 a11 a12 a13 a14 u b) σ (To { σ with
      x12 := k0_pay13 (k0_pay6 σ.x12 (σ.x11 b))
      x13 := k0_pay21 σ.x12 (σ.x11 b) (σ.x10 b) σ.x13
      x14 := k0_pay29 (k0_pay22 σ.x12 (σ.x11 b) (σ.x10 b) σ.x14 (wB σ.x5 u)) }) :=
  Runs.next (runs_ld12 ⟨rfl, rfl⟩) <| Runs.next (runs_ldC b ⟨rfl, rfl⟩) <| Runs.next (runs_ldS b ⟨rfl, rfl⟩) <|
    Runs.next (runs_ld12_13 ⟨rfl, rfl⟩) <| Runs.next (runs_ld12_13 ⟨rfl, rfl⟩) <| Runs.next (runs_st12_13 _ ⟨rfl, rfl⟩) <|
    Runs.next (runs_ld14 ⟨rfl, rfl⟩) <| Runs.next (runs_ldW u ⟨rfl, rfl⟩) <| Runs.next (runs_ld14 ⟨rfl, rfl⟩) <|
    Runs.next (runs_st14 _ ⟨rfl, rfl⟩) <| Runs.next (runs_ld12 ⟨rfl, rfl⟩) <| runs_st12 _ ⟨rfl, rfl⟩

/-! ## The first pass -/

/-- Two states agree on the inputs, the masked queries and the sums. -/
structure Agree (σ σ' : State F) : Prop where
  x3 : σ'.x3 = σ.x3
  x4 : σ'.x4 = σ.x4
  x5 : σ'.x5 = σ.x5
  x7 : σ'.x7 = σ.x7
  x8 : σ'.x8 = σ.x8

theorem slot_ne (n : ℕ) : slot n ≠ slot (n + 1) := by
  intro h
  have : n % 2 = (n + 1) % 2 := congrArg Fin.val h
  omega

theorem runs_group (u : Fin 15) (s0 s1 s2 s3 : Option (FVec F S80x512 .f32)) (k) {R : PUnit → State F → Prop}
    (d : Fin 4 → FVec F S80x512 .f32) (hd : ∀ j, part (vB σ.x5 u.castSucc) (σ.x9 (slot u.val, j)) = d j)
    (hk : ∀ σ', Agree σ σ' → (∀ j, σ'.x9 (slot (u.val + 1), j) = expo (kB σ.x4 u.succ) (σ.x7 j)) →
      RunsK (k (some (addPart s0 (d 0))) (some (addPart s1 (d 1))) (some (addPart s2 (d 2))) (some (addPart s3 (d 3)))) σ' R) :
    RunsK (group a4 a5 a7 a9 h9 u s0 s1 s2 s3 k) σ R := by
  have hs := slot_ne u.val
  have hn (a b : Fin 4) : ((slot u.val, a) : Fin 2 × Fin 4) ≠ (slot (u.val + 1), b) := fun h => hs (congrArg Prod.fst h)
  refine Runs.next (runs_ldK _ ⟨rfl, rfl⟩) ?_
  refine Runs.next (runs_tile h9 u _ 0 s0) ?_
  refine Runs.next (runs_tile h9 u _ 1 s1) ?_
  refine Runs.next (runs_tile h9 u _ 2 s2) ?_
  refine Runs.next (runs_tile h9 u _ 3 s3) ?_
  simp only [Function.update_of_ne (hn _ _), hd]
  refine hk _ ⟨rfl, rfl, rfl, rfl, rfl⟩ fun j => ?_
  fin_cases j <;> simp [Function.update, kB]

theorem runs_groups {R : PUnit → State F → Prop} (k) (d : Fin 4 → ℕ → FVec F S80x512 .f32)
    (hd : ∀ j n, part (vB σ.x5 (gp n)) (expo (kB σ.x4 (gp n)) (σ.x7 j)) = d j n)
    (hk : ∀ σ', Agree σ σ' → (∀ j, σ'.x9 (1, j) = expo (kB σ.x4 15) (σ.x7 j)) →
      RunsK (k (parts (d 0) 15) (parts (d 1) 15) (parts (d 2) 15) (parts (d 3) 15)) σ' R) (n : ℕ) :
    ∀ (m : ℕ) (hm : m + n = 15) (σ₁ : State F), Agree σ σ₁ → (∀ j, σ₁.x9 (slot m, j) = expo (kB σ.x4 (gp m)) (σ.x7 j)) →
      RunsK (groups a4 a5 a7 a9 h9 ((List.finRange 15).drop m) (parts (d 0) m) (parts (d 1) m) (parts (d 2) m) (parts (d 3) m) k) σ₁ R := by
  induction n with
  | zero =>
    intro m hm σ₁ ha h9'
    obtain rfl : m = 15 := by omega
    rw [List.drop_of_length_le (by simp)]
    exact hk σ₁ ha h9'
  | succ n ih =>
    intro m hm σ₁ ha h9'
    have hlt : m < 15 := by omega
    rw [List.drop_eq_getElem_cons (by simpa using hlt), List.getElem_finRange]
    have e1 : (⟨m, hlt⟩ : Fin 15).castSucc = gp m := Fin.ext (Nat.mod_eq_of_lt (by omega)).symm
    have e2 : (⟨m, hlt⟩ : Fin 15).succ = gp (m + 1) := Fin.ext (Nat.mod_eq_of_lt (by omega)).symm
    refine runs_group h9 ⟨m, hlt⟩ _ _ _ _ _ (fun j => d j m) (fun j => ?_) fun σ₂ ha₂ h9₂ => ?_
    · show part (vB σ₁.x5 (⟨m, hlt⟩ : Fin 15).castSucc) (σ₁.x9 (slot m, j)) = d j m
      rw [h9' j, e1, ha.x5, hd]
    · refine ih (m + 1) (by omega) σ₂ ⟨ha₂.x3.trans ha.x3, ha₂.x4.trans ha.x4, ha₂.x5.trans ha.x5, ha₂.x7.trans ha.x7, ha₂.x8.trans ha.x8⟩ fun j => ?_
      have := h9₂ j
      rw [e2, ha.x4, ha.x7] at this
      exact this

theorem runs_plain : RunsK (plain a3 a4 a5 a7 h7 a8 a9 h9 i) σ (fun _ σ' => σ'.x3 = σ.x3 ∧ σ'.x4 = σ.x4 ∧ σ'.x5 = σ.x5
    ∧ σ'.x7 = qs i σ.x3 ∧ σ'.x8 = sums i σ.x3 σ.x4 σ.x5) := by
  refine Runs.next (runs_putQ h7 i 0) <| Runs.next (runs_putQ h7 i 1) <| Runs.next (runs_putQ h7 i 2) <| Runs.next (runs_putQ h7 i 3) ?_
  dsimp only
  rw [update4 σ.x7 (fun j => maskQ i (σ.x3 j))]
  refine Runs.next (runs_ld8 ⟨rfl, rfl⟩) <| Runs.next (runs_st8 _ ⟨rfl, rfl⟩) <| Runs.next (runs_ldK 0 ⟨rfl, rfl⟩) ?_
  refine Runs.next (runs_tile0 h9 _ 0) <| Runs.next (runs_tile0 h9 _ 1) <| Runs.next (runs_tile0 h9 _ 2) <| Runs.next (runs_tile0 h9 _ 3) ?_
  dsimp only
  refine runs_groups h9 (σ := { σ with x7 := qs i σ.x3, x8 := tA.tile k0_pay57 }) _ (add i σ.x3 σ.x4 σ.x5) (fun j n => rfl) ?_ 15 0 rfl _ ⟨rfl, rfl, rfl, rfl, rfl⟩ ?_
  · intro σ₁ ha h9'
    refine Runs.next (runs_finish 0 _) <| Runs.next (runs_finish 1 _) <| Runs.next (runs_finish 2 _) <| (runs_finish 3 _).mono ?_
    rintro _ _ ⟨-, rfl⟩
    refine ⟨ha.x3, ha.x4, ha.x5, ha.x7, ?_⟩
    dsimp only
    rw [← update4 σ₁.x8 (sums i σ.x3 σ.x4 σ.x5)]
    have e (j) : total ((parts (add i σ.x3 σ.x4 σ.x5 j) 15).getD (σ₁.x8 j)) (σ₁.x8 j) (part (vB σ₁.x5 15) (σ₁.x9 (1, j))) = sums i σ.x3 σ.x4 σ.x5 j := by
      rw [ha.x8, ha.x5, h9' j]; rfl
    rw [← e 0, ← e 1, ← e 2, ← e 3]
    simp [Function.update]
  · intro j
    fin_cases j <;> simp [Function.update, slot, kB, gp, qs]

/-! ## The second pass -/

theorem forFrom_runs {n : ℕ} (body : Fin n → PUnit → Body (F := F) PUnit) (I : ℕ → State F → Prop)
    (hb : ∀ (t : Fin n) σ, I t.val σ → RunsK (body t ⟨⟩) σ (fun _ => I (t.val + 1))) (m : ℕ) :
    ∀ (hm : m ≤ n) (σ : State F), I (n - m) σ → RunsK (Scf.forFrom body ((List.finRange n).drop (n - m)) ⟨⟩) σ (fun _ => I n) := by
  induction m with
  | zero =>
    intro _ σ h
    rw [List.drop_of_length_le (by simp), Scf.forFrom_nil]
    exact Runs.pure h
  | succ m ih =>
    intro hm σ h
    have hlt : n - (m + 1) < n := by omega
    have hs : n - m = n - (m + 1) + 1 := by omega
    rw [List.drop_eq_getElem_cons (by simpa using hlt), List.getElem_finRange, Scf.forFrom_cons]
    refine Runs.bind (hb ⟨n - (m + 1), hlt⟩ σ h) ?_
    rintro ⟨⟩ σ' h'
    have := ih (by omega) σ' (hs ▸ h')
    rw [hs] at this
    exact this

/-- Before trip `t` of the loop. -/
structure Inv (x3 : Fin 4 → Vec F S1x64x512 .bf16) (x4 : Vec F S1x8192x128 .bf16) (x5 : Vec F S1x1x16x80x512 .bf16) (t : ℕ) (σ : State F) : Prop where
  h3 : σ.x3 = x3
  h4 : σ.x4 = x4
  h5 : σ.x5 = x5
  h7 : σ.x7 = qs i x3
  h10 : σ.x10 0 = sc i x3 x4 (2 * t)
  h11 : σ.x11 0 = cm i x3 x4 (2 * t)
  h12 : σ.x12 = (online i x3 x4 x5 (2 * t)).1
  h13 : σ.x13 = (online i x3 x4 x5 (2 * t)).2.1
  h14 : σ.x14 = (online i x3 x4 x5 (2 * t)).2.2

theorem runs_online0 (h : σ.x7 = qs i σ.x3) : RunsK (online0 a4 a7 a10 a11 a12 a13 a14) σ (fun _ => Inv i σ.x3 σ.x4 σ.x5 0) := by
  refine Runs.next (runs_ld12 ⟨rfl, rfl⟩) <| Runs.next (runs_st12 _ ⟨rfl, rfl⟩) <| Runs.next (runs_ld12_13 ⟨rfl, rfl⟩) <|
    Runs.next (runs_st12_13 _ ⟨rfl, rfl⟩) <| Runs.next (runs_ld14 ⟨rfl, rfl⟩) <| Runs.next (runs_st14 _ ⟨rfl, rfl⟩) <| (runs_scores 0 0).mono ?_
  rintro _ _ ⟨-, rfl⟩
  refine ⟨rfl, rfl, rfl, h, ?_, ?_, rfl, rfl, rfl⟩
  · simp only [Function.update_self, h]; rfl
  · simp only [Function.update_self, h]; rfl

theorem runs_online1 {x3 : Fin 4 → Vec F S1x64x512 .bf16} {x4 : Vec F S1x8192x128 .bf16} {x5 : Vec F S1x1x16x80x512 .bf16}
    (t : Fin 7) (h : Inv i x3 x4 x5 t.val σ) :
    RunsK (online1 a4 a5 a7 a10 a11 a12 a13 a14 t) σ (fun _ => Inv i x3 x4 x5 (t.val + 1)) := by
  have e0 : (⟨2 * t.val, by omega⟩ : Fin 16) = gp (2 * t.val) := Fin.ext (Nat.mod_eq_of_lt (by omega)).symm
  have e1 : (⟨2 * t.val + 1, by omega⟩ : Fin 16) = gp (2 * t.val + 1) := Fin.ext (Nat.mod_eq_of_lt (by omega)).symm
  have e2 : (⟨2 * t.val + 2, by omega⟩ : Fin 16) = gp (2 * t.val + 2) := Fin.ext (Nat.mod_eq_of_lt (by omega)).symm
  obtain ⟨rfl, rfl, rfl, h7', hs, hc, hm, hl, ha⟩ := h
  unfold online1
  rw [e0, e1, e2]
  refine Runs.next (runs_scores _ 1) <| Runs.next (runs_absorb _ 0) <| Runs.next (runs_scores _ 0) <| (runs_absorb _ 1).mono ?_
  rintro _ _ ⟨-, rfl⟩
  have n01 : (0 : Fin 2) ≠ 1 := by decide
  have n10 : (1 : Fin 2) ≠ 0 := by decide
  have et : 2 * (t.val + 1) = 2 * t.val + 1 + 1 := by omega
  simp only [Function.update_self, Function.update_of_ne n01, Function.update_of_ne n10, h7', hs, hc, hm, hl, ha]
  refine ⟨rfl, rfl, rfl, ?_, ?_, ?_, ?_, ?_, ?_⟩ <;> simp only [Function.update_self, Function.update_of_ne n01, Function.update_of_ne n10] <;> first | rfl | exact h7' | (rw [et]; rfl)

theorem runs_online2 {x3 : Fin 4 → Vec F S1x64x512 .bf16} {x4 : Vec F S1x8192x128 .bf16} {x5 : Vec F S1x1x16x80x512 .bf16}
    (h : Inv i x3 x4 x5 7 σ) :
    RunsK (online2 a4 a5 a6 h6 a7 a10 a11 a12 a13 a14) σ (fun _ σ' => σ'.x3 = x3 ∧ σ'.x4 = x4 ∧ σ'.x5 = x5
      ∧ σ'.x6 = fun j => head j (k0_pay47 (online i x3 x4 x5 16).2.2 (online i x3 x4 x5 16).2.1)) := by
  obtain ⟨rfl, rfl, rfl, h7', hs, hc, hm, hl, ha⟩ := h
  refine Runs.next (runs_scores _ 1) <| Runs.next (runs_absorb _ 0) <| Runs.next (runs_absorb _ 1) <|
    Runs.next (runs_ld14 ⟨rfl, rfl⟩) <| Runs.next (runs_ld12_13 ⟨rfl, rfl⟩) <| (runs_putOs h6 _).mono ?_
  rintro _ _ ⟨-, rfl⟩
  have n01 : (0 : Fin 2) ≠ 1 := by decide
  have n10 : (1 : Fin 2) ≠ 0 := by decide
  simp only [Function.update_self, Function.update_of_ne n01, Function.update_of_ne n10, h7', hs, hc, hm, hl, ha]
  exact ⟨trivial, trivial, trivial, rfl⟩

/-! ## The body -/

theorem runs_rest (hq : σ.x7 = qs i σ.x3) (hs : σ.x8 = sums i σ.x3 σ.x4 σ.x5) :
    RunsK (rest a3 h3 a4 h4 a5 h5 a6 h6 a7 h7 a8 h8 a9 h9 a10 h10 a11 h11 a12 h12 a13 h13 a14 h14 i (den i σ.x3 σ.x4 σ.x5) (safe (den i σ.x3 σ.x4 σ.x5))) σ
      (fun _ σ' => σ'.x3 = σ.x3 ∧ σ'.x4 = σ.x4 ∧ σ'.x5 = σ.x5 ∧ σ'.x6 = out i σ.x3 σ.x4 σ.x5) := by
  have ho : out i σ.x3 σ.x4 σ.x5 = fun j => head j (quot i σ.x3 σ.x4 σ.x5) := rfl
  rw [ho]
  unfold quot
  rcases bit_cases (safe (den i σ.x3 σ.x4 σ.x5)) with h | h
  · rw [h, if_neg (by decide)]
    show RunsK (Prog.bind (online0 a4 a7 a10 a11 a12 a13 a14) _) σ _
    refine Runs.bind (runs_online0 i hq) fun _ σ₁ h₁ => ?_
    refine Runs.bind (Q := fun _ => Inv i σ.x3 σ.x4 σ.x5 7) ?_ fun _ σ₂ h₂ => ?_
    · unfold Scf.Loop.for
      rw [Scf.for_eq]
      refine forFrom_runs (n := 7) _ (Inv i σ.x3 σ.x4 σ.x5) (fun t σ' h' => ?_) 7 le_rfl σ₁ h₁
      rw [trip_eq]
      exact runs_online1 i t h'
    · refine Runs.bind (runs_online2 h6 i h₂) fun _ σ₃ h₃ => ?_
      exact Runs.pure h₃
  · rw [h, if_pos rfl]
    show RunsK (Prog.bind (ldN a8) _) σ _
    refine Runs.next (runs_ldN ⟨rfl, rfl⟩) ?_
    refine Runs.next (runs_putOs h6 _) ?_
    refine Runs.pure ⟨rfl, rfl, rfl, ?_⟩
    rw [hs]; rfl

theorem runs_body : RunsK (body a3 h3 a4 h4 a5 h5 a6 h6 a7 h7 a8 h8 a9 h9 a10 h10 a11 h11 a12 h12 a13 h13 a14 h14 i) σ
    (fun _ σ' => σ'.x3 = σ.x3 ∧ σ'.x4 = σ.x4 ∧ σ'.x5 = σ.x5 ∧ σ'.x6 = out i σ.x3 σ.x4 σ.x5) := by
  refine Runs.bind (runs_plain h7 h9 i) ?_
  rintro _ σ₁ ⟨h3', h4', h5', h7', h8'⟩
  refine Runs.next (runs_ldD ⟨rfl, rfl⟩) ?_
  have e : VecWindow.window (tA.glue σ₁.x8) ![64, 0] S1x2048.size inb_S80x2048_S1x2048_64_0 = den i σ₁.x3 σ₁.x4 σ₁.x5 := by
    rw [h8', h3', h4', h5']; rfl
  rw [e]
  rw [← h3', ← h4', ← h5']
  rw [← h3'] at h7' h8'
  rw [← h4', ← h5'] at h8'
  exact runs_rest h3 h4 h5 h6 h7 h8 h9 h10 h11 h12 h13 h14 i h7' h8'

end mem

end Cert.KernelIdeal.Attn

end
-- ==== Proof.Run.lean ====
/-  The run of the program: every point's result block is `out` of its three input blocks. -/
module

public import proofs.«01_k».proof.Proof.Pass
public import proofs.«01_k».proof.Proof.Gen.KernelIdeal.Frame
public import proofs.«01_k».proof.Proof.Gen.KernelIdeal.Points
public import Idealize.ShloMosaic.Lib.Claim

@[expose] public section

set_option maxRecDepth 65536

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result block of point `t`. -/
def blockAt (c : Dev nD) (t : Fin cfg0.N) : Vec F S1x256x512 .bf16 :=
  tO.glue (out (grid0.coords t) (tO.tile (iblk m c 0 t)) (iblk m c 1 t) (iblk m c 2 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = blockAt m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

theorem scratch_eq (c : Dev nD) : (Pipeline.ΦA spec0 c : sProp 𝕄)
    = iprop(((∃ d, owns c (Memref.whole cc0_scratch0) fullShare d) ∗ (∃ d, owns c (Memref.whole cc0_scratch1) fullShare d) ∗ (∃ d, owns c (Memref.whole cc0_scratch2) fullShare d)
        ∗ (∃ d, owns c (Memref.whole cc0_scratch3) fullShare d) ∗ (∃ d, owns c (Memref.whole cc0_scratch4) fullShare d) ∗ (∃ d, owns c (Memref.whole cc0_scratch5) fullShare d)
        ∗ (∃ d, owns c (Memref.whole cc0_scratch6) fullShare d) ∗ (∃ d, owns c (Memref.whole cc0_scratch7) fullShare d)) ∗ (∃ r, prngReg c r)) := by
  unfold Pipeline.ΦA; rw [scopedRest0_eq]; simp only [owns_whole]; try rfl

/-- What the body is given at point `t`, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq]
  rw [show (dats m 0 c).leavesExact 0 t = owns (c : Thread nD τ) (st0_0 t) fullShare (iblk m c 0 t) from rfl,
    show (dats m 0 c).leavesExact 1 t = owns (c : Thread nD τ) (st0_1 t) fullShare (iblk m c 1 t) from rfl,
    show (dats m 0 c).leavesExact 2 t = owns (c : Thread nD τ) (st0_2 t) fullShare (iblk m c 2 t) from rfl,
    show (dats m 0 c).leavesExact 3 t = owns (c : Thread nD τ) (st0_3 t) fullShare (blockAt m c t) from rfl]
  rw [cc0_c_attn_eq_skeleton, body_eq]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩⟩, Hg⟩, Ho, ⟨%d0, H0⟩, ⟨%d1, H1⟩, ⟨%d2, H2⟩, ⟨%d3, H3⟩⟩
  obtain ⟨x, σ', ⟨e3, e4, e5, e6⟩, H⟩ := runs_body (F := F) (c := c) (E := Set.univ) (hstage0_0 ((cfg0.slots t 0).cast nbuf0_0)) (hstage0_1 ((cfg0.slots t 1).cast nbuf0_1))
    (hstage0_2 ((cfg0.slots t 2).cast nbuf0_2)) (hstage0_3 ((cfg0.slots t 3).cast nbuf0_3)) (Memref.isWhole_whole cc0_scratch0) (Memref.isWhole_whole cc0_scratch1)
    (Memref.isWhole_whole cc0_scratch2) (Memref.isWhole_whole cc0_scratch3) (Memref.isWhole_whole cc0_scratch4) (Memref.isWhole_whole cc0_scratch5)
    (Memref.isWhole_whole cc0_scratch6) (Memref.isWhole_whole cc0_scratch7) (grid0.coords t)
    (σ := ⟨tO.tile (iblk m c 0 t), iblk m c 1 t, iblk m c 2 t, tO.tile ((dats m 0 c).before 3 t d3), tQ.tile s0, tA.tile s1, tP.tile s2, tS.tile s3, tC.tile s4, s5, s6, s7⟩)
  dsimp only at e3 e4 e5 e6
  iapply H
  unfold At
  dsimp only
  rw [e3, e4, e5, e6, tO.glue_tile, tO.glue_tile, tQ.glue_tile, tA.glue_tile, tP.glue_tile, tS.glue_tile, tC.glue_tile]
  isplitl [H0 H1 H2 H3 S0 S1 S2 S3 S4 S5 S6 S7]
  · isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro ⟨H0, H1, H2, H3, S0, S1, S2, S3, S4, S5, S6, S7⟩
  isplitl [Hg S0 S1 S2 S3 S4 S5 S6 S7]
  · isplitl [S0 S1 S2 S3 S4 S5 S6 S7]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      iexists _; iexact S7
    iexact Hg
  isplitl [Ho]; · iexact Ho
  isplitl [H0]; · iexact H0
  isplitl [H1]; · iexact H1
  isplitl [H2]; · iexact H2
  iexact H3

theorem body_row (t : Fin cfg0.N) : defs₀ (F := F) .tc cfg0.body (cfg0.bodyArgs t (cfg0.slots t)) = bodyAt0 t := by unfold defs₀; rw [Defs.onTc_tc]

theorem body_obligation (c : Dev nD) : BodyObligation (dats m 0 c) (defs₀ (F := F)) Variants.none () Set.univ := fun t => by
  rw [bigSep_W0, bigSep_W0, body_row]
  exact triple_restated (sound_body m c t) rfl .rfl fun _ => .rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_main m ρ)

/-- The run ends with the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_post m ρ))
    ((θ_run defs _ _).mono (fun _ h => h.2) (run_main m ρ))

end Cert.KernelIdeal.Attn

end
-- ==== Proof.Soft.lean ====
/-  Softmax-weighted sums over the extended reals: values of any size, scores that are real numbers. -/
module

public import Idealize.ShloMosaic.PureOps.Ideal
public import Idealize.ShloMosaic.Lib.Pointwise

@[expose] public section

noncomputable section

namespace Cert.Soft

open Idealize.ShloMosaic

/-- `2 ^ x` of a real number. -/
def pow2 (x : ℝ) : ℝ := (2 : ℝ) ^ x

theorem pow2_pos (x : ℝ) : 0 < pow2 x := Real.rpow_pos_of_pos (by norm_num) x
theorem pow2_add (x y : ℝ) : pow2 (x + y) = pow2 x * pow2 y := Real.rpow_add (by norm_num) x y
theorem exp2_real (x : ℝ) : Ideal.exp2 (x : EReal) = (pow2 x : EReal) := rfl
/-- The exponential is a power of two. -/
theorem exp_eq (x : ℝ) : Real.exp x = pow2 (x / Real.log 2) := by
  have h : Real.log 2 ≠ 0 := (Real.log_pos (by norm_num)).ne'
  unfold pow2
  rw [Real.rpow_def_of_pos (by norm_num), mul_div_cancel₀ _ h]

theorem coe_max (x y : ℝ) : ((max x y : ℝ) : EReal) = max (x : EReal) (y : EReal) := EReal.coe_strictMono.monotone.map_max

variable {ι : Type}

theorem coe_sum (A : Finset ι) (x : ι → ℝ) : (∑ k ∈ A, (x k : EReal)) = ((∑ k ∈ A, x k : ℝ) : EReal) := by
  classical
  induction A using Finset.induction_on with
  | empty => simp
  | insert a A h ih => rw [Finset.sum_insert h, Finset.sum_insert h, ih, EReal.coe_add]

/-- Multiplying by a real number that is not negative distributes over any sum. -/
theorem sum_mul_real (A : Finset ι) (f : ι → EReal) {c : ℝ} (hc : 0 ≤ c) : (∑ k ∈ A, f k) * (c : EReal) = ∑ k ∈ A, f k * (c : EReal) := by
  classical
  induction A using Finset.induction_on with
  | empty => simp
  | insert a A h ih =>
    rw [Finset.sum_insert h, Finset.sum_insert h, ← ih]
    exact EReal.right_distrib_of_nonneg_of_ne_top (EReal.coe_nonneg.2 hc) (EReal.coe_ne_top c) _ _

/-- The maximum of real numbers, one at least, is a real number. -/
theorem fold_max_real [Fintype ι] [Nonempty ι] (x : ι → ℝ) : ∃ r : ℝ, Finset.univ.fold max (⊥ : EReal) (fun k => (x k : EReal)) = (r : EReal) := by
  classical
  have h (A : Finset ι) : (A = ∅ ∧ A.fold max (⊥ : EReal) (fun k => (x k : EReal)) = ⊥)
      ∨ ∃ r : ℝ, A.fold max (⊥ : EReal) (fun k => (x k : EReal)) = (r : EReal) := by
    induction A using Finset.induction_on with
    | empty => exact .inl ⟨rfl, Finset.fold_empty⟩
    | insert a A ha ih =>
      right
      rw [Finset.fold_insert ha]
      rcases ih with ⟨-, e⟩ | ⟨r, e⟩
      · exact ⟨x a, by rw [e, max_bot_right]⟩
      · exact ⟨max (x a) r, by rw [e, coe_max]⟩
  rcases h Finset.univ with ⟨e, -⟩ | h
  · exact absurd e Finset.univ_nonempty.ne_empty
  · exact h

section soft
variable [Fintype ι]

/-- The values `v` weighted by the softmax (to base two) of the scores `s`. -/
def soft (s : ι → ℝ) (v : ι → EReal) : EReal := ∑ k, v k * ((pow2 (s k) / ∑ j, pow2 (s j) : ℝ) : EReal)

variable [Nonempty ι]

theorem total_pos (s : ι → ℝ) : 0 < ∑ k, pow2 (s k) := Finset.sum_pos (fun k _ => pow2_pos _) Finset.univ_nonempty

theorem shift (s : ι → ℝ) (μ : ℝ) (k : ι) : pow2 (s k - μ) / ∑ j, pow2 (s j - μ) = pow2 (s k) / ∑ j, pow2 (s j) := by
  have e (k) : pow2 (s k - μ) = pow2 (s k) * pow2 (-μ) := by rw [← pow2_add, sub_eq_add_neg]
  simp only [e]
  rw [← Finset.sum_mul, mul_div_mul_right _ _ (pow2_pos _).ne']

/-- Sums of powers of two, shifted by one number, divided at the end. -/
theorem div_eq_soft (s : ι → ℝ) (v : ι → EReal) (μ : ℝ) :
    Ideal.div (∑ k, v k * (pow2 (s k - μ) : EReal)) ((∑ k, pow2 (s k - μ) : ℝ) : EReal) = soft s v := by
  rw [Ideal.div_coe (total_pos fun k => s k - μ).ne', sum_mul_real _ _ (div_nonneg zero_le_one (total_pos fun k => s k - μ).le)]
  refine Finset.sum_congr rfl fun k _ => ?_
  rw [mul_assoc, ← EReal.coe_mul, mul_one_div, shift]

/-- Exponentials, shifted by one number, divided before they are summed. -/
theorem sum_eq_soft (t : ι → ℝ) (v : ι → EReal) (μ : ℝ) :
    ∑ k, v k * Ideal.div (Real.exp (t k - μ) : EReal) ((∑ j, Real.exp (t j - μ) : ℝ) : EReal) = soft (fun k => t k / Real.log 2) v := by
  simp only [exp_eq, sub_div]
  refine Finset.sum_congr rfl fun k _ => ?_
  rw [Ideal.div_coe (total_pos fun k => t k / Real.log 2 - μ / Real.log 2).ne', ← EReal.coe_mul, mul_one_div]
  exact congrArg _ (congrArg _ (shift (fun k => t k / Real.log 2) (μ / Real.log 2) k))

end soft

/-! ## The running form -/

/-- Softmax of renamed keys. -/
theorem soft_equiv {ι κ : Type} [Fintype ι] [Fintype κ] (e : ι ≃ κ) (s : κ → ℝ) (v : κ → EReal) :
    soft (fun i => s (e i)) (fun i => v (e i)) = soft s v := by
  unfold soft
  rw [e.sum_comp (fun k => pow2 (s k))]
  exact e.sum_comp (fun k => v k * ((pow2 (s k) / ∑ j, pow2 (s j) : ℝ) : EReal))

/-- After the groups `A`: the maximum `m`, the sum `l` and the weighted sum `a`, both relative to the maximum. -/
def Running (s : ℕ → ι → ℝ) (v : ℕ → ι → EReal) [Fintype ι] (n : ℕ) (m l a : EReal) : Prop :=
  (n = 0 ∧ m = ⊥ ∧ l = 0 ∧ a = 0) ∨
  ∃ μ : ℝ, m = (μ : EReal) ∧ l = ((∑ u ∈ Finset.range n, ∑ k, pow2 (s u k - μ) : ℝ) : EReal)
    ∧ a = ∑ u ∈ Finset.range n, ∑ k, v u k * (pow2 (s u k - μ) : EReal)

/-- One more group. -/
theorem Running.next {s : ℕ → ι → ℝ} {v : ℕ → ι → EReal} [Fintype ι] {n : ℕ} {m l a : EReal} (h : Running s v n m l a) {c : EReal} {γ : ℝ} (hc : c = (γ : EReal)) :
    Running s v (n + 1) (max m c) (Ideal.exp2 (m - max m c) * l + ∑ k, Ideal.exp2 ((s n k : EReal) - max m c))
      (Ideal.exp2 (m - max m c) * a + ∑ k, v n k * Ideal.exp2 ((s n k : EReal) - max m c)) := by
  subst hc
  rcases h with ⟨rfl, rfl, rfl, rfl⟩ | ⟨μ, rfl, rfl, rfl⟩
  · refine .inr ⟨γ, by simp, ?_, ?_⟩
    · simp only [max_bot_left, ← EReal.coe_sub, exp2_real, mul_zero, zero_add, Finset.range_one, Finset.sum_singleton, coe_sum]
    · simp only [max_bot_left, ← EReal.coe_sub, exp2_real, mul_zero, zero_add, Finset.range_one, Finset.sum_singleton]
  · refine .inr ⟨max μ γ, (coe_max _ _), ?_, ?_⟩
    · simp only [← coe_max, ← EReal.coe_sub, exp2_real, coe_sum, ← EReal.coe_mul, ← EReal.coe_add]
      rw [Finset.sum_range_succ, Finset.mul_sum]
      simp only [Finset.mul_sum, ← pow2_add]
      refine congrArg _ (congrArg₂ (· + ·) (Finset.sum_congr rfl fun u _ => Finset.sum_congr rfl fun k _ => congrArg _ ?_) rfl)
      ring
    · simp only [← coe_max, ← EReal.coe_sub, exp2_real]
      rw [Finset.sum_range_succ, mul_comm, sum_mul_real _ _ (pow2_pos _).le]
      refine congrArg₂ (· + ·) (Finset.sum_congr rfl fun u _ => ?_) rfl
      rw [sum_mul_real _ _ (pow2_pos _).le]
      refine Finset.sum_congr rfl fun k _ => ?_
      rw [mul_assoc, ← EReal.coe_mul, ← pow2_add]
      refine congrArg _ (congrArg _ (congrArg _ ?_))
      ring

/-- The quotient at the end. -/
theorem Running.soft {s : ℕ → ι → ℝ} {v : ℕ → ι → EReal} [Fintype ι] [Nonempty ι] {n : ℕ} [NeZero n] {m l a : EReal} (h : Running s v n m l a) :
    Ideal.div a l = Cert.Soft.soft (fun x : Fin n × ι => s x.1 x.2) (fun x => v x.1 x.2) := by
  rcases h with ⟨rfl, -⟩ | ⟨μ, -, rfl, rfl⟩
  · exact absurd rfl (NeZero.ne 0)
  · rw [← div_eq_soft _ _ μ, Finset.sum_range, Finset.sum_range, Fintype.sum_prod_type, Fintype.sum_prod_type]

end Cert.Soft

end
-- ==== Proof.Block.lean ====
/-  The result block at the ideal instance: every element is a softmax-weighted sum of values. -/
module

public import proofs.«01_k».proof.Proof.Run
public import proofs.«01_k».proof.Proof.Soft
public import Idealize.ShloMosaic.Lib.Pipeline.ValueKit

@[expose] public section

set_option maxRecDepth 65536

noncomputable section

namespace Cert.KernelIdeal.Attn

open Cert.KernelIdeal Cert.KernelIdeal.Gen
open Idealize.ShloMosaic Idealize.ShloMosaic.TcCoe Idealize.SL.Sem
open Idealize.ShloMosaic.Pipeline (Dat)

/-! ## The payloads, element by element -/

theorem ofBits_neg_inf : Ideal.ofBits .f32 0xFF800000#32 = ⊥ := by simp [Ideal.ofBits, Ideal.ieee]

theorem half_at (i : grid0.Coords) (c : Fin 128) (r : Fin 512) :
    k0_pay51 i (ix2 c r) = BitVec.ofBool (decide (c.val / 64 = (i 1).val % 2)) := by
  pointwise [k0_pay51]
  generalize i 1 = h
  revert c h
  decide +kernel

theorem maskQ_at (i : grid0.Coords) (q : Vec Ideal S1x64x512 .bf16) (c : Fin 128) (r : Fin 512) :
    maskQ i q (ix2 c r) = if c.val / 64 = (i 1).val % 2 then q (ix3 0 ⟨c.val % 64, Nat.mod_lt _ (by decide)⟩ r) else 0 := by
  pointwise [maskQ, k0_pay54]
  rw [half_at]
  have e : (if h : c.val < 64 then q (ix3 0 ⟨c.val, h⟩ r) else q (ix3 0 ⟨c.val - 64, by omega⟩ r))
      = q (ix3 0 ⟨c.val % 64, Nat.mod_lt _ (by decide)⟩ r) := by
    split <;> exact congrArg (fun d => q (ix3 0 d r)) (Fin.ext (by simp only; omega))
  rw [e]
  by_cases h : c.val / 64 = (i 1).val % 2 <;> simp [h, Scalar.select]

theorem expo_at (k : Vec Ideal S1x512x128 .bf16) (q : Vec Ideal S128x512 .bf16) (κ r : Fin 512) :
    expo k q (ix4 0 0 κ r) = Ideal.exp2 (∑ c : Fin 128, k (ix3 0 κ c) * q (ix2 c r)) := by
  pointwise [expo, k0_pay59, k0_pay58]
  rfl

theorem part_at (v : Vec Ideal S1x1x1x80x512 .bf16) (p : Vec Ideal S1x1x512x512 .bf16) (a : Fin 80) (r : Fin 512) :
    part v p (ix2 a r) = ∑ κ : Fin 512, v (ix5 0 0 0 a κ) * p (ix4 0 0 κ r) := by
  pointwise [part, k0_pay64]

theorem sc_at (k : Vec Ideal S1x512x128 .bf16) (q : Vec Ideal S128x2048 .bf16) (κ : Fin 512) (n : Fin 2048) :
    k0_pay4 k q (ix3 0 κ n) = ∑ c : Fin 128, k (ix3 0 κ c) * q (ix2 c n) := by
  pointwise [k0_pay4, k0_pay3]

theorem cm_at (k : Vec Ideal S1x512x128 .bf16) (q : Vec Ideal S128x2048 .bf16) (n : Fin 2048) :
    k0_pay5 k q (ix3 0 0 n) = Finset.univ.fold max ⊥ fun κ : Fin 512 => ∑ c : Fin 128, k (ix3 0 κ c) * q (ix2 c n) := by
  pointwise [k0_pay5, k0_pay3]
  rw [ofBits_neg_inf]

theorem max_at (m : Vec Ideal S1x2048 .f32) (x : Vec Ideal S1x1x2048 .f32) (n : Fin 2048) :
    k0_pay13 (k0_pay6 m x) (ix2 0 n) = max (m (ix2 0 n)) (x (ix3 0 0 n)) := by
  pointwise [k0_pay13, k0_pay6]

theorem sum_at (m : Vec Ideal S1x2048 .f32) (x : Vec Ideal S1x1x2048 .f32) (s : Vec Ideal S1x512x2048 .f32) (l : Vec Ideal S1x2048 .f32) (n : Fin 2048) :
    k0_pay21 m x s l (ix2 0 n) = Ideal.exp2 (m (ix2 0 n) - max (m (ix2 0 n)) (x (ix3 0 0 n))) * l (ix2 0 n)
      + ∑ κ : Fin 512, Ideal.exp2 (s (ix3 0 κ n) - max (m (ix2 0 n)) (x (ix3 0 0 n))) := by
  pointwise [k0_pay21, k0_pay20, k0_pay19, k0_pay18]
  rfl

theorem acc_at (m : Vec Ideal S1x2048 .f32) (x : Vec Ideal S1x1x2048 .f32) (s : Vec Ideal S1x512x2048 .f32) (a : Vec Ideal S64x2048 .f32)
    (v : Vec Ideal S1x1x1x64x512 .bf16) (d : Fin 64) (n : Fin 2048) :
    k0_pay29 (k0_pay22 m x s a v) (ix2 d n) = Ideal.exp2 (m (ix2 0 n) - max (m (ix2 0 n)) (x (ix3 0 0 n))) * a (ix2 d n)
      + ∑ κ : Fin 512, v (ix5 0 0 0 d κ) * Ideal.exp2 (s (ix3 0 κ n) - max (m (ix2 0 n)) (x (ix3 0 0 n))) := by
  pointwise [k0_pay29, k0_pay22, k0_pay20, k0_pay19, k0_pay18]
  rfl

theorem start_at (n : Fin 2048) (d : Fin 64) :
    k0_pay23 (F := Ideal) (ix2 0 n) = ⊥ ∧ k0_pay24 (F := Ideal) (ix2 0 n) = 0 ∧ k0_pay25 (F := Ideal) (ix2 d n) = 0 := by
  pointwise [k0_pay23, k0_pay24, k0_pay25]
  exact ofBits_neg_inf

theorem fast_at (l : Vec Ideal S1x2048 .f32) (a : Vec Ideal S64x2048 .f32) (d : Fin 64) (n : Fin 2048) :
    k0_pay243 l a (ix2 d n) = Ideal.div (a (ix2 d n)) (l (ix2 0 n)) := by
  pointwise [k0_pay243]

theorem slow_at (l : Vec Ideal S1x2048 .f32) (a : Vec Ideal S64x2048 .f32) (d : Fin 64) (n : Fin 2048) :
    k0_pay47 a l (ix2 d n) = Ideal.div (a (ix2 d n)) (l (ix2 0 n)) := by
  pointwise [k0_pay47]

/-- Column `r` of head `j`. -/
def col (j : Fin 4) (r : Fin 512) : Fin 2048 := ⟨512 * j.val + r.val, by omega⟩

theorem head_at (j : Fin 4) (o : Vec Ideal S64x2048 .f32) (d : Fin 64) (r : Fin 512) :
    head (F := Ideal) j o (ix3 0 d r) = (o (ix2 d (col j r)) : EReal) := by
  fin_cases j <;> pointwise [head, col]

theorem glueQ_at (f : Fin 4 → Vec Ideal S128x512 .bf16) (c : Fin 128) (j : Fin 4) (r : Fin 512) :
    tQ.glue f (ix2 c (col j r)) = f j (ix2 c r) := by
  rw [tQ.glue_at f _ j (by
    intro a
    fin_cases a
    · exact ⟨Nat.zero_le _, by show c.val < 0 + 128; omega⟩
    · exact ⟨Nat.le_add_right _ _, by show 512 * j.val + r.val < 512 * j.val + 512; omega⟩)]
  refine congrArg (f j) (funext fun a => Fin.ext ?_)
  fin_cases a
  · rfl
  · show 512 * j.val + r.val - 512 * j.val = r.val
    omega

theorem glueA_at (f : Fin 4 → Vec Ideal S80x512 .f32) (c : Fin 80) (j : Fin 4) (r : Fin 512) :
    tA.glue f (ix2 c (col j r)) = f j (ix2 c r) := by
  rw [tA.glue_at f _ j (by
    intro a
    fin_cases a
    · exact ⟨Nat.zero_le _, by show c.val < 0 + 80; omega⟩
    · exact ⟨Nat.le_add_right _ _, by show 512 * j.val + r.val < 512 * j.val + 512; omega⟩)]
  refine congrArg (f j) (funext fun a => Fin.ext ?_)
  fin_cases a
  · rfl
  · show 512 * j.val + r.val - 512 * j.val = r.val
    omega

theorem kB_at (x4 : Vec Ideal S1x8192x128 .bf16) (u : Fin 16) (κ : Fin 512) (c : Fin 128) :
    kB x4 u (ix3 0 κ c) = x4 (ix3 0 ⟨512 * u.val + κ.val, by omega⟩ c) := by
  refine congrArg x4 (funext fun a => Fin.ext ?_)
  fin_cases a
  · rfl
  · show 512 * u.val + 1 * κ.val = 512 * u.val + κ.val
    omega
  · show 0 + 1 * c.val = c.val
    omega

theorem vB_at (x5 : Vec Ideal S1x1x16x80x512 .bf16) (u : Fin 16) (a : Fin 80) (κ : Fin 512) :
    vB x5 u (ix5 0 0 0 a κ) = x5 (ix5 0 0 u a κ) := by
  refine congrArg x5 (funext fun b => Fin.ext ?_)
  fin_cases b
  · rfl
  · rfl
  · show u.val + 1 * 0 = u.val
    omega
  · show 0 + 1 * a.val = a.val
    omega
  · show 0 + 1 * κ.val = κ.val
    omega

theorem wB_at (x5 : Vec Ideal S1x1x16x80x512 .bf16) (u : Fin 16) (d : Fin 64) (κ : Fin 512) :
    wB x5 u (ix5 0 0 0 d κ) = x5 (ix5 0 0 u (d.castLE (by decide)) κ) := by
  refine congrArg x5 (funext fun b => Fin.ext ?_)
  fin_cases b
  · rfl
  · rfl
  · show u.val + 1 * 0 = u.val
    omega
  · show 0 + 1 * d.val = d.val
    omega
  · show 0 + 1 * κ.val = κ.val
    omega

/-! ## The scores -/

theorem half_sum (f : Fin 128 → ℝ) (h : ℕ) (hh : h < 2) (g : Fin 64 → ℝ) (hg : ∀ d : Fin 64, f ⟨64 * h + d.val, by omega⟩ = g d) :
    (∑ c : Fin 128, if c.val / 64 = h then f c else 0) = ∑ d : Fin 64, g d := by
  rw [Fin.sum_univ_tiles 2 64 rfl, Finset.sum_eq_single (⟨h, hh⟩ : Fin 2)]
  · refine Finset.sum_congr rfl fun d _ => ?_
    rw [if_pos (by show (h * 64 + d.val) / 64 = h; omega), ← hg]
    exact congrArg f (Fin.ext (by show h * 64 + d.val = 64 * h + d.val; omega))
  · intro b _ hb
    refine Finset.sum_eq_zero fun d _ => if_neg ?_
    have : b.val ≠ h := fun e => hb (Fin.ext e)
    show ¬ (b.val * 64 + d.val) / 64 = h
    omega
  · exact fun h => absurd (Finset.mem_univ _) h

theorem total_at (s a d : FVec Ideal S80x512 .f32) (b : Fin 80) (r : Fin 512) :
    total s a d (ix2 b r) = (a (ix2 b r) + (s (ix2 b r) + d (ix2 b r)) : EReal) := by
  pointwise [total]

theorem parts_at (d : ℕ → FVec Ideal S80x512 .f32) (z : FVec Ideal S80x512 .f32) (n : ℕ) (y : S80x512.Idx) :
    ((parts d (n + 1)).getD z) y = ∑ u ∈ Finset.range (n + 1), (d u y : EReal) := by
  induction n with
  | zero => rw [Finset.sum_range_one]; rfl
  | succ n ih =>
    rw [Finset.sum_range_succ, ← ih]
    rfl

theorem zeros_at (y : S80x2048.Idx) : k0_pay57 (F := Ideal) y = (0 : EReal) := by pointwise [k0_pay57]

section block
variable (i : grid0.Coords) (x3 : Fin 4 → Vec Ideal S1x64x512 .bf16) (x4 : Vec Ideal S1x8192x128 .bf16) (x5 : Vec Ideal S1x1x16x80x512 .bf16)
  (Q : Fin 4 → Fin 64 → Fin 512 → ℝ) (K : Fin 8192 → Fin 128 → ℝ)

/-- The score of key `κ` of group `u` against query `r` of head `j`. -/
def score (h : Fin 4) (j : Fin 4) (r : Fin 512) (u : Fin 16) (κ : Fin 512) : ℝ :=
  ∑ d : Fin 64, K ⟨512 * u.val + κ.val, by omega⟩ ⟨64 * (h.val % 2) + d.val, by omega⟩ * Q j d r

variable {x3 x4 x5 Q K}
variable (h3 : ∀ j d r, x3 j (ix3 0 d r) = (Q j d r : EReal)) (h4 : ∀ n c, x4 (ix3 0 n c) = (K n c : EReal))
  (h5 : ∀ u κ, x5 (ix5 0 0 u 64 κ) = (1 : EReal))
include h3 h4

theorem score_eq (j : Fin 4) (r : Fin 512) (u : Fin 16) (κ : Fin 512) :
    (∑ c : Fin 128, (kB x4 u (ix3 0 κ c) : EReal) * qs i x3 j (ix2 c r)) = (score Q K (i 1) j r u κ : EReal) := by
  have e (c : Fin 128) : (kB x4 u (ix3 0 κ c) : EReal) * qs i x3 j (ix2 c r)
      = ((if c.val / 64 = (i 1).val % 2 then K ⟨512 * u.val + κ.val, by omega⟩ c * Q j ⟨c.val % 64, Nat.mod_lt _ (by decide)⟩ r else 0 : ℝ) : EReal) := by
    rw [kB_at, h4]
    unfold qs
    rw [maskQ_at]
    split
    · rw [h3, ← EReal.coe_mul]
    · rw [mul_zero, EReal.coe_zero]
  rw [Finset.sum_congr rfl fun c _ => e c, Cert.Soft.coe_sum]
  refine congrArg _ ?_
  unfold score
  exact half_sum (fun c => K ⟨512 * u.val + κ.val, by omega⟩ c * Q j ⟨c.val % 64, Nat.mod_lt _ (by decide)⟩ r) _ (Nat.mod_lt _ (by decide))
    (fun d => K ⟨512 * u.val + κ.val, by omega⟩ ⟨64 * ((i 1).val % 2) + d.val, by omega⟩ * Q j d r)
    fun d => by
      refine congrArg (K _ _ * ·) (congrArg (fun e => Q j e r) (Fin.ext ?_))
      show (64 * ((i 1).val % 2) + d.val) % 64 = d.val
      omega

theorem add_at (j : Fin 4) (n : ℕ) (a : Fin 80) (r : Fin 512) :
    add i x3 x4 x5 j n (ix2 a r) = ∑ κ : Fin 512, (x5 (ix5 0 0 (gp n) a κ) : EReal) * (Cert.Soft.pow2 (score Q K (i 1) j r (gp n) κ) : EReal) := by
  unfold add
  rw [part_at]
  refine Finset.sum_congr rfl fun κ _ => ?_
  rw [vB_at, expo_at, score_eq i h3 h4, Cert.Soft.exp2_real]

theorem sums_at (j : Fin 4) (a : Fin 80) (r : Fin 512) :
    sums i x3 x4 x5 j (ix2 a r) = ∑ x : Fin 16 × Fin 512, (x5 (ix5 0 0 x.1 a x.2) : EReal) * (Cert.Soft.pow2 (score Q K (i 1) j r x.1 x.2) : EReal) := by
  unfold sums
  refine (total_at _ _ _ a r).trans ?_
  refine (congrArg₂ (fun x y : EReal => x + (y + add i x3 x4 x5 j 15 (ix2 a r))) (zeros_at ((Rect.unit (tA.off j) tA.size (tA.inb j)).emb (ix2 a r))) (parts_at _ _ 14 _)).trans ?_
  rw [zero_add, ← Finset.sum_range_succ (fun u => add i x3 x4 x5 j u (ix2 a r)) 15,
    Finset.sum_range, Fintype.sum_prod_type]
  refine Finset.sum_congr rfl fun u _ => ?_
  rw [add_at i h3 h4, show gp u.val = u from Fin.ext (Nat.mod_eq_of_lt u.isLt)]

theorem num_at (j : Fin 4) (d : Fin 64) (r : Fin 512) :
    num i x3 x4 x5 (ix2 d (col j r)) = ∑ x : Fin 16 × Fin 512, (x5 (ix5 0 0 x.1 (d.castLE (by decide)) x.2) : EReal) * (Cert.Soft.pow2 (score Q K (i 1) j r x.1 x.2 - 0) : EReal) := by
  simp only [sub_zero]
  rw [← sums_at i h3 h4]
  refine Eq.trans ?_ (glueA_at (sums i x3 x4 x5) (d.castLE (by decide)) j r)
  refine congrArg (tA.glue _) (funext fun b => Fin.ext ?_)
  fin_cases b
  · show 0 + 1 * d.val = d.val
    omega
  · show 0 + 1 * (512 * j.val + r.val) = 512 * j.val + r.val
    omega

include h5 in
theorem den_at (j : Fin 4) (r : Fin 512) :
    den i x3 x4 x5 (ix2 0 (col j r)) = ((∑ x : Fin 16 × Fin 512, Cert.Soft.pow2 (score Q K (i 1) j r x.1 x.2 - 0) : ℝ) : EReal) := by
  simp only [sub_zero]
  rw [← Cert.Soft.coe_sum]
  have e := sums_at i (x5 := x5) h3 h4 j 64 r
  simp only [h5, one_mul] at e
  rw [← e]
  refine Eq.trans ?_ (glueA_at (sums i x3 x4 x5) 64 j r)
  refine congrArg (tA.glue _) (funext fun b => Fin.ext ?_)
  fin_cases b
  · rfl
  · show 0 + 1 * (512 * j.val + r.val) = 512 * j.val + r.val
    omega

theorem sc_eq (j : Fin 4) (r : Fin 512) (n : ℕ) (κ : Fin 512) :
    sc i x3 x4 n (ix3 0 κ (col j r)) = (score Q K (i 1) j r (gp n) κ : EReal) := by
  unfold sc
  rw [sc_at, ← score_eq i h3 h4]
  exact Finset.sum_congr rfl fun c _ => congrArg (_ * ·) (glueQ_at _ c j r)

theorem cm_eq (j : Fin 4) (r : Fin 512) (n : ℕ) : ∃ γ : ℝ, cm i x3 x4 n (ix3 0 0 (col j r)) = (γ : EReal) := by
  obtain ⟨γ, h⟩ := Cert.Soft.fold_max_real (fun κ => score Q K (i 1) j r (gp n) κ)
  refine ⟨γ, ?_⟩
  unfold cm
  rw [cm_at, ← h]
  refine congrArg (fun f => Finset.fold max ⊥ f Finset.univ) (funext fun κ => ?_)
  rw [← score_eq i h3 h4]
  exact Finset.sum_congr rfl fun c _ => congrArg (_ * ·) (glueQ_at _ c j r)

theorem online_at (j : Fin 4) (d : Fin 64) (r : Fin 512) (n : ℕ) :
    Cert.Soft.Running (fun u κ => score Q K (i 1) j r (gp u) κ) (fun u κ => (x5 (ix5 0 0 (gp u) (d.castLE (by decide)) κ) : EReal)) n
      ((online i x3 x4 x5 n).1 (ix2 0 (col j r))) ((online i x3 x4 x5 n).2.1 (ix2 0 (col j r))) ((online i x3 x4 x5 n).2.2 (ix2 d (col j r))) := by
  induction n with
  | zero => exact .inl ⟨rfl, (start_at (col j r) d).1, (start_at (col j r) d).2.1, (start_at (col j r) d).2.2⟩
  | succ n ih =>
    obtain ⟨γ, hγ⟩ := cm_eq i h3 h4 j r n
    have h := ih.next hγ
    unfold online
    dsimp only
    rw [max_at, sum_at, acc_at]
    simp only [sc_eq i h3 h4, wB_at]
    exact h

include h5 in
/-- The result block. -/
theorem out_at (j : Fin 4) (d : Fin 64) (r : Fin 512) :
    out i x3 x4 x5 j (ix3 0 d r) = Cert.Soft.soft (fun x : Fin 16 × Fin 512 => score Q K (i 1) j r x.1 x.2)
      (fun x => (x5 (ix5 0 0 x.1 (d.castLE (by decide)) x.2) : EReal)) := by
  unfold out
  rw [head_at]
  unfold quot
  split
  · rw [fast_at, num_at i h3 h4, den_at i h3 h4 h5, Cert.Soft.div_eq_soft]
  · rw [slow_at, (online_at i h3 h4 j d r 16).soft]
    have e (x : Fin 16) : gp x.val = x := Fin.ext (Nat.mod_eq_of_lt x.isLt)
    simp only [e]

end block

end Cert.KernelIdeal.Attn

end
-- ==== Proof.Entry.lean ====
/-  The kernel's operands, element by element, as the host prepares them. -/
module

public import proofs.«01_k».proof.Proof.Run

public import Idealize.ShloMosaic.Lib.Pipeline.ValueKit
public import Idealize.ShloMosaic.Lib.Pointwise
public import Idealize.ShloMosaic.Lib.Claim

@[expose] public section

set_option maxRecDepth 65536

noncomputable section

namespace Cert.KernelIdeal.Attn

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

theorem ofBits_two : Ideal.ofBits .f32 0x40000000#32 = ((2 : ℝ) : EReal) := by
  simp [Ideal.ofBits, Ideal.ieee, -EReal.coe_mul]; norm_num

theorem ofBits_eighth : Ideal.ofBits .f32 0x3E000000#32 = (((1 : ℝ) / 8 : ℝ) : EReal) := by
  simp [Ideal.ofBits, Ideal.ieee, -EReal.coe_mul]; norm_num

/-- The arguments. -/
abbrev argQ (c : Dev nD) : FVec Ideal S4x8192x1024 .f32 := m ((c : Thread nD τ).loc main_arg0)
abbrev argK (c : Dev nD) : FVec Ideal S4x8192x256 .f32 := m ((c : Thread nD τ).loc main_arg1)
abbrev argV (c : Dev nD) : FVec Ideal S4x8192x256 .f32 := m ((c : Thread nD τ).loc main_arg2)

/-- The kernel's operands. -/
abbrev arrQ (c : Dev nD) : FVec Ideal S4x1024x8192 .bf16 := V m c main_v5
abbrev arrK (c : Dev nD) : FVec Ideal S4x8192x256 .bf16 := V m c main_v6
abbrev arrV (c : Dev nD) : FVec Ideal S4x4x16x80x512 .bf16 := V m c main_v17

theorem scale_eq : Ideal.div (((1 : ℝ) / 8 : ℝ) : EReal) (Ideal.log ((2 : ℝ) : EReal)) = ((1 / 8 / Real.log 2 : ℝ) : EReal) := by
  have e : Ideal.log ((2 : ℝ) : EReal) = ((Real.log 2 : ℝ) : EReal) := by
    show (if (2 : ℝ) ≤ 0 then (⊥ : EReal) else _) = _
    rw [if_neg (by norm_num)]
  rw [e, Ideal.div_coe (Real.log_pos (by norm_num)).ne', ← EReal.coe_mul]
  congr 1
  ring

/-- The queries: scaled, features first. -/
theorem q_at (c : Dev nD) (b : Fin 4) (f : Fin 1024) (n : Fin 8192) :
    arrQ m c (ix3 b f n) = (argQ m c (ix3 b n f) : EReal) * ((1 / 8 / Real.log 2 : ℝ) : EReal) := by
  unfold arrQ
  entry_read
  pointwise
  rw [ofBits_eighth, ofBits_two, scale_eq]

theorem k_at (c : Dev nD) (b : Fin 4) (n : Fin 8192) (f : Fin 256) : arrK m c (ix3 b n f) = (argK m c (ix3 b n f) : EReal) := by
  unfold arrK
  entry_read
  pointwise

theorem v_at (c : Dev nD) (b h : Fin 4) (u : Fin 16) (d : Fin 64) (κ : Fin 512) :
    arrV m c (ix5 b h u (d.castLE (by decide)) κ) = (argV m c (ix3 b ⟨u.val * 512 + κ.val, by omega⟩ ⟨h.val * 64 + d.val, by omega⟩) : EReal) := by
  unfold arrV
  entry_read
  pointwise
  rw [dif_pos (show (d.castLE (by decide : 64 ≤ 80)).val < 64 from d.isLt)]
  rfl

theorem one_at (c : Dev nD) (b h : Fin 4) (u : Fin 16) (κ : Fin 512) : arrV m c (ix5 b h u 64 κ) = (1 : EReal) := by
  unfold arrV
  entry_read
  pointwise
  show (((1#32).toInt : ℝ) : EReal) = 1
  simp

end Cert.KernelIdeal.Attn

end
-- ==== Proof.Reference.lean ====
/-  The reference, element by element. -/
module

public import proofs.«01_k».proof.Proof.Gen.ReferenceIdeal
public import proofs.«01_k».proof.Proof.Soft
public import Idealize.ShloMosaic.Lib.Pipeline.ValueKit
public import Idealize.ShloMosaic.Lib.Pointwise

@[expose] public section

set_option maxRecDepth 65536

noncomputable section

namespace Cert.ReferenceIdeal.Attn

open Cert.ReferenceIdeal Cert.ReferenceIdeal.Gen
open Idealize.ShloMosaic Idealize.ShloMosaic.TcCoe Idealize.SL.Sem
open Idealize.ShloMosaic.Pipeline (Dat)

variable (q : FVec Ideal S4x8192x1024 .f32) (k v : FVec Ideal S4x8192x256 .f32)

/-- The scaled products of queries and keys. -/
def prods : FVec Ideal S4x4x4x8192x8192 .f32 :=
  mulf (transpose S4x4x4x8192x8192 [0, 1, 4, 3, 2]
      (Host.dotGeneral dot_S4x8192x4x64_S4x8192x4x4x64_S4x4x8192x8192x4_3_4_1_13_02_02 none
        (shapeCast S4x8192x4x64 k shapeCasts_S4x8192x256_S4x8192x4x64) (shapeCast S4x8192x4x4x64 q shapeCasts_S4x8192x1024_S4x8192x4x4x64))
      transposes_S4x4x8192x8192x4_S4x4x4x8192x8192_0_1_4_3_2)
    (broadcastInDim S4x4x4x8192x8192 ![] bcast_S_S4x4x4x8192x8192 (constant S_ .f32 0x3E000000#32))

/-- Their maxima over the keys. -/
def maxima (T : FVec Ideal S4x4x4x8192x8192 .f32) : FVec Ideal S4x4x4x8192 .f32 :=
  maximumf (broadcastInDim S4x4x4x8192 ![] bcast_S_S4x4x4x8192 (constant S_ .f32 0xFF800000#32))
    (Host.reduce FloatOps.maximumf T (constant S_ .f32 0xFF800000#32) reducesTo_S4x4x4x8192x8192_S4x4x4x8192_d4 h_S_)

/-- A value for each query, at each key. -/
def spread (x : FVec Ideal S4x4x4x8192 .f32) : FVec Ideal S4x4x4x8192x8192 .f32 :=
  broadcastInDim S4x4x4x8192x8192 ![0, 1, 2, 3, 4] bcast_S4x4x4x8192x1_S4x4x4x8192x8192_0_1_2_3_4
    (broadcastInDim S4x4x4x8192x1 ![0, 1, 2, 3] bcast_S4x4x4x8192_S4x4x4x8192x1_0_1_2_3 x)

/-- The exponentials. -/
def exps (T : FVec Ideal S4x4x4x8192x8192 .f32) : FVec Ideal S4x4x4x8192x8192 .f32 := Host.exp (subf T (spread (maxima T)))

/-- The weights. -/
def weights (E : FVec Ideal S4x4x4x8192x8192 .f32) : FVec Ideal S4x4x4x8192x8192 .f32 :=
  Host.divf E (spread (Host.reduceAdd E (constant S_ .f32 0x00000000#32) reducesTo_S4x4x4x8192x8192_S4x4x4x8192_d4 h_S_))

/-- The result, from the weights. -/
def result (W : FVec Ideal S4x4x4x8192x8192 .f32) : FVec Ideal S4x1024x8192 .bf16 :=
  truncf .bf16 (transpose S4x1024x8192 [0, 2, 1]
    (shapeCast S4x8192x1024 (transpose S4x8192x4x4x64 [0, 4, 1, 3, 2]
      (Host.dotGeneral dot_S4x8192x4x64_S4x4x4x8192x8192_S4x4x64x4x8192_1_4_3_23_02_01 none (shapeCast S4x8192x4x64 v shapeCasts_S4x8192x256_S4x8192x4x64) W)
      transposes_S4x4x64x4x8192_S4x8192x4x4x64_0_4_1_3_2) shapeCasts_S4x8192x4x4x64_S4x8192x1024)
    transposes_S4x8192x1024_S4x1024x8192_0_2_1) bitsLt_bf16_f32

theorem ofBits_neg_inf : Ideal.ofBits .f32 0xFF800000#32 = ⊥ := by simp [Ideal.ofBits, Ideal.ieee]

theorem ofBits_eighth : Ideal.ofBits .f32 0x3E000000#32 = (((1 : ℝ) / 8 : ℝ) : EReal) := by
  simp only [Ideal.ofBits, Ideal.ieee]
  simp
  rw [← EReal.coe_mul]
  norm_num

theorem prods_at (b h g : Fin 4) (n κ : Fin 8192) :
    prods q k (ix5 b h g n κ) = (∑ d : Fin 64, (k (ix3 b κ ⟨h.val * 64 + d.val, by omega⟩) : EReal) * q (ix3 b n ⟨h.val * 256 + g.val * 64 + d.val, by omega⟩))
      * (((1 : ℝ) / 8 : ℝ) : EReal) := by
  pointwise [prods]
  rw [ofBits_eighth]

theorem reduce_max_at {n0 n1 n2 n3 n4 : ℕ} (h : (⟨5, ![n0, n1, n2, n3, n4]⟩ : Shape).ReducesTo [4] ⟨4, ![n0, n1, n2, n3]⟩)
    (hu : 0 < (⟨0, ![]⟩ : Shape).numel) (T : FVec Ideal ⟨5, ![n0, n1, n2, n3, n4]⟩ .f32) (b : Fin n0) (c : Fin n1) (g : Fin n2) (n : Fin n3) :
    Host.reduce FloatOps.maximumf T (constant (⟨0, ![]⟩ : Shape) .f32 0xFF800000#32) h hu (ix4 b c g n)
      = Finset.univ.fold max (⊥ : EReal) fun κ : Fin n4 => (T (ix5 b c g n κ) : EReal) := by
  pointwise
  rw [ofBits_neg_inf]

theorem max_at (x y : FVec Ideal S4x4x4x8192 .f32) (i : S4x4x4x8192.Idx) : maximumf x y i = max (x i : EReal) (y i) := rfl

theorem reduced_at (T : FVec Ideal S4x4x4x8192x8192 .f32) (b h g : Fin 4) (n : Fin 8192) :
    Host.reduce FloatOps.maximumf T (constant S_ .f32 0xFF800000#32) reducesTo_S4x4x4x8192x8192_S4x4x4x8192_d4 h_S_ (ix4 b h g n)
      = Finset.univ.fold max (⊥ : EReal) fun κ : Fin 8192 => (T (ix5 b h g n κ) : EReal) :=
  reduce_max_at _ _ T b h g n

theorem bottom_at (i) : broadcastInDim S4x4x4x8192 ![] bcast_S_S4x4x4x8192 (constant (F := Ideal) S_ .f32 0xFF800000#32) i = (⊥ : EReal) := by
  pointwise
  exact ofBits_neg_inf

theorem maxima_at (T : FVec Ideal S4x4x4x8192x8192 .f32) (b h g : Fin 4) (n : Fin 8192) :
    maxima T (ix4 b h g n) = Finset.univ.fold max (⊥ : EReal) fun κ : Fin 8192 => (T (ix5 b h g n κ) : EReal) := by
  unfold maxima
  rw [max_at, reduced_at, bottom_at]
  exact max_bot_left _

theorem exps_at (T : FVec Ideal S4x4x4x8192x8192 .f32) (b h g : Fin 4) (n κ : Fin 8192) :
    exps T (ix5 b h g n κ) = Ideal.exp ((T (ix5 b h g n κ) : EReal) - maxima T (ix4 b h g n)) := by
  pointwise [exps, spread]

theorem weights_at (E : FVec Ideal S4x4x4x8192x8192 .f32) (b h g : Fin 4) (n κ : Fin 8192) :
    weights E (ix5 b h g n κ) = Ideal.div (E (ix5 b h g n κ)) (∑ κ : Fin 8192, (E (ix5 b h g n κ) : EReal)) := by
  pointwise [weights, spread]

theorem result_at (W : FVec Ideal S4x4x4x8192x8192 .f32) (b h g : Fin 4) (d : Fin 64) (n : Fin 8192) :
    result v W (ix3 b ⟨h.val * 256 + g.val * 64 + d.val, by omega⟩ n)
      = ∑ κ : Fin 8192, (v (ix3 b κ ⟨h.val * 64 + d.val, by omega⟩) : EReal) * W (ix5 b h g n κ) := by
  pointwise [result]

/-- The reference. -/
def whole : FVec Ideal S4x1024x8192 .bf16 := result v (weights (exps (prods q k)))

/-! ## The whole, for real queries and keys -/

/-- The score of a key against a query, in units of a factor two. -/
def score (Q : Fin 4 → Fin 8192 → Fin 1024 → ℝ) (K : Fin 4 → Fin 8192 → Fin 256 → ℝ) (b h g : Fin 4) (n κ : Fin 8192) : ℝ :=
  (∑ d : Fin 64, K b κ ⟨h.val * 64 + d.val, by omega⟩ * Q b n ⟨h.val * 256 + g.val * 64 + d.val, by omega⟩) * (1 / 8)

variable {q k v} {Q : Fin 4 → Fin 8192 → Fin 1024 → ℝ} {K : Fin 4 → Fin 8192 → Fin 256 → ℝ}

theorem whole_at (hq : ∀ b n f, q (ix3 b n f) = (Q b n f : EReal)) (hk : ∀ b n f, k (ix3 b n f) = (K b n f : EReal))
    (b h g : Fin 4) (d : Fin 64) (n : Fin 8192) :
    result v (weights (exps (prods q k))) (ix3 b ⟨h.val * 256 + g.val * 64 + d.val, by omega⟩ n)
      = Cert.Soft.soft (fun κ : Fin 8192 => score Q K b h g n κ / Real.log 2) (fun κ => (v (ix3 b κ ⟨h.val * 64 + d.val, by omega⟩) : EReal)) := by
  have hp (κ : Fin 8192) : prods q k (ix5 b h g n κ) = (score Q K b h g n κ : EReal) := by
    rw [prods_at]
    simp only [hq, hk, ← EReal.coe_mul, Cert.Soft.coe_sum]
    rfl
  obtain ⟨μ, hμ⟩ := Cert.Soft.fold_max_real (fun κ : Fin 8192 => score Q K b h g n κ)
  have hm : maxima (prods q k) (ix4 b h g n) = (μ : EReal) := by
    rw [maxima_at, ← hμ]
    exact congrArg (fun f => Finset.fold max ⊥ f Finset.univ) (funext hp)
  have he (κ : Fin 8192) : exps (prods q k) (ix5 b h g n κ) = (Real.exp (score Q K b h g n κ - μ) : EReal) := by
    rw [exps_at, hp, hm, ← EReal.coe_sub]
    rfl
  rw [result_at, ← Cert.Soft.sum_eq_soft _ _ μ]
  refine Finset.sum_congr rfl fun κ _ => ?_
  rw [weights_at, he]
  refine congrArg (_ * Ideal.div _ ·) ?_
  rw [← Cert.Soft.coe_sum]
  exact Finset.sum_congr rfl fun κ _ => he κ

end Cert.ReferenceIdeal.Attn

end
-- ==== Proof.Value.lean ====
/-  The kernel's result array is the reference's. -/
module

public import proofs.«01_k».proof.Proof.Block
public import proofs.«01_k».proof.Proof.Entry
public import proofs.«01_k».proof.Proof.Reference
public import Idealize.ShloMosaic.Lib.Pipeline.ValueKit
public import Idealize.ShloMosaic.Lib.Pointwise
public import Idealize.ShloMosaic.Lib.Claim

@[expose] public section

set_option maxRecDepth 65536

noncomputable section

namespace Cert.KernelIdeal.Attn

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-! ## The blocks in their arrays -/

/-- The batch, the pair of heads and the group of queries of a point. -/
def pB (t : Fin cfg0.N) : Fin 4 := grid0.coords t 0
def pH (t : Fin cfg0.N) : Fin 4 := grid0.coords t 1
def pI (t : Fin cfg0.N) : Fin 16 := grid0.coords t 2

theorem idx : ∀ t : Fin cfg0.N, win0_0.index t = ![(pB t).val, (pH t).val, (pI t).val] ∧ win0_1.index t = ![(pB t).val, 0, (pH t).val / 2]
    ∧ win0_2.index t = ![(pB t).val, (pH t).val, 0, 0, 0] ∧ win0_3.index t = ![(pB t).val, (pH t).val, (pI t).val] :=
  (by decide +kernel : ∀ t : Fin grid0.N, _)

theorem blkQ_at (c : Dev nD) (t : Fin cfg0.N) (a : Fin 256) (r : Fin 512) :
    iblk m c 0 t (ix3 0 a r) = arrQ m c (ix3 (pB t) ⟨256 * (pH t).val + a.val, by omega⟩ ⟨512 * (pI t).val + r.val, by omega⟩) := by
  have e := (idx t).1
  unfold iblk
  blk_ext [e]

theorem blkK_at (c : Dev nD) (t : Fin cfg0.N) (n : Fin 8192) (f : Fin 128) :
    iblk m c 1 t (ix3 0 n f) = arrK m c (ix3 (pB t) n ⟨128 * ((pH t).val / 2) + f.val, by omega⟩) := by
  have e := (idx t).2.1
  unfold iblk
  blk_ext [e]

theorem blkV_at (c : Dev nD) (t : Fin cfg0.N) (u : Fin 16) (a : Fin 80) (κ : Fin 512) :
    iblk m c 2 t (ix5 0 0 u a κ) = arrV m c (ix5 (pB t) (pH t) u a κ) := by
  have e := (idx t).2.2.1
  unfold iblk
  blk_ext [e]

/-- Row `d` of head `j`. -/
def row (j : Fin 4) (d : Fin 64) : Fin 256 := ⟨64 * j.val + d.val, by omega⟩

theorem tileO_at (x : Vec Ideal S1x256x512 .bf16) (j : Fin 4) (d : Fin 64) (r : Fin 512) :
    tO.tile x j (ix3 0 d r) = x (ix3 0 (row j d) r) := by
  refine congrArg x (funext fun a => Fin.ext ?_)
  fin_cases a
  · rfl
  · show 64 * j.val + 1 * d.val = 64 * j.val + d.val
    omega
  · show 0 + 1 * r.val = r.val
    omega

theorem glueO_at (f : Fin 4 → Vec Ideal S1x64x512 .bf16) (j : Fin 4) (d : Fin 64) (r : Fin 512) :
    tO.glue f (ix3 0 (row j d) r) = f j (ix3 0 d r) := by
  rw [tO.glue_at f _ j (by
    intro a
    fin_cases a
    · exact ⟨Nat.zero_le _, by show 0 < 0 + 1; omega⟩
    · exact ⟨Nat.le_add_right _ _, by show 64 * j.val + d.val < 64 * j.val + 64; omega⟩
    · exact ⟨Nat.zero_le _, by show r.val < 0 + 512; omega⟩)]
  refine congrArg (f j) (funext fun a => Fin.ext ?_)
  fin_cases a
  · rfl
  · show 64 * j.val + d.val - 64 * j.val = d.val
    omega
  · rfl

/-! ## The value -/

/-- Softmax over the keys, group by group. -/
theorem soft_groups (s : Fin 8192 → ℝ) (v : Fin 8192 → EReal) :
    Cert.Soft.soft (fun x : Fin 16 × Fin 512 => s ⟨512 * x.1.val + x.2.val, by omega⟩) (fun x => v ⟨512 * x.1.val + x.2.val, by omega⟩)
      = Cert.Soft.soft s v := by
  have e (x : Fin 16 × Fin 512) : (⟨512 * x.1.val + x.2.val, by omega⟩ : Fin 8192) = (finProdFinEquiv : Fin 16 × Fin 512 ≃ Fin 8192) x :=
    Fin.ext (by show 512 * x.1.val + x.2.val = x.2.val + 512 * x.1.val; omega)
  simp only [e]
  exact Cert.Soft.soft_equiv _ s v

section real
variable {m} {c : Dev nD} {Q : Fin 4 → Fin 8192 → Fin 1024 → ℝ} {K : Fin 4 → Fin 8192 → Fin 256 → ℝ}
  (hq : ∀ b n f, argQ m c (ix3 b n f) = (Q b n f : EReal)) (hk : ∀ b n f, argK m c (ix3 b n f) = (K b n f : EReal))
include hq hk

theorem point (t : Fin cfg0.N) (j : Fin 4) (d : Fin 64) (r : Fin 512) :
    blockAt m c t (ix3 0 (row j d) r) = Cert.ReferenceIdeal.Attn.whole (argQ m c) (argK m c) (argV m c)
      (ix3 (pB t) ⟨(pH t).val * 256 + j.val * 64 + d.val, by omega⟩ ⟨512 * (pI t).val + r.val, by omega⟩) := by
  unfold blockAt Cert.ReferenceIdeal.Attn.whole
  rw [Cert.ReferenceIdeal.Attn.whole_at hq hk, glueO_at]
  have h3 (j : Fin 4) (d : Fin 64) (r : Fin 512) : tO.tile (iblk m c 0 t) j (ix3 0 d r)
      = ((Q (pB t) ⟨512 * (pI t).val + r.val, by omega⟩ ⟨256 * (pH t).val + (64 * j.val + d.val), by omega⟩ * (1 / 8 / Real.log 2) : ℝ) : EReal) := by
    rw [tileO_at, blkQ_at, q_at, hq, ← EReal.coe_mul]
    rfl
  have h4 (n : Fin 8192) (f : Fin 128) : iblk m c 1 t (ix3 0 n f)
      = ((K (pB t) n ⟨128 * ((pH t).val / 2) + f.val, by omega⟩ : ℝ) : EReal) := by
    rw [blkK_at, k_at, hk]
  have h5 (u : Fin 16) (κ : Fin 512) : iblk m c 2 t (ix5 0 0 u 64 κ) = (1 : EReal) := by
    rw [blkV_at, one_at]
  rw [out_at (grid0.coords t) (x3 := tO.tile (iblk m c 0 t)) (x4 := iblk m c 1 t) (x5 := iblk m c 2 t)
    (Q := fun j d r => Q (pB t) ⟨512 * (pI t).val + r.val, by omega⟩ ⟨256 * (pH t).val + (64 * j.val + d.val), by omega⟩ * (1 / 8 / Real.log 2))
    (K := fun n f => K (pB t) n ⟨128 * ((pH t).val / 2) + f.val, by omega⟩) h3 h4 h5, ← soft_groups]
  refine congrArg₂ _ (funext fun x => ?_) (funext fun x => ?_)
  · unfold score Cert.ReferenceIdeal.Attn.score
    rw [Finset.sum_mul, Finset.sum_div]
    refine Finset.sum_congr rfl fun e _ => ?_
    have i1 : (⟨128 * ((pH t).val / 2) + (64 * ((pH t).val % 2) + e.val), by omega⟩ : Fin 256) = ⟨(pH t).val * 64 + e.val, by omega⟩ := Fin.ext (by simp only; omega)
    have i2 : (⟨256 * (pH t).val + (64 * j.val + e.val), by omega⟩ : Fin 1024) = ⟨(pH t).val * 256 + j.val * 64 + e.val, by omega⟩ := Fin.ext (by simp only; omega)
    rw [← i1, ← i2]
    have hr (a b : ℝ) : a * (b * (1 / 8 / Real.log 2)) = a * b * (1 / 8) / Real.log 2 := by ring
    exact hr _ _
  · rw [blkV_at, v_at]
    exact congrArg (fun n => argV m c (ix3 (pB t) n _)) (Fin.ext (by show x.1.val * 512 + x.2.val = 512 * x.1.val + x.2.val; omega))

theorem point_at (t : Fin cfg0.N) (a : Fin 256) (r : Fin 512) :
    blockAt m c t (ix3 0 a r) = Cert.ReferenceIdeal.Attn.whole (argQ m c) (argK m c) (argV m c)
      (ix3 (pB t) ⟨256 * (pH t).val + a.val, by omega⟩ ⟨512 * (pI t).val + r.val, by omega⟩) := by
  have e : a = row ⟨a.val / 64, by omega⟩ ⟨a.val % 64, by omega⟩ := Fin.ext (by show a.val = 64 * (a.val / 64) + a.val % 64; omega)
  have h := point hq hk t ⟨a.val / 64, by omega⟩ ⟨a.val % 64, by omega⟩ r
  rw [← e] at h
  rw [h]
  refine congrArg (fun f => Cert.ReferenceIdeal.Attn.whole (argQ m c) (argK m c) (argV m c) (ix3 (pB t) f _)) (Fin.ext ?_)
  show (pH t).val * 256 + a.val / 64 * 64 + a.val % 64 = 256 * (pH t).val + a.val
  omega

theorem final : (dats m 0 c).arrAt 3 cfg0.N = Cert.ReferenceIdeal.Attn.whole (argQ m c) (argK m c) (argV m c) := by
  refine (dats m 0 c).arrAt_eq_of_covers 3 _ (by decide +kernel) fun t _ y => ?_
  have e := (idx t).2.2.2
  blk_simp
  rw [after0_3]
  idx_vars y
  obtain rfl : y0 = 0 := Subsingleton.elim _ _
  refine (point_at hq hk t y1 y2).trans ?_
  refine congrArg (Cert.ReferenceIdeal.Attn.whole (argQ m c) (argK m c) (argV m c)) ?_
  blk_ext [e]

end real

end Cert.KernelIdeal.Attn

end
-- ==== Proof.OutCases.lean ====
/-  The output projection's call, point by point: what the result block and the two hidden-tile buffers hold after a grid point. -/
module

public import proofs.«01_k».proof.Proof.Gen.OutKernelIdeal.Frame
public import Idealize.ShloMosaic.Lib.Pipeline.ValueKit

@[expose] public section

set_option maxRecDepth 65536

noncomputable section

namespace Cert.OutKernelIdeal.Mlp

open Cert.OutKernelIdeal Cert.OutKernelIdeal.Gen
open Idealize.ShloMosaic Idealize.ShloMosaic.TcCoe Idealize.SL.Sem
open Idealize.ShloMosaic.Pipeline (Dat)

variable {F : FTy → Type} [FloatOps F]

theorem origin₂ : (![0, 0] : Fin 2 → Nat) = fun _ => 0 := funext fun a => by fin_cases a <;> rfl

theorem origin₃ : (![0, 0, 0] : Fin 3 → Nat) = fun _ => 0 := funext fun a => by fin_cases a <;> rfl

/-- The columns of the up-projection from `1024 * j`. -/
abbrev cols (w : Vec F S1024x4096 .bf16) (j : Nat) (h : ∀ a, (![0, j] : Fin 2 → Nat) a + S1024x1024.size a ≤ S1024x4096.size a) :
    Vec F S1024x1024 .bf16 := View.ld w (Rect.unit (s := S1024x4096) ![0, j] S1024x1024.size h)

/-- The rows of the down-projection from `1024 * j`. -/
abbrev rows (w : Vec F S4096x1024 .bf16) (j : Nat) (h : ∀ a, (![j, 0] : Fin 2 → Nat) a + S1024x1024.size a ≤ S4096x1024.size a) :
    Vec F S1024x1024 .bf16 := View.ld w (Rect.unit (s := S4096x1024) ![j, 0] S1024x1024.size h)

/-- The feed-forward block of a hidden tile `x`. -/
def ffTile (x : Vec F S512x1024 .f32) (g : Vec F S1x1024 .f32) (u : Vec F S1024x4096 .bf16) (d : Vec F S4096x1024 .bf16) : Vec F S512x1024 .f32 :=
  k0_pay8 (k0_pay5 x g)
    (k0_pay6 x g (cols u 0 inb_S1024x4096_S1024x1024_0_0) (rows d 0 inb_S4096x1024_S1024x1024_0_0))
    (k0_pay7 x g (cols u 1024 inb_S1024x4096_S1024x1024_0_1024))
    (rows d 1024 inb_S4096x1024_S1024x1024_1024_0)
    (cols u 2048 inb_S1024x4096_S1024x1024_0_2048) (rows d 2048 inb_S4096x1024_S1024x1024_2048_0)
    (cols u 3072 inb_S1024x4096_S1024x1024_0_3072) (rows d 3072 inb_S4096x1024_S1024x1024_3072_0)

/-- The hidden tile a point computes. -/
def hidTile (o : Vec F S1x1024x512 .bf16) (w : Vec F S1024x1024 .bf16) (h : Vec F S512x1024 .f32) : Vec F S512x1024 .f32 :=
  k0_pay9 (k0_pay4 o) h w

section
variable (c : Dev nD) (i : grid0.Coords)
  (a1 : Memref sig .tc .vmem S1x1024x512 .bf16) (h1 : a1.IsWhole) (a2 : Memref sig .tc .vmem S1024x1024 .bf16) (h2 : a2.IsWhole)
  (a3 : Memref sig .tc .vmem S512x1024 .f32) (h3 : a3.IsWhole) (a4 : Memref sig .tc .vmem S1x1024 .f32) (h4 : a4.IsWhole)
  (a5 : Memref sig .tc .vmem S1024x4096 .bf16) (h5 : a5.IsWhole) (a6 : Memref sig .tc .vmem S4096x1024 .bf16) (h6 : a6.IsWhole)
  (a7 : Memref sig .tc .vmem S512x1024 .f32) (h7 : a7.IsWhole) (a8 : Memref sig .tc .vmem S512x1024 .f32) (h8 : a8.IsWhole)
  (a9 : Memref sig .tc .vmem S512x1024 .f32) (h9 : a9.IsWhole)
  (x0 : Vec F S1x1024x512 .bf16) (x1 : Vec F S1024x1024 .bf16) (x2 : Vec F S512x1024 .f32) (x3 : Vec F S1x1024 .f32)
  (x4 : Vec F S1024x4096 .bf16) (x5 : Vec F S4096x1024 .bf16) (s : Vec F S512x1024 .f32)

theorem outC (k0 : ¬cond0_0 i) (k1 : cond0_1 i) (k2 : ¬cond0_2 i) :
    out0_C_6 c i a1 h1 a2 h2 a3 h3 a4 h4 a5 h5 a6 h6 a7 h7 a8 h8 a9 h9 k0 k1 k2 x0 x1 x2 x3 x4 x5 s = ffTile s x3 x4 x5 := by
  unfold out0_C_6
  rw [View.read_writes_eq_canon _ _ _ (cover0_C_6 c i a1 h1 a2 h2 a3 h3 a4 h4 a5 h5 a6 h6 a7 h7 a8 h8 a9 h9 k0 k1 k2 x0 x1 x2 x3 x4 x5 s)]
  unfold kernelRun0_C
  dsimp only
  sl_unfold_words
  rw [View.canon_unit_zero origin₂]
  simp only [View.readAt_eq_ld, h1.read_unread, h2.read_unread, h3.read_unread, h4.read_unread, h5.read_unread, h6.read_unread,
    h8.read_unread, h9.read_unread, View.ld_unit_zero (S := S512x1024) origin₂, View.ld_unit_zero (S := S1x1024) origin₂]
  rfl

theorem soutC (k0 : ¬cond0_0 i) (k1 : cond0_1 i) (k2 : ¬cond0_2 i) :
    sout0_C_0 c i a1 h1 a2 h2 a3 h3 a4 h4 a5 h5 a6 h6 a7 h7 a8 h8 a9 h9 k0 k1 k2 x0 x1 x2 x3 x4 x5 s = hidTile x0 x1 x2 := by
  unfold sout0_C_0
  rw [View.read_writes_eq_canon _ _ _ (scover0_C_0 c i a1 h1 a2 h2 a3 h3 a4 h4 a5 h5 a6 h6 a7 h7 a8 h8 a9 h9 k0 k1 k2 x0 x1 x2 x3 x4 x5 s)]
  unfold kernelRun0_C
  dsimp only
  sl_unfold_words
  rw [View.canon_unit_zero origin₂]
  unfold k0_pay2
  simp only [View.readAt_eq_ld, h1.read_unread, h2.read_unread, h3.read_unread, shapeCast_self,
    View.ld_unit_zero (S := S512x1024) origin₂, View.ld_unit_zero (S := S1024x1024) origin₂, View.ld_unit_zero (S := S1x1024x512) origin₃]
  rfl

theorem outB (k0 : ¬cond0_0 i) (k1 : ¬cond0_1 i) (k2 : cond0_2 i) :
    out0_B_6 c i a1 h1 a2 h2 a3 h3 a4 h4 a5 h5 a6 h6 a7 h7 a8 h8 a9 h9 k0 k1 k2 x0 x1 x2 x3 x4 x5 s = ffTile s x3 x4 x5 := by
  unfold out0_B_6
  rw [View.read_writes_eq_canon _ _ _ (cover0_B_6 c i a1 h1 a2 h2 a3 h3 a4 h4 a5 h5 a6 h6 a7 h7 a8 h8 a9 h9 k0 k1 k2 x0 x1 x2 x3 x4 x5 s)]
  unfold kernelRun0_B
  dsimp only
  sl_unfold_words
  rw [View.canon_unit_zero origin₂]
  simp only [View.readAt_eq_ld, h1.read_unread, h2.read_unread, h3.read_unread, h4.read_unread, h5.read_unread, h6.read_unread,
    h8.read_unread, h9.read_unread, View.ld_unit_zero (S := S512x1024) origin₂, View.ld_unit_zero (S := S1x1024) origin₂]
  rfl

theorem soutB (k0 : ¬cond0_0 i) (k1 : ¬cond0_1 i) (k2 : cond0_2 i) :
    sout0_B_1 c i a1 h1 a2 h2 a3 h3 a4 h4 a5 h5 a6 h6 a7 h7 a8 h8 a9 h9 k0 k1 k2 x0 x1 x2 x3 x4 x5 s = hidTile x0 x1 x2 := by
  unfold sout0_B_1
  rw [View.read_writes_eq_canon _ _ _ (scover0_B_1 c i a1 h1 a2 h2 a3 h3 a4 h4 a5 h5 a6 h6 a7 h7 a8 h8 a9 h9 k0 k1 k2 x0 x1 x2 x3 x4 x5 s)]
  unfold kernelRun0_B
  dsimp only
  sl_unfold_words
  rw [View.canon_unit_zero origin₂]
  unfold k0_pay3
  simp only [View.readAt_eq_ld, h1.read_unread, h2.read_unread, h3.read_unread, shapeCast_self,
    View.ld_unit_zero (S := S512x1024) origin₂, View.ld_unit_zero (S := S1024x1024) origin₂, View.ld_unit_zero (S := S1x1024x512) origin₃]
  rfl

theorem soutA (k0 : cond0_0 i) (k1 : cond0_1 i) (k2 : ¬cond0_2 i) :
    sout0_A_0 c i a1 h1 a2 h2 a3 h3 a4 h4 a5 h5 a6 h6 a7 h7 a8 h8 a9 h9 k0 k1 k2 x0 x1 x2 x3 x4 x5 = hidTile x0 x1 x2 := by
  unfold sout0_A_0
  rw [View.read_writes_eq_canon _ _ _ (scover0_A_0 c i a1 h1 a2 h2 a3 h3 a4 h4 a5 h5 a6 h6 a7 h7 a8 h8 a9 h9 k0 k1 k2 x0 x1 x2 x3 x4 x5)]
  unfold kernelRun0_A
  dsimp only
  sl_unfold_words
  rw [View.canon_unit_zero origin₂]
  unfold k0_pay2
  simp only [View.readAt_eq_ld, h1.read_unread, h2.read_unread, h3.read_unread, shapeCast_self,
    View.ld_unit_zero (S := S512x1024) origin₂, View.ld_unit_zero (S := S1024x1024) origin₂, View.ld_unit_zero (S := S1x1024x512) origin₃]
  rfl

end

variable (m : (ℓ : Loc nD τ sig) → Buf (Elt F) ℓ)

/-- The hidden tile of point `n`. -/
def hid (c : Dev nD) (n : ℕ) (h : n < cfg0.N) : Vec F S512x1024 .f32 :=
  hidTile (iblk m c 0 ⟨n, h⟩) (iblk m c 1 ⟨n, h⟩) (iblk m c 2 ⟨n, h⟩)

/-- After an even point the first buffer holds that point's hidden tile. -/
theorem even_at (c : Dev nD) (t : Fin cfg0.N) (h : t.val % 2 = 0) : (outsAt0 m c t.val t.isLt).2.1 = hid m c t.val t.isLt := by
  have k : ¬t.val % 2 = 1 := by omega
  by_cases h0 : t.val % 65 = 0
  · rw [outsAt0_A m c t h0 h k]; dsimp only; exact soutA ..
  · rw [outsAt0_C m c t h0 h k]; dsimp only; exact soutC ..

/-- After an odd point the second buffer holds that point's hidden tile. -/
theorem odd_at (c : Dev nD) (t : Fin cfg0.N) (h : t.val % 2 = 1) : (outsAt0 m c t.val t.isLt).2.2 = hid m c t.val t.isLt := by
  have k : ¬t.val % 2 = 0 := by omega
  have hN : cfg0.N = 65 := N_0
  have h0 : ¬t.val % 65 = 0 := by have := t.isLt; omega
  rw [outsAt0_B m c t h0 k h]; dsimp only; exact soutB ..

/-- After point `n + 1` the result's buffer holds the feed-forward block of point `n`'s hidden tile. -/
theorem out_at (c : Dev nD) (n : ℕ) (h : n + 1 < cfg0.N) :
    (outsAt0 m c (n + 1) h).1 = ffTile (hid m c n (Nat.lt_of_succ_lt h)) (iblk m c 3 ⟨n + 1, h⟩) (iblk m c 4 ⟨n + 1, h⟩) (iblk m c 5 ⟨n + 1, h⟩) := by
  have hN : cfg0.N = 65 := N_0
  have h0 : ¬(n + 1) % 65 = 0 := by omega
  rcases Nat.mod_two_eq_zero_or_one n with e | e
  · have k1 : ¬(n + 1) % 2 = 0 := by omega
    have k2 : (n + 1) % 2 = 1 := by omega
    refine (congrArg Prod.fst (outsAt0_B m c ⟨n + 1, h⟩ h0 k1 k2)).trans ?_
    dsimp only
    refine (outB ..).trans ?_
    exact congrArg (fun x => ffTile x _ _ _) (even_at m c ⟨n, Nat.lt_of_succ_lt h⟩ e)
  · have k1 : (n + 1) % 2 = 0 := by omega
    have k2 : ¬(n + 1) % 2 = 1 := by omega
    refine (congrArg Prod.fst (outsAt0_C m c ⟨n + 1, h⟩ h0 k1 k2)).trans ?_
    dsimp only
    refine (outC ..).trans ?_
    exact congrArg (fun x => ffTile x _ _ _) (odd_at m c ⟨n, Nat.lt_of_succ_lt h⟩ e)

end Cert.OutKernelIdeal.Mlp

end
-- ==== Proof.Feed.lean ====
/-  The feed-forward layer of one token, over the extended reals, and its sum in four parts. -/
module

public import Idealize.ShloMosaic.PureOps
public import Idealize.ShloMosaic.Lib.Pipeline.ValueKit

@[expose] public section

noncomputable section

namespace Cert.Feed

open Idealize.ShloMosaic

/-- The reciprocal root mean square of a token's features. -/
def scale (x : Fin 1024 → EReal) : EReal :=
  Ideal.rsqrt (Ideal.div (∑ l, x l * x l) (Ideal.ofBits FTy.f32 0x44800000#32) + Ideal.ofBits FTy.f32 0x358637BD#32)

/-- The normalised features. -/
def normed (x g : Fin 1024 → EReal) (j : Fin 1024) : EReal := x j * scale x * g j

/-- The squared rectified activations. -/
def act (x g : Fin 1024 → EReal) (u : Fin 1024 → Fin 4096 → EReal) (k : Fin 4096) : EReal :=
  max (∑ l, normed x g l * u l k) 0 * max (∑ l, normed x g l * u l k) 0

/-- The layer with its residual. -/
def layer (x g : Fin 1024 → EReal) (u : Fin 1024 → Fin 4096 → EReal) (d : Fin 4096 → Fin 1024 → EReal) (j : Fin 1024) : EReal :=
  x j + ∑ k, act x g u k * d k j

theorem layer_congr {x x' g g' : Fin 1024 → EReal} {u u' : Fin 1024 → Fin 4096 → EReal} {d d' : Fin 4096 → Fin 1024 → EReal}
    (hx : ∀ l, x l = x' l) (hg : ∀ l, g l = g' l) (hu : ∀ l k, u l k = u' l k) (hd : ∀ k j, d k j = d' k j) (j : Fin 1024) :
    layer x g u d j = layer x' g' u' d' j := by
  obtain rfl : x = x' := funext hx
  obtain rfl : g = g' := funext hg
  obtain rfl : u = u' := funext fun l => funext (hu l)
  obtain rfl : d = d' := funext fun k => funext (hd k)
  rfl

/-- A sum of 4096 terms in four parts of 1024. -/
theorem sum_parts (f : Fin 4096 → EReal) :
    ∑ k, f k = (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  rw [← (finProdFinEquiv : Fin 4 × Fin 1024 ≃ Fin 4096).sum_comp f, Fintype.sum_prod_type, Fin.sum_univ_four]
  refine congrArg₂ _ (congrArg₂ _ (congrArg₂ _ ?_ ?_) ?_) ?_ <;>
    refine Finset.sum_congr rfl fun k _ => congrArg f (Fin.ext ?_) <;> simp [finProdFinEquiv] <;> omega

theorem layer_parts (x g : Fin 1024 → EReal) (u : Fin 1024 → Fin 4096 → EReal) (d : Fin 4096 → Fin 1024 → EReal) (j : Fin 1024) :
    layer x g u d j = x j + (∑ k : Fin 1024, act x g u ⟨k.val, by omega⟩ * d ⟨k.val, by omega⟩ j)
      + (∑ k : Fin 1024, act x g u ⟨1024 + k.val, by omega⟩ * d ⟨1024 + k.val, by omega⟩ j)
      + (∑ k : Fin 1024, act x g u ⟨2048 + k.val, by omega⟩ * d ⟨2048 + k.val, by omega⟩ j)
      + ∑ k : Fin 1024, act x g u ⟨3072 + k.val, by omega⟩ * d ⟨3072 + k.val, by omega⟩ j := by
  unfold layer
  rw [sum_parts]
  simp only [add_assoc]

end Cert.Feed

end
-- ==== Proof.OutBlock.lean ====
/-  The output projection's blocks at the ideal instance, element by element. -/
module

public import proofs.«01_k».proof.Proof.OutCases
public import proofs.«01_k».proof.Proof.Feed

@[expose] public section

set_option maxRecDepth 65536

noncomputable section

namespace Cert.OutKernelIdeal.Mlp

open Cert.OutKernelIdeal Cert.OutKernelIdeal.Gen
open Idealize.ShloMosaic Idealize.ShloMosaic.TcCoe Idealize.SL.Sem

theorem hidTile_at (o : Vec Ideal S1x1024x512 .bf16) (w : Vec Ideal S1024x1024 .bf16) (h : Vec Ideal S512x1024 .f32) (r : Fin 512) (j : Fin 1024) :
    hidTile o w h (ix2 r j) = h (ix2 r j) + ∑ l : Fin 1024, o (ix3 0 l r) * w (ix2 l j) := by
  pointwise [hidTile, k0_pay9, k0_pay4]

theorem normTile_at (x : Vec Ideal S512x1024 .f32) (g : Vec Ideal S1x1024 .f32) (r : Fin 512) (j : Fin 1024) :
    k0_pay5 x g (ix2 r j) = Feed.normed (fun l => x (ix2 r l)) (fun l => g (ix2 0 l)) j := by
  pointwise [k0_pay5]
  rfl

variable (x : Vec Ideal S512x1024 .f32) (g : Vec Ideal S1x1024 .f32) (u : Vec Ideal S1024x4096 .bf16) (d : Vec Ideal S4096x1024 .bf16)

theorem first_at (r : Fin 512) (j : Fin 1024) :
    k0_pay6 x g (cols u 0 inb_S1024x4096_S1024x1024_0_0) (rows d 0 inb_S4096x1024_S1024x1024_0_0) (ix2 r j)
      = x (ix2 r j) + ∑ k : Fin 1024, Feed.act (fun l => x (ix2 r l)) (fun l => g (ix2 0 l)) (fun l k => u (ix2 l k)) ⟨k.val, by omega⟩
          * d (ix2 ⟨k.val, by omega⟩ j) := by
  pointwise [k0_pay6, cols, rows]
  simp only [normTile_at]
  rfl

theorem second_at (r : Fin 512) (k : Fin 1024) :
    k0_pay7 x g (cols u 1024 inb_S1024x4096_S1024x1024_0_1024) (ix2 r k)
      = Feed.act (fun l => x (ix2 r l)) (fun l => g (ix2 0 l)) (fun l k => u (ix2 l k)) ⟨1024 + k.val, by omega⟩ := by
  pointwise [k0_pay7, cols]
  simp only [normTile_at]
  rfl

theorem ffTile_at (r : Fin 512) (j : Fin 1024) :
    ffTile x g u d (ix2 r j)
      = Feed.layer (fun l => x (ix2 r l)) (fun l => g (ix2 0 l)) (fun l k => u (ix2 l k)) (fun k j => d (ix2 k j)) j := by
  rw [Feed.layer_parts]
  pointwise [ffTile, k0_pay8, cols, rows]
  simp only [normTile_at, ← second_at, first_at]
  rfl

end Cert.OutKernelIdeal.Mlp

end
-- ==== Proof.OutReference.lean ====
/-  The reference of the output projection and feed-forward layer, element by element. -/
module

public import proofs.«01_k».proof.Proof.Gen.OutReferenceIdeal
public import proofs.«01_k».proof.Proof.Feed
public import Idealize.ShloMosaic.Lib.Pointwise

@[expose] public section

set_option maxRecDepth 65536

noncomputable section

namespace Cert.OutReferenceIdeal.Mlp

open Cert.OutReferenceIdeal Cert.OutReferenceIdeal.Gen
open Idealize.ShloMosaic Idealize.ShloMosaic.TcCoe Idealize.SL.Sem

variable (o h : FVec Ideal S4x8192x1024 .f32) (w : FVec Ideal S1024x1024 .f32) (g : FVec Ideal S1024 .f32)
  (u : FVec Ideal S1024x4096 .f32) (d : FVec Ideal S4096x1024 .f32)

/-- The hidden state after the projection and its residual. -/
def hidden : FVec Ideal S4x8192x1024 .f32 :=
  addf h (Host.dotGeneral dot_S4x8192x1024_S1024x1024_S4x8192x1024_2_0_01_1_n_n none o w)

/-- The normalised hidden state. -/
def normalised (x : FVec Ideal S4x8192x1024 .f32) : FVec Ideal S4x8192x1024 .f32 :=
  mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf x x) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The rectified products with the up-projection. -/
def rectified (y : FVec Ideal S4x8192x1024 .f32) : FVec Ideal S4x8192x4096 .f32 :=
  maximumf (Host.dotGeneral dot_S4x8192x1024_S1024x4096_S4x8192x4096_2_0_01_1_n_n none y u)
    (broadcastInDim S4x8192x4096 ![] bcast_S_S4x8192x4096 (constant S_ .f32 0x00000000#32))

/-- The result, from the hidden state and the rectified products. -/
def result (x : FVec Ideal S4x8192x1024 .f32) (z : FVec Ideal S4x8192x4096 .f32) : FVec Ideal S32768x1024 .f32 :=
  shapeCast S32768x1024 (addf x (Host.dotGeneral dot_S4x8192x4096_S4096x1024_S4x8192x1024_2_0_01_1_n_n none (mulf z z) d))
    shapeCasts_S4x8192x1024_S32768x1024

/-- The whole reference. -/
def whole : FVec Ideal S32768x1024 .f32 := result d (hidden o h w) (rectified u (normalised g (hidden o h w)))

theorem hidden_at (b : Fin 4) (n : Fin 8192) (j : Fin 1024) :
    hidden o h w (ix3 b n j) = h (ix3 b n j) + ∑ l : Fin 1024, o (ix3 b n l) * w (ix2 l j) := by
  pointwise [hidden]

theorem normalised_at (x : FVec Ideal S4x8192x1024 .f32) (b : Fin 4) (n : Fin 8192) (j : Fin 1024) :
    normalised g x (ix3 b n j) = Feed.normed (fun l => x (ix3 b n l)) (fun l => g (ix1 l)) j := by
  pointwise [normalised]
  rfl

theorem rectified_at (y : FVec Ideal S4x8192x1024 .f32) (b : Fin 4) (n : Fin 8192) (k : Fin 4096) :
    rectified u y (ix3 b n k) = max (∑ l : Fin 1024, y (ix3 b n l) * u (ix2 l k)) 0 := by
  pointwise [rectified]

theorem result_at (x : FVec Ideal S4x8192x1024 .f32) (z : FVec Ideal S4x8192x4096 .f32) (t : Fin 32768) (j : Fin 1024) :
    result d x z (ix2 t j) = x (ix3 ⟨t.val / 8192, by omega⟩ ⟨t.val % 8192, by omega⟩ j)
      + ∑ k : Fin 4096, z (ix3 ⟨t.val / 8192, by omega⟩ ⟨t.val % 8192, by omega⟩ k) * z (ix3 ⟨t.val / 8192, by omega⟩ ⟨t.val % 8192, by omega⟩ k) * d (ix2 k j) := by
  pointwise [result]

/-- The feed-forward layer on a hidden state. -/
theorem layer_at (x : FVec Ideal S4x8192x1024 .f32) (t : Fin 32768) (j : Fin 1024) :
    result d x (rectified u (normalised g x)) (ix2 t j)
      = Feed.layer (fun l => x (ix3 ⟨t.val / 8192, by omega⟩ ⟨t.val % 8192, by omega⟩ l))
          (fun l => g (ix1 l)) (fun l k => u (ix2 l k)) (fun k j => d (ix2 k j)) j := by
  rw [result_at]
  simp only [rectified_at, normalised_at]
  rfl

theorem whole_at (t : Fin 32768) (j : Fin 1024) :
    whole o h w g u d (ix2 t j) = Feed.layer (fun l => h (ix3 ⟨t.val / 8192, by omega⟩ ⟨t.val % 8192, by omega⟩ l)
        + ∑ i : Fin 1024, o (ix3 ⟨t.val / 8192, by omega⟩ ⟨t.val % 8192, by omega⟩ i) * w (ix2 i l))
      (fun l => g (ix1 l)) (fun l k => u (ix2 l k)) (fun k j => d (ix2 k j)) j := by
  unfold whole
  rw [layer_at]
  simp only [hidden_at]

end Cert.OutReferenceIdeal.Mlp

end
-- ==== Proof.OutValue.lean ====
/-  The result array of the output projection's call: the reference's. -/
module

public import proofs.«01_k».proof.Proof.OutBlock
public import proofs.«01_k».proof.Proof.OutReference
public import Idealize.ShloMosaic.Lib.Claim

@[expose] public section

set_option maxRecDepth 65536

noncomputable section

namespace Cert.OutKernelIdeal.Mlp

open Cert.OutKernelIdeal Cert.OutKernelIdeal.Gen
open Idealize.ShloMosaic Idealize.ShloMosaic.TcCoe Idealize.SL.Sem
open Idealize.ShloMosaic.Pipeline (Dat)

variable (m : (ℓ : Loc nD τ sig) → Buf (Elt Ideal) ℓ)

/-- The arguments. -/
abbrev argO (c : Dev nD) : FVec Ideal S4x8192x1024 .f32 := m ((c : Thread nD τ).loc main_arg0)
abbrev argH (c : Dev nD) : FVec Ideal S4x8192x1024 .f32 := m ((c : Thread nD τ).loc main_arg1)
abbrev argW (c : Dev nD) : FVec Ideal S1024x1024 .f32 := m ((c : Thread nD τ).loc main_arg2)
abbrev argG (c : Dev nD) : FVec Ideal S1024 .f32 := m ((c : Thread nD τ).loc main_arg3)
abbrev argU (c : Dev nD) : FVec Ideal S1024x4096 .f32 := m ((c : Thread nD τ).loc main_arg4)
abbrev argD (c : Dev nD) : FVec Ideal S4096x1024 .f32 := m ((c : Thread nD τ).loc main_arg5)

/-- The call's operands. -/
abbrev arrO (c : Dev nD) : FVec Ideal S4x1024x8192 .bf16 := V m c main_v1
abbrev arrW (c : Dev nD) : FVec Ideal S1024x1024 .bf16 := V m c main_v2
abbrev arrH (c : Dev nD) : FVec Ideal S32768x1024 .f32 := V m c main_v3
abbrev arrG (c : Dev nD) : FVec Ideal S1x1024 .f32 := V m c main_v4
abbrev arrU (c : Dev nD) : FVec Ideal S1024x4096 .bf16 := V m c main_v5
abbrev arrD (c : Dev nD) : FVec Ideal S4096x1024 .bf16 := V m c main_v6

theorem o_at (c : Dev nD) (b : Fin 4) (l : Fin 1024) (n : Fin 8192) : arrO m c (ix3 b l n) = argO m c (ix3 b n l) := by
  unfold arrO; entry_read; pointwise

theorem w_at (c : Dev nD) (l j : Fin 1024) : arrW m c (ix2 l j) = argW m c (ix2 l j) := by
  unfold arrW; entry_read; pointwise

theorem h_at (c : Dev nD) (t : Fin 32768) (j : Fin 1024) :
    arrH m c (ix2 t j) = argH m c (ix3 ⟨t.val / 8192, by omega⟩ ⟨t.val % 8192, by omega⟩ j) := by
  unfold arrH; entry_read; pointwise

theorem g_at (c : Dev nD) (j : Fin 1024) : arrG m c (ix2 0 j) = argG m c (ix1 j) := by
  unfold arrG; entry_read; pointwise

theorem u_at (c : Dev nD) (l : Fin 1024) (k : Fin 4096) : arrU m c (ix2 l k) = argU m c (ix2 l k) := by
  unfold arrU; entry_read; pointwise

theorem d_at (c : Dev nD) (k : Fin 4096) (j : Fin 1024) : arrD m c (ix2 k j) = argD m c (ix2 k j) := by
  unfold arrD; entry_read; pointwise

theorem idx : ∀ t : Fin cfg0.N, win0_0.index t = ![min t.val 63 / 16, 0, min t.val 63 % 16] ∧ win0_1.index t = ![0, 0] ∧ win0_2.index t = ![min t.val 63, 0]
    ∧ win0_3.index t = ![0, 0] ∧ win0_4.index t = ![0, 0] ∧ win0_5.index t = ![0, 0] ∧ win0_6.index t = ![t.val - 1, 0] :=
  (by decide +kernel : ∀ t : Fin grid0.N, _)

theorem blkO_at (c : Dev nD) (n : Fin 64) (h : n.val < cfg0.N) (l : Fin 1024) (r : Fin 512) :
    iblk m c 0 ⟨n.val, h⟩ (ix3 0 l r) = arrO m c (ix3 ⟨n.val / 16, by omega⟩ l ⟨n.val % 16 * 512 + r.val, by omega⟩) := by
  have e := (idx ⟨n.val, h⟩).1
  rw [show min n.val 63 = n.val by omega] at e
  unfold iblk; blk_ext [e]

theorem blkW_at (c : Dev nD) (t : Fin cfg0.N) (l j : Fin 1024) : iblk m c 1 t (ix2 l j) = arrW m c (ix2 l j) := by
  have e := (idx t).2.1
  unfold iblk; blk_ext [e]

theorem blkH_at (c : Dev nD) (n : Fin 64) (h : n.val < cfg0.N) (r : Fin 512) (j : Fin 1024) :
    iblk m c 2 ⟨n.val, h⟩ (ix2 r j) = arrH m c (ix2 ⟨n.val * 512 + r.val, by omega⟩ j) := by
  have e := (idx ⟨n.val, h⟩).2.2.1
  rw [show min n.val 63 = n.val by omega] at e
  unfold iblk; blk_ext [e]

theorem blkG_at (c : Dev nD) (t : Fin cfg0.N) (j : Fin 1024) : iblk m c 3 t (ix2 0 j) = arrG m c (ix2 0 j) := by
  have e := (idx t).2.2.2.1
  unfold iblk; blk_ext [e]

theorem blkU_at (c : Dev nD) (t : Fin cfg0.N) (l : Fin 1024) (k : Fin 4096) : iblk m c 4 t (ix2 l k) = arrU m c (ix2 l k) := by
  have e := (idx t).2.2.2.2.1
  unfold iblk; blk_ext [e]

theorem blkD_at (c : Dev nD) (t : Fin cfg0.N) (k : Fin 4096) (j : Fin 1024) : iblk m c 5 t (ix2 k j) = arrD m c (ix2 k j) := by
  have e := (idx t).2.2.2.2.2.1
  unfold iblk; blk_ext [e]

/-- The reference's result. -/
abbrev goal (c : Dev nD) : FVec Ideal S32768x1024 .f32 :=
  Cert.OutReferenceIdeal.Mlp.whole (argO m c) (argH m c) (argW m c) (argG m c) (argU m c) (argD m c)

theorem point_at (c : Dev nD) (n : Fin 64) (h : n.val + 1 < cfg0.N) (r : Fin 512) (j : Fin 1024) :
    (outsAt0 m c (n.val + 1) h).1 (ix2 r j) = goal m c (ix2 ⟨n.val * 512 + r.val, by omega⟩ j) := by
  rw [out_at, ffTile_at]
  refine Eq.trans ?_ (Cert.OutReferenceIdeal.Mlp.whole_at ..).symm
  refine Feed.layer_congr (fun l => ?_) (fun l => (blkG_at ..).trans (g_at ..)) (fun l k => (blkU_at ..).trans (u_at ..))
    (fun k j => (blkD_at ..).trans (d_at ..)) j
  unfold hid
  refine (hidTile_at ..).trans ?_
  rw [blkH_at, h_at]
  refine congrArg₂ _ rfl (Finset.sum_congr rfl fun i _ => ?_)
  rw [blkO_at, blkW_at, o_at, w_at]
  refine congrArg (fun x => x * _) ?_
  refine congrArg₂ (fun b t => argO m c (ix3 b t i)) (Fin.ext ?_) (Fin.ext ?_) <;> simp only <;> omega

theorem final (c : Dev nD) : (dats m 0 c).arrAt 6 cfg0.N = goal m c := by
  have hN : cfg0.N = 65 := N_0
  refine (dats m 0 c).arrAt_eq_of_covers 6 _ (by decide +kernel) fun t hf y => ?_
  have e := (idx t).2.2.2.2.2.2
  have ht : t.val ≠ 0 := (by decide +kernel : ∀ t : Fin grid0.N, win0_6.flush t = true → t.val ≠ 0) t hf
  obtain ⟨n, hn⟩ := t
  obtain _ | n := n
  · exact absurd rfl ht
  blk_simp
  rw [after0_6]
  idx_vars y
  refine (point_at m c ⟨n, Nat.lt_of_succ_lt_succ (hn.trans_eq hN)⟩ hn y0 y1).trans ?_
  refine congrArg (goal m c) ?_
  blk_ext [e]

end Cert.OutKernelIdeal.Mlp

end
-- ==== Proof.ConvCases.lean ====
/-  The convolution mixer's output call, point by point: what the result block and the two hidden-tile buffers hold after a grid point. -/
module

public import proofs.«01_k».proof.Proof.Gen.ConvKernelIdeal.Frame
public import Idealize.ShloMosaic.Lib.Pipeline.ValueKit

@[expose] public section

set_option maxRecDepth 65536

noncomputable section

namespace Cert.ConvKernelIdeal.Mix

open Cert.ConvKernelIdeal Cert.ConvKernelIdeal.Gen
open Idealize.ShloMosaic Idealize.ShloMosaic.TcCoe Idealize.SL.Sem
open Idealize.ShloMosaic.Pipeline (Dat)

variable {F : FTy → Type} [FloatOps F]

theorem origin₂ : (![0, 0] : Fin 2 → Nat) = fun _ => 0 := funext fun a => by fin_cases a <;> rfl

theorem origin₃ : (![0, 0, 0] : Fin 3 → Nat) = fun _ => 0 := funext fun a => by fin_cases a <;> rfl

/-- The columns of the up-projection from `1024 * j`. -/
abbrev cols (w : Vec F S1024x4096 .bf16) (j : Nat) (h : ∀ a, (![0, j] : Fin 2 → Nat) a + S1024x1024.size a ≤ S1024x4096.size a) :
    Vec F S1024x1024 .bf16 := View.ld w (Rect.unit (s := S1024x4096) ![0, j] S1024x1024.size h)

/-- The rows of the down-projection from `1024 * j`. -/
abbrev rows (w : Vec F S4096x1024 .bf16) (j : Nat) (h : ∀ a, (![j, 0] : Fin 2 → Nat) a + S1024x1024.size a ≤ S4096x1024.size a) :
    Vec F S1024x1024 .bf16 := View.ld w (Rect.unit (s := S4096x1024) ![j, 0] S1024x1024.size h)

/-- The feed-forward block of a hidden tile `x`. -/
def ffTile (x : Vec F S512x1024 .f32) (g : Vec F S1x1024 .f32) (u : Vec F S1024x4096 .bf16) (d : Vec F S4096x1024 .bf16) : Vec F S512x1024 .f32 :=
  k0_pay2 (k0_pay14 x (k0_pay11 g) (k0_pay12 x) k0_pay13)
    (k0_pay15 x (k0_pay11 g) (k0_pay12 x) k0_pay13 (cols u 0 inb_S1024x4096_S1024x1024_0_0) (rows d 0 inb_S4096x1024_S1024x1024_0_0)
      (cols u 1024 inb_S1024x4096_S1024x1024_0_1024) (rows d 1024 inb_S4096x1024_S1024x1024_1024_0))
    (k0_pay16 x (k0_pay11 g) (k0_pay12 x) k0_pay13 (cols u 2048 inb_S1024x4096_S1024x1024_0_2048))
    (rows d 2048 inb_S4096x1024_S1024x1024_2048_0)
    (cols u 3072 inb_S1024x4096_S1024x1024_0_3072) (rows d 3072 inb_S4096x1024_S1024x1024_3072_0)

/-- Whether tile `n` is the last of its sequence, as the kernel computes it. -/
def lastBit (n : BitVec 32) : BitVec 1 :=
  let q := Scalar.remsi (Scalar.minsi n 63#32) (Scalar.select (Scalar.cmpi .eq 16#32 0#32) 1#32 16#32)
  Scalar.cmpi .eq (Scalar.select (Scalar.andi (Scalar.xori (Scalar.cmpi .slt q 0#32)
      (Scalar.cmpi .slt (Scalar.select (Scalar.cmpi .eq 16#32 0#32) 1#32 16#32) 0#32)) (Scalar.cmpi .ne q 0#32))
    (Scalar.addi q (Scalar.select (Scalar.cmpi .eq 16#32 0#32) 1#32 16#32)) q) 15#32

/-- The tile with its neighbours' rows around it. -/
def padded (n : BitVec 32) (x : Vec F S512x1024 .bf16) (p q : Vec F S16x1024 .bf16) : Vec F S544x1024 .f32 :=
  View.canon [⟨Rect.unit (s := S544x1024) ![528, 0] S16x1024.size inb_S544x1024_S16x1024_528_0, k0_pay9 (lastBit n) q⟩,
    ⟨Rect.unit (s := S544x1024) ![16, 0] S512x1024.size inb_S544x1024_S512x1024_16_0, k0_pay8 (k0_pay7 x)⟩,
    ⟨Rect.unit (s := S544x1024) ![0, 0] S16x1024.size inb_S544x1024_S16x1024_0_0, k0_pay6 n p⟩]

/-- The rows of the padded tile from `j`. -/
abbrev shifted (w : Vec F S544x1024 .f32) (j : Nat) (h : ∀ a, (![j, 0] : Fin 2 → Nat) a + S512x1024.size a ≤ S544x1024.size a) :
    Vec F S512x1024 .f32 := View.ld w (Rect.unit (s := S544x1024) ![j, 0] S512x1024.size h)

/-- The hidden tile a point computes. -/
def hidTile (n : BitVec 32) (x : Vec F S512x1024 .bf16) (p q : Vec F S16x1024 .bf16) (b : Vec F S512x1024 .bf16) (k : Vec F S3x1024 .f32)
    (w : Vec F S1024x1024 .bf16) (h : Vec F S512x1024 .f32) : Vec F S512x1024 .f32 :=
  k0_pay3 (k0_pay10 k (shifted (padded n x p q) 15 inb_S544x1024_S512x1024_15_0) (shifted (padded n x p q) 16 inb_S544x1024_S512x1024_16_0)
    (shifted (padded n x p q) 17 inb_S544x1024_S512x1024_17_0) b) h w

section
variable (c : Dev nD) (i : grid0.Coords)
  (a1 : Memref sig .tc .vmem S512x1024 .bf16) (h1 : a1.IsWhole)  (a2 : Memref sig .tc .vmem S16x1024 .bf16) (h2 : a2.IsWhole)
  (a3 : Memref sig .tc .vmem S16x1024 .bf16) (h3 : a3.IsWhole)  (a4 : Memref sig .tc .vmem S512x1024 .bf16) (h4 : a4.IsWhole)
  (a5 : Memref sig .tc .vmem S3x1024 .f32) (h5 : a5.IsWhole)  (a6 : Memref sig .tc .vmem S1024x1024 .bf16) (h6 : a6.IsWhole)
  (a7 : Memref sig .tc .vmem S512x1024 .f32) (h7 : a7.IsWhole)  (a8 : Memref sig .tc .vmem S1x1024 .f32) (h8 : a8.IsWhole)
  (a9 : Memref sig .tc .vmem S1024x4096 .bf16) (h9 : a9.IsWhole)  (a10 : Memref sig .tc .vmem S4096x1024 .bf16) (h10 : a10.IsWhole)
  (a11 : Memref sig .tc .vmem S512x1024 .f32) (h11 : a11.IsWhole)  (a12 : Memref sig .tc .vmem S512x1024 .f32) (h12 : a12.IsWhole)
  (a13 : Memref sig .tc .vmem S512x1024 .f32) (h13 : a13.IsWhole)  (a14 : Memref sig .tc .vmem S544x1024 .f32) (h14 : a14.IsWhole)
  (x0 : Vec F S512x1024 .bf16) (x1 : Vec F S16x1024 .bf16) (x2 : Vec F S16x1024 .bf16) (x3 : Vec F S512x1024 .bf16) (x4 : Vec F S3x1024 .f32) (x5 : Vec F S1024x1024 .bf16) (x6 : Vec F S512x1024 .f32) (x7 : Vec F S1x1024 .f32) (x8 : Vec F S1024x4096 .bf16) (x9 : Vec F S4096x1024 .bf16) (s : Vec F S512x1024 .f32)

theorem outC (k0 : ¬cond0_0 i) (k1 : cond0_1 i) (k2 : ¬cond0_2 i) :
    out0_C_10 c i a1 h1 a2 h2 a3 h3 a4 h4 a5 h5 a6 h6 a7 h7 a8 h8 a9 h9 a10 h10 a11 h11 a12 h12 a13 h13 a14 h14 k0 k1 k2 x0 x1 x2 x3 x4 x5 x6 x7 x8 x9 s = ffTile s x7 x8 x9 := by
  unfold out0_C_10
  rw [View.read_writes_eq_canon _ _ _ (cover0_C_10 c i a1 h1 a2 h2 a3 h3 a4 h4 a5 h5 a6 h6 a7 h7 a8 h8 a9 h9 a10 h10 a11 h11 a12 h12 a13 h13 a14 h14 k0 k1 k2 x0 x1 x2 x3 x4 x5 x6 x7 x8 x9 s)]
  unfold kernelRun0_C
  dsimp only
  sl_unfold_words
  rw [View.canon_unit_zero origin₂]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S512x1024) origin₂, View.ld_unit_zero (S := S1024x1024) origin₂, View.ld_unit_zero (S := S3x1024) origin₂,
    View.ld_unit_zero (S := S16x1024) origin₂, View.ld_unit_zero (S := S1x1024) origin₂]
  rfl

theorem soutC (k0 : ¬cond0_0 i) (k1 : cond0_1 i) (k2 : ¬cond0_2 i) :
    sout0_C_0 c i a1 h1 a2 h2 a3 h3 a4 h4 a5 h5 a6 h6 a7 h7 a8 h8 a9 h9 a10 h10 a11 h11 a12 h12 a13 h13 a14 h14 k0 k1 k2 x0 x1 x2 x3 x4 x5 x6 x7 x8 x9 s = hidTile (BitVec.ofNat 32 (i 0).val) x0 x1 x2 x3 x4 x5 x6 := by
  unfold sout0_C_0
  rw [View.read_writes_eq_canon _ _ _ (scover0_C_0 c i a1 h1 a2 h2 a3 h3 a4 h4 a5 h5 a6 h6 a7 h7 a8 h8 a9 h9 a10 h10 a11 h11 a12 h12 a13 h13 a14 h14 k0 k1 k2 x0 x1 x2 x3 x4 x5 x6 x7 x8 x9 s)]
  unfold kernelRun0_C
  dsimp only
  sl_unfold_words
  rw [View.canon_unit_zero origin₂]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S512x1024) origin₂, View.ld_unit_zero (S := S1024x1024) origin₂, View.ld_unit_zero (S := S3x1024) origin₂,
    View.ld_unit_zero (S := S16x1024) origin₂, View.ld_unit_zero (S := S1x1024) origin₂, View.readCov_eq_canon']
  rfl

theorem outB (k0 : ¬cond0_0 i) (k1 : ¬cond0_1 i) (k2 : cond0_2 i) :
    out0_B_10 c i a1 h1 a2 h2 a3 h3 a4 h4 a5 h5 a6 h6 a7 h7 a8 h8 a9 h9 a10 h10 a11 h11 a12 h12 a13 h13 a14 h14 k0 k1 k2 x0 x1 x2 x3 x4 x5 x6 x7 x8 x9 s = ffTile s x7 x8 x9 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 k0 k1 k2 x0 x1 x2 x3 x4 x5 x6 x7 x8 x9 s)]
  unfold kernelRun0_B
  dsimp only
  sl_unfold_words
  rw [View.canon_unit_zero origin₂]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S512x1024) origin₂, View.ld_unit_zero (S := S1024x1024) origin₂, View.ld_unit_zero (S := S3x1024) origin₂,
    View.ld_unit_zero (S := S16x1024) origin₂, View.ld_unit_zero (S := S1x1024) origin₂]
  rfl

theorem soutB (k0 : ¬cond0_0 i) (k1 : ¬cond0_1 i) (k2 : cond0_2 i) :
    sout0_B_1 c i a1 h1 a2 h2 a3 h3 a4 h4 a5 h5 a6 h6 a7 h7 a8 h8 a9 h9 a10 h10 a11 h11 a12 h12 a13 h13 a14 h14 k0 k1 k2 x0 x1 x2 x3 x4 x5 x6 x7 x8 x9 s = hidTile (BitVec.ofNat 32 (i 0).val) x0 x1 x2 x3 x4 x5 x6 := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 a14 h14 k0 k1 k2 x0 x1 x2 x3 x4 x5 x6 x7 x8 x9 s)]
  unfold kernelRun0_B
  dsimp only
  sl_unfold_words
  rw [View.canon_unit_zero origin₂]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S512x1024) origin₂, View.ld_unit_zero (S := S1024x1024) origin₂, View.ld_unit_zero (S := S3x1024) origin₂,
    View.ld_unit_zero (S := S16x1024) origin₂, View.ld_unit_zero (S := S1x1024) origin₂, View.readCov_eq_canon']
  rfl

theorem soutA (k0 : cond0_0 i) (k1 : cond0_1 i) (k2 : ¬cond0_2 i) :
    sout0_A_0 c i a1 h1 a2 h2 a3 h3 a4 h4 a5 h5 a6 h6 a7 h7 a8 h8 a9 h9 a10 h10 a11 h11 a12 h12 a13 h13 a14 h14 k0 k1 k2 x0 x1 x2 x3 x4 x5 x6 x7 x8 x9 = hidTile (BitVec.ofNat 32 (i 0).val) x0 x1 x2 x3 x4 x5 x6 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 k0 k1 k2 x0 x1 x2 x3 x4 x5 x6 x7 x8 x9)]
  unfold kernelRun0_A
  dsimp only
  sl_unfold_words
  rw [View.canon_unit_zero origin₂]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S512x1024) origin₂, View.ld_unit_zero (S := S1024x1024) origin₂, View.ld_unit_zero (S := S3x1024) origin₂,
    View.ld_unit_zero (S := S16x1024) origin₂, View.ld_unit_zero (S := S1x1024) origin₂, View.readCov_eq_canon']
  rfl

end

variable (m : (ℓ : Loc nD τ sig) → Buf (Elt F) ℓ)

/-- The hidden tile of point `n`. -/
def hid (c : Dev nD) (n : ℕ) (h : n < cfg0.N) : Vec F S512x1024 .f32 :=
  hidTile (BitVec.ofNat 32 (grid0.coords ⟨n, h⟩ 0).val) (iblk m c 0 ⟨n, h⟩) (iblk m c 1 ⟨n, h⟩) (iblk m c 2 ⟨n, h⟩) (iblk m c 3 ⟨n, h⟩) (iblk m c 4 ⟨n, h⟩)
    (iblk m c 5 ⟨n, h⟩) (iblk m c 6 ⟨n, h⟩)

/-- After an even point the first buffer holds that point's hidden tile. -/
theorem even_at (c : Dev nD) (t : Fin cfg0.N) (h : t.val % 2 = 0) : (outsAt0 m c t.val t.isLt).2.1 = hid m c t.val t.isLt := by
  have k : ¬t.val % 2 = 1 := by omega
  by_cases h0 : t.val % 65 = 0
  · rw [outsAt0_A m c t h0 h k]; dsimp only; exact soutA ..
  · rw [outsAt0_C m c t h0 h k]; dsimp only; exact soutC ..

/-- After an odd point the second buffer holds that point's hidden tile. -/
theorem odd_at (c : Dev nD) (t : Fin cfg0.N) (h : t.val % 2 = 1) : (outsAt0 m c t.val t.isLt).2.2 = hid m c t.val t.isLt := by
  have k : ¬t.val % 2 = 0 := by omega
  have hN : cfg0.N = 65 := N_0
  have h0 : ¬t.val % 65 = 0 := by have := t.isLt; omega
  rw [outsAt0_B m c t h0 k h]; dsimp only; exact soutB ..

/-- After point `n + 1` the result's buffer holds the feed-forward block of point `n`'s hidden tile. -/
theorem out_at (c : Dev nD) (n : ℕ) (h : n + 1 < cfg0.N) :
    (outsAt0 m c (n + 1) h).1 = ffTile (hid m c n (Nat.lt_of_succ_lt h)) (iblk m c 7 ⟨n + 1, h⟩) (iblk m c 8 ⟨n + 1, h⟩) (iblk m c 9 ⟨n + 1, h⟩) := by
  have hN : cfg0.N = 65 := N_0
  have h0 : ¬(n + 1) % 65 = 0 := by omega
  rcases Nat.mod_two_eq_zero_or_one n with e | e
  · have k1 : ¬(n + 1) % 2 = 0 := by omega
    have k2 : (n + 1) % 2 = 1 := by omega
    refine (congrArg Prod.fst (outsAt0_B m c ⟨n + 1, h⟩ h0 k1 k2)).trans ?_
    dsimp only
    refine (outB ..).trans ?_
    exact congrArg (fun x => ffTile x _ _ _) (even_at m c ⟨n, Nat.lt_of_succ_lt h⟩ e)
  · have k1 : (n + 1) % 2 = 0 := by omega
    have k2 : ¬(n + 1) % 2 = 1 := by omega
    refine (congrArg Prod.fst (outsAt0_C m c ⟨n + 1, h⟩ h0 k1 k2)).trans ?_
    dsimp only
    refine (outC ..).trans ?_
    exact congrArg (fun x => ffTile x _ _ _) (odd_at m c ⟨n, Nat.lt_of_succ_lt h⟩ e)

end Cert.ConvKernelIdeal.Mix

end
-- ==== Proof.ConvBlock.lean ====
/-  The convolution mixer's output blocks at the ideal instance, element by element. -/
module

public import proofs.«01_k».proof.Proof.ConvCases
public import proofs.«01_k».proof.Proof.OutBlock

@[expose] public section

set_option maxRecDepth 65536

noncomputable section

namespace Cert.ConvKernelIdeal.Mix

open Cert.ConvKernelIdeal Cert.ConvKernelIdeal.Gen
open Idealize.ShloMosaic Idealize.ShloMosaic.TcCoe Idealize.SL.Sem

theorem ffTile_at (x : Vec Ideal S512x1024 .f32) (g : Vec Ideal S1x1024 .f32) (u : Vec Ideal S1024x4096 .bf16) (d : Vec Ideal S4096x1024 .bf16)
    (r : Fin 512) (j : Fin 1024) :
    ffTile x g u d (ix2 r j)
      = Feed.layer (fun l => x (ix2 r l)) (fun l => g (ix2 0 l)) (fun l k => u (ix2 l k)) (fun k j => d (ix2 k j)) j :=
  (congrFun (show ffTile x g u d = OutKernelIdeal.Mlp.ffTile x g u d from rfl) _).trans (OutKernelIdeal.Mlp.ffTile_at ..)

section
variable (n : Fin 65) (x : Vec Ideal S512x1024 .bf16) (p q : Vec Ideal S16x1024 .bf16)

/-- Whether tile `n` is the first of its sequence, as the kernel computes it. -/
def firstBit (n : BitVec 32) : BitVec 1 :=
  let q := Scalar.remsi (Scalar.minsi n 63#32) (Scalar.select (Scalar.cmpi .eq 16#32 0#32) 1#32 16#32)
  Scalar.cmpi .eq (Scalar.select (Scalar.andi (Scalar.xori (Scalar.cmpi .slt q 0#32)
      (Scalar.cmpi .slt (Scalar.select (Scalar.cmpi .eq 16#32 0#32) 1#32 16#32) 0#32)) (Scalar.cmpi .ne q 0#32))
    (Scalar.addi q (Scalar.select (Scalar.cmpi .eq 16#32 0#32) 1#32 16#32)) q) 0#32

theorem firstBit_eq : ∀ n : Fin 65, firstBit (BitVec.ofNat 32 n.val) = if min n.val 63 % 16 = 0 then 1#1 else 0#1 := by decide +kernel

theorem lastBit_eq : ∀ n : Fin 65, lastBit (BitVec.ofNat 32 n.val) = if min n.val 63 % 16 = 15 then 1#1 else 0#1 := by decide +kernel

theorem prev_at (r : Fin 16) (j : Fin 1024) :
    k0_pay6 (BitVec.ofNat 32 n.val) p (ix2 r j) = if min n.val 63 % 16 = 0 then 0 else p (ix2 r j) := by
  have e : k0_pay6 (BitVec.ofNat 32 n.val) p = shapeCast S16x1024 (Scalar.select (firstBit (BitVec.ofNat 32 n.val))
    (broadcast S16x1024 (Scalar.ofBits (F := Ideal) .f32 0x00000000#32)) (extf .f32 (shapeCast S16x1024 p shapeCasts_S16x1024_S16x1024) bitsLt_bf16_f32))
    shapeCasts_S16x1024_S16x1024 := rfl
  rw [e, firstBit_eq]
  by_cases h : min n.val 63 % 16 = 0
  · rw [if_pos h, if_pos h]; unfold Scalar.select; rw [if_pos (by decide)]; pointwise
  · rw [if_neg h, if_neg h]; unfold Scalar.select; rw [if_neg (by decide)]; pointwise

theorem next_at (r : Fin 16) (j : Fin 1024) :
    k0_pay9 (lastBit (BitVec.ofNat 32 n.val)) q (ix2 r j) = if min n.val 63 % 16 = 15 then 0 else q (ix2 r j) := by
  rw [lastBit_eq]
  unfold k0_pay9 Scalar.select
  by_cases h : min n.val 63 % 16 = 15
  · rw [if_pos h, if_pos h, if_pos (by decide)]; pointwise
  · rw [if_neg h, if_neg h, if_neg (by decide)]; pointwise

theorem own_at (r : Fin 512) (j : Fin 1024) : k0_pay8 (k0_pay7 x) (ix2 r j) = x (ix2 r j) := by
  pointwise [k0_pay8, k0_pay7]

/-- Row `r` of the padded tile. -/
def line (r : Nat) (j : Fin 1024) : EReal :=
  if h : r < 16 then if min n.val 63 % 16 = 0 then 0 else p (ix2 ⟨r, h⟩ j)
  else if h : r < 528 then x (ix2 ⟨r - 16, by omega⟩ j)
  else if h : r < 544 then if min n.val 63 % 16 = 15 then 0 else q (ix2 ⟨r - 528, by omega⟩ j)
  else 0

theorem padded_at (r : Fin 544) (j : Fin 1024) : padded (BitVec.ofNat 32 n.val) x p q (ix2 r j) = line n x p q r.val j := by
  unfold padded
  refine View.canon_apply_of_pieces (Val := Elt Ideal) (S := S544x1024) (e := .f32) (fun y => line n x p q (y 0).val (y 1)) _ ?_ (ix2 r j) ?_
  · intro P hP
    simp only [List.mem_cons, List.not_mem_nil, or_false] at hP
    rcases hP with rfl | rfl | rfl
    · intro y
      idx_vars y
      refine (next_at n q y0 y1).trans ?_
      show _ = line n x p q (528 + 1 * y0.val) ⟨0 + 1 * y1.val, _⟩
      unfold line
      rw [dif_neg (by omega), dif_neg (by omega), dif_pos (by omega)]
      congr 3 <;> simp
    · intro y
      idx_vars y
      refine (own_at x y0 y1).trans ?_
      show _ = line n x p q (16 + 1 * y0.val) ⟨0 + 1 * y1.val, _⟩
      unfold line
      rw [dif_neg (by omega), dif_pos (by omega)]
      congr 2 <;> simp
    · intro y
      idx_vars y
      refine (prev_at n p y0 y1).trans ?_
      show _ = line n x p q (0 + 1 * y0.val) ⟨0 + 1 * y1.val, _⟩
      unfold line
      rw [dif_pos (by omega)]
      congr 3 <;> simp
  · have hr := r.isLt
    have hj := j.isLt
    by_cases h : r.val < 16
    · refine ⟨_, List.mem_cons_of_mem _ (List.mem_cons_of_mem _ List.mem_cons_self), ?_⟩
      rw [LoadRect.mem_set]
      intro a
      fin_cases a
      · exact ⟨r.val, h, by show r.val = 0 + 1 * r.val; omega⟩
      · exact ⟨j.val, hj, by show j.val = 0 + 1 * j.val; omega⟩
    · by_cases h' : r.val < 528
      · refine ⟨_, List.mem_cons_of_mem _ List.mem_cons_self, ?_⟩
        rw [LoadRect.mem_set]
        intro a
        fin_cases a
        · exact ⟨r.val - 16, by show r.val - 16 < 512; omega, by show r.val = 16 + 1 * (r.val - 16); omega⟩
        · exact ⟨j.val, hj, by show j.val = 0 + 1 * j.val; omega⟩
      · refine ⟨_, List.mem_cons_self, ?_⟩
        rw [LoadRect.mem_set]
        intro a
        fin_cases a
        · exact ⟨r.val - 528, by show r.val - 528 < 16; omega, by show r.val = 528 + 1 * (r.val - 528); omega⟩
        · exact ⟨j.val, hj, by show j.val = 0 + 1 * j.val; omega⟩

theorem hidTile_at (b : Vec Ideal S512x1024 .bf16) (k : Vec Ideal S3x1024 .f32) (w : Vec Ideal S1024x1024 .bf16) (h : Vec Ideal S512x1024 .f32)
    (r : Fin 512) (j : Fin 1024) :
    hidTile (BitVec.ofNat 32 n.val) x p q b k w h (ix2 r j) = h (ix2 r j) + ∑ l : Fin 1024, b (ix2 r l)
      * (line n x p q (15 + r.val) l * k (ix2 0 l) + line n x p q (16 + r.val) l * k (ix2 1 l) + line n x p q (17 + r.val) l * k (ix2 2 l))
      * w (ix2 l j) := by
  pointwise [hidTile, k0_pay3, k0_pay10, shifted]
  simp only [padded_at]
  try rfl

end

end Cert.ConvKernelIdeal.Mix

end
-- ==== Proof.ConvReference.lean ====
/-  The reference of the convolution mixer's output, element by element. -/
module

public import proofs.«01_k».proof.Proof.OutReference
public import proofs.«01_k».proof.Proof.Gen.ConvReferenceIdeal
public import Idealize.ShloMosaic.Lib.KernelVsHost

@[expose] public section

set_option maxRecDepth 65536

noncomputable section

namespace Cert.Conv

open Idealize.ShloMosaic

/-- A sequence with one zero before it and zeros after it. -/
def near (x : Fin 8192 → EReal) (n : Nat) : EReal := if h : 1 ≤ n ∧ n ≤ 8192 then x ⟨n - 1, by omega⟩ else 0

/-- The three taps of the causal-and-anticausal convolution at position `n`. -/
def taps (x : Fin 8192 → EReal) (k : Fin 3 → EReal) (n : Nat) : EReal := near x n * k 0 + near x (n + 1) * k 1 + near x (n + 2) * k 2

end Cert.Conv

namespace Cert.ConvReferenceIdeal.Mix

open Cert.ConvReferenceIdeal Cert.ConvReferenceIdeal.Gen
open Idealize.ShloMosaic Idealize.ShloMosaic.TcCoe Idealize.SL.Sem

variable (x b h : FVec Ideal S4x8192x1024 .f32) (k : FVec Ideal S3x1024 .f32) (w : FVec Ideal S1024x1024 .f32)

/-- The sequences between zeros. -/
def framed : FVec Ideal S4x8194x1024 .f32 :=
  pad S4x8194x1024 ![0, 1, 0] ![0, 1, 0] ![0, 0, 0] x (sitofp (F := Ideal) .f32 (constantI S_ 32 0#32)) pads_S4x8192x1024_S4x8194x1024_000_110_000 h_S_

/-- The convolution of each channel. -/
def convolved : FVec Ideal S4x8192x1024 .f32 :=
  addf (addf
      (mulf (extractStridedSlice S4x8192x1024 ![0, 0, 0] (framed x) slices_S4x8194x1024_S4x8192x1024_0_0_0)
        (broadcastInDim S4x8192x1024 ![0, 1, 2] bcast_S1x1x1024_S4x8192x1024_0_1_2 (broadcastInDim S1x1x1024 ![2] bcast_S1024_S1x1x1024_2
          (shapeCast S1024 (extractStridedSlice S1x1024 ![0, 0] k slices_S3x1024_S1x1024_0_0) shapeCasts_S1x1024_S1024))))
      (mulf (extractStridedSlice S4x8192x1024 ![0, 1, 0] (framed x) slices_S4x8194x1024_S4x8192x1024_0_1_0)
        (broadcastInDim S4x8192x1024 ![0, 1, 2] bcast_S1x1x1024_S4x8192x1024_0_1_2 (broadcastInDim S1x1x1024 ![2] bcast_S1024_S1x1x1024_2
          (shapeCast S1024 (extractStridedSlice S1x1024 ![1, 0] k slices_S3x1024_S1x1024_1_0) shapeCasts_S1x1024_S1024)))))
    (mulf (extractStridedSlice S4x8192x1024 ![0, 2, 0] (framed x) slices_S4x8194x1024_S4x8192x1024_0_2_0)
      (broadcastInDim S4x8192x1024 ![0, 1, 2] bcast_S1x1x1024_S4x8192x1024_0_1_2 (broadcastInDim S1x1x1024 ![2] bcast_S1024_S1x1x1024_2
        (shapeCast S1024 (extractStridedSlice S1x1024 ![2, 0] k slices_S3x1024_S1x1024_2_0) shapeCasts_S1x1024_S1024))))

/-- The hidden state after the mixer's output projection and its residual. -/
def hidden : FVec Ideal S4x8192x1024 .f32 :=
  addf h (Host.dotGeneral dot_S4x8192x1024_S1024x1024_S4x8192x1024_2_0_01_1_n_n none (mulf b (convolved x k)) w)

/-- The whole reference. -/
def whole (g : FVec Ideal S1024 .f32) (u : FVec Ideal S1024x4096 .f32) (d : FVec Ideal S4096x1024 .f32) : FVec Ideal S32768x1024 .f32 :=
  OutReferenceIdeal.Mlp.result d (hidden x b h k w)
    (OutReferenceIdeal.Mlp.rectified u (OutReferenceIdeal.Mlp.normalised g (hidden x b h k w)))

theorem framed_at (a : Fin 4) (n : Fin 8194) (j : Fin 1024) :
    framed x (ix3 a n j) = Conv.near (fun n => x (ix3 a n j)) n.val := by
  unfold framed Conv.near
  split
  · next h =>
    refine (pad_apply_of_inside _ _ _ _ _ _ _ (ix3 a n j) (ix3 a ⟨n.val - 1, by omega⟩ j) ?_).trans rfl
    intro a
    fin_cases a <;> simp [ix3] <;> omega
  · next h =>
    refine (pad_apply_of_not_inside _ _ _ _ _ _ _ (ix3 a n j) 1 ?_).trans ?_
    · intro h'
      apply h
      simp [ix3] at h'
      omega
    · show ((0#32 : BitVec 32).toInt : ℝ) = (0 : EReal)
      simp

theorem convolved_at (a : Fin 4) (n : Fin 8192) (j : Fin 1024) :
    convolved x k (ix3 a n j) = Conv.taps (fun n => x (ix3 a n j)) (fun i => k (ix2 i j)) n.val := by
  pointwise [convolved]
  simp only [framed_at]
  unfold Conv.taps
  simp only [Nat.add_comm]
  try rfl

theorem hidden_at (a : Fin 4) (n : Fin 8192) (j : Fin 1024) :
    hidden x b h k w (ix3 a n j) = h (ix3 a n j)
      + ∑ l : Fin 1024, b (ix3 a n l) * Conv.taps (fun n => x (ix3 a n l)) (fun i => k (ix2 i l)) n.val * w (ix2 l j) := by
  pointwise [hidden]
  simp only [convolved_at]

end Cert.ConvReferenceIdeal.Mix

end
-- ==== Proof.ConvValue.lean ====
/-  The result array of the convolution mixer's output call: the reference's. -/
module

public import proofs.«01_k».proof.Proof.ConvBlock
public import proofs.«01_k».proof.Proof.ConvReference
public import Idealize.ShloMosaic.Lib.Claim

@[expose] public section

set_option maxRecDepth 65536

noncomputable section

namespace Cert.ConvKernelIdeal.Mix

open Cert.ConvKernelIdeal Cert.ConvKernelIdeal.Gen
open Idealize.ShloMosaic Idealize.ShloMosaic.TcCoe Idealize.SL.Sem
open Idealize.ShloMosaic.Pipeline (Dat)

variable (m : (ℓ : Loc nD τ sig) → Buf (Elt Ideal) ℓ)

/-- The arguments. -/
abbrev argX (c : Dev nD) : FVec Ideal S4x8192x1024 .f32 := m ((c : Thread nD τ).loc main_arg0)
abbrev argB (c : Dev nD) : FVec Ideal S4x8192x1024 .f32 := m ((c : Thread nD τ).loc main_arg1)
abbrev argK (c : Dev nD) : FVec Ideal S3x1024 .f32 := m ((c : Thread nD τ).loc main_arg2)
abbrev argW (c : Dev nD) : FVec Ideal S1024x1024 .f32 := m ((c : Thread nD τ).loc main_arg3)
abbrev argH (c : Dev nD) : FVec Ideal S4x8192x1024 .f32 := m ((c : Thread nD τ).loc main_arg4)
abbrev argG (c : Dev nD) : FVec Ideal S1024 .f32 := m ((c : Thread nD τ).loc main_arg5)
abbrev argU (c : Dev nD) : FVec Ideal S1024x4096 .f32 := m ((c : Thread nD τ).loc main_arg6)
abbrev argD (c : Dev nD) : FVec Ideal S4096x1024 .f32 := m ((c : Thread nD τ).loc main_arg7)

/-- The call's operands. -/
abbrev arrX (c : Dev nD) : FVec Ideal S32768x1024 .bf16 := V m c main_v1
abbrev arrB (c : Dev nD) : FVec Ideal S32768x1024 .bf16 := V m c main_v3
abbrev arrK (c : Dev nD) : FVec Ideal S3x1024 .f32 := V m c main_arg2
abbrev arrW (c : Dev nD) : FVec Ideal S1024x1024 .bf16 := V m c main_v5
abbrev arrH (c : Dev nD) : FVec Ideal S32768x1024 .f32 := V m c main_v4
abbrev arrG (c : Dev nD) : FVec Ideal S1x1024 .f32 := V m c main_v6
abbrev arrU (c : Dev nD) : FVec Ideal S1024x4096 .bf16 := V m c main_v7
abbrev arrD (c : Dev nD) : FVec Ideal S4096x1024 .bf16 := V m c main_v8

theorem x_at (c : Dev nD) (t : Fin 32768) (j : Fin 1024) :
    arrX m c (ix2 t j) = argX m c (ix3 ⟨t.val / 8192, by omega⟩ ⟨t.val % 8192, by omega⟩ j) := by
  unfold arrX; entry_read; pointwise

theorem b_at (c : Dev nD) (t : Fin 32768) (j : Fin 1024) :
    arrB m c (ix2 t j) = argB m c (ix3 ⟨t.val / 8192, by omega⟩ ⟨t.val % 8192, by omega⟩ j) := by
  unfold arrB; entry_read; pointwise

theorem k_at (c : Dev nD) (i : Fin 3) (j : Fin 1024) : arrK m c (ix2 i j) = argK m c (ix2 i j) :=
  congrFun (V_main_arg2 m c) _

theorem w_at (c : Dev nD) (l j : Fin 1024) : arrW m c (ix2 l j) = argW m c (ix2 l j) := by
  unfold arrW; entry_read; pointwise

theorem h_at (c : Dev nD) (t : Fin 32768) (j : Fin 1024) :
    arrH m c (ix2 t j) = argH m c (ix3 ⟨t.val / 8192, by omega⟩ ⟨t.val % 8192, by omega⟩ j) := by
  unfold arrH; entry_read; pointwise

theorem g_at (c : Dev nD) (j : Fin 1024) : arrG m c (ix2 0 j) = argG m c (ix1 j) := by
  unfold arrG; entry_read; pointwise

theorem u_at (c : Dev nD) (l : Fin 1024) (k : Fin 4096) : arrU m c (ix2 l k) = argU m c (ix2 l k) := by
  unfold arrU; entry_read; pointwise

theorem d_at (c : Dev nD) (k : Fin 4096) (j : Fin 1024) : arrD m c (ix2 k j) = argD m c (ix2 k j) := by
  unfold arrD; entry_read; pointwise

theorem idx : ∀ t : Fin cfg0.N, win0_0.index t = ![min t.val 63, 0] ∧ win0_1.index t = ![min t.val 63 * 32 - 1, 0]
    ∧ win0_2.index t = ![min ((min t.val 63 + 1) * 32) 2047, 0] ∧ win0_3.index t = ![min t.val 63, 0] ∧ win0_4.index t = ![0, 0]
    ∧ win0_5.index t = ![0, 0] ∧ win0_6.index t = ![min t.val 63, 0]
    ∧ win0_7.index t = ![0, 0] ∧ win0_8.index t = ![0, 0] ∧ win0_9.index t = ![0, 0] ∧ win0_10.index t = ![t.val - 1, 0] :=
  (by decide +kernel : ∀ t : Fin grid0.N, _)

theorem coord : ∀ t : Fin cfg0.N, (grid0.coords t 0).val = t.val := (by decide +kernel : ∀ t : Fin grid0.N, _)

theorem blkX_at (c : Dev nD) (n : Fin 64) (h : n.val < cfg0.N) (r : Fin 512) (j : Fin 1024) :
    iblk m c 0 ⟨n.val, h⟩ (ix2 r j) = arrX m c (ix2 ⟨n.val * 512 + r.val, by omega⟩ j) := by
  have e := (idx ⟨n.val, h⟩).1
  rw [show min n.val 63 = n.val by omega] at e
  unfold iblk; blk_ext [e]

theorem blkP_at (c : Dev nD) (n : Fin 64) (h : n.val < cfg0.N) (r : Fin 16) (j : Fin 1024) :
    iblk m c 1 ⟨n.val, h⟩ (ix2 r j) = arrX m c (ix2 ⟨(n.val * 32 - 1) * 16 + r.val, by omega⟩ j) := by
  have e := (idx ⟨n.val, h⟩).2.1
  rw [show min n.val 63 = n.val by omega] at e
  unfold iblk; blk_ext [e]

theorem blkQ_at (c : Dev nD) (n : Fin 64) (h : n.val < cfg0.N) (r : Fin 16) (j : Fin 1024) :
    iblk m c 2 ⟨n.val, h⟩ (ix2 r j) = arrX m c (ix2 ⟨min ((n.val + 1) * 32) 2047 * 16 + r.val, by omega⟩ j) := by
  have e := (idx ⟨n.val, h⟩).2.2.1
  rw [show min n.val 63 = n.val by omega] at e
  unfold iblk; blk_ext [e]

theorem blkB_at (c : Dev nD) (n : Fin 64) (h : n.val < cfg0.N) (r : Fin 512) (j : Fin 1024) :
    iblk m c 3 ⟨n.val, h⟩ (ix2 r j) = arrB m c (ix2 ⟨n.val * 512 + r.val, by omega⟩ j) := by
  have e := (idx ⟨n.val, h⟩).2.2.2.1
  rw [show min n.val 63 = n.val by omega] at e
  unfold iblk; blk_ext [e]

theorem blkK_at (c : Dev nD) (t : Fin cfg0.N) (i : Fin 3) (j : Fin 1024) : iblk m c 4 t (ix2 i j) = arrK m c (ix2 i j) := by
  have e := (idx t).2.2.2.2.1
  unfold iblk; blk_ext [e]

theorem blkW_at (c : Dev nD) (t : Fin cfg0.N) (l j : Fin 1024) : iblk m c 5 t (ix2 l j) = arrW m c (ix2 l j) := by
  have e := (idx t).2.2.2.2.2.1
  unfold iblk; blk_ext [e]

theorem blkH_at (c : Dev nD) (n : Fin 64) (h : n.val < cfg0.N) (r : Fin 512) (j : Fin 1024) :
    iblk m c 6 ⟨n.val, h⟩ (ix2 r j) = arrH m c (ix2 ⟨n.val * 512 + r.val, by omega⟩ j) := by
  have e := (idx ⟨n.val, h⟩).2.2.2.2.2.2.1
  rw [show min n.val 63 = n.val by omega] at e
  unfold iblk; blk_ext [e]

theorem blkG_at (c : Dev nD) (t : Fin cfg0.N) (j : Fin 1024) : iblk m c 7 t (ix2 0 j) = arrG m c (ix2 0 j) := by
  have e := (idx t).2.2.2.2.2.2.2.1
  unfold iblk; blk_ext [e]

theorem blkU_at (c : Dev nD) (t : Fin cfg0.N) (l : Fin 1024) (k : Fin 4096) : iblk m c 8 t (ix2 l k) = arrU m c (ix2 l k) := by
  have e := (idx t).2.2.2.2.2.2.2.2.1
  unfold iblk; blk_ext [e]

theorem blkD_at (c : Dev nD) (t : Fin cfg0.N) (k : Fin 4096) (j : Fin 1024) : iblk m c 9 t (ix2 k j) = arrD m c (ix2 k j) := by
  have e := (idx t).2.2.2.2.2.2.2.2.2.1
  unfold iblk; blk_ext [e]

/-- The reference's result. -/
abbrev goal (c : Dev nD) : FVec Ideal S32768x1024 .f32 :=
  Cert.ConvReferenceIdeal.Mix.whole (argX m c) (argB m c) (argH m c) (argK m c) (argW m c) (argG m c) (argU m c) (argD m c)

/-- The padded tile's rows are the sequence's, with zeros beyond its ends. -/
theorem line_at (c : Dev nD) (n : Fin 64) (h : n.val < cfg0.N) (q : Nat) (h0 : 15 ≤ q) (h1 : q ≤ 528) (l : Fin 1024) :
    line ⟨n.val, by omega⟩ (iblk m c 0 ⟨n.val, h⟩) (iblk m c 1 ⟨n.val, h⟩) (iblk m c 2 ⟨n.val, h⟩) q l
      = Conv.near (fun t => argX m c (ix3 ⟨n.val / 16, by omega⟩ t l)) (n.val % 16 * 512 + q - 15) := by
  have hn : min n.val 63 = n.val := by omega
  unfold line Conv.near
  simp only [hn]
  by_cases a : q < 16
  · rw [dif_pos a]
    by_cases f : n.val % 16 = 0
    · rw [if_pos f, dif_neg (by omega)]
    · rw [if_neg f, dif_pos (by omega), blkP_at, x_at]
      refine congrArg₂ (fun b t => argX m c (ix3 b t l)) (Fin.ext ?_) (Fin.ext ?_) <;> simp only <;> omega
  · rw [dif_neg a]
    by_cases b : q < 528
    · rw [dif_pos b, dif_pos (by omega), blkX_at, x_at]
      refine congrArg₂ (fun b t => argX m c (ix3 b t l)) (Fin.ext ?_) (Fin.ext ?_) <;> simp only <;> omega
    · rw [dif_neg b, dif_pos (by omega)]
      by_cases f : n.val % 16 = 15
      · rw [if_pos f, dif_neg (by omega)]
      · rw [if_neg f, dif_pos (by omega), blkQ_at, x_at]
        refine congrArg₂ (fun b t => argX m c (ix3 b t l)) (Fin.ext ?_) (Fin.ext ?_) <;> simp only <;> omega

/-- A point's hidden tile is the reference's hidden state. -/
theorem hid_at (c : Dev nD) (n : Fin 64) (h : n.val < cfg0.N) (r : Fin 512) (j : Fin 1024) :
    hid m c n.val h (ix2 r j) = Cert.ConvReferenceIdeal.Mix.hidden (argX m c) (argB m c) (argH m c) (argK m c) (argW m c)
      (ix3 ⟨(n.val * 512 + r.val) / 8192, by omega⟩ ⟨(n.val * 512 + r.val) % 8192, by omega⟩ j) := by
  rw [Cert.ConvReferenceIdeal.Mix.hidden_at]
  unfold hid
  rw [coord]
  refine (hidTile_at ⟨n.val, by omega⟩ ..).trans ?_
  rw [blkH_at, h_at]
  refine congrArg₂ _ rfl (Finset.sum_congr rfl fun l _ => ?_)
  rw [blkB_at, b_at, blkW_at, w_at, blkK_at, k_at, blkK_at, k_at, blkK_at, k_at]
  rw [line_at m c n h (15 + r.val) (by omega) (by omega), line_at m c n h (16 + r.val) (by omega) (by omega),
    line_at m c n h (17 + r.val) (by omega) (by omega)]
  unfold Conv.taps
  have e : (⟨(n.val * 512 + r.val) / 8192, by omega⟩ : Fin 4) = ⟨n.val / 16, by omega⟩ := Fin.ext (by simp only; omega)
  have e0 : n.val % 16 * 512 + (15 + r.val) - 15 = (n.val * 512 + r.val) % 8192 := by omega
  have e1 : n.val % 16 * 512 + (16 + r.val) - 15 = (n.val * 512 + r.val) % 8192 + 1 := by omega
  have e2 : n.val % 16 * 512 + (17 + r.val) - 15 = (n.val * 512 + r.val) % 8192 + 2 := by omega
  rw [e0, e1, e2, ← e]

theorem point_at (c : Dev nD) (n : Fin 64) (h : n.val + 1 < cfg0.N) (r : Fin 512) (j : Fin 1024) :
    (outsAt0 m c (n.val + 1) h).1 (ix2 r j) = goal m c (ix2 ⟨n.val * 512 + r.val, by omega⟩ j) := by
  rw [out_at, ffTile_at]
  refine Eq.trans ?_ (Cert.OutReferenceIdeal.Mlp.layer_at ..).symm
  exact Feed.layer_congr (fun l => hid_at m c n (Nat.lt_of_succ_lt h) r l) (fun l => (blkG_at ..).trans (g_at ..))
    (fun l k => (blkU_at ..).trans (u_at ..)) (fun k j => (blkD_at ..).trans (d_at ..)) j

theorem final (c : Dev nD) : (dats m 0 c).arrAt 10 cfg0.N = goal m c := by
  have hN : cfg0.N = 65 := N_0
  refine (dats m 0 c).arrAt_eq_of_covers 10 _ (by decide +kernel) fun t hf y => ?_
  have e := (idx t).2.2.2.2.2.2.2.2.2.2
  have ht : t.val ≠ 0 := (by decide +kernel : ∀ t : Fin grid0.N, win0_10.flush t = true → t.val ≠ 0) t hf
  obtain ⟨n, hn⟩ := t
  obtain _ | n := n
  · exact absurd rfl ht
  blk_simp
  rw [after0_10]
  idx_vars y
  refine (point_at m c ⟨n, Nat.lt_of_succ_lt_succ (hn.trans_eq hN)⟩ hn y0 y1).trans ?_
  refine congrArg (goal m c) ?_
  blk_ext [e]

end Cert.ConvKernelIdeal.Mix

end
-- ==== Proof.GateValue.lean ====
/-  The convolution mixer's input projections: the gate and the gated input the call leaves are the reference's. -/
module

public import proofs.«01_k».proof.Proof.Gen.GateKernelIdeal.Frame
public import proofs.«01_k».proof.Proof.Gen.GateReferenceIdeal
public import proofs.«01_k».proof.Proof.Feed
public import Idealize.ShloMosaic.Lib.Pointwise
public import Idealize.ShloMosaic.Lib.Claim

@[expose] public section

set_option maxRecDepth 65536

noncomputable section

namespace Cert.GateReferenceIdeal.Mix

open Cert.GateReferenceIdeal Cert.GateReferenceIdeal.Gen
open Idealize.ShloMosaic Idealize.ShloMosaic.TcCoe Idealize.SL.Sem

variable (x : FVec Ideal S4x8192x1024 .f32) (g : FVec Ideal S1024 .f32) (w : FVec Ideal S1024x3072 .f32)

/-- The normalised hidden state. -/
def normalised : FVec Ideal S4x8192x1024 .f32 :=
  mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf x x) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The three projections, side by side. -/
def projected : FVec Ideal S4x8192x3072 .f32 :=
  Host.dotGeneral dot_S4x8192x1024_S1024x3072_S4x8192x3072_2_0_01_1_n_n none (normalised x g) w

/-- The output gate. -/
def gate : FVec Ideal S32768x1024 .bf16 :=
  shapeCast S32768x1024 (truncf .bf16 (extractStridedSlice S4x8192x1024 ![0, 0, 0] (projected x g w) slices_S4x8192x3072_S4x8192x1024_0_0_0)
    bitsLt_bf16_f32) shapeCasts_S4x8192x1024_S32768x1024

/-- The gated input. -/
def gated : FVec Ideal S32768x1024 .bf16 :=
  shapeCast S32768x1024 (truncf .bf16 (mulf
      (extractStridedSlice S4x8192x1024 ![0, 0, 1024] (projected x g w) slices_S4x8192x3072_S4x8192x1024_0_0_1024)
      (extractStridedSlice S4x8192x1024 ![0, 0, 2048] (projected x g w) slices_S4x8192x3072_S4x8192x1024_0_0_2048))
    bitsLt_bf16_f32) shapeCasts_S4x8192x1024_S32768x1024

theorem normalised_at (b : Fin 4) (n : Fin 8192) (j : Fin 1024) :
    normalised x g (ix3 b n j) = Feed.normed (fun l => x (ix3 b n l)) (fun l => g (ix1 l)) j := by
  pointwise [normalised]
  rfl

theorem projected_at (b : Fin 4) (n : Fin 8192) (j : Fin 3072) :
    projected x g w (ix3 b n j) = ∑ l : Fin 1024, Feed.normed (fun l => x (ix3 b n l)) (fun l => g (ix1 l)) l * w (ix2 l j) := by
  pointwise [projected]
  simp only [normalised_at]

theorem gate_at (t : Fin 32768) (j : Fin 1024) :
    gate x g w (ix2 t j) = ∑ l : Fin 1024, Feed.normed (fun l => x (ix3 ⟨t.val / 8192, by omega⟩ ⟨t.val % 8192, by omega⟩ l)) (fun l => g (ix1 l)) l
      * w (ix2 l ⟨j.val, by omega⟩) := by
  pointwise [gate]
  refine (projected_at ..).trans ?_
  rfl

theorem gated_at (t : Fin 32768) (j : Fin 1024) :
    gated x g w (ix2 t j)
      = (∑ l : Fin 1024, Feed.normed (fun l => x (ix3 ⟨t.val / 8192, by omega⟩ ⟨t.val % 8192, by omega⟩ l)) (fun l => g (ix1 l)) l
          * w (ix2 l ⟨1024 + j.val, by omega⟩))
        * ∑ l : Fin 1024, Feed.normed (fun l => x (ix3 ⟨t.val / 8192, by omega⟩ ⟨t.val % 8192, by omega⟩ l)) (fun l => g (ix1 l)) l
          * w (ix2 l ⟨2048 + j.val, by omega⟩) := by
  pointwise [gated]
  simp only [projected_at]
  try rfl

end Cert.GateReferenceIdeal.Mix

namespace Cert.GateKernelIdeal.Mix

open Cert.GateKernelIdeal Cert.GateKernelIdeal.Gen
open Idealize.ShloMosaic Idealize.ShloMosaic.TcCoe Idealize.SL.Sem
open Idealize.ShloMosaic.Pipeline (Dat)

theorem origin₂ : (![0, 0] : Fin 2 → Nat) = fun _ => 0 := funext fun a => by fin_cases a <;> rfl

section
variable (x : Vec Ideal S512x1024 .f32) (g : Vec Ideal S1x1024 .f32) (w : Vec Ideal S1024x3072 .bf16)

theorem normTile_at (r : Fin 512) (j : Fin 1024) :
    k0_pay1 x g (ix2 r j) = Feed.normed (fun l => x (ix2 r l)) (fun l => g (ix2 0 l)) j := by
  pointwise [k0_pay1]
  rfl

theorem gate_at (r : Fin 512) (j : Fin 1024) :
    out0_3 x g w (ix2 r j) = ∑ l : Fin 1024, Feed.normed (fun l => x (ix2 r l)) (fun l => g (ix2 0 l)) l * w (ix2 l ⟨j.val, by omega⟩) := by
  unfold out0_3
  rw [View.canon_unit_zero origin₂]
  pointwise [k0_pay2]
  simp only [View.ld_unit_zero (S := S512x1024) origin₂, View.ld_unit_zero (S := S1x1024) origin₂, normTile_at]
  try rfl

theorem gated_at (r : Fin 512) (j : Fin 1024) :
    out0_4 x g w (ix2 r j)
      = (∑ l : Fin 1024, Feed.normed (fun l => x (ix2 r l)) (fun l => g (ix2 0 l)) l * w (ix2 l ⟨1024 + j.val, by omega⟩))
        * ∑ l : Fin 1024, Feed.normed (fun l => x (ix2 r l)) (fun l => g (ix2 0 l)) l * w (ix2 l ⟨2048 + j.val, by omega⟩) := by
  unfold out0_4
  rw [View.canon_unit_zero origin₂]
  pointwise [k0_pay3]
  simp only [View.ld_unit_zero (S := S512x1024) origin₂, View.ld_unit_zero (S := S1x1024) origin₂, normTile_at]
  try rfl

end

variable (m : (ℓ : Loc nD τ sig) → Buf (Elt Ideal) ℓ)

/-- The arguments. -/
abbrev argX (c : Dev nD) : FVec Ideal S4x8192x1024 .f32 := m ((c : Thread nD τ).loc main_arg0)
abbrev argG (c : Dev nD) : FVec Ideal S1024 .f32 := m ((c : Thread nD τ).loc main_arg1)
abbrev argW (c : Dev nD) : FVec Ideal S1024x3072 .f32 := m ((c : Thread nD τ).loc main_arg2)

/-- The call's operands. -/
abbrev arrX (c : Dev nD) : FVec Ideal S32768x1024 .f32 := V m c main_v0
abbrev arrG (c : Dev nD) : FVec Ideal S1x1024 .f32 := V m c main_v1
abbrev arrW (c : Dev nD) : FVec Ideal S1024x3072 .bf16 := V m c main_v2

theorem x_at (c : Dev nD) (t : Fin 32768) (j : Fin 1024) :
    arrX m c (ix2 t j) = argX m c (ix3 ⟨t.val / 8192, by omega⟩ ⟨t.val % 8192, by omega⟩ j) := by
  unfold arrX; entry_read; pointwise

theorem g_at (c : Dev nD) (j : Fin 1024) : arrG m c (ix2 0 j) = argG m c (ix1 j) := by
  unfold arrG; entry_read; pointwise

theorem w_at (c : Dev nD) (l : Fin 1024) (k : Fin 3072) : arrW m c (ix2 l k) = argW m c (ix2 l k) := by
  unfold arrW; entry_read; pointwise

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem blkX_at (c : Dev nD) (n : Fin 64) (h : n.val < cfg0.N) (r : Fin 512) (j : Fin 1024) :
    iblk m c 0 ⟨n.val, h⟩ (ix2 r j) = arrX m c (ix2 ⟨n.val * 512 + r.val, by omega⟩ j) := by
  have e := (idx ⟨n.val, h⟩).1
  unfold iblk; blk_ext [e]

theorem blkG_at (c : Dev nD) (t : Fin cfg0.N) (j : Fin 1024) : iblk m c 1 t (ix2 0 j) = arrG m c (ix2 0 j) := by
  have e := (idx t).2.1
  unfold iblk; blk_ext [e]

theorem blkW_at (c : Dev nD) (t : Fin cfg0.N) (l : Fin 1024) (k : Fin 3072) : iblk m c 2 t (ix2 l k) = arrW m c (ix2 l k) := by
  have e := (idx t).2.2.1
  unfold iblk; blk_ext [e]

/-- The reference's results. -/
abbrev goalGate (c : Dev nD) : FVec Ideal S32768x1024 .bf16 := Cert.GateReferenceIdeal.Mix.gate (argX m c) (argG m c) (argW m c)
abbrev goalGated (c : Dev nD) : FVec Ideal S32768x1024 .bf16 := Cert.GateReferenceIdeal.Mix.gated (argX m c) (argG m c) (argW m c)

/-- The features of row `r` of point `n`, and the weights, as the reference reads them. -/
theorem row (c : Dev nD) (n : Fin 64) (h : n.val < cfg0.N) (r : Fin 512) (p : Fin 1024 → Fin 3072) (j : Fin 1024) :
    (∑ l : Fin 1024, Feed.normed (fun l => iblk m c 0 ⟨n.val, h⟩ (ix2 r l)) (fun l => iblk m c 1 ⟨n.val, h⟩ (ix2 0 l)) l * iblk m c 2 ⟨n.val, h⟩ (ix2 l (p j)))
      = ∑ l : Fin 1024, Feed.normed (fun l => argX m c (ix3 ⟨(n.val * 512 + r.val) / 8192, by omega⟩ ⟨(n.val * 512 + r.val) % 8192, by omega⟩ l))
          (fun l => argG m c (ix1 l)) l * argW m c (ix2 l (p j)) := by
  refine Finset.sum_congr rfl fun l _ => congrArg₂ _ ?_ ((blkW_at ..).trans (w_at ..))
  refine congrArg₂ (fun a b => Feed.normed a b l) (funext fun l => ?_) (funext fun l => ?_)
  · exact (blkX_at ..).trans (x_at ..)
  · exact (blkG_at ..).trans (g_at ..)

theorem final_gate (c : Dev nD) : (dats m 0 c).arrAt 3 cfg0.N = goalGate m c := by
  have hN : cfg0.N = 64 := N_0
  refine (dats m 0 c).arrAt_eq_of_covers 3 _ (by decide +kernel) fun t hf y => ?_
  have e := (idx t).2.2.2.1
  have ht : t.val < 64 := t.isLt.trans_eq hN
  blk_simp
  rw [after0_3]
  idx_vars y
  refine (gate_at ..).trans ?_
  refine (row m c ⟨t.val, t.isLt.trans_eq hN⟩ t.isLt y0 (fun j => ⟨j.val, by omega⟩) y1).trans ?_
  refine Eq.trans (Cert.GateReferenceIdeal.Mix.gate_at (argX m c) (argG m c) (argW m c) ⟨t.val * 512 + y0.val, by omega⟩ y1).symm ?_
  refine congrArg (goalGate m c) ?_
  blk_ext [e]

theorem final_gated (c : Dev nD) : (dats m 0 c).arrAt 4 cfg0.N = goalGated m c := by
  have hN : cfg0.N = 64 := N_0
  refine (dats m 0 c).arrAt_eq_of_covers 4 _ (by decide +kernel) fun t hf y => ?_
  have e := (idx t).2.2.2.2
  have ht : t.val < 64 := t.isLt.trans_eq hN
  blk_simp
  rw [after0_4]
  idx_vars y
  refine (gated_at ..).trans ?_
  refine (congrArg₂ _ (row m c ⟨t.val, t.isLt.trans_eq hN⟩ t.isLt y0 (fun j => ⟨1024 + j.val, by omega⟩) y1)
    (row m c ⟨t.val, t.isLt.trans_eq hN⟩ t.isLt y0 (fun j => ⟨2048 + j.val, by omega⟩) y1)).trans ?_
  refine Eq.trans (Cert.GateReferenceIdeal.Mix.gated_at (argX m c) (argG m c) (argW m c) ⟨t.val * 512 + y0.val, by omega⟩ y1).symm ?_
  refine congrArg (goalGated m c) ?_
  blk_ext [e]

end Cert.GateKernelIdeal.Mix

end
-- ==== Proof.Heads.lean ====
/-  The heads of one token, over the extended reals: the norm of a head's features and the rotation of the first of them. -/
module

public import proofs.«01_k».proof.Proof.Feed

@[expose] public section

noncomputable section

namespace Cert.Heads

open Idealize.ShloMosaic

/-- A head's features, normalised over the head. -/
def normed (t gain : Fin 64 → EReal) (f : Fin 64) : EReal :=
  t f * Ideal.rsqrt (Ideal.div (∑ l, t l * t l) (Ideal.ofBits FTy.f32 0x42800000#32) + Ideal.ofBits FTy.f32 0x358637BD#32) * gain f

/-- The first sixteen features turned, in pairs eight apart. -/
def turned (t : Fin 64 → EReal) (c s : Fin 8 → EReal) (f : Fin 64) : EReal :=
  if h : f.val < 8 then t f * c ⟨f.val, h⟩ - t ⟨f.val + 8, by omega⟩ * s ⟨f.val, h⟩
  else if h' : f.val < 16 then t f * c ⟨f.val - 8, by omega⟩ + t ⟨f.val - 8, by omega⟩ * s ⟨f.val - 8, by omega⟩
  else t f

/-- The projected features of a normalised token `y`, head by head normalised and turned. -/
def head (y : Fin 1024 → EReal) (w : Fin 1024 → Fin 1024 → EReal) (gain : Fin 64 → EReal) (c s : Fin 8 → EReal) (j : Fin 1024) : EReal :=
  turned (normed (fun f => ∑ l, y l * w l ⟨j.val / 64 * 64 + f.val, by omega⟩) gain) c s ⟨j.val % 64, by omega⟩

/-- The projected features with a row of ones, and fifteen of zeros, after every hundred and twenty-eight. -/
def withOnes (v : Fin 1024 → EReal) (p : Fin 1152) : EReal :=
  if h : p.val % 144 < 128 then v ⟨p.val / 144 * 128 + p.val % 144, by omega⟩ else if p.val % 144 = 128 then 1 else 0

end Cert.Heads

end
-- ==== Proof.ProjTile.lean ====
/-  The tiles of the windowed mixer's projections, entry by entry: normalised rows, projected features, heads and pairs of heads. -/
module

public import proofs.«01_k».proof.Proof.Gen.ProjKernelIdeal.Frame
public import proofs.«01_k».proof.Proof.Heads
public import Idealize.ShloMosaic.Lib.Pointwise

@[expose] public section

set_option maxRecDepth 65536

noncomputable section

namespace Cert.ProjKernelIdeal.Mix

open Cert.ProjKernelIdeal Cert.ProjKernelIdeal.Gen
open Idealize.ShloMosaic Idealize.ShloMosaic.TcCoe Idealize.SL.Sem

/-- Eight slabs of features, side by side. -/
def cat (v0 v1 v2 v3 v4 v5 v6 v7 : FVec Ideal S256x128 .f32) : FVec Ideal S256x1024 .f32 :=
  concatenate S256x1024 1 [⟨S256x128, v0⟩, ⟨S256x128, v1⟩, ⟨S256x128, v2⟩, ⟨S256x128, v3⟩, ⟨S256x128, v4⟩, ⟨S256x128, v5⟩, ⟨S256x128, v6⟩, ⟨S256x128, v7⟩]
    concatenates_S256x128_S256x128_S256x128_S256x128_S256x128_S256x128_S256x128_S256x128_S256x1024_d1

/-- The rows, normalised. -/
def nrm (a : FVec Ideal S256x1024 .f32) (g : Vec Ideal S1x1024 .f32) : FVec Ideal S256x1024 .bf16 :=
  truncf .bf16 (mulf (mulf a (broadcastTo S256x1024 (rsqrt (addf (divf (shapeCast S256x1
        (multiReduction .add [1] S256 (mulf a a) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 (shapeCast S1x1024 g shapeCasts_S1x1024_S1x1024) broadcasts_S1x1024_S256x1024)) bitsLt_bf16_f32

/-- Projected features, features first. -/
def dot (y : FVec Ideal S256x1024 .bf16) (w : Vec Ideal S1024x1024 .bf16) : FVec Ideal S1024x256 .f32 :=
  matmul dot_S1024x1024_S256x1024_S1024x256_1_1_0_0_n_n none (shapeCast S1024x1024 w shapeCasts_S1024x1024_S1024x1024 : FVec Ideal S1024x1024 .bf16) y (constant S1024x256 .f32 0x00000000#32)

/-- Heads, normalised. -/
def hnorm (t : FVec Ideal S1024x256 .f32) (gain : Vec Ideal S64x256 .f32) : FVec Ideal S16x64x256 .f32 := k0_pay23 t gain

/-- A table of the rotation, over heads. -/
def table (c : FVec Ideal S8x256 .f32) : FVec Ideal S16x8x256 .f32 :=
  broadcastTo S16x8x256 (shapeCast S1x8x256 c shapeCasts_S8x256_S1x8x256) broadcasts_S1x8x256_S16x8x256

def first (a : FVec Ideal S16x64x256 .f32) : FVec Ideal S16x8x256 .f32 := extractStridedSlice S16x8x256 ![0, 0, 0] a slices_S16x64x256_o0_0_0_S16x8x256
def second (a : FVec Ideal S16x64x256 .f32) : FVec Ideal S16x8x256 .f32 := extractStridedSlice S16x8x256 ![0, 8, 0] a slices_S16x64x256_o0_8_0_S16x8x256

/-- Heads, turned. -/
def turn (a : FVec Ideal S16x64x256 .f32) (c s : FVec Ideal S8x256 .f32) : FVec Ideal S16x64x256 .f32 :=
  concatenate S16x64x256 1 [⟨S16x8x256, subf (mulf (first a) (table c)) (mulf (second a) (table s))⟩,
    ⟨S16x8x256, addf (mulf (second a) (table c)) (mulf (first a) (table s))⟩,
    ⟨S16x48x256, extractStridedSlice S16x48x256 ![0, 16, 0] a slices_S16x64x256_o0_16_0_S16x48x256⟩]
    concatenates_S16x8x256_S16x8x256_S16x48x256_S16x64x256_d1

/-- Queries, times the softmax's scale. -/
def qTile (a : FVec Ideal S16x64x256 .f32) : FVec Ideal S1024x256 .bf16 :=
  truncf .bf16 (shapeCast S1024x256 (mulf a (broadcast S16x64x256 (Scalar.ofBits .f32 0x3E38AA3B#32))) shapeCasts_S16x64x256_S1024x256) bitsLt_bf16_f32

/-- Keys, tokens first. -/
def kRows (a : FVec Ideal S16x64x256 .f32) : FVec Ideal S256x1024 .bf16 :=
  truncf .bf16 (transpose S256x1024 [1, 0] (shapeCast S1024x256 a shapeCasts_S16x64x256_S1024x256) transposes_S1024x256_p1_0_S256x1024) bitsLt_bf16_f32

/-- Pairs of heads with their ones. -/
def vPairs (t : FVec Ideal S8x128x256 .bf16) : FVec Ideal S8x144x256 .bf16 :=
  concatenate S8x144x256 1 [⟨S8x128x256, t⟩,
    ⟨S8x16x256, truncf .bf16 (sitofp .f32 (extui 32 (cmpi .eq (iota .tc S8x16x256 32 [1] iota_S8x16x256_d1_w32) (broadcast S8x16x256 0#32)) natLt_1_32)) bitsLt_bf16_f32⟩]
    concatenates_S8x128x256_S8x16x256_S8x144x256_d1

def vTile (t : FVec Ideal S1024x256 .f32) : FVec Ideal S1152x256 .bf16 :=
  shapeCast S1152x256 (vPairs (shapeCast S8x128x256 (truncf .bf16 t bitsLt_bf16_f32 : FVec Ideal S1024x256 .bf16) shapeCasts_S1024x256_S8x128x256)) shapeCasts_S8x144x256_S1152x256

theorem cat_at (v0 v1 v2 v3 v4 v5 v6 v7 : FVec Ideal S256x128 .f32) (r : Fin 256) (l : Fin 1024) :
    cat v0 v1 v2 v3 v4 v5 v6 v7 (ix2 r l) = (![v0, v1, v2, v3, v4, v5, v6, v7] : Fin 8 → FVec Ideal S256x128 .f32) ⟨l.val / 128, by omega⟩ (ix2 r ⟨l.val % 128, by omega⟩) := by
  pointwise [cat]
  have hl : l.val / 128 = 0 ∨ l.val / 128 = 1 ∨ l.val / 128 = 2 ∨ l.val / 128 = 3 ∨ l.val / 128 = 4 ∨ l.val / 128 = 5 ∨ l.val / 128 = 6 ∨ l.val / 128 = 7 := by omega
  rcases hl with h | h | h | h | h | h | h | h
  · rw [show (⟨l.val / 128, by omega⟩ : Fin 8) = 0 from Fin.ext h]
    rw [dif_pos (by omega)]
    exact congrArg (fun i => v0 (ix2 r i)) (Fin.ext (by dsimp only; omega))
  · rw [show (⟨l.val / 128, by omega⟩ : Fin 8) = 1 from Fin.ext h]
    rw [dif_neg (by omega), dif_pos (by omega)]
    exact congrArg (fun i => v1 (ix2 r i)) (Fin.ext (by dsimp only; omega))
  · rw [show (⟨l.val / 128, by omega⟩ : Fin 8) = 2 from Fin.ext h]
    rw [dif_neg (by omega), dif_neg (by omega), dif_pos (by omega)]
    exact congrArg (fun i => v2 (ix2 r i)) (Fin.ext (by dsimp only; omega))
  · rw [show (⟨l.val / 128, by omega⟩ : Fin 8) = 3 from Fin.ext h]
    rw [dif_neg (by omega), dif_neg (by omega), dif_neg (by omega), dif_pos (by omega)]
    exact congrArg (fun i => v3 (ix2 r i)) (Fin.ext (by dsimp only; omega))
  · rw [show (⟨l.val / 128, by omega⟩ : Fin 8) = 4 from Fin.ext h]
    rw [dif_neg (by omega), dif_neg (by omega), dif_neg (by omega), dif_neg (by omega), dif_pos (by omega)]
    exact congrArg (fun i => v4 (ix2 r i)) (Fin.ext (by dsimp only; omega))
  · rw [show (⟨l.val / 128, by omega⟩ : Fin 8) = 5 from Fin.ext h]
    rw [dif_neg (by omega), dif_neg (by omega), dif_neg (by omega), dif_neg (by omega), dif_neg (by omega), dif_pos (by omega)]
    exact congrArg (fun i => v5 (ix2 r i)) (Fin.ext (by dsimp only; omega))
  · rw [show (⟨l.val / 128, by omega⟩ : Fin 8) = 6 from Fin.ext h]
    rw [dif_neg (by omega), dif_neg (by omega), dif_neg (by omega), dif_neg (by omega), dif_neg (by omega), dif_neg (by omega), dif_pos (by omega)]
    exact congrArg (fun i => v6 (ix2 r i)) (Fin.ext (by dsimp only; omega))
  · rw [show (⟨l.val / 128, by omega⟩ : Fin 8) = 7 from Fin.ext h]
    rw [dif_neg (by omega), dif_neg (by omega), dif_neg (by omega), dif_neg (by omega), dif_neg (by omega), dif_neg (by omega), dif_neg (by omega)]
    exact congrArg (fun i => v7 (ix2 r i)) (Fin.ext (by dsimp only; omega))

theorem nrm_at (a : FVec Ideal S256x1024 .f32) (g : Vec Ideal S1x1024 .f32) (r : Fin 256) (j : Fin 1024) :
    nrm a g (ix2 r j) = Feed.normed (fun l => a (ix2 r l)) (fun l => g (ix2 0 l)) j := by
  pointwise [nrm]
  rfl

theorem dot_at (y : FVec Ideal S256x1024 .bf16) (w : Vec Ideal S1024x1024 .bf16) (k : Fin 1024) (n : Fin 256) :
    dot y w (ix2 k n) = ∑ l : Fin 1024, y (ix2 n l) * w (ix2 k l) := by
  pointwise [dot]
  refine Finset.sum_congr rfl fun l _ => ?_
  rw [mul_comm]

theorem hnorm_at (t : FVec Ideal S1024x256 .f32) (gain : Vec Ideal S64x256 .f32) (h : Fin 16) (f : Fin 64) (n : Fin 256) :
    hnorm t gain (ix3 h f n) = Heads.normed (fun f => t (ix2 ⟨h.val * 64 + f.val, by omega⟩ n)) (fun f => gain (ix2 f n)) f := by
  pointwise [hnorm, k0_pay23]
  rfl

theorem turn_at (a : FVec Ideal S16x64x256 .f32) (c s : FVec Ideal S8x256 .f32) (h : Fin 16) (f : Fin 64) (n : Fin 256) :
    turn a c s (ix3 h f n) = Heads.turned (fun f => a (ix3 h f n)) (fun e => c (ix2 e n)) (fun e => s (ix2 e n)) f := by
  pointwise [turn, first, second, table]
  unfold Heads.turned
  by_cases h₁ : f.val < 8
  · rw [dif_pos h₁, dif_pos h₁]
    simp only [Nat.add_comm 8]
  · rw [dif_neg h₁, dif_neg h₁]
    by_cases h₂ : f.val < 16
    · rw [dif_pos (show f.val - 8 < 8 by omega), dif_pos h₂]
      have e : 8 + (f.val - 8) = f.val := by omega
      simp only [e]
    · rw [dif_neg (show ¬f.val - 8 < 8 by omega), dif_neg h₂]
      have e : 16 + (f.val - 8 - 8) = f.val := by omega
      simp only [e]

theorem qTile_at (a : FVec Ideal S16x64x256 .f32) (k : Fin 1024) (n : Fin 256) :
    qTile a (ix2 k n) = a (ix3 ⟨k.val / 64, by omega⟩ ⟨k.val % 64, by omega⟩ n) * Ideal.ofBits FTy.f32 0x3E38AA3B#32 := by
  pointwise [qTile]

theorem kRows_at (a : FVec Ideal S16x64x256 .f32) (n : Fin 256) (k : Fin 1024) :
    kRows a (ix2 n k) = a (ix3 ⟨k.val / 64, by omega⟩ ⟨k.val % 64, by omega⟩ n) := by
  pointwise [kRows]

theorem ones_bits : ∀ i : Fin 16, IntOp.cmpi CmpIPredicate.eq (BitVec.ofNat 32 i.val) 0#32 = if i.val = 0 then 1#1 else 0#1 := by decide +kernel

theorem vPairs_at (t : FVec Ideal S8x128x256 .bf16) (h : Fin 8) (p : Fin 144) (n : Fin 256) :
    vPairs t (ix3 h p n) = if h' : p.val < 128 then t (ix3 h ⟨p.val, h'⟩ n) else if p.val = 128 then 1 else 0 := by
  pointwise [vPairs]
  by_cases h₁ : p.val < 128
  · rw [dif_pos h₁, dif_pos h₁]
  · rw [dif_neg h₁, dif_neg h₁, ones_bits ⟨p.val - 128, by omega⟩]
    by_cases h₂ : p.val = 128
    · rw [if_pos (show p.val - 128 = 0 by omega), if_pos h₂]
      show (((BitVec.setWidth 32 1#1).toInt : ℝ) : EReal) = 1
      rw [show (BitVec.setWidth 32 1#1).toInt = 1 from by decide]
      norm_num
    · rw [if_neg (show ¬p.val - 128 = 0 by omega), if_neg h₂]
      show (((BitVec.setWidth 32 0#1).toInt : ℝ) : EReal) = 0
      rw [show (BitVec.setWidth 32 0#1).toInt = 0 from by decide]
      norm_num

theorem vTile_at (t : FVec Ideal S1024x256 .f32) (p : Fin 1152) (n : Fin 256) :
    vTile t (ix2 p n) = Heads.withOnes (fun i => t (ix2 i n)) p := by
  unfold vTile Heads.withOnes
  pointwise
  refine (vPairs_at ..).trans ?_
  pointwise

end Cert.ProjKernelIdeal.Mix

end
-- ==== Proof.ProjBlock.lean ====
/-  The blocks of the windowed mixer's projections, from the blocks of its operands, entry by entry. -/
module

public import proofs.«01_k».proof.Proof.ProjTile

@[expose] public section

set_option maxRecDepth 65536

noncomputable section

namespace Cert.ProjKernelIdeal.Mix

open Cert.ProjKernelIdeal Cert.ProjKernelIdeal.Gen
open Idealize.ShloMosaic Idealize.ShloMosaic.TcCoe Idealize.SL.Sem

variable (x0 x1 x2 x3 x4 x5 x6 x7 : Vec Ideal S1x1024x128 .f32) (x8 : Vec Ideal S1x1024 .f32) (x9 : Vec Ideal S3072x1024 .bf16) (x10 x11 : Vec Ideal S64x256 .f32) (x12 x13 : Vec Ideal S1x8x1024 .f32)

/-- The features of a token, from its eight slabs. -/
def slab (n l : Fin 1024) : EReal := (![x0, x1, x2, x3, x4, x5, x6, x7] : Fin 8 → Vec Ideal S1x1024x128 .f32) ⟨l.val / 128, by omega⟩ (ix3 0 n ⟨l.val % 128, by omega⟩)

/-- The normalised features of a token. -/
def row (n : Fin 1024) : Fin 1024 → EReal := Feed.normed (fun l => slab x0 x1 x2 x3 x4 x5 x6 x7 n l) (fun l => x8 (ix2 0 l))

/-- The query features of token `n`, the `i`th of residue `r`. -/
def qAt (n : Fin 1024) (r : Fin 1) (i : Fin 1024) (k : Fin 1024) : EReal :=
  Heads.head (row x0 x1 x2 x3 x4 x5 x6 x7 x8 n) (fun l j => x9 (ix2 ⟨j.val, by omega⟩ l)) (fun f => x10 (ix2 f ⟨i.val % 256, by omega⟩))
    (fun e => x12 (ix3 r e i)) (fun e => x13 (ix3 r e i)) k * Ideal.ofBits FTy.f32 0x3E38AA3B#32

/-- The key features of token `n`, the `i`th of residue `r`. -/
def kAt (n : Fin 1024) (r : Fin 1) (i : Fin 1024) (k : Fin 1024) : EReal :=
  Heads.head (row x0 x1 x2 x3 x4 x5 x6 x7 x8 n) (fun l j => x9 (ix2 ⟨1024 + j.val, by omega⟩ l)) (fun f => x11 (ix2 f ⟨i.val % 256, by omega⟩))
    (fun e => x12 (ix3 r e i)) (fun e => x13 (ix3 r e i)) k

/-- The value features of token `n`, with the rows of ones. -/
def vAt (n : Fin 1024) (p : Fin 1152) : EReal :=
  Heads.withOnes (fun j => ∑ l, row x0 x1 x2 x3 x4 x5 x6 x7 x8 n l * x9 (ix2 ⟨2048 + j.val, by omega⟩ l)) p

/-- Half of a tile's tokens. -/
def qLow (q : FVec Ideal S1024x256 .bf16) : FVec Ideal S1x1x1x1024x128 .bf16 :=
  shapeCast S1x1x1x1024x128 (extractStridedSlice S1024x128 ![0, 0] q slices_S1024x256_o0_0_S1024x128) shapeCasts_S1024x128_S1x1x1x1024x128
def qHigh (q : FVec Ideal S1024x256 .bf16) : FVec Ideal S1x1x1x1024x128 .bf16 :=
  shapeCast S1x1x1x1024x128 (extractStridedSlice S1024x128 ![0, 128] q slices_S1024x256_o0_128_S1024x128) shapeCasts_S1024x128_S1x1x1x1024x128
def vLow (v : FVec Ideal S1152x256 .bf16) : FVec Ideal S1x1x1x1152x128 .bf16 :=
  shapeCast S1x1x1x1152x128 (extractStridedSlice S1152x128 ![0, 0] v slices_S1152x256_o0_0_S1152x128) shapeCasts_S1152x128_S1x1x1x1152x128
def vHigh (v : FVec Ideal S1152x256 .bf16) : FVec Ideal S1x1x1x1152x128 .bf16 :=
  shapeCast S1x1x1x1152x128 (extractStridedSlice S1152x128 ![0, 128] v slices_S1152x256_o0_128_S1152x128) shapeCasts_S1152x128_S1x1x1x1152x128
def kBlock (k : FVec Ideal S256x1024 .bf16) : FVec Ideal S1x1x256x1024 .bf16 := shapeCast S1x1x256x1024 k shapeCasts_S256x1024_S1x1x256x1024

theorem qLow_at (q : FVec Ideal S1024x256 .bf16) (a b c : Fin 1) (k : Fin 1024) (l : Fin 128) : qLow q (ix5 a b c k l) = q (ix2 k ⟨l.val, by omega⟩) := by
  pointwise [qLow]
theorem qHigh_at (q : FVec Ideal S1024x256 .bf16) (a b c : Fin 1) (k : Fin 1024) (l : Fin 128) : qHigh q (ix5 a b c k l) = q (ix2 k ⟨128 + l.val, by omega⟩) := by
  pointwise [qHigh]
theorem vLow_at (v : FVec Ideal S1152x256 .bf16) (a b c : Fin 1) (k : Fin 1152) (l : Fin 128) : vLow v (ix5 a b c k l) = v (ix2 k ⟨l.val, by omega⟩) := by
  pointwise [vLow]
theorem vHigh_at (v : FVec Ideal S1152x256 .bf16) (a b c : Fin 1) (k : Fin 1152) (l : Fin 128) : vHigh v (ix5 a b c k l) = v (ix2 k ⟨128 + l.val, by omega⟩) := by
  pointwise [vHigh]
theorem kBlock_at (k : FVec Ideal S256x1024 .bf16) (a b : Fin 1) (n : Fin 256) (j : Fin 1024) : kBlock k (ix4 a b n j) = k (ix2 n j) := by
  pointwise [kBlock]

/-- The weights of the three groups, and the gains. -/
def wQ (x : Vec Ideal S3072x1024 .bf16) : FVec Ideal S1024x1024 .bf16 := View.ld x r0_3
def wK (x : Vec Ideal S3072x1024 .bf16) : FVec Ideal S1024x1024 .bf16 := View.ld x r0_4
def wV (x : Vec Ideal S3072x1024 .bf16) : FVec Ideal S1024x1024 .bf16 := View.ld x r0_5
def gains (x : Vec Ideal S64x256 .f32) : FVec Ideal S64x256 .f32 := View.ld x r0_8
def scales (x : Vec Ideal S1x1024 .f32) : FVec Ideal S1x1024 .f32 := View.ld x r0_1

theorem wQ_at (k l : Fin 1024) : wQ x9 (ix2 k l) = x9 (ix2 ⟨k.val, by omega⟩ l) := by
  pointwise [wQ]
theorem wK_at (k l : Fin 1024) : wK x9 (ix2 k l) = x9 (ix2 ⟨1024 + k.val, by omega⟩ l) := by
  pointwise [wK]
theorem wV_at (k l : Fin 1024) : wV x9 (ix2 k l) = x9 (ix2 ⟨2048 + k.val, by omega⟩ l) := by
  pointwise [wV]
theorem gains_at (x : Vec Ideal S64x256 .f32) (f : Fin 64) (n : Fin 256) : gains x (ix2 f n) = x (ix2 f n) := by
  pointwise [gains]
theorem scales_at (l : Fin 1024) : scales x8 (ix2 0 l) = x8 (ix2 0 l) := by
  pointwise [scales]

/-- The rows of unit 0. -/
def y0 : FVec Ideal S256x1024 .bf16 := nrm (cat (shapeCast S256x128 (View.ld x0 r0_0) shapeCasts_S1x256x128_S256x128) (shapeCast S256x128 (View.ld x1 r0_0) shapeCasts_S1x256x128_S256x128) (shapeCast S256x128 (View.ld x2 r0_0) shapeCasts_S1x256x128_S256x128) (shapeCast S256x128 (View.ld x3 r0_0) shapeCasts_S1x256x128_S256x128) (shapeCast S256x128 (View.ld x4 r0_0) shapeCasts_S1x256x128_S256x128) (shapeCast S256x128 (View.ld x5 r0_0) shapeCasts_S1x256x128_S256x128) (shapeCast S256x128 (View.ld x6 r0_0) shapeCasts_S1x256x128_S256x128) (shapeCast S256x128 (View.ld x7 r0_0) shapeCasts_S1x256x128_S256x128)) (scales x8)
def tab0 (x : Vec Ideal S1x8x1024 .f32) : FVec Ideal S8x256 .f32 := shapeCast S8x256 (View.ld x r0_2) shapeCasts_S1x8x256_S8x256
def q0 : FVec Ideal S1024x256 .bf16 :=
  qTile (turn (hnorm (dot (y0 x0 x1 x2 x3 x4 x5 x6 x7 x8) (wQ x9)) (gains x10)) (tab0 x12) (tab0 x13))
def k0 : FVec Ideal S256x1024 .bf16 :=
  kRows (turn (hnorm (dot (y0 x0 x1 x2 x3 x4 x5 x6 x7 x8) (wK x9)) (gains x11)) (tab0 x12) (tab0 x13))
def v0 : FVec Ideal S1152x256 .bf16 := vTile (dot (y0 x0 x1 x2 x3 x4 x5 x6 x7 x8) (wV x9))

theorem pick0 (n : Fin 256) (k : Fin 8) (l : Fin 128) :
    (![shapeCast S256x128 (View.ld x0 r0_0) shapeCasts_S1x256x128_S256x128, shapeCast S256x128 (View.ld x1 r0_0) shapeCasts_S1x256x128_S256x128, shapeCast S256x128 (View.ld x2 r0_0) shapeCasts_S1x256x128_S256x128, shapeCast S256x128 (View.ld x3 r0_0) shapeCasts_S1x256x128_S256x128, shapeCast S256x128 (View.ld x4 r0_0) shapeCasts_S1x256x128_S256x128, shapeCast S256x128 (View.ld x5 r0_0) shapeCasts_S1x256x128_S256x128, shapeCast S256x128 (View.ld x6 r0_0) shapeCasts_S1x256x128_S256x128, shapeCast S256x128 (View.ld x7 r0_0) shapeCasts_S1x256x128_S256x128] : Fin 8 → FVec Ideal S256x128 .f32) k (ix2 n l)
      = (![x0, x1, x2, x3, x4, x5, x6, x7] : Fin 8 → Vec Ideal S1x1024x128 .f32) k (ix3 0 ⟨0 + n.val, by omega⟩ l) := by
  fin_cases k
  · show shapeCast S256x128 (View.ld x0 r0_0) shapeCasts_S1x256x128_S256x128 (ix2 n l) = x0 (ix3 0 ⟨0 + n.val, by omega⟩ l)
    pointwise
  · show shapeCast S256x128 (View.ld x1 r0_0) shapeCasts_S1x256x128_S256x128 (ix2 n l) = x1 (ix3 0 ⟨0 + n.val, by omega⟩ l)
    pointwise
  · show shapeCast S256x128 (View.ld x2 r0_0) shapeCasts_S1x256x128_S256x128 (ix2 n l) = x2 (ix3 0 ⟨0 + n.val, by omega⟩ l)
    pointwise
  · show shapeCast S256x128 (View.ld x3 r0_0) shapeCasts_S1x256x128_S256x128 (ix2 n l) = x3 (ix3 0 ⟨0 + n.val, by omega⟩ l)
    pointwise
  · show shapeCast S256x128 (View.ld x4 r0_0) shapeCasts_S1x256x128_S256x128 (ix2 n l) = x4 (ix3 0 ⟨0 + n.val, by omega⟩ l)
    pointwise
  · show shapeCast S256x128 (View.ld x5 r0_0) shapeCasts_S1x256x128_S256x128 (ix2 n l) = x5 (ix3 0 ⟨0 + n.val, by omega⟩ l)
    pointwise
  · show shapeCast S256x128 (View.ld x6 r0_0) shapeCasts_S1x256x128_S256x128 (ix2 n l) = x6 (ix3 0 ⟨0 + n.val, by omega⟩ l)
    pointwise
  · show shapeCast S256x128 (View.ld x7 r0_0) shapeCasts_S1x256x128_S256x128 (ix2 n l) = x7 (ix3 0 ⟨0 + n.val, by omega⟩ l)
    pointwise

theorem y0_at (n : Fin 256) (j : Fin 1024) :
    y0 x0 x1 x2 x3 x4 x5 x6 x7 x8 (ix2 n j) = row x0 x1 x2 x3 x4 x5 x6 x7 x8 ⟨0 + n.val, by omega⟩ j := by
  unfold y0 row slab
  rw [nrm_at]
  simp only [cat_at, pick0, scales_at]

theorem tab0_at (x : Vec Ideal S1x8x1024 .f32) (e : Fin 8) (n : Fin 256) : tab0 x (ix2 e n) = x (ix3 0 e ⟨0 + n.val, by omega⟩) := by
  pointwise [tab0]

theorem q0_at (k : Fin 1024) (n : Fin 256) : q0 x0 x1 x2 x3 x4 x5 x6 x7 x8 x9 x10 x12 x13 (ix2 k n) = qAt x0 x1 x2 x3 x4 x5 x6 x7 x8 x9 x10 x12 x13 ⟨0 + n.val, by omega⟩ 0 ⟨0 + n.val, by omega⟩ k := by
  have e : (0 + n.val) % 256 = n.val := by omega
  unfold q0 qAt Heads.head
  rw [qTile_at, turn_at]
  simp only [hnorm_at, dot_at, y0_at, tab0_at, wQ_at, gains_at, e]

theorem k0_at (n : Fin 256) (k : Fin 1024) : k0 x0 x1 x2 x3 x4 x5 x6 x7 x8 x9 x11 x12 x13 (ix2 n k) = kAt x0 x1 x2 x3 x4 x5 x6 x7 x8 x9 x11 x12 x13 ⟨0 + n.val, by omega⟩ 0 ⟨0 + n.val, by omega⟩ k := by
  have e : (0 + n.val) % 256 = n.val := by omega
  unfold k0 kAt Heads.head
  rw [kRows_at, turn_at]
  simp only [hnorm_at, dot_at, y0_at, tab0_at, wK_at, gains_at, e]

theorem v0_at (k : Fin 1152) (n : Fin 256) : v0 x0 x1 x2 x3 x4 x5 x6 x7 x8 x9 (ix2 k n) = vAt x0 x1 x2 x3 x4 x5 x6 x7 x8 x9 ⟨0 + n.val, by omega⟩ k := by
  unfold v0 vAt
  rw [vTile_at]
  simp only [dot_at, y0_at, wV_at]

/-- The rows of unit 1. -/
def y1 : FVec Ideal S256x1024 .bf16 := nrm (cat (shapeCast S256x128 (View.ld x0 r0_6) shapeCasts_S1x256x128_S256x128) (shapeCast S256x128 (View.ld x1 r0_6) shapeCasts_S1x256x128_S256x128) (shapeCast S256x128 (View.ld x2 r0_6) shapeCasts_S1x256x128_S256x128) (shapeCast S256x128 (View.ld x3 r0_6) shapeCasts_S1x256x128_S256x128) (shapeCast S256x128 (View.ld x4 r0_6) shapeCasts_S1x256x128_S256x128) (shapeCast S256x128 (View.ld x5 r0_6) shapeCasts_S1x256x128_S256x128) (shapeCast S256x128 (View.ld x6 r0_6) shapeCasts_S1x256x128_S256x128) (shapeCast S256x128 (View.ld x7 r0_6) shapeCasts_S1x256x128_S256x128)) (scales x8)
def tab1 (x : Vec Ideal S1x8x1024 .f32) : FVec Ideal S8x256 .f32 := shapeCast S8x256 (View.ld x r0_7) shapeCasts_S1x8x256_S8x256
def q1 : FVec Ideal S1024x256 .bf16 :=
  qTile (turn (hnorm (dot (y1 x0 x1 x2 x3 x4 x5 x6 x7 x8) (wQ x9)) (gains x10)) (tab1 x12) (tab1 x13))
def k1 : FVec Ideal S256x1024 .bf16 :=
  kRows (turn (hnorm (dot (y1 x0 x1 x2 x3 x4 x5 x6 x7 x8) (wK x9)) (gains x11)) (tab1 x12) (tab1 x13))
def v1 : FVec Ideal S1152x256 .bf16 := vTile (dot (y1 x0 x1 x2 x3 x4 x5 x6 x7 x8) (wV x9))

theorem pick1 (n : Fin 256) (k : Fin 8) (l : Fin 128) :
    (![shapeCast S256x128 (View.ld x0 r0_6) shapeCasts_S1x256x128_S256x128, shapeCast S256x128 (View.ld x1 r0_6) shapeCasts_S1x256x128_S256x128, shapeCast S256x128 (View.ld x2 r0_6) shapeCasts_S1x256x128_S256x128, shapeCast S256x128 (View.ld x3 r0_6) shapeCasts_S1x256x128_S256x128, shapeCast S256x128 (View.ld x4 r0_6) shapeCasts_S1x256x128_S256x128, shapeCast S256x128 (View.ld x5 r0_6) shapeCasts_S1x256x128_S256x128, shapeCast S256x128 (View.ld x6 r0_6) shapeCasts_S1x256x128_S256x128, shapeCast S256x128 (View.ld x7 r0_6) shapeCasts_S1x256x128_S256x128] : Fin 8 → FVec Ideal S256x128 .f32) k (ix2 n l)
      = (![x0, x1, x2, x3, x4, x5, x6, x7] : Fin 8 → Vec Ideal S1x1024x128 .f32) k (ix3 0 ⟨256 + n.val, by omega⟩ l) := by
  fin_cases k
  · show shapeCast S256x128 (View.ld x0 r0_6) shapeCasts_S1x256x128_S256x128 (ix2 n l) = x0 (ix3 0 ⟨256 + n.val, by omega⟩ l)
    pointwise
  · show shapeCast S256x128 (View.ld x1 r0_6) shapeCasts_S1x256x128_S256x128 (ix2 n l) = x1 (ix3 0 ⟨256 + n.val, by omega⟩ l)
    pointwise
  · show shapeCast S256x128 (View.ld x2 r0_6) shapeCasts_S1x256x128_S256x128 (ix2 n l) = x2 (ix3 0 ⟨256 + n.val, by omega⟩ l)
    pointwise
  · show shapeCast S256x128 (View.ld x3 r0_6) shapeCasts_S1x256x128_S256x128 (ix2 n l) = x3 (ix3 0 ⟨256 + n.val, by omega⟩ l)
    pointwise
  · show shapeCast S256x128 (View.ld x4 r0_6) shapeCasts_S1x256x128_S256x128 (ix2 n l) = x4 (ix3 0 ⟨256 + n.val, by omega⟩ l)
    pointwise
  · show shapeCast S256x128 (View.ld x5 r0_6) shapeCasts_S1x256x128_S256x128 (ix2 n l) = x5 (ix3 0 ⟨256 + n.val, by omega⟩ l)
    pointwise
  · show shapeCast S256x128 (View.ld x6 r0_6) shapeCasts_S1x256x128_S256x128 (ix2 n l) = x6 (ix3 0 ⟨256 + n.val, by omega⟩ l)
    pointwise
  · show shapeCast S256x128 (View.ld x7 r0_6) shapeCasts_S1x256x128_S256x128 (ix2 n l) = x7 (ix3 0 ⟨256 + n.val, by omega⟩ l)
    pointwise

theorem y1_at (n : Fin 256) (j : Fin 1024) :
    y1 x0 x1 x2 x3 x4 x5 x6 x7 x8 (ix2 n j) = row x0 x1 x2 x3 x4 x5 x6 x7 x8 ⟨256 + n.val, by omega⟩ j := by
  unfold y1 row slab
  rw [nrm_at]
  simp only [cat_at, pick1, scales_at]

theorem tab1_at (x : Vec Ideal S1x8x1024 .f32) (e : Fin 8) (n : Fin 256) : tab1 x (ix2 e n) = x (ix3 0 e ⟨256 + n.val, by omega⟩) := by
  pointwise [tab1]

theorem q1_at (k : Fin 1024) (n : Fin 256) : q1 x0 x1 x2 x3 x4 x5 x6 x7 x8 x9 x10 x12 x13 (ix2 k n) = qAt x0 x1 x2 x3 x4 x5 x6 x7 x8 x9 x10 x12 x13 ⟨256 + n.val, by omega⟩ 0 ⟨256 + n.val, by omega⟩ k := by
  have e : (256 + n.val) % 256 = n.val := by omega
  unfold q1 qAt Heads.head
  rw [qTile_at, turn_at]
  simp only [hnorm_at, dot_at, y1_at, tab1_at, wQ_at, gains_at, e]

theorem k1_at (n : Fin 256) (k : Fin 1024) : k1 x0 x1 x2 x3 x4 x5 x6 x7 x8 x9 x11 x12 x13 (ix2 n k) = kAt x0 x1 x2 x3 x4 x5 x6 x7 x8 x9 x11 x12 x13 ⟨256 + n.val, by omega⟩ 0 ⟨256 + n.val, by omega⟩ k := by
  have e : (256 + n.val) % 256 = n.val := by omega
  unfold k1 kAt Heads.head
  rw [kRows_at, turn_at]
  simp only [hnorm_at, dot_at, y1_at, tab1_at, wK_at, gains_at, e]

theorem v1_at (k : Fin 1152) (n : Fin 256) : v1 x0 x1 x2 x3 x4 x5 x6 x7 x8 x9 (ix2 k n) = vAt x0 x1 x2 x3 x4 x5 x6 x7 x8 x9 ⟨256 + n.val, by omega⟩ k := by
  unfold v1 vAt
  rw [vTile_at]
  simp only [dot_at, y1_at, wV_at]

/-- The rows of unit 2. -/
def y2 : FVec Ideal S256x1024 .bf16 := nrm (cat (shapeCast S256x128 (View.ld x0 r0_14) shapeCasts_S1x256x128_S256x128) (shapeCast S256x128 (View.ld x1 r0_14) shapeCasts_S1x256x128_S256x128) (shapeCast S256x128 (View.ld x2 r0_14) shapeCasts_S1x256x128_S256x128) (shapeCast S256x128 (View.ld x3 r0_14) shapeCasts_S1x256x128_S256x128) (shapeCast S256x128 (View.ld x4 r0_14) shapeCasts_S1x256x128_S256x128) (shapeCast S256x128 (View.ld x5 r0_14) shapeCasts_S1x256x128_S256x128) (shapeCast S256x128 (View.ld x6 r0_14) shapeCasts_S1x256x128_S256x128) (shapeCast S256x128 (View.ld x7 r0_14) shapeCasts_S1x256x128_S256x128)) (scales x8)
def tab2 (x : Vec Ideal S1x8x1024 .f32) : FVec Ideal S8x256 .f32 := shapeCast S8x256 (View.ld x r0_15) shapeCasts_S1x8x256_S8x256
def q2 : FVec Ideal S1024x256 .bf16 :=
  qTile (turn (hnorm (dot (y2 x0 x1 x2 x3 x4 x5 x6 x7 x8) (wQ x9)) (gains x10)) (tab2 x12) (tab2 x13))
def k2 : FVec Ideal S256x1024 .bf16 :=
  kRows (turn (hnorm (dot (y2 x0 x1 x2 x3 x4 x5 x6 x7 x8) (wK x9)) (gains x11)) (tab2 x12) (tab2 x13))
def v2 : FVec Ideal S1152x256 .bf16 := vTile (dot (y2 x0 x1 x2 x3 x4 x5 x6 x7 x8) (wV x9))

theorem pick2 (n : Fin 256) (k : Fin 8) (l : Fin 128) :
    (![shapeCast S256x128 (View.ld x0 r0_14) shapeCasts_S1x256x128_S256x128, shapeCast S256x128 (View.ld x1 r0_14) shapeCasts_S1x256x128_S256x128, shapeCast S256x128 (View.ld x2 r0_14) shapeCasts_S1x256x128_S256x128, shapeCast S256x128 (View.ld x3 r0_14) shapeCasts_S1x256x128_S256x128, shapeCast S256x128 (View.ld x4 r0_14) shapeCasts_S1x256x128_S256x128, shapeCast S256x128 (View.ld x5 r0_14) shapeCasts_S1x256x128_S256x128, shapeCast S256x128 (View.ld x6 r0_14) shapeCasts_S1x256x128_S256x128, shapeCast S256x128 (View.ld x7 r0_14) shapeCasts_S1x256x128_S256x128] : Fin 8 → FVec Ideal S256x128 .f32) k (ix2 n l)
      = (![x0, x1, x2, x3, x4, x5, x6, x7] : Fin 8 → Vec Ideal S1x1024x128 .f32) k (ix3 0 ⟨512 + n.val, by omega⟩ l) := by
  fin_cases k
  · show shapeCast S256x128 (View.ld x0 r0_14) shapeCasts_S1x256x128_S256x128 (ix2 n l) = x0 (ix3 0 ⟨512 + n.val, by omega⟩ l)
    pointwise
  · show shapeCast S256x128 (View.ld x1 r0_14) shapeCasts_S1x256x128_S256x128 (ix2 n l) = x1 (ix3 0 ⟨512 + n.val, by omega⟩ l)
    pointwise
  · show shapeCast S256x128 (View.ld x2 r0_14) shapeCasts_S1x256x128_S256x128 (ix2 n l) = x2 (ix3 0 ⟨512 + n.val, by omega⟩ l)
    pointwise
  · show shapeCast S256x128 (View.ld x3 r0_14) shapeCasts_S1x256x128_S256x128 (ix2 n l) = x3 (ix3 0 ⟨512 + n.val, by omega⟩ l)
    pointwise
  · show shapeCast S256x128 (View.ld x4 r0_14) shapeCasts_S1x256x128_S256x128 (ix2 n l) = x4 (ix3 0 ⟨512 + n.val, by omega⟩ l)
    pointwise
  · show shapeCast S256x128 (View.ld x5 r0_14) shapeCasts_S1x256x128_S256x128 (ix2 n l) = x5 (ix3 0 ⟨512 + n.val, by omega⟩ l)
    pointwise
  · show shapeCast S256x128 (View.ld x6 r0_14) shapeCasts_S1x256x128_S256x128 (ix2 n l) = x6 (ix3 0 ⟨512 + n.val, by omega⟩ l)
    pointwise
  · show shapeCast S256x128 (View.ld x7 r0_14) shapeCasts_S1x256x128_S256x128 (ix2 n l) = x7 (ix3 0 ⟨512 + n.val, by omega⟩ l)
    pointwise

theorem y2_at (n : Fin 256) (j : Fin 1024) :
    y2 x0 x1 x2 x3 x4 x5 x6 x7 x8 (ix2 n j) = row x0 x1 x2 x3 x4 x5 x6 x7 x8 ⟨512 + n.val, by omega⟩ j := by
  unfold y2 row slab
  rw [nrm_at]
  simp only [cat_at, pick2, scales_at]

theorem tab2_at (x : Vec Ideal S1x8x1024 .f32) (e : Fin 8) (n : Fin 256) : tab2 x (ix2 e n) = x (ix3 0 e ⟨512 + n.val, by omega⟩) := by
  pointwise [tab2]

theorem q2_at (k : Fin 1024) (n : Fin 256) : q2 x0 x1 x2 x3 x4 x5 x6 x7 x8 x9 x10 x12 x13 (ix2 k n) = qAt x0 x1 x2 x3 x4 x5 x6 x7 x8 x9 x10 x12 x13 ⟨512 + n.val, by omega⟩ 0 ⟨512 + n.val, by omega⟩ k := by
  have e : (512 + n.val) % 256 = n.val := by omega
  unfold q2 qAt Heads.head
  rw [qTile_at, turn_at]
  simp only [hnorm_at, dot_at, y2_at, tab2_at, wQ_at, gains_at, e]

theorem k2_at (n : Fin 256) (k : Fin 1024) : k2 x0 x1 x2 x3 x4 x5 x6 x7 x8 x9 x11 x12 x13 (ix2 n k) = kAt x0 x1 x2 x3 x4 x5 x6 x7 x8 x9 x11 x12 x13 ⟨512 + n.val, by omega⟩ 0 ⟨512 + n.val, by omega⟩ k := by
  have e : (512 + n.val) % 256 = n.val := by omega
  unfold k2 kAt Heads.head
  rw [kRows_at, turn_at]
  simp only [hnorm_at, dot_at, y2_at, tab2_at, wK_at, gains_at, e]

theorem v2_at (k : Fin 1152) (n : Fin 256) : v2 x0 x1 x2 x3 x4 x5 x6 x7 x8 x9 (ix2 k n) = vAt x0 x1 x2 x3 x4 x5 x6 x7 x8 x9 ⟨512 + n.val, by omega⟩ k := by
  unfold v2 vAt
  rw [vTile_at]
  simp only [dot_at, y2_at, wV_at]

/-- The rows of unit 3. -/
def y3 : FVec Ideal S256x1024 .bf16 := nrm (cat (shapeCast S256x128 (View.ld x0 r0_21) shapeCasts_S1x256x128_S256x128) (shapeCast S256x128 (View.ld x1 r0_21) shapeCasts_S1x256x128_S256x128) (shapeCast S256x128 (View.ld x2 r0_21) shapeCasts_S1x256x128_S256x128) (shapeCast S256x128 (View.ld x3 r0_21) shapeCasts_S1x256x128_S256x128) (shapeCast S256x128 (View.ld x4 r0_21) shapeCasts_S1x256x128_S256x128) (shapeCast S256x128 (View.ld x5 r0_21) shapeCasts_S1x256x128_S256x128) (shapeCast S256x128 (View.ld x6 r0_21) shapeCasts_S1x256x128_S256x128) (shapeCast S256x128 (View.ld x7 r0_21) shapeCasts_S1x256x128_S256x128)) (scales x8)
def tab3 (x : Vec Ideal S1x8x1024 .f32) : FVec Ideal S8x256 .f32 := shapeCast S8x256 (View.ld x r0_22) shapeCasts_S1x8x256_S8x256
def q3 : FVec Ideal S1024x256 .bf16 :=
  qTile (turn (hnorm (dot (y3 x0 x1 x2 x3 x4 x5 x6 x7 x8) (wQ x9)) (gains x10)) (tab3 x12) (tab3 x13))
def k3 : FVec Ideal S256x1024 .bf16 :=
  kRows (turn (hnorm (dot (y3 x0 x1 x2 x3 x4 x5 x6 x7 x8) (wK x9)) (gains x11)) (tab3 x12) (tab3 x13))
def v3 : FVec Ideal S1152x256 .bf16 := vTile (dot (y3 x0 x1 x2 x3 x4 x5 x6 x7 x8) (wV x9))

theorem pick3 (n : Fin 256) (k : Fin 8) (l : Fin 128) :
    (![shapeCast S256x128 (View.ld x0 r0_21) shapeCasts_S1x256x128_S256x128, shapeCast S256x128 (View.ld x1 r0_21) shapeCasts_S1x256x128_S256x128, shapeCast S256x128 (View.ld x2 r0_21) shapeCasts_S1x256x128_S256x128, shapeCast S256x128 (View.ld x3 r0_21) shapeCasts_S1x256x128_S256x128, shapeCast S256x128 (View.ld x4 r0_21) shapeCasts_S1x256x128_S256x128, shapeCast S256x128 (View.ld x5 r0_21) shapeCasts_S1x256x128_S256x128, shapeCast S256x128 (View.ld x6 r0_21) shapeCasts_S1x256x128_S256x128, shapeCast S256x128 (View.ld x7 r0_21) shapeCasts_S1x256x128_S256x128] : Fin 8 → FVec Ideal S256x128 .f32) k (ix2 n l)
      = (![x0, x1, x2, x3, x4, x5, x6, x7] : Fin 8 → Vec Ideal S1x1024x128 .f32) k (ix3 0 ⟨768 + n.val, by omega⟩ l) := by
  fin_cases k
  · show shapeCast S256x128 (View.ld x0 r0_21) shapeCasts_S1x256x128_S256x128 (ix2 n l) = x0 (ix3 0 ⟨768 + n.val, by omega⟩ l)
    pointwise
  · show shapeCast S256x128 (View.ld x1 r0_21) shapeCasts_S1x256x128_S256x128 (ix2 n l) = x1 (ix3 0 ⟨768 + n.val, by omega⟩ l)
    pointwise
  · show shapeCast S256x128 (View.ld x2 r0_21) shapeCasts_S1x256x128_S256x128 (ix2 n l) = x2 (ix3 0 ⟨768 + n.val, by omega⟩ l)
    pointwise
  · show shapeCast S256x128 (View.ld x3 r0_21) shapeCasts_S1x256x128_S256x128 (ix2 n l) = x3 (ix3 0 ⟨768 + n.val, by omega⟩ l)
    pointwise
  · show shapeCast S256x128 (View.ld x4 r0_21) shapeCasts_S1x256x128_S256x128 (ix2 n l) = x4 (ix3 0 ⟨768 + n.val, by omega⟩ l)
    pointwise
  · show shapeCast S256x128 (View.ld x5 r0_21) shapeCasts_S1x256x128_S256x128 (ix2 n l) = x5 (ix3 0 ⟨768 + n.val, by omega⟩ l)
    pointwise
  · show shapeCast S256x128 (View.ld x6 r0_21) shapeCasts_S1x256x128_S256x128 (ix2 n l) = x6 (ix3 0 ⟨768 + n.val, by omega⟩ l)
    pointwise
  · show shapeCast S256x128 (View.ld x7 r0_21) shapeCasts_S1x256x128_S256x128 (ix2 n l) = x7 (ix3 0 ⟨768 + n.val, by omega⟩ l)
    pointwise

theorem y3_at (n : Fin 256) (j : Fin 1024) :
    y3 x0 x1 x2 x3 x4 x5 x6 x7 x8 (ix2 n j) = row x0 x1 x2 x3 x4 x5 x6 x7 x8 ⟨768 + n.val, by omega⟩ j := by
  unfold y3 row slab
  rw [nrm_at]
  simp only [cat_at, pick3, scales_at]

theorem tab3_at (x : Vec Ideal S1x8x1024 .f32) (e : Fin 8) (n : Fin 256) : tab3 x (ix2 e n) = x (ix3 0 e ⟨768 + n.val, by omega⟩) := by
  pointwise [tab3]

theorem q3_at (k : Fin 1024) (n : Fin 256) : q3 x0 x1 x2 x3 x4 x5 x6 x7 x8 x9 x10 x12 x13 (ix2 k n) = qAt x0 x1 x2 x3 x4 x5 x6 x7 x8 x9 x10 x12 x13 ⟨768 + n.val, by omega⟩ 0 ⟨768 + n.val, by omega⟩ k := by
  have e : (768 + n.val) % 256 = n.val := by omega
  unfold q3 qAt Heads.head
  rw [qTile_at, turn_at]
  simp only [hnorm_at, dot_at, y3_at, tab3_at, wQ_at, gains_at, e]

theorem k3_at (n : Fin 256) (k : Fin 1024) : k3 x0 x1 x2 x3 x4 x5 x6 x7 x8 x9 x11 x12 x13 (ix2 n k) = kAt x0 x1 x2 x3 x4 x5 x6 x7 x8 x9 x11 x12 x13 ⟨768 + n.val, by omega⟩ 0 ⟨768 + n.val, by omega⟩ k := by
  have e : (768 + n.val) % 256 = n.val := by omega
  unfold k3 kAt Heads.head
  rw [kRows_at, turn_at]
  simp only [hnorm_at, dot_at, y3_at, tab3_at, wK_at, gains_at, e]

theorem v3_at (k : Fin 1152) (n : Fin 256) : v3 x0 x1 x2 x3 x4 x5 x6 x7 x8 x9 (ix2 k n) = vAt x0 x1 x2 x3 x4 x5 x6 x7 x8 x9 ⟨768 + n.val, by omega⟩ k := by
  unfold v3 vAt
  rw [vTile_at]
  simp only [dot_at, y3_at, wV_at]

theorem piece_q31 : k0_pay2 (k0_pay122 x0 x1 x2 x3 x4 x5 x6 x7 x8 x9 x10 x11 x12 x13) = qHigh (q3 x0 x1 x2 x3 x4 x5 x6 x7 x8 x9 x10 x12 x13) := rfl
theorem piece_q30 : k0_pay96 (k0_pay122 x0 x1 x2 x3 x4 x5 x6 x7 x8 x9 x10 x11 x12 x13) = qLow (q3 x0 x1 x2 x3 x4 x5 x6 x7 x8 x9 x10 x12 x13) := rfl
theorem piece_q21 : k0_pay84 (k0_pay118 x0 x1 x2 x3 x4 x5 x6 x7 x8 x9 x10 x11 x12 x13) = qHigh (q2 x0 x1 x2 x3 x4 x5 x6 x7 x8 x9 x10 x12 x13) := rfl
theorem piece_q20 : k0_pay82 (k0_pay118 x0 x1 x2 x3 x4 x5 x6 x7 x8 x9 x10 x11 x12 x13) = qLow (q2 x0 x1 x2 x3 x4 x5 x6 x7 x8 x9 x10 x12 x13) := rfl
theorem piece_q11 : k0_pay66 (k0_pay112 x0 x1 x2 x3 x4 x5 x6 x7 x8 x9 x10 x11 x12 x13) = qHigh (q1 x0 x1 x2 x3 x4 x5 x6 x7 x8 x9 x10 x12 x13) := rfl
theorem piece_q10 : k0_pay64 (k0_pay112 x0 x1 x2 x3 x4 x5 x6 x7 x8 x9 x10 x11 x12 x13) = qLow (q1 x0 x1 x2 x3 x4 x5 x6 x7 x8 x9 x10 x12 x13) := rfl
theorem piece_q01 : k0_pay35 (k0_pay107 x0 x1 x2 x3 x4 x5 x6 x7 x8 x9 x10 x11 x12 x13) = qHigh (q0 x0 x1 x2 x3 x4 x5 x6 x7 x8 x9 x10 x12 x13) := rfl
theorem piece_q00 : k0_pay33 (k0_pay107 x0 x1 x2 x3 x4 x5 x6 x7 x8 x9 x10 x11 x12 x13) = qLow (q0 x0 x1 x2 x3 x4 x5 x6 x7 x8 x9 x10 x12 x13) := rfl

theorem out14_at (t : Fin 8) (k : Fin 1024) (l : Fin 128) : out0_14 x0 x1 x2 x3 x4 x5 x6 x7 x8 x9 x10 x11 x12 x13 (ix5 0 0 t k l) = qAt x0 x1 x2 x3 x4 x5 x6 x7 x8 x9 x10 x12 x13 ⟨(t.val * 128 + l.val) * 1 + 0, by omega⟩ 0 ⟨t.val * 128 + l.val, by omega⟩ k := by
  unfold out0_14
  refine View.canon_apply_of_pieces (Val := Elt Ideal) (S := S1x1x8x1024x128) (e := .bf16) (fun y => qAt x0 x1 x2 x3 x4 x5 x6 x7 x8 x9 x10 x12 x13 ⟨((y 2).val * 128 + (y 4).val) * 1 + (y 1).val, by have h1 : (y 1).val < 1 := (y 1).isLt; have h2 : (y 2).val < 8 := (y 2).isLt; have h4 : (y 4).val < 128 := (y 4).isLt; omega⟩ (y 1) ⟨(y 2).val * 128 + (y 4).val, by have h1 : (y 1).val < 1 := (y 1).isLt; have h2 : (y 2).val < 8 := (y 2).isLt; have h4 : (y 4).val < 128 := (y 4).isLt; omega⟩ (y 3)) _ ?_ (ix5 0 0 t k l) (cover0_14 _ _ _ _ _ _ _ _ _)
  intro P hP
  simp only [List.mem_cons, List.not_mem_nil, or_false] at hP
  rcases hP with rfl | rfl | rfl | rfl | rfl | rfl | rfl | rfl
  · intro y
    idx_vars y
    refine (congrFun (@piece_q31 x0 x1 x2 x3 x4 x5 x6 x7 x8 x9 x10 x11 x12 x13) _).trans ?_
    refine (qHigh_at ..).trans ?_
    refine (q3_at ..).trans ?_
    show _ = qAt x0 x1 x2 x3 x4 x5 x6 x7 x8 x9 x10 x12 x13 ⟨((7 + 1 * y2.val) * 128 + (0 + 1 * y4.val)) * 1 + (0 + 1 * y1.val), by omega⟩ ⟨0 + 1 * y1.val, by omega⟩ ⟨(7 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (congrFun (@piece_q30 x0 x1 x2 x3 x4 x5 x6 x7 x8 x9 x10 x11 x12 x13) _).trans ?_
    refine (qLow_at ..).trans ?_
    refine (q3_at ..).trans ?_
    show _ = qAt x0 x1 x2 x3 x4 x5 x6 x7 x8 x9 x10 x12 x13 ⟨((6 + 1 * y2.val) * 128 + (0 + 1 * y4.val)) * 1 + (0 + 1 * y1.val), by omega⟩ ⟨0 + 1 * y1.val, by omega⟩ ⟨(6 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (congrFun (@piece_q21 x0 x1 x2 x3 x4 x5 x6 x7 x8 x9 x10 x11 x12 x13) _).trans ?_
    refine (qHigh_at ..).trans ?_
    refine (q2_at ..).trans ?_
    show _ = qAt x0 x1 x2 x3 x4 x5 x6 x7 x8 x9 x10 x12 x13 ⟨((5 + 1 * y2.val) * 128 + (0 + 1 * y4.val)) * 1 + (0 + 1 * y1.val), by omega⟩ ⟨0 + 1 * y1.val, by omega⟩ ⟨(5 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (congrFun (@piece_q20 x0 x1 x2 x3 x4 x5 x6 x7 x8 x9 x10 x11 x12 x13) _).trans ?_
    refine (qLow_at ..).trans ?_
    refine (q2_at ..).trans ?_
    show _ = qAt x0 x1 x2 x3 x4 x5 x6 x7 x8 x9 x10 x12 x13 ⟨((4 + 1 * y2.val) * 128 + (0 + 1 * y4.val)) * 1 + (0 + 1 * y1.val), by omega⟩ ⟨0 + 1 * y1.val, by omega⟩ ⟨(4 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (congrFun (@piece_q11 x0 x1 x2 x3 x4 x5 x6 x7 x8 x9 x10 x11 x12 x13) _).trans ?_
    refine (qHigh_at ..).trans ?_
    refine (q1_at ..).trans ?_
    show _ = qAt x0 x1 x2 x3 x4 x5 x6 x7 x8 x9 x10 x12 x13 ⟨((3 + 1 * y2.val) * 128 + (0 + 1 * y4.val)) * 1 + (0 + 1 * y1.val), by omega⟩ ⟨0 + 1 * y1.val, by omega⟩ ⟨(3 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (congrFun (@piece_q10 x0 x1 x2 x3 x4 x5 x6 x7 x8 x9 x10 x11 x12 x13) _).trans ?_
    refine (qLow_at ..).trans ?_
    refine (q1_at ..).trans ?_
    show _ = qAt x0 x1 x2 x3 x4 x5 x6 x7 x8 x9 x10 x12 x13 ⟨((2 + 1 * y2.val) * 128 + (0 + 1 * y4.val)) * 1 + (0 + 1 * y1.val), by omega⟩ ⟨0 + 1 * y1.val, by omega⟩ ⟨(2 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (congrFun (@piece_q01 x0 x1 x2 x3 x4 x5 x6 x7 x8 x9 x10 x11 x12 x13) _).trans ?_
    refine (qHigh_at ..).trans ?_
    refine (q0_at ..).trans ?_
    show _ = qAt x0 x1 x2 x3 x4 x5 x6 x7 x8 x9 x10 x12 x13 ⟨((1 + 1 * y2.val) * 128 + (0 + 1 * y4.val)) * 1 + (0 + 1 * y1.val), by omega⟩ ⟨0 + 1 * y1.val, by omega⟩ ⟨(1 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (congrFun (@piece_q00 x0 x1 x2 x3 x4 x5 x6 x7 x8 x9 x10 x11 x12 x13) _).trans ?_
    refine (qLow_at ..).trans ?_
    refine (q0_at ..).trans ?_
    show _ = qAt x0 x1 x2 x3 x4 x5 x6 x7 x8 x9 x10 x12 x13 ⟨((0 + 1 * y2.val) * 128 + (0 + 1 * y4.val)) * 1 + (0 + 1 * y1.val), by omega⟩ ⟨0 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)

theorem piece_k3 : k0_pay95 (k0_pay116 x0 x1 x2 x3 x4 x5 x6 x7 x8 x9 x10 x11 x12 x13) (k0_pay117 x0 x1 x2 x3 x4 x5 x6 x7 x8 x9 x10 x11 x12 x13) (k0_pay91 (View.ld x11 r0_8)) (k0_pay92 (k0_pay120 x0 x1 x2 x3 x4 x5 x6 x7 x8 x9 x10 x11 x12 x13)) (k0_pay93 (k0_pay120 x0 x1 x2 x3 x4 x5 x6 x7 x8 x9 x10 x11 x12 x13)) = kBlock (k3 x0 x1 x2 x3 x4 x5 x6 x7 x8 x9 x11 x12 x13) := rfl
theorem piece_k2 : k0_pay81 (k0_pay79 (k0_pay110 x0 x1 x2 x3 x4 x5 x6 x7 x8 x9 x10 x11 x12 x13) (k0_pay111 x0 x1 x2 x3 x4 x5 x6 x7 x8 x9 x10 x11 x12 x13) (k0_pay69 (k0_pay109 x0 x1 x2 x3 x4 x5 x6 x7 x8 x9 x10 x11 x12 x13) (View.ld x9 r0_4)) (View.ld x11 r0_8)) = kBlock (k2 x0 x1 x2 x3 x4 x5 x6 x7 x8 x9 x11 x12 x13) := rfl
theorem piece_k1 : k0_pay63 (k0_pay59 (k0_pay105 x0 x1 x2 x3 x4 x5 x6 x7 x8 x9 x10 x11 x12 x13) (k0_pay106 x0 x1 x2 x3 x4 x5 x6 x7 x8 x9 x10 x11 x12 x13) (k0_pay39 (k0_pay104 x0 x1 x2 x3 x4 x5 x6 x7 x8 x9 x10 x11 x12 x13) (View.ld x9 r0_4)) (View.ld x11 r0_8)) = kBlock (k1 x0 x1 x2 x3 x4 x5 x6 x7 x8 x9 x11 x12 x13) := rfl
theorem piece_k0 : k0_pay32 (k0_pay28 (k0_pay100 x0 x1 x2 x3 x4 x5 x6 x7 x8 x9 x10 x11 x12 x13) (k0_pay101 x0 x1 x2 x3 x4 x5 x6 x7 x8 x9 x10 x11 x12 x13) (k0_pay102 x0 x1 x2 x3 x4 x5 x6 x7 x8 x9 x10 x11 x12 x13) (View.ld x11 r0_8)) (k0_pay29 (k0_pay100 x0 x1 x2 x3 x4 x5 x6 x7 x8 x9 x10 x11 x12 x13) (k0_pay101 x0 x1 x2 x3 x4 x5 x6 x7 x8 x9 x10 x11 x12 x13) (k0_pay102 x0 x1 x2 x3 x4 x5 x6 x7 x8 x9 x10 x11 x12 x13) (View.ld x11 r0_8)) (k0_pay30 (k0_pay102 x0 x1 x2 x3 x4 x5 x6 x7 x8 x9 x10 x11 x12 x13) (View.ld x11 r0_8)) = kBlock (k0 x0 x1 x2 x3 x4 x5 x6 x7 x8 x9 x11 x12 x13) := rfl

theorem out15_at (i : Fin 1024) (k : Fin 1024) : out0_15 x0 x1 x2 x3 x4 x5 x6 x7 x8 x9 x10 x11 x12 x13 (ix4 0 0 i k) = kAt x0 x1 x2 x3 x4 x5 x6 x7 x8 x9 x11 x12 x13 ⟨i.val * 1 + 0, by omega⟩ 0 i k := by
  unfold out0_15
  refine View.canon_apply_of_pieces (Val := Elt Ideal) (S := S1x1x1024x1024) (e := .bf16) (fun y => kAt x0 x1 x2 x3 x4 x5 x6 x7 x8 x9 x11 x12 x13 ⟨(y 2).val * 1 + (y 1).val, by have h1 : (y 1).val < 1 := (y 1).isLt; have h2 : (y 2).val < 1024 := (y 2).isLt; omega⟩ (y 1) (y 2) (y 3)) _ ?_ (ix4 0 0 i k) (cover0_15 _ _ _ _ _)
  intro P hP
  simp only [List.mem_cons, List.not_mem_nil, or_false] at hP
  rcases hP with rfl | rfl | rfl | rfl
  · intro y
    idx_vars y
    refine (congrFun (@piece_k3 x0 x1 x2 x3 x4 x5 x6 x7 x8 x9 x10 x11 x12 x13) _).trans ?_
    refine (kBlock_at ..).trans ?_
    refine (k3_at ..).trans ?_
    show _ = kAt x0 x1 x2 x3 x4 x5 x6 x7 x8 x9 x11 x12 x13 ⟨(768 + 1 * y2.val) * 1 + (0 + 1 * y1.val), by omega⟩ ⟨0 + 1 * y1.val, by omega⟩ ⟨768 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (congrFun (@piece_k2 x0 x1 x2 x3 x4 x5 x6 x7 x8 x9 x10 x11 x12 x13) _).trans ?_
    refine (kBlock_at ..).trans ?_
    refine (k2_at ..).trans ?_
    show _ = kAt x0 x1 x2 x3 x4 x5 x6 x7 x8 x9 x11 x12 x13 ⟨(512 + 1 * y2.val) * 1 + (0 + 1 * y1.val), by omega⟩ ⟨0 + 1 * y1.val, by omega⟩ ⟨512 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (congrFun (@piece_k1 x0 x1 x2 x3 x4 x5 x6 x7 x8 x9 x10 x11 x12 x13) _).trans ?_
    refine (kBlock_at ..).trans ?_
    refine (k1_at ..).trans ?_
    show _ = kAt x0 x1 x2 x3 x4 x5 x6 x7 x8 x9 x11 x12 x13 ⟨(256 + 1 * y2.val) * 1 + (0 + 1 * y1.val), by omega⟩ ⟨0 + 1 * y1.val, by omega⟩ ⟨256 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (congrFun (@piece_k0 x0 x1 x2 x3 x4 x5 x6 x7 x8 x9 x10 x11 x12 x13) _).trans ?_
    refine (kBlock_at ..).trans ?_
    refine (k0_at ..).trans ?_
    show _ = kAt x0 x1 x2 x3 x4 x5 x6 x7 x8 x9 x11 x12 x13 ⟨(0 + 1 * y2.val) * 1 + (0 + 1 * y1.val), by omega⟩ ⟨0 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)

theorem piece_v31 : k0_pay3 (k0_pay94 (k0_pay121 x0 x1 x2 x3 x4 x5 x6 x7 x8 x9 x10 x11 x12 x13)) = vHigh (v3 x0 x1 x2 x3 x4 x5 x6 x7 x8 x9) := rfl
theorem piece_v30 : k0_pay1 (k0_pay97 (k0_pay121 x0 x1 x2 x3 x4 x5 x6 x7 x8 x9 x10 x11 x12 x13)) = vLow (v3 x0 x1 x2 x3 x4 x5 x6 x7 x8 x9) := rfl
theorem piece_v21 : k0_pay85 (k0_pay119 x0 x1 x2 x3 x4 x5 x6 x7 x8 x9 x10 x11 x12 x13) = vHigh (v2 x0 x1 x2 x3 x4 x5 x6 x7 x8 x9) := rfl
theorem piece_v20 : k0_pay83 (k0_pay119 x0 x1 x2 x3 x4 x5 x6 x7 x8 x9 x10 x11 x12 x13) = vLow (v2 x0 x1 x2 x3 x4 x5 x6 x7 x8 x9) := rfl
theorem piece_v11 : k0_pay67 (k0_pay113 x0 x1 x2 x3 x4 x5 x6 x7 x8 x9 x10 x11 x12 x13) (k0_pay114 x0 x1 x2 x3 x4 x5 x6 x7 x8 x9 x10 x11 x12 x13) = vHigh (v1 x0 x1 x2 x3 x4 x5 x6 x7 x8 x9) := rfl
theorem piece_v10 : k0_pay65 (k0_pay113 x0 x1 x2 x3 x4 x5 x6 x7 x8 x9 x10 x11 x12 x13) (k0_pay114 x0 x1 x2 x3 x4 x5 x6 x7 x8 x9 x10 x11 x12 x13) = vLow (v1 x0 x1 x2 x3 x4 x5 x6 x7 x8 x9) := rfl
theorem piece_v01 : k0_pay37 (k0_pay36 (k0_pay103 x0 x1 x2 x3 x4 x5 x6 x7 x8 x9 x10 x11 x12 x13)) = vHigh (v0 x0 x1 x2 x3 x4 x5 x6 x7 x8 x9) := rfl
theorem piece_v00 : k0_pay34 (k0_pay103 x0 x1 x2 x3 x4 x5 x6 x7 x8 x9 x10 x11 x12 x13) = vLow (v0 x0 x1 x2 x3 x4 x5 x6 x7 x8 x9) := rfl

theorem out16_at (t : Fin 8) (k : Fin 1152) (l : Fin 128) : out0_16 x0 x1 x2 x3 x4 x5 x6 x7 x8 x9 x10 x11 x12 x13 (ix5 0 0 t k l) = vAt x0 x1 x2 x3 x4 x5 x6 x7 x8 x9 ⟨(t.val * 128 + l.val) * 1 + 0, by omega⟩ k := by
  unfold out0_16
  refine View.canon_apply_of_pieces (Val := Elt Ideal) (S := S1x1x8x1152x128) (e := .bf16) (fun y => vAt x0 x1 x2 x3 x4 x5 x6 x7 x8 x9 ⟨((y 2).val * 128 + (y 4).val) * 1 + (y 1).val, by have h1 : (y 1).val < 1 := (y 1).isLt; have h2 : (y 2).val < 8 := (y 2).isLt; have h4 : (y 4).val < 128 := (y 4).isLt; omega⟩ (y 3)) _ ?_ (ix5 0 0 t k l) (cover0_16 _ _ _ _ _ _ _ _ _)
  intro P hP
  simp only [List.mem_cons, List.not_mem_nil, or_false] at hP
  rcases hP with rfl | rfl | rfl | rfl | rfl | rfl | rfl | rfl
  · intro y
    idx_vars y
    refine (congrFun (@piece_v31 x0 x1 x2 x3 x4 x5 x6 x7 x8 x9 x10 x11 x12 x13) _).trans ?_
    refine (vHigh_at ..).trans ?_
    refine (v3_at ..).trans ?_
    show _ = vAt x0 x1 x2 x3 x4 x5 x6 x7 x8 x9 ⟨((7 + 1 * y2.val) * 128 + (0 + 1 * y4.val)) * 1 + (0 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (congrFun (@piece_v30 x0 x1 x2 x3 x4 x5 x6 x7 x8 x9 x10 x11 x12 x13) _).trans ?_
    refine (vLow_at ..).trans ?_
    refine (v3_at ..).trans ?_
    show _ = vAt x0 x1 x2 x3 x4 x5 x6 x7 x8 x9 ⟨((6 + 1 * y2.val) * 128 + (0 + 1 * y4.val)) * 1 + (0 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (congrFun (@piece_v21 x0 x1 x2 x3 x4 x5 x6 x7 x8 x9 x10 x11 x12 x13) _).trans ?_
    refine (vHigh_at ..).trans ?_
    refine (v2_at ..).trans ?_
    show _ = vAt x0 x1 x2 x3 x4 x5 x6 x7 x8 x9 ⟨((5 + 1 * y2.val) * 128 + (0 + 1 * y4.val)) * 1 + (0 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (congrFun (@piece_v20 x0 x1 x2 x3 x4 x5 x6 x7 x8 x9 x10 x11 x12 x13) _).trans ?_
    refine (vLow_at ..).trans ?_
    refine (v2_at ..).trans ?_
    show _ = vAt x0 x1 x2 x3 x4 x5 x6 x7 x8 x9 ⟨((4 + 1 * y2.val) * 128 + (0 + 1 * y4.val)) * 1 + (0 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (congrFun (@piece_v11 x0 x1 x2 x3 x4 x5 x6 x7 x8 x9 x10 x11 x12 x13) _).trans ?_
    refine (vHigh_at ..).trans ?_
    refine (v1_at ..).trans ?_
    show _ = vAt x0 x1 x2 x3 x4 x5 x6 x7 x8 x9 ⟨((3 + 1 * y2.val) * 128 + (0 + 1 * y4.val)) * 1 + (0 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (congrFun (@piece_v10 x0 x1 x2 x3 x4 x5 x6 x7 x8 x9 x10 x11 x12 x13) _).trans ?_
    refine (vLow_at ..).trans ?_
    refine (v1_at ..).trans ?_
    show _ = vAt x0 x1 x2 x3 x4 x5 x6 x7 x8 x9 ⟨((2 + 1 * y2.val) * 128 + (0 + 1 * y4.val)) * 1 + (0 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (congrFun (@piece_v01 x0 x1 x2 x3 x4 x5 x6 x7 x8 x9 x10 x11 x12 x13) _).trans ?_
    refine (vHigh_at ..).trans ?_
    refine (v0_at ..).trans ?_
    show _ = vAt x0 x1 x2 x3 x4 x5 x6 x7 x8 x9 ⟨((1 + 1 * y2.val) * 128 + (0 + 1 * y4.val)) * 1 + (0 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (congrFun (@piece_v00 x0 x1 x2 x3 x4 x5 x6 x7 x8 x9 x10 x11 x12 x13) _).trans ?_
    refine (vLow_at ..).trans ?_
    refine (v0_at ..).trans ?_
    show _ = vAt x0 x1 x2 x3 x4 x5 x6 x7 x8 x9 ⟨((0 + 1 * y2.val) * 128 + (0 + 1 * y4.val)) * 1 + (0 + 1 * y1.val), by omega⟩ ⟨0 + 1 * y3.val, by omega⟩
    congr 1 <;> first | rfl | (apply Fin.ext; dsimp only; omega) | (apply Fin.ext; simp; omega) | (apply Fin.ext; simp)

end Cert.ProjKernelIdeal.Mix

end
-- ==== Proof.ProjReference.lean ====
/-  The reference's queries, keys and values of the windowed mixer, entry by entry. -/
module

public import proofs.«01_k».proof.Proof.Gen.ProjReferenceIdeal
public import proofs.«01_k».proof.Proof.Heads
public import Idealize.ShloMosaic.Lib.Pointwise
public import Idealize.ShloMosaic.Lib.Claim

@[expose] public section

set_option maxRecDepth 65536

noncomputable section

namespace Cert.ProjReferenceIdeal.Mix

open Cert.ProjReferenceIdeal Cert.ProjReferenceIdeal.Gen
open Idealize.ShloMosaic Idealize.ShloMosaic.TcCoe Idealize.SL.Sem

/-- The normalised hidden state. -/
def normalised (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf x x) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The three projections, side by side. -/
def projected (x : FVec Ideal S4x8192x1024 .f32) (g : FVec Ideal S1024 .f32) (w : FVec Ideal S1024x3072 .f32) : FVec Ideal S4x8192x3072 .f32 :=
  Host.dotGeneral dot_S4x8192x1024_S1024x3072_S4x8192x3072_2_0_01_1_n_n none (normalised x g) w

/-- Heads of features, normalised over the head. -/
def headNorm (t : FVec Ideal S4x8192x16x64 .f32) (gain : FVec Ideal S64 .f32) : FVec Ideal S4x8192x16x64 .f32 :=
  mulf (mulf t (broadcastInDim S4x8192x16x64 ![0, 1, 2, 3] bcast_S4x8192x16x1_S4x8192x16x64_0_1_2_3
      (Host.rsqrt (addf (Host.divf (broadcastInDim S4x8192x16x1 ![0, 1, 2] bcast_S4x8192x16_S4x8192x16x1_0_1_2
          (Host.reduceAdd (mulf t t) (constant S_ .f32 0x00000000#32) reducesTo_S4x8192x16x64_S4x8192x16_d3 h_S_))
        (broadcastInDim S4x8192x16x1 ![] bcast_S_S4x8192x16x1 (constant S_ .f32 0x42800000#32)))
        (broadcastInDim S4x8192x16x1 ![] bcast_S_S4x8192x16x1 (constant S_ .f32 0x358637BD#32))))))
    (broadcastInDim S4x8192x16x64 ![0, 1, 2, 3] bcast_S1x1x1x64_S4x8192x16x64_0_1_2_3 (broadcastInDim S1x1x1x64 ![3] bcast_S64_S1x1x1x64_3 gain))

/-- A table of the rotation, over heads. -/
def table (c : FVec Ideal S8192x8 .f32) : FVec Ideal S4x8192x16x8 .f32 :=
  broadcastInDim S4x8192x16x8 ![0, 1, 2, 3] bcast_S1x8192x1x8_S4x8192x16x8_0_1_2_3
    (broadcastInDim S1x8192x1x8 ![1, 2, 3] bcast_S8192x1x8_S1x8192x1x8_1_2_3 (broadcastInDim S8192x1x8 ![0, 2] bcast_S8192x8_S8192x1x8_0_2 c))

def first (t : FVec Ideal S4x8192x16x64 .f32) : FVec Ideal S4x8192x16x8 .f32 := extractStridedSlice S4x8192x16x8 ![0, 0, 0, 0] t slices_S4x8192x16x64_S4x8192x16x8_0_0_0_0
def second (t : FVec Ideal S4x8192x16x64 .f32) : FVec Ideal S4x8192x16x8 .f32 := extractStridedSlice S4x8192x16x8 ![0, 0, 0, 8] t slices_S4x8192x16x64_S4x8192x16x8_0_0_0_8

/-- The first features turned. -/
def turned (t : FVec Ideal S4x8192x16x64 .f32) (c s : FVec Ideal S8192x8 .f32) : FVec Ideal S4x8192x16x64 .f32 :=
  concatenate S4x8192x16x64 3 [⟨S4x8192x16x8, subf (mulf (first t) (table c)) (mulf (second t) (table s))⟩,
    ⟨S4x8192x16x8, addf (mulf (second t) (table c)) (mulf (first t) (table s))⟩,
    ⟨S4x8192x16x48, extractStridedSlice S4x8192x16x48 ![0, 0, 0, 16] t slices_S4x8192x16x64_S4x8192x16x48_0_0_0_16⟩]
    concatenates_S4x8192x16x8_S4x8192x16x8_S4x8192x16x48_S4x8192x16x64_d3

/-- Features to normalised and turned features. -/
def heads (p : FVec Ideal S4x8192x1024 .f32) (gain : FVec Ideal S64 .f32) (c s : FVec Ideal S8192x8 .f32) : FVec Ideal S4x8192x1024 .f32 :=
  shapeCast S4x8192x1024 (turned (headNorm (shapeCast S4x8192x16x64 p shapeCasts_S4x8192x1024_S4x8192x16x64) gain) c s) shapeCasts_S4x8192x16x64_S4x8192x1024

variable (x : FVec Ideal S4x8192x1024 .f32) (g : FVec Ideal S1024 .f32) (w : FVec Ideal S1024x3072 .f32) (gq gk : FVec Ideal S64 .f32) (c s : FVec Ideal S8192x8 .f32)

def queryFeatures : FVec Ideal S4x8192x1024 .f32 := extractStridedSlice S4x8192x1024 ![0, 0, 0] (projected x g w) slices_S4x8192x3072_S4x8192x1024_0_0_0
def keyFeatures : FVec Ideal S4x8192x1024 .f32 := extractStridedSlice S4x8192x1024 ![0, 0, 1024] (projected x g w) slices_S4x8192x3072_S4x8192x1024_0_0_1024
def valueFeatures : FVec Ideal S4x8192x1024 .f32 := extractStridedSlice S4x8192x1024 ![0, 0, 2048] (projected x g w) slices_S4x8192x3072_S4x8192x1024_0_0_2048

/-- Features to blocks of tokens, features first. -/
def blocks (p : FVec Ideal S4x8192x1024 .f32) : FVec Ideal S4x1x64x1024x128 .bf16 :=
  truncf .bf16 (transpose S4x1x64x1024x128 [0, 3, 1, 4, 2] (shapeCast S4x64x128x1x1024 p shapeCasts_S4x8192x1024_S4x64x128x1x1024) transposes_S4x64x128x1x1024_S4x1x64x1024x128_0_3_1_4_2) bitsLt_bf16_f32

/-- Tokens by their residue. -/
def streams (p : FVec Ideal S4x8192x1024 .f32) : FVec Ideal S4x1x8192x1024 .bf16 :=
  truncf .bf16 (transpose S4x1x8192x1024 [0, 2, 1, 3] (shapeCast S4x8192x1x1024 p shapeCasts_S4x8192x1024_S4x8192x1x1024) transposes_S4x8192x1x1024_S4x1x8192x1024_0_2_1_3) bitsLt_bf16_f32

/-- Pairs of heads, in blocks of tokens, features first. -/
def pairs (p : FVec Ideal S4x8192x1024 .f32) : FVec Ideal S4x1x64x8x128x128 .f32 :=
  transpose S4x1x64x8x128x128 [0, 3, 1, 4, 5, 2] (shapeCast S4x64x128x1x8x128 p shapeCasts_S4x8192x1024_S4x64x128x1x8x128) transposes_S4x64x128x1x8x128_S4x1x64x8x128x128_0_3_1_4_5_2

/-- Each pair with a row of ones and fifteen of zeros. -/
def paired (p : FVec Ideal S4x1x64x8x128x128 .f32) : FVec Ideal S4x1x64x8x144x128 .f32 :=
  concatenate S4x1x64x8x144x128 4 [⟨S4x1x64x8x128x128, p⟩,
    ⟨S4x1x64x8x1x128, broadcastInDim S4x1x64x8x1x128 ![] bcast_S_S4x1x64x8x1x128 (constant S_ .f32 0x3F800000#32)⟩,
    ⟨S4x1x64x8x15x128, broadcastInDim S4x1x64x8x15x128 ![] bcast_S_S4x1x64x8x15x128 (constant S_ .f32 0x00000000#32)⟩]
    concatenates_S4x1x64x8x128x128_S4x1x64x8x1x128_S4x1x64x8x15x128_S4x1x64x8x144x128_d4

/-- The pairs' rows, one after another. -/
def rows (p : FVec Ideal S4x1x64x8x144x128 .f32) : FVec Ideal S4x1x64x1152x128 .bf16 := truncf .bf16 (shapeCast S4x1x64x1152x128 p shapeCasts_S4x1x64x8x144x128_S4x1x64x1152x128) bitsLt_bf16_f32

/-- The queries, times the softmax's scale. -/
def queries : FVec Ideal S4x1x64x1024x128 .bf16 :=
  blocks (mulf (heads (queryFeatures x g w) gq c s) (broadcastInDim S4x8192x1024 ![] bcast_S_S4x8192x1024 (constant S_ .f32 0x3E38AA3B#32)))

/-- The keys. -/
def keys : FVec Ideal S4x1x8192x1024 .bf16 := streams (heads (keyFeatures x g w) gk c s)

/-- The values, in pairs of heads, each with its row of ones. -/
def values : FVec Ideal S4x1x64x1152x128 .bf16 := rows (paired (pairs (valueFeatures x g w)))

theorem blocks_at (p : FVec Ideal S4x8192x1024 .f32) (b : Fin 4) (n : Fin 64) (j : Fin 1024) (l : Fin 128) :
    blocks p (ix5 b 0 n j l) = p (ix3 b ⟨n.val * 128 + l.val, by omega⟩ j) := by
  pointwise [blocks]

theorem scaled_at (p : FVec Ideal S4x8192x1024 .f32) (b : Fin 4) (n : Fin 64) (j : Fin 1024) (l : Fin 128) :
    blocks (mulf p (broadcastInDim S4x8192x1024 ![] bcast_S_S4x8192x1024 (constant S_ .f32 0x3E38AA3B#32))) (ix5 b 0 n j l)
      = p (ix3 b ⟨n.val * 128 + l.val, by omega⟩ j) * Ideal.ofBits FTy.f32 0x3E38AA3B#32 := by
  rw [blocks_at]
  pointwise

theorem streams_at (p : FVec Ideal S4x8192x1024 .f32) (b : Fin 4) (n : Fin 8192) (j : Fin 1024) :
    streams p (ix4 b 0 n j) = p (ix3 b ⟨n.val, by omega⟩ j) := by
  pointwise [streams]

theorem pairs_at (p : FVec Ideal S4x8192x1024 .f32) (b : Fin 4) (n : Fin 64) (h : Fin 8) (f l : Fin 128) :
    pairs p (ix6 b 0 n h f l) = p (ix3 b ⟨n.val * 128 + l.val, by omega⟩ ⟨h.val * 128 + f.val, by omega⟩) := by
  pointwise [pairs]

theorem paired_at (p : FVec Ideal S4x1x64x8x128x128 .f32) (b : Fin 4) (n : Fin 64) (h : Fin 8) (k : Fin 144) (l : Fin 128) :
    paired p (ix6 b 0 n h k l) = if h' : k.val < 128 then p (ix6 b 0 n h ⟨k.val, h'⟩ l) else if k.val = 128 then 1 else 0 := by
  pointwise [paired]
  by_cases h₁ : k.val < 128
  · rw [dif_pos h₁, dif_pos h₁]
  · rw [dif_neg h₁, dif_neg h₁]
    by_cases h₂ : k.val = 128
    · rw [dif_pos (show k.val - 128 < 1 by omega), if_pos h₂]
    · rw [dif_neg (show ¬k.val - 128 < 1 by omega), if_neg h₂]

theorem rows_at (p : FVec Ideal S4x1x64x8x144x128 .f32) (b : Fin 4) (n : Fin 64) (k : Fin 1152) (l : Fin 128) :
    rows p (ix5 b 0 n k l) = p (ix6 b 0 n ⟨k.val / 144, by omega⟩ ⟨k.val % 144, by omega⟩ l) := by
  pointwise [rows]

theorem normalised_at (b : Fin 4) (n : Fin 8192) (j : Fin 1024) :
    normalised x g (ix3 b n j) = Feed.normed (fun l => x (ix3 b n l)) (fun l => g (ix1 l)) j := by
  pointwise [normalised]
  rfl

theorem projected_at (b : Fin 4) (n : Fin 8192) (j : Fin 3072) :
    projected x g w (ix3 b n j) = ∑ l : Fin 1024, Feed.normed (fun l => x (ix3 b n l)) (fun l => g (ix1 l)) l * w (ix2 l j) := by
  pointwise [projected]
  simp only [normalised_at]

theorem headNorm_at (t : FVec Ideal S4x8192x16x64 .f32) (b : Fin 4) (n : Fin 8192) (h : Fin 16) (f : Fin 64) :
    headNorm t gq (ix4 b n h f) = Heads.normed (fun f => t (ix4 b n h f)) (fun f => gq (ix1 f)) f := by
  pointwise [headNorm]
  rfl

theorem turned_at (t : FVec Ideal S4x8192x16x64 .f32) (b : Fin 4) (n : Fin 8192) (h : Fin 16) (f : Fin 64) :
    turned t c s (ix4 b n h f) = Heads.turned (fun f => t (ix4 b n h f)) (fun e => c (ix2 n e)) (fun e => s (ix2 n e)) f := by
  pointwise [turned, first, second, table]
  unfold Heads.turned
  by_cases h₁ : f.val < 8
  · rw [dif_pos h₁, dif_pos h₁]
    simp only [Nat.add_comm 8]
  · rw [dif_neg h₁, dif_neg h₁]
    by_cases h₂ : f.val < 16
    · rw [dif_pos (show f.val - 8 < 8 by omega), dif_pos h₂]
      have e : 8 + (f.val - 8) = f.val := by omega
      simp only [e]
    · rw [dif_neg (show ¬f.val - 8 < 8 by omega), dif_neg h₂]
      have e : 16 + (f.val - 8 - 8) = f.val := by omega
      simp only [e]

theorem heads_at (p : FVec Ideal S4x8192x1024 .f32) (b : Fin 4) (n : Fin 8192) (j : Fin 1024) :
    heads p gq c s (ix3 b n j) = Heads.turned (Heads.normed (fun f => p (ix3 b n ⟨j.val / 64 * 64 + f.val, by omega⟩)) (fun f => gq (ix1 f)))
      (fun e => c (ix2 n e)) (fun e => s (ix2 n e)) ⟨j.val % 64, by omega⟩ := by
  pointwise [heads]
  refine (turned_at ..).trans ?_
  simp only [headNorm_at]
  pointwise

theorem queryFeatures_at (b : Fin 4) (n : Fin 8192) (j : Fin 1024) :
    queryFeatures x g w (ix3 b n j) = ∑ l : Fin 1024, Feed.normed (fun l => x (ix3 b n l)) (fun l => g (ix1 l)) l * w (ix2 l ⟨j.val, by omega⟩) := by
  pointwise [queryFeatures]
  refine (projected_at ..).trans ?_
  simp only [Nat.zero_add]

theorem keyFeatures_at (b : Fin 4) (n : Fin 8192) (j : Fin 1024) :
    keyFeatures x g w (ix3 b n j) = ∑ l : Fin 1024, Feed.normed (fun l => x (ix3 b n l)) (fun l => g (ix1 l)) l * w (ix2 l ⟨1024 + j.val, by omega⟩) := by
  pointwise [keyFeatures]
  exact projected_at ..

theorem valueFeatures_at (b : Fin 4) (n : Fin 8192) (j : Fin 1024) :
    valueFeatures x g w (ix3 b n j) = ∑ l : Fin 1024, Feed.normed (fun l => x (ix3 b n l)) (fun l => g (ix1 l)) l * w (ix2 l ⟨2048 + j.val, by omega⟩) := by
  pointwise [valueFeatures]
  exact projected_at ..

theorem queries_at (b : Fin 4) (n : Fin 64) (j : Fin 1024) (l : Fin 128) :
    queries x g w gq c s (ix5 b 0 n j l) = Heads.head (Feed.normed (fun k => x (ix3 b ⟨n.val * 128 + l.val, by omega⟩ k)) (fun k => g (ix1 k)))
      (fun k i => w (ix2 k ⟨i.val, by omega⟩)) (fun f => gq (ix1 f)) (fun e => c (ix2 ⟨n.val * 128 + l.val, by omega⟩ e))
      (fun e => s (ix2 ⟨n.val * 128 + l.val, by omega⟩ e)) j * Ideal.ofBits FTy.f32 0x3E38AA3B#32 := by
  unfold queries Heads.head
  rw [scaled_at, heads_at]
  simp only [queryFeatures_at]

theorem keys_at (b : Fin 4) (n : Fin 8192) (j : Fin 1024) :
    keys x g w gk c s (ix4 b 0 n j) = Heads.head (Feed.normed (fun k => x (ix3 b ⟨n.val, by omega⟩ k)) (fun k => g (ix1 k)))
      (fun k i => w (ix2 k ⟨1024 + i.val, by omega⟩)) (fun f => gk (ix1 f)) (fun e => c (ix2 ⟨n.val, by omega⟩ e))
      (fun e => s (ix2 ⟨n.val, by omega⟩ e)) j := by
  unfold keys Heads.head
  rw [streams_at, heads_at]
  simp only [keyFeatures_at]

theorem values_at (b : Fin 4) (n : Fin 64) (p : Fin 1152) (l : Fin 128) :
    values x g w (ix5 b 0 n p l) = Heads.withOnes (fun i => ∑ k, Feed.normed (fun k => x (ix3 b ⟨n.val * 128 + l.val, by omega⟩ k)) (fun k => g (ix1 k)) k
      * w (ix2 k ⟨2048 + i.val, by omega⟩)) p := by
  unfold values Heads.withOnes
  rw [rows_at, paired_at]
  simp only [pairs_at, valueFeatures_at]

end Cert.ProjReferenceIdeal.Mix

end
-- ==== Proof.ProjValue.lean ====
/-  The windowed mixer's projections: the queries, keys and values the call leaves are the reference's. -/
module

public import proofs.«01_k».proof.Proof.ProjBlock
public import proofs.«01_k».proof.Proof.ProjReference
public import proofs.«01_k».proof.Proof.Gen.ProjKernelIdeal.Value

@[expose] public section

set_option maxRecDepth 65536

noncomputable section

namespace Cert.ProjKernelIdeal.Mix

open Cert.ProjKernelIdeal Cert.ProjKernelIdeal.Gen
open Idealize.ShloMosaic Idealize.ShloMosaic.TcCoe Idealize.SL.Sem
open Idealize.ShloMosaic.Pipeline (Dat)

variable (m : (ℓ : Loc nD τ sig) → Buf (Elt Ideal) ℓ)

/-- The arguments. -/
abbrev argX (c : Dev nD) : FVec Ideal S4x8192x1024 .f32 := m ((c : Thread nD τ).loc main_arg0)
abbrev argG (c : Dev nD) : FVec Ideal S1024 .f32 := m ((c : Thread nD τ).loc main_arg1)
abbrev argW (c : Dev nD) : FVec Ideal S1024x3072 .f32 := m ((c : Thread nD τ).loc main_arg2)
abbrev argQ (c : Dev nD) : FVec Ideal S64 .f32 := m ((c : Thread nD τ).loc main_arg3)
abbrev argK (c : Dev nD) : FVec Ideal S64 .f32 := m ((c : Thread nD τ).loc main_arg4)
abbrev argC (c : Dev nD) : FVec Ideal S8192x8 .f32 := m ((c : Thread nD τ).loc main_arg5)
abbrev argS (c : Dev nD) : FVec Ideal S8192x8 .f32 := m ((c : Thread nD τ).loc main_arg6)

/-- The call's operands. -/
abbrev arrX (c : Dev nD) : FVec Ideal S4x8192x1024 .f32 := V m c main_arg0
abbrev arrG (c : Dev nD) : FVec Ideal S1x1024 .f32 := V m c main_v8
abbrev arrW (c : Dev nD) : FVec Ideal S3072x1024 .bf16 := V m c main_v10
abbrev arrQ (c : Dev nD) : FVec Ideal S64x256 .f32 := V m c main_v5
abbrev arrK (c : Dev nD) : FVec Ideal S64x256 .f32 := V m c main_v7
abbrev arrC (c : Dev nD) : FVec Ideal S1x8x8192 .f32 := V m c main_v1
abbrev arrS (c : Dev nD) : FVec Ideal S1x8x8192 .f32 := V m c main_v3

theorem g_at (c : Dev nD) (j : Fin 1024) : arrG m c (ix2 0 j) = argG m c (ix1 j) := by
  unfold arrG; entry_read; pointwise

theorem w_at (c : Dev nD) (k : Fin 3072) (l : Fin 1024) : arrW m c (ix2 k l) = argW m c (ix2 l k) := by
  unfold arrW; entry_read; pointwise

theorem gq_at (c : Dev nD) (f : Fin 64) (n : Fin 256) : arrQ m c (ix2 f n) = argQ m c (ix1 f) := by
  unfold arrQ; entry_read; pointwise

theorem gk_at (c : Dev nD) (f : Fin 64) (n : Fin 256) : arrK m c (ix2 f n) = argK m c (ix1 f) := by
  unfold arrK; entry_read; pointwise

theorem cos_at (c : Dev nD) (r : Fin 1) (e : Fin 8) (n : Fin 8192) : arrC m c (ix3 r e n) = argC m c (ix2 ⟨n.val * 1 + r.val, by omega⟩ e) := by
  unfold arrC; entry_read; pointwise

theorem sin_at (c : Dev nD) (r : Fin 1) (e : Fin 8) (n : Fin 8192) : arrS m c (ix3 r e n) = argS m c (ix2 ⟨n.val * 1 + r.val, by omega⟩ e) := by
  unfold arrS; entry_read; pointwise

theorem idx_slab : ∀ t : Fin cfg0.N, win0_0.index t = ![t.val / 8, t.val % 8, 0] ∧ win0_1.index t = ![t.val / 8, t.val % 8, 1] ∧ win0_2.index t = ![t.val / 8, t.val % 8, 2] ∧ win0_3.index t = ![t.val / 8, t.val % 8, 3] ∧ win0_4.index t = ![t.val / 8, t.val % 8, 4] ∧ win0_5.index t = ![t.val / 8, t.val % 8, 5] ∧ win0_6.index t = ![t.val / 8, t.val % 8, 6] ∧ win0_7.index t = ![t.val / 8, t.val % 8, 7] :=
  (by decide +kernel : ∀ t : Fin grid0.N, _)

theorem idx_whole : ∀ t : Fin cfg0.N, win0_8.index t = ![0, 0] ∧ win0_9.index t = ![0, 0] ∧ win0_10.index t = ![0, 0] ∧ win0_11.index t = ![0, 0] :=
  (by decide +kernel : ∀ t : Fin grid0.N, _)

theorem idx_tiles : ∀ t : Fin cfg0.N, win0_12.index t = ![0, 0, t.val % 8] ∧ win0_13.index t = ![0, 0, t.val % 8]
    ∧ win0_14.index t = ![t.val / 8, 0, t.val % 8, 0, 0] ∧ win0_15.index t = ![t.val / 8, 0, t.val % 8, 0]
    ∧ win0_16.index t = ![t.val / 8, 0, t.val % 8, 0, 0] :=
  (by decide +kernel : ∀ t : Fin grid0.N, _)

theorem blkX0_at (c : Dev nD) (n : Fin 32) (h : n.val < cfg0.N) (r : Fin 1024) (l : Fin 128) :
    iblk m c 0 ⟨n.val, h⟩ (ix3 0 r l) = arrX m c (ix3 ⟨n.val / 8, by omega⟩ ⟨n.val % 8 * 1024 + r.val, by omega⟩ ⟨0 * 128 + l.val, by omega⟩) := by
  have e := (idx_slab ⟨n.val, h⟩).1
  unfold iblk; blk_ext [e]

theorem blkX1_at (c : Dev nD) (n : Fin 32) (h : n.val < cfg0.N) (r : Fin 1024) (l : Fin 128) :
    iblk m c 1 ⟨n.val, h⟩ (ix3 0 r l) = arrX m c (ix3 ⟨n.val / 8, by omega⟩ ⟨n.val % 8 * 1024 + r.val, by omega⟩ ⟨1 * 128 + l.val, by omega⟩) := by
  have e := (idx_slab ⟨n.val, h⟩).2.1
  unfold iblk; blk_ext [e]

theorem blkX2_at (c : Dev nD) (n : Fin 32) (h : n.val < cfg0.N) (r : Fin 1024) (l : Fin 128) :
    iblk m c 2 ⟨n.val, h⟩ (ix3 0 r l) = arrX m c (ix3 ⟨n.val / 8, by omega⟩ ⟨n.val % 8 * 1024 + r.val, by omega⟩ ⟨2 * 128 + l.val, by omega⟩) := by
  have e := (idx_slab ⟨n.val, h⟩).2.2.1
  unfold iblk; blk_ext [e]

theorem blkX3_at (c : Dev nD) (n : Fin 32) (h : n.val < cfg0.N) (r : Fin 1024) (l : Fin 128) :
    iblk m c 3 ⟨n.val, h⟩ (ix3 0 r l) = arrX m c (ix3 ⟨n.val / 8, by omega⟩ ⟨n.val % 8 * 1024 + r.val, by omega⟩ ⟨3 * 128 + l.val, by omega⟩) := by
  have e := (idx_slab ⟨n.val, h⟩).2.2.2.1
  unfold iblk; blk_ext [e]

theorem blkX4_at (c : Dev nD) (n : Fin 32) (h : n.val < cfg0.N) (r : Fin 1024) (l : Fin 128) :
    iblk m c 4 ⟨n.val, h⟩ (ix3 0 r l) = arrX m c (ix3 ⟨n.val / 8, by omega⟩ ⟨n.val % 8 * 1024 + r.val, by omega⟩ ⟨4 * 128 + l.val, by omega⟩) := by
  have e := (idx_slab ⟨n.val, h⟩).2.2.2.2.1
  unfold iblk; blk_ext [e]

theorem blkX5_at (c : Dev nD) (n : Fin 32) (h : n.val < cfg0.N) (r : Fin 1024) (l : Fin 128) :
    iblk m c 5 ⟨n.val, h⟩ (ix3 0 r l) = arrX m c (ix3 ⟨n.val / 8, by omega⟩ ⟨n.val % 8 * 1024 + r.val, by omega⟩ ⟨5 * 128 + l.val, by omega⟩) := by
  have e := (idx_slab ⟨n.val, h⟩).2.2.2.2.2.1
  unfold iblk; blk_ext [e]

theorem blkX6_at (c : Dev nD) (n : Fin 32) (h : n.val < cfg0.N) (r : Fin 1024) (l : Fin 128) :
    iblk m c 6 ⟨n.val, h⟩ (ix3 0 r l) = arrX m c (ix3 ⟨n.val / 8, by omega⟩ ⟨n.val % 8 * 1024 + r.val, by omega⟩ ⟨6 * 128 + l.val, by omega⟩) := by
  have e := (idx_slab ⟨n.val, h⟩).2.2.2.2.2.2.1
  unfold iblk; blk_ext [e]

theorem blkX7_at (c : Dev nD) (n : Fin 32) (h : n.val < cfg0.N) (r : Fin 1024) (l : Fin 128) :
    iblk m c 7 ⟨n.val, h⟩ (ix3 0 r l) = arrX m c (ix3 ⟨n.val / 8, by omega⟩ ⟨n.val % 8 * 1024 + r.val, by omega⟩ ⟨7 * 128 + l.val, by omega⟩) := by
  have e := (idx_slab ⟨n.val, h⟩).2.2.2.2.2.2.2
  unfold iblk; blk_ext [e]

theorem blkG_at (c : Dev nD) (t : Fin cfg0.N) (j : Fin 1024) : iblk m c 8 t (ix2 0 j) = arrG m c (ix2 0 j) := by
  have e := (idx_whole t).1
  unfold iblk; blk_ext [e]

theorem blkW_at (c : Dev nD) (t : Fin cfg0.N) (k : Fin 3072) (l : Fin 1024) : iblk m c 9 t (ix2 k l) = arrW m c (ix2 k l) := by
  have e := (idx_whole t).2.1
  unfold iblk; blk_ext [e]

theorem blkQ_at (c : Dev nD) (t : Fin cfg0.N) (f : Fin 64) (n : Fin 256) : iblk m c 10 t (ix2 f n) = arrQ m c (ix2 f n) := by
  have e := (idx_whole t).2.2.1
  unfold iblk; blk_ext [e]

theorem blkK_at (c : Dev nD) (t : Fin cfg0.N) (f : Fin 64) (n : Fin 256) : iblk m c 11 t (ix2 f n) = arrK m c (ix2 f n) := by
  have e := (idx_whole t).2.2.2
  unfold iblk; blk_ext [e]

theorem blkC_at (c : Dev nD) (n : Fin 32) (h : n.val < cfg0.N) (r : Fin 1) (e : Fin 8) (i : Fin 1024) :
    iblk m c 12 ⟨n.val, h⟩ (ix3 r e i) = arrC m c (ix3 r e ⟨n.val % 8 * 1024 + i.val, by omega⟩) := by
  have e := (idx_tiles ⟨n.val, h⟩).1
  unfold iblk; blk_ext [e]

theorem blkS_at (c : Dev nD) (n : Fin 32) (h : n.val < cfg0.N) (r : Fin 1) (e : Fin 8) (i : Fin 1024) :
    iblk m c 13 ⟨n.val, h⟩ (ix3 r e i) = arrS m c (ix3 r e ⟨n.val % 8 * 1024 + i.val, by omega⟩) := by
  have e := (idx_tiles ⟨n.val, h⟩).2.1
  unfold iblk; blk_ext [e]

theorem weights_at (c : Dev nD) (t : Fin cfg0.N) (k : Fin 3072) (l : Fin 1024) : iblk m c 9 t (ix2 k l) = argW m c (ix2 l k) :=
  (blkW_at ..).trans (w_at ..)

theorem gainQ_at (c : Dev nD) (t : Fin cfg0.N) (f : Fin 64) (n : Fin 256) : iblk m c 10 t (ix2 f n) = argQ m c (ix1 f) :=
  (blkQ_at ..).trans (gq_at ..)

theorem gainK_at (c : Dev nD) (t : Fin cfg0.N) (f : Fin 64) (n : Fin 256) : iblk m c 11 t (ix2 f n) = argK m c (ix1 f) :=
  (blkK_at ..).trans (gk_at ..)

theorem slab_at (c : Dev nD) (n : Fin 32) (h : n.val < cfg0.N) (r : Fin 1024) (l : Fin 1024) :
    slab (iblk m c 0 ⟨n.val, h⟩) (iblk m c 1 ⟨n.val, h⟩) (iblk m c 2 ⟨n.val, h⟩) (iblk m c 3 ⟨n.val, h⟩) (iblk m c 4 ⟨n.val, h⟩) (iblk m c 5 ⟨n.val, h⟩) (iblk m c 6 ⟨n.val, h⟩) (iblk m c 7 ⟨n.val, h⟩) r l = argX m c (ix3 ⟨n.val / 8, by omega⟩ ⟨n.val % 8 * 1024 + r.val, by omega⟩ l) := by
  have key : ∀ (k : Fin 8) (i : Fin 128),
      (![iblk m c 0 ⟨n.val, h⟩, iblk m c 1 ⟨n.val, h⟩, iblk m c 2 ⟨n.val, h⟩, iblk m c 3 ⟨n.val, h⟩, iblk m c 4 ⟨n.val, h⟩, iblk m c 5 ⟨n.val, h⟩, iblk m c 6 ⟨n.val, h⟩, iblk m c 7 ⟨n.val, h⟩] : Fin 8 → Vec Ideal S1x1024x128 .f32) k (ix3 0 r i)
        = arrX m c (ix3 ⟨n.val / 8, by omega⟩ ⟨n.val % 8 * 1024 + r.val, by omega⟩ ⟨k.val * 128 + i.val, by omega⟩) := by
    intro k i
    fin_cases k
    · exact blkX0_at m c n h r i
    · exact blkX1_at m c n h r i
    · exact blkX2_at m c n h r i
    · exact blkX3_at m c n h r i
    · exact blkX4_at m c n h r i
    · exact blkX5_at m c n h r i
    · exact blkX6_at m c n h r i
    · exact blkX7_at m c n h r i
  refine (key ⟨l.val / 128, by omega⟩ ⟨l.val % 128, by omega⟩).trans ?_
  refine (congrArg (arrX m c) ?_).trans (congrFun (V_main_arg0 m c) _)
  exact congrArg (ix3 _ _) (Fin.ext (by dsimp only; omega))

theorem row_at (c : Dev nD) (n : Fin 32) (h : n.val < cfg0.N) (r : Fin 1024) :
    row (iblk m c 0 ⟨n.val, h⟩) (iblk m c 1 ⟨n.val, h⟩) (iblk m c 2 ⟨n.val, h⟩) (iblk m c 3 ⟨n.val, h⟩) (iblk m c 4 ⟨n.val, h⟩) (iblk m c 5 ⟨n.val, h⟩) (iblk m c 6 ⟨n.val, h⟩) (iblk m c 7 ⟨n.val, h⟩) (iblk m c 8 ⟨n.val, h⟩) r = Feed.normed (fun l => argX m c (ix3 ⟨n.val / 8, by omega⟩ ⟨n.val % 8 * 1024 + r.val, by omega⟩ l)) (fun l => argG m c (ix1 l)) := by
  unfold row
  refine congrArg₂ Feed.normed (funext fun l => ?_) (funext fun l => ?_)
  · exact slab_at m c n h r l
  · exact (blkG_at ..).trans (g_at ..)

theorem tabC_at (c : Dev nD) (n : Fin 32) (h : n.val < cfg0.N) (r : Fin 1) (e : Fin 8) (i : Fin 1024) :
    iblk m c 12 ⟨n.val, h⟩ (ix3 r e i) = argC m c (ix2 ⟨n.val % 8 * 1024 + (i.val * 1 + r.val), by omega⟩ e) := by
  refine (blkC_at ..).trans ((cos_at ..).trans ?_)
  refine congrArg (argC m c) (congrArg (fun a => ix2 a e) (Fin.ext ?_))
  dsimp only; omega

theorem tabS_at (c : Dev nD) (n : Fin 32) (h : n.val < cfg0.N) (r : Fin 1) (e : Fin 8) (i : Fin 1024) :
    iblk m c 13 ⟨n.val, h⟩ (ix3 r e i) = argS m c (ix2 ⟨n.val % 8 * 1024 + (i.val * 1 + r.val), by omega⟩ e) := by
  refine (blkS_at ..).trans ((sin_at ..).trans ?_)
  refine congrArg (argS m c) (congrArg (fun a => ix2 a e) (Fin.ext ?_))
  dsimp only; omega

theorem q_row (c : Dev nD) (n : Fin 32) (h : n.val < cfg0.N) (r : Fin 1) (i : Fin 1024) (k : Fin 1024) :
    qAt (iblk m c 0 ⟨n.val, h⟩) (iblk m c 1 ⟨n.val, h⟩) (iblk m c 2 ⟨n.val, h⟩) (iblk m c 3 ⟨n.val, h⟩) (iblk m c 4 ⟨n.val, h⟩) (iblk m c 5 ⟨n.val, h⟩) (iblk m c 6 ⟨n.val, h⟩) (iblk m c 7 ⟨n.val, h⟩) (iblk m c 8 ⟨n.val, h⟩) (iblk m c 9 ⟨n.val, h⟩) (iblk m c 10 ⟨n.val, h⟩) (iblk m c 12 ⟨n.val, h⟩) (iblk m c 13 ⟨n.val, h⟩) ⟨i.val * 1 + r.val, by omega⟩ r i k
      = Heads.head (Feed.normed (fun l => argX m c (ix3 ⟨n.val / 8, by omega⟩ ⟨n.val % 8 * 1024 + (i.val * 1 + r.val), by omega⟩ l)) (fun l => argG m c (ix1 l))) (fun l j => argW m c (ix2 l ⟨j.val, by omega⟩)) (fun f => argQ m c (ix1 f))
          (fun e => argC m c (ix2 ⟨n.val % 8 * 1024 + (i.val * 1 + r.val), by omega⟩ e)) (fun e => argS m c (ix2 ⟨n.val % 8 * 1024 + (i.val * 1 + r.val), by omega⟩ e)) k * Ideal.ofBits FTy.f32 0x3E38AA3B#32 := by
  unfold qAt
  simp only [row_at m c n h, weights_at, gainQ_at, tabC_at m c n h, tabS_at m c n h]

theorem k_row (c : Dev nD) (n : Fin 32) (h : n.val < cfg0.N) (r : Fin 1) (i : Fin 1024) (k : Fin 1024) :
    kAt (iblk m c 0 ⟨n.val, h⟩) (iblk m c 1 ⟨n.val, h⟩) (iblk m c 2 ⟨n.val, h⟩) (iblk m c 3 ⟨n.val, h⟩) (iblk m c 4 ⟨n.val, h⟩) (iblk m c 5 ⟨n.val, h⟩) (iblk m c 6 ⟨n.val, h⟩) (iblk m c 7 ⟨n.val, h⟩) (iblk m c 8 ⟨n.val, h⟩) (iblk m c 9 ⟨n.val, h⟩) (iblk m c 11 ⟨n.val, h⟩) (iblk m c 12 ⟨n.val, h⟩) (iblk m c 13 ⟨n.val, h⟩) ⟨i.val * 1 + r.val, by omega⟩ r i k
      = Heads.head (Feed.normed (fun l => argX m c (ix3 ⟨n.val / 8, by omega⟩ ⟨n.val % 8 * 1024 + (i.val * 1 + r.val), by omega⟩ l)) (fun l => argG m c (ix1 l))) (fun l j => argW m c (ix2 l ⟨1024 + j.val, by omega⟩)) (fun f => argK m c (ix1 f))
          (fun e => argC m c (ix2 ⟨n.val % 8 * 1024 + (i.val * 1 + r.val), by omega⟩ e)) (fun e => argS m c (ix2 ⟨n.val % 8 * 1024 + (i.val * 1 + r.val), by omega⟩ e)) k := by
  unfold kAt
  simp only [row_at m c n h, weights_at, gainK_at, tabC_at m c n h, tabS_at m c n h]

theorem v_row (c : Dev nD) (n : Fin 32) (h : n.val < cfg0.N) (r : Fin 1) (i : Fin 1024) (p : Fin 1152) :
    vAt (iblk m c 0 ⟨n.val, h⟩) (iblk m c 1 ⟨n.val, h⟩) (iblk m c 2 ⟨n.val, h⟩) (iblk m c 3 ⟨n.val, h⟩) (iblk m c 4 ⟨n.val, h⟩) (iblk m c 5 ⟨n.val, h⟩) (iblk m c 6 ⟨n.val, h⟩) (iblk m c 7 ⟨n.val, h⟩) (iblk m c 8 ⟨n.val, h⟩) (iblk m c 9 ⟨n.val, h⟩) ⟨i.val * 1 + r.val, by omega⟩ p
      = Heads.withOnes (fun j => ∑ l, Feed.normed (fun l => argX m c (ix3 ⟨n.val / 8, by omega⟩ ⟨n.val % 8 * 1024 + (i.val * 1 + r.val), by omega⟩ l)) (fun l => argG m c (ix1 l)) l * argW m c (ix2 l ⟨2048 + j.val, by omega⟩)) p := by
  unfold vAt
  simp only [row_at m c n h, weights_at]

/-- The reference's results. -/
abbrev goalQ (c : Dev nD) : FVec Ideal S4x1x64x1024x128 .bf16 :=
  Cert.ProjReferenceIdeal.Mix.queries (argX m c) (argG m c) (argW m c) (argQ m c) (argC m c) (argS m c)
abbrev goalK (c : Dev nD) : FVec Ideal S4x1x8192x1024 .bf16 :=
  Cert.ProjReferenceIdeal.Mix.keys (argX m c) (argG m c) (argW m c) (argK m c) (argC m c) (argS m c)
abbrev goalV (c : Dev nD) : FVec Ideal S4x1x64x1152x128 .bf16 :=
  Cert.ProjReferenceIdeal.Mix.values (argX m c) (argG m c) (argW m c)

theorem final_q (c : Dev nD) : (dats m 0 c).arrAt 14 cfg0.N = goalQ m c := by
  have hN : cfg0.N = 32 := N_0
  refine (dats m 0 c).arrAt_eq_of_covers 14 _ (by decide +kernel) fun t hf y => ?_
  have e := (idx_tiles t).2.2.1
  have ht : t.val < 32 := t.isLt.trans_eq hN
  blk_simp
  rw [after0_14]
  idx_vars y
  obtain rfl : y0 = 0 := Subsingleton.elim _ _
  obtain rfl : y1 = 0 := Subsingleton.elim _ _
  refine (out14_at _ _ _ _ _ _ _ _ _ _ _ _ _ _ y2 y3 y4).trans ?_
  refine (q_row m c ⟨t.val, ht⟩ t.isLt 0 ⟨y2.val * 128 + y4.val, by omega⟩ y3).trans ?_
  refine Eq.trans ?_ (Eq.trans (Cert.ProjReferenceIdeal.Mix.queries_at (argX m c) (argG m c) (argW m c) (argQ m c) (argC m c) (argS m c) ⟨t.val / 8, by omega⟩ ⟨t.val % 8 * 8 + y2.val, by omega⟩ y3 y4).symm ?_)
  · have en : (⟨t.val % 8 * 1024 + ((y2.val * 128 + y4.val) * 1 + 0), by omega⟩ : Fin 8192) = ⟨((t.val % 8 * 8 + y2.val) * 128 + y4.val), by omega⟩ := Fin.ext (by dsimp only; omega)
    exact congrArg (fun a : Fin 8192 => Heads.head (Feed.normed (fun l => argX m c (ix3 ⟨t.val / 8, by omega⟩ a l)) (fun l => argG m c (ix1 l))) (fun l j => argW m c (ix2 l ⟨j.val, by omega⟩)) (fun f => argQ m c (ix1 f)) (fun e => argC m c (ix2 a e)) (fun e => argS m c (ix2 a e)) y3 * Ideal.ofBits FTy.f32 0x3E38AA3B#32) en
  · refine congrArg (goalQ m c) ?_
    blk_ext [e]

theorem final_k (c : Dev nD) : (dats m 0 c).arrAt 15 cfg0.N = goalK m c := by
  have hN : cfg0.N = 32 := N_0
  refine (dats m 0 c).arrAt_eq_of_covers 15 _ (by decide +kernel) fun t hf y => ?_
  have e := (idx_tiles t).2.2.2.1
  have ht : t.val < 32 := t.isLt.trans_eq hN
  blk_simp
  rw [after0_15]
  idx_vars y
  obtain rfl : y0 = 0 := Subsingleton.elim _ _
  obtain rfl : y1 = 0 := Subsingleton.elim _ _
  refine (out15_at _ _ _ _ _ _ _ _ _ _ _ _ _ _ y2 y3).trans ?_
  refine (k_row m c ⟨t.val, ht⟩ t.isLt 0 y2 y3).trans ?_
  refine Eq.trans ?_ (Eq.trans (Cert.ProjReferenceIdeal.Mix.keys_at (argX m c) (argG m c) (argW m c) (argK m c) (argC m c) (argS m c) ⟨t.val / 8, by omega⟩ ⟨t.val % 8 * 1024 + y2.val, by omega⟩ y3).symm ?_)
  · have en : (⟨t.val % 8 * 1024 + (y2.val * 1 + 0), by omega⟩ : Fin 8192) = ⟨(t.val % 8 * 1024 + y2.val), by omega⟩ := Fin.ext (by dsimp only; omega)
    exact congrArg (fun a : Fin 8192 => Heads.head (Feed.normed (fun l => argX m c (ix3 ⟨t.val / 8, by omega⟩ a l)) (fun l => argG m c (ix1 l))) (fun l j => argW m c (ix2 l ⟨1024 + j.val, by omega⟩)) (fun f => argK m c (ix1 f)) (fun e => argC m c (ix2 a e)) (fun e => argS m c (ix2 a e)) y3) en
  · refine congrArg (goalK m c) ?_
    blk_ext [e]

theorem final_v (c : Dev nD) : (dats m 0 c).arrAt 16 cfg0.N = goalV m c := by
  have hN : cfg0.N = 32 := N_0
  refine (dats m 0 c).arrAt_eq_of_covers 16 _ (by decide +kernel) fun t hf y => ?_
  have e := (idx_tiles t).2.2.2.2
  have ht : t.val < 32 := t.isLt.trans_eq hN
  blk_simp
  rw [after0_16]
  idx_vars y
  obtain rfl : y0 = 0 := Subsingleton.elim _ _
  obtain rfl : y1 = 0 := Subsingleton.elim _ _
  refine (out16_at _ _ _ _ _ _ _ _ _ _ _ _ _ _ y2 y3 y4).trans ?_
  refine (v_row m c ⟨t.val, ht⟩ t.isLt 0 ⟨y2.val * 128 + y4.val, by omega⟩ y3).trans ?_
  refine Eq.trans ?_ (Eq.trans (Cert.ProjReferenceIdeal.Mix.values_at (argX m c) (argG m c) (argW m c) ⟨t.val / 8, by omega⟩ ⟨t.val % 8 * 8 + y2.val, by omega⟩ y3 y4).symm ?_)
  · have en : (⟨t.val % 8 * 1024 + ((y2.val * 128 + y4.val) * 1 + 0), by omega⟩ : Fin 8192) = ⟨((t.val % 8 * 8 + y2.val) * 128 + y4.val), by omega⟩ := Fin.ext (by dsimp only; omega)
    exact congrArg (fun a : Fin 8192 => Heads.withOnes (fun j => ∑ l, Feed.normed (fun l => argX m c (ix3 ⟨t.val / 8, by omega⟩ a l)) (fun l => argG m c (ix1 l)) l * argW m c (ix2 l ⟨2048 + j.val, by omega⟩)) y3) en
  · refine congrArg (goalV m c) ?_
    blk_ext [e]

end Cert.ProjKernelIdeal.Mix

namespace Cert.ProjReferenceIdeal.Mix

open Cert.ProjReferenceIdeal Cert.ProjReferenceIdeal.Gen
open Idealize.ShloMosaic Idealize.ShloMosaic.TcCoe Idealize.SL.Sem

/-- Turned features and the others, side by side. -/
def joined (a b : FVec Ideal S4x8192x16x8 .f32) (d : FVec Ideal S4x8192x16x48 .f32) : FVec Ideal S4x8192x1024 .f32 :=
  shapeCast S4x8192x1024 (concatenate S4x8192x16x64 3 [⟨S4x8192x16x8, a⟩, ⟨S4x8192x16x8, b⟩, ⟨S4x8192x16x48, d⟩]
    concatenates_S4x8192x16x8_S4x8192x16x8_S4x8192x16x48_S4x8192x16x64_d3) shapeCasts_S4x8192x16x64_S4x8192x1024

/-- Pairs and their further rows. -/
def stacked (p : FVec Ideal S4x1x64x8x128x128 .f32) (o : FVec Ideal S4x1x64x8x1x128 .f32) (z : FVec Ideal S4x1x64x8x15x128 .f32) : FVec Ideal S4x1x64x8x144x128 .f32 :=
  concatenate S4x1x64x8x144x128 4 [⟨S4x1x64x8x128x128, p⟩, ⟨S4x1x64x8x1x128, o⟩, ⟨S4x1x64x8x15x128, z⟩]
    concatenates_S4x1x64x8x128x128_S4x1x64x8x1x128_S4x1x64x8x15x128_S4x1x64x8x144x128_d4

/-- The three pieces of a heads' concatenation. -/
def firstTurned (t : FVec Ideal S4x8192x16x64 .f32) (c s : FVec Ideal S8192x8 .f32) : FVec Ideal S4x8192x16x8 .f32 := subf (mulf (first t) (table c)) (mulf (second t) (table s))
def secondTurned (t : FVec Ideal S4x8192x16x64 .f32) (c s : FVec Ideal S8192x8 .f32) : FVec Ideal S4x8192x16x8 .f32 := addf (mulf (second t) (table c)) (mulf (first t) (table s))
def others (t : FVec Ideal S4x8192x16x64 .f32) : FVec Ideal S4x8192x16x48 .f32 := extractStridedSlice S4x8192x16x48 ![0, 0, 0, 16] t slices_S4x8192x16x64_S4x8192x16x48_0_0_0_16
def oneRow : FVec Ideal S4x1x64x8x1x128 .f32 := broadcastInDim S4x1x64x8x1x128 ![] bcast_S_S4x1x64x8x1x128 (constant S_ .f32 0x3F800000#32)
def zeroRows : FVec Ideal S4x1x64x8x15x128 .f32 := broadcastInDim S4x1x64x8x15x128 ![] bcast_S_S4x1x64x8x15x128 (constant S_ .f32 0x00000000#32)
def headsOf (p : FVec Ideal S4x8192x1024 .f32) (gain : FVec Ideal S64 .f32) : FVec Ideal S4x8192x16x64 .f32 := headNorm (shapeCast S4x8192x16x64 p shapeCasts_S4x8192x1024_S4x8192x16x64) gain
def scaled (p : FVec Ideal S4x8192x1024 .f32) : FVec Ideal S4x8192x1024 .f32 := mulf p (broadcastInDim S4x8192x1024 ![] bcast_S_S4x8192x1024 (constant S_ .f32 0x3E38AA3B#32))

theorem queries_pieces (x : FVec Ideal S4x8192x1024 .f32) (g : FVec Ideal S1024 .f32) (w : FVec Ideal S1024x3072 .f32) (gq : FVec Ideal S64 .f32) (c s : FVec Ideal S8192x8 .f32) :
    blocks (scaled (joined (firstTurned (headsOf (queryFeatures x g w) gq) c s) (secondTurned (headsOf (queryFeatures x g w) gq) c s) (others (headsOf (queryFeatures x g w) gq)))) = queries x g w gq c s := rfl
theorem keys_pieces (x : FVec Ideal S4x8192x1024 .f32) (g : FVec Ideal S1024 .f32) (w : FVec Ideal S1024x3072 .f32) (gk : FVec Ideal S64 .f32) (c s : FVec Ideal S8192x8 .f32) :
    streams (joined (firstTurned (headsOf (keyFeatures x g w) gk) c s) (secondTurned (headsOf (keyFeatures x g w) gk) c s) (others (headsOf (keyFeatures x g w) gk))) = keys x g w gk c s := rfl
theorem values_pieces (x : FVec Ideal S4x8192x1024 .f32) (g : FVec Ideal S1024 .f32) (w : FVec Ideal S1024x3072 .f32) :
    rows (stacked (pairs (valueFeatures x g w)) oneRow zeroRows) = values x g w := rfl

end Cert.ProjReferenceIdeal.Mix

end
-- ==== Proof.Proj4Tile.lean ====
/-  The tiles of the windowed mixer's projections, entry by entry: normalised rows, projected features, heads and pairs of heads. -/
module

public import proofs.«01_k».proof.Proof.Gen.Proj4KernelIdeal.Frame
public import proofs.«01_k».proof.Proof.Heads
public import Idealize.ShloMosaic.Lib.Pointwise

@[expose] public section

set_option maxRecDepth 65536

noncomputable section

namespace Cert.Proj4KernelIdeal.Mix

open Cert.Proj4KernelIdeal Cert.Proj4KernelIdeal.Gen
open Idealize.ShloMosaic Idealize.ShloMosaic.TcCoe Idealize.SL.Sem

/-- Eight slabs of features, side by side. -/
def cat (v0 v1 v2 v3 v4 v5 v6 v7 : FVec Ideal S256x128 .f32) : FVec Ideal S256x1024 .f32 :=
  concatenate S256x1024 1 [⟨S256x128, v0⟩, ⟨S256x128, v1⟩, ⟨S256x128, v2⟩, ⟨S256x128, v3⟩, ⟨S256x128, v4⟩, ⟨S256x128, v5⟩, ⟨S256x128, v6⟩, ⟨S256x128, v7⟩]
    concatenates_S256x128_S256x128_S256x128_S256x128_S256x128_S256x128_S256x128_S256x128_S256x1024_d1

/-- The rows, normalised. -/
def nrm (a : FVec Ideal S256x1024 .f32) (g : Vec Ideal S1x1024 .f32) : FVec Ideal S256x1024 .bf16 :=
  truncf .bf16 (mulf (mulf a (broadcastTo S256x1024 (rsqrt (addf (divf (shapeCast S256x1
        (multiReduction .add [1] S256 (mulf a a) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 (shapeCast S1x1024 g shapeCasts_S1x1024_S1x1024) broadcasts_S1x1024_S256x1024)) bitsLt_bf16_f32

/-- Projected features, features first. -/
def dot (y : FVec Ideal S256x1024 .bf16) (w : Vec Ideal S1024x1024 .bf16) : FVec Ideal S1024x256 .f32 :=
  matmul dot_S1024x1024_S256x1024_S1024x256_1_1_0_0_n_n none (shapeCast S1024x1024 w shapeCasts_S1024x1024_S1024x1024 : FVec Ideal S1024x1024 .bf16) y (constant S1024x256 .f32 0x00000000#32)

/-- Heads, normalised. -/
def hnorm (t : FVec Ideal S1024x256 .f32) (gain : Vec Ideal S64x256 .f32) : FVec Ideal S16x64x256 .f32 := k0_pay23 t gain

/-- A table of the rotation, over heads. -/
def table (c : FVec Ideal S8x256 .f32) : FVec Ideal S16x8x256 .f32 :=
  broadcastTo S16x8x256 (shapeCast S1x8x256 c shapeCasts_S8x256_S1x8x256) broadcasts_S1x8x256_S16x8x256

def first (a : FVec Ideal S16x64x256 .f32) : FVec Ideal S16x8x256 .f32 := extractStridedSlice S16x8x256 ![0, 0, 0] a slices_S16x64x256_o0_0_0_S16x8x256
def second (a : FVec Ideal S16x64x256 .f32) : FVec Ideal S16x8x256 .f32 := extractStridedSlice S16x8x256 ![0, 8, 0] a slices_S16x64x256_o0_8_0_S16x8x256

/-- Heads, turned. -/
def turn (a : FVec Ideal S16x64x256 .f32) (c s : FVec Ideal S8x256 .f32) : FVec Ideal S16x64x256 .f32 :=
  concatenate S16x64x256 1 [⟨S16x8x256, subf (mulf (first a) (table c)) (mulf (second a) (table s))⟩,
    ⟨S16x8x256, addf (mulf (second a) (table c)) (mulf (first a) (table s))⟩,
    ⟨S16x48x256, extractStridedSlice S16x48x256 ![0, 16, 0] a slices_S16x64x256_o0_16_0_S16x48x256⟩]
    concatenates_S16x8x256_S16x8x256_S16x48x256_S16x64x256_d1

/-- Queries, times the softmax's scale. -/
def qTile (a : FVec Ideal S16x64x256 .f32) : FVec Ideal S1024x256 .bf16 :=
  truncf .bf16 (shapeCast S1024x256 (mulf a (broadcast S16x64x256 (Scalar.ofBits .f32 0x3E38AA3B#32))) shapeCasts_S16x64x256_S1024x256) bitsLt_bf16_f32

/-- Keys, tokens first. -/
def kRows (a : FVec Ideal S16x64x256 .f32) : FVec Ideal S256x1024 .bf16 :=
  truncf .bf16 (transpose S256x1024 [1, 0] (shapeCast S1024x256 a shapeCasts_S16x64x256_S1024x256) transposes_S1024x256_p1_0_S256x1024) bitsLt_bf16_f32

/-- Pairs of heads with their ones. -/
def vPairs (t : FVec Ideal S8x128x256 .bf16) : FVec Ideal S8x144x256 .bf16 :=
  concatenate S8x144x256 1 [⟨S8x128x256, t⟩,
    ⟨S8x16x256, truncf .bf16 (sitofp .f32 (extui 32 (cmpi .eq (iota .tc S8x16x256 32 [1] iota_S8x16x256_d1_w32) (broadcast S8x16x256 0#32)) natLt_1_32)) bitsLt_bf16_f32⟩]
    concatenates_S8x128x256_S8x16x256_S8x144x256_d1

def vTile (t : FVec Ideal S1024x256 .f32) : FVec Ideal S1152x256 .bf16 :=
  shapeCast S1152x256 (vPairs (shapeCast S8x128x256 (truncf .bf16 t bitsLt_bf16_f32 : FVec Ideal S1024x256 .bf16) shapeCasts_S1024x256_S8x128x256)) shapeCasts_S8x144x256_S1152x256

theorem cat_at (v0 v1 v2 v3 v4 v5 v6 v7 : FVec Ideal S256x128 .f32) (r : Fin 256) (l : Fin 1024) :
    cat v0 v1 v2 v3 v4 v5 v6 v7 (ix2 r l) = (![v0, v1, v2, v3, v4, v5, v6, v7] : Fin 8 → FVec Ideal S256x128 .f32) ⟨l.val / 128, by omega⟩ (ix2 r ⟨l.val % 128, by omega⟩) := by
  pointwise [cat]
  have hl : l.val / 128 = 0 ∨ l.val / 128 = 1 ∨ l.val / 128 = 2 ∨ l.val / 128 = 3 ∨ l.val / 128 = 4 ∨ l.val / 128 = 5 ∨ l.val / 128 = 6 ∨ l.val / 128 = 7 := by omega
  rcases hl with h | h | h | h | h | h | h | h
  · rw [show (⟨l.val / 128, by omega⟩ : Fin 8) = 0 from Fin.ext h]
    rw [dif_pos (by omega)]
    exact congrArg (fun i => v0 (ix2 r i)) (Fin.ext (by dsimp only; omega))
  · rw [show (⟨l.val / 128, by omega⟩ : Fin 8) = 1 from Fin.ext h]
    rw [dif_neg (by omega), dif_pos (by omega)]
    exact congrArg (fun i => v1 (ix2 r i)) (Fin.ext (by dsimp only; omega))
  · rw [show (⟨l.val / 128, by omega⟩ : Fin 8) = 2 from Fin.ext h]
    rw [dif_neg (by omega), dif_neg (by omega), dif_pos (by omega)]
    exact congrArg (fun i => v2 (ix2 r i)) (Fin.ext (by dsimp only; omega))
  · rw [show (⟨l.val / 128, by omega⟩ : Fin 8) = 3 from Fin.ext h]
    rw [dif_neg (by omega), dif_neg (by omega), dif_neg (by omega), dif_pos (by omega)]
    exact congrArg (fun i => v3 (ix2 r i)) (Fin.ext (by dsimp only; omega))
  · rw [show (⟨l.val / 128, by omega⟩ : Fin 8) = 4 from Fin.ext h]
    rw [dif_neg (by omega), dif_neg (by omega), dif_neg (by omega), dif_neg (by omega), dif_pos (by omega)]
    exact congrArg (fun i => v4 (ix2 r i)) (Fin.ext (by dsimp only; omega))
  · rw [show (⟨l.val / 128, by omega⟩ : Fin 8) = 5 from Fin.ext h]
    rw [dif_neg (by omega), dif_neg (by omega), dif_neg (by omega), dif_neg (by omega), dif_neg (by omega), dif_pos (by omega)]
    exact congrArg (fun i => v5 (ix2 r i)) (Fin.ext (by dsimp only; omega))
  · rw [show (⟨l.val / 128, by omega⟩ : Fin 8) = 6 from Fin.ext h]
    rw [dif_neg (by omega), dif_neg (by omega), dif_neg (by omega), dif_neg (by omega), dif_neg (by omega), dif_neg (by omega), dif_pos (by omega)]
    exact congrArg (fun i => v6 (ix2 r i)) (Fin.ext (by dsimp only; omega))
  · rw [show (⟨l.val / 128, by omega⟩ : Fin 8) = 7 from Fin.ext h]
    rw [dif_neg (by omega), dif_neg (by omega), dif_neg (by omega), dif_neg (by omega), dif_neg (by omega), dif_neg (by omega), dif_neg (by omega)]
    exact congrArg (fun i => v7 (ix2 r i)) (Fin.ext (by dsimp only; omega))

theorem nrm_at (a : FVec Ideal S256x1024 .f32) (g : Vec Ideal S1x1024 .f32) (r : Fin 256) (j : Fin 1024) :
    nrm a g (ix2 r j) = Feed.normed (fun l => a (ix2 r l)) (fun l => g (ix2 0 l)) j := by
  pointwise [nrm]
  rfl

theorem dot_at (y : FVec Ideal S256x1024 .bf16) (w : Vec Ideal S1024x1024 .bf16) (k : Fin 1024) (n : Fin 256) :
    dot y w (ix2 k n) = ∑ l : Fin 1024, y (ix2 n l) * w (ix2 k l) := by
  pointwise [dot]
  refine Finset.sum_congr rfl fun l _ => ?_
  rw [mul_comm]

theorem hnorm_at (t : FVec Ideal S1024x256 .f32) (gain : Vec Ideal S64x256 .f32) (h : Fin 16) (f : Fin 64) (n : Fin 256) :
    hnorm t gain (ix3 h f n) = Heads.normed (fun f => t (ix2 ⟨h.val * 64 + f.val, by omega⟩ n)) (fun f => gain (ix2 f n)) f := by
  pointwise [hnorm, k0_pay23]
  rfl

theorem turn_at (a : FVec Ideal S16x64x256 .f32) (c s : FVec Ideal S8x256 .f32) (h : Fin 16) (f : Fin 64) (n : Fin 256) :
    turn a c s (ix3 h f n) = Heads.turned (fun f => a (ix3 h f n)) (fun e => c (ix2 e n)) (fun e => s (ix2 e n)) f := by
  pointwise [turn, first, second, table]
  unfold Heads.turned
  by_cases h₁ : f.val < 8
  · rw [dif_pos h₁, dif_pos h₁]
    simp only [Nat.add_comm 8]
  · rw [dif_neg h₁, dif_neg h₁]
    by_cases h₂ : f.val < 16
    · rw [dif_pos (show f.val - 8 < 8 by omega), dif_pos h₂]
      have e : 8 + (f.val - 8) = f.val := by omega
      simp only [e]
    · rw [dif_neg (show ¬f.val - 8 < 8 by omega), dif_neg h₂]
      have e : 16 + (f.val - 8 - 8) = f.val := by omega
      simp only [e]

theorem qTile_at (a : FVec Ideal S16x64x256 .f32) (k : Fin 1024) (n : Fin 256) :
    qTile a (ix2 k n) = a (ix3 ⟨k.val / 64, by omega⟩ ⟨k.val % 64, by omega⟩ n) * Ideal.ofBits FTy.f32 0x3E38AA3B#32 := by
  pointwise [qTile]

theorem kRows_at (a : FVec Ideal S16x64x256 .f32) (n : Fin 256) (k : Fin 1024) :
    kRows a (ix2 n k) = a (ix3 ⟨k.val / 64, by omega⟩ ⟨k.val % 64, by omega⟩ n) := by
  pointwise [kRows]

theorem ones_bits : ∀ i : Fin 16, IntOp.cmpi CmpIPredicate.eq (BitVec.ofNat 32 i.val) 0#32 = if i.val = 0 then 1#1 else 0#1 := by decide +kernel

theorem vPairs_at (t : FVec Ideal S8x128x256 .bf16) (h : Fin 8) (p : Fin 144) (n : Fin 256) :
    vPairs t (ix3 h p n) = if h' : p.val < 128 then t (ix3 h ⟨p.val, h'⟩ n) else if p.val = 128 then 1 else 0 := by
  pointwise [vPairs]
  by_cases h₁ : p.val < 128
  · rw [dif_pos h₁, dif_pos h₁]
  · rw [dif_neg h₁, dif_neg h₁, ones_bits ⟨p.val - 128, by omega⟩]
    by_cases h₂ : p.val = 128
    · rw [if_pos (show p.val - 128 = 0 by omega), if_pos h₂]
      show (((BitVec.setWidth 32 1#1).toInt : ℝ) : EReal) = 1
      rw [show (BitVec.setWidth 32 1#1).toInt = 1 from by decide]
      norm_num
    · rw [if_neg (show ¬p.val - 128 = 0 by omega), if_neg h₂]
      show (((BitVec.setWidth 32 0#1).toInt : ℝ) : EReal) = 0
      rw [show (BitVec.setWidth 32 0#1).toInt = 0 from by decide]
      norm_num

theorem vTile_at (t : FVec Ideal S1024x256 .f32) (p : Fin 1152) (n : Fin 256) :
    vTile t (ix2 p n) = Heads.withOnes (fun i => t (ix2 i n)) p := by
  unfold vTile Heads.withOnes
  pointwise
  refine (vPairs_at ..).trans ?_
  pointwise

end Cert.Proj4KernelIdeal.Mix

end
-- ==== Proof.Proj4Block.lean ====
/-  The blocks of the windowed mixer's projections, from the blocks of its operands, entry by entry. -/
module

public import proofs.«01_k».proof.Proof.Proj4Tile

@[expose] public section

set_option maxRecDepth 65536

noncomputable section

namespace Cert.Proj4KernelIdeal.Mix

open Cert.Proj4KernelIdeal Cert.Proj4KernelIdeal.Gen
open Idealize.ShloMosaic Idealize.ShloMosaic.TcCoe Idealize.SL.Sem

variable (x0 x1 x2 x3 x4 x5 x6 x7 : Vec Ideal S1x1024x128 .f32) (x8 : Vec Ideal S1x1024 .f32) (x9 : Vec Ideal S3072x1024 .bf16) (x10 x11 : Vec Ideal S64x256 .f32) (x12 x13 : Vec Ideal S4x8x256 .f32)

/-- The features of a token, from its eight slabs. -/
def slab (n l : Fin 1024) : EReal := (![x0, x1, x2, x3, x4, x5, x6, x7] : Fin 8 → Vec Ideal S1x1024x128 .f32) ⟨l.val / 128, by omega⟩ (ix3 0 n ⟨l.val % 128, by omega⟩)

/-- The normalised features of a token. -/
def row (n : Fin 1024) : Fin 1024 → EReal := Feed.normed (fun l => slab x0 x1 x2 x3 x4 x5 x6 x7 n l) (fun l => x8 (ix2 0 l))

/-- The query features of token `n`, the `i`th of residue `r`. -/
def qAt (n : Fin 1024) (r : Fin 4) (i : Fin 256) (k : Fin 1024) : EReal :=
  Heads.head (row x0 x1 x2 x3 x4 x5 x6 x7 x8 n) (fun l j => x9 (ix2 ⟨j.val, by omega⟩ l)) (fun f => x10 (ix2 f ⟨i.val % 256, by omega⟩))
    (fun e => x12 (ix3 r e i)) (fun e => x13 (ix3 r e i)) k * Ideal.ofBits FTy.f32 0x3E38AA3B#32

/-- The key features of token `n`, the `i`th of residue `r`. -/
def kAt (n : Fin 1024) (r : Fin 4) (i : Fin 256) (k : Fin 1024) : EReal :=
  Heads.head (row x0 x1 x2 x3 x4 x5 x6 x7 x8 n) (fun l j => x9 (ix2 ⟨1024 + j.val, by omega⟩ l)) (fun f => x11 (ix2 f ⟨i.val % 256, by omega⟩))
    (fun e => x12 (ix3 r e i)) (fun e => x13 (ix3 r e i)) k

/-- The value features of token `n`, with the rows of ones. -/
def vAt (n : Fin 1024) (p : Fin 1152) : EReal :=
  Heads.withOnes (fun j => ∑ l, row x0 x1 x2 x3 x4 x5 x6 x7 x8 n l * x9 (ix2 ⟨2048 + j.val, by omega⟩ l)) p

/-- Half of a tile's tokens. -/
def qLow (q : FVec Ideal S1024x256 .bf16) : FVec Ideal S1x1x1x1024x128 .bf16 :=
  shapeCast S1x1x1x1024x128 (extractStridedSlice S1024x128 ![0, 0] q slices_S1024x256_o0_0_S1024x128) shapeCasts_S1024x128_S1x1x1x1024x128
def qHigh (q : FVec Ideal S1024x256 .bf16) : FVec Ideal S1x1x1x1024x128 .bf16 :=
  shapeCast S1x1x1x1024x128 (extractStridedSlice S1024x128 ![0, 128] q slices_S1024x256_o0_128_S1024x128) shapeCasts_S1024x128_S1x1x1x1024x128
def vLow (v : FVec Ideal S1152x256 .bf16) : FVec Ideal S1x1x1x1152x128 .bf16 :=
  shapeCast S1x1x1x1152x128 (extractStridedSlice S1152x128 ![0, 0] v slices_S1152x256_o0_0_S1152x128) shapeCasts_S1152x128_S1x1x1x1152x128
def vHigh (v : FVec Ideal S1152x256 .bf16) : FVec Ideal S1x1x1x1152x128 .bf16 :=
  shapeCast S1x1x1x1152x128 (extractStridedSlice S1152x128 ![0, 128] v slices_S1152x256_o0_128_S1152x128) shapeCasts_S1152x128_S1x1x1x1152x128
def kBlock (k : FVec Ideal S256x1024 .bf16) : FVec Ideal S1x1x256x1024 .bf16 := shapeCast S1x1x256x1024 k shapeCasts_S256x1024_S1x1x256x1024

theorem qLow_at (q : FVec Ideal S1024x256 .bf16) (a b c : Fin 1) (k : Fin 1024) (l : Fin 128) : qLow q (ix5 a b c k l) = q (ix2 k ⟨l.val, by omega⟩) := by
  pointwise [qLow]
theorem qHigh_at (q : FVec Ideal S1024x256 .bf16) (a b c : Fin 1) (k : Fin 1024) (l : Fin 128) : qHigh q (ix5 a b c k l) = q (ix2 k ⟨128 + l.val, by omega⟩) := by
  pointwise [qHigh]
theorem vLow_at (v : FVec Ideal S1152x256 .bf16) (a b c : Fin 1) (k : Fin 1152) (l : Fin 128) : vLow v (ix5 a b c k l) = v (ix2 k ⟨l.val, by omega⟩) := by
  pointwise [vLow]
theorem vHigh_at (v : FVec Ideal S1152x256 .bf16) (a b c : Fin 1) (k : Fin 1152) (l : Fin 128) : vHigh v (ix5 a b c k l) = v (ix2 k ⟨128 + l.val, by omega⟩) := by
  pointwise [vHigh]
theorem kBlock_at (k : FVec Ideal S256x1024 .bf16) (a b : Fin 1) (n : Fin 256) (j : Fin 1024) : kBlock k (ix4 a b n j) = k (ix2 n j) := by
  pointwise [kBlock]

/-- The weights of the three groups, and the gains. -/
def wQ (x : Vec Ideal S3072x1024 .bf16) : FVec Ideal S1024x1024 .bf16 := View.ld x (Rect.unit (s := S3072x1024) ![0, 0] S1024x1024.size inb_S3072x1024_S1024x1024_0_0)
def wK (x : Vec Ideal S3072x1024 .bf16) : FVec Ideal S1024x1024 .bf16 := View.ld x (Rect.unit (s := S3072x1024) ![1024, 0] S1024x1024.size inb_S3072x1024_S1024x1024_1024_0)
def wV (x : Vec Ideal S3072x1024 .bf16) : FVec Ideal S1024x1024 .bf16 := View.ld x (Rect.unit (s := S3072x1024) ![2048, 0] S1024x1024.size inb_S3072x1024_S1024x1024_2048_0)
def gains (x : Vec Ideal S64x256 .f32) : FVec Ideal S64x256 .f32 := View.ld x (Rect.unit (s := S64x256) ![0, 0] S64x256.size inb_S64x256_S64x256_0_0)
def scales (x : Vec Ideal S1x1024 .f32) : FVec Ideal S1x1024 .f32 := View.ld x (Rect.unit (s := S1x1024) ![0, 0] S1x1024.size inb_S1x1024_S1x1024_0_0)

theorem wQ_at (k l : Fin 1024) : wQ x9 (ix2 k l) = x9 (ix2 ⟨k.val, by omega⟩ l) := by
  pointwise [wQ]
theorem wK_at (k l : Fin 1024) : wK x9 (ix2 k l) = x9 (ix2 ⟨1024 + k.val, by omega⟩ l) := by
  pointwise [wK]
theorem wV_at (k l : Fin 1024) : wV x9 (ix2 k l) = x9 (ix2 ⟨2048 + k.val, by omega⟩ l) := by
  pointwise [wV]
theorem gains_at (x : Vec Ideal S64x256 .f32) (f : Fin 64) (n : Fin 256) : gains x (ix2 f n) = x (ix2 f n) := by
  pointwise [gains]
theorem scales_at (l : Fin 1024) : scales x8 (ix2 0 l) = x8 (ix2 0 l) := by
  pointwise [scales]

/-- Residue 0 of a slab. -/
def stream0 (x : Vec Ideal S1x1024x128 .f32) : FVec Ideal S1x256x128 .f32 := fun z =>
  x ((⟨![0, 0, 0], S1x256x128.size, ![1, 4, 1], inb_S1x1024x128_S1x256x128_0_0_0_s_1_4_1⟩ : LoadRect S1x1024x128).idx z)

theorem stream0_at (x : Vec Ideal S1x1024x128 .f32) (n : Fin 256) (l : Fin 128) : stream0 x (ix3 0 n l) = x (ix3 0 ⟨0 + 4 * n.val, by omega⟩ l) := by
  refine congrArg x (funext fun a => Fin.ext ?_)
  fin_cases a
  · rfl
  · rfl
  · exact (Nat.zero_add _).trans (Nat.one_mul _)

/-- The rows of unit 0. -/
def y0 : FVec Ideal S256x1024 .bf16 := nrm (cat (shapeCast S256x128 (stream0 x0) shapeCasts_S1x256x128_S256x128) (shapeCast S256x128 (stream0 x1) shapeCasts_S1x256x128_S256x128) (shapeCast S256x128 (stream0 x2) shapeCasts_S1x256x128_S256x128) (shapeCast S256x128 (stream0 x3) shapeCasts_S1x256x128_S256x128) (shapeCast S256x128 (stream0 x4) shapeCasts_S1x256x128_S256x128) (shapeCast S256x128 (stream0 x5) shapeCasts_S1x256x128_S256x128) (shapeCast S256x128 (stream0 x6) shapeCasts_S1x256x128_S256x128) (shapeCast S256x128 (stream0 x7) shapeCasts_S1x256x128_S256x128)) (scales x8)
def tab0 (x : Vec Ideal S4x8x256 .f32) : FVec Ideal S8x256 .f32 := shapeCast S8x256 (View.ld x (Rect.unit (s := S4x8x256) ![0, 0, 0] S1x8x256.size inb_S4x8x256_S1x8x256_0_0_0)) shapeCasts_S1x8x256_S8x256
def q0 : FVec Ideal S1024x256 .bf16 :=
  qTile (turn (hnorm (dot (y0 x0 x1 x2 x3 x4 x5 x6 x7 x8) (wQ x9)) (gains x10)) (tab0 x12) (tab0 x13))
def k0 : FVec Ideal S256x1024 .bf16 :=
  kRows (turn (hnorm (dot (y0 x0 x1 x2 x3 x4 x5 x6 x7 x8) (wK x9)) (gains x11)) (tab0 x12) (tab0 x13))
def v0 : FVec Ideal S1152x256 .bf16 := vTile (dot (y0 x0 x1 x2 x3 x4 x5 x6 x7 x8) (wV x9))

theorem pick0 (n : Fin 256) (k : Fin 8) (l : Fin 128) :
    (![shapeCast S256x128 (stream0 x0) shapeCasts_S1x256x128_S256x128, shapeCast S256x128 (stream0 x1) shapeCasts_S1x256x128_S256x128, shapeCast S256x128 (stream0 x2) shapeCasts_S1x256x128_S256x128, shapeCast S256x128 (stream0 x3) shapeCasts_S1x256x128_S256x128, shapeCast S256x128 (stream0 x4) shapeCasts_S1x256x128_S256x128, shapeCast S256x128 (stream0 x5) shapeCasts_S1x256x128_S256x128, shapeCast S256x128 (stream0 x6) shapeCasts_S1x256x128_S256x128, shapeCast S256x128 (stream0 x7) shapeCasts_S1x256x128_S256x128] : Fin 8 → FVec Ideal S256x128 .f32) k (ix2 n l)
      = (![x0, x1, x2, x3, x4, x5, x6, x7] : Fin 8 → Vec Ideal S1x1024x128 .f32) k (ix3 0 ⟨0 + 4 * n.val, by omega⟩ l) := by
  fin_cases k
  · show shapeCast S256x128 (stream0 x0) shapeCasts_S1x256x128_S256x128 (ix2 n l) = x0 (ix3 0 ⟨0 + 4 * n.val, by omega⟩ l)
    pointwise
    exact (stream0_at _ _ _).trans (congrArg (fun z => x0 (ix3 0 z l)) (Fin.ext (Nat.zero_add _)))
  · show shapeCast S256x128 (stream0 x1) shapeCasts_S1x256x128_S256x128 (ix2 n l) = x1 (ix3 0 ⟨0 + 4 * n.val, by omega⟩ l)
    pointwise
    exact (stream0_at _ _ _).trans (congrArg (fun z => x1 (ix3 0 z l)) (Fin.ext (Nat.zero_add _)))
  · show shapeCast S256x128 (stream0 x2) shapeCasts_S1x256x128_S256x128 (ix2 n l) = x2 (ix3 0 ⟨0 + 4 * n.val, by omega⟩ l)
    pointwise
    exact (stream0_at _ _ _).trans (congrArg (fun z => x2 (ix3 0 z l)) (Fin.ext (Nat.zero_add _)))
  · show shapeCast S256x128 (stream0 x3) shapeCasts_S1x256x128_S256x128 (ix2 n l) = x3 (ix3 0 ⟨0 + 4 * n.val, by omega⟩ l)
    pointwise
    exact (stream0_at _ _ _).trans (congrArg (fun z => x3 (ix3 0 z l)) (Fin.ext (Nat.zero_add _)))
  · show shapeCast S256x128 (stream0 x4) shapeCasts_S1x256x128_S256x128 (ix2 n l) = x4 (ix3 0 ⟨0 + 4 * n.val, by omega⟩ l)
    pointwise
    exact (stream0_at _ _ _).trans (congrArg (fun z => x4 (ix3 0 z l)) (Fin.ext (Nat.zero_add _)))
  · show shapeCast S256x128 (stream0 x5) shapeCasts_S1x256x128_S256x128 (ix2 n l) = x5 (ix3 0 ⟨0 + 4 * n.val, by omega⟩ l)
    pointwise
    exact (stream0_at _ _ _).trans (congrArg (fun z => x5 (ix3 0 z l)) (Fin.ext (Nat.zero_add _)))
  · show shapeCast S256x128 (stream0 x6) shapeCasts_S1x256x128_S256x128 (ix2 n l) = x6 (ix3 0 ⟨0 + 4 * n.val, by omega⟩ l)
    pointwise
    exact (stream0_at _ _ _).trans (congrArg (fun z => x6 (ix3 0 z l)) (Fin.ext (Nat.zero_add _)))
  · show shapeCast S256x128 (stream0 x7) shapeCasts_S1x256x128_S256x128 (ix2 n l) = x7 (ix3 0 ⟨0 + 4 * n.val, by omega⟩ l)
    pointwise
    exact (stream0_at _ _ _).trans (congrArg (fun z => x7 (ix3 0 z l)) (Fin.ext (Nat.zero_add _)))

theorem y0_at (n : Fin 256) (j : Fin 1024) :
    y0 x0 x1 x2 x3 x4 x5 x6 x7 x8 (ix2 n j) = row x0 x1 x2 x3 x4 x5 x6 x7 x8 ⟨0 + 4 * n.val, by omega⟩ j := by
  unfold y0 row slab
  rw [nrm_at]
  simp only [cat_at, pick0, scales_at]

theorem tab0_at (x : Vec Ideal S4x8x256 .f32) (e : Fin 8) (n : Fin 256) : tab0 x (ix2 e n) = x (ix3 0 e ⟨n.val, by omega⟩) := by
  pointwise [tab0]

theorem q0_at (k : Fin 1024) (n : Fin 256) : q0 x0 x1 x2 x3 x4 x5 x6 x7 x8 x9 x10 x12 x13 (ix2 k n) = qAt x0 x1 x2 x3 x4 x5 x6 x7 x8 x9 x10 x12 x13 ⟨0 + 4 * n.val, by omega⟩ 0 ⟨n.val, by omega⟩ k := by
  have e : (n.val) % 256 = n.val := by omega
  unfold q0 qAt Heads.head
  rw [qTile_at, turn_at]
  simp only [hnorm_at, dot_at, y0_at, tab0_at, wQ_at, gains_at, e]

theorem k0_at (n : Fin 256) (k : Fin 1024) : k0 x0 x1 x2 x3 x4 x5 x6 x7 x8 x9 x11 x12 x13 (ix2 n k) = kAt x0 x1 x2 x3 x4 x5 x6 x7 x8 x9 x11 x12 x13 ⟨0 + 4 * n.val, by omega⟩ 0 ⟨n.val, by omega⟩ k := by
  have e : (n.val) % 256 = n.val := by omega
  unfold k0 kAt Heads.head
  rw [kRows_at, turn_at]
  simp only [hnorm_at, dot_at, y0_at, tab0_at, wK_at, gains_at, e]

theorem v0_at (k : Fin 1152) (n : Fin 256) : v0 x0 x1 x2 x3 x4 x5 x6 x7 x8 x9 (ix2 k n) = vAt x0 x1 x2 x3 x4 x5 x6 x7 x8 x9 ⟨0 + 4 * n.val, by omega⟩ k := by
  unfold v0 vAt
  rw [vTile_at]
  simp only [dot_at, y0_at, wV_at]

/-- Residue 1 of a slab. -/
def stream1 (x : Vec Ideal S1x1024x128 .f32) : FVec Ideal S1x256x128 .f32 := fun z =>
  x ((⟨![0, 1, 0], S1x256x128.size, ![1, 4, 1], inb_S1x1024x128_S1x256x128_0_1_0_s_1_4_1⟩ : LoadRect S1x1024x128).idx z)

theorem stream1_at (x : Vec Ideal S1x1024x128 .f32) (n : Fin 256) (l : Fin 128) : stream1 x (ix3 0 n l) = x (ix3 0 ⟨1 + 4 * n.val, by omega⟩ l) := by
  refine congrArg x (funext fun a => Fin.ext ?_)
  fin_cases a
  · rfl
  · rfl
  · exact (Nat.zero_add _).trans (Nat.one_mul _)

/-- The rows of unit 1. -/
def y1 : FVec Ideal S256x1024 .bf16 := nrm (cat (shapeCast S256x128 (stream1 x0) shapeCasts_S1x256x128_S256x128) (shapeCast S256x128 (stream1 x1) shapeCasts_S1x256x128_S256x128) (shapeCast S256x128 (stream1 x2) shapeCasts_S1x256x128_S256x128) (shapeCast S256x128 (stream1 x3) shapeCasts_S1x256x128_S256x128) (shapeCast S256x128 (stream1 x4) shapeCasts_S1x256x128_S256x128) (shapeCast S256x128 (stream1 x5) shapeCasts_S1x256x128_S256x128) (shapeCast S256x128 (stream1 x6) shapeCasts_S1x256x128_S256x128) (shapeCast S256x128 (stream1 x7) shapeCasts_S1x256x128_S256x128)) (scales x8)
def tab1 (x : Vec Ideal S4x8x256 .f32) : FVec Ideal S8x256 .f32 := shapeCast S8x256 (View.ld x (Rect.unit (s := S4x8x256) ![1, 0, 0] S1x8x256.size inb_S4x8x256_S1x8x256_1_0_0)) shapeCasts_S1x8x256_S8x256
def q1 : FVec Ideal S1024x256 .bf16 :=
  qTile (turn (hnorm (dot (y1 x0 x1 x2 x3 x4 x5 x6 x7 x8) (wQ x9)) (gains x10)) (tab1 x12) (tab1 x13))
def k1 : FVec Ideal S256x1024 .bf16 :=
  kRows (turn (hnorm (dot (y1 x0 x1 x2 x3 x4 x5 x6 x7 x8) (wK x9)) (gains x11)) (tab1 x12) (tab1 x13))
def v1 : FVec Ideal S1152x256 .bf16 := vTile (dot (y1 x0 x1 x2 x3 x4 x5 x6 x7 x8) (wV x9))

theorem pick1 (n : Fin 256) (k : Fin 8) (l : Fin 128) :
    (![shapeCast S256x128 (stream1 x0) shapeCasts_S1x256x128_S256x128, shapeCast S256x128 (stream1 x1) shapeCasts_S1x256x128_S256x128, shapeCast S256x128 (stream1 x2) shapeCasts_S1x256x128_S256x128, shapeCast S256x128 (stream1 x3) shapeCasts_S1x256x128_S256x128, shapeCast S256x128 (stream1 x4) shapeCasts_S1x256x128_S256x128, shapeCast S256x128 (stream1 x5) shapeCasts_S1x256x128_S256x128, shapeCast S256x128 (stream1 x6) shapeCasts_S1x256x128_S256x128, shapeCast S256x128 (stream1 x7) shapeCasts_S1x256x128_S256x128] : Fin 8 → FVec Ideal S256x128 .f32) k (ix2 n l)
      = (![x0, x1, x2, x3, x4, x5, x6, x7] : Fin 8 → Vec Ideal S1x1024x128 .f32) k (ix3 0 ⟨1 + 4 * n.val, by omega⟩ l) := by
  fin_cases k
  · show shapeCast S256x128 (stream1 x0) shapeCasts_S1x256x128_S256x128 (ix2 n l) = x0 (ix3 0 ⟨1 + 4 * n.val, by omega⟩ l)
    pointwise
    exact stream1_at _ _ _
  · show shapeCast S256x128 (stream1 x1) shapeCasts_S1x256x128_S256x128 (ix2 n l) = x1 (ix3 0 ⟨1 + 4 * n.val, by omega⟩ l)
    pointwise
    exact stream1_at _ _ _
  · show shapeCast S256x128 (stream1 x2) shapeCasts_S1x256x128_S256x128 (ix2 n l) = x2 (ix3 0 ⟨1 + 4 * n.val, by omega⟩ l)
    pointwise
    exact stream1_at _ _ _
  · show shapeCast S256x128 (stream1 x3) shapeCasts_S1x256x128_S256x128 (ix2 n l) = x3 (ix3 0 ⟨1 + 4 * n.val, by omega⟩ l)
    pointwise
    exact stream1_at _ _ _
  · show shapeCast S256x128 (stream1 x4) shapeCasts_S1x256x128_S256x128 (ix2 n l) = x4 (ix3 0 ⟨1 + 4 * n.val, by omega⟩ l)
    pointwise
    exact stream1_at _ _ _
  · show shapeCast S256x128 (stream1 x5) shapeCasts_S1x256x128_S256x128 (ix2 n l) = x5 (ix3 0 ⟨1 + 4 * n.val, by omega⟩ l)
    pointwise
    exact stream1_at _ _ _
  · show shapeCast S256x128 (stream1 x6) shapeCasts_S1x256x128_S256x128 (ix2 n l) = x6 (ix3 0 ⟨1 + 4 * n.val, by omega⟩ l)
    pointwise
    exact stream1_at _ _ _
  · show shapeCast S256x128 (stream1 x7) shapeCasts_S1x256x128_S256x128 (ix2 n l) = x7 (ix3 0 ⟨1 + 4 * n.val, by omega⟩ l)
    pointwise
    exact stream1_at _ _ _

theorem y1_at (n : Fin 256) (j : Fin 1024) :
    y1 x0 x1 x2 x3 x4 x5 x6 x7 x8 (ix2 n j) = row x0 x1 x2 x3 x4 x5 x6 x7 x8 ⟨1 + 4 * n.val, by omega⟩ j := by
  unfold y1 row slab
  rw [nrm_at]
  simp only [cat_at, pick1, scales_at]

theorem tab1_at (x : Vec Ideal S4x8x256 .f32) (e : Fin 8) (n : Fin 256) : tab1 x (ix2 e n) = x (ix3 1 e ⟨n.val, by omega⟩) := by
  pointwise [tab1]

theorem q1_at (k : Fin 1024) (n : Fin 256) : q1 x0 x1 x2 x3 x4 x5 x6 x7 x8 x9 x10 x12 x13 (ix2 k n) = qAt x0 x1 x2 x3 x4 x5 x6 x7 x8 x9 x10 x12 x13 ⟨1 + 4 * n.val, by omega⟩ 1 ⟨n.val, by omega⟩ k := by
  have e : (n.val) % 256 = n.val := by omega
  unfold q1 qAt Heads.head
  rw [qTile_at, turn_at]
  simp only [hnorm_at, dot_at, y1_at, tab1_at, wQ_at, gains_at, e]

theorem k1_at (n : Fin 256) (k : Fin 1024) : k1 x0 x1 x2 x3 x4 x5 x6 x7 x8 x9 x11 x12 x13 (ix2 n k) = kAt x0 x1 x2 x3 x4 x5 x6 x7 x8 x9 x11 x12 x13 ⟨1 + 4 * n.val, by omega⟩ 1 ⟨n.val, by omega⟩ k := by
  have e : (n.val) % 256 = n.val := by omega
  unfold k1 kAt Heads.head
  rw [kRows_at, turn_at]
  simp only [hnorm_at, dot_at, y1_at, tab1_at, wK_at, gains_at, e]

theorem v1_at (k : Fin 1152) (n : Fin 256) : v1 x0 x1 x2 x3 x4 x5 x6 x7 x8 x9 (ix2 k n) = vAt x0 x1 x2 x3 x4 x5 x6 x7 x8 x9 ⟨1 + 4 * n.val, by omega⟩ k := by
  unfold v1 vAt
  rw [vTile_at]
  simp only [dot_at, y1_at, wV_at]

/-- Residue 2 of a slab. -/
def stream2 (x : Vec Ideal S1x1024x128 .f32) : FVec Ideal S1x256x128 .f32 := fun z =>
  x ((⟨![0, 2, 0], S1x256x128.size, ![1, 4, 1], inb_S1x1024x128_S1x256x128_0_2_0_s_1_4_1⟩ : LoadRect S1x1024x128).idx z)

theorem stream2_at (x : Vec Ideal S1x1024x128 .f32) (n : Fin 256) (l : Fin 128) : stream2 x (ix3 0 n l) = x (ix3 0 ⟨2 + 4 * n.val, by omega⟩ l) := by
  refine congrArg x (funext fun a => Fin.ext ?_)
  fin_cases a
  · rfl
  · rfl
  · exact (Nat.zero_add _).trans (Nat.one_mul _)

/-- The rows of unit 2. -/
def y2 : FVec Ideal S256x1024 .bf16 := nrm (cat (shapeCast S256x128 (stream2 x0) shapeCasts_S1x256x128_S256x128) (shapeCast S256x128 (stream2 x1) shapeCasts_S1x256x128_S256x128) (shapeCast S256x128 (stream2 x2) shapeCasts_S1x256x128_S256x128) (shapeCast S256x128 (stream2 x3) shapeCasts_S1x256x128_S256x128) (shapeCast S256x128 (stream2 x4) shapeCasts_S1x256x128_S256x128) (shapeCast S256x128 (stream2 x5) shapeCasts_S1x256x128_S256x128) (shapeCast S256x128 (stream2 x6) shapeCasts_S1x256x128_S256x128) (shapeCast S256x128 (stream2 x7) shapeCasts_S1x256x128_S256x128)) (scales x8)
def tab2 (x : Vec Ideal S4x8x256 .f32) : FVec Ideal S8x256 .f32 := shapeCast S8x256 (View.ld x (Rect.unit (s := S4x8x256) ![2, 0, 0] S1x8x256.size inb_S4x8x256_S1x8x256_2_0_0)) shapeCasts_S1x8x256_S8x256
def q2 : FVec Ideal S1024x256 .bf16 :=
  qTile (turn (hnorm (dot (y2 x0 x1 x2 x3 x4 x5 x6 x7 x8) (wQ x9)) (gains x10)) (tab2 x12) (tab2 x13))
def k2 : FVec Ideal S256x1024 .bf16 :=
  kRows (turn (hnorm (dot (y2 x0 x1 x2 x3 x4 x5 x6 x7 x8) (wK x9)) (gains x11)) (tab2 x12) (tab2 x13))
def v2 : FVec Ideal S1152x256 .bf16 := vTile (dot (y2 x0 x1 x2 x3 x4 x5 x6 x7 x8) (wV x9))

theorem pick2 (n : Fin 256) (k : Fin 8) (l : Fin 128) :
    (![shapeCast S256x128 (stream2 x0) shapeCasts_S1x256x128_S256x128, shapeCast S256x128 (stream2 x1) shapeCasts_S1x256x128_S256x128, shapeCast S256x128 (stream2 x2) shapeCasts_S1x256x128_S256x128, shapeCast S256x128 (stream2 x3) shapeCasts_S1x256x128_S256x128, shapeCast S256x128 (stream2 x4) shapeCasts_S1x256x128_S256x128, shapeCast S256x128 (stream2 x5) shapeCasts_S1x256x128_S256x128, shapeCast S256x128 (stream2 x6) shapeCasts_S1x256x128_S256x128, shapeCast S256x128 (stream2 x7) shapeCasts_S1x256x128_S256x128] : Fin 8 → FVec Ideal S256x128 .f32) k (ix2 n l)
      = (![x0, x1, x2, x3, x4, x5, x6, x7] : Fin 8 → Vec Ideal S1x1024x128 .f32) k (ix3 0 ⟨2 + 4 * n.val, by omega⟩ l) := by
  fin_cases k
  · show shapeCast S256x128 (stream2 x0) shapeCasts_S1x256x128_S256x128 (ix2 n l) = x0 (ix3 0 ⟨2 + 4 * n.val, by omega⟩ l)
    pointwise
    exact stream2_at _ _ _
  · show shapeCast S256x128 (stream2 x1) shapeCasts_S1x256x128_S256x128 (ix2 n l) = x1 (ix3 0 ⟨2 + 4 * n.val, by omega⟩ l)
    pointwise
    exact stream2_at _ _ _
  · show shapeCast S256x128 (stream2 x2) shapeCasts_S1x256x128_S256x128 (ix2 n l) = x2 (ix3 0 ⟨2 + 4 * n.val, by omega⟩ l)
    pointwise
    exact stream2_at _ _ _
  · show shapeCast S256x128 (stream2 x3) shapeCasts_S1x256x128_S256x128 (ix2 n l) = x3 (ix3 0 ⟨2 + 4 * n.val, by omega⟩ l)
    pointwise
    exact stream2_at _ _ _
  · show shapeCast S256x128 (stream2 x4) shapeCasts_S1x256x128_S256x128 (ix2 n l) = x4 (ix3 0 ⟨2 + 4 * n.val, by omega⟩ l)
    pointwise
    exact stream2_at _ _ _
  · show shapeCast S256x128 (stream2 x5) shapeCasts_S1x256x128_S256x128 (ix2 n l) = x5 (ix3 0 ⟨2 + 4 * n.val, by omega⟩ l)
    pointwise
    exact stream2_at _ _ _
  · show shapeCast S256x128 (stream2 x6) shapeCasts_S1x256x128_S256x128 (ix2 n l) = x6 (ix3 0 ⟨2 + 4 * n.val, by omega⟩ l)
    pointwise
    exact stream2_at _ _ _
  · show shapeCast S256x128 (stream2 x7) shapeCasts_S1x256x128_S256x128 (ix2 n l) = x7 (ix3 0 ⟨2 + 4 * n.val, by omega⟩ l)
    pointwise
    exact stream2_at _ _ _

theorem y2_at (n : Fin 256) (j : Fin 1024) :
    y2 x0 x1 x2 x3 x4 x5 x6 x7 x8 (ix2 n j) = row x0 x1 x2 x3 x4 x5 x6 x7 x8 ⟨2 + 4 * n.val, by omega⟩ j := by
  unfold y2 row slab
  rw [nrm_at]
  simp only [cat_at, pick2, scales_at]

theorem tab2_at (x : Vec Ideal S4x8x256 .f32) (e : Fin 8) (n : Fin 256) : tab2 x (ix2 e n) = x (ix3 2 e ⟨n.val, by omega⟩) := by
  pointwise [tab2]

theorem q2_at (k : Fin 1024) (n : Fin 256) : q2 x0 x1 x2 x3 x4 x5 x6 x7 x8 x9 x10 x12 x13 (ix2 k n) = qAt x0 x1 x2 x3 x4 x5 x6 x7 x8 x9 x10 x12 x13 ⟨2 + 4 * n.val, by omega⟩ 2 ⟨n.val, by omega⟩ k := by
  have e : (n.val) % 256 = n.val := by omega
  unfold q2 qAt Heads.head
  rw [qTile_at, turn_at]
  simp only [hnorm_at, dot_at, y2_at, tab2_at, wQ_at, gains_at, e]

theorem k2_at (n : Fin 256) (k : Fin 1024) : k2 x0 x1 x2 x3 x4 x5 x6 x7 x8 x9 x11 x12 x13 (ix2 n k) = kAt x0 x1 x2 x3 x4 x5 x6 x7 x8 x9 x11 x12 x13 ⟨2 + 4 * n.val, by omega⟩ 2 ⟨n.val, by omega⟩ k := by
  have e : (n.val) % 256 = n.val := by omega
  unfold k2 kAt Heads.head
  rw [kRows_at, turn_at]
  simp only [hnorm_at, dot_at, y2_at, tab2_at, wK_at, gains_at, e]

theorem v2_at (k : Fin 1152) (n : Fin 256) : v2 x0 x1 x2 x3 x4 x5 x6 x7 x8 x9 (ix2 k n) = vAt x0 x1 x2 x3 x4 x5 x6 x7 x8 x9 ⟨2 + 4 * n.val, by omega⟩ k := by
  unfold v2 vAt
  rw [vTile_at]
  simp only [dot_at, y2_at, wV_at]

/-- Residue 3 of a slab. -/
def stream3 (x : Vec Ideal S1x1024x128 .f32) : FVec Ideal S1x256x128 .f32 := fun z =>
  x ((⟨![0, 3, 0], S1x256x128.size, ![1, 4, 1], inb_S1x1024x128_S1x256x128_0_3_0_s_1_4_1⟩ : LoadRect S1x1024x128).idx z)

theorem stream3_at (x : Vec Ideal S1x1024x128 .f32) (n : Fin 256) (l : Fin 128) : stream3 x (ix3 0 n l) = x (ix3 0 ⟨3 + 4 * n.val, by omega⟩ l) := by
  refine congrArg x (funext fun a => Fin.ext ?_)
  fin_cases a
  · rfl
  · rfl
  · exact (Nat.zero_add _).trans (Nat.one_mul _)

/-- The rows of unit 3. -/
def y3 : FVec Ideal S256x1024 .bf16 := nrm (cat (shapeCast S256x128 (stream3 x0) shapeCasts_S1x256x128_S256x128) (shapeCast S256x128 (stream3 x1) shapeCasts_S1x256x128_S256x128) (shapeCast S256x128 (stream3 x2) shapeCasts_S1x256x128_S256x128) (shapeCast S256x128 (stream3 x3) shapeCasts_S1x256x128_S256x128) (shapeCast S256x128 (stream3 x4) shapeCasts_S1x256x128_S256x128) (shapeCast S256x128 (stream3 x5) shapeCasts_S1x256x128_S256x128) (shapeCast S256x128 (stream3 x6) shapeCasts_S1x256x128_S256x128) (shapeCast S256x128 (stream3 x7) shapeCasts_S1x256x128_S256x128)) (scales x8)
def tab3 (x : Vec Ideal S4x8x256 .f32) : FVec Ideal S8x256 .f32 := shapeCast S8x256 (View.ld x (Rect.unit (s := S4x8x256) ![3, 0, 0] S1x8x256.size inb_S4x8x256_S1x8x256_3_0_0)) shapeCasts_S1x8x256_S8x256
def q3 : FVec Ideal S1024x256 .bf16 :=
  qTile (turn (hnorm (dot (y3 x0 x1 x2 x3 x4 x5 x6 x7 x8) (wQ x9)) (gains x10)) (tab3 x12) (tab3 x13))
def k3 : FVec Ideal S256x1024 .bf16 :=
  kRows (turn (hnorm (dot (y3 x0 x1 x2 x3 x4 x5 x6 x7 x8) (wK x9)) (gains x11)) (tab3 x12) (tab3 x13))
def v3 : FVec Ideal S1152x256 .bf16 := vTile (dot (y3 x0 x1 x2 x3 x4 x5 x6 x7 x8) (wV x9))

theorem pick3 (n : Fin 256) (k : Fin 8) (l : Fin 128) :
    (![shapeCast S256x128 (stream3 x0) shapeCasts_S1x256x128_S256x128, shapeCast S256x128 (stream3 x1) shapeCasts_S1x256x128_S256x128, shapeCast S256x128 (stream3 x2) shapeCasts_S1x256x128_S256x128, shapeCast S256x128 (stream3 x3) shapeCasts_S1x256x128_S256x128, shapeCast S256x128 (stream3 x4) shapeCasts_S1x256x128_S256x128, shapeCast S256x128 (stream3 x5) shapeCasts_S1x256x128_S256x128, shapeCast S256x128 (stream3 x6) shapeCasts_S1x256x128_S256x128, shapeCast S256x128 (stream3 x7) shapeCasts_S1x256x128_S256x128] : Fin 8 → FVec Ideal S256x128 .f32) k (ix2 n l)
      = (![x0, x1, x2, x3, x4, x5, x6, x7] : Fin 8 → Vec Ideal S1x1024x128 .f32) k (ix3 0 ⟨3 + 4 * n.val, by omega⟩ l) := by
  fin_cases k
  · show shapeCast S256x128 (stream3 x0) shapeCasts_S1x256x128_S256x128 (ix2 n l) = x0 (ix3 0 ⟨3 + 4 * n.val, by omega⟩ l)
    pointwise
    exact stream3_at _ _ _
  · show shapeCast S256x128 (stream3 x1) shapeCasts_S1x256x128_S256x128 (ix2 n l) = x1 (ix3 0 ⟨3 + 4 * n.val, by omega⟩ l)
    pointwise
    exact stream3_at _ _ _
  · show shapeCast S256x128 (stream3 x2) shapeCasts_S1x256x128_S256x128 (ix2 n l) = x2 (ix3 0 ⟨3 + 4 * n.val, by omega⟩ l)
    pointwise
    exact stream3_at _ _ _
  · show shapeCast S256x128 (stream3 x3) shapeCasts_S1x256x128_S256x128 (ix2 n l) = x3 (ix3 0 ⟨3 + 4 * n.val, by omega⟩ l)
    pointwise
    exact stream3_at _ _ _
  · show shapeCast S256x128 (stream3 x4) shapeCasts_S1x256x128_S256x128 (ix2 n l) = x4 (ix3 0 ⟨3 + 4 * n.val, by omega⟩ l)
    pointwise
    exact stream3_at _ _ _
  · show shapeCast S256x128 (stream3 x5) shapeCasts_S1x256x128_S256x128 (ix2 n l) = x5 (ix3 0 ⟨3 + 4 * n.val, by omega⟩ l)
    pointwise
    exact stream3_at _ _ _
  · show shapeCast S256x128 (stream3 x6) shapeCasts_S1x256x128_S256x128 (ix2 n l) = x6 (ix3 0 ⟨3 + 4 * n.val, by omega⟩ l)
    pointwise
    exact stream3_at _ _ _
  · show shapeCast S256x128 (stream3 x7) shapeCasts_S1x256x128_S256x128 (ix2 n l) = x7 (ix3 0 ⟨3 + 4 * n.val, by omega⟩ l)
    pointwise
    exact stream3_at _ _ _

theorem y3_at (n : Fin 256) (j : Fin 1024) :
    y3 x0 x1 x2 x3 x4 x5 x6 x7 x8 (ix2 n j) = row x0 x1 x2 x3 x4 x5 x6 x7 x8 ⟨3 + 4 * n.val, by omega⟩ j := by
  unfold y3 row slab
  rw [nrm_at]
  simp only [cat_at, pick3, scales_at]

theorem tab3_at (x : Vec Ideal S4x8x256 .f32) (e : Fin 8) (n : Fin 256) : tab3 x (ix2 e n) = x (ix3 3 e ⟨n.val, by omega⟩) := by
  pointwise [tab3]

theorem q3_at (k : Fin 1024) (n : Fin 256) : q3 x0 x1 x2 x3 x4 x5 x6 x7 x8 x9 x10 x12 x13 (ix2 k n) = qAt x0 x1 x2 x3 x4 x5 x6 x7 x8 x9 x10 x12 x13 ⟨3 + 4 * n.val, by omega⟩ 3 ⟨n.val, by omega⟩ k := by
  have e : (n.val) % 256 = n.val := by omega
  unfold q3 qAt Heads.head
  rw [qTile_at, turn_at]
  simp only [hnorm_at, dot_at, y3_at, tab3_at, wQ_at, gains_at, e]

theorem k3_at (n : Fin 256) (k : Fin 1024) : k3 x0 x1 x2 x3 x4 x5 x6 x7 x8 x9 x11 x12 x13 (ix2 n k) = kAt x0 x1 x2 x3 x4 x5 x6 x7 x8 x9 x11 x12 x13 ⟨3 + 4 * n.val, by omega⟩ 3 ⟨n.val, by omega⟩ k := by
  have e : (n.val) % 256 = n.val := by omega
  unfold k3 kAt Heads.head
  rw [kRows_at, turn_at]
  simp only [hnorm_at, dot_at, y3_at, tab3_at, wK_at, gains_at, e]

theorem v3_at (k : Fin 1152) (n : Fin 256) : v3 x0 x1 x2 x3 x4 x5 x6 x7 x8 x9 (ix2 k n) = vAt x0 x1 x2 x3 x4 x5 x6 x7 x8 x9 ⟨3 + 4 * n.val, by omega⟩ k := by
  unfold v3 vAt
  rw [vTile_at]
  simp only [dot_at, y3_at, wV_at]

theorem readAt_box {κ : Kind} {sp : Space} {s : Shape} {e : EltTy} {Val : EltTy → Type} (v : View sig κ sp s e) (f : v.ty.Contents Val) (r : LoadRect s) :
    v.readAt Val r f = fun z => v.read Val f (r.idx z) := rfl

theorem pieces14 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024 .f32) (harg10 : arg10.IsWhole) (arg11 : Memref sig .tc .vmem S3072x1024 .bf16) (harg11 : arg11.IsWhole) (arg12 : Memref sig .tc .vmem S64x256 .f32) (harg12 : arg12.IsWhole) (arg13 : Memref sig .tc .vmem S64x256 .f32) (harg13 : arg13.IsWhole) (arg14 : Memref sig .tc .vmem S4x8x256 .f32) (harg14 : arg14.IsWhole) (arg15 : Memref sig .tc .vmem S4x8x256 .f32) (harg15 : arg15.IsWhole) (arg16 : Memref sig .tc .vmem S1x4x2x1024x128 .bf16) (harg16 : arg16.IsWhole) (arg17 : Memref sig .tc .vmem S1x4x256x1024 .bf16) (harg17 : arg17.IsWhole) (arg18 : Memref sig .tc .vmem S1x4x2x1152x128 .bf16) (harg18 : arg18.IsWhole) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13).1 = [⟨Rect.unit (s := S1x4x2x1024x128) ![0, 3, 1, 0, 0] S1x1x1x1024x128.size inb_S1x4x2x1024x128_S1x1x1x1024x128_0_3_1_0_0, qHigh (q3 x0 x1 x2 x3 x4 x5 x6 x7 x8 x9 x10 x12 x13)⟩,
      ⟨Rect.unit (s := S1x4x2x1024x128) ![0, 3, 0, 0, 0] S1x1x1x1024x128.size inb_S1x4x2x1024x128_S1x1x1x1024x128_0_3_0_0_0, qLow (q3 x0 x1 x2 x3 x4 x5 x6 x7 x8 x9 x10 x12 x13)⟩,
      ⟨Rect.unit (s := S1x4x2x1024x128) ![0, 2, 1, 0, 0] S1x1x1x1024x128.size inb_S1x4x2x1024x128_S1x1x1x1024x128_0_2_1_0_0, qHigh (q2 x0 x1 x2 x3 x4 x5 x6 x7 x8 x9 x10 x12 x13)⟩,
      ⟨Rect.unit (s := S1x4x2x1024x128) ![0, 2, 0, 0, 0] S1x1x1x1024x128.size inb_S1x4x2x1024x128_S1x1x1x1024x128_0_2_0_0_0, qLow (q2 x0 x1 x2 x3 x4 x5 x6 x7 x8 x9 x10 x12 x13)⟩,
      ⟨Rect.unit (s := S1x4x2x1024x128) ![0, 1, 1, 0, 0] S1x1x1x1024x128.size inb_S1x4x2x1024x128_S1x1x1x1024x128_0_1_1_0_0, qHigh (q1 x0 x1 x2 x3 x4 x5 x6 x7 x8 x9 x10 x12 x13)⟩,
      ⟨Rect.unit (s := S1x4x2x1024x128) ![0, 1, 0, 0, 0] S1x1x1x1024x128.size inb_S1x4x2x1024x128_S1x1x1x1024x128_0_1_0_0_0, qLow (q1 x0 x1 x2 x3 x4 x5 x6 x7 x8 x9 x10 x12 x13)⟩,
      ⟨Rect.unit (s := S1x4x2x1024x128) ![0, 0, 1, 0, 0] S1x1x1x1024x128.size inb_S1x4x2x1024x128_S1x1x1x1024x128_0_0_1_0_0, qHigh (q0 x0 x1 x2 x3 x4 x5 x6 x7 x8 x9 x10 x12 x13)⟩,
      ⟨Rect.unit (s := S1x4x2x1024x128) ![0, 0, 0, 0, 0] S1x1x1x1024x128.size inb_S1x4x2x1024x128_S1x1x1x1024x128_0_0_0_0_0, qLow (q0 x0 x1 x2 x3 x4 x5 x6 x7 x8 x9 x10 x12 x13)⟩] := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  simp only [readAt_box, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

theorem out14_at (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024 .f32) (harg10 : arg10.IsWhole) (arg11 : Memref sig .tc .vmem S3072x1024 .bf16) (harg11 : arg11.IsWhole) (arg12 : Memref sig .tc .vmem S64x256 .f32) (harg12 : arg12.IsWhole) (arg13 : Memref sig .tc .vmem S64x256 .f32) (harg13 : arg13.IsWhole) (arg14 : Memref sig .tc .vmem S4x8x256 .f32) (harg14 : arg14.IsWhole) (arg15 : Memref sig .tc .vmem S4x8x256 .f32) (harg15 : arg15.IsWhole) (arg16 : Memref sig .tc .vmem S1x4x2x1024x128 .bf16) (harg16 : arg16.IsWhole) (arg17 : Memref sig .tc .vmem S1x4x256x1024 .bf16) (harg17 : arg17.IsWhole) (arg18 : Memref sig .tc .vmem S1x4x2x1152x128 .bf16) (harg18 : arg18.IsWhole) (r : Fin 4) (t : Fin 2) (k : Fin 1024) (l : Fin 128) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 (ix5 0 r t k l) = qAt x0 x1 x2 x3 x4 x5 x6 x7 x8 x9 x10 x12 x13 ⟨(t.val * 128 + l.val) * 4 + r.val, by omega⟩ r ⟨t.val * 128 + l.val, by omega⟩ k := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13)]
  refine View.canon_apply_of_pieces (Val := Elt Ideal) (S := S1x4x2x1024x128) (e := .bf16) (fun y => qAt x0 x1 x2 x3 x4 x5 x6 x7 x8 x9 x10 x12 x13 ⟨((y 2).val * 128 + (y 4).val) * 4 + (y 1).val, by have h1 : (y 1).val < 4 := (y 1).isLt; have h2 : (y 2).val < 2 := (y 2).isLt; have h4 : (y 4).val < 128 := (y 4).isLt; omega⟩ (y 1) ⟨(y 2).val * 128 + (y 4).val, by have h1 : (y 1).val < 4 := (y 1).isLt; have h2 : (y 2).val < 2 := (y 2).isLt; have h4 : (y 4).val < 128 := (y 4).isLt; omega⟩ (y 3)) _ ?_ (ix5 0 r t k l) (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 _)
  intro P hP
  rw [pieces14] at hP
  simp only [List.mem_cons, List.not_mem_nil, or_false] at hP
  rcases hP with rfl | rfl | rfl | rfl | rfl | rfl | rfl | rfl
  · intro y
    idx_vars y
    refine (qHigh_at ..).trans ?_
    refine (q3_at ..).trans ?_
    show _ = qAt x0 x1 x2 x3 x4 x5 x6 x7 x8 x9 x10 x12 x13 ⟨((1 + 1 * y2.val) * 128 + (0 + 1 * y4.val)) * 4 + (3 + 1 * y1.val), by omega⟩ ⟨3 + 1 * y1.val, by omega⟩ ⟨(1 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qLow_at ..).trans ?_
    refine (q3_at ..).trans ?_
    show _ = qAt x0 x1 x2 x3 x4 x5 x6 x7 x8 x9 x10 x12 x13 ⟨((0 + 1 * y2.val) * 128 + (0 + 1 * y4.val)) * 4 + (3 + 1 * y1.val), by omega⟩ ⟨3 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qHigh_at ..).trans ?_
    refine (q2_at ..).trans ?_
    show _ = qAt x0 x1 x2 x3 x4 x5 x6 x7 x8 x9 x10 x12 x13 ⟨((1 + 1 * y2.val) * 128 + (0 + 1 * y4.val)) * 4 + (2 + 1 * y1.val), by omega⟩ ⟨2 + 1 * y1.val, by omega⟩ ⟨(1 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qLow_at ..).trans ?_
    refine (q2_at ..).trans ?_
    show _ = qAt x0 x1 x2 x3 x4 x5 x6 x7 x8 x9 x10 x12 x13 ⟨((0 + 1 * y2.val) * 128 + (0 + 1 * y4.val)) * 4 + (2 + 1 * y1.val), by omega⟩ ⟨2 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qHigh_at ..).trans ?_
    refine (q1_at ..).trans ?_
    show _ = qAt x0 x1 x2 x3 x4 x5 x6 x7 x8 x9 x10 x12 x13 ⟨((1 + 1 * y2.val) * 128 + (0 + 1 * y4.val)) * 4 + (1 + 1 * y1.val), by omega⟩ ⟨1 + 1 * y1.val, by omega⟩ ⟨(1 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qLow_at ..).trans ?_
    refine (q1_at ..).trans ?_
    show _ = qAt x0 x1 x2 x3 x4 x5 x6 x7 x8 x9 x10 x12 x13 ⟨((0 + 1 * y2.val) * 128 + (0 + 1 * y4.val)) * 4 + (1 + 1 * y1.val), by omega⟩ ⟨1 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qHigh_at ..).trans ?_
    refine (q0_at ..).trans ?_
    show _ = qAt x0 x1 x2 x3 x4 x5 x6 x7 x8 x9 x10 x12 x13 ⟨((1 + 1 * y2.val) * 128 + (0 + 1 * y4.val)) * 4 + (0 + 1 * y1.val), by omega⟩ ⟨0 + 1 * y1.val, by omega⟩ ⟨(1 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qLow_at ..).trans ?_
    refine (q0_at ..).trans ?_
    show _ = qAt x0 x1 x2 x3 x4 x5 x6 x7 x8 x9 x10 x12 x13 ⟨((0 + 1 * y2.val) * 128 + (0 + 1 * y4.val)) * 4 + (0 + 1 * y1.val), by omega⟩ ⟨0 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)

theorem pieces15 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024 .f32) (harg10 : arg10.IsWhole) (arg11 : Memref sig .tc .vmem S3072x1024 .bf16) (harg11 : arg11.IsWhole) (arg12 : Memref sig .tc .vmem S64x256 .f32) (harg12 : arg12.IsWhole) (arg13 : Memref sig .tc .vmem S64x256 .f32) (harg13 : arg13.IsWhole) (arg14 : Memref sig .tc .vmem S4x8x256 .f32) (harg14 : arg14.IsWhole) (arg15 : Memref sig .tc .vmem S4x8x256 .f32) (harg15 : arg15.IsWhole) (arg16 : Memref sig .tc .vmem S1x4x2x1024x128 .bf16) (harg16 : arg16.IsWhole) (arg17 : Memref sig .tc .vmem S1x4x256x1024 .bf16) (harg17 : arg17.IsWhole) (arg18 : Memref sig .tc .vmem S1x4x2x1152x128 .bf16) (harg18 : arg18.IsWhole) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13).2.1 = [⟨Rect.unit (s := S1x4x256x1024) ![0, 3, 0, 0] S1x1x256x1024.size inb_S1x4x256x1024_S1x1x256x1024_0_3_0_0, kBlock (k3 x0 x1 x2 x3 x4 x5 x6 x7 x8 x9 x11 x12 x13)⟩,
      ⟨Rect.unit (s := S1x4x256x1024) ![0, 2, 0, 0] S1x1x256x1024.size inb_S1x4x256x1024_S1x1x256x1024_0_2_0_0, kBlock (k2 x0 x1 x2 x3 x4 x5 x6 x7 x8 x9 x11 x12 x13)⟩,
      ⟨Rect.unit (s := S1x4x256x1024) ![0, 1, 0, 0] S1x1x256x1024.size inb_S1x4x256x1024_S1x1x256x1024_0_1_0_0, kBlock (k1 x0 x1 x2 x3 x4 x5 x6 x7 x8 x9 x11 x12 x13)⟩,
      ⟨Rect.unit (s := S1x4x256x1024) ![0, 0, 0, 0] S1x1x256x1024.size inb_S1x4x256x1024_S1x1x256x1024_0_0_0_0, kBlock (k0 x0 x1 x2 x3 x4 x5 x6 x7 x8 x9 x11 x12 x13)⟩] := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  simp only [readAt_box, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

theorem out15_at (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024 .f32) (harg10 : arg10.IsWhole) (arg11 : Memref sig .tc .vmem S3072x1024 .bf16) (harg11 : arg11.IsWhole) (arg12 : Memref sig .tc .vmem S64x256 .f32) (harg12 : arg12.IsWhole) (arg13 : Memref sig .tc .vmem S64x256 .f32) (harg13 : arg13.IsWhole) (arg14 : Memref sig .tc .vmem S4x8x256 .f32) (harg14 : arg14.IsWhole) (arg15 : Memref sig .tc .vmem S4x8x256 .f32) (harg15 : arg15.IsWhole) (arg16 : Memref sig .tc .vmem S1x4x2x1024x128 .bf16) (harg16 : arg16.IsWhole) (arg17 : Memref sig .tc .vmem S1x4x256x1024 .bf16) (harg17 : arg17.IsWhole) (arg18 : Memref sig .tc .vmem S1x4x2x1152x128 .bf16) (harg18 : arg18.IsWhole) (r : Fin 4) (z : Fin 256) (k : Fin 1024) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 (ix4 0 r z k) = kAt x0 x1 x2 x3 x4 x5 x6 x7 x8 x9 x11 x12 x13 ⟨z.val * 4 + r.val, by omega⟩ r z k := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13)]
  refine View.canon_apply_of_pieces (Val := Elt Ideal) (S := S1x4x256x1024) (e := .bf16) (fun y => kAt x0 x1 x2 x3 x4 x5 x6 x7 x8 x9 x11 x12 x13 ⟨(y 2).val * 4 + (y 1).val, by have h1 : (y 1).val < 4 := (y 1).isLt; have h2 : (y 2).val < 256 := (y 2).isLt; omega⟩ (y 1) (y 2) (y 3)) _ ?_ (ix4 0 r z k) (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 _)
  intro P hP
  rw [pieces15] at hP
  simp only [List.mem_cons, List.not_mem_nil, or_false] at hP
  rcases hP with rfl | rfl | rfl | rfl
  · intro y
    idx_vars y
    refine (kBlock_at ..).trans ?_
    refine (k3_at ..).trans ?_
    show _ = kAt x0 x1 x2 x3 x4 x5 x6 x7 x8 x9 x11 x12 x13 ⟨(0 + 1 * y2.val) * 4 + (3 + 1 * y1.val), by omega⟩ ⟨3 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kBlock_at ..).trans ?_
    refine (k2_at ..).trans ?_
    show _ = kAt x0 x1 x2 x3 x4 x5 x6 x7 x8 x9 x11 x12 x13 ⟨(0 + 1 * y2.val) * 4 + (2 + 1 * y1.val), by omega⟩ ⟨2 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kBlock_at ..).trans ?_
    refine (k1_at ..).trans ?_
    show _ = kAt x0 x1 x2 x3 x4 x5 x6 x7 x8 x9 x11 x12 x13 ⟨(0 + 1 * y2.val) * 4 + (1 + 1 * y1.val), by omega⟩ ⟨1 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kBlock_at ..).trans ?_
    refine (k0_at ..).trans ?_
    show _ = kAt x0 x1 x2 x3 x4 x5 x6 x7 x8 x9 x11 x12 x13 ⟨(0 + 1 * y2.val) * 4 + (0 + 1 * y1.val), by omega⟩ ⟨0 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)

theorem pieces16 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024 .f32) (harg10 : arg10.IsWhole) (arg11 : Memref sig .tc .vmem S3072x1024 .bf16) (harg11 : arg11.IsWhole) (arg12 : Memref sig .tc .vmem S64x256 .f32) (harg12 : arg12.IsWhole) (arg13 : Memref sig .tc .vmem S64x256 .f32) (harg13 : arg13.IsWhole) (arg14 : Memref sig .tc .vmem S4x8x256 .f32) (harg14 : arg14.IsWhole) (arg15 : Memref sig .tc .vmem S4x8x256 .f32) (harg15 : arg15.IsWhole) (arg16 : Memref sig .tc .vmem S1x4x2x1024x128 .bf16) (harg16 : arg16.IsWhole) (arg17 : Memref sig .tc .vmem S1x4x256x1024 .bf16) (harg17 : arg17.IsWhole) (arg18 : Memref sig .tc .vmem S1x4x2x1152x128 .bf16) (harg18 : arg18.IsWhole) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13).2.2.1 = [⟨Rect.unit (s := S1x4x2x1152x128) ![0, 3, 1, 0, 0] S1x1x1x1152x128.size inb_S1x4x2x1152x128_S1x1x1x1152x128_0_3_1_0_0, vHigh (v3 x0 x1 x2 x3 x4 x5 x6 x7 x8 x9)⟩,
      ⟨Rect.unit (s := S1x4x2x1152x128) ![0, 3, 0, 0, 0] S1x1x1x1152x128.size inb_S1x4x2x1152x128_S1x1x1x1152x128_0_3_0_0_0, vLow (v3 x0 x1 x2 x3 x4 x5 x6 x7 x8 x9)⟩,
      ⟨Rect.unit (s := S1x4x2x1152x128) ![0, 2, 1, 0, 0] S1x1x1x1152x128.size inb_S1x4x2x1152x128_S1x1x1x1152x128_0_2_1_0_0, vHigh (v2 x0 x1 x2 x3 x4 x5 x6 x7 x8 x9)⟩,
      ⟨Rect.unit (s := S1x4x2x1152x128) ![0, 2, 0, 0, 0] S1x1x1x1152x128.size inb_S1x4x2x1152x128_S1x1x1x1152x128_0_2_0_0_0, vLow (v2 x0 x1 x2 x3 x4 x5 x6 x7 x8 x9)⟩,
      ⟨Rect.unit (s := S1x4x2x1152x128) ![0, 1, 1, 0, 0] S1x1x1x1152x128.size inb_S1x4x2x1152x128_S1x1x1x1152x128_0_1_1_0_0, vHigh (v1 x0 x1 x2 x3 x4 x5 x6 x7 x8 x9)⟩,
      ⟨Rect.unit (s := S1x4x2x1152x128) ![0, 1, 0, 0, 0] S1x1x1x1152x128.size inb_S1x4x2x1152x128_S1x1x1x1152x128_0_1_0_0_0, vLow (v1 x0 x1 x2 x3 x4 x5 x6 x7 x8 x9)⟩,
      ⟨Rect.unit (s := S1x4x2x1152x128) ![0, 0, 1, 0, 0] S1x1x1x1152x128.size inb_S1x4x2x1152x128_S1x1x1x1152x128_0_0_1_0_0, vHigh (v0 x0 x1 x2 x3 x4 x5 x6 x7 x8 x9)⟩,
      ⟨Rect.unit (s := S1x4x2x1152x128) ![0, 0, 0, 0, 0] S1x1x1x1152x128.size inb_S1x4x2x1152x128_S1x1x1x1152x128_0_0_0_0_0, vLow (v0 x0 x1 x2 x3 x4 x5 x6 x7 x8 x9)⟩] := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  simp only [readAt_box, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

theorem out16_at (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x1024x128 .f32) (harg8 : arg8.IsWhole) (arg9 : Memref sig .tc .vmem S1x1024x128 .f32) (harg9 : arg9.IsWhole) (arg10 : Memref sig .tc .vmem S1x1024 .f32) (harg10 : arg10.IsWhole) (arg11 : Memref sig .tc .vmem S3072x1024 .bf16) (harg11 : arg11.IsWhole) (arg12 : Memref sig .tc .vmem S64x256 .f32) (harg12 : arg12.IsWhole) (arg13 : Memref sig .tc .vmem S64x256 .f32) (harg13 : arg13.IsWhole) (arg14 : Memref sig .tc .vmem S4x8x256 .f32) (harg14 : arg14.IsWhole) (arg15 : Memref sig .tc .vmem S4x8x256 .f32) (harg15 : arg15.IsWhole) (arg16 : Memref sig .tc .vmem S1x4x2x1024x128 .bf16) (harg16 : arg16.IsWhole) (arg17 : Memref sig .tc .vmem S1x4x256x1024 .bf16) (harg17 : arg17.IsWhole) (arg18 : Memref sig .tc .vmem S1x4x2x1152x128 .bf16) (harg18 : arg18.IsWhole) (r : Fin 4) (t : Fin 2) (k : Fin 1152) (l : Fin 128) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 (ix5 0 r t k l) = vAt x0 x1 x2 x3 x4 x5 x6 x7 x8 x9 ⟨(t.val * 128 + l.val) * 4 + r.val, by omega⟩ k := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13)]
  refine View.canon_apply_of_pieces (Val := Elt Ideal) (S := S1x4x2x1152x128) (e := .bf16) (fun y => vAt x0 x1 x2 x3 x4 x5 x6 x7 x8 x9 ⟨((y 2).val * 128 + (y 4).val) * 4 + (y 1).val, by have h1 : (y 1).val < 4 := (y 1).isLt; have h2 : (y 2).val < 2 := (y 2).isLt; have h4 : (y 4).val < 128 := (y 4).isLt; omega⟩ (y 3)) _ ?_ (ix5 0 r t k l) (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 _)
  intro P hP
  rw [pieces16] at hP
  simp only [List.mem_cons, List.not_mem_nil, or_false] at hP
  rcases hP with rfl | rfl | rfl | rfl | rfl | rfl | rfl | rfl
  · intro y
    idx_vars y
    refine (vHigh_at ..).trans ?_
    refine (v3_at ..).trans ?_
    show _ = vAt x0 x1 x2 x3 x4 x5 x6 x7 x8 x9 ⟨((1 + 1 * y2.val) * 128 + (0 + 1 * y4.val)) * 4 + (3 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vLow_at ..).trans ?_
    refine (v3_at ..).trans ?_
    show _ = vAt x0 x1 x2 x3 x4 x5 x6 x7 x8 x9 ⟨((0 + 1 * y2.val) * 128 + (0 + 1 * y4.val)) * 4 + (3 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vHigh_at ..).trans ?_
    refine (v2_at ..).trans ?_
    show _ = vAt x0 x1 x2 x3 x4 x5 x6 x7 x8 x9 ⟨((1 + 1 * y2.val) * 128 + (0 + 1 * y4.val)) * 4 + (2 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vLow_at ..).trans ?_
    refine (v2_at ..).trans ?_
    show _ = vAt x0 x1 x2 x3 x4 x5 x6 x7 x8 x9 ⟨((0 + 1 * y2.val) * 128 + (0 + 1 * y4.val)) * 4 + (2 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vHigh_at ..).trans ?_
    refine (v1_at ..).trans ?_
    show _ = vAt x0 x1 x2 x3 x4 x5 x6 x7 x8 x9 ⟨((1 + 1 * y2.val) * 128 + (0 + 1 * y4.val)) * 4 + (1 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vLow_at ..).trans ?_
    refine (v1_at ..).trans ?_
    show _ = vAt x0 x1 x2 x3 x4 x5 x6 x7 x8 x9 ⟨((0 + 1 * y2.val) * 128 + (0 + 1 * y4.val)) * 4 + (1 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vHigh_at ..).trans ?_
    refine (v0_at ..).trans ?_
    show _ = vAt x0 x1 x2 x3 x4 x5 x6 x7 x8 x9 ⟨((1 + 1 * y2.val) * 128 + (0 + 1 * y4.val)) * 4 + (0 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vLow_at ..).trans ?_
    refine (v0_at ..).trans ?_
    show _ = vAt x0 x1 x2 x3 x4 x5 x6 x7 x8 x9 ⟨((0 + 1 * y2.val) * 128 + (0 + 1 * y4.val)) * 4 + (0 + 1 * y1.val), by omega⟩ ⟨0 + 1 * y3.val, by omega⟩
    congr 1 <;> first | rfl | (apply Fin.ext; dsimp only; omega) | (apply Fin.ext; simp; omega) | (apply Fin.ext; simp)

end Cert.Proj4KernelIdeal.Mix

end
-- ==== Proof.Proj4Reference.lean ====
/-  The reference's queries, keys and values of the windowed mixer at dilation 4, entry by entry. -/
module

public import proofs.«01_k».proof.Proof.Gen.Proj4ReferenceIdeal
public import proofs.«01_k».proof.Proof.Heads
public import Idealize.ShloMosaic.Lib.Pointwise
public import Idealize.ShloMosaic.Lib.Claim

@[expose] public section

set_option maxRecDepth 65536

noncomputable section

namespace Cert.Proj4ReferenceIdeal.Mix

open Cert.Proj4ReferenceIdeal Cert.Proj4ReferenceIdeal.Gen
open Idealize.ShloMosaic Idealize.ShloMosaic.TcCoe Idealize.SL.Sem

/-- The normalised hidden state. -/
def normalised (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf x x) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The three projections, side by side. -/
def projected (x : FVec Ideal S4x8192x1024 .f32) (g : FVec Ideal S1024 .f32) (w : FVec Ideal S1024x3072 .f32) : FVec Ideal S4x8192x3072 .f32 :=
  Host.dotGeneral dot_S4x8192x1024_S1024x3072_S4x8192x3072_2_0_01_1_n_n none (normalised x g) w

/-- Heads of features, normalised over the head. -/
def headNorm (t : FVec Ideal S4x8192x16x64 .f32) (gain : FVec Ideal S64 .f32) : FVec Ideal S4x8192x16x64 .f32 :=
  mulf (mulf t (broadcastInDim S4x8192x16x64 ![0, 1, 2, 3] bcast_S4x8192x16x1_S4x8192x16x64_0_1_2_3
      (Host.rsqrt (addf (Host.divf (broadcastInDim S4x8192x16x1 ![0, 1, 2] bcast_S4x8192x16_S4x8192x16x1_0_1_2
          (Host.reduceAdd (mulf t t) (constant S_ .f32 0x00000000#32) reducesTo_S4x8192x16x64_S4x8192x16_d3 h_S_))
        (broadcastInDim S4x8192x16x1 ![] bcast_S_S4x8192x16x1 (constant S_ .f32 0x42800000#32)))
        (broadcastInDim S4x8192x16x1 ![] bcast_S_S4x8192x16x1 (constant S_ .f32 0x358637BD#32))))))
    (broadcastInDim S4x8192x16x64 ![0, 1, 2, 3] bcast_S1x1x1x64_S4x8192x16x64_0_1_2_3 (broadcastInDim S1x1x1x64 ![3] bcast_S64_S1x1x1x64_3 gain))

/-- A table of the rotation, over heads. -/
def table (c : FVec Ideal S8192x8 .f32) : FVec Ideal S4x8192x16x8 .f32 :=
  broadcastInDim S4x8192x16x8 ![0, 1, 2, 3] bcast_S1x8192x1x8_S4x8192x16x8_0_1_2_3
    (broadcastInDim S1x8192x1x8 ![1, 2, 3] bcast_S8192x1x8_S1x8192x1x8_1_2_3 (broadcastInDim S8192x1x8 ![0, 2] bcast_S8192x8_S8192x1x8_0_2 c))

def first (t : FVec Ideal S4x8192x16x64 .f32) : FVec Ideal S4x8192x16x8 .f32 := extractStridedSlice S4x8192x16x8 ![0, 0, 0, 0] t slices_S4x8192x16x64_S4x8192x16x8_0_0_0_0
def second (t : FVec Ideal S4x8192x16x64 .f32) : FVec Ideal S4x8192x16x8 .f32 := extractStridedSlice S4x8192x16x8 ![0, 0, 0, 8] t slices_S4x8192x16x64_S4x8192x16x8_0_0_0_8

/-- The first features turned. -/
def turned (t : FVec Ideal S4x8192x16x64 .f32) (c s : FVec Ideal S8192x8 .f32) : FVec Ideal S4x8192x16x64 .f32 :=
  concatenate S4x8192x16x64 3 [⟨S4x8192x16x8, subf (mulf (first t) (table c)) (mulf (second t) (table s))⟩,
    ⟨S4x8192x16x8, addf (mulf (second t) (table c)) (mulf (first t) (table s))⟩,
    ⟨S4x8192x16x48, extractStridedSlice S4x8192x16x48 ![0, 0, 0, 16] t slices_S4x8192x16x64_S4x8192x16x48_0_0_0_16⟩]
    concatenates_S4x8192x16x8_S4x8192x16x8_S4x8192x16x48_S4x8192x16x64_d3

/-- Features to normalised and turned features. -/
def heads (p : FVec Ideal S4x8192x1024 .f32) (gain : FVec Ideal S64 .f32) (c s : FVec Ideal S8192x8 .f32) : FVec Ideal S4x8192x1024 .f32 :=
  shapeCast S4x8192x1024 (turned (headNorm (shapeCast S4x8192x16x64 p shapeCasts_S4x8192x1024_S4x8192x16x64) gain) c s) shapeCasts_S4x8192x16x64_S4x8192x1024

variable (x : FVec Ideal S4x8192x1024 .f32) (g : FVec Ideal S1024 .f32) (w : FVec Ideal S1024x3072 .f32) (gq gk : FVec Ideal S64 .f32) (c s : FVec Ideal S8192x8 .f32)

def queryFeatures : FVec Ideal S4x8192x1024 .f32 := extractStridedSlice S4x8192x1024 ![0, 0, 0] (projected x g w) slices_S4x8192x3072_S4x8192x1024_0_0_0
def keyFeatures : FVec Ideal S4x8192x1024 .f32 := extractStridedSlice S4x8192x1024 ![0, 0, 1024] (projected x g w) slices_S4x8192x3072_S4x8192x1024_0_0_1024
def valueFeatures : FVec Ideal S4x8192x1024 .f32 := extractStridedSlice S4x8192x1024 ![0, 0, 2048] (projected x g w) slices_S4x8192x3072_S4x8192x1024_0_0_2048

/-- Features to blocks of tokens, features first. -/
def blocks (p : FVec Ideal S4x8192x1024 .f32) : FVec Ideal S4x4x16x1024x128 .bf16 :=
  truncf .bf16 (transpose S4x4x16x1024x128 [0, 3, 1, 4, 2] (shapeCast S4x16x128x4x1024 p shapeCasts_S4x8192x1024_S4x16x128x4x1024) transposes_S4x16x128x4x1024_S4x4x16x1024x128_0_3_1_4_2) bitsLt_bf16_f32

/-- Tokens by their residue. -/
def streams (p : FVec Ideal S4x8192x1024 .f32) : FVec Ideal S4x4x2048x1024 .bf16 :=
  truncf .bf16 (transpose S4x4x2048x1024 [0, 2, 1, 3] (shapeCast S4x2048x4x1024 p shapeCasts_S4x8192x1024_S4x2048x4x1024) transposes_S4x2048x4x1024_S4x4x2048x1024_0_2_1_3) bitsLt_bf16_f32

/-- Pairs of heads, in blocks of tokens, features first. -/
def pairs (p : FVec Ideal S4x8192x1024 .f32) : FVec Ideal S4x4x16x8x128x128 .f32 :=
  transpose S4x4x16x8x128x128 [0, 3, 1, 4, 5, 2] (shapeCast S4x16x128x4x8x128 p shapeCasts_S4x8192x1024_S4x16x128x4x8x128) transposes_S4x16x128x4x8x128_S4x4x16x8x128x128_0_3_1_4_5_2

/-- Each pair with a row of ones and fifteen of zeros. -/
def paired (p : FVec Ideal S4x4x16x8x128x128 .f32) : FVec Ideal S4x4x16x8x144x128 .f32 :=
  concatenate S4x4x16x8x144x128 4 [⟨S4x4x16x8x128x128, p⟩,
    ⟨S4x4x16x8x1x128, broadcastInDim S4x4x16x8x1x128 ![] bcast_S_S4x4x16x8x1x128 (constant S_ .f32 0x3F800000#32)⟩,
    ⟨S4x4x16x8x15x128, broadcastInDim S4x4x16x8x15x128 ![] bcast_S_S4x4x16x8x15x128 (constant S_ .f32 0x00000000#32)⟩]
    concatenates_S4x4x16x8x128x128_S4x4x16x8x1x128_S4x4x16x8x15x128_S4x4x16x8x144x128_d4

/-- The pairs' rows, one after another. -/
def rows (p : FVec Ideal S4x4x16x8x144x128 .f32) : FVec Ideal S4x4x16x1152x128 .bf16 := truncf .bf16 (shapeCast S4x4x16x1152x128 p shapeCasts_S4x4x16x8x144x128_S4x4x16x1152x128) bitsLt_bf16_f32

/-- The queries, times the softmax's scale. -/
def queries : FVec Ideal S4x4x16x1024x128 .bf16 :=
  blocks (mulf (heads (queryFeatures x g w) gq c s) (broadcastInDim S4x8192x1024 ![] bcast_S_S4x8192x1024 (constant S_ .f32 0x3E38AA3B#32)))

/-- The keys. -/
def keys : FVec Ideal S4x4x2048x1024 .bf16 := streams (heads (keyFeatures x g w) gk c s)

/-- The values, in pairs of heads, each with its row of ones. -/
def values : FVec Ideal S4x4x16x1152x128 .bf16 := rows (paired (pairs (valueFeatures x g w)))

theorem blocks_at (p : FVec Ideal S4x8192x1024 .f32) (b : Fin 4) (r : Fin 4) (n : Fin 16) (j : Fin 1024) (l : Fin 128) :
    blocks p (ix5 b r n j l) = p (ix3 b ⟨(n.val * 128 + l.val) * 4 + r.val, by omega⟩ j) := by
  pointwise [blocks]
  exact congrArg (fun z => p (ix3 b z j)) (Fin.ext (by dsimp only; omega))

theorem scaled_at (p : FVec Ideal S4x8192x1024 .f32) (b : Fin 4) (r : Fin 4) (n : Fin 16) (j : Fin 1024) (l : Fin 128) :
    blocks (mulf p (broadcastInDim S4x8192x1024 ![] bcast_S_S4x8192x1024 (constant S_ .f32 0x3E38AA3B#32))) (ix5 b r n j l)
      = p (ix3 b ⟨(n.val * 128 + l.val) * 4 + r.val, by omega⟩ j) * Ideal.ofBits FTy.f32 0x3E38AA3B#32 := by
  rw [blocks_at]
  pointwise

theorem streams_at (p : FVec Ideal S4x8192x1024 .f32) (b : Fin 4) (r : Fin 4) (n : Fin 2048) (j : Fin 1024) :
    streams p (ix4 b r n j) = p (ix3 b ⟨(n.val) * 4 + r.val, by omega⟩ j) := by
  pointwise [streams]

theorem pairs_at (p : FVec Ideal S4x8192x1024 .f32) (b : Fin 4) (r : Fin 4) (n : Fin 16) (h : Fin 8) (f l : Fin 128) :
    pairs p (ix6 b r n h f l) = p (ix3 b ⟨(n.val * 128 + l.val) * 4 + r.val, by omega⟩ ⟨h.val * 128 + f.val, by omega⟩) := by
  pointwise [pairs]
  exact congrArg (fun z => p (ix3 b z ⟨h.val * 128 + f.val, by omega⟩)) (Fin.ext (by dsimp only; omega))

theorem paired_at (p : FVec Ideal S4x4x16x8x128x128 .f32) (b : Fin 4) (r : Fin 4) (n : Fin 16) (h : Fin 8) (k : Fin 144) (l : Fin 128) :
    paired p (ix6 b r n h k l) = if h' : k.val < 128 then p (ix6 b r n h ⟨k.val, h'⟩ l) else if k.val = 128 then 1 else 0 := by
  pointwise [paired]
  by_cases h₁ : k.val < 128
  · rw [dif_pos h₁, dif_pos h₁]
  · rw [dif_neg h₁, dif_neg h₁]
    by_cases h₂ : k.val = 128
    · rw [dif_pos (show k.val - 128 < 1 by omega), if_pos h₂]
    · rw [dif_neg (show ¬k.val - 128 < 1 by omega), if_neg h₂]

theorem rows_at (p : FVec Ideal S4x4x16x8x144x128 .f32) (b : Fin 4) (r : Fin 4) (n : Fin 16) (k : Fin 1152) (l : Fin 128) :
    rows p (ix5 b r n k l) = p (ix6 b r n ⟨k.val / 144, by omega⟩ ⟨k.val % 144, by omega⟩ l) := by
  pointwise [rows]

theorem normalised_at (b : Fin 4) (n : Fin 8192) (j : Fin 1024) :
    normalised x g (ix3 b n j) = Feed.normed (fun l => x (ix3 b n l)) (fun l => g (ix1 l)) j := by
  pointwise [normalised]
  rfl

theorem projected_at (b : Fin 4) (n : Fin 8192) (j : Fin 3072) :
    projected x g w (ix3 b n j) = ∑ l : Fin 1024, Feed.normed (fun l => x (ix3 b n l)) (fun l => g (ix1 l)) l * w (ix2 l j) := by
  pointwise [projected]
  simp only [normalised_at]

theorem headNorm_at (t : FVec Ideal S4x8192x16x64 .f32) (b : Fin 4) (n : Fin 8192) (h : Fin 16) (f : Fin 64) :
    headNorm t gq (ix4 b n h f) = Heads.normed (fun f => t (ix4 b n h f)) (fun f => gq (ix1 f)) f := by
  pointwise [headNorm]
  rfl

theorem turned_at (t : FVec Ideal S4x8192x16x64 .f32) (b : Fin 4) (n : Fin 8192) (h : Fin 16) (f : Fin 64) :
    turned t c s (ix4 b n h f) = Heads.turned (fun f => t (ix4 b n h f)) (fun e => c (ix2 n e)) (fun e => s (ix2 n e)) f := by
  pointwise [turned, first, second, table]
  unfold Heads.turned
  by_cases h₁ : f.val < 8
  · rw [dif_pos h₁, dif_pos h₁]
    simp only [Nat.add_comm 8]
  · rw [dif_neg h₁, dif_neg h₁]
    by_cases h₂ : f.val < 16
    · rw [dif_pos (show f.val - 8 < 8 by omega), dif_pos h₂]
      have e : 8 + (f.val - 8) = f.val := by omega
      simp only [e]
    · rw [dif_neg (show ¬f.val - 8 < 8 by omega), dif_neg h₂]
      have e : 16 + (f.val - 8 - 8) = f.val := by omega
      simp only [e]

theorem heads_at (p : FVec Ideal S4x8192x1024 .f32) (b : Fin 4) (n : Fin 8192) (j : Fin 1024) :
    heads p gq c s (ix3 b n j) = Heads.turned (Heads.normed (fun f => p (ix3 b n ⟨j.val / 64 * 64 + f.val, by omega⟩)) (fun f => gq (ix1 f)))
      (fun e => c (ix2 n e)) (fun e => s (ix2 n e)) ⟨j.val % 64, by omega⟩ := by
  pointwise [heads]
  refine (turned_at ..).trans ?_
  simp only [headNorm_at]
  pointwise

theorem queryFeatures_at (b : Fin 4) (n : Fin 8192) (j : Fin 1024) :
    queryFeatures x g w (ix3 b n j) = ∑ l : Fin 1024, Feed.normed (fun l => x (ix3 b n l)) (fun l => g (ix1 l)) l * w (ix2 l ⟨j.val, by omega⟩) := by
  pointwise [queryFeatures]
  refine (projected_at ..).trans ?_
  simp only [Nat.zero_add]

theorem keyFeatures_at (b : Fin 4) (n : Fin 8192) (j : Fin 1024) :
    keyFeatures x g w (ix3 b n j) = ∑ l : Fin 1024, Feed.normed (fun l => x (ix3 b n l)) (fun l => g (ix1 l)) l * w (ix2 l ⟨1024 + j.val, by omega⟩) := by
  pointwise [keyFeatures]
  exact projected_at ..

theorem valueFeatures_at (b : Fin 4) (n : Fin 8192) (j : Fin 1024) :
    valueFeatures x g w (ix3 b n j) = ∑ l : Fin 1024, Feed.normed (fun l => x (ix3 b n l)) (fun l => g (ix1 l)) l * w (ix2 l ⟨2048 + j.val, by omega⟩) := by
  pointwise [valueFeatures]
  exact projected_at ..

theorem queries_at (b : Fin 4) (r : Fin 4) (n : Fin 16) (j : Fin 1024) (l : Fin 128) :
    queries x g w gq c s (ix5 b r n j l) = Heads.head (Feed.normed (fun k => x (ix3 b ⟨(n.val * 128 + l.val) * 4 + r.val, by omega⟩ k)) (fun k => g (ix1 k)))
      (fun k i => w (ix2 k ⟨i.val, by omega⟩)) (fun f => gq (ix1 f)) (fun e => c (ix2 ⟨(n.val * 128 + l.val) * 4 + r.val, by omega⟩ e))
      (fun e => s (ix2 ⟨(n.val * 128 + l.val) * 4 + r.val, by omega⟩ e)) j * Ideal.ofBits FTy.f32 0x3E38AA3B#32 := by
  unfold queries Heads.head
  rw [scaled_at, heads_at]
  simp only [queryFeatures_at]

theorem keys_at (b : Fin 4) (r : Fin 4) (n : Fin 2048) (j : Fin 1024) :
    keys x g w gk c s (ix4 b r n j) = Heads.head (Feed.normed (fun k => x (ix3 b ⟨(n.val) * 4 + r.val, by omega⟩ k)) (fun k => g (ix1 k)))
      (fun k i => w (ix2 k ⟨1024 + i.val, by omega⟩)) (fun f => gk (ix1 f)) (fun e => c (ix2 ⟨(n.val) * 4 + r.val, by omega⟩ e))
      (fun e => s (ix2 ⟨(n.val) * 4 + r.val, by omega⟩ e)) j := by
  unfold keys Heads.head
  rw [streams_at, heads_at]
  simp only [keyFeatures_at]

theorem values_at (b : Fin 4) (r : Fin 4) (n : Fin 16) (p : Fin 1152) (l : Fin 128) :
    values x g w (ix5 b r n p l) = Heads.withOnes (fun i => ∑ k, Feed.normed (fun k => x (ix3 b ⟨(n.val * 128 + l.val) * 4 + r.val, by omega⟩ k)) (fun k => g (ix1 k)) k
      * w (ix2 k ⟨2048 + i.val, by omega⟩)) p := by
  unfold values Heads.withOnes
  rw [rows_at, paired_at]
  simp only [pairs_at, valueFeatures_at]

end Cert.Proj4ReferenceIdeal.Mix

end
-- ==== Proof.Proj4Value.lean ====
/-  The windowed mixer's projections: the queries, keys and values the call leaves are the reference's. -/
module

public import proofs.«01_k».proof.Proof.Proj4Block
public import proofs.«01_k».proof.Proof.Proj4Reference
public import proofs.«01_k».proof.Proof.Gen.Proj4KernelIdeal.Value

@[expose] public section

set_option maxRecDepth 65536

noncomputable section

namespace Cert.Proj4KernelIdeal.Mix

open Cert.Proj4KernelIdeal Cert.Proj4KernelIdeal.Gen
open Idealize.ShloMosaic Idealize.ShloMosaic.TcCoe Idealize.SL.Sem
open Idealize.ShloMosaic.Pipeline (Dat)

variable (m : (ℓ : Loc nD τ sig) → Buf (Elt Ideal) ℓ)

/-- The arguments. -/
abbrev argX (c : Dev nD) : FVec Ideal S4x8192x1024 .f32 := m ((c : Thread nD τ).loc main_arg0)
abbrev argG (c : Dev nD) : FVec Ideal S1024 .f32 := m ((c : Thread nD τ).loc main_arg1)
abbrev argW (c : Dev nD) : FVec Ideal S1024x3072 .f32 := m ((c : Thread nD τ).loc main_arg2)
abbrev argQ (c : Dev nD) : FVec Ideal S64 .f32 := m ((c : Thread nD τ).loc main_arg3)
abbrev argK (c : Dev nD) : FVec Ideal S64 .f32 := m ((c : Thread nD τ).loc main_arg4)
abbrev argC (c : Dev nD) : FVec Ideal S8192x8 .f32 := m ((c : Thread nD τ).loc main_arg5)
abbrev argS (c : Dev nD) : FVec Ideal S8192x8 .f32 := m ((c : Thread nD τ).loc main_arg6)

/-- The call's operands. -/
abbrev arrX (c : Dev nD) : FVec Ideal S4x8192x1024 .f32 := V m c main_arg0
abbrev arrG (c : Dev nD) : FVec Ideal S1x1024 .f32 := V m c main_v8
abbrev arrW (c : Dev nD) : FVec Ideal S3072x1024 .bf16 := V m c main_v10
abbrev arrQ (c : Dev nD) : FVec Ideal S64x256 .f32 := V m c main_v5
abbrev arrK (c : Dev nD) : FVec Ideal S64x256 .f32 := V m c main_v7
abbrev arrC (c : Dev nD) : FVec Ideal S4x8x2048 .f32 := V m c main_v1
abbrev arrS (c : Dev nD) : FVec Ideal S4x8x2048 .f32 := V m c main_v3

theorem g_at (c : Dev nD) (j : Fin 1024) : arrG m c (ix2 0 j) = argG m c (ix1 j) := by
  unfold arrG; entry_read; pointwise

theorem w_at (c : Dev nD) (k : Fin 3072) (l : Fin 1024) : arrW m c (ix2 k l) = argW m c (ix2 l k) := by
  unfold arrW; entry_read; pointwise

theorem gq_at (c : Dev nD) (f : Fin 64) (n : Fin 256) : arrQ m c (ix2 f n) = argQ m c (ix1 f) := by
  unfold arrQ; entry_read; pointwise

theorem gk_at (c : Dev nD) (f : Fin 64) (n : Fin 256) : arrK m c (ix2 f n) = argK m c (ix1 f) := by
  unfold arrK; entry_read; pointwise

theorem cos_at (c : Dev nD) (r : Fin 4) (e : Fin 8) (n : Fin 2048) : arrC m c (ix3 r e n) = argC m c (ix2 ⟨n.val * 4 + r.val, by omega⟩ e) := by
  unfold arrC; entry_read; pointwise

theorem sin_at (c : Dev nD) (r : Fin 4) (e : Fin 8) (n : Fin 2048) : arrS m c (ix3 r e n) = argS m c (ix2 ⟨n.val * 4 + r.val, by omega⟩ e) := by
  unfold arrS; entry_read; pointwise

theorem idx_slab : ∀ t : Fin cfg0.N, win0_0.index t = ![t.val / 8, t.val % 8, 0] ∧ win0_1.index t = ![t.val / 8, t.val % 8, 1] ∧ win0_2.index t = ![t.val / 8, t.val % 8, 2] ∧ win0_3.index t = ![t.val / 8, t.val % 8, 3] ∧ win0_4.index t = ![t.val / 8, t.val % 8, 4] ∧ win0_5.index t = ![t.val / 8, t.val % 8, 5] ∧ win0_6.index t = ![t.val / 8, t.val % 8, 6] ∧ win0_7.index t = ![t.val / 8, t.val % 8, 7] :=
  (by decide +kernel : ∀ t : Fin grid0.N, _)

theorem idx_whole : ∀ t : Fin cfg0.N, win0_8.index t = ![0, 0] ∧ win0_9.index t = ![0, 0] ∧ win0_10.index t = ![0, 0] ∧ win0_11.index t = ![0, 0] :=
  (by decide +kernel : ∀ t : Fin grid0.N, _)

theorem idx_tiles : ∀ t : Fin cfg0.N, win0_12.index t = ![0, 0, t.val % 8] ∧ win0_13.index t = ![0, 0, t.val % 8]
    ∧ win0_14.index t = ![t.val / 8, 0, t.val % 8, 0, 0] ∧ win0_15.index t = ![t.val / 8, 0, t.val % 8, 0]
    ∧ win0_16.index t = ![t.val / 8, 0, t.val % 8, 0, 0] :=
  (by decide +kernel : ∀ t : Fin grid0.N, _)

theorem blkX0_at (c : Dev nD) (n : Fin 32) (h : n.val < cfg0.N) (r : Fin 1024) (l : Fin 128) :
    iblk m c 0 ⟨n.val, h⟩ (ix3 0 r l) = arrX m c (ix3 ⟨n.val / 8, by omega⟩ ⟨n.val % 8 * 1024 + r.val, by omega⟩ ⟨0 * 128 + l.val, by omega⟩) := by
  have e := (idx_slab ⟨n.val, h⟩).1
  unfold iblk; blk_ext [e]

theorem blkX1_at (c : Dev nD) (n : Fin 32) (h : n.val < cfg0.N) (r : Fin 1024) (l : Fin 128) :
    iblk m c 1 ⟨n.val, h⟩ (ix3 0 r l) = arrX m c (ix3 ⟨n.val / 8, by omega⟩ ⟨n.val % 8 * 1024 + r.val, by omega⟩ ⟨1 * 128 + l.val, by omega⟩) := by
  have e := (idx_slab ⟨n.val, h⟩).2.1
  unfold iblk; blk_ext [e]

theorem blkX2_at (c : Dev nD) (n : Fin 32) (h : n.val < cfg0.N) (r : Fin 1024) (l : Fin 128) :
    iblk m c 2 ⟨n.val, h⟩ (ix3 0 r l) = arrX m c (ix3 ⟨n.val / 8, by omega⟩ ⟨n.val % 8 * 1024 + r.val, by omega⟩ ⟨2 * 128 + l.val, by omega⟩) := by
  have e := (idx_slab ⟨n.val, h⟩).2.2.1
  unfold iblk; blk_ext [e]

theorem blkX3_at (c : Dev nD) (n : Fin 32) (h : n.val < cfg0.N) (r : Fin 1024) (l : Fin 128) :
    iblk m c 3 ⟨n.val, h⟩ (ix3 0 r l) = arrX m c (ix3 ⟨n.val / 8, by omega⟩ ⟨n.val % 8 * 1024 + r.val, by omega⟩ ⟨3 * 128 + l.val, by omega⟩) := by
  have e := (idx_slab ⟨n.val, h⟩).2.2.2.1
  unfold iblk; blk_ext [e]

theorem blkX4_at (c : Dev nD) (n : Fin 32) (h : n.val < cfg0.N) (r : Fin 1024) (l : Fin 128) :
    iblk m c 4 ⟨n.val, h⟩ (ix3 0 r l) = arrX m c (ix3 ⟨n.val / 8, by omega⟩ ⟨n.val % 8 * 1024 + r.val, by omega⟩ ⟨4 * 128 + l.val, by omega⟩) := by
  have e := (idx_slab ⟨n.val, h⟩).2.2.2.2.1
  unfold iblk; blk_ext [e]

theorem blkX5_at (c : Dev nD) (n : Fin 32) (h : n.val < cfg0.N) (r : Fin 1024) (l : Fin 128) :
    iblk m c 5 ⟨n.val, h⟩ (ix3 0 r l) = arrX m c (ix3 ⟨n.val / 8, by omega⟩ ⟨n.val % 8 * 1024 + r.val, by omega⟩ ⟨5 * 128 + l.val, by omega⟩) := by
  have e := (idx_slab ⟨n.val, h⟩).2.2.2.2.2.1
  unfold iblk; blk_ext [e]

theorem blkX6_at (c : Dev nD) (n : Fin 32) (h : n.val < cfg0.N) (r : Fin 1024) (l : Fin 128) :
    iblk m c 6 ⟨n.val, h⟩ (ix3 0 r l) = arrX m c (ix3 ⟨n.val / 8, by omega⟩ ⟨n.val % 8 * 1024 + r.val, by omega⟩ ⟨6 * 128 + l.val, by omega⟩) := by
  have e := (idx_slab ⟨n.val, h⟩).2.2.2.2.2.2.1
  unfold iblk; blk_ext [e]

theorem blkX7_at (c : Dev nD) (n : Fin 32) (h : n.val < cfg0.N) (r : Fin 1024) (l : Fin 128) :
    iblk m c 7 ⟨n.val, h⟩ (ix3 0 r l) = arrX m c (ix3 ⟨n.val / 8, by omega⟩ ⟨n.val % 8 * 1024 + r.val, by omega⟩ ⟨7 * 128 + l.val, by omega⟩) := by
  have e := (idx_slab ⟨n.val, h⟩).2.2.2.2.2.2.2
  unfold iblk; blk_ext [e]

theorem blkG_at (c : Dev nD) (t : Fin cfg0.N) (j : Fin 1024) : iblk m c 8 t (ix2 0 j) = arrG m c (ix2 0 j) := by
  have e := (idx_whole t).1
  unfold iblk; blk_ext [e]

theorem blkW_at (c : Dev nD) (t : Fin cfg0.N) (k : Fin 3072) (l : Fin 1024) : iblk m c 9 t (ix2 k l) = arrW m c (ix2 k l) := by
  have e := (idx_whole t).2.1
  unfold iblk; blk_ext [e]

theorem blkQ_at (c : Dev nD) (t : Fin cfg0.N) (f : Fin 64) (n : Fin 256) : iblk m c 10 t (ix2 f n) = arrQ m c (ix2 f n) := by
  have e := (idx_whole t).2.2.1
  unfold iblk; blk_ext [e]

theorem blkK_at (c : Dev nD) (t : Fin cfg0.N) (f : Fin 64) (n : Fin 256) : iblk m c 11 t (ix2 f n) = arrK m c (ix2 f n) := by
  have e := (idx_whole t).2.2.2
  unfold iblk; blk_ext [e]

theorem blkC_at (c : Dev nD) (n : Fin 32) (h : n.val < cfg0.N) (r : Fin 4) (e : Fin 8) (i : Fin 256) :
    iblk m c 12 ⟨n.val, h⟩ (ix3 r e i) = arrC m c (ix3 r e ⟨n.val % 8 * 256 + i.val, by omega⟩) := by
  have e := (idx_tiles ⟨n.val, h⟩).1
  unfold iblk; blk_ext [e]

theorem blkS_at (c : Dev nD) (n : Fin 32) (h : n.val < cfg0.N) (r : Fin 4) (e : Fin 8) (i : Fin 256) :
    iblk m c 13 ⟨n.val, h⟩ (ix3 r e i) = arrS m c (ix3 r e ⟨n.val % 8 * 256 + i.val, by omega⟩) := by
  have e := (idx_tiles ⟨n.val, h⟩).2.1
  unfold iblk; blk_ext [e]

theorem weights_at (c : Dev nD) (t : Fin cfg0.N) (k : Fin 3072) (l : Fin 1024) : iblk m c 9 t (ix2 k l) = argW m c (ix2 l k) :=
  (blkW_at ..).trans (w_at ..)

theorem gainQ_at (c : Dev nD) (t : Fin cfg0.N) (f : Fin 64) (n : Fin 256) : iblk m c 10 t (ix2 f n) = argQ m c (ix1 f) :=
  (blkQ_at ..).trans (gq_at ..)

theorem gainK_at (c : Dev nD) (t : Fin cfg0.N) (f : Fin 64) (n : Fin 256) : iblk m c 11 t (ix2 f n) = argK m c (ix1 f) :=
  (blkK_at ..).trans (gk_at ..)

theorem slab_at (c : Dev nD) (n : Fin 32) (h : n.val < cfg0.N) (r : Fin 1024) (l : Fin 1024) :
    slab (iblk m c 0 ⟨n.val, h⟩) (iblk m c 1 ⟨n.val, h⟩) (iblk m c 2 ⟨n.val, h⟩) (iblk m c 3 ⟨n.val, h⟩) (iblk m c 4 ⟨n.val, h⟩) (iblk m c 5 ⟨n.val, h⟩) (iblk m c 6 ⟨n.val, h⟩) (iblk m c 7 ⟨n.val, h⟩) r l = argX m c (ix3 ⟨n.val / 8, by omega⟩ ⟨n.val % 8 * 1024 + r.val, by omega⟩ l) := by
  have key : ∀ (k : Fin 8) (i : Fin 128),
      (![iblk m c 0 ⟨n.val, h⟩, iblk m c 1 ⟨n.val, h⟩, iblk m c 2 ⟨n.val, h⟩, iblk m c 3 ⟨n.val, h⟩, iblk m c 4 ⟨n.val, h⟩, iblk m c 5 ⟨n.val, h⟩, iblk m c 6 ⟨n.val, h⟩, iblk m c 7 ⟨n.val, h⟩] : Fin 8 → Vec Ideal S1x1024x128 .f32) k (ix3 0 r i)
        = arrX m c (ix3 ⟨n.val / 8, by omega⟩ ⟨n.val % 8 * 1024 + r.val, by omega⟩ ⟨k.val * 128 + i.val, by omega⟩) := by
    intro k i
    fin_cases k
    · exact blkX0_at m c n h r i
    · exact blkX1_at m c n h r i
    · exact blkX2_at m c n h r i
    · exact blkX3_at m c n h r i
    · exact blkX4_at m c n h r i
    · exact blkX5_at m c n h r i
    · exact blkX6_at m c n h r i
    · exact blkX7_at m c n h r i
  refine (key ⟨l.val / 128, by omega⟩ ⟨l.val % 128, by omega⟩).trans ?_
  refine (congrArg (arrX m c) ?_).trans (congrFun (V_main_arg0 m c) _)
  exact congrArg (ix3 _ _) (Fin.ext (by dsimp only; omega))

theorem row_at (c : Dev nD) (n : Fin 32) (h : n.val < cfg0.N) (r : Fin 1024) :
    row (iblk m c 0 ⟨n.val, h⟩) (iblk m c 1 ⟨n.val, h⟩) (iblk m c 2 ⟨n.val, h⟩) (iblk m c 3 ⟨n.val, h⟩) (iblk m c 4 ⟨n.val, h⟩) (iblk m c 5 ⟨n.val, h⟩) (iblk m c 6 ⟨n.val, h⟩) (iblk m c 7 ⟨n.val, h⟩) (iblk m c 8 ⟨n.val, h⟩) r = Feed.normed (fun l => argX m c (ix3 ⟨n.val / 8, by omega⟩ ⟨n.val % 8 * 1024 + r.val, by omega⟩ l)) (fun l => argG m c (ix1 l)) := by
  unfold row
  refine congrArg₂ Feed.normed (funext fun l => ?_) (funext fun l => ?_)
  · exact slab_at m c n h r l
  · exact (blkG_at ..).trans (g_at ..)

theorem tabC_at (c : Dev nD) (n : Fin 32) (h : n.val < cfg0.N) (r : Fin 4) (e : Fin 8) (i : Fin 256) :
    iblk m c 12 ⟨n.val, h⟩ (ix3 r e i) = argC m c (ix2 ⟨n.val % 8 * 1024 + (i.val * 4 + r.val), by omega⟩ e) := by
  refine (blkC_at ..).trans ((cos_at ..).trans ?_)
  refine congrArg (argC m c) (congrArg (fun a => ix2 a e) (Fin.ext ?_))
  dsimp only; omega

theorem tabS_at (c : Dev nD) (n : Fin 32) (h : n.val < cfg0.N) (r : Fin 4) (e : Fin 8) (i : Fin 256) :
    iblk m c 13 ⟨n.val, h⟩ (ix3 r e i) = argS m c (ix2 ⟨n.val % 8 * 1024 + (i.val * 4 + r.val), by omega⟩ e) := by
  refine (blkS_at ..).trans ((sin_at ..).trans ?_)
  refine congrArg (argS m c) (congrArg (fun a => ix2 a e) (Fin.ext ?_))
  dsimp only; omega

theorem q_row (c : Dev nD) (n : Fin 32) (h : n.val < cfg0.N) (r : Fin 4) (i : Fin 256) (k : Fin 1024) :
    qAt (iblk m c 0 ⟨n.val, h⟩) (iblk m c 1 ⟨n.val, h⟩) (iblk m c 2 ⟨n.val, h⟩) (iblk m c 3 ⟨n.val, h⟩) (iblk m c 4 ⟨n.val, h⟩) (iblk m c 5 ⟨n.val, h⟩) (iblk m c 6 ⟨n.val, h⟩) (iblk m c 7 ⟨n.val, h⟩) (iblk m c 8 ⟨n.val, h⟩) (iblk m c 9 ⟨n.val, h⟩) (iblk m c 10 ⟨n.val, h⟩) (iblk m c 12 ⟨n.val, h⟩) (iblk m c 13 ⟨n.val, h⟩) ⟨i.val * 4 + r.val, by omega⟩ r i k
      = Heads.head (Feed.normed (fun l => argX m c (ix3 ⟨n.val / 8, by omega⟩ ⟨n.val % 8 * 1024 + (i.val * 4 + r.val), by omega⟩ l)) (fun l => argG m c (ix1 l))) (fun l j => argW m c (ix2 l ⟨j.val, by omega⟩)) (fun f => argQ m c (ix1 f))
          (fun e => argC m c (ix2 ⟨n.val % 8 * 1024 + (i.val * 4 + r.val), by omega⟩ e)) (fun e => argS m c (ix2 ⟨n.val % 8 * 1024 + (i.val * 4 + r.val), by omega⟩ e)) k * Ideal.ofBits FTy.f32 0x3E38AA3B#32 := by
  unfold qAt
  simp only [row_at m c n h, weights_at, gainQ_at, tabC_at m c n h, tabS_at m c n h]

theorem k_row (c : Dev nD) (n : Fin 32) (h : n.val < cfg0.N) (r : Fin 4) (i : Fin 256) (k : Fin 1024) :
    kAt (iblk m c 0 ⟨n.val, h⟩) (iblk m c 1 ⟨n.val, h⟩) (iblk m c 2 ⟨n.val, h⟩) (iblk m c 3 ⟨n.val, h⟩) (iblk m c 4 ⟨n.val, h⟩) (iblk m c 5 ⟨n.val, h⟩) (iblk m c 6 ⟨n.val, h⟩) (iblk m c 7 ⟨n.val, h⟩) (iblk m c 8 ⟨n.val, h⟩) (iblk m c 9 ⟨n.val, h⟩) (iblk m c 11 ⟨n.val, h⟩) (iblk m c 12 ⟨n.val, h⟩) (iblk m c 13 ⟨n.val, h⟩) ⟨i.val * 4 + r.val, by omega⟩ r i k
      = Heads.head (Feed.normed (fun l => argX m c (ix3 ⟨n.val / 8, by omega⟩ ⟨n.val % 8 * 1024 + (i.val * 4 + r.val), by omega⟩ l)) (fun l => argG m c (ix1 l))) (fun l j => argW m c (ix2 l ⟨1024 + j.val, by omega⟩)) (fun f => argK m c (ix1 f))
          (fun e => argC m c (ix2 ⟨n.val % 8 * 1024 + (i.val * 4 + r.val), by omega⟩ e)) (fun e => argS m c (ix2 ⟨n.val % 8 * 1024 + (i.val * 4 + r.val), by omega⟩ e)) k := by
  unfold kAt
  simp only [row_at m c n h, weights_at, gainK_at, tabC_at m c n h, tabS_at m c n h]

theorem v_row (c : Dev nD) (n : Fin 32) (h : n.val < cfg0.N) (r : Fin 4) (i : Fin 256) (p : Fin 1152) :
    vAt (iblk m c 0 ⟨n.val, h⟩) (iblk m c 1 ⟨n.val, h⟩) (iblk m c 2 ⟨n.val, h⟩) (iblk m c 3 ⟨n.val, h⟩) (iblk m c 4 ⟨n.val, h⟩) (iblk m c 5 ⟨n.val, h⟩) (iblk m c 6 ⟨n.val, h⟩) (iblk m c 7 ⟨n.val, h⟩) (iblk m c 8 ⟨n.val, h⟩) (iblk m c 9 ⟨n.val, h⟩) ⟨i.val * 4 + r.val, by omega⟩ p
      = Heads.withOnes (fun j => ∑ l, Feed.normed (fun l => argX m c (ix3 ⟨n.val / 8, by omega⟩ ⟨n.val % 8 * 1024 + (i.val * 4 + r.val), by omega⟩ l)) (fun l => argG m c (ix1 l)) l * argW m c (ix2 l ⟨2048 + j.val, by omega⟩)) p := by
  unfold vAt
  simp only [row_at m c n h, weights_at]

/-- The reference's results. -/
abbrev goalQ (c : Dev nD) : FVec Ideal S4x4x16x1024x128 .bf16 :=
  Cert.Proj4ReferenceIdeal.Mix.queries (argX m c) (argG m c) (argW m c) (argQ m c) (argC m c) (argS m c)
abbrev goalK (c : Dev nD) : FVec Ideal S4x4x2048x1024 .bf16 :=
  Cert.Proj4ReferenceIdeal.Mix.keys (argX m c) (argG m c) (argW m c) (argK m c) (argC m c) (argS m c)
abbrev goalV (c : Dev nD) : FVec Ideal S4x4x16x1152x128 .bf16 :=
  Cert.Proj4ReferenceIdeal.Mix.values (argX m c) (argG m c) (argW m c)

theorem final_q (c : Dev nD) : (dats m 0 c).arrAt 14 cfg0.N = goalQ m c := by
  have hN : cfg0.N = 32 := N_0
  refine (dats m 0 c).arrAt_eq_of_covers 14 _ (by decide +kernel) fun t hf y => ?_
  have e := (idx_tiles t).2.2.1
  have ht : t.val < 32 := t.isLt.trans_eq hN
  blk_simp
  rw [after0_14]
  unfold outsAt0
  dsimp only
  idx_vars y
  obtain rfl : y0 = 0 := Subsingleton.elim _ _
  refine (out14_at _ _ _ _ _ _ _ _ _ _ _ _ _ _ _ _ _ _ _ _ _ _ _ _ _ _ _ _ _ _ _ _ _ _ _ _ _ _ _ _ _ _ _ _ _ _ _ _ _ _ y1 y2 y3 y4).trans ?_
  refine (q_row m c ⟨t.val, ht⟩ t.isLt y1 ⟨y2.val * 128 + y4.val, by omega⟩ y3).trans ?_
  refine Eq.trans ?_ (Eq.trans (Cert.Proj4ReferenceIdeal.Mix.queries_at (argX m c) (argG m c) (argW m c) (argQ m c) (argC m c) (argS m c) ⟨t.val / 8, by omega⟩ y1 ⟨t.val % 8 * 2 + y2.val, by omega⟩ y3 y4).symm ?_)
  · have en : (⟨t.val % 8 * 1024 + ((y2.val * 128 + y4.val) * 4 + y1.val), by omega⟩ : Fin 8192) = ⟨((t.val % 8 * 2 + y2.val) * 128 + y4.val) * 4 + y1.val, by omega⟩ := Fin.ext (by dsimp only; omega)
    exact congrArg (fun a : Fin 8192 => Heads.head (Feed.normed (fun l => argX m c (ix3 ⟨t.val / 8, by omega⟩ a l)) (fun l => argG m c (ix1 l))) (fun l j => argW m c (ix2 l ⟨j.val, by omega⟩)) (fun f => argQ m c (ix1 f)) (fun e => argC m c (ix2 a e)) (fun e => argS m c (ix2 a e)) y3 * Ideal.ofBits FTy.f32 0x3E38AA3B#32) en
  · refine congrArg (goalQ m c) ?_
    blk_ext [e]

theorem final_k (c : Dev nD) : (dats m 0 c).arrAt 15 cfg0.N = goalK m c := by
  have hN : cfg0.N = 32 := N_0
  refine (dats m 0 c).arrAt_eq_of_covers 15 _ (by decide +kernel) fun t hf y => ?_
  have e := (idx_tiles t).2.2.2.1
  have ht : t.val < 32 := t.isLt.trans_eq hN
  blk_simp
  rw [after0_15]
  unfold outsAt0
  dsimp only
  idx_vars y
  obtain rfl : y0 = 0 := Subsingleton.elim _ _
  refine (out15_at _ _ _ _ _ _ _ _ _ _ _ _ _ _ _ _ _ _ _ _ _ _ _ _ _ _ _ _ _ _ _ _ _ _ _ _ _ _ _ _ _ _ _ _ _ _ _ _ _ _ y1 y2 y3).trans ?_
  refine (k_row m c ⟨t.val, ht⟩ t.isLt y1 y2 y3).trans ?_
  refine Eq.trans ?_ (Eq.trans (Cert.Proj4ReferenceIdeal.Mix.keys_at (argX m c) (argG m c) (argW m c) (argK m c) (argC m c) (argS m c) ⟨t.val / 8, by omega⟩ y1 ⟨t.val % 8 * 256 + y2.val, by omega⟩ y3).symm ?_)
  · have en : (⟨t.val % 8 * 1024 + (y2.val * 4 + y1.val), by omega⟩ : Fin 8192) = ⟨(t.val % 8 * 256 + y2.val) * 4 + y1.val, by omega⟩ := Fin.ext (by dsimp only; omega)
    exact congrArg (fun a : Fin 8192 => Heads.head (Feed.normed (fun l => argX m c (ix3 ⟨t.val / 8, by omega⟩ a l)) (fun l => argG m c (ix1 l))) (fun l j => argW m c (ix2 l ⟨1024 + j.val, by omega⟩)) (fun f => argK m c (ix1 f)) (fun e => argC m c (ix2 a e)) (fun e => argS m c (ix2 a e)) y3) en
  · refine congrArg (goalK m c) ?_
    blk_ext [e]

theorem final_v (c : Dev nD) : (dats m 0 c).arrAt 16 cfg0.N = goalV m c := by
  have hN : cfg0.N = 32 := N_0
  refine (dats m 0 c).arrAt_eq_of_covers 16 _ (by decide +kernel) fun t hf y => ?_
  have e := (idx_tiles t).2.2.2.2
  have ht : t.val < 32 := t.isLt.trans_eq hN
  blk_simp
  rw [after0_16]
  unfold outsAt0
  dsimp only
  idx_vars y
  obtain rfl : y0 = 0 := Subsingleton.elim _ _
  refine (out16_at _ _ _ _ _ _ _ _ _ _ _ _ _ _ _ _ _ _ _ _ _ _ _ _ _ _ _ _ _ _ _ _ _ _ _ _ _ _ _ _ _ _ _ _ _ _ _ _ _ _ y1 y2 y3 y4).trans ?_
  refine (v_row m c ⟨t.val, ht⟩ t.isLt y1 ⟨y2.val * 128 + y4.val, by omega⟩ y3).trans ?_
  refine Eq.trans ?_ (Eq.trans (Cert.Proj4ReferenceIdeal.Mix.values_at (argX m c) (argG m c) (argW m c) ⟨t.val / 8, by omega⟩ y1 ⟨t.val % 8 * 2 + y2.val, by omega⟩ y3 y4).symm ?_)
  · have en : (⟨t.val % 8 * 1024 + ((y2.val * 128 + y4.val) * 4 + y1.val), by omega⟩ : Fin 8192) = ⟨((t.val % 8 * 2 + y2.val) * 128 + y4.val) * 4 + y1.val, by omega⟩ := Fin.ext (by dsimp only; omega)
    exact congrArg (fun a : Fin 8192 => Heads.withOnes (fun j => ∑ l, Feed.normed (fun l => argX m c (ix3 ⟨t.val / 8, by omega⟩ a l)) (fun l => argG m c (ix1 l)) l * argW m c (ix2 l ⟨2048 + j.val, by omega⟩)) y3) en
  · refine congrArg (goalV m c) ?_
    blk_ext [e]

end Cert.Proj4KernelIdeal.Mix

namespace Cert.Proj4ReferenceIdeal.Mix

open Cert.Proj4ReferenceIdeal Cert.Proj4ReferenceIdeal.Gen
open Idealize.ShloMosaic Idealize.ShloMosaic.TcCoe Idealize.SL.Sem

/-- Turned features and the others, side by side. -/
def joined (a b : FVec Ideal S4x8192x16x8 .f32) (d : FVec Ideal S4x8192x16x48 .f32) : FVec Ideal S4x8192x1024 .f32 :=
  shapeCast S4x8192x1024 (concatenate S4x8192x16x64 3 [⟨S4x8192x16x8, a⟩, ⟨S4x8192x16x8, b⟩, ⟨S4x8192x16x48, d⟩]
    concatenates_S4x8192x16x8_S4x8192x16x8_S4x8192x16x48_S4x8192x16x64_d3) shapeCasts_S4x8192x16x64_S4x8192x1024

/-- Pairs and their further rows. -/
def stacked (p : FVec Ideal S4x4x16x8x128x128 .f32) (o : FVec Ideal S4x4x16x8x1x128 .f32) (z : FVec Ideal S4x4x16x8x15x128 .f32) : FVec Ideal S4x4x16x8x144x128 .f32 :=
  concatenate S4x4x16x8x144x128 4 [⟨S4x4x16x8x128x128, p⟩, ⟨S4x4x16x8x1x128, o⟩, ⟨S4x4x16x8x15x128, z⟩]
    concatenates_S4x4x16x8x128x128_S4x4x16x8x1x128_S4x4x16x8x15x128_S4x4x16x8x144x128_d4

/-- The three pieces of a heads' concatenation. -/
def firstTurned (t : FVec Ideal S4x8192x16x64 .f32) (c s : FVec Ideal S8192x8 .f32) : FVec Ideal S4x8192x16x8 .f32 := subf (mulf (first t) (table c)) (mulf (second t) (table s))
def secondTurned (t : FVec Ideal S4x8192x16x64 .f32) (c s : FVec Ideal S8192x8 .f32) : FVec Ideal S4x8192x16x8 .f32 := addf (mulf (second t) (table c)) (mulf (first t) (table s))
def others (t : FVec Ideal S4x8192x16x64 .f32) : FVec Ideal S4x8192x16x48 .f32 := extractStridedSlice S4x8192x16x48 ![0, 0, 0, 16] t slices_S4x8192x16x64_S4x8192x16x48_0_0_0_16
def oneRow : FVec Ideal S4x4x16x8x1x128 .f32 := broadcastInDim S4x4x16x8x1x128 ![] bcast_S_S4x4x16x8x1x128 (constant S_ .f32 0x3F800000#32)
def zeroRows : FVec Ideal S4x4x16x8x15x128 .f32 := broadcastInDim S4x4x16x8x15x128 ![] bcast_S_S4x4x16x8x15x128 (constant S_ .f32 0x00000000#32)
def headsOf (p : FVec Ideal S4x8192x1024 .f32) (gain : FVec Ideal S64 .f32) : FVec Ideal S4x8192x16x64 .f32 := headNorm (shapeCast S4x8192x16x64 p shapeCasts_S4x8192x1024_S4x8192x16x64) gain
def scaled (p : FVec Ideal S4x8192x1024 .f32) : FVec Ideal S4x8192x1024 .f32 := mulf p (broadcastInDim S4x8192x1024 ![] bcast_S_S4x8192x1024 (constant S_ .f32 0x3E38AA3B#32))

theorem queries_pieces (x : FVec Ideal S4x8192x1024 .f32) (g : FVec Ideal S1024 .f32) (w : FVec Ideal S1024x3072 .f32) (gq : FVec Ideal S64 .f32) (c s : FVec Ideal S8192x8 .f32) :
    blocks (scaled (joined (firstTurned (headsOf (queryFeatures x g w) gq) c s) (secondTurned (headsOf (queryFeatures x g w) gq) c s) (others (headsOf (queryFeatures x g w) gq)))) = queries x g w gq c s := rfl
theorem keys_pieces (x : FVec Ideal S4x8192x1024 .f32) (g : FVec Ideal S1024 .f32) (w : FVec Ideal S1024x3072 .f32) (gk : FVec Ideal S64 .f32) (c s : FVec Ideal S8192x8 .f32) :
    streams (joined (firstTurned (headsOf (keyFeatures x g w) gk) c s) (secondTurned (headsOf (keyFeatures x g w) gk) c s) (others (headsOf (keyFeatures x g w) gk))) = keys x g w gk c s := rfl
theorem values_pieces (x : FVec Ideal S4x8192x1024 .f32) (g : FVec Ideal S1024 .f32) (w : FVec Ideal S1024x3072 .f32) :
    rows (stacked (pairs (valueFeatures x g w)) oneRow zeroRows) = values x g w := rfl

end Cert.Proj4ReferenceIdeal.Mix

end
-- ==== Proof.Proj16Tile.lean ====
/-  The tiles of the windowed mixer's projections, entry by entry: normalised rows, projected features, heads and pairs of heads. -/
module

public import proofs.«01_k».proof.Proof.Gen.Proj16KernelIdeal.Frame
public import proofs.«01_k».proof.Proof.Heads
public import Idealize.ShloMosaic.Lib.Pointwise

@[expose] public section

set_option maxRecDepth 65536

noncomputable section

namespace Cert.Proj16KernelIdeal.Mix

open Cert.Proj16KernelIdeal Cert.Proj16KernelIdeal.Gen
open Idealize.ShloMosaic Idealize.ShloMosaic.TcCoe Idealize.SL.Sem

/-- Eight slabs of features, side by side. -/
def cat (v0 v1 v2 v3 v4 v5 v6 v7 : FVec Ideal S128x128 .f32) : FVec Ideal S128x1024 .f32 :=
  concatenate S128x1024 1 [⟨S128x128, v0⟩, ⟨S128x128, v1⟩, ⟨S128x128, v2⟩, ⟨S128x128, v3⟩, ⟨S128x128, v4⟩, ⟨S128x128, v5⟩, ⟨S128x128, v6⟩, ⟨S128x128, v7⟩]
    concatenates_S128x128_S128x128_S128x128_S128x128_S128x128_S128x128_S128x128_S128x128_S128x1024_d1

/-- The rows of two residues, one above the other. -/
def stackRows (a b : FVec Ideal S128x1024 .f32) : FVec Ideal S256x1024 .f32 :=
  concatenate S256x1024 0 [⟨S128x1024, a⟩, ⟨S128x1024, b⟩] concatenates_S128x1024_S128x1024_S256x1024_d0

/-- The tables of two residues, side by side. -/
def stackTabs (a b : FVec Ideal S8x128 .f32) : FVec Ideal S8x256 .f32 :=
  concatenate S8x256 1 [⟨S8x128, a⟩, ⟨S8x128, b⟩] concatenates_S8x128_S8x128_S8x256_d1

/-- The rows, normalised. -/
def nrm (a : FVec Ideal S256x1024 .f32) (g : Vec Ideal S1x1024 .f32) : FVec Ideal S256x1024 .bf16 :=
  truncf .bf16 (mulf (mulf a (broadcastTo S256x1024 (rsqrt (addf (divf (shapeCast S256x1
        (multiReduction .add [1] S256 (mulf a a) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 (shapeCast S1x1024 g shapeCasts_S1x1024_S1x1024) broadcasts_S1x1024_S256x1024)) bitsLt_bf16_f32

/-- Projected features, features first. -/
def dot (y : FVec Ideal S256x1024 .bf16) (w : Vec Ideal S1024x1024 .bf16) : FVec Ideal S1024x256 .f32 :=
  matmul dot_S1024x1024_S256x1024_S1024x256_1_1_0_0_n_n none (shapeCast S1024x1024 w shapeCasts_S1024x1024_S1024x1024 : FVec Ideal S1024x1024 .bf16) y (constant S1024x256 .f32 0x00000000#32)

/-- Heads, normalised. -/
def hnorm (t : FVec Ideal S1024x256 .f32) (gain : Vec Ideal S64x256 .f32) : FVec Ideal S16x64x256 .f32 := k0_pay26 t gain

/-- A table of the rotation, over heads. -/
def table (c : FVec Ideal S8x256 .f32) : FVec Ideal S16x8x256 .f32 :=
  broadcastTo S16x8x256 (shapeCast S1x8x256 c shapeCasts_S8x256_S1x8x256) broadcasts_S1x8x256_S16x8x256

def first (a : FVec Ideal S16x64x256 .f32) : FVec Ideal S16x8x256 .f32 := extractStridedSlice S16x8x256 ![0, 0, 0] a slices_S16x64x256_o0_0_0_S16x8x256
def second (a : FVec Ideal S16x64x256 .f32) : FVec Ideal S16x8x256 .f32 := extractStridedSlice S16x8x256 ![0, 8, 0] a slices_S16x64x256_o0_8_0_S16x8x256

/-- Heads, turned. -/
def turn (a : FVec Ideal S16x64x256 .f32) (c s : FVec Ideal S8x256 .f32) : FVec Ideal S16x64x256 .f32 :=
  concatenate S16x64x256 1 [⟨S16x8x256, subf (mulf (first a) (table c)) (mulf (second a) (table s))⟩,
    ⟨S16x8x256, addf (mulf (second a) (table c)) (mulf (first a) (table s))⟩,
    ⟨S16x48x256, extractStridedSlice S16x48x256 ![0, 16, 0] a slices_S16x64x256_o0_16_0_S16x48x256⟩]
    concatenates_S16x8x256_S16x8x256_S16x48x256_S16x64x256_d1

/-- Queries, times the softmax's scale. -/
def qTile (a : FVec Ideal S16x64x256 .f32) : FVec Ideal S1024x256 .bf16 :=
  truncf .bf16 (shapeCast S1024x256 (mulf a (broadcast S16x64x256 (Scalar.ofBits .f32 0x3E38AA3B#32))) shapeCasts_S16x64x256_S1024x256) bitsLt_bf16_f32

/-- Keys, tokens first. -/
def kRows (a : FVec Ideal S16x64x256 .f32) : FVec Ideal S256x1024 .bf16 :=
  truncf .bf16 (transpose S256x1024 [1, 0] (shapeCast S1024x256 a shapeCasts_S16x64x256_S1024x256) transposes_S1024x256_p1_0_S256x1024) bitsLt_bf16_f32

/-- Pairs of heads with their ones. -/
def vPairs (t : FVec Ideal S8x128x256 .bf16) : FVec Ideal S8x144x256 .bf16 :=
  concatenate S8x144x256 1 [⟨S8x128x256, t⟩,
    ⟨S8x16x256, truncf .bf16 (sitofp .f32 (extui 32 (cmpi .eq (iota .tc S8x16x256 32 [1] iota_S8x16x256_d1_w32) (broadcast S8x16x256 0#32)) natLt_1_32)) bitsLt_bf16_f32⟩]
    concatenates_S8x128x256_S8x16x256_S8x144x256_d1

def vTile (t : FVec Ideal S1024x256 .f32) : FVec Ideal S1152x256 .bf16 :=
  shapeCast S1152x256 (vPairs (shapeCast S8x128x256 (truncf .bf16 t bitsLt_bf16_f32 : FVec Ideal S1024x256 .bf16) shapeCasts_S1024x256_S8x128x256)) shapeCasts_S8x144x256_S1152x256

theorem cat_at (v0 v1 v2 v3 v4 v5 v6 v7 : FVec Ideal S128x128 .f32) (r : Fin 128) (l : Fin 1024) :
    cat v0 v1 v2 v3 v4 v5 v6 v7 (ix2 r l) = (![v0, v1, v2, v3, v4, v5, v6, v7] : Fin 8 → FVec Ideal S128x128 .f32) ⟨l.val / 128, by omega⟩ (ix2 r ⟨l.val % 128, by omega⟩) := by
  pointwise [cat]
  have hl : l.val / 128 = 0 ∨ l.val / 128 = 1 ∨ l.val / 128 = 2 ∨ l.val / 128 = 3 ∨ l.val / 128 = 4 ∨ l.val / 128 = 5 ∨ l.val / 128 = 6 ∨ l.val / 128 = 7 := by omega
  rcases hl with h | h | h | h | h | h | h | h
  · rw [show (⟨l.val / 128, by omega⟩ : Fin 8) = 0 from Fin.ext h]
    rw [dif_pos (by omega)]
    exact congrArg (fun i => v0 (ix2 r i)) (Fin.ext (by dsimp only; omega))
  · rw [show (⟨l.val / 128, by omega⟩ : Fin 8) = 1 from Fin.ext h]
    rw [dif_neg (by omega), dif_pos (by omega)]
    exact congrArg (fun i => v1 (ix2 r i)) (Fin.ext (by dsimp only; omega))
  · rw [show (⟨l.val / 128, by omega⟩ : Fin 8) = 2 from Fin.ext h]
    rw [dif_neg (by omega), dif_neg (by omega), dif_pos (by omega)]
    exact congrArg (fun i => v2 (ix2 r i)) (Fin.ext (by dsimp only; omega))
  · rw [show (⟨l.val / 128, by omega⟩ : Fin 8) = 3 from Fin.ext h]
    rw [dif_neg (by omega), dif_neg (by omega), dif_neg (by omega), dif_pos (by omega)]
    exact congrArg (fun i => v3 (ix2 r i)) (Fin.ext (by dsimp only; omega))
  · rw [show (⟨l.val / 128, by omega⟩ : Fin 8) = 4 from Fin.ext h]
    rw [dif_neg (by omega), dif_neg (by omega), dif_neg (by omega), dif_neg (by omega), dif_pos (by omega)]
    exact congrArg (fun i => v4 (ix2 r i)) (Fin.ext (by dsimp only; omega))
  · rw [show (⟨l.val / 128, by omega⟩ : Fin 8) = 5 from Fin.ext h]
    rw [dif_neg (by omega), dif_neg (by omega), dif_neg (by omega), dif_neg (by omega), dif_neg (by omega), dif_pos (by omega)]
    exact congrArg (fun i => v5 (ix2 r i)) (Fin.ext (by dsimp only; omega))
  · rw [show (⟨l.val / 128, by omega⟩ : Fin 8) = 6 from Fin.ext h]
    rw [dif_neg (by omega), dif_neg (by omega), dif_neg (by omega), dif_neg (by omega), dif_neg (by omega), dif_neg (by omega), dif_pos (by omega)]
    exact congrArg (fun i => v6 (ix2 r i)) (Fin.ext (by dsimp only; omega))
  · rw [show (⟨l.val / 128, by omega⟩ : Fin 8) = 7 from Fin.ext h]
    rw [dif_neg (by omega), dif_neg (by omega), dif_neg (by omega), dif_neg (by omega), dif_neg (by omega), dif_neg (by omega), dif_neg (by omega)]
    exact congrArg (fun i => v7 (ix2 r i)) (Fin.ext (by dsimp only; omega))

theorem stackRows_at (a b : FVec Ideal S128x1024 .f32) (n : Fin 256) (j : Fin 1024) :
    stackRows a b (ix2 n j) = if h : n.val < 128 then a (ix2 ⟨n.val, h⟩ j) else b (ix2 ⟨n.val - 128, by omega⟩ j) := by
  pointwise [stackRows]

theorem stackTabs_at (a b : FVec Ideal S8x128 .f32) (e : Fin 8) (n : Fin 256) :
    stackTabs a b (ix2 e n) = if h : n.val < 128 then a (ix2 e ⟨n.val, h⟩) else b (ix2 e ⟨n.val - 128, by omega⟩) := by
  pointwise [stackTabs]

theorem nrm_at (a : FVec Ideal S256x1024 .f32) (g : Vec Ideal S1x1024 .f32) (r : Fin 256) (j : Fin 1024) :
    nrm a g (ix2 r j) = Feed.normed (fun l => a (ix2 r l)) (fun l => g (ix2 0 l)) j := by
  pointwise [nrm]
  rfl

theorem dot_at (y : FVec Ideal S256x1024 .bf16) (w : Vec Ideal S1024x1024 .bf16) (k : Fin 1024) (n : Fin 256) :
    dot y w (ix2 k n) = ∑ l : Fin 1024, y (ix2 n l) * w (ix2 k l) := by
  pointwise [dot]
  refine Finset.sum_congr rfl fun l _ => ?_
  rw [mul_comm]

theorem hnorm_at (t : FVec Ideal S1024x256 .f32) (gain : Vec Ideal S64x256 .f32) (h : Fin 16) (f : Fin 64) (n : Fin 256) :
    hnorm t gain (ix3 h f n) = Heads.normed (fun f => t (ix2 ⟨h.val * 64 + f.val, by omega⟩ n)) (fun f => gain (ix2 f n)) f := by
  pointwise [hnorm, k0_pay26]
  rfl

theorem turn_at (a : FVec Ideal S16x64x256 .f32) (c s : FVec Ideal S8x256 .f32) (h : Fin 16) (f : Fin 64) (n : Fin 256) :
    turn a c s (ix3 h f n) = Heads.turned (fun f => a (ix3 h f n)) (fun e => c (ix2 e n)) (fun e => s (ix2 e n)) f := by
  pointwise [turn, first, second, table]
  unfold Heads.turned
  by_cases h₁ : f.val < 8
  · rw [dif_pos h₁, dif_pos h₁]
    simp only [Nat.add_comm 8]
  · rw [dif_neg h₁, dif_neg h₁]
    by_cases h₂ : f.val < 16
    · rw [dif_pos (show f.val - 8 < 8 by omega), dif_pos h₂]
      have e : 8 + (f.val - 8) = f.val := by omega
      simp only [e]
    · rw [dif_neg (show ¬f.val - 8 < 8 by omega), dif_neg h₂]
      have e : 16 + (f.val - 8 - 8) = f.val := by omega
      simp only [e]

theorem qTile_at (a : FVec Ideal S16x64x256 .f32) (k : Fin 1024) (n : Fin 256) :
    qTile a (ix2 k n) = a (ix3 ⟨k.val / 64, by omega⟩ ⟨k.val % 64, by omega⟩ n) * Ideal.ofBits FTy.f32 0x3E38AA3B#32 := by
  pointwise [qTile]

theorem kRows_at (a : FVec Ideal S16x64x256 .f32) (n : Fin 256) (k : Fin 1024) :
    kRows a (ix2 n k) = a (ix3 ⟨k.val / 64, by omega⟩ ⟨k.val % 64, by omega⟩ n) := by
  pointwise [kRows]

theorem ones_bits : ∀ i : Fin 16, IntOp.cmpi CmpIPredicate.eq (BitVec.ofNat 32 i.val) 0#32 = if i.val = 0 then 1#1 else 0#1 := by decide +kernel

theorem vPairs_at (t : FVec Ideal S8x128x256 .bf16) (h : Fin 8) (p : Fin 144) (n : Fin 256) :
    vPairs t (ix3 h p n) = if h' : p.val < 128 then t (ix3 h ⟨p.val, h'⟩ n) else if p.val = 128 then 1 else 0 := by
  pointwise [vPairs]
  by_cases h₁ : p.val < 128
  · rw [dif_pos h₁, dif_pos h₁]
  · rw [dif_neg h₁, dif_neg h₁, ones_bits ⟨p.val - 128, by omega⟩]
    by_cases h₂ : p.val = 128
    · rw [if_pos (show p.val - 128 = 0 by omega), if_pos h₂]
      show (((BitVec.setWidth 32 1#1).toInt : ℝ) : EReal) = 1
      rw [show (BitVec.setWidth 32 1#1).toInt = 1 from by decide]
      norm_num
    · rw [if_neg (show ¬p.val - 128 = 0 by omega), if_neg h₂]
      show (((BitVec.setWidth 32 0#1).toInt : ℝ) : EReal) = 0
      rw [show (BitVec.setWidth 32 0#1).toInt = 0 from by decide]
      norm_num

theorem vTile_at (t : FVec Ideal S1024x256 .f32) (p : Fin 1152) (n : Fin 256) :
    vTile t (ix2 p n) = Heads.withOnes (fun i => t (ix2 i n)) p := by
  unfold vTile Heads.withOnes
  pointwise
  refine (vPairs_at ..).trans ?_
  pointwise

end Cert.Proj16KernelIdeal.Mix

end
-- ==== Proof.Proj16Block.lean ====
/-  The blocks of the windowed mixer's projections, from the blocks of its operands, entry by entry. -/
module

public import proofs.«01_k».proof.Proof.Proj16Tile

@[expose] public section

set_option maxRecDepth 65536

noncomputable section

namespace Cert.Proj16KernelIdeal.Mix

open Cert.Proj16KernelIdeal Cert.Proj16KernelIdeal.Gen
open Idealize.ShloMosaic Idealize.ShloMosaic.TcCoe Idealize.SL.Sem

variable (x0 x1 x2 x3 x4 x5 x6 x7 : Vec Ideal S1x2048x128 .f32) (x8 : Vec Ideal S1x1024 .f32) (x9 : Vec Ideal S3072x1024 .bf16) (x10 x11 : Vec Ideal S64x256 .f32) (x12 x13 : Vec Ideal S16x8x128 .f32)

/-- The features of a token, from its eight slabs. -/
def slab (n : Fin 2048) (l : Fin 1024) : EReal := (![x0, x1, x2, x3, x4, x5, x6, x7] : Fin 8 → Vec Ideal S1x2048x128 .f32) ⟨l.val / 128, by omega⟩ (ix3 0 n ⟨l.val % 128, by omega⟩)

/-- The normalised features of a token. -/
def row (n : Fin 2048) : Fin 1024 → EReal := Feed.normed (fun l => slab x0 x1 x2 x3 x4 x5 x6 x7 n l) (fun l => x8 (ix2 0 l))

/-- The query features of token `n`, the `i`th of residue `r`. -/
def qAt (n : Fin 2048) (r : Fin 16) (i : Fin 128) (k : Fin 1024) : EReal :=
  Heads.head (row x0 x1 x2 x3 x4 x5 x6 x7 x8 n) (fun l j => x9 (ix2 ⟨j.val, by omega⟩ l)) (fun f => x10 (ix2 f ⟨r.val % 2 * 128 + i.val, by omega⟩))
    (fun e => x12 (ix3 r e i)) (fun e => x13 (ix3 r e i)) k * Ideal.ofBits FTy.f32 0x3E38AA3B#32

/-- The key features of token `n`, the `i`th of residue `r`. -/
def kAt (n : Fin 2048) (r : Fin 16) (i : Fin 128) (k : Fin 1024) : EReal :=
  Heads.head (row x0 x1 x2 x3 x4 x5 x6 x7 x8 n) (fun l j => x9 (ix2 ⟨1024 + j.val, by omega⟩ l)) (fun f => x11 (ix2 f ⟨r.val % 2 * 128 + i.val, by omega⟩))
    (fun e => x12 (ix3 r e i)) (fun e => x13 (ix3 r e i)) k

/-- The value features of token `n`, with the rows of ones. -/
def vAt (n : Fin 2048) (p : Fin 1152) : EReal :=
  Heads.withOnes (fun j => ∑ l, row x0 x1 x2 x3 x4 x5 x6 x7 x8 n l * x9 (ix2 ⟨2048 + j.val, by omega⟩ l)) p

/-- Half of a tile's tokens. -/
def qLow (q : FVec Ideal S1024x256 .bf16) : FVec Ideal S1x1x1x1024x128 .bf16 :=
  shapeCast S1x1x1x1024x128 (extractStridedSlice S1024x128 ![0, 0] q slices_S1024x256_o0_0_S1024x128) shapeCasts_S1024x128_S1x1x1x1024x128
def qHigh (q : FVec Ideal S1024x256 .bf16) : FVec Ideal S1x1x1x1024x128 .bf16 :=
  shapeCast S1x1x1x1024x128 (extractStridedSlice S1024x128 ![0, 128] q slices_S1024x256_o0_128_S1024x128) shapeCasts_S1024x128_S1x1x1x1024x128
def vLow (v : FVec Ideal S1152x256 .bf16) : FVec Ideal S1x1x1x1152x128 .bf16 :=
  shapeCast S1x1x1x1152x128 (extractStridedSlice S1152x128 ![0, 0] v slices_S1152x256_o0_0_S1152x128) shapeCasts_S1152x128_S1x1x1x1152x128
def vHigh (v : FVec Ideal S1152x256 .bf16) : FVec Ideal S1x1x1x1152x128 .bf16 :=
  shapeCast S1x1x1x1152x128 (extractStridedSlice S1152x128 ![0, 128] v slices_S1152x256_o0_128_S1152x128) shapeCasts_S1152x128_S1x1x1x1152x128
def kLow (k : FVec Ideal S256x1024 .bf16) : FVec Ideal S1x1x128x1024 .bf16 :=
  shapeCast S1x1x128x1024 (extractStridedSlice S128x1024 ![0, 0] k slices_S256x1024_o0_0_S128x1024) shapeCasts_S128x1024_S1x1x128x1024
def kHigh (k : FVec Ideal S256x1024 .bf16) : FVec Ideal S1x1x128x1024 .bf16 :=
  shapeCast S1x1x128x1024 (extractStridedSlice S128x1024 ![128, 0] k slices_S256x1024_o128_0_S128x1024) shapeCasts_S128x1024_S1x1x128x1024

theorem qLow_at (q : FVec Ideal S1024x256 .bf16) (a b c : Fin 1) (k : Fin 1024) (l : Fin 128) : qLow q (ix5 a b c k l) = q (ix2 k ⟨l.val, by omega⟩) := by
  pointwise [qLow]
theorem qHigh_at (q : FVec Ideal S1024x256 .bf16) (a b c : Fin 1) (k : Fin 1024) (l : Fin 128) : qHigh q (ix5 a b c k l) = q (ix2 k ⟨128 + l.val, by omega⟩) := by
  pointwise [qHigh]
theorem vLow_at (v : FVec Ideal S1152x256 .bf16) (a b c : Fin 1) (k : Fin 1152) (l : Fin 128) : vLow v (ix5 a b c k l) = v (ix2 k ⟨l.val, by omega⟩) := by
  pointwise [vLow]
theorem vHigh_at (v : FVec Ideal S1152x256 .bf16) (a b c : Fin 1) (k : Fin 1152) (l : Fin 128) : vHigh v (ix5 a b c k l) = v (ix2 k ⟨128 + l.val, by omega⟩) := by
  pointwise [vHigh]
theorem kLow_at (k : FVec Ideal S256x1024 .bf16) (a b : Fin 1) (n : Fin 128) (j : Fin 1024) : kLow k (ix4 a b n j) = k (ix2 ⟨n.val, by omega⟩ j) := by
  pointwise [kLow]
theorem kHigh_at (k : FVec Ideal S256x1024 .bf16) (a b : Fin 1) (n : Fin 128) (j : Fin 1024) : kHigh k (ix4 a b n j) = k (ix2 ⟨128 + n.val, by omega⟩ j) := by
  pointwise [kHigh]

/-- The weights of the three groups, and the gains. -/
def wQ (x : Vec Ideal S3072x1024 .bf16) : FVec Ideal S1024x1024 .bf16 := View.ld x (Rect.unit (s := S3072x1024) ![0, 0] S1024x1024.size inb_S3072x1024_S1024x1024_0_0)
def wK (x : Vec Ideal S3072x1024 .bf16) : FVec Ideal S1024x1024 .bf16 := View.ld x (Rect.unit (s := S3072x1024) ![1024, 0] S1024x1024.size inb_S3072x1024_S1024x1024_1024_0)
def wV (x : Vec Ideal S3072x1024 .bf16) : FVec Ideal S1024x1024 .bf16 := View.ld x (Rect.unit (s := S3072x1024) ![2048, 0] S1024x1024.size inb_S3072x1024_S1024x1024_2048_0)
def gains (x : Vec Ideal S64x256 .f32) : FVec Ideal S64x256 .f32 := View.ld x (Rect.unit (s := S64x256) ![0, 0] S64x256.size inb_S64x256_S64x256_0_0)
def scales (x : Vec Ideal S1x1024 .f32) : FVec Ideal S1x1024 .f32 := View.ld x (Rect.unit (s := S1x1024) ![0, 0] S1x1024.size inb_S1x1024_S1x1024_0_0)

theorem wQ_at (k l : Fin 1024) : wQ x9 (ix2 k l) = x9 (ix2 ⟨k.val, by omega⟩ l) := by
  pointwise [wQ]
theorem wK_at (k l : Fin 1024) : wK x9 (ix2 k l) = x9 (ix2 ⟨1024 + k.val, by omega⟩ l) := by
  pointwise [wK]
theorem wV_at (k l : Fin 1024) : wV x9 (ix2 k l) = x9 (ix2 ⟨2048 + k.val, by omega⟩ l) := by
  pointwise [wV]
theorem gains_at (x : Vec Ideal S64x256 .f32) (f : Fin 64) (n : Fin 256) : gains x (ix2 f n) = x (ix2 f n) := by
  pointwise [gains]
theorem scales_at (l : Fin 1024) : scales x8 (ix2 0 l) = x8 (ix2 0 l) := by
  pointwise [scales]

/-- A residue of a slab, without its first axis. -/
def flat (v : FVec Ideal S1x128x128 .f32) : FVec Ideal S128x128 .f32 := shapeCast S128x128 v shapeCasts_S1x128x128_S128x128

theorem flat_at (v : FVec Ideal S1x128x128 .f32) (n l : Fin 128) : flat v (ix2 n l) = v (ix3 0 n l) := by
  pointwise [flat]

/-- Residue 0 of a slab. -/
def stream0 (x : Vec Ideal S1x2048x128 .f32) : FVec Ideal S1x128x128 .f32 := fun z =>
  x ((⟨![0, 0, 0], S1x128x128.size, ![1, 16, 1], inb_S1x2048x128_S1x128x128_0_0_0_s_1_16_1⟩ : LoadRect S1x2048x128).idx z)

theorem stream0_at (x : Vec Ideal S1x2048x128 .f32) (n : Fin 128) (l : Fin 128) : stream0 x (ix3 0 n l) = x (ix3 0 ⟨0 + 16 * n.val, by omega⟩ l) := by
  refine congrArg x (funext fun a => Fin.ext ?_)
  fin_cases a
  · rfl
  · rfl
  · exact (Nat.zero_add _).trans (Nat.one_mul _)

/-- The rows of residue 0. -/
def seg0 : FVec Ideal S128x1024 .f32 := cat (flat (stream0 x0)) (flat (stream0 x1)) (flat (stream0 x2)) (flat (stream0 x3)) (flat (stream0 x4)) (flat (stream0 x5)) (flat (stream0 x6)) (flat (stream0 x7))
def tabl0 (x : Vec Ideal S16x8x128 .f32) : FVec Ideal S8x128 .f32 :=
  shapeCast S8x128 (View.ld x (Rect.unit (s := S16x8x128) ![0, 0, 0] S1x8x128.size inb_S16x8x128_S1x8x128_0_0_0)) shapeCasts_S1x8x128_S8x128

theorem pick0 (n : Fin 128) (k : Fin 8) (l : Fin 128) :
    (![flat (stream0 x0), flat (stream0 x1), flat (stream0 x2), flat (stream0 x3), flat (stream0 x4), flat (stream0 x5), flat (stream0 x6), flat (stream0 x7)] : Fin 8 → FVec Ideal S128x128 .f32) k (ix2 n l)
      = (![x0, x1, x2, x3, x4, x5, x6, x7] : Fin 8 → Vec Ideal S1x2048x128 .f32) k (ix3 0 ⟨0 + 16 * n.val, by omega⟩ l) := by
  fin_cases k <;> exact (flat_at ..).trans (stream0_at ..)

theorem seg0_at (n : Fin 128) (j : Fin 1024) : seg0 x0 x1 x2 x3 x4 x5 x6 x7 (ix2 n j) = slab x0 x1 x2 x3 x4 x5 x6 x7 ⟨0 + 16 * n.val, by omega⟩ j := by
  unfold seg0 slab
  simp only [cat_at, pick0]

theorem tabl0_at (x : Vec Ideal S16x8x128 .f32) (e : Fin 8) (n : Fin 128) : tabl0 x (ix2 e n) = x (ix3 0 e n) := by
  pointwise [tabl0]

/-- Residue 1 of a slab. -/
def stream1 (x : Vec Ideal S1x2048x128 .f32) : FVec Ideal S1x128x128 .f32 := fun z =>
  x ((⟨![0, 1, 0], S1x128x128.size, ![1, 16, 1], inb_S1x2048x128_S1x128x128_0_1_0_s_1_16_1⟩ : LoadRect S1x2048x128).idx z)

theorem stream1_at (x : Vec Ideal S1x2048x128 .f32) (n : Fin 128) (l : Fin 128) : stream1 x (ix3 0 n l) = x (ix3 0 ⟨1 + 16 * n.val, by omega⟩ l) := by
  refine congrArg x (funext fun a => Fin.ext ?_)
  fin_cases a
  · rfl
  · rfl
  · exact (Nat.zero_add _).trans (Nat.one_mul _)

/-- The rows of residue 1. -/
def seg1 : FVec Ideal S128x1024 .f32 := cat (flat (stream1 x0)) (flat (stream1 x1)) (flat (stream1 x2)) (flat (stream1 x3)) (flat (stream1 x4)) (flat (stream1 x5)) (flat (stream1 x6)) (flat (stream1 x7))
def tabl1 (x : Vec Ideal S16x8x128 .f32) : FVec Ideal S8x128 .f32 :=
  shapeCast S8x128 (View.ld x (Rect.unit (s := S16x8x128) ![1, 0, 0] S1x8x128.size inb_S16x8x128_S1x8x128_1_0_0)) shapeCasts_S1x8x128_S8x128

theorem pick1 (n : Fin 128) (k : Fin 8) (l : Fin 128) :
    (![flat (stream1 x0), flat (stream1 x1), flat (stream1 x2), flat (stream1 x3), flat (stream1 x4), flat (stream1 x5), flat (stream1 x6), flat (stream1 x7)] : Fin 8 → FVec Ideal S128x128 .f32) k (ix2 n l)
      = (![x0, x1, x2, x3, x4, x5, x6, x7] : Fin 8 → Vec Ideal S1x2048x128 .f32) k (ix3 0 ⟨1 + 16 * n.val, by omega⟩ l) := by
  fin_cases k <;> exact (flat_at ..).trans (stream1_at ..)

theorem seg1_at (n : Fin 128) (j : Fin 1024) : seg1 x0 x1 x2 x3 x4 x5 x6 x7 (ix2 n j) = slab x0 x1 x2 x3 x4 x5 x6 x7 ⟨1 + 16 * n.val, by omega⟩ j := by
  unfold seg1 slab
  simp only [cat_at, pick1]

theorem tabl1_at (x : Vec Ideal S16x8x128 .f32) (e : Fin 8) (n : Fin 128) : tabl1 x (ix2 e n) = x (ix3 1 e n) := by
  pointwise [tabl1]

/-- Residue 2 of a slab. -/
def stream2 (x : Vec Ideal S1x2048x128 .f32) : FVec Ideal S1x128x128 .f32 := fun z =>
  x ((⟨![0, 2, 0], S1x128x128.size, ![1, 16, 1], inb_S1x2048x128_S1x128x128_0_2_0_s_1_16_1⟩ : LoadRect S1x2048x128).idx z)

theorem stream2_at (x : Vec Ideal S1x2048x128 .f32) (n : Fin 128) (l : Fin 128) : stream2 x (ix3 0 n l) = x (ix3 0 ⟨2 + 16 * n.val, by omega⟩ l) := by
  refine congrArg x (funext fun a => Fin.ext ?_)
  fin_cases a
  · rfl
  · rfl
  · exact (Nat.zero_add _).trans (Nat.one_mul _)

/-- The rows of residue 2. -/
def seg2 : FVec Ideal S128x1024 .f32 := cat (flat (stream2 x0)) (flat (stream2 x1)) (flat (stream2 x2)) (flat (stream2 x3)) (flat (stream2 x4)) (flat (stream2 x5)) (flat (stream2 x6)) (flat (stream2 x7))
def tabl2 (x : Vec Ideal S16x8x128 .f32) : FVec Ideal S8x128 .f32 :=
  shapeCast S8x128 (View.ld x (Rect.unit (s := S16x8x128) ![2, 0, 0] S1x8x128.size inb_S16x8x128_S1x8x128_2_0_0)) shapeCasts_S1x8x128_S8x128

theorem pick2 (n : Fin 128) (k : Fin 8) (l : Fin 128) :
    (![flat (stream2 x0), flat (stream2 x1), flat (stream2 x2), flat (stream2 x3), flat (stream2 x4), flat (stream2 x5), flat (stream2 x6), flat (stream2 x7)] : Fin 8 → FVec Ideal S128x128 .f32) k (ix2 n l)
      = (![x0, x1, x2, x3, x4, x5, x6, x7] : Fin 8 → Vec Ideal S1x2048x128 .f32) k (ix3 0 ⟨2 + 16 * n.val, by omega⟩ l) := by
  fin_cases k <;> exact (flat_at ..).trans (stream2_at ..)

theorem seg2_at (n : Fin 128) (j : Fin 1024) : seg2 x0 x1 x2 x3 x4 x5 x6 x7 (ix2 n j) = slab x0 x1 x2 x3 x4 x5 x6 x7 ⟨2 + 16 * n.val, by omega⟩ j := by
  unfold seg2 slab
  simp only [cat_at, pick2]

theorem tabl2_at (x : Vec Ideal S16x8x128 .f32) (e : Fin 8) (n : Fin 128) : tabl2 x (ix2 e n) = x (ix3 2 e n) := by
  pointwise [tabl2]

/-- Residue 3 of a slab. -/
def stream3 (x : Vec Ideal S1x2048x128 .f32) : FVec Ideal S1x128x128 .f32 := fun z =>
  x ((⟨![0, 3, 0], S1x128x128.size, ![1, 16, 1], inb_S1x2048x128_S1x128x128_0_3_0_s_1_16_1⟩ : LoadRect S1x2048x128).idx z)

theorem stream3_at (x : Vec Ideal S1x2048x128 .f32) (n : Fin 128) (l : Fin 128) : stream3 x (ix3 0 n l) = x (ix3 0 ⟨3 + 16 * n.val, by omega⟩ l) := by
  refine congrArg x (funext fun a => Fin.ext ?_)
  fin_cases a
  · rfl
  · rfl
  · exact (Nat.zero_add _).trans (Nat.one_mul _)

/-- The rows of residue 3. -/
def seg3 : FVec Ideal S128x1024 .f32 := cat (flat (stream3 x0)) (flat (stream3 x1)) (flat (stream3 x2)) (flat (stream3 x3)) (flat (stream3 x4)) (flat (stream3 x5)) (flat (stream3 x6)) (flat (stream3 x7))
def tabl3 (x : Vec Ideal S16x8x128 .f32) : FVec Ideal S8x128 .f32 :=
  shapeCast S8x128 (View.ld x (Rect.unit (s := S16x8x128) ![3, 0, 0] S1x8x128.size inb_S16x8x128_S1x8x128_3_0_0)) shapeCasts_S1x8x128_S8x128

theorem pick3 (n : Fin 128) (k : Fin 8) (l : Fin 128) :
    (![flat (stream3 x0), flat (stream3 x1), flat (stream3 x2), flat (stream3 x3), flat (stream3 x4), flat (stream3 x5), flat (stream3 x6), flat (stream3 x7)] : Fin 8 → FVec Ideal S128x128 .f32) k (ix2 n l)
      = (![x0, x1, x2, x3, x4, x5, x6, x7] : Fin 8 → Vec Ideal S1x2048x128 .f32) k (ix3 0 ⟨3 + 16 * n.val, by omega⟩ l) := by
  fin_cases k <;> exact (flat_at ..).trans (stream3_at ..)

theorem seg3_at (n : Fin 128) (j : Fin 1024) : seg3 x0 x1 x2 x3 x4 x5 x6 x7 (ix2 n j) = slab x0 x1 x2 x3 x4 x5 x6 x7 ⟨3 + 16 * n.val, by omega⟩ j := by
  unfold seg3 slab
  simp only [cat_at, pick3]

theorem tabl3_at (x : Vec Ideal S16x8x128 .f32) (e : Fin 8) (n : Fin 128) : tabl3 x (ix2 e n) = x (ix3 3 e n) := by
  pointwise [tabl3]

/-- Residue 4 of a slab. -/
def stream4 (x : Vec Ideal S1x2048x128 .f32) : FVec Ideal S1x128x128 .f32 := fun z =>
  x ((⟨![0, 4, 0], S1x128x128.size, ![1, 16, 1], inb_S1x2048x128_S1x128x128_0_4_0_s_1_16_1⟩ : LoadRect S1x2048x128).idx z)

theorem stream4_at (x : Vec Ideal S1x2048x128 .f32) (n : Fin 128) (l : Fin 128) : stream4 x (ix3 0 n l) = x (ix3 0 ⟨4 + 16 * n.val, by omega⟩ l) := by
  refine congrArg x (funext fun a => Fin.ext ?_)
  fin_cases a
  · rfl
  · rfl
  · exact (Nat.zero_add _).trans (Nat.one_mul _)

/-- The rows of residue 4. -/
def seg4 : FVec Ideal S128x1024 .f32 := cat (flat (stream4 x0)) (flat (stream4 x1)) (flat (stream4 x2)) (flat (stream4 x3)) (flat (stream4 x4)) (flat (stream4 x5)) (flat (stream4 x6)) (flat (stream4 x7))
def tabl4 (x : Vec Ideal S16x8x128 .f32) : FVec Ideal S8x128 .f32 :=
  shapeCast S8x128 (View.ld x (Rect.unit (s := S16x8x128) ![4, 0, 0] S1x8x128.size inb_S16x8x128_S1x8x128_4_0_0)) shapeCasts_S1x8x128_S8x128

theorem pick4 (n : Fin 128) (k : Fin 8) (l : Fin 128) :
    (![flat (stream4 x0), flat (stream4 x1), flat (stream4 x2), flat (stream4 x3), flat (stream4 x4), flat (stream4 x5), flat (stream4 x6), flat (stream4 x7)] : Fin 8 → FVec Ideal S128x128 .f32) k (ix2 n l)
      = (![x0, x1, x2, x3, x4, x5, x6, x7] : Fin 8 → Vec Ideal S1x2048x128 .f32) k (ix3 0 ⟨4 + 16 * n.val, by omega⟩ l) := by
  fin_cases k <;> exact (flat_at ..).trans (stream4_at ..)

theorem seg4_at (n : Fin 128) (j : Fin 1024) : seg4 x0 x1 x2 x3 x4 x5 x6 x7 (ix2 n j) = slab x0 x1 x2 x3 x4 x5 x6 x7 ⟨4 + 16 * n.val, by omega⟩ j := by
  unfold seg4 slab
  simp only [cat_at, pick4]

theorem tabl4_at (x : Vec Ideal S16x8x128 .f32) (e : Fin 8) (n : Fin 128) : tabl4 x (ix2 e n) = x (ix3 4 e n) := by
  pointwise [tabl4]

/-- Residue 5 of a slab. -/
def stream5 (x : Vec Ideal S1x2048x128 .f32) : FVec Ideal S1x128x128 .f32 := fun z =>
  x ((⟨![0, 5, 0], S1x128x128.size, ![1, 16, 1], inb_S1x2048x128_S1x128x128_0_5_0_s_1_16_1⟩ : LoadRect S1x2048x128).idx z)

theorem stream5_at (x : Vec Ideal S1x2048x128 .f32) (n : Fin 128) (l : Fin 128) : stream5 x (ix3 0 n l) = x (ix3 0 ⟨5 + 16 * n.val, by omega⟩ l) := by
  refine congrArg x (funext fun a => Fin.ext ?_)
  fin_cases a
  · rfl
  · rfl
  · exact (Nat.zero_add _).trans (Nat.one_mul _)

/-- The rows of residue 5. -/
def seg5 : FVec Ideal S128x1024 .f32 := cat (flat (stream5 x0)) (flat (stream5 x1)) (flat (stream5 x2)) (flat (stream5 x3)) (flat (stream5 x4)) (flat (stream5 x5)) (flat (stream5 x6)) (flat (stream5 x7))
def tabl5 (x : Vec Ideal S16x8x128 .f32) : FVec Ideal S8x128 .f32 :=
  shapeCast S8x128 (View.ld x (Rect.unit (s := S16x8x128) ![5, 0, 0] S1x8x128.size inb_S16x8x128_S1x8x128_5_0_0)) shapeCasts_S1x8x128_S8x128

theorem pick5 (n : Fin 128) (k : Fin 8) (l : Fin 128) :
    (![flat (stream5 x0), flat (stream5 x1), flat (stream5 x2), flat (stream5 x3), flat (stream5 x4), flat (stream5 x5), flat (stream5 x6), flat (stream5 x7)] : Fin 8 → FVec Ideal S128x128 .f32) k (ix2 n l)
      = (![x0, x1, x2, x3, x4, x5, x6, x7] : Fin 8 → Vec Ideal S1x2048x128 .f32) k (ix3 0 ⟨5 + 16 * n.val, by omega⟩ l) := by
  fin_cases k <;> exact (flat_at ..).trans (stream5_at ..)

theorem seg5_at (n : Fin 128) (j : Fin 1024) : seg5 x0 x1 x2 x3 x4 x5 x6 x7 (ix2 n j) = slab x0 x1 x2 x3 x4 x5 x6 x7 ⟨5 + 16 * n.val, by omega⟩ j := by
  unfold seg5 slab
  simp only [cat_at, pick5]

theorem tabl5_at (x : Vec Ideal S16x8x128 .f32) (e : Fin 8) (n : Fin 128) : tabl5 x (ix2 e n) = x (ix3 5 e n) := by
  pointwise [tabl5]

/-- Residue 6 of a slab. -/
def stream6 (x : Vec Ideal S1x2048x128 .f32) : FVec Ideal S1x128x128 .f32 := fun z =>
  x ((⟨![0, 6, 0], S1x128x128.size, ![1, 16, 1], inb_S1x2048x128_S1x128x128_0_6_0_s_1_16_1⟩ : LoadRect S1x2048x128).idx z)

theorem stream6_at (x : Vec Ideal S1x2048x128 .f32) (n : Fin 128) (l : Fin 128) : stream6 x (ix3 0 n l) = x (ix3 0 ⟨6 + 16 * n.val, by omega⟩ l) := by
  refine congrArg x (funext fun a => Fin.ext ?_)
  fin_cases a
  · rfl
  · rfl
  · exact (Nat.zero_add _).trans (Nat.one_mul _)

/-- The rows of residue 6. -/
def seg6 : FVec Ideal S128x1024 .f32 := cat (flat (stream6 x0)) (flat (stream6 x1)) (flat (stream6 x2)) (flat (stream6 x3)) (flat (stream6 x4)) (flat (stream6 x5)) (flat (stream6 x6)) (flat (stream6 x7))
def tabl6 (x : Vec Ideal S16x8x128 .f32) : FVec Ideal S8x128 .f32 :=
  shapeCast S8x128 (View.ld x (Rect.unit (s := S16x8x128) ![6, 0, 0] S1x8x128.size inb_S16x8x128_S1x8x128_6_0_0)) shapeCasts_S1x8x128_S8x128

theorem pick6 (n : Fin 128) (k : Fin 8) (l : Fin 128) :
    (![flat (stream6 x0), flat (stream6 x1), flat (stream6 x2), flat (stream6 x3), flat (stream6 x4), flat (stream6 x5), flat (stream6 x6), flat (stream6 x7)] : Fin 8 → FVec Ideal S128x128 .f32) k (ix2 n l)
      = (![x0, x1, x2, x3, x4, x5, x6, x7] : Fin 8 → Vec Ideal S1x2048x128 .f32) k (ix3 0 ⟨6 + 16 * n.val, by omega⟩ l) := by
  fin_cases k <;> exact (flat_at ..).trans (stream6_at ..)

theorem seg6_at (n : Fin 128) (j : Fin 1024) : seg6 x0 x1 x2 x3 x4 x5 x6 x7 (ix2 n j) = slab x0 x1 x2 x3 x4 x5 x6 x7 ⟨6 + 16 * n.val, by omega⟩ j := by
  unfold seg6 slab
  simp only [cat_at, pick6]

theorem tabl6_at (x : Vec Ideal S16x8x128 .f32) (e : Fin 8) (n : Fin 128) : tabl6 x (ix2 e n) = x (ix3 6 e n) := by
  pointwise [tabl6]

/-- Residue 7 of a slab. -/
def stream7 (x : Vec Ideal S1x2048x128 .f32) : FVec Ideal S1x128x128 .f32 := fun z =>
  x ((⟨![0, 7, 0], S1x128x128.size, ![1, 16, 1], inb_S1x2048x128_S1x128x128_0_7_0_s_1_16_1⟩ : LoadRect S1x2048x128).idx z)

theorem stream7_at (x : Vec Ideal S1x2048x128 .f32) (n : Fin 128) (l : Fin 128) : stream7 x (ix3 0 n l) = x (ix3 0 ⟨7 + 16 * n.val, by omega⟩ l) := by
  refine congrArg x (funext fun a => Fin.ext ?_)
  fin_cases a
  · rfl
  · rfl
  · exact (Nat.zero_add _).trans (Nat.one_mul _)

/-- The rows of residue 7. -/
def seg7 : FVec Ideal S128x1024 .f32 := cat (flat (stream7 x0)) (flat (stream7 x1)) (flat (stream7 x2)) (flat (stream7 x3)) (flat (stream7 x4)) (flat (stream7 x5)) (flat (stream7 x6)) (flat (stream7 x7))
def tabl7 (x : Vec Ideal S16x8x128 .f32) : FVec Ideal S8x128 .f32 :=
  shapeCast S8x128 (View.ld x (Rect.unit (s := S16x8x128) ![7, 0, 0] S1x8x128.size inb_S16x8x128_S1x8x128_7_0_0)) shapeCasts_S1x8x128_S8x128

theorem pick7 (n : Fin 128) (k : Fin 8) (l : Fin 128) :
    (![flat (stream7 x0), flat (stream7 x1), flat (stream7 x2), flat (stream7 x3), flat (stream7 x4), flat (stream7 x5), flat (stream7 x6), flat (stream7 x7)] : Fin 8 → FVec Ideal S128x128 .f32) k (ix2 n l)
      = (![x0, x1, x2, x3, x4, x5, x6, x7] : Fin 8 → Vec Ideal S1x2048x128 .f32) k (ix3 0 ⟨7 + 16 * n.val, by omega⟩ l) := by
  fin_cases k <;> exact (flat_at ..).trans (stream7_at ..)

theorem seg7_at (n : Fin 128) (j : Fin 1024) : seg7 x0 x1 x2 x3 x4 x5 x6 x7 (ix2 n j) = slab x0 x1 x2 x3 x4 x5 x6 x7 ⟨7 + 16 * n.val, by omega⟩ j := by
  unfold seg7 slab
  simp only [cat_at, pick7]

theorem tabl7_at (x : Vec Ideal S16x8x128 .f32) (e : Fin 8) (n : Fin 128) : tabl7 x (ix2 e n) = x (ix3 7 e n) := by
  pointwise [tabl7]

/-- Residue 8 of a slab. -/
def stream8 (x : Vec Ideal S1x2048x128 .f32) : FVec Ideal S1x128x128 .f32 := fun z =>
  x ((⟨![0, 8, 0], S1x128x128.size, ![1, 16, 1], inb_S1x2048x128_S1x128x128_0_8_0_s_1_16_1⟩ : LoadRect S1x2048x128).idx z)

theorem stream8_at (x : Vec Ideal S1x2048x128 .f32) (n : Fin 128) (l : Fin 128) : stream8 x (ix3 0 n l) = x (ix3 0 ⟨8 + 16 * n.val, by omega⟩ l) := by
  refine congrArg x (funext fun a => Fin.ext ?_)
  fin_cases a
  · rfl
  · rfl
  · exact (Nat.zero_add _).trans (Nat.one_mul _)

/-- The rows of residue 8. -/
def seg8 : FVec Ideal S128x1024 .f32 := cat (flat (stream8 x0)) (flat (stream8 x1)) (flat (stream8 x2)) (flat (stream8 x3)) (flat (stream8 x4)) (flat (stream8 x5)) (flat (stream8 x6)) (flat (stream8 x7))
def tabl8 (x : Vec Ideal S16x8x128 .f32) : FVec Ideal S8x128 .f32 :=
  shapeCast S8x128 (View.ld x (Rect.unit (s := S16x8x128) ![8, 0, 0] S1x8x128.size inb_S16x8x128_S1x8x128_8_0_0)) shapeCasts_S1x8x128_S8x128

theorem pick8 (n : Fin 128) (k : Fin 8) (l : Fin 128) :
    (![flat (stream8 x0), flat (stream8 x1), flat (stream8 x2), flat (stream8 x3), flat (stream8 x4), flat (stream8 x5), flat (stream8 x6), flat (stream8 x7)] : Fin 8 → FVec Ideal S128x128 .f32) k (ix2 n l)
      = (![x0, x1, x2, x3, x4, x5, x6, x7] : Fin 8 → Vec Ideal S1x2048x128 .f32) k (ix3 0 ⟨8 + 16 * n.val, by omega⟩ l) := by
  fin_cases k <;> exact (flat_at ..).trans (stream8_at ..)

theorem seg8_at (n : Fin 128) (j : Fin 1024) : seg8 x0 x1 x2 x3 x4 x5 x6 x7 (ix2 n j) = slab x0 x1 x2 x3 x4 x5 x6 x7 ⟨8 + 16 * n.val, by omega⟩ j := by
  unfold seg8 slab
  simp only [cat_at, pick8]

theorem tabl8_at (x : Vec Ideal S16x8x128 .f32) (e : Fin 8) (n : Fin 128) : tabl8 x (ix2 e n) = x (ix3 8 e n) := by
  pointwise [tabl8]

/-- Residue 9 of a slab. -/
def stream9 (x : Vec Ideal S1x2048x128 .f32) : FVec Ideal S1x128x128 .f32 := fun z =>
  x ((⟨![0, 9, 0], S1x128x128.size, ![1, 16, 1], inb_S1x2048x128_S1x128x128_0_9_0_s_1_16_1⟩ : LoadRect S1x2048x128).idx z)

theorem stream9_at (x : Vec Ideal S1x2048x128 .f32) (n : Fin 128) (l : Fin 128) : stream9 x (ix3 0 n l) = x (ix3 0 ⟨9 + 16 * n.val, by omega⟩ l) := by
  refine congrArg x (funext fun a => Fin.ext ?_)
  fin_cases a
  · rfl
  · rfl
  · exact (Nat.zero_add _).trans (Nat.one_mul _)

/-- The rows of residue 9. -/
def seg9 : FVec Ideal S128x1024 .f32 := cat (flat (stream9 x0)) (flat (stream9 x1)) (flat (stream9 x2)) (flat (stream9 x3)) (flat (stream9 x4)) (flat (stream9 x5)) (flat (stream9 x6)) (flat (stream9 x7))
def tabl9 (x : Vec Ideal S16x8x128 .f32) : FVec Ideal S8x128 .f32 :=
  shapeCast S8x128 (View.ld x (Rect.unit (s := S16x8x128) ![9, 0, 0] S1x8x128.size inb_S16x8x128_S1x8x128_9_0_0)) shapeCasts_S1x8x128_S8x128

theorem pick9 (n : Fin 128) (k : Fin 8) (l : Fin 128) :
    (![flat (stream9 x0), flat (stream9 x1), flat (stream9 x2), flat (stream9 x3), flat (stream9 x4), flat (stream9 x5), flat (stream9 x6), flat (stream9 x7)] : Fin 8 → FVec Ideal S128x128 .f32) k (ix2 n l)
      = (![x0, x1, x2, x3, x4, x5, x6, x7] : Fin 8 → Vec Ideal S1x2048x128 .f32) k (ix3 0 ⟨9 + 16 * n.val, by omega⟩ l) := by
  fin_cases k <;> exact (flat_at ..).trans (stream9_at ..)

theorem seg9_at (n : Fin 128) (j : Fin 1024) : seg9 x0 x1 x2 x3 x4 x5 x6 x7 (ix2 n j) = slab x0 x1 x2 x3 x4 x5 x6 x7 ⟨9 + 16 * n.val, by omega⟩ j := by
  unfold seg9 slab
  simp only [cat_at, pick9]

theorem tabl9_at (x : Vec Ideal S16x8x128 .f32) (e : Fin 8) (n : Fin 128) : tabl9 x (ix2 e n) = x (ix3 9 e n) := by
  pointwise [tabl9]

/-- Residue 10 of a slab. -/
def stream10 (x : Vec Ideal S1x2048x128 .f32) : FVec Ideal S1x128x128 .f32 := fun z =>
  x ((⟨![0, 10, 0], S1x128x128.size, ![1, 16, 1], inb_S1x2048x128_S1x128x128_0_10_0_s_1_16_1⟩ : LoadRect S1x2048x128).idx z)

theorem stream10_at (x : Vec Ideal S1x2048x128 .f32) (n : Fin 128) (l : Fin 128) : stream10 x (ix3 0 n l) = x (ix3 0 ⟨10 + 16 * n.val, by omega⟩ l) := by
  refine congrArg x (funext fun a => Fin.ext ?_)
  fin_cases a
  · rfl
  · rfl
  · exact (Nat.zero_add _).trans (Nat.one_mul _)

/-- The rows of residue 10. -/
def seg10 : FVec Ideal S128x1024 .f32 := cat (flat (stream10 x0)) (flat (stream10 x1)) (flat (stream10 x2)) (flat (stream10 x3)) (flat (stream10 x4)) (flat (stream10 x5)) (flat (stream10 x6)) (flat (stream10 x7))
def tabl10 (x : Vec Ideal S16x8x128 .f32) : FVec Ideal S8x128 .f32 :=
  shapeCast S8x128 (View.ld x (Rect.unit (s := S16x8x128) ![10, 0, 0] S1x8x128.size inb_S16x8x128_S1x8x128_10_0_0)) shapeCasts_S1x8x128_S8x128

theorem pick10 (n : Fin 128) (k : Fin 8) (l : Fin 128) :
    (![flat (stream10 x0), flat (stream10 x1), flat (stream10 x2), flat (stream10 x3), flat (stream10 x4), flat (stream10 x5), flat (stream10 x6), flat (stream10 x7)] : Fin 8 → FVec Ideal S128x128 .f32) k (ix2 n l)
      = (![x0, x1, x2, x3, x4, x5, x6, x7] : Fin 8 → Vec Ideal S1x2048x128 .f32) k (ix3 0 ⟨10 + 16 * n.val, by omega⟩ l) := by
  fin_cases k <;> exact (flat_at ..).trans (stream10_at ..)

theorem seg10_at (n : Fin 128) (j : Fin 1024) : seg10 x0 x1 x2 x3 x4 x5 x6 x7 (ix2 n j) = slab x0 x1 x2 x3 x4 x5 x6 x7 ⟨10 + 16 * n.val, by omega⟩ j := by
  unfold seg10 slab
  simp only [cat_at, pick10]

theorem tabl10_at (x : Vec Ideal S16x8x128 .f32) (e : Fin 8) (n : Fin 128) : tabl10 x (ix2 e n) = x (ix3 10 e n) := by
  pointwise [tabl10]

/-- Residue 11 of a slab. -/
def stream11 (x : Vec Ideal S1x2048x128 .f32) : FVec Ideal S1x128x128 .f32 := fun z =>
  x ((⟨![0, 11, 0], S1x128x128.size, ![1, 16, 1], inb_S1x2048x128_S1x128x128_0_11_0_s_1_16_1⟩ : LoadRect S1x2048x128).idx z)

theorem stream11_at (x : Vec Ideal S1x2048x128 .f32) (n : Fin 128) (l : Fin 128) : stream11 x (ix3 0 n l) = x (ix3 0 ⟨11 + 16 * n.val, by omega⟩ l) := by
  refine congrArg x (funext fun a => Fin.ext ?_)
  fin_cases a
  · rfl
  · rfl
  · exact (Nat.zero_add _).trans (Nat.one_mul _)

/-- The rows of residue 11. -/
def seg11 : FVec Ideal S128x1024 .f32 := cat (flat (stream11 x0)) (flat (stream11 x1)) (flat (stream11 x2)) (flat (stream11 x3)) (flat (stream11 x4)) (flat (stream11 x5)) (flat (stream11 x6)) (flat (stream11 x7))
def tabl11 (x : Vec Ideal S16x8x128 .f32) : FVec Ideal S8x128 .f32 :=
  shapeCast S8x128 (View.ld x (Rect.unit (s := S16x8x128) ![11, 0, 0] S1x8x128.size inb_S16x8x128_S1x8x128_11_0_0)) shapeCasts_S1x8x128_S8x128

theorem pick11 (n : Fin 128) (k : Fin 8) (l : Fin 128) :
    (![flat (stream11 x0), flat (stream11 x1), flat (stream11 x2), flat (stream11 x3), flat (stream11 x4), flat (stream11 x5), flat (stream11 x6), flat (stream11 x7)] : Fin 8 → FVec Ideal S128x128 .f32) k (ix2 n l)
      = (![x0, x1, x2, x3, x4, x5, x6, x7] : Fin 8 → Vec Ideal S1x2048x128 .f32) k (ix3 0 ⟨11 + 16 * n.val, by omega⟩ l) := by
  fin_cases k <;> exact (flat_at ..).trans (stream11_at ..)

theorem seg11_at (n : Fin 128) (j : Fin 1024) : seg11 x0 x1 x2 x3 x4 x5 x6 x7 (ix2 n j) = slab x0 x1 x2 x3 x4 x5 x6 x7 ⟨11 + 16 * n.val, by omega⟩ j := by
  unfold seg11 slab
  simp only [cat_at, pick11]

theorem tabl11_at (x : Vec Ideal S16x8x128 .f32) (e : Fin 8) (n : Fin 128) : tabl11 x (ix2 e n) = x (ix3 11 e n) := by
  pointwise [tabl11]

/-- Residue 12 of a slab. -/
def stream12 (x : Vec Ideal S1x2048x128 .f32) : FVec Ideal S1x128x128 .f32 := fun z =>
  x ((⟨![0, 12, 0], S1x128x128.size, ![1, 16, 1], inb_S1x2048x128_S1x128x128_0_12_0_s_1_16_1⟩ : LoadRect S1x2048x128).idx z)

theorem stream12_at (x : Vec Ideal S1x2048x128 .f32) (n : Fin 128) (l : Fin 128) : stream12 x (ix3 0 n l) = x (ix3 0 ⟨12 + 16 * n.val, by omega⟩ l) := by
  refine congrArg x (funext fun a => Fin.ext ?_)
  fin_cases a
  · rfl
  · rfl
  · exact (Nat.zero_add _).trans (Nat.one_mul _)

/-- The rows of residue 12. -/
def seg12 : FVec Ideal S128x1024 .f32 := cat (flat (stream12 x0)) (flat (stream12 x1)) (flat (stream12 x2)) (flat (stream12 x3)) (flat (stream12 x4)) (flat (stream12 x5)) (flat (stream12 x6)) (flat (stream12 x7))
def tabl12 (x : Vec Ideal S16x8x128 .f32) : FVec Ideal S8x128 .f32 :=
  shapeCast S8x128 (View.ld x (Rect.unit (s := S16x8x128) ![12, 0, 0] S1x8x128.size inb_S16x8x128_S1x8x128_12_0_0)) shapeCasts_S1x8x128_S8x128

theorem pick12 (n : Fin 128) (k : Fin 8) (l : Fin 128) :
    (![flat (stream12 x0), flat (stream12 x1), flat (stream12 x2), flat (stream12 x3), flat (stream12 x4), flat (stream12 x5), flat (stream12 x6), flat (stream12 x7)] : Fin 8 → FVec Ideal S128x128 .f32) k (ix2 n l)
      = (![x0, x1, x2, x3, x4, x5, x6, x7] : Fin 8 → Vec Ideal S1x2048x128 .f32) k (ix3 0 ⟨12 + 16 * n.val, by omega⟩ l) := by
  fin_cases k <;> exact (flat_at ..).trans (stream12_at ..)

theorem seg12_at (n : Fin 128) (j : Fin 1024) : seg12 x0 x1 x2 x3 x4 x5 x6 x7 (ix2 n j) = slab x0 x1 x2 x3 x4 x5 x6 x7 ⟨12 + 16 * n.val, by omega⟩ j := by
  unfold seg12 slab
  simp only [cat_at, pick12]

theorem tabl12_at (x : Vec Ideal S16x8x128 .f32) (e : Fin 8) (n : Fin 128) : tabl12 x (ix2 e n) = x (ix3 12 e n) := by
  pointwise [tabl12]

/-- Residue 13 of a slab. -/
def stream13 (x : Vec Ideal S1x2048x128 .f32) : FVec Ideal S1x128x128 .f32 := fun z =>
  x ((⟨![0, 13, 0], S1x128x128.size, ![1, 16, 1], inb_S1x2048x128_S1x128x128_0_13_0_s_1_16_1⟩ : LoadRect S1x2048x128).idx z)

theorem stream13_at (x : Vec Ideal S1x2048x128 .f32) (n : Fin 128) (l : Fin 128) : stream13 x (ix3 0 n l) = x (ix3 0 ⟨13 + 16 * n.val, by omega⟩ l) := by
  refine congrArg x (funext fun a => Fin.ext ?_)
  fin_cases a
  · rfl
  · rfl
  · exact (Nat.zero_add _).trans (Nat.one_mul _)

/-- The rows of residue 13. -/
def seg13 : FVec Ideal S128x1024 .f32 := cat (flat (stream13 x0)) (flat (stream13 x1)) (flat (stream13 x2)) (flat (stream13 x3)) (flat (stream13 x4)) (flat (stream13 x5)) (flat (stream13 x6)) (flat (stream13 x7))
def tabl13 (x : Vec Ideal S16x8x128 .f32) : FVec Ideal S8x128 .f32 :=
  shapeCast S8x128 (View.ld x (Rect.unit (s := S16x8x128) ![13, 0, 0] S1x8x128.size inb_S16x8x128_S1x8x128_13_0_0)) shapeCasts_S1x8x128_S8x128

theorem pick13 (n : Fin 128) (k : Fin 8) (l : Fin 128) :
    (![flat (stream13 x0), flat (stream13 x1), flat (stream13 x2), flat (stream13 x3), flat (stream13 x4), flat (stream13 x5), flat (stream13 x6), flat (stream13 x7)] : Fin 8 → FVec Ideal S128x128 .f32) k (ix2 n l)
      = (![x0, x1, x2, x3, x4, x5, x6, x7] : Fin 8 → Vec Ideal S1x2048x128 .f32) k (ix3 0 ⟨13 + 16 * n.val, by omega⟩ l) := by
  fin_cases k <;> exact (flat_at ..).trans (stream13_at ..)

theorem seg13_at (n : Fin 128) (j : Fin 1024) : seg13 x0 x1 x2 x3 x4 x5 x6 x7 (ix2 n j) = slab x0 x1 x2 x3 x4 x5 x6 x7 ⟨13 + 16 * n.val, by omega⟩ j := by
  unfold seg13 slab
  simp only [cat_at, pick13]

theorem tabl13_at (x : Vec Ideal S16x8x128 .f32) (e : Fin 8) (n : Fin 128) : tabl13 x (ix2 e n) = x (ix3 13 e n) := by
  pointwise [tabl13]

/-- Residue 14 of a slab. -/
def stream14 (x : Vec Ideal S1x2048x128 .f32) : FVec Ideal S1x128x128 .f32 := fun z =>
  x ((⟨![0, 14, 0], S1x128x128.size, ![1, 16, 1], inb_S1x2048x128_S1x128x128_0_14_0_s_1_16_1⟩ : LoadRect S1x2048x128).idx z)

theorem stream14_at (x : Vec Ideal S1x2048x128 .f32) (n : Fin 128) (l : Fin 128) : stream14 x (ix3 0 n l) = x (ix3 0 ⟨14 + 16 * n.val, by omega⟩ l) := by
  refine congrArg x (funext fun a => Fin.ext ?_)
  fin_cases a
  · rfl
  · rfl
  · exact (Nat.zero_add _).trans (Nat.one_mul _)

/-- The rows of residue 14. -/
def seg14 : FVec Ideal S128x1024 .f32 := cat (flat (stream14 x0)) (flat (stream14 x1)) (flat (stream14 x2)) (flat (stream14 x3)) (flat (stream14 x4)) (flat (stream14 x5)) (flat (stream14 x6)) (flat (stream14 x7))
def tabl14 (x : Vec Ideal S16x8x128 .f32) : FVec Ideal S8x128 .f32 :=
  shapeCast S8x128 (View.ld x (Rect.unit (s := S16x8x128) ![14, 0, 0] S1x8x128.size inb_S16x8x128_S1x8x128_14_0_0)) shapeCasts_S1x8x128_S8x128

theorem pick14 (n : Fin 128) (k : Fin 8) (l : Fin 128) :
    (![flat (stream14 x0), flat (stream14 x1), flat (stream14 x2), flat (stream14 x3), flat (stream14 x4), flat (stream14 x5), flat (stream14 x6), flat (stream14 x7)] : Fin 8 → FVec Ideal S128x128 .f32) k (ix2 n l)
      = (![x0, x1, x2, x3, x4, x5, x6, x7] : Fin 8 → Vec Ideal S1x2048x128 .f32) k (ix3 0 ⟨14 + 16 * n.val, by omega⟩ l) := by
  fin_cases k <;> exact (flat_at ..).trans (stream14_at ..)

theorem seg14_at (n : Fin 128) (j : Fin 1024) : seg14 x0 x1 x2 x3 x4 x5 x6 x7 (ix2 n j) = slab x0 x1 x2 x3 x4 x5 x6 x7 ⟨14 + 16 * n.val, by omega⟩ j := by
  unfold seg14 slab
  simp only [cat_at, pick14]

theorem tabl14_at (x : Vec Ideal S16x8x128 .f32) (e : Fin 8) (n : Fin 128) : tabl14 x (ix2 e n) = x (ix3 14 e n) := by
  pointwise [tabl14]

/-- Residue 15 of a slab. -/
def stream15 (x : Vec Ideal S1x2048x128 .f32) : FVec Ideal S1x128x128 .f32 := fun z =>
  x ((⟨![0, 15, 0], S1x128x128.size, ![1, 16, 1], inb_S1x2048x128_S1x128x128_0_15_0_s_1_16_1⟩ : LoadRect S1x2048x128).idx z)

theorem stream15_at (x : Vec Ideal S1x2048x128 .f32) (n : Fin 128) (l : Fin 128) : stream15 x (ix3 0 n l) = x (ix3 0 ⟨15 + 16 * n.val, by omega⟩ l) := by
  refine congrArg x (funext fun a => Fin.ext ?_)
  fin_cases a
  · rfl
  · rfl
  · exact (Nat.zero_add _).trans (Nat.one_mul _)

/-- The rows of residue 15. -/
def seg15 : FVec Ideal S128x1024 .f32 := cat (flat (stream15 x0)) (flat (stream15 x1)) (flat (stream15 x2)) (flat (stream15 x3)) (flat (stream15 x4)) (flat (stream15 x5)) (flat (stream15 x6)) (flat (stream15 x7))
def tabl15 (x : Vec Ideal S16x8x128 .f32) : FVec Ideal S8x128 .f32 :=
  shapeCast S8x128 (View.ld x (Rect.unit (s := S16x8x128) ![15, 0, 0] S1x8x128.size inb_S16x8x128_S1x8x128_15_0_0)) shapeCasts_S1x8x128_S8x128

theorem pick15 (n : Fin 128) (k : Fin 8) (l : Fin 128) :
    (![flat (stream15 x0), flat (stream15 x1), flat (stream15 x2), flat (stream15 x3), flat (stream15 x4), flat (stream15 x5), flat (stream15 x6), flat (stream15 x7)] : Fin 8 → FVec Ideal S128x128 .f32) k (ix2 n l)
      = (![x0, x1, x2, x3, x4, x5, x6, x7] : Fin 8 → Vec Ideal S1x2048x128 .f32) k (ix3 0 ⟨15 + 16 * n.val, by omega⟩ l) := by
  fin_cases k <;> exact (flat_at ..).trans (stream15_at ..)

theorem seg15_at (n : Fin 128) (j : Fin 1024) : seg15 x0 x1 x2 x3 x4 x5 x6 x7 (ix2 n j) = slab x0 x1 x2 x3 x4 x5 x6 x7 ⟨15 + 16 * n.val, by omega⟩ j := by
  unfold seg15 slab
  simp only [cat_at, pick15]

theorem tabl15_at (x : Vec Ideal S16x8x128 .f32) (e : Fin 8) (n : Fin 128) : tabl15 x (ix2 e n) = x (ix3 15 e n) := by
  pointwise [tabl15]

/-- The rows of unit 0. -/
def y0 : FVec Ideal S256x1024 .bf16 := nrm (stackRows (seg0 x0 x1 x2 x3 x4 x5 x6 x7) (seg1 x0 x1 x2 x3 x4 x5 x6 x7)) (scales x8)
def tab0 (x : Vec Ideal S16x8x128 .f32) : FVec Ideal S8x256 .f32 := stackTabs (tabl0 x) (tabl1 x)
def q0 : FVec Ideal S1024x256 .bf16 :=
  qTile (turn (hnorm (dot (y0 x0 x1 x2 x3 x4 x5 x6 x7 x8) (wQ x9)) (gains x10)) (tab0 x12) (tab0 x13))
def k0 : FVec Ideal S256x1024 .bf16 :=
  kRows (turn (hnorm (dot (y0 x0 x1 x2 x3 x4 x5 x6 x7 x8) (wK x9)) (gains x11)) (tab0 x12) (tab0 x13))
def v0 : FVec Ideal S1152x256 .bf16 := vTile (dot (y0 x0 x1 x2 x3 x4 x5 x6 x7 x8) (wV x9))

theorem y0_at (n : Fin 256) (j : Fin 1024) :
    y0 x0 x1 x2 x3 x4 x5 x6 x7 x8 (ix2 n j) = row x0 x1 x2 x3 x4 x5 x6 x7 x8 ⟨(0 + n.val / 128) + 16 * (n.val % 128), by omega⟩ j := by
  unfold y0 row
  rw [nrm_at]
  refine congrFun (congrArg₂ Feed.normed (funext fun l => ?_) (funext fun l => scales_at ..)) j
  rw [stackRows_at]
  by_cases h : n.val < 128
  · rw [dif_pos h]
    exact (seg0_at ..).trans (congrArg (fun z => slab x0 x1 x2 x3 x4 x5 x6 x7 z l) (Fin.ext (by dsimp only; omega)))
  · rw [dif_neg h]
    exact (seg1_at ..).trans (congrArg (fun z => slab x0 x1 x2 x3 x4 x5 x6 x7 z l) (Fin.ext (by dsimp only; omega)))

theorem tab0_at (x : Vec Ideal S16x8x128 .f32) (e : Fin 8) (n : Fin 256) : tab0 x (ix2 e n) = x (ix3 ⟨0 + n.val / 128, by omega⟩ e ⟨n.val % 128, by omega⟩) := by
  unfold tab0
  rw [stackTabs_at]
  by_cases h : n.val < 128
  · rw [dif_pos h]
    exact (tabl0_at ..).trans (congrArg₂ (fun z w => x (ix3 z e w)) (Fin.ext (show 0 = 0 + n.val / 128 by omega)) (Fin.ext (by dsimp only; omega)))
  · rw [dif_neg h]
    exact (tabl1_at ..).trans (congrArg₂ (fun z w => x (ix3 z e w)) (Fin.ext (show 1 = 0 + n.val / 128 by omega)) (Fin.ext (by dsimp only; omega)))

theorem q0_at (k : Fin 1024) (n : Fin 256) : q0 x0 x1 x2 x3 x4 x5 x6 x7 x8 x9 x10 x12 x13 (ix2 k n) = qAt x0 x1 x2 x3 x4 x5 x6 x7 x8 x9 x10 x12 x13 ⟨(0 + n.val / 128) + 16 * (n.val % 128), by omega⟩ ⟨0 + n.val / 128, by omega⟩ ⟨n.val % 128, by omega⟩ k := by
  have e : (0 + n.val / 128) % 2 * 128 + n.val % 128 = n.val := by omega
  unfold q0 qAt Heads.head
  rw [qTile_at, turn_at]
  simp only [hnorm_at, dot_at, y0_at, tab0_at, wQ_at, gains_at, e]

theorem k0_at (n : Fin 256) (k : Fin 1024) : k0 x0 x1 x2 x3 x4 x5 x6 x7 x8 x9 x11 x12 x13 (ix2 n k) = kAt x0 x1 x2 x3 x4 x5 x6 x7 x8 x9 x11 x12 x13 ⟨(0 + n.val / 128) + 16 * (n.val % 128), by omega⟩ ⟨0 + n.val / 128, by omega⟩ ⟨n.val % 128, by omega⟩ k := by
  have e : (0 + n.val / 128) % 2 * 128 + n.val % 128 = n.val := by omega
  unfold k0 kAt Heads.head
  rw [kRows_at, turn_at]
  simp only [hnorm_at, dot_at, y0_at, tab0_at, wK_at, gains_at, e]

theorem v0_at (k : Fin 1152) (n : Fin 256) : v0 x0 x1 x2 x3 x4 x5 x6 x7 x8 x9 (ix2 k n) = vAt x0 x1 x2 x3 x4 x5 x6 x7 x8 x9 ⟨(0 + n.val / 128) + 16 * (n.val % 128), by omega⟩ k := by
  unfold v0 vAt
  rw [vTile_at]
  simp only [dot_at, y0_at, wV_at]

/-- The rows of unit 1. -/
def y1 : FVec Ideal S256x1024 .bf16 := nrm (stackRows (seg2 x0 x1 x2 x3 x4 x5 x6 x7) (seg3 x0 x1 x2 x3 x4 x5 x6 x7)) (scales x8)
def tab1 (x : Vec Ideal S16x8x128 .f32) : FVec Ideal S8x256 .f32 := stackTabs (tabl2 x) (tabl3 x)
def q1 : FVec Ideal S1024x256 .bf16 :=
  qTile (turn (hnorm (dot (y1 x0 x1 x2 x3 x4 x5 x6 x7 x8) (wQ x9)) (gains x10)) (tab1 x12) (tab1 x13))
def k1 : FVec Ideal S256x1024 .bf16 :=
  kRows (turn (hnorm (dot (y1 x0 x1 x2 x3 x4 x5 x6 x7 x8) (wK x9)) (gains x11)) (tab1 x12) (tab1 x13))
def v1 : FVec Ideal S1152x256 .bf16 := vTile (dot (y1 x0 x1 x2 x3 x4 x5 x6 x7 x8) (wV x9))

theorem y1_at (n : Fin 256) (j : Fin 1024) :
    y1 x0 x1 x2 x3 x4 x5 x6 x7 x8 (ix2 n j) = row x0 x1 x2 x3 x4 x5 x6 x7 x8 ⟨(2 + n.val / 128) + 16 * (n.val % 128), by omega⟩ j := by
  unfold y1 row
  rw [nrm_at]
  refine congrFun (congrArg₂ Feed.normed (funext fun l => ?_) (funext fun l => scales_at ..)) j
  rw [stackRows_at]
  by_cases h : n.val < 128
  · rw [dif_pos h]
    exact (seg2_at ..).trans (congrArg (fun z => slab x0 x1 x2 x3 x4 x5 x6 x7 z l) (Fin.ext (by dsimp only; omega)))
  · rw [dif_neg h]
    exact (seg3_at ..).trans (congrArg (fun z => slab x0 x1 x2 x3 x4 x5 x6 x7 z l) (Fin.ext (by dsimp only; omega)))

theorem tab1_at (x : Vec Ideal S16x8x128 .f32) (e : Fin 8) (n : Fin 256) : tab1 x (ix2 e n) = x (ix3 ⟨2 + n.val / 128, by omega⟩ e ⟨n.val % 128, by omega⟩) := by
  unfold tab1
  rw [stackTabs_at]
  by_cases h : n.val < 128
  · rw [dif_pos h]
    exact (tabl2_at ..).trans (congrArg₂ (fun z w => x (ix3 z e w)) (Fin.ext (show 2 = 2 + n.val / 128 by omega)) (Fin.ext (by dsimp only; omega)))
  · rw [dif_neg h]
    exact (tabl3_at ..).trans (congrArg₂ (fun z w => x (ix3 z e w)) (Fin.ext (show 3 = 2 + n.val / 128 by omega)) (Fin.ext (by dsimp only; omega)))

theorem q1_at (k : Fin 1024) (n : Fin 256) : q1 x0 x1 x2 x3 x4 x5 x6 x7 x8 x9 x10 x12 x13 (ix2 k n) = qAt x0 x1 x2 x3 x4 x5 x6 x7 x8 x9 x10 x12 x13 ⟨(2 + n.val / 128) + 16 * (n.val % 128), by omega⟩ ⟨2 + n.val / 128, by omega⟩ ⟨n.val % 128, by omega⟩ k := by
  have e : (2 + n.val / 128) % 2 * 128 + n.val % 128 = n.val := by omega
  unfold q1 qAt Heads.head
  rw [qTile_at, turn_at]
  simp only [hnorm_at, dot_at, y1_at, tab1_at, wQ_at, gains_at, e]

theorem k1_at (n : Fin 256) (k : Fin 1024) : k1 x0 x1 x2 x3 x4 x5 x6 x7 x8 x9 x11 x12 x13 (ix2 n k) = kAt x0 x1 x2 x3 x4 x5 x6 x7 x8 x9 x11 x12 x13 ⟨(2 + n.val / 128) + 16 * (n.val % 128), by omega⟩ ⟨2 + n.val / 128, by omega⟩ ⟨n.val % 128, by omega⟩ k := by
  have e : (2 + n.val / 128) % 2 * 128 + n.val % 128 = n.val := by omega
  unfold k1 kAt Heads.head
  rw [kRows_at, turn_at]
  simp only [hnorm_at, dot_at, y1_at, tab1_at, wK_at, gains_at, e]

theorem v1_at (k : Fin 1152) (n : Fin 256) : v1 x0 x1 x2 x3 x4 x5 x6 x7 x8 x9 (ix2 k n) = vAt x0 x1 x2 x3 x4 x5 x6 x7 x8 x9 ⟨(2 + n.val / 128) + 16 * (n.val % 128), by omega⟩ k := by
  unfold v1 vAt
  rw [vTile_at]
  simp only [dot_at, y1_at, wV_at]

/-- The rows of unit 2. -/
def y2 : FVec Ideal S256x1024 .bf16 := nrm (stackRows (seg4 x0 x1 x2 x3 x4 x5 x6 x7) (seg5 x0 x1 x2 x3 x4 x5 x6 x7)) (scales x8)
def tab2 (x : Vec Ideal S16x8x128 .f32) : FVec Ideal S8x256 .f32 := stackTabs (tabl4 x) (tabl5 x)
def q2 : FVec Ideal S1024x256 .bf16 :=
  qTile (turn (hnorm (dot (y2 x0 x1 x2 x3 x4 x5 x6 x7 x8) (wQ x9)) (gains x10)) (tab2 x12) (tab2 x13))
def k2 : FVec Ideal S256x1024 .bf16 :=
  kRows (turn (hnorm (dot (y2 x0 x1 x2 x3 x4 x5 x6 x7 x8) (wK x9)) (gains x11)) (tab2 x12) (tab2 x13))
def v2 : FVec Ideal S1152x256 .bf16 := vTile (dot (y2 x0 x1 x2 x3 x4 x5 x6 x7 x8) (wV x9))

theorem y2_at (n : Fin 256) (j : Fin 1024) :
    y2 x0 x1 x2 x3 x4 x5 x6 x7 x8 (ix2 n j) = row x0 x1 x2 x3 x4 x5 x6 x7 x8 ⟨(4 + n.val / 128) + 16 * (n.val % 128), by omega⟩ j := by
  unfold y2 row
  rw [nrm_at]
  refine congrFun (congrArg₂ Feed.normed (funext fun l => ?_) (funext fun l => scales_at ..)) j
  rw [stackRows_at]
  by_cases h : n.val < 128
  · rw [dif_pos h]
    exact (seg4_at ..).trans (congrArg (fun z => slab x0 x1 x2 x3 x4 x5 x6 x7 z l) (Fin.ext (by dsimp only; omega)))
  · rw [dif_neg h]
    exact (seg5_at ..).trans (congrArg (fun z => slab x0 x1 x2 x3 x4 x5 x6 x7 z l) (Fin.ext (by dsimp only; omega)))

theorem tab2_at (x : Vec Ideal S16x8x128 .f32) (e : Fin 8) (n : Fin 256) : tab2 x (ix2 e n) = x (ix3 ⟨4 + n.val / 128, by omega⟩ e ⟨n.val % 128, by omega⟩) := by
  unfold tab2
  rw [stackTabs_at]
  by_cases h : n.val < 128
  · rw [dif_pos h]
    exact (tabl4_at ..).trans (congrArg₂ (fun z w => x (ix3 z e w)) (Fin.ext (show 4 = 4 + n.val / 128 by omega)) (Fin.ext (by dsimp only; omega)))
  · rw [dif_neg h]
    exact (tabl5_at ..).trans (congrArg₂ (fun z w => x (ix3 z e w)) (Fin.ext (show 5 = 4 + n.val / 128 by omega)) (Fin.ext (by dsimp only; omega)))

theorem q2_at (k : Fin 1024) (n : Fin 256) : q2 x0 x1 x2 x3 x4 x5 x6 x7 x8 x9 x10 x12 x13 (ix2 k n) = qAt x0 x1 x2 x3 x4 x5 x6 x7 x8 x9 x10 x12 x13 ⟨(4 + n.val / 128) + 16 * (n.val % 128), by omega⟩ ⟨4 + n.val / 128, by omega⟩ ⟨n.val % 128, by omega⟩ k := by
  have e : (4 + n.val / 128) % 2 * 128 + n.val % 128 = n.val := by omega
  unfold q2 qAt Heads.head
  rw [qTile_at, turn_at]
  simp only [hnorm_at, dot_at, y2_at, tab2_at, wQ_at, gains_at, e]

theorem k2_at (n : Fin 256) (k : Fin 1024) : k2 x0 x1 x2 x3 x4 x5 x6 x7 x8 x9 x11 x12 x13 (ix2 n k) = kAt x0 x1 x2 x3 x4 x5 x6 x7 x8 x9 x11 x12 x13 ⟨(4 + n.val / 128) + 16 * (n.val % 128), by omega⟩ ⟨4 + n.val / 128, by omega⟩ ⟨n.val % 128, by omega⟩ k := by
  have e : (4 + n.val / 128) % 2 * 128 + n.val % 128 = n.val := by omega
  unfold k2 kAt Heads.head
  rw [kRows_at, turn_at]
  simp only [hnorm_at, dot_at, y2_at, tab2_at, wK_at, gains_at, e]

theorem v2_at (k : Fin 1152) (n : Fin 256) : v2 x0 x1 x2 x3 x4 x5 x6 x7 x8 x9 (ix2 k n) = vAt x0 x1 x2 x3 x4 x5 x6 x7 x8 x9 ⟨(4 + n.val / 128) + 16 * (n.val % 128), by omega⟩ k := by
  unfold v2 vAt
  rw [vTile_at]
  simp only [dot_at, y2_at, wV_at]

/-- The rows of unit 3. -/
def y3 : FVec Ideal S256x1024 .bf16 := nrm (stackRows (seg6 x0 x1 x2 x3 x4 x5 x6 x7) (seg7 x0 x1 x2 x3 x4 x5 x6 x7)) (scales x8)
def tab3 (x : Vec Ideal S16x8x128 .f32) : FVec Ideal S8x256 .f32 := stackTabs (tabl6 x) (tabl7 x)
def q3 : FVec Ideal S1024x256 .bf16 :=
  qTile (turn (hnorm (dot (y3 x0 x1 x2 x3 x4 x5 x6 x7 x8) (wQ x9)) (gains x10)) (tab3 x12) (tab3 x13))
def k3 : FVec Ideal S256x1024 .bf16 :=
  kRows (turn (hnorm (dot (y3 x0 x1 x2 x3 x4 x5 x6 x7 x8) (wK x9)) (gains x11)) (tab3 x12) (tab3 x13))
def v3 : FVec Ideal S1152x256 .bf16 := vTile (dot (y3 x0 x1 x2 x3 x4 x5 x6 x7 x8) (wV x9))

theorem y3_at (n : Fin 256) (j : Fin 1024) :
    y3 x0 x1 x2 x3 x4 x5 x6 x7 x8 (ix2 n j) = row x0 x1 x2 x3 x4 x5 x6 x7 x8 ⟨(6 + n.val / 128) + 16 * (n.val % 128), by omega⟩ j := by
  unfold y3 row
  rw [nrm_at]
  refine congrFun (congrArg₂ Feed.normed (funext fun l => ?_) (funext fun l => scales_at ..)) j
  rw [stackRows_at]
  by_cases h : n.val < 128
  · rw [dif_pos h]
    exact (seg6_at ..).trans (congrArg (fun z => slab x0 x1 x2 x3 x4 x5 x6 x7 z l) (Fin.ext (by dsimp only; omega)))
  · rw [dif_neg h]
    exact (seg7_at ..).trans (congrArg (fun z => slab x0 x1 x2 x3 x4 x5 x6 x7 z l) (Fin.ext (by dsimp only; omega)))

theorem tab3_at (x : Vec Ideal S16x8x128 .f32) (e : Fin 8) (n : Fin 256) : tab3 x (ix2 e n) = x (ix3 ⟨6 + n.val / 128, by omega⟩ e ⟨n.val % 128, by omega⟩) := by
  unfold tab3
  rw [stackTabs_at]
  by_cases h : n.val < 128
  · rw [dif_pos h]
    exact (tabl6_at ..).trans (congrArg₂ (fun z w => x (ix3 z e w)) (Fin.ext (show 6 = 6 + n.val / 128 by omega)) (Fin.ext (by dsimp only; omega)))
  · rw [dif_neg h]
    exact (tabl7_at ..).trans (congrArg₂ (fun z w => x (ix3 z e w)) (Fin.ext (show 7 = 6 + n.val / 128 by omega)) (Fin.ext (by dsimp only; omega)))

theorem q3_at (k : Fin 1024) (n : Fin 256) : q3 x0 x1 x2 x3 x4 x5 x6 x7 x8 x9 x10 x12 x13 (ix2 k n) = qAt x0 x1 x2 x3 x4 x5 x6 x7 x8 x9 x10 x12 x13 ⟨(6 + n.val / 128) + 16 * (n.val % 128), by omega⟩ ⟨6 + n.val / 128, by omega⟩ ⟨n.val % 128, by omega⟩ k := by
  have e : (6 + n.val / 128) % 2 * 128 + n.val % 128 = n.val := by omega
  unfold q3 qAt Heads.head
  rw [qTile_at, turn_at]
  simp only [hnorm_at, dot_at, y3_at, tab3_at, wQ_at, gains_at, e]

theorem k3_at (n : Fin 256) (k : Fin 1024) : k3 x0 x1 x2 x3 x4 x5 x6 x7 x8 x9 x11 x12 x13 (ix2 n k) = kAt x0 x1 x2 x3 x4 x5 x6 x7 x8 x9 x11 x12 x13 ⟨(6 + n.val / 128) + 16 * (n.val % 128), by omega⟩ ⟨6 + n.val / 128, by omega⟩ ⟨n.val % 128, by omega⟩ k := by
  have e : (6 + n.val / 128) % 2 * 128 + n.val % 128 = n.val := by omega
  unfold k3 kAt Heads.head
  rw [kRows_at, turn_at]
  simp only [hnorm_at, dot_at, y3_at, tab3_at, wK_at, gains_at, e]

theorem v3_at (k : Fin 1152) (n : Fin 256) : v3 x0 x1 x2 x3 x4 x5 x6 x7 x8 x9 (ix2 k n) = vAt x0 x1 x2 x3 x4 x5 x6 x7 x8 x9 ⟨(6 + n.val / 128) + 16 * (n.val % 128), by omega⟩ k := by
  unfold v3 vAt
  rw [vTile_at]
  simp only [dot_at, y3_at, wV_at]

/-- The rows of unit 4. -/
def y4 : FVec Ideal S256x1024 .bf16 := nrm (stackRows (seg8 x0 x1 x2 x3 x4 x5 x6 x7) (seg9 x0 x1 x2 x3 x4 x5 x6 x7)) (scales x8)
def tab4 (x : Vec Ideal S16x8x128 .f32) : FVec Ideal S8x256 .f32 := stackTabs (tabl8 x) (tabl9 x)
def q4 : FVec Ideal S1024x256 .bf16 :=
  qTile (turn (hnorm (dot (y4 x0 x1 x2 x3 x4 x5 x6 x7 x8) (wQ x9)) (gains x10)) (tab4 x12) (tab4 x13))
def k4 : FVec Ideal S256x1024 .bf16 :=
  kRows (turn (hnorm (dot (y4 x0 x1 x2 x3 x4 x5 x6 x7 x8) (wK x9)) (gains x11)) (tab4 x12) (tab4 x13))
def v4 : FVec Ideal S1152x256 .bf16 := vTile (dot (y4 x0 x1 x2 x3 x4 x5 x6 x7 x8) (wV x9))

theorem y4_at (n : Fin 256) (j : Fin 1024) :
    y4 x0 x1 x2 x3 x4 x5 x6 x7 x8 (ix2 n j) = row x0 x1 x2 x3 x4 x5 x6 x7 x8 ⟨(8 + n.val / 128) + 16 * (n.val % 128), by omega⟩ j := by
  unfold y4 row
  rw [nrm_at]
  refine congrFun (congrArg₂ Feed.normed (funext fun l => ?_) (funext fun l => scales_at ..)) j
  rw [stackRows_at]
  by_cases h : n.val < 128
  · rw [dif_pos h]
    exact (seg8_at ..).trans (congrArg (fun z => slab x0 x1 x2 x3 x4 x5 x6 x7 z l) (Fin.ext (by dsimp only; omega)))
  · rw [dif_neg h]
    exact (seg9_at ..).trans (congrArg (fun z => slab x0 x1 x2 x3 x4 x5 x6 x7 z l) (Fin.ext (by dsimp only; omega)))

theorem tab4_at (x : Vec Ideal S16x8x128 .f32) (e : Fin 8) (n : Fin 256) : tab4 x (ix2 e n) = x (ix3 ⟨8 + n.val / 128, by omega⟩ e ⟨n.val % 128, by omega⟩) := by
  unfold tab4
  rw [stackTabs_at]
  by_cases h : n.val < 128
  · rw [dif_pos h]
    exact (tabl8_at ..).trans (congrArg₂ (fun z w => x (ix3 z e w)) (Fin.ext (show 8 = 8 + n.val / 128 by omega)) (Fin.ext (by dsimp only; omega)))
  · rw [dif_neg h]
    exact (tabl9_at ..).trans (congrArg₂ (fun z w => x (ix3 z e w)) (Fin.ext (show 9 = 8 + n.val / 128 by omega)) (Fin.ext (by dsimp only; omega)))

theorem q4_at (k : Fin 1024) (n : Fin 256) : q4 x0 x1 x2 x3 x4 x5 x6 x7 x8 x9 x10 x12 x13 (ix2 k n) = qAt x0 x1 x2 x3 x4 x5 x6 x7 x8 x9 x10 x12 x13 ⟨(8 + n.val / 128) + 16 * (n.val % 128), by omega⟩ ⟨8 + n.val / 128, by omega⟩ ⟨n.val % 128, by omega⟩ k := by
  have e : (8 + n.val / 128) % 2 * 128 + n.val % 128 = n.val := by omega
  unfold q4 qAt Heads.head
  rw [qTile_at, turn_at]
  simp only [hnorm_at, dot_at, y4_at, tab4_at, wQ_at, gains_at, e]

theorem k4_at (n : Fin 256) (k : Fin 1024) : k4 x0 x1 x2 x3 x4 x5 x6 x7 x8 x9 x11 x12 x13 (ix2 n k) = kAt x0 x1 x2 x3 x4 x5 x6 x7 x8 x9 x11 x12 x13 ⟨(8 + n.val / 128) + 16 * (n.val % 128), by omega⟩ ⟨8 + n.val / 128, by omega⟩ ⟨n.val % 128, by omega⟩ k := by
  have e : (8 + n.val / 128) % 2 * 128 + n.val % 128 = n.val := by omega
  unfold k4 kAt Heads.head
  rw [kRows_at, turn_at]
  simp only [hnorm_at, dot_at, y4_at, tab4_at, wK_at, gains_at, e]

theorem v4_at (k : Fin 1152) (n : Fin 256) : v4 x0 x1 x2 x3 x4 x5 x6 x7 x8 x9 (ix2 k n) = vAt x0 x1 x2 x3 x4 x5 x6 x7 x8 x9 ⟨(8 + n.val / 128) + 16 * (n.val % 128), by omega⟩ k := by
  unfold v4 vAt
  rw [vTile_at]
  simp only [dot_at, y4_at, wV_at]

/-- The rows of unit 5. -/
def y5 : FVec Ideal S256x1024 .bf16 := nrm (stackRows (seg10 x0 x1 x2 x3 x4 x5 x6 x7) (seg11 x0 x1 x2 x3 x4 x5 x6 x7)) (scales x8)
def tab5 (x : Vec Ideal S16x8x128 .f32) : FVec Ideal S8x256 .f32 := stackTabs (tabl10 x) (tabl11 x)
def q5 : FVec Ideal S1024x256 .bf16 :=
  qTile (turn (hnorm (dot (y5 x0 x1 x2 x3 x4 x5 x6 x7 x8) (wQ x9)) (gains x10)) (tab5 x12) (tab5 x13))
def k5 : FVec Ideal S256x1024 .bf16 :=
  kRows (turn (hnorm (dot (y5 x0 x1 x2 x3 x4 x5 x6 x7 x8) (wK x9)) (gains x11)) (tab5 x12) (tab5 x13))
def v5 : FVec Ideal S1152x256 .bf16 := vTile (dot (y5 x0 x1 x2 x3 x4 x5 x6 x7 x8) (wV x9))

theorem y5_at (n : Fin 256) (j : Fin 1024) :
    y5 x0 x1 x2 x3 x4 x5 x6 x7 x8 (ix2 n j) = row x0 x1 x2 x3 x4 x5 x6 x7 x8 ⟨(10 + n.val / 128) + 16 * (n.val % 128), by omega⟩ j := by
  unfold y5 row
  rw [nrm_at]
  refine congrFun (congrArg₂ Feed.normed (funext fun l => ?_) (funext fun l => scales_at ..)) j
  rw [stackRows_at]
  by_cases h : n.val < 128
  · rw [dif_pos h]
    exact (seg10_at ..).trans (congrArg (fun z => slab x0 x1 x2 x3 x4 x5 x6 x7 z l) (Fin.ext (by dsimp only; omega)))
  · rw [dif_neg h]
    exact (seg11_at ..).trans (congrArg (fun z => slab x0 x1 x2 x3 x4 x5 x6 x7 z l) (Fin.ext (by dsimp only; omega)))

theorem tab5_at (x : Vec Ideal S16x8x128 .f32) (e : Fin 8) (n : Fin 256) : tab5 x (ix2 e n) = x (ix3 ⟨10 + n.val / 128, by omega⟩ e ⟨n.val % 128, by omega⟩) := by
  unfold tab5
  rw [stackTabs_at]
  by_cases h : n.val < 128
  · rw [dif_pos h]
    exact (tabl10_at ..).trans (congrArg₂ (fun z w => x (ix3 z e w)) (Fin.ext (show 10 = 10 + n.val / 128 by omega)) (Fin.ext (by dsimp only; omega)))
  · rw [dif_neg h]
    exact (tabl11_at ..).trans (congrArg₂ (fun z w => x (ix3 z e w)) (Fin.ext (show 11 = 10 + n.val / 128 by omega)) (Fin.ext (by dsimp only; omega)))

theorem q5_at (k : Fin 1024) (n : Fin 256) : q5 x0 x1 x2 x3 x4 x5 x6 x7 x8 x9 x10 x12 x13 (ix2 k n) = qAt x0 x1 x2 x3 x4 x5 x6 x7 x8 x9 x10 x12 x13 ⟨(10 + n.val / 128) + 16 * (n.val % 128), by omega⟩ ⟨10 + n.val / 128, by omega⟩ ⟨n.val % 128, by omega⟩ k := by
  have e : (10 + n.val / 128) % 2 * 128 + n.val % 128 = n.val := by omega
  unfold q5 qAt Heads.head
  rw [qTile_at, turn_at]
  simp only [hnorm_at, dot_at, y5_at, tab5_at, wQ_at, gains_at, e]

theorem k5_at (n : Fin 256) (k : Fin 1024) : k5 x0 x1 x2 x3 x4 x5 x6 x7 x8 x9 x11 x12 x13 (ix2 n k) = kAt x0 x1 x2 x3 x4 x5 x6 x7 x8 x9 x11 x12 x13 ⟨(10 + n.val / 128) + 16 * (n.val % 128), by omega⟩ ⟨10 + n.val / 128, by omega⟩ ⟨n.val % 128, by omega⟩ k := by
  have e : (10 + n.val / 128) % 2 * 128 + n.val % 128 = n.val := by omega
  unfold k5 kAt Heads.head
  rw [kRows_at, turn_at]
  simp only [hnorm_at, dot_at, y5_at, tab5_at, wK_at, gains_at, e]

theorem v5_at (k : Fin 1152) (n : Fin 256) : v5 x0 x1 x2 x3 x4 x5 x6 x7 x8 x9 (ix2 k n) = vAt x0 x1 x2 x3 x4 x5 x6 x7 x8 x9 ⟨(10 + n.val / 128) + 16 * (n.val % 128), by omega⟩ k := by
  unfold v5 vAt
  rw [vTile_at]
  simp only [dot_at, y5_at, wV_at]

/-- The rows of unit 6. -/
def y6 : FVec Ideal S256x1024 .bf16 := nrm (stackRows (seg12 x0 x1 x2 x3 x4 x5 x6 x7) (seg13 x0 x1 x2 x3 x4 x5 x6 x7)) (scales x8)
def tab6 (x : Vec Ideal S16x8x128 .f32) : FVec Ideal S8x256 .f32 := stackTabs (tabl12 x) (tabl13 x)
def q6 : FVec Ideal S1024x256 .bf16 :=
  qTile (turn (hnorm (dot (y6 x0 x1 x2 x3 x4 x5 x6 x7 x8) (wQ x9)) (gains x10)) (tab6 x12) (tab6 x13))
def k6 : FVec Ideal S256x1024 .bf16 :=
  kRows (turn (hnorm (dot (y6 x0 x1 x2 x3 x4 x5 x6 x7 x8) (wK x9)) (gains x11)) (tab6 x12) (tab6 x13))
def v6 : FVec Ideal S1152x256 .bf16 := vTile (dot (y6 x0 x1 x2 x3 x4 x5 x6 x7 x8) (wV x9))

theorem y6_at (n : Fin 256) (j : Fin 1024) :
    y6 x0 x1 x2 x3 x4 x5 x6 x7 x8 (ix2 n j) = row x0 x1 x2 x3 x4 x5 x6 x7 x8 ⟨(12 + n.val / 128) + 16 * (n.val % 128), by omega⟩ j := by
  unfold y6 row
  rw [nrm_at]
  refine congrFun (congrArg₂ Feed.normed (funext fun l => ?_) (funext fun l => scales_at ..)) j
  rw [stackRows_at]
  by_cases h : n.val < 128
  · rw [dif_pos h]
    exact (seg12_at ..).trans (congrArg (fun z => slab x0 x1 x2 x3 x4 x5 x6 x7 z l) (Fin.ext (by dsimp only; omega)))
  · rw [dif_neg h]
    exact (seg13_at ..).trans (congrArg (fun z => slab x0 x1 x2 x3 x4 x5 x6 x7 z l) (Fin.ext (by dsimp only; omega)))

theorem tab6_at (x : Vec Ideal S16x8x128 .f32) (e : Fin 8) (n : Fin 256) : tab6 x (ix2 e n) = x (ix3 ⟨12 + n.val / 128, by omega⟩ e ⟨n.val % 128, by omega⟩) := by
  unfold tab6
  rw [stackTabs_at]
  by_cases h : n.val < 128
  · rw [dif_pos h]
    exact (tabl12_at ..).trans (congrArg₂ (fun z w => x (ix3 z e w)) (Fin.ext (show 12 = 12 + n.val / 128 by omega)) (Fin.ext (by dsimp only; omega)))
  · rw [dif_neg h]
    exact (tabl13_at ..).trans (congrArg₂ (fun z w => x (ix3 z e w)) (Fin.ext (show 13 = 12 + n.val / 128 by omega)) (Fin.ext (by dsimp only; omega)))

theorem q6_at (k : Fin 1024) (n : Fin 256) : q6 x0 x1 x2 x3 x4 x5 x6 x7 x8 x9 x10 x12 x13 (ix2 k n) = qAt x0 x1 x2 x3 x4 x5 x6 x7 x8 x9 x10 x12 x13 ⟨(12 + n.val / 128) + 16 * (n.val % 128), by omega⟩ ⟨12 + n.val / 128, by omega⟩ ⟨n.val % 128, by omega⟩ k := by
  have e : (12 + n.val / 128) % 2 * 128 + n.val % 128 = n.val := by omega
  unfold q6 qAt Heads.head
  rw [qTile_at, turn_at]
  simp only [hnorm_at, dot_at, y6_at, tab6_at, wQ_at, gains_at, e]

theorem k6_at (n : Fin 256) (k : Fin 1024) : k6 x0 x1 x2 x3 x4 x5 x6 x7 x8 x9 x11 x12 x13 (ix2 n k) = kAt x0 x1 x2 x3 x4 x5 x6 x7 x8 x9 x11 x12 x13 ⟨(12 + n.val / 128) + 16 * (n.val % 128), by omega⟩ ⟨12 + n.val / 128, by omega⟩ ⟨n.val % 128, by omega⟩ k := by
  have e : (12 + n.val / 128) % 2 * 128 + n.val % 128 = n.val := by omega
  unfold k6 kAt Heads.head
  rw [kRows_at, turn_at]
  simp only [hnorm_at, dot_at, y6_at, tab6_at, wK_at, gains_at, e]

theorem v6_at (k : Fin 1152) (n : Fin 256) : v6 x0 x1 x2 x3 x4 x5 x6 x7 x8 x9 (ix2 k n) = vAt x0 x1 x2 x3 x4 x5 x6 x7 x8 x9 ⟨(12 + n.val / 128) + 16 * (n.val % 128), by omega⟩ k := by
  unfold v6 vAt
  rw [vTile_at]
  simp only [dot_at, y6_at, wV_at]

/-- The rows of unit 7. -/
def y7 : FVec Ideal S256x1024 .bf16 := nrm (stackRows (seg14 x0 x1 x2 x3 x4 x5 x6 x7) (seg15 x0 x1 x2 x3 x4 x5 x6 x7)) (scales x8)
def tab7 (x : Vec Ideal S16x8x128 .f32) : FVec Ideal S8x256 .f32 := stackTabs (tabl14 x) (tabl15 x)
def q7 : FVec Ideal S1024x256 .bf16 :=
  qTile (turn (hnorm (dot (y7 x0 x1 x2 x3 x4 x5 x6 x7 x8) (wQ x9)) (gains x10)) (tab7 x12) (tab7 x13))
def k7 : FVec Ideal S256x1024 .bf16 :=
  kRows (turn (hnorm (dot (y7 x0 x1 x2 x3 x4 x5 x6 x7 x8) (wK x9)) (gains x11)) (tab7 x12) (tab7 x13))
def v7 : FVec Ideal S1152x256 .bf16 := vTile (dot (y7 x0 x1 x2 x3 x4 x5 x6 x7 x8) (wV x9))

theorem y7_at (n : Fin 256) (j : Fin 1024) :
    y7 x0 x1 x2 x3 x4 x5 x6 x7 x8 (ix2 n j) = row x0 x1 x2 x3 x4 x5 x6 x7 x8 ⟨(14 + n.val / 128) + 16 * (n.val % 128), by omega⟩ j := by
  unfold y7 row
  rw [nrm_at]
  refine congrFun (congrArg₂ Feed.normed (funext fun l => ?_) (funext fun l => scales_at ..)) j
  rw [stackRows_at]
  by_cases h : n.val < 128
  · rw [dif_pos h]
    exact (seg14_at ..).trans (congrArg (fun z => slab x0 x1 x2 x3 x4 x5 x6 x7 z l) (Fin.ext (by dsimp only; omega)))
  · rw [dif_neg h]
    exact (seg15_at ..).trans (congrArg (fun z => slab x0 x1 x2 x3 x4 x5 x6 x7 z l) (Fin.ext (by dsimp only; omega)))

theorem tab7_at (x : Vec Ideal S16x8x128 .f32) (e : Fin 8) (n : Fin 256) : tab7 x (ix2 e n) = x (ix3 ⟨14 + n.val / 128, by omega⟩ e ⟨n.val % 128, by omega⟩) := by
  unfold tab7
  rw [stackTabs_at]
  by_cases h : n.val < 128
  · rw [dif_pos h]
    exact (tabl14_at ..).trans (congrArg₂ (fun z w => x (ix3 z e w)) (Fin.ext (show 14 = 14 + n.val / 128 by omega)) (Fin.ext (by dsimp only; omega)))
  · rw [dif_neg h]
    exact (tabl15_at ..).trans (congrArg₂ (fun z w => x (ix3 z e w)) (Fin.ext (show 15 = 14 + n.val / 128 by omega)) (Fin.ext (by dsimp only; omega)))

theorem q7_at (k : Fin 1024) (n : Fin 256) : q7 x0 x1 x2 x3 x4 x5 x6 x7 x8 x9 x10 x12 x13 (ix2 k n) = qAt x0 x1 x2 x3 x4 x5 x6 x7 x8 x9 x10 x12 x13 ⟨(14 + n.val / 128) + 16 * (n.val % 128), by omega⟩ ⟨14 + n.val / 128, by omega⟩ ⟨n.val % 128, by omega⟩ k := by
  have e : (14 + n.val / 128) % 2 * 128 + n.val % 128 = n.val := by omega
  unfold q7 qAt Heads.head
  rw [qTile_at, turn_at]
  simp only [hnorm_at, dot_at, y7_at, tab7_at, wQ_at, gains_at, e]

theorem k7_at (n : Fin 256) (k : Fin 1024) : k7 x0 x1 x2 x3 x4 x5 x6 x7 x8 x9 x11 x12 x13 (ix2 n k) = kAt x0 x1 x2 x3 x4 x5 x6 x7 x8 x9 x11 x12 x13 ⟨(14 + n.val / 128) + 16 * (n.val % 128), by omega⟩ ⟨14 + n.val / 128, by omega⟩ ⟨n.val % 128, by omega⟩ k := by
  have e : (14 + n.val / 128) % 2 * 128 + n.val % 128 = n.val := by omega
  unfold k7 kAt Heads.head
  rw [kRows_at, turn_at]
  simp only [hnorm_at, dot_at, y7_at, tab7_at, wK_at, gains_at, e]

theorem v7_at (k : Fin 1152) (n : Fin 256) : v7 x0 x1 x2 x3 x4 x5 x6 x7 x8 x9 (ix2 k n) = vAt x0 x1 x2 x3 x4 x5 x6 x7 x8 x9 ⟨(14 + n.val / 128) + 16 * (n.val % 128), by omega⟩ k := by
  unfold v7 vAt
  rw [vTile_at]
  simp only [dot_at, y7_at, wV_at]

theorem readAt_box {κ : Kind} {sp : Space} {s : Shape} {e : EltTy} {Val : EltTy → Type} (v : View sig κ sp s e) (f : v.ty.Contents Val) (r : LoadRect s) :
    v.readAt Val r f = fun z => v.read Val f (r.idx z) := rfl

theorem pieces14 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1024 .f32) (harg10 : arg10.IsWhole) (arg11 : Memref sig .tc .vmem S3072x1024 .bf16) (harg11 : arg11.IsWhole) (arg12 : Memref sig .tc .vmem S64x256 .f32) (harg12 : arg12.IsWhole) (arg13 : Memref sig .tc .vmem S64x256 .f32) (harg13 : arg13.IsWhole) (arg14 : Memref sig .tc .vmem S16x8x128 .f32) (harg14 : arg14.IsWhole) (arg15 : Memref sig .tc .vmem S16x8x128 .f32) (harg15 : arg15.IsWhole) (arg16 : Memref sig .tc .vmem S1x16x1x1024x128 .bf16) (harg16 : arg16.IsWhole) (arg17 : Memref sig .tc .vmem S1x16x128x1024 .bf16) (harg17 : arg17.IsWhole) (arg18 : Memref sig .tc .vmem S1x16x1x1152x128 .bf16) (harg18 : arg18.IsWhole) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13).1 = [⟨Rect.unit (s := S1x16x1x1024x128) ![0, 15, 0, 0, 0] S1x1x1x1024x128.size inb_S1x16x1x1024x128_S1x1x1x1024x128_0_15_0_0_0, qHigh (q7 x0 x1 x2 x3 x4 x5 x6 x7 x8 x9 x10 x12 x13)⟩,
      ⟨Rect.unit (s := S1x16x1x1024x128) ![0, 14, 0, 0, 0] S1x1x1x1024x128.size inb_S1x16x1x1024x128_S1x1x1x1024x128_0_14_0_0_0, qLow (q7 x0 x1 x2 x3 x4 x5 x6 x7 x8 x9 x10 x12 x13)⟩,
      ⟨Rect.unit (s := S1x16x1x1024x128) ![0, 13, 0, 0, 0] S1x1x1x1024x128.size inb_S1x16x1x1024x128_S1x1x1x1024x128_0_13_0_0_0, qHigh (q6 x0 x1 x2 x3 x4 x5 x6 x7 x8 x9 x10 x12 x13)⟩,
      ⟨Rect.unit (s := S1x16x1x1024x128) ![0, 12, 0, 0, 0] S1x1x1x1024x128.size inb_S1x16x1x1024x128_S1x1x1x1024x128_0_12_0_0_0, qLow (q6 x0 x1 x2 x3 x4 x5 x6 x7 x8 x9 x10 x12 x13)⟩,
      ⟨Rect.unit (s := S1x16x1x1024x128) ![0, 11, 0, 0, 0] S1x1x1x1024x128.size inb_S1x16x1x1024x128_S1x1x1x1024x128_0_11_0_0_0, qHigh (q5 x0 x1 x2 x3 x4 x5 x6 x7 x8 x9 x10 x12 x13)⟩,
      ⟨Rect.unit (s := S1x16x1x1024x128) ![0, 10, 0, 0, 0] S1x1x1x1024x128.size inb_S1x16x1x1024x128_S1x1x1x1024x128_0_10_0_0_0, qLow (q5 x0 x1 x2 x3 x4 x5 x6 x7 x8 x9 x10 x12 x13)⟩,
      ⟨Rect.unit (s := S1x16x1x1024x128) ![0, 9, 0, 0, 0] S1x1x1x1024x128.size inb_S1x16x1x1024x128_S1x1x1x1024x128_0_9_0_0_0, qHigh (q4 x0 x1 x2 x3 x4 x5 x6 x7 x8 x9 x10 x12 x13)⟩,
      ⟨Rect.unit (s := S1x16x1x1024x128) ![0, 8, 0, 0, 0] S1x1x1x1024x128.size inb_S1x16x1x1024x128_S1x1x1x1024x128_0_8_0_0_0, qLow (q4 x0 x1 x2 x3 x4 x5 x6 x7 x8 x9 x10 x12 x13)⟩,
      ⟨Rect.unit (s := S1x16x1x1024x128) ![0, 7, 0, 0, 0] S1x1x1x1024x128.size inb_S1x16x1x1024x128_S1x1x1x1024x128_0_7_0_0_0, qHigh (q3 x0 x1 x2 x3 x4 x5 x6 x7 x8 x9 x10 x12 x13)⟩,
      ⟨Rect.unit (s := S1x16x1x1024x128) ![0, 6, 0, 0, 0] S1x1x1x1024x128.size inb_S1x16x1x1024x128_S1x1x1x1024x128_0_6_0_0_0, qLow (q3 x0 x1 x2 x3 x4 x5 x6 x7 x8 x9 x10 x12 x13)⟩,
      ⟨Rect.unit (s := S1x16x1x1024x128) ![0, 5, 0, 0, 0] S1x1x1x1024x128.size inb_S1x16x1x1024x128_S1x1x1x1024x128_0_5_0_0_0, qHigh (q2 x0 x1 x2 x3 x4 x5 x6 x7 x8 x9 x10 x12 x13)⟩,
      ⟨Rect.unit (s := S1x16x1x1024x128) ![0, 4, 0, 0, 0] S1x1x1x1024x128.size inb_S1x16x1x1024x128_S1x1x1x1024x128_0_4_0_0_0, qLow (q2 x0 x1 x2 x3 x4 x5 x6 x7 x8 x9 x10 x12 x13)⟩,
      ⟨Rect.unit (s := S1x16x1x1024x128) ![0, 3, 0, 0, 0] S1x1x1x1024x128.size inb_S1x16x1x1024x128_S1x1x1x1024x128_0_3_0_0_0, qHigh (q1 x0 x1 x2 x3 x4 x5 x6 x7 x8 x9 x10 x12 x13)⟩,
      ⟨Rect.unit (s := S1x16x1x1024x128) ![0, 2, 0, 0, 0] S1x1x1x1024x128.size inb_S1x16x1x1024x128_S1x1x1x1024x128_0_2_0_0_0, qLow (q1 x0 x1 x2 x3 x4 x5 x6 x7 x8 x9 x10 x12 x13)⟩,
      ⟨Rect.unit (s := S1x16x1x1024x128) ![0, 1, 0, 0, 0] S1x1x1x1024x128.size inb_S1x16x1x1024x128_S1x1x1x1024x128_0_1_0_0_0, qHigh (q0 x0 x1 x2 x3 x4 x5 x6 x7 x8 x9 x10 x12 x13)⟩,
      ⟨Rect.unit (s := S1x16x1x1024x128) ![0, 0, 0, 0, 0] S1x1x1x1024x128.size inb_S1x16x1x1024x128_S1x1x1x1024x128_0_0_0_0_0, qLow (q0 x0 x1 x2 x3 x4 x5 x6 x7 x8 x9 x10 x12 x13)⟩] := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  simp only [readAt_box, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

theorem out14_at (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1024 .f32) (harg10 : arg10.IsWhole) (arg11 : Memref sig .tc .vmem S3072x1024 .bf16) (harg11 : arg11.IsWhole) (arg12 : Memref sig .tc .vmem S64x256 .f32) (harg12 : arg12.IsWhole) (arg13 : Memref sig .tc .vmem S64x256 .f32) (harg13 : arg13.IsWhole) (arg14 : Memref sig .tc .vmem S16x8x128 .f32) (harg14 : arg14.IsWhole) (arg15 : Memref sig .tc .vmem S16x8x128 .f32) (harg15 : arg15.IsWhole) (arg16 : Memref sig .tc .vmem S1x16x1x1024x128 .bf16) (harg16 : arg16.IsWhole) (arg17 : Memref sig .tc .vmem S1x16x128x1024 .bf16) (harg17 : arg17.IsWhole) (arg18 : Memref sig .tc .vmem S1x16x1x1152x128 .bf16) (harg18 : arg18.IsWhole) (r : Fin 16) (t : Fin 1) (k : Fin 1024) (l : Fin 128) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 (ix5 0 r t k l) = qAt x0 x1 x2 x3 x4 x5 x6 x7 x8 x9 x10 x12 x13 ⟨(t.val * 128 + l.val) * 16 + r.val, by omega⟩ r ⟨t.val * 128 + l.val, by omega⟩ k := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13)]
  refine View.canon_apply_of_pieces (Val := Elt Ideal) (S := S1x16x1x1024x128) (e := .bf16) (fun y => qAt x0 x1 x2 x3 x4 x5 x6 x7 x8 x9 x10 x12 x13 ⟨((y 2).val * 128 + (y 4).val) * 16 + (y 1).val, by have h1 : (y 1).val < 16 := (y 1).isLt; have h2 : (y 2).val < 1 := (y 2).isLt; have h4 : (y 4).val < 128 := (y 4).isLt; omega⟩ (y 1) ⟨(y 2).val * 128 + (y 4).val, by have h1 : (y 1).val < 16 := (y 1).isLt; have h2 : (y 2).val < 1 := (y 2).isLt; have h4 : (y 4).val < 128 := (y 4).isLt; omega⟩ (y 3)) _ ?_ (ix5 0 r t k l) (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 _)
  intro P hP
  rw [pieces14] at hP
  simp only [List.mem_cons, List.not_mem_nil, or_false] at hP
  rcases hP with rfl | rfl | rfl | rfl | rfl | rfl | rfl | rfl | rfl | rfl | rfl | rfl | rfl | rfl | rfl | rfl
  · intro y
    idx_vars y
    refine (qHigh_at ..).trans ?_
    refine (q7_at ..).trans ?_
    show _ = qAt x0 x1 x2 x3 x4 x5 x6 x7 x8 x9 x10 x12 x13 ⟨((0 + 1 * y2.val) * 128 + (0 + 1 * y4.val)) * 16 + (15 + 1 * y1.val), by omega⟩ ⟨15 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qLow_at ..).trans ?_
    refine (q7_at ..).trans ?_
    show _ = qAt x0 x1 x2 x3 x4 x5 x6 x7 x8 x9 x10 x12 x13 ⟨((0 + 1 * y2.val) * 128 + (0 + 1 * y4.val)) * 16 + (14 + 1 * y1.val), by omega⟩ ⟨14 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qHigh_at ..).trans ?_
    refine (q6_at ..).trans ?_
    show _ = qAt x0 x1 x2 x3 x4 x5 x6 x7 x8 x9 x10 x12 x13 ⟨((0 + 1 * y2.val) * 128 + (0 + 1 * y4.val)) * 16 + (13 + 1 * y1.val), by omega⟩ ⟨13 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qLow_at ..).trans ?_
    refine (q6_at ..).trans ?_
    show _ = qAt x0 x1 x2 x3 x4 x5 x6 x7 x8 x9 x10 x12 x13 ⟨((0 + 1 * y2.val) * 128 + (0 + 1 * y4.val)) * 16 + (12 + 1 * y1.val), by omega⟩ ⟨12 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qHigh_at ..).trans ?_
    refine (q5_at ..).trans ?_
    show _ = qAt x0 x1 x2 x3 x4 x5 x6 x7 x8 x9 x10 x12 x13 ⟨((0 + 1 * y2.val) * 128 + (0 + 1 * y4.val)) * 16 + (11 + 1 * y1.val), by omega⟩ ⟨11 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qLow_at ..).trans ?_
    refine (q5_at ..).trans ?_
    show _ = qAt x0 x1 x2 x3 x4 x5 x6 x7 x8 x9 x10 x12 x13 ⟨((0 + 1 * y2.val) * 128 + (0 + 1 * y4.val)) * 16 + (10 + 1 * y1.val), by omega⟩ ⟨10 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qHigh_at ..).trans ?_
    refine (q4_at ..).trans ?_
    show _ = qAt x0 x1 x2 x3 x4 x5 x6 x7 x8 x9 x10 x12 x13 ⟨((0 + 1 * y2.val) * 128 + (0 + 1 * y4.val)) * 16 + (9 + 1 * y1.val), by omega⟩ ⟨9 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qLow_at ..).trans ?_
    refine (q4_at ..).trans ?_
    show _ = qAt x0 x1 x2 x3 x4 x5 x6 x7 x8 x9 x10 x12 x13 ⟨((0 + 1 * y2.val) * 128 + (0 + 1 * y4.val)) * 16 + (8 + 1 * y1.val), by omega⟩ ⟨8 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qHigh_at ..).trans ?_
    refine (q3_at ..).trans ?_
    show _ = qAt x0 x1 x2 x3 x4 x5 x6 x7 x8 x9 x10 x12 x13 ⟨((0 + 1 * y2.val) * 128 + (0 + 1 * y4.val)) * 16 + (7 + 1 * y1.val), by omega⟩ ⟨7 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qLow_at ..).trans ?_
    refine (q3_at ..).trans ?_
    show _ = qAt x0 x1 x2 x3 x4 x5 x6 x7 x8 x9 x10 x12 x13 ⟨((0 + 1 * y2.val) * 128 + (0 + 1 * y4.val)) * 16 + (6 + 1 * y1.val), by omega⟩ ⟨6 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qHigh_at ..).trans ?_
    refine (q2_at ..).trans ?_
    show _ = qAt x0 x1 x2 x3 x4 x5 x6 x7 x8 x9 x10 x12 x13 ⟨((0 + 1 * y2.val) * 128 + (0 + 1 * y4.val)) * 16 + (5 + 1 * y1.val), by omega⟩ ⟨5 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qLow_at ..).trans ?_
    refine (q2_at ..).trans ?_
    show _ = qAt x0 x1 x2 x3 x4 x5 x6 x7 x8 x9 x10 x12 x13 ⟨((0 + 1 * y2.val) * 128 + (0 + 1 * y4.val)) * 16 + (4 + 1 * y1.val), by omega⟩ ⟨4 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qHigh_at ..).trans ?_
    refine (q1_at ..).trans ?_
    show _ = qAt x0 x1 x2 x3 x4 x5 x6 x7 x8 x9 x10 x12 x13 ⟨((0 + 1 * y2.val) * 128 + (0 + 1 * y4.val)) * 16 + (3 + 1 * y1.val), by omega⟩ ⟨3 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qLow_at ..).trans ?_
    refine (q1_at ..).trans ?_
    show _ = qAt x0 x1 x2 x3 x4 x5 x6 x7 x8 x9 x10 x12 x13 ⟨((0 + 1 * y2.val) * 128 + (0 + 1 * y4.val)) * 16 + (2 + 1 * y1.val), by omega⟩ ⟨2 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qHigh_at ..).trans ?_
    refine (q0_at ..).trans ?_
    show _ = qAt x0 x1 x2 x3 x4 x5 x6 x7 x8 x9 x10 x12 x13 ⟨((0 + 1 * y2.val) * 128 + (0 + 1 * y4.val)) * 16 + (1 + 1 * y1.val), by omega⟩ ⟨1 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)
  · intro y
    idx_vars y
    refine (qLow_at ..).trans ?_
    refine (q0_at ..).trans ?_
    show _ = qAt x0 x1 x2 x3 x4 x5 x6 x7 x8 x9 x10 x12 x13 ⟨((0 + 1 * y2.val) * 128 + (0 + 1 * y4.val)) * 16 + (0 + 1 * y1.val), by omega⟩ ⟨0 + 1 * y1.val, by omega⟩ ⟨(0 + 1 * y2.val) * 128 + (0 + 1 * y4.val), by omega⟩ ⟨0 + 1 * y3.val, by omega⟩
    congr 1 <;> first | rfl | (apply Fin.ext; dsimp only; omega) | (apply Fin.ext; simp; omega) | (apply Fin.ext; simp)

theorem pieces15 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1024 .f32) (harg10 : arg10.IsWhole) (arg11 : Memref sig .tc .vmem S3072x1024 .bf16) (harg11 : arg11.IsWhole) (arg12 : Memref sig .tc .vmem S64x256 .f32) (harg12 : arg12.IsWhole) (arg13 : Memref sig .tc .vmem S64x256 .f32) (harg13 : arg13.IsWhole) (arg14 : Memref sig .tc .vmem S16x8x128 .f32) (harg14 : arg14.IsWhole) (arg15 : Memref sig .tc .vmem S16x8x128 .f32) (harg15 : arg15.IsWhole) (arg16 : Memref sig .tc .vmem S1x16x1x1024x128 .bf16) (harg16 : arg16.IsWhole) (arg17 : Memref sig .tc .vmem S1x16x128x1024 .bf16) (harg17 : arg17.IsWhole) (arg18 : Memref sig .tc .vmem S1x16x1x1152x128 .bf16) (harg18 : arg18.IsWhole) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13).2.1 = [⟨Rect.unit (s := S1x16x128x1024) ![0, 15, 0, 0] S1x1x128x1024.size inb_S1x16x128x1024_S1x1x128x1024_0_15_0_0, kHigh (k7 x0 x1 x2 x3 x4 x5 x6 x7 x8 x9 x11 x12 x13)⟩,
      ⟨Rect.unit (s := S1x16x128x1024) ![0, 14, 0, 0] S1x1x128x1024.size inb_S1x16x128x1024_S1x1x128x1024_0_14_0_0, kLow (k7 x0 x1 x2 x3 x4 x5 x6 x7 x8 x9 x11 x12 x13)⟩,
      ⟨Rect.unit (s := S1x16x128x1024) ![0, 13, 0, 0] S1x1x128x1024.size inb_S1x16x128x1024_S1x1x128x1024_0_13_0_0, kHigh (k6 x0 x1 x2 x3 x4 x5 x6 x7 x8 x9 x11 x12 x13)⟩,
      ⟨Rect.unit (s := S1x16x128x1024) ![0, 12, 0, 0] S1x1x128x1024.size inb_S1x16x128x1024_S1x1x128x1024_0_12_0_0, kLow (k6 x0 x1 x2 x3 x4 x5 x6 x7 x8 x9 x11 x12 x13)⟩,
      ⟨Rect.unit (s := S1x16x128x1024) ![0, 11, 0, 0] S1x1x128x1024.size inb_S1x16x128x1024_S1x1x128x1024_0_11_0_0, kHigh (k5 x0 x1 x2 x3 x4 x5 x6 x7 x8 x9 x11 x12 x13)⟩,
      ⟨Rect.unit (s := S1x16x128x1024) ![0, 10, 0, 0] S1x1x128x1024.size inb_S1x16x128x1024_S1x1x128x1024_0_10_0_0, kLow (k5 x0 x1 x2 x3 x4 x5 x6 x7 x8 x9 x11 x12 x13)⟩,
      ⟨Rect.unit (s := S1x16x128x1024) ![0, 9, 0, 0] S1x1x128x1024.size inb_S1x16x128x1024_S1x1x128x1024_0_9_0_0, kHigh (k4 x0 x1 x2 x3 x4 x5 x6 x7 x8 x9 x11 x12 x13)⟩,
      ⟨Rect.unit (s := S1x16x128x1024) ![0, 8, 0, 0] S1x1x128x1024.size inb_S1x16x128x1024_S1x1x128x1024_0_8_0_0, kLow (k4 x0 x1 x2 x3 x4 x5 x6 x7 x8 x9 x11 x12 x13)⟩,
      ⟨Rect.unit (s := S1x16x128x1024) ![0, 7, 0, 0] S1x1x128x1024.size inb_S1x16x128x1024_S1x1x128x1024_0_7_0_0, kHigh (k3 x0 x1 x2 x3 x4 x5 x6 x7 x8 x9 x11 x12 x13)⟩,
      ⟨Rect.unit (s := S1x16x128x1024) ![0, 6, 0, 0] S1x1x128x1024.size inb_S1x16x128x1024_S1x1x128x1024_0_6_0_0, kLow (k3 x0 x1 x2 x3 x4 x5 x6 x7 x8 x9 x11 x12 x13)⟩,
      ⟨Rect.unit (s := S1x16x128x1024) ![0, 5, 0, 0] S1x1x128x1024.size inb_S1x16x128x1024_S1x1x128x1024_0_5_0_0, kHigh (k2 x0 x1 x2 x3 x4 x5 x6 x7 x8 x9 x11 x12 x13)⟩,
      ⟨Rect.unit (s := S1x16x128x1024) ![0, 4, 0, 0] S1x1x128x1024.size inb_S1x16x128x1024_S1x1x128x1024_0_4_0_0, kLow (k2 x0 x1 x2 x3 x4 x5 x6 x7 x8 x9 x11 x12 x13)⟩,
      ⟨Rect.unit (s := S1x16x128x1024) ![0, 3, 0, 0] S1x1x128x1024.size inb_S1x16x128x1024_S1x1x128x1024_0_3_0_0, kHigh (k1 x0 x1 x2 x3 x4 x5 x6 x7 x8 x9 x11 x12 x13)⟩,
      ⟨Rect.unit (s := S1x16x128x1024) ![0, 2, 0, 0] S1x1x128x1024.size inb_S1x16x128x1024_S1x1x128x1024_0_2_0_0, kLow (k1 x0 x1 x2 x3 x4 x5 x6 x7 x8 x9 x11 x12 x13)⟩,
      ⟨Rect.unit (s := S1x16x128x1024) ![0, 1, 0, 0] S1x1x128x1024.size inb_S1x16x128x1024_S1x1x128x1024_0_1_0_0, kHigh (k0 x0 x1 x2 x3 x4 x5 x6 x7 x8 x9 x11 x12 x13)⟩,
      ⟨Rect.unit (s := S1x16x128x1024) ![0, 0, 0, 0] S1x1x128x1024.size inb_S1x16x128x1024_S1x1x128x1024_0_0_0_0, kLow (k0 x0 x1 x2 x3 x4 x5 x6 x7 x8 x9 x11 x12 x13)⟩] := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  simp only [readAt_box, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

theorem out15_at (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1024 .f32) (harg10 : arg10.IsWhole) (arg11 : Memref sig .tc .vmem S3072x1024 .bf16) (harg11 : arg11.IsWhole) (arg12 : Memref sig .tc .vmem S64x256 .f32) (harg12 : arg12.IsWhole) (arg13 : Memref sig .tc .vmem S64x256 .f32) (harg13 : arg13.IsWhole) (arg14 : Memref sig .tc .vmem S16x8x128 .f32) (harg14 : arg14.IsWhole) (arg15 : Memref sig .tc .vmem S16x8x128 .f32) (harg15 : arg15.IsWhole) (arg16 : Memref sig .tc .vmem S1x16x1x1024x128 .bf16) (harg16 : arg16.IsWhole) (arg17 : Memref sig .tc .vmem S1x16x128x1024 .bf16) (harg17 : arg17.IsWhole) (arg18 : Memref sig .tc .vmem S1x16x1x1152x128 .bf16) (harg18 : arg18.IsWhole) (r : Fin 16) (z : Fin 128) (k : Fin 1024) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 (ix4 0 r z k) = kAt x0 x1 x2 x3 x4 x5 x6 x7 x8 x9 x11 x12 x13 ⟨z.val * 16 + r.val, by omega⟩ r z k := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13)]
  refine View.canon_apply_of_pieces (Val := Elt Ideal) (S := S1x16x128x1024) (e := .bf16) (fun y => kAt x0 x1 x2 x3 x4 x5 x6 x7 x8 x9 x11 x12 x13 ⟨(y 2).val * 16 + (y 1).val, by have h1 : (y 1).val < 16 := (y 1).isLt; have h2 : (y 2).val < 128 := (y 2).isLt; omega⟩ (y 1) (y 2) (y 3)) _ ?_ (ix4 0 r z k) (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 _)
  intro P hP
  rw [pieces15] at hP
  simp only [List.mem_cons, List.not_mem_nil, or_false] at hP
  rcases hP with rfl | rfl | rfl | rfl | rfl | rfl | rfl | rfl | rfl | rfl | rfl | rfl | rfl | rfl | rfl | rfl
  · intro y
    idx_vars y
    refine (kHigh_at ..).trans ?_
    refine (k7_at ..).trans ?_
    show _ = kAt x0 x1 x2 x3 x4 x5 x6 x7 x8 x9 x11 x12 x13 ⟨(0 + 1 * y2.val) * 16 + (15 + 1 * y1.val), by omega⟩ ⟨15 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kLow_at ..).trans ?_
    refine (k7_at ..).trans ?_
    show _ = kAt x0 x1 x2 x3 x4 x5 x6 x7 x8 x9 x11 x12 x13 ⟨(0 + 1 * y2.val) * 16 + (14 + 1 * y1.val), by omega⟩ ⟨14 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kHigh_at ..).trans ?_
    refine (k6_at ..).trans ?_
    show _ = kAt x0 x1 x2 x3 x4 x5 x6 x7 x8 x9 x11 x12 x13 ⟨(0 + 1 * y2.val) * 16 + (13 + 1 * y1.val), by omega⟩ ⟨13 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kLow_at ..).trans ?_
    refine (k6_at ..).trans ?_
    show _ = kAt x0 x1 x2 x3 x4 x5 x6 x7 x8 x9 x11 x12 x13 ⟨(0 + 1 * y2.val) * 16 + (12 + 1 * y1.val), by omega⟩ ⟨12 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kHigh_at ..).trans ?_
    refine (k5_at ..).trans ?_
    show _ = kAt x0 x1 x2 x3 x4 x5 x6 x7 x8 x9 x11 x12 x13 ⟨(0 + 1 * y2.val) * 16 + (11 + 1 * y1.val), by omega⟩ ⟨11 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kLow_at ..).trans ?_
    refine (k5_at ..).trans ?_
    show _ = kAt x0 x1 x2 x3 x4 x5 x6 x7 x8 x9 x11 x12 x13 ⟨(0 + 1 * y2.val) * 16 + (10 + 1 * y1.val), by omega⟩ ⟨10 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kHigh_at ..).trans ?_
    refine (k4_at ..).trans ?_
    show _ = kAt x0 x1 x2 x3 x4 x5 x6 x7 x8 x9 x11 x12 x13 ⟨(0 + 1 * y2.val) * 16 + (9 + 1 * y1.val), by omega⟩ ⟨9 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kLow_at ..).trans ?_
    refine (k4_at ..).trans ?_
    show _ = kAt x0 x1 x2 x3 x4 x5 x6 x7 x8 x9 x11 x12 x13 ⟨(0 + 1 * y2.val) * 16 + (8 + 1 * y1.val), by omega⟩ ⟨8 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kHigh_at ..).trans ?_
    refine (k3_at ..).trans ?_
    show _ = kAt x0 x1 x2 x3 x4 x5 x6 x7 x8 x9 x11 x12 x13 ⟨(0 + 1 * y2.val) * 16 + (7 + 1 * y1.val), by omega⟩ ⟨7 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kLow_at ..).trans ?_
    refine (k3_at ..).trans ?_
    show _ = kAt x0 x1 x2 x3 x4 x5 x6 x7 x8 x9 x11 x12 x13 ⟨(0 + 1 * y2.val) * 16 + (6 + 1 * y1.val), by omega⟩ ⟨6 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kHigh_at ..).trans ?_
    refine (k2_at ..).trans ?_
    show _ = kAt x0 x1 x2 x3 x4 x5 x6 x7 x8 x9 x11 x12 x13 ⟨(0 + 1 * y2.val) * 16 + (5 + 1 * y1.val), by omega⟩ ⟨5 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kLow_at ..).trans ?_
    refine (k2_at ..).trans ?_
    show _ = kAt x0 x1 x2 x3 x4 x5 x6 x7 x8 x9 x11 x12 x13 ⟨(0 + 1 * y2.val) * 16 + (4 + 1 * y1.val), by omega⟩ ⟨4 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kHigh_at ..).trans ?_
    refine (k1_at ..).trans ?_
    show _ = kAt x0 x1 x2 x3 x4 x5 x6 x7 x8 x9 x11 x12 x13 ⟨(0 + 1 * y2.val) * 16 + (3 + 1 * y1.val), by omega⟩ ⟨3 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kLow_at ..).trans ?_
    refine (k1_at ..).trans ?_
    show _ = kAt x0 x1 x2 x3 x4 x5 x6 x7 x8 x9 x11 x12 x13 ⟨(0 + 1 * y2.val) * 16 + (2 + 1 * y1.val), by omega⟩ ⟨2 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kHigh_at ..).trans ?_
    refine (k0_at ..).trans ?_
    show _ = kAt x0 x1 x2 x3 x4 x5 x6 x7 x8 x9 x11 x12 x13 ⟨(0 + 1 * y2.val) * 16 + (1 + 1 * y1.val), by omega⟩ ⟨1 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)
  · intro y
    idx_vars y
    refine (kLow_at ..).trans ?_
    refine (k0_at ..).trans ?_
    show _ = kAt x0 x1 x2 x3 x4 x5 x6 x7 x8 x9 x11 x12 x13 ⟨(0 + 1 * y2.val) * 16 + (0 + 1 * y1.val), by omega⟩ ⟨0 + 1 * y1.val, by omega⟩ ⟨0 + 1 * y2.val, by omega⟩ ⟨0 + 1 * y3.val, by omega⟩
    congr 1 <;> first | rfl | (apply Fin.ext; dsimp only; omega) | (apply Fin.ext; simp; omega) | (apply Fin.ext; simp)

theorem pieces16 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1024 .f32) (harg10 : arg10.IsWhole) (arg11 : Memref sig .tc .vmem S3072x1024 .bf16) (harg11 : arg11.IsWhole) (arg12 : Memref sig .tc .vmem S64x256 .f32) (harg12 : arg12.IsWhole) (arg13 : Memref sig .tc .vmem S64x256 .f32) (harg13 : arg13.IsWhole) (arg14 : Memref sig .tc .vmem S16x8x128 .f32) (harg14 : arg14.IsWhole) (arg15 : Memref sig .tc .vmem S16x8x128 .f32) (harg15 : arg15.IsWhole) (arg16 : Memref sig .tc .vmem S1x16x1x1024x128 .bf16) (harg16 : arg16.IsWhole) (arg17 : Memref sig .tc .vmem S1x16x128x1024 .bf16) (harg17 : arg17.IsWhole) (arg18 : Memref sig .tc .vmem S1x16x1x1152x128 .bf16) (harg18 : arg18.IsWhole) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13).2.2.1 = [⟨Rect.unit (s := S1x16x1x1152x128) ![0, 15, 0, 0, 0] S1x1x1x1152x128.size inb_S1x16x1x1152x128_S1x1x1x1152x128_0_15_0_0_0, vHigh (v7 x0 x1 x2 x3 x4 x5 x6 x7 x8 x9)⟩,
      ⟨Rect.unit (s := S1x16x1x1152x128) ![0, 14, 0, 0, 0] S1x1x1x1152x128.size inb_S1x16x1x1152x128_S1x1x1x1152x128_0_14_0_0_0, vLow (v7 x0 x1 x2 x3 x4 x5 x6 x7 x8 x9)⟩,
      ⟨Rect.unit (s := S1x16x1x1152x128) ![0, 13, 0, 0, 0] S1x1x1x1152x128.size inb_S1x16x1x1152x128_S1x1x1x1152x128_0_13_0_0_0, vHigh (v6 x0 x1 x2 x3 x4 x5 x6 x7 x8 x9)⟩,
      ⟨Rect.unit (s := S1x16x1x1152x128) ![0, 12, 0, 0, 0] S1x1x1x1152x128.size inb_S1x16x1x1152x128_S1x1x1x1152x128_0_12_0_0_0, vLow (v6 x0 x1 x2 x3 x4 x5 x6 x7 x8 x9)⟩,
      ⟨Rect.unit (s := S1x16x1x1152x128) ![0, 11, 0, 0, 0] S1x1x1x1152x128.size inb_S1x16x1x1152x128_S1x1x1x1152x128_0_11_0_0_0, vHigh (v5 x0 x1 x2 x3 x4 x5 x6 x7 x8 x9)⟩,
      ⟨Rect.unit (s := S1x16x1x1152x128) ![0, 10, 0, 0, 0] S1x1x1x1152x128.size inb_S1x16x1x1152x128_S1x1x1x1152x128_0_10_0_0_0, vLow (v5 x0 x1 x2 x3 x4 x5 x6 x7 x8 x9)⟩,
      ⟨Rect.unit (s := S1x16x1x1152x128) ![0, 9, 0, 0, 0] S1x1x1x1152x128.size inb_S1x16x1x1152x128_S1x1x1x1152x128_0_9_0_0_0, vHigh (v4 x0 x1 x2 x3 x4 x5 x6 x7 x8 x9)⟩,
      ⟨Rect.unit (s := S1x16x1x1152x128) ![0, 8, 0, 0, 0] S1x1x1x1152x128.size inb_S1x16x1x1152x128_S1x1x1x1152x128_0_8_0_0_0, vLow (v4 x0 x1 x2 x3 x4 x5 x6 x7 x8 x9)⟩,
      ⟨Rect.unit (s := S1x16x1x1152x128) ![0, 7, 0, 0, 0] S1x1x1x1152x128.size inb_S1x16x1x1152x128_S1x1x1x1152x128_0_7_0_0_0, vHigh (v3 x0 x1 x2 x3 x4 x5 x6 x7 x8 x9)⟩,
      ⟨Rect.unit (s := S1x16x1x1152x128) ![0, 6, 0, 0, 0] S1x1x1x1152x128.size inb_S1x16x1x1152x128_S1x1x1x1152x128_0_6_0_0_0, vLow (v3 x0 x1 x2 x3 x4 x5 x6 x7 x8 x9)⟩,
      ⟨Rect.unit (s := S1x16x1x1152x128) ![0, 5, 0, 0, 0] S1x1x1x1152x128.size inb_S1x16x1x1152x128_S1x1x1x1152x128_0_5_0_0_0, vHigh (v2 x0 x1 x2 x3 x4 x5 x6 x7 x8 x9)⟩,
      ⟨Rect.unit (s := S1x16x1x1152x128) ![0, 4, 0, 0, 0] S1x1x1x1152x128.size inb_S1x16x1x1152x128_S1x1x1x1152x128_0_4_0_0_0, vLow (v2 x0 x1 x2 x3 x4 x5 x6 x7 x8 x9)⟩,
      ⟨Rect.unit (s := S1x16x1x1152x128) ![0, 3, 0, 0, 0] S1x1x1x1152x128.size inb_S1x16x1x1152x128_S1x1x1x1152x128_0_3_0_0_0, vHigh (v1 x0 x1 x2 x3 x4 x5 x6 x7 x8 x9)⟩,
      ⟨Rect.unit (s := S1x16x1x1152x128) ![0, 2, 0, 0, 0] S1x1x1x1152x128.size inb_S1x16x1x1152x128_S1x1x1x1152x128_0_2_0_0_0, vLow (v1 x0 x1 x2 x3 x4 x5 x6 x7 x8 x9)⟩,
      ⟨Rect.unit (s := S1x16x1x1152x128) ![0, 1, 0, 0, 0] S1x1x1x1152x128.size inb_S1x16x1x1152x128_S1x1x1x1152x128_0_1_0_0_0, vHigh (v0 x0 x1 x2 x3 x4 x5 x6 x7 x8 x9)⟩,
      ⟨Rect.unit (s := S1x16x1x1152x128) ![0, 0, 0, 0, 0] S1x1x1x1152x128.size inb_S1x16x1x1152x128_S1x1x1x1152x128_0_0_0_0_0, vLow (v0 x0 x1 x2 x3 x4 x5 x6 x7 x8 x9)⟩] := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  simp only [readAt_box, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

theorem out16_at (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x1024 .f32) (harg10 : arg10.IsWhole) (arg11 : Memref sig .tc .vmem S3072x1024 .bf16) (harg11 : arg11.IsWhole) (arg12 : Memref sig .tc .vmem S64x256 .f32) (harg12 : arg12.IsWhole) (arg13 : Memref sig .tc .vmem S64x256 .f32) (harg13 : arg13.IsWhole) (arg14 : Memref sig .tc .vmem S16x8x128 .f32) (harg14 : arg14.IsWhole) (arg15 : Memref sig .tc .vmem S16x8x128 .f32) (harg15 : arg15.IsWhole) (arg16 : Memref sig .tc .vmem S1x16x1x1024x128 .bf16) (harg16 : arg16.IsWhole) (arg17 : Memref sig .tc .vmem S1x16x128x1024 .bf16) (harg17 : arg17.IsWhole) (arg18 : Memref sig .tc .vmem S1x16x1x1152x128 .bf16) (harg18 : arg18.IsWhole) (r : Fin 16) (t : Fin 1) (k : Fin 1152) (l : Fin 128) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 (ix5 0 r t k l) = vAt x0 x1 x2 x3 x4 x5 x6 x7 x8 x9 ⟨(t.val * 128 + l.val) * 16 + r.val, by omega⟩ k := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13)]
  refine View.canon_apply_of_pieces (Val := Elt Ideal) (S := S1x16x1x1152x128) (e := .bf16) (fun y => vAt x0 x1 x2 x3 x4 x5 x6 x7 x8 x9 ⟨((y 2).val * 128 + (y 4).val) * 16 + (y 1).val, by have h1 : (y 1).val < 16 := (y 1).isLt; have h2 : (y 2).val < 1 := (y 2).isLt; have h4 : (y 4).val < 128 := (y 4).isLt; omega⟩ (y 3)) _ ?_ (ix5 0 r t k l) (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 _)
  intro P hP
  rw [pieces16] at hP
  simp only [List.mem_cons, List.not_mem_nil, or_false] at hP
  rcases hP with rfl | rfl | rfl | rfl | rfl | rfl | rfl | rfl | rfl | rfl | rfl | rfl | rfl | rfl | rfl | rfl
  · intro y
    idx_vars y
    refine (vHigh_at ..).trans ?_
    refine (v7_at ..).trans ?_
    show _ = vAt x0 x1 x2 x3 x4 x5 x6 x7 x8 x9 ⟨((0 + 1 * y2.val) * 128 + (0 + 1 * y4.val)) * 16 + (15 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vLow_at ..).trans ?_
    refine (v7_at ..).trans ?_
    show _ = vAt x0 x1 x2 x3 x4 x5 x6 x7 x8 x9 ⟨((0 + 1 * y2.val) * 128 + (0 + 1 * y4.val)) * 16 + (14 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vHigh_at ..).trans ?_
    refine (v6_at ..).trans ?_
    show _ = vAt x0 x1 x2 x3 x4 x5 x6 x7 x8 x9 ⟨((0 + 1 * y2.val) * 128 + (0 + 1 * y4.val)) * 16 + (13 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vLow_at ..).trans ?_
    refine (v6_at ..).trans ?_
    show _ = vAt x0 x1 x2 x3 x4 x5 x6 x7 x8 x9 ⟨((0 + 1 * y2.val) * 128 + (0 + 1 * y4.val)) * 16 + (12 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vHigh_at ..).trans ?_
    refine (v5_at ..).trans ?_
    show _ = vAt x0 x1 x2 x3 x4 x5 x6 x7 x8 x9 ⟨((0 + 1 * y2.val) * 128 + (0 + 1 * y4.val)) * 16 + (11 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vLow_at ..).trans ?_
    refine (v5_at ..).trans ?_
    show _ = vAt x0 x1 x2 x3 x4 x5 x6 x7 x8 x9 ⟨((0 + 1 * y2.val) * 128 + (0 + 1 * y4.val)) * 16 + (10 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vHigh_at ..).trans ?_
    refine (v4_at ..).trans ?_
    show _ = vAt x0 x1 x2 x3 x4 x5 x6 x7 x8 x9 ⟨((0 + 1 * y2.val) * 128 + (0 + 1 * y4.val)) * 16 + (9 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vLow_at ..).trans ?_
    refine (v4_at ..).trans ?_
    show _ = vAt x0 x1 x2 x3 x4 x5 x6 x7 x8 x9 ⟨((0 + 1 * y2.val) * 128 + (0 + 1 * y4.val)) * 16 + (8 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vHigh_at ..).trans ?_
    refine (v3_at ..).trans ?_
    show _ = vAt x0 x1 x2 x3 x4 x5 x6 x7 x8 x9 ⟨((0 + 1 * y2.val) * 128 + (0 + 1 * y4.val)) * 16 + (7 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vLow_at ..).trans ?_
    refine (v3_at ..).trans ?_
    show _ = vAt x0 x1 x2 x3 x4 x5 x6 x7 x8 x9 ⟨((0 + 1 * y2.val) * 128 + (0 + 1 * y4.val)) * 16 + (6 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vHigh_at ..).trans ?_
    refine (v2_at ..).trans ?_
    show _ = vAt x0 x1 x2 x3 x4 x5 x6 x7 x8 x9 ⟨((0 + 1 * y2.val) * 128 + (0 + 1 * y4.val)) * 16 + (5 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vLow_at ..).trans ?_
    refine (v2_at ..).trans ?_
    show _ = vAt x0 x1 x2 x3 x4 x5 x6 x7 x8 x9 ⟨((0 + 1 * y2.val) * 128 + (0 + 1 * y4.val)) * 16 + (4 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vHigh_at ..).trans ?_
    refine (v1_at ..).trans ?_
    show _ = vAt x0 x1 x2 x3 x4 x5 x6 x7 x8 x9 ⟨((0 + 1 * y2.val) * 128 + (0 + 1 * y4.val)) * 16 + (3 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vLow_at ..).trans ?_
    refine (v1_at ..).trans ?_
    show _ = vAt x0 x1 x2 x3 x4 x5 x6 x7 x8 x9 ⟨((0 + 1 * y2.val) * 128 + (0 + 1 * y4.val)) * 16 + (2 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vHigh_at ..).trans ?_
    refine (v0_at ..).trans ?_
    show _ = vAt x0 x1 x2 x3 x4 x5 x6 x7 x8 x9 ⟨((0 + 1 * y2.val) * 128 + (0 + 1 * y4.val)) * 16 + (1 + 1 * y1.val), by omega⟩ ⟨0 + 1 * y3.val, by omega⟩
    congr 1 <;> first | rfl | (apply Fin.ext; dsimp only; omega) | (apply Fin.ext; simp; omega) | (apply Fin.ext; simp)
  · intro y
    idx_vars y
    refine (vLow_at ..).trans ?_
    refine (v0_at ..).trans ?_
    show _ = vAt x0 x1 x2 x3 x4 x5 x6 x7 x8 x9 ⟨((0 + 1 * y2.val) * 128 + (0 + 1 * y4.val)) * 16 + (0 + 1 * y1.val), by omega⟩ ⟨0 + 1 * y3.val, by omega⟩
    congr 1 <;> first | rfl | (apply Fin.ext; dsimp only; omega) | (apply Fin.ext; simp; omega) | (apply Fin.ext; simp)

end Cert.Proj16KernelIdeal.Mix

end
-- ==== Proof.Proj16Reference.lean ====
/-  The reference's queries, keys and values of the windowed mixer at dilation 16, entry by entry. -/
module

public import proofs.«01_k».proof.Proof.Gen.Proj16ReferenceIdeal
public import proofs.«01_k».proof.Proof.Heads
public import Idealize.ShloMosaic.Lib.Pointwise
public import Idealize.ShloMosaic.Lib.Claim

@[expose] public section

set_option maxRecDepth 65536

noncomputable section

namespace Cert.Proj16ReferenceIdeal.Mix

open Cert.Proj16ReferenceIdeal Cert.Proj16ReferenceIdeal.Gen
open Idealize.ShloMosaic Idealize.ShloMosaic.TcCoe Idealize.SL.Sem

/-- The normalised hidden state. -/
def normalised (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf x x) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The three projections, side by side. -/
def projected (x : FVec Ideal S4x8192x1024 .f32) (g : FVec Ideal S1024 .f32) (w : FVec Ideal S1024x3072 .f32) : FVec Ideal S4x8192x3072 .f32 :=
  Host.dotGeneral dot_S4x8192x1024_S1024x3072_S4x8192x3072_2_0_01_1_n_n none (normalised x g) w

/-- Heads of features, normalised over the head. -/
def headNorm (t : FVec Ideal S4x8192x16x64 .f32) (gain : FVec Ideal S64 .f32) : FVec Ideal S4x8192x16x64 .f32 :=
  mulf (mulf t (broadcastInDim S4x8192x16x64 ![0, 1, 2, 3] bcast_S4x8192x16x1_S4x8192x16x64_0_1_2_3
      (Host.rsqrt (addf (Host.divf (broadcastInDim S4x8192x16x1 ![0, 1, 2] bcast_S4x8192x16_S4x8192x16x1_0_1_2
          (Host.reduceAdd (mulf t t) (constant S_ .f32 0x00000000#32) reducesTo_S4x8192x16x64_S4x8192x16_d3 h_S_))
        (broadcastInDim S4x8192x16x1 ![] bcast_S_S4x8192x16x1 (constant S_ .f32 0x42800000#32)))
        (broadcastInDim S4x8192x16x1 ![] bcast_S_S4x8192x16x1 (constant S_ .f32 0x358637BD#32))))))
    (broadcastInDim S4x8192x16x64 ![0, 1, 2, 3] bcast_S1x1x1x64_S4x8192x16x64_0_1_2_3 (broadcastInDim S1x1x1x64 ![3] bcast_S64_S1x1x1x64_3 gain))

/-- A table of the rotation, over heads. -/
def table (c : FVec Ideal S8192x8 .f32) : FVec Ideal S4x8192x16x8 .f32 :=
  broadcastInDim S4x8192x16x8 ![0, 1, 2, 3] bcast_S1x8192x1x8_S4x8192x16x8_0_1_2_3
    (broadcastInDim S1x8192x1x8 ![1, 2, 3] bcast_S8192x1x8_S1x8192x1x8_1_2_3 (broadcastInDim S8192x1x8 ![0, 2] bcast_S8192x8_S8192x1x8_0_2 c))

def first (t : FVec Ideal S4x8192x16x64 .f32) : FVec Ideal S4x8192x16x8 .f32 := extractStridedSlice S4x8192x16x8 ![0, 0, 0, 0] t slices_S4x8192x16x64_S4x8192x16x8_0_0_0_0
def second (t : FVec Ideal S4x8192x16x64 .f32) : FVec Ideal S4x8192x16x8 .f32 := extractStridedSlice S4x8192x16x8 ![0, 0, 0, 8] t slices_S4x8192x16x64_S4x8192x16x8_0_0_0_8

/-- The first features turned. -/
def turned (t : FVec Ideal S4x8192x16x64 .f32) (c s : FVec Ideal S8192x8 .f32) : FVec Ideal S4x8192x16x64 .f32 :=
  concatenate S4x8192x16x64 3 [⟨S4x8192x16x8, subf (mulf (first t) (table c)) (mulf (second t) (table s))⟩,
    ⟨S4x8192x16x8, addf (mulf (second t) (table c)) (mulf (first t) (table s))⟩,
    ⟨S4x8192x16x48, extractStridedSlice S4x8192x16x48 ![0, 0, 0, 16] t slices_S4x8192x16x64_S4x8192x16x48_0_0_0_16⟩]
    concatenates_S4x8192x16x8_S4x8192x16x8_S4x8192x16x48_S4x8192x16x64_d3

/-- Features to normalised and turned features. -/
def heads (p : FVec Ideal S4x8192x1024 .f32) (gain : FVec Ideal S64 .f32) (c s : FVec Ideal S8192x8 .f32) : FVec Ideal S4x8192x1024 .f32 :=
  shapeCast S4x8192x1024 (turned (headNorm (shapeCast S4x8192x16x64 p shapeCasts_S4x8192x1024_S4x8192x16x64) gain) c s) shapeCasts_S4x8192x16x64_S4x8192x1024

variable (x : FVec Ideal S4x8192x1024 .f32) (g : FVec Ideal S1024 .f32) (w : FVec Ideal S1024x3072 .f32) (gq gk : FVec Ideal S64 .f32) (c s : FVec Ideal S8192x8 .f32)

def queryFeatures : FVec Ideal S4x8192x1024 .f32 := extractStridedSlice S4x8192x1024 ![0, 0, 0] (projected x g w) slices_S4x8192x3072_S4x8192x1024_0_0_0
def keyFeatures : FVec Ideal S4x8192x1024 .f32 := extractStridedSlice S4x8192x1024 ![0, 0, 1024] (projected x g w) slices_S4x8192x3072_S4x8192x1024_0_0_1024
def valueFeatures : FVec Ideal S4x8192x1024 .f32 := extractStridedSlice S4x8192x1024 ![0, 0, 2048] (projected x g w) slices_S4x8192x3072_S4x8192x1024_0_0_2048

/-- Features to blocks of tokens, features first. -/
def blocks (p : FVec Ideal S4x8192x1024 .f32) : FVec Ideal S4x16x4x1024x128 .bf16 :=
  truncf .bf16 (transpose S4x16x4x1024x128 [0, 3, 1, 4, 2] (shapeCast S4x4x128x16x1024 p shapeCasts_S4x8192x1024_S4x4x128x16x1024) transposes_S4x4x128x16x1024_S4x16x4x1024x128_0_3_1_4_2) bitsLt_bf16_f32

/-- Tokens by their residue. -/
def streams (p : FVec Ideal S4x8192x1024 .f32) : FVec Ideal S4x16x512x1024 .bf16 :=
  truncf .bf16 (transpose S4x16x512x1024 [0, 2, 1, 3] (shapeCast S4x512x16x1024 p shapeCasts_S4x8192x1024_S4x512x16x1024) transposes_S4x512x16x1024_S4x16x512x1024_0_2_1_3) bitsLt_bf16_f32

/-- Pairs of heads, in blocks of tokens, features first. -/
def pairs (p : FVec Ideal S4x8192x1024 .f32) : FVec Ideal S4x16x4x8x128x128 .f32 :=
  transpose S4x16x4x8x128x128 [0, 3, 1, 4, 5, 2] (shapeCast S4x4x128x16x8x128 p shapeCasts_S4x8192x1024_S4x4x128x16x8x128) transposes_S4x4x128x16x8x128_S4x16x4x8x128x128_0_3_1_4_5_2

/-- Each pair with a row of ones and fifteen of zeros. -/
def paired (p : FVec Ideal S4x16x4x8x128x128 .f32) : FVec Ideal S4x16x4x8x144x128 .f32 :=
  concatenate S4x16x4x8x144x128 4 [⟨S4x16x4x8x128x128, p⟩,
    ⟨S4x16x4x8x1x128, broadcastInDim S4x16x4x8x1x128 ![] bcast_S_S4x16x4x8x1x128 (constant S_ .f32 0x3F800000#32)⟩,
    ⟨S4x16x4x8x15x128, broadcastInDim S4x16x4x8x15x128 ![] bcast_S_S4x16x4x8x15x128 (constant S_ .f32 0x00000000#32)⟩]
    concatenates_S4x16x4x8x128x128_S4x16x4x8x1x128_S4x16x4x8x15x128_S4x16x4x8x144x128_d4

/-- The pairs' rows, one after another. -/
def rows (p : FVec Ideal S4x16x4x8x144x128 .f32) : FVec Ideal S4x16x4x1152x128 .bf16 := truncf .bf16 (shapeCast S4x16x4x1152x128 p shapeCasts_S4x16x4x8x144x128_S4x16x4x1152x128) bitsLt_bf16_f32

/-- The queries, times the softmax's scale. -/
def queries : FVec Ideal S4x16x4x1024x128 .bf16 :=
  blocks (mulf (heads (queryFeatures x g w) gq c s) (broadcastInDim S4x8192x1024 ![] bcast_S_S4x8192x1024 (constant S_ .f32 0x3E38AA3B#32)))

/-- The keys. -/
def keys : FVec Ideal S4x16x512x1024 .bf16 := streams (heads (keyFeatures x g w) gk c s)

/-- The values, in pairs of heads, each with its row of ones. -/
def values : FVec Ideal S4x16x4x1152x128 .bf16 := rows (paired (pairs (valueFeatures x g w)))

theorem blocks_at (p : FVec Ideal S4x8192x1024 .f32) (b : Fin 4) (r : Fin 16) (n : Fin 4) (j : Fin 1024) (l : Fin 128) :
    blocks p (ix5 b r n j l) = p (ix3 b ⟨(n.val * 128 + l.val) * 16 + r.val, by omega⟩ j) := by
  pointwise [blocks]
  exact congrArg (fun z => p (ix3 b z j)) (Fin.ext (by dsimp only; omega))

theorem scaled_at (p : FVec Ideal S4x8192x1024 .f32) (b : Fin 4) (r : Fin 16) (n : Fin 4) (j : Fin 1024) (l : Fin 128) :
    blocks (mulf p (broadcastInDim S4x8192x1024 ![] bcast_S_S4x8192x1024 (constant S_ .f32 0x3E38AA3B#32))) (ix5 b r n j l)
      = p (ix3 b ⟨(n.val * 128 + l.val) * 16 + r.val, by omega⟩ j) * Ideal.ofBits FTy.f32 0x3E38AA3B#32 := by
  rw [blocks_at]
  pointwise

theorem streams_at (p : FVec Ideal S4x8192x1024 .f32) (b : Fin 4) (r : Fin 16) (n : Fin 512) (j : Fin 1024) :
    streams p (ix4 b r n j) = p (ix3 b ⟨(n.val) * 16 + r.val, by omega⟩ j) := by
  pointwise [streams]

theorem pairs_at (p : FVec Ideal S4x8192x1024 .f32) (b : Fin 4) (r : Fin 16) (n : Fin 4) (h : Fin 8) (f l : Fin 128) :
    pairs p (ix6 b r n h f l) = p (ix3 b ⟨(n.val * 128 + l.val) * 16 + r.val, by omega⟩ ⟨h.val * 128 + f.val, by omega⟩) := by
  pointwise [pairs]
  exact congrArg (fun z => p (ix3 b z ⟨h.val * 128 + f.val, by omega⟩)) (Fin.ext (by dsimp only; omega))

theorem paired_at (p : FVec Ideal S4x16x4x8x128x128 .f32) (b : Fin 4) (r : Fin 16) (n : Fin 4) (h : Fin 8) (k : Fin 144) (l : Fin 128) :
    paired p (ix6 b r n h k l) = if h' : k.val < 128 then p (ix6 b r n h ⟨k.val, h'⟩ l) else if k.val = 128 then 1 else 0 := by
  pointwise [paired]
  by_cases h₁ : k.val < 128
  · rw [dif_pos h₁, dif_pos h₁]
  · rw [dif_neg h₁, dif_neg h₁]
    by_cases h₂ : k.val = 128
    · rw [dif_pos (show k.val - 128 < 1 by omega), if_pos h₂]
    · rw [dif_neg (show ¬k.val - 128 < 1 by omega), if_neg h₂]

theorem rows_at (p : FVec Ideal S4x16x4x8x144x128 .f32) (b : Fin 4) (r : Fin 16) (n : Fin 4) (k : Fin 1152) (l : Fin 128) :
    rows p (ix5 b r n k l) = p (ix6 b r n ⟨k.val / 144, by omega⟩ ⟨k.val % 144, by omega⟩ l) := by
  pointwise [rows]

theorem normalised_at (b : Fin 4) (n : Fin 8192) (j : Fin 1024) :
    normalised x g (ix3 b n j) = Feed.normed (fun l => x (ix3 b n l)) (fun l => g (ix1 l)) j := by
  pointwise [normalised]
  rfl

theorem projected_at (b : Fin 4) (n : Fin 8192) (j : Fin 3072) :
    projected x g w (ix3 b n j) = ∑ l : Fin 1024, Feed.normed (fun l => x (ix3 b n l)) (fun l => g (ix1 l)) l * w (ix2 l j) := by
  pointwise [projected]
  simp only [normalised_at]

theorem headNorm_at (t : FVec Ideal S4x8192x16x64 .f32) (b : Fin 4) (n : Fin 8192) (h : Fin 16) (f : Fin 64) :
    headNorm t gq (ix4 b n h f) = Heads.normed (fun f => t (ix4 b n h f)) (fun f => gq (ix1 f)) f := by
  pointwise [headNorm]
  rfl

theorem turned_at (t : FVec Ideal S4x8192x16x64 .f32) (b : Fin 4) (n : Fin 8192) (h : Fin 16) (f : Fin 64) :
    turned t c s (ix4 b n h f) = Heads.turned (fun f => t (ix4 b n h f)) (fun e => c (ix2 n e)) (fun e => s (ix2 n e)) f := by
  pointwise [turned, first, second, table]
  unfold Heads.turned
  by_cases h₁ : f.val < 8
  · rw [dif_pos h₁, dif_pos h₁]
    simp only [Nat.add_comm 8]
  · rw [dif_neg h₁, dif_neg h₁]
    by_cases h₂ : f.val < 16
    · rw [dif_pos (show f.val - 8 < 8 by omega), dif_pos h₂]
      have e : 8 + (f.val - 8) = f.val := by omega
      simp only [e]
    · rw [dif_neg (show ¬f.val - 8 < 8 by omega), dif_neg h₂]
      have e : 16 + (f.val - 8 - 8) = f.val := by omega
      simp only [e]

theorem heads_at (p : FVec Ideal S4x8192x1024 .f32) (b : Fin 4) (n : Fin 8192) (j : Fin 1024) :
    heads p gq c s (ix3 b n j) = Heads.turned (Heads.normed (fun f => p (ix3 b n ⟨j.val / 64 * 64 + f.val, by omega⟩)) (fun f => gq (ix1 f)))
      (fun e => c (ix2 n e)) (fun e => s (ix2 n e)) ⟨j.val % 64, by omega⟩ := by
  pointwise [heads]
  refine (turned_at ..).trans ?_
  simp only [headNorm_at]
  pointwise

theorem queryFeatures_at (b : Fin 4) (n : Fin 8192) (j : Fin 1024) :
    queryFeatures x g w (ix3 b n j) = ∑ l : Fin 1024, Feed.normed (fun l => x (ix3 b n l)) (fun l => g (ix1 l)) l * w (ix2 l ⟨j.val, by omega⟩) := by
  pointwise [queryFeatures]
  refine (projected_at ..).trans ?_
  simp only [Nat.zero_add]

theorem keyFeatures_at (b : Fin 4) (n : Fin 8192) (j : Fin 1024) :
    keyFeatures x g w (ix3 b n j) = ∑ l : Fin 1024, Feed.normed (fun l => x (ix3 b n l)) (fun l => g (ix1 l)) l * w (ix2 l ⟨1024 + j.val, by omega⟩) := by
  pointwise [keyFeatures]
  exact projected_at ..

theorem valueFeatures_at (b : Fin 4) (n : Fin 8192) (j : Fin 1024) :
    valueFeatures x g w (ix3 b n j) = ∑ l : Fin 1024, Feed.normed (fun l => x (ix3 b n l)) (fun l => g (ix1 l)) l * w (ix2 l ⟨2048 + j.val, by omega⟩) := by
  pointwise [valueFeatures]
  exact projected_at ..

theorem queries_at (b : Fin 4) (r : Fin 16) (n : Fin 4) (j : Fin 1024) (l : Fin 128) :
    queries x g w gq c s (ix5 b r n j l) = Heads.head (Feed.normed (fun k => x (ix3 b ⟨(n.val * 128 + l.val) * 16 + r.val, by omega⟩ k)) (fun k => g (ix1 k)))
      (fun k i => w (ix2 k ⟨i.val, by omega⟩)) (fun f => gq (ix1 f)) (fun e => c (ix2 ⟨(n.val * 128 + l.val) * 16 + r.val, by omega⟩ e))
      (fun e => s (ix2 ⟨(n.val * 128 + l.val) * 16 + r.val, by omega⟩ e)) j * Ideal.ofBits FTy.f32 0x3E38AA3B#32 := by
  unfold queries Heads.head
  rw [scaled_at, heads_at]
  simp only [queryFeatures_at]

theorem keys_at (b : Fin 4) (r : Fin 16) (n : Fin 512) (j : Fin 1024) :
    keys x g w gk c s (ix4 b r n j) = Heads.head (Feed.normed (fun k => x (ix3 b ⟨(n.val) * 16 + r.val, by omega⟩ k)) (fun k => g (ix1 k)))
      (fun k i => w (ix2 k ⟨1024 + i.val, by omega⟩)) (fun f => gk (ix1 f)) (fun e => c (ix2 ⟨(n.val) * 16 + r.val, by omega⟩ e))
      (fun e => s (ix2 ⟨(n.val) * 16 + r.val, by omega⟩ e)) j := by
  unfold keys Heads.head
  rw [streams_at, heads_at]
  simp only [keyFeatures_at]

theorem values_at (b : Fin 4) (r : Fin 16) (n : Fin 4) (p : Fin 1152) (l : Fin 128) :
    values x g w (ix5 b r n p l) = Heads.withOnes (fun i => ∑ k, Feed.normed (fun k => x (ix3 b ⟨(n.val * 128 + l.val) * 16 + r.val, by omega⟩ k)) (fun k => g (ix1 k)) k
      * w (ix2 k ⟨2048 + i.val, by omega⟩)) p := by
  unfold values Heads.withOnes
  rw [rows_at, paired_at]
  simp only [pairs_at, valueFeatures_at]

end Cert.Proj16ReferenceIdeal.Mix

end
-- ==== Proof.Proj16Value.lean ====
/-  The windowed mixer's projections: the queries, keys and values the call leaves are the reference's. -/
module

public import proofs.«01_k».proof.Proof.Proj16Block
public import proofs.«01_k».proof.Proof.Proj16Reference
public import proofs.«01_k».proof.Proof.Gen.Proj16KernelIdeal.Value

@[expose] public section

set_option maxRecDepth 65536

noncomputable section

namespace Cert.Proj16KernelIdeal.Mix

open Cert.Proj16KernelIdeal Cert.Proj16KernelIdeal.Gen
open Idealize.ShloMosaic Idealize.ShloMosaic.TcCoe Idealize.SL.Sem
open Idealize.ShloMosaic.Pipeline (Dat)

variable (m : (ℓ : Loc nD τ sig) → Buf (Elt Ideal) ℓ)

/-- The arguments. -/
abbrev argX (c : Dev nD) : FVec Ideal S4x8192x1024 .f32 := m ((c : Thread nD τ).loc main_arg0)
abbrev argG (c : Dev nD) : FVec Ideal S1024 .f32 := m ((c : Thread nD τ).loc main_arg1)
abbrev argW (c : Dev nD) : FVec Ideal S1024x3072 .f32 := m ((c : Thread nD τ).loc main_arg2)
abbrev argQ (c : Dev nD) : FVec Ideal S64 .f32 := m ((c : Thread nD τ).loc main_arg3)
abbrev argK (c : Dev nD) : FVec Ideal S64 .f32 := m ((c : Thread nD τ).loc main_arg4)
abbrev argC (c : Dev nD) : FVec Ideal S8192x8 .f32 := m ((c : Thread nD τ).loc main_arg5)
abbrev argS (c : Dev nD) : FVec Ideal S8192x8 .f32 := m ((c : Thread nD τ).loc main_arg6)

/-- The call's operands. -/
abbrev arrX (c : Dev nD) : FVec Ideal S4x8192x1024 .f32 := V m c main_arg0
abbrev arrG (c : Dev nD) : FVec Ideal S1x1024 .f32 := V m c main_v8
abbrev arrW (c : Dev nD) : FVec Ideal S3072x1024 .bf16 := V m c main_v10
abbrev arrQ (c : Dev nD) : FVec Ideal S64x256 .f32 := V m c main_v5
abbrev arrK (c : Dev nD) : FVec Ideal S64x256 .f32 := V m c main_v7
abbrev arrC (c : Dev nD) : FVec Ideal S16x8x512 .f32 := V m c main_v1
abbrev arrS (c : Dev nD) : FVec Ideal S16x8x512 .f32 := V m c main_v3

theorem g_at (c : Dev nD) (j : Fin 1024) : arrG m c (ix2 0 j) = argG m c (ix1 j) := by
  unfold arrG; entry_read; pointwise

theorem w_at (c : Dev nD) (k : Fin 3072) (l : Fin 1024) : arrW m c (ix2 k l) = argW m c (ix2 l k) := by
  unfold arrW; entry_read; pointwise

theorem gq_at (c : Dev nD) (f : Fin 64) (n : Fin 256) : arrQ m c (ix2 f n) = argQ m c (ix1 f) := by
  unfold arrQ; entry_read; pointwise

theorem gk_at (c : Dev nD) (f : Fin 64) (n : Fin 256) : arrK m c (ix2 f n) = argK m c (ix1 f) := by
  unfold arrK; entry_read; pointwise

theorem cos_at (c : Dev nD) (r : Fin 16) (e : Fin 8) (n : Fin 512) : arrC m c (ix3 r e n) = argC m c (ix2 ⟨n.val * 16 + r.val, by omega⟩ e) := by
  unfold arrC; entry_read; pointwise

theorem sin_at (c : Dev nD) (r : Fin 16) (e : Fin 8) (n : Fin 512) : arrS m c (ix3 r e n) = argS m c (ix2 ⟨n.val * 16 + r.val, by omega⟩ e) := by
  unfold arrS; entry_read; pointwise

theorem idx_slab : ∀ t : Fin cfg0.N, win0_0.index t = ![t.val / 4, t.val % 4, 0] ∧ win0_1.index t = ![t.val / 4, t.val % 4, 1] ∧ win0_2.index t = ![t.val / 4, t.val % 4, 2] ∧ win0_3.index t = ![t.val / 4, t.val % 4, 3] ∧ win0_4.index t = ![t.val / 4, t.val % 4, 4] ∧ win0_5.index t = ![t.val / 4, t.val % 4, 5] ∧ win0_6.index t = ![t.val / 4, t.val % 4, 6] ∧ win0_7.index t = ![t.val / 4, t.val % 4, 7] :=
  (by decide +kernel : ∀ t : Fin grid0.N, _)

theorem idx_whole : ∀ t : Fin cfg0.N, win0_8.index t = ![0, 0] ∧ win0_9.index t = ![0, 0] ∧ win0_10.index t = ![0, 0] ∧ win0_11.index t = ![0, 0] :=
  (by decide +kernel : ∀ t : Fin grid0.N, _)

theorem idx_tiles : ∀ t : Fin cfg0.N, win0_12.index t = ![0, 0, t.val % 4] ∧ win0_13.index t = ![0, 0, t.val % 4]
    ∧ win0_14.index t = ![t.val / 4, 0, t.val % 4, 0, 0] ∧ win0_15.index t = ![t.val / 4, 0, t.val % 4, 0]
    ∧ win0_16.index t = ![t.val / 4, 0, t.val % 4, 0, 0] :=
  (by decide +kernel : ∀ t : Fin grid0.N, _)

theorem blkX0_at (c : Dev nD) (n : Fin 16) (h : n.val < cfg0.N) (r : Fin 2048) (l : Fin 128) :
    iblk m c 0 ⟨n.val, h⟩ (ix3 0 r l) = arrX m c (ix3 ⟨n.val / 4, by omega⟩ ⟨n.val % 4 * 2048 + r.val, by omega⟩ ⟨0 * 128 + l.val, by omega⟩) := by
  have e := (idx_slab ⟨n.val, h⟩).1
  unfold iblk; blk_ext [e]

theorem blkX1_at (c : Dev nD) (n : Fin 16) (h : n.val < cfg0.N) (r : Fin 2048) (l : Fin 128) :
    iblk m c 1 ⟨n.val, h⟩ (ix3 0 r l) = arrX m c (ix3 ⟨n.val / 4, by omega⟩ ⟨n.val % 4 * 2048 + r.val, by omega⟩ ⟨1 * 128 + l.val, by omega⟩) := by
  have e := (idx_slab ⟨n.val, h⟩).2.1
  unfold iblk; blk_ext [e]

theorem blkX2_at (c : Dev nD) (n : Fin 16) (h : n.val < cfg0.N) (r : Fin 2048) (l : Fin 128) :
    iblk m c 2 ⟨n.val, h⟩ (ix3 0 r l) = arrX m c (ix3 ⟨n.val / 4, by omega⟩ ⟨n.val % 4 * 2048 + r.val, by omega⟩ ⟨2 * 128 + l.val, by omega⟩) := by
  have e := (idx_slab ⟨n.val, h⟩).2.2.1
  unfold iblk; blk_ext [e]

theorem blkX3_at (c : Dev nD) (n : Fin 16) (h : n.val < cfg0.N) (r : Fin 2048) (l : Fin 128) :
    iblk m c 3 ⟨n.val, h⟩ (ix3 0 r l) = arrX m c (ix3 ⟨n.val / 4, by omega⟩ ⟨n.val % 4 * 2048 + r.val, by omega⟩ ⟨3 * 128 + l.val, by omega⟩) := by
  have e := (idx_slab ⟨n.val, h⟩).2.2.2.1
  unfold iblk; blk_ext [e]

theorem blkX4_at (c : Dev nD) (n : Fin 16) (h : n.val < cfg0.N) (r : Fin 2048) (l : Fin 128) :
    iblk m c 4 ⟨n.val, h⟩ (ix3 0 r l) = arrX m c (ix3 ⟨n.val / 4, by omega⟩ ⟨n.val % 4 * 2048 + r.val, by omega⟩ ⟨4 * 128 + l.val, by omega⟩) := by
  have e := (idx_slab ⟨n.val, h⟩).2.2.2.2.1
  unfold iblk; blk_ext [e]

theorem blkX5_at (c : Dev nD) (n : Fin 16) (h : n.val < cfg0.N) (r : Fin 2048) (l : Fin 128) :
    iblk m c 5 ⟨n.val, h⟩ (ix3 0 r l) = arrX m c (ix3 ⟨n.val / 4, by omega⟩ ⟨n.val % 4 * 2048 + r.val, by omega⟩ ⟨5 * 128 + l.val, by omega⟩) := by
  have e := (idx_slab ⟨n.val, h⟩).2.2.2.2.2.1
  unfold iblk; blk_ext [e]

theorem blkX6_at (c : Dev nD) (n : Fin 16) (h : n.val < cfg0.N) (r : Fin 2048) (l : Fin 128) :
    iblk m c 6 ⟨n.val, h⟩ (ix3 0 r l) = arrX m c (ix3 ⟨n.val / 4, by omega⟩ ⟨n.val % 4 * 2048 + r.val, by omega⟩ ⟨6 * 128 + l.val, by omega⟩) := by
  have e := (idx_slab ⟨n.val, h⟩).2.2.2.2.2.2.1
  unfold iblk; blk_ext [e]

theorem blkX7_at (c : Dev nD) (n : Fin 16) (h : n.val < cfg0.N) (r : Fin 2048) (l : Fin 128) :
    iblk m c 7 ⟨n.val, h⟩ (ix3 0 r l) = arrX m c (ix3 ⟨n.val / 4, by omega⟩ ⟨n.val % 4 * 2048 + r.val, by omega⟩ ⟨7 * 128 + l.val, by omega⟩) := by
  have e := (idx_slab ⟨n.val, h⟩).2.2.2.2.2.2.2
  unfold iblk; blk_ext [e]

theorem blkG_at (c : Dev nD) (t : Fin cfg0.N) (j : Fin 1024) : iblk m c 8 t (ix2 0 j) = arrG m c (ix2 0 j) := by
  have e := (idx_whole t).1
  unfold iblk; blk_ext [e]

theorem blkW_at (c : Dev nD) (t : Fin cfg0.N) (k : Fin 3072) (l : Fin 1024) : iblk m c 9 t (ix2 k l) = arrW m c (ix2 k l) := by
  have e := (idx_whole t).2.1
  unfold iblk; blk_ext [e]

theorem blkQ_at (c : Dev nD) (t : Fin cfg0.N) (f : Fin 64) (n : Fin 256) : iblk m c 10 t (ix2 f n) = arrQ m c (ix2 f n) := by
  have e := (idx_whole t).2.2.1
  unfold iblk; blk_ext [e]

theorem blkK_at (c : Dev nD) (t : Fin cfg0.N) (f : Fin 64) (n : Fin 256) : iblk m c 11 t (ix2 f n) = arrK m c (ix2 f n) := by
  have e := (idx_whole t).2.2.2
  unfold iblk; blk_ext [e]

theorem blkC_at (c : Dev nD) (n : Fin 16) (h : n.val < cfg0.N) (r : Fin 16) (e : Fin 8) (i : Fin 128) :
    iblk m c 12 ⟨n.val, h⟩ (ix3 r e i) = arrC m c (ix3 r e ⟨n.val % 4 * 128 + i.val, by omega⟩) := by
  have e := (idx_tiles ⟨n.val, h⟩).1
  unfold iblk; blk_ext [e]

theorem blkS_at (c : Dev nD) (n : Fin 16) (h : n.val < cfg0.N) (r : Fin 16) (e : Fin 8) (i : Fin 128) :
    iblk m c 13 ⟨n.val, h⟩ (ix3 r e i) = arrS m c (ix3 r e ⟨n.val % 4 * 128 + i.val, by omega⟩) := by
  have e := (idx_tiles ⟨n.val, h⟩).2.1
  unfold iblk; blk_ext [e]

theorem weights_at (c : Dev nD) (t : Fin cfg0.N) (k : Fin 3072) (l : Fin 1024) : iblk m c 9 t (ix2 k l) = argW m c (ix2 l k) :=
  (blkW_at ..).trans (w_at ..)

theorem gainQ_at (c : Dev nD) (t : Fin cfg0.N) (f : Fin 64) (n : Fin 256) : iblk m c 10 t (ix2 f n) = argQ m c (ix1 f) :=
  (blkQ_at ..).trans (gq_at ..)

theorem gainK_at (c : Dev nD) (t : Fin cfg0.N) (f : Fin 64) (n : Fin 256) : iblk m c 11 t (ix2 f n) = argK m c (ix1 f) :=
  (blkK_at ..).trans (gk_at ..)

theorem slab_at (c : Dev nD) (n : Fin 16) (h : n.val < cfg0.N) (r : Fin 2048) (l : Fin 1024) :
    slab (iblk m c 0 ⟨n.val, h⟩) (iblk m c 1 ⟨n.val, h⟩) (iblk m c 2 ⟨n.val, h⟩) (iblk m c 3 ⟨n.val, h⟩) (iblk m c 4 ⟨n.val, h⟩) (iblk m c 5 ⟨n.val, h⟩) (iblk m c 6 ⟨n.val, h⟩) (iblk m c 7 ⟨n.val, h⟩) r l = argX m c (ix3 ⟨n.val / 4, by omega⟩ ⟨n.val % 4 * 2048 + r.val, by omega⟩ l) := by
  have key : ∀ (k : Fin 8) (i : Fin 128),
      (![iblk m c 0 ⟨n.val, h⟩, iblk m c 1 ⟨n.val, h⟩, iblk m c 2 ⟨n.val, h⟩, iblk m c 3 ⟨n.val, h⟩, iblk m c 4 ⟨n.val, h⟩, iblk m c 5 ⟨n.val, h⟩, iblk m c 6 ⟨n.val, h⟩, iblk m c 7 ⟨n.val, h⟩] : Fin 8 → Vec Ideal S1x2048x128 .f32) k (ix3 0 r i)
        = arrX m c (ix3 ⟨n.val / 4, by omega⟩ ⟨n.val % 4 * 2048 + r.val, by omega⟩ ⟨k.val * 128 + i.val, by omega⟩) := by
    intro k i
    fin_cases k
    · exact blkX0_at m c n h r i
    · exact blkX1_at m c n h r i
    · exact blkX2_at m c n h r i
    · exact blkX3_at m c n h r i
    · exact blkX4_at m c n h r i
    · exact blkX5_at m c n h r i
    · exact blkX6_at m c n h r i
    · exact blkX7_at m c n h r i
  refine (key ⟨l.val / 128, by omega⟩ ⟨l.val % 128, by omega⟩).trans ?_
  refine (congrArg (arrX m c) ?_).trans (congrFun (V_main_arg0 m c) _)
  exact congrArg (ix3 _ _) (Fin.ext (by dsimp only; omega))

theorem row_at (c : Dev nD) (n : Fin 16) (h : n.val < cfg0.N) (r : Fin 2048) :
    row (iblk m c 0 ⟨n.val, h⟩) (iblk m c 1 ⟨n.val, h⟩) (iblk m c 2 ⟨n.val, h⟩) (iblk m c 3 ⟨n.val, h⟩) (iblk m c 4 ⟨n.val, h⟩) (iblk m c 5 ⟨n.val, h⟩) (iblk m c 6 ⟨n.val, h⟩) (iblk m c 7 ⟨n.val, h⟩) (iblk m c 8 ⟨n.val, h⟩) r = Feed.normed (fun l => argX m c (ix3 ⟨n.val / 4, by omega⟩ ⟨n.val % 4 * 2048 + r.val, by omega⟩ l)) (fun l => argG m c (ix1 l)) := by
  unfold row
  refine congrArg₂ Feed.normed (funext fun l => ?_) (funext fun l => ?_)
  · exact slab_at m c n h r l
  · exact (blkG_at ..).trans (g_at ..)

theorem tabC_at (c : Dev nD) (n : Fin 16) (h : n.val < cfg0.N) (r : Fin 16) (e : Fin 8) (i : Fin 128) :
    iblk m c 12 ⟨n.val, h⟩ (ix3 r e i) = argC m c (ix2 ⟨n.val % 4 * 2048 + (i.val * 16 + r.val), by omega⟩ e) := by
  refine (blkC_at ..).trans ((cos_at ..).trans ?_)
  refine congrArg (argC m c) (congrArg (fun a => ix2 a e) (Fin.ext ?_))
  dsimp only; omega

theorem tabS_at (c : Dev nD) (n : Fin 16) (h : n.val < cfg0.N) (r : Fin 16) (e : Fin 8) (i : Fin 128) :
    iblk m c 13 ⟨n.val, h⟩ (ix3 r e i) = argS m c (ix2 ⟨n.val % 4 * 2048 + (i.val * 16 + r.val), by omega⟩ e) := by
  refine (blkS_at ..).trans ((sin_at ..).trans ?_)
  refine congrArg (argS m c) (congrArg (fun a => ix2 a e) (Fin.ext ?_))
  dsimp only; omega

theorem q_row (c : Dev nD) (n : Fin 16) (h : n.val < cfg0.N) (r : Fin 16) (i : Fin 128) (k : Fin 1024) :
    qAt (iblk m c 0 ⟨n.val, h⟩) (iblk m c 1 ⟨n.val, h⟩) (iblk m c 2 ⟨n.val, h⟩) (iblk m c 3 ⟨n.val, h⟩) (iblk m c 4 ⟨n.val, h⟩) (iblk m c 5 ⟨n.val, h⟩) (iblk m c 6 ⟨n.val, h⟩) (iblk m c 7 ⟨n.val, h⟩) (iblk m c 8 ⟨n.val, h⟩) (iblk m c 9 ⟨n.val, h⟩) (iblk m c 10 ⟨n.val, h⟩) (iblk m c 12 ⟨n.val, h⟩) (iblk m c 13 ⟨n.val, h⟩) ⟨i.val * 16 + r.val, by omega⟩ r i k
      = Heads.head (Feed.normed (fun l => argX m c (ix3 ⟨n.val / 4, by omega⟩ ⟨n.val % 4 * 2048 + (i.val * 16 + r.val), by omega⟩ l)) (fun l => argG m c (ix1 l))) (fun l j => argW m c (ix2 l ⟨j.val, by omega⟩)) (fun f => argQ m c (ix1 f))
          (fun e => argC m c (ix2 ⟨n.val % 4 * 2048 + (i.val * 16 + r.val), by omega⟩ e)) (fun e => argS m c (ix2 ⟨n.val % 4 * 2048 + (i.val * 16 + r.val), by omega⟩ e)) k * Ideal.ofBits FTy.f32 0x3E38AA3B#32 := by
  unfold qAt
  simp only [row_at m c n h, weights_at, gainQ_at, tabC_at m c n h, tabS_at m c n h]

theorem k_row (c : Dev nD) (n : Fin 16) (h : n.val < cfg0.N) (r : Fin 16) (i : Fin 128) (k : Fin 1024) :
    kAt (iblk m c 0 ⟨n.val, h⟩) (iblk m c 1 ⟨n.val, h⟩) (iblk m c 2 ⟨n.val, h⟩) (iblk m c 3 ⟨n.val, h⟩) (iblk m c 4 ⟨n.val, h⟩) (iblk m c 5 ⟨n.val, h⟩) (iblk m c 6 ⟨n.val, h⟩) (iblk m c 7 ⟨n.val, h⟩) (iblk m c 8 ⟨n.val, h⟩) (iblk m c 9 ⟨n.val, h⟩) (iblk m c 11 ⟨n.val, h⟩) (iblk m c 12 ⟨n.val, h⟩) (iblk m c 13 ⟨n.val, h⟩) ⟨i.val * 16 + r.val, by omega⟩ r i k
      = Heads.head (Feed.normed (fun l => argX m c (ix3 ⟨n.val / 4, by omega⟩ ⟨n.val % 4 * 2048 + (i.val * 16 + r.val), by omega⟩ l)) (fun l => argG m c (ix1 l))) (fun l j => argW m c (ix2 l ⟨1024 + j.val, by omega⟩)) (fun f => argK m c (ix1 f))
          (fun e => argC m c (ix2 ⟨n.val % 4 * 2048 + (i.val * 16 + r.val), by omega⟩ e)) (fun e => argS m c (ix2 ⟨n.val % 4 * 2048 + (i.val * 16 + r.val), by omega⟩ e)) k := by
  unfold kAt
  simp only [row_at m c n h, weights_at, gainK_at, tabC_at m c n h, tabS_at m c n h]

theorem v_row (c : Dev nD) (n : Fin 16) (h : n.val < cfg0.N) (r : Fin 16) (i : Fin 128) (p : Fin 1152) :
    vAt (iblk m c 0 ⟨n.val, h⟩) (iblk m c 1 ⟨n.val, h⟩) (iblk m c 2 ⟨n.val, h⟩) (iblk m c 3 ⟨n.val, h⟩) (iblk m c 4 ⟨n.val, h⟩) (iblk m c 5 ⟨n.val, h⟩) (iblk m c 6 ⟨n.val, h⟩) (iblk m c 7 ⟨n.val, h⟩) (iblk m c 8 ⟨n.val, h⟩) (iblk m c 9 ⟨n.val, h⟩) ⟨i.val * 16 + r.val, by omega⟩ p
      = Heads.withOnes (fun j => ∑ l, Feed.normed (fun l => argX m c (ix3 ⟨n.val / 4, by omega⟩ ⟨n.val % 4 * 2048 + (i.val * 16 + r.val), by omega⟩ l)) (fun l => argG m c (ix1 l)) l * argW m c (ix2 l ⟨2048 + j.val, by omega⟩)) p := by
  unfold vAt
  simp only [row_at m c n h, weights_at]

/-- The reference's results. -/
abbrev goalQ (c : Dev nD) : FVec Ideal S4x16x4x1024x128 .bf16 :=
  Cert.Proj16ReferenceIdeal.Mix.queries (argX m c) (argG m c) (argW m c) (argQ m c) (argC m c) (argS m c)
abbrev goalK (c : Dev nD) : FVec Ideal S4x16x512x1024 .bf16 :=
  Cert.Proj16ReferenceIdeal.Mix.keys (argX m c) (argG m c) (argW m c) (argK m c) (argC m c) (argS m c)
abbrev goalV (c : Dev nD) : FVec Ideal S4x16x4x1152x128 .bf16 :=
  Cert.Proj16ReferenceIdeal.Mix.values (argX m c) (argG m c) (argW m c)

theorem final_q (c : Dev nD) : (dats m 0 c).arrAt 14 cfg0.N = goalQ m c := by
  have hN : cfg0.N = 16 := N_0
  refine (dats m 0 c).arrAt_eq_of_covers 14 _ (by decide +kernel) fun t hf y => ?_
  have e := (idx_tiles t).2.2.1
  have ht : t.val < 16 := t.isLt.trans_eq hN
  blk_simp
  rw [after0_14]
  unfold outsAt0
  dsimp only
  idx_vars y
  obtain rfl : y0 = 0 := Subsingleton.elim _ _
  refine (out14_at _ _ _ _ _ _ _ _ _ _ _ _ _ _ _ _ _ _ _ _ _ _ _ _ _ _ _ _ _ _ _ _ _ _ _ _ _ _ _ _ _ _ _ _ _ _ _ _ _ _ y1 y2 y3 y4).trans ?_
  refine (q_row m c ⟨t.val, ht⟩ t.isLt y1 ⟨y2.val * 128 + y4.val, by omega⟩ y3).trans ?_
  refine Eq.trans ?_ (Eq.trans (Cert.Proj16ReferenceIdeal.Mix.queries_at (argX m c) (argG m c) (argW m c) (argQ m c) (argC m c) (argS m c) ⟨t.val / 4, by omega⟩ y1 ⟨t.val % 4 * 1 + y2.val, by omega⟩ y3 y4).symm ?_)
  · have en : (⟨t.val % 4 * 2048 + ((y2.val * 128 + y4.val) * 16 + y1.val), by omega⟩ : Fin 8192) = ⟨((t.val % 4 * 1 + y2.val) * 128 + y4.val) * 16 + y1.val, by omega⟩ := Fin.ext (by dsimp only; omega)
    exact congrArg (fun a : Fin 8192 => Heads.head (Feed.normed (fun l => argX m c (ix3 ⟨t.val / 4, by omega⟩ a l)) (fun l => argG m c (ix1 l))) (fun l j => argW m c (ix2 l ⟨j.val, by omega⟩)) (fun f => argQ m c (ix1 f)) (fun e => argC m c (ix2 a e)) (fun e => argS m c (ix2 a e)) y3 * Ideal.ofBits FTy.f32 0x3E38AA3B#32) en
  · refine congrArg (goalQ m c) ?_
    blk_ext [e]

theorem final_k (c : Dev nD) : (dats m 0 c).arrAt 15 cfg0.N = goalK m c := by
  have hN : cfg0.N = 16 := N_0
  refine (dats m 0 c).arrAt_eq_of_covers 15 _ (by decide +kernel) fun t hf y => ?_
  have e := (idx_tiles t).2.2.2.1
  have ht : t.val < 16 := t.isLt.trans_eq hN
  blk_simp
  rw [after0_15]
  unfold outsAt0
  dsimp only
  idx_vars y
  obtain rfl : y0 = 0 := Subsingleton.elim _ _
  refine (out15_at _ _ _ _ _ _ _ _ _ _ _ _ _ _ _ _ _ _ _ _ _ _ _ _ _ _ _ _ _ _ _ _ _ _ _ _ _ _ _ _ _ _ _ _ _ _ _ _ _ _ y1 y2 y3).trans ?_
  refine (k_row m c ⟨t.val, ht⟩ t.isLt y1 y2 y3).trans ?_
  refine Eq.trans ?_ (Eq.trans (Cert.Proj16ReferenceIdeal.Mix.keys_at (argX m c) (argG m c) (argW m c) (argK m c) (argC m c) (argS m c) ⟨t.val / 4, by omega⟩ y1 ⟨t.val % 4 * 128 + y2.val, by omega⟩ y3).symm ?_)
  · have en : (⟨t.val % 4 * 2048 + (y2.val * 16 + y1.val), by omega⟩ : Fin 8192) = ⟨(t.val % 4 * 128 + y2.val) * 16 + y1.val, by omega⟩ := Fin.ext (by dsimp only; omega)
    exact congrArg (fun a : Fin 8192 => Heads.head (Feed.normed (fun l => argX m c (ix3 ⟨t.val / 4, by omega⟩ a l)) (fun l => argG m c (ix1 l))) (fun l j => argW m c (ix2 l ⟨1024 + j.val, by omega⟩)) (fun f => argK m c (ix1 f)) (fun e => argC m c (ix2 a e)) (fun e => argS m c (ix2 a e)) y3) en
  · refine congrArg (goalK m c) ?_
    blk_ext [e]

theorem final_v (c : Dev nD) : (dats m 0 c).arrAt 16 cfg0.N = goalV m c := by
  have hN : cfg0.N = 16 := N_0
  refine (dats m 0 c).arrAt_eq_of_covers 16 _ (by decide +kernel) fun t hf y => ?_
  have e := (idx_tiles t).2.2.2.2
  have ht : t.val < 16 := t.isLt.trans_eq hN
  blk_simp
  rw [after0_16]
  unfold outsAt0
  dsimp only
  idx_vars y
  obtain rfl : y0 = 0 := Subsingleton.elim _ _
  refine (out16_at _ _ _ _ _ _ _ _ _ _ _ _ _ _ _ _ _ _ _ _ _ _ _ _ _ _ _ _ _ _ _ _ _ _ _ _ _ _ _ _ _ _ _ _ _ _ _ _ _ _ y1 y2 y3 y4).trans ?_
  refine (v_row m c ⟨t.val, ht⟩ t.isLt y1 ⟨y2.val * 128 + y4.val, by omega⟩ y3).trans ?_
  refine Eq.trans ?_ (Eq.trans (Cert.Proj16ReferenceIdeal.Mix.values_at (argX m c) (argG m c) (argW m c) ⟨t.val / 4, by omega⟩ y1 ⟨t.val % 4 * 1 + y2.val, by omega⟩ y3 y4).symm ?_)
  · have en : (⟨t.val % 4 * 2048 + ((y2.val * 128 + y4.val) * 16 + y1.val), by omega⟩ : Fin 8192) = ⟨((t.val % 4 * 1 + y2.val) * 128 + y4.val) * 16 + y1.val, by omega⟩ := Fin.ext (by dsimp only; omega)
    exact congrArg (fun a : Fin 8192 => Heads.withOnes (fun j => ∑ l, Feed.normed (fun l => argX m c (ix3 ⟨t.val / 4, by omega⟩ a l)) (fun l => argG m c (ix1 l)) l * argW m c (ix2 l ⟨2048 + j.val, by omega⟩)) y3) en
  · refine congrArg (goalV m c) ?_
    blk_ext [e]

end Cert.Proj16KernelIdeal.Mix

namespace Cert.Proj16ReferenceIdeal.Mix

open Cert.Proj16ReferenceIdeal Cert.Proj16ReferenceIdeal.Gen
open Idealize.ShloMosaic Idealize.ShloMosaic.TcCoe Idealize.SL.Sem

/-- Turned features and the others, side by side. -/
def joined (a b : FVec Ideal S4x8192x16x8 .f32) (d : FVec Ideal S4x8192x16x48 .f32) : FVec Ideal S4x8192x1024 .f32 :=
  shapeCast S4x8192x1024 (concatenate S4x8192x16x64 3 [⟨S4x8192x16x8, a⟩, ⟨S4x8192x16x8, b⟩, ⟨S4x8192x16x48, d⟩]
    concatenates_S4x8192x16x8_S4x8192x16x8_S4x8192x16x48_S4x8192x16x64_d3) shapeCasts_S4x8192x16x64_S4x8192x1024

/-- Pairs and their further rows. -/
def stacked (p : FVec Ideal S4x16x4x8x128x128 .f32) (o : FVec Ideal S4x16x4x8x1x128 .f32) (z : FVec Ideal S4x16x4x8x15x128 .f32) : FVec Ideal S4x16x4x8x144x128 .f32 :=
  concatenate S4x16x4x8x144x128 4 [⟨S4x16x4x8x128x128, p⟩, ⟨S4x16x4x8x1x128, o⟩, ⟨S4x16x4x8x15x128, z⟩]
    concatenates_S4x16x4x8x128x128_S4x16x4x8x1x128_S4x16x4x8x15x128_S4x16x4x8x144x128_d4

/-- The three pieces of a heads' concatenation. -/
def firstTurned (t : FVec Ideal S4x8192x16x64 .f32) (c s : FVec Ideal S8192x8 .f32) : FVec Ideal S4x8192x16x8 .f32 := subf (mulf (first t) (table c)) (mulf (second t) (table s))
def secondTurned (t : FVec Ideal S4x8192x16x64 .f32) (c s : FVec Ideal S8192x8 .f32) : FVec Ideal S4x8192x16x8 .f32 := addf (mulf (second t) (table c)) (mulf (first t) (table s))
def others (t : FVec Ideal S4x8192x16x64 .f32) : FVec Ideal S4x8192x16x48 .f32 := extractStridedSlice S4x8192x16x48 ![0, 0, 0, 16] t slices_S4x8192x16x64_S4x8192x16x48_0_0_0_16
def oneRow : FVec Ideal S4x16x4x8x1x128 .f32 := broadcastInDim S4x16x4x8x1x128 ![] bcast_S_S4x16x4x8x1x128 (constant S_ .f32 0x3F800000#32)
def zeroRows : FVec Ideal S4x16x4x8x15x128 .f32 := broadcastInDim S4x16x4x8x15x128 ![] bcast_S_S4x16x4x8x15x128 (constant S_ .f32 0x00000000#32)
def headsOf (p : FVec Ideal S4x8192x1024 .f32) (gain : FVec Ideal S64 .f32) : FVec Ideal S4x8192x16x64 .f32 := headNorm (shapeCast S4x8192x16x64 p shapeCasts_S4x8192x1024_S4x8192x16x64) gain
def scaled (p : FVec Ideal S4x8192x1024 .f32) : FVec Ideal S4x8192x1024 .f32 := mulf p (broadcastInDim S4x8192x1024 ![] bcast_S_S4x8192x1024 (constant S_ .f32 0x3E38AA3B#32))

theorem queries_pieces (x : FVec Ideal S4x8192x1024 .f32) (g : FVec Ideal S1024 .f32) (w : FVec Ideal S1024x3072 .f32) (gq : FVec Ideal S64 .f32) (c s : FVec Ideal S8192x8 .f32) :
    blocks (scaled (joined (firstTurned (headsOf (queryFeatures x g w) gq) c s) (secondTurned (headsOf (queryFeatures x g w) gq) c s) (others (headsOf (queryFeatures x g w) gq)))) = queries x g w gq c s := rfl
theorem keys_pieces (x : FVec Ideal S4x8192x1024 .f32) (g : FVec Ideal S1024 .f32) (w : FVec Ideal S1024x3072 .f32) (gk : FVec Ideal S64 .f32) (c s : FVec Ideal S8192x8 .f32) :
    streams (joined (firstTurned (headsOf (keyFeatures x g w) gk) c s) (secondTurned (headsOf (keyFeatures x g w) gk) c s) (others (headsOf (keyFeatures x g w) gk))) = keys x g w gk c s := rfl
theorem values_pieces (x : FVec Ideal S4x8192x1024 .f32) (g : FVec Ideal S1024 .f32) (w : FVec Ideal S1024x3072 .f32) :
    rows (stacked (pairs (valueFeatures x g w)) oneRow zeroRows) = values x g w := rfl

end Cert.Proj16ReferenceIdeal.Mix

end
-- ==== Proof.lean ====
/-  The claims of this certificate, from the run of the kernel (`Proof.Run`) and the value of its result (`Proof.Value`). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.OutKernel
public import proofs.«01_k».proof.Proof.Gen.OutKernelIdeal
public import proofs.«01_k».proof.Proof.Gen.OutReferenceIdeal
public import proofs.«01_k».proof.Proof.Gen.OutKernelIdeal.Value
public import proofs.«01_k».proof.Proof.Gen.ConvKernel
public import proofs.«01_k».proof.Proof.Gen.ConvKernelIdeal
public import proofs.«01_k».proof.Proof.Gen.ConvKernelIdeal.Value
public import proofs.«01_k».proof.Proof.Gen.ConvReferenceIdeal
public import proofs.«01_k».proof.Proof.Gen.GateKernel
public import proofs.«01_k».proof.Proof.Gen.GateKernelIdeal
public import proofs.«01_k».proof.Proof.Gen.GateKernelIdeal.Value
public import proofs.«01_k».proof.Proof.Gen.GateReferenceIdeal
public import proofs.«01_k».proof.Proof.Gen.ProjKernel
public import proofs.«01_k».proof.Proof.Gen.ProjKernelIdeal
public import proofs.«01_k».proof.Proof.Gen.ProjKernelIdeal.Value
public import proofs.«01_k».proof.Proof.Gen.ProjReferenceIdeal
public import proofs.«01_k».proof.Proof.Gen.Proj4Kernel
public import proofs.«01_k».proof.Proof.Gen.Proj4KernelIdeal
public import proofs.«01_k».proof.Proof.Gen.Proj4KernelIdeal.Value
public import proofs.«01_k».proof.Proof.Gen.Proj4ReferenceIdeal
public import proofs.«01_k».proof.Proof.Gen.Proj16Kernel
public import proofs.«01_k».proof.Proof.Gen.Proj16KernelIdeal
public import proofs.«01_k».proof.Proof.Gen.Proj16KernelIdeal.Value
public import proofs.«01_k».proof.Proof.Gen.Proj16ReferenceIdeal
public import proofs.«01_k».proof.Proof.Pre
public import proofs.«01_k».proof.Proof.Value
public import proofs.«01_k».proof.Proof.OutValue
public import proofs.«01_k».proof.Proof.ConvValue
public import proofs.«01_k».proof.Proof.GateValue
public import proofs.«01_k».proof.Proof.ProjValue
public import proofs.«01_k».proof.Proof.Proj4Value
public import proofs.«01_k».proof.Proof.Proj16Value
public import Idealize.ShloMosaic.Lib.Claim
public import Idealize.ShloMosaic.Lib.StableHlo.RunRead
public import Idealize.ShloMosaic.Lib.Pipeline.ValueKit
public import Idealize.ShloMosaic.Adequacy
public import Idealize.ShloMosaic.Init

@[expose] public section

set_option maxRecDepth 65536

noncomputable section

namespace Cert.Proof

open Idealize.ShloMosaic Idealize.SL.Sem Cert.Kernel

/-- The two programs' kernels are one. -/
theorem rows : Cert.Kernel.defs₀ (F := Bits) = Cert.KernelIdeal.defs₀ (F := Bits) := by
  unfold Cert.Kernel.defs₀ Cert.KernelIdeal.defs₀
  refine congrArg (Defs.onTc (τ := Cert.KernelIdeal.τ) (nD := Cert.KernelIdeal.nD) (sig := Cert.KernelIdeal.sig) (Val := Elt Bits) (Λ := Cert.KernelIdeal.Λ₀)) ?_
  funext l x
  match l, x with
  | ⟨0, _⟩, x => rfl

theorem tables : Cert.Kernel.defs (F := Bits) = Cert.KernelIdeal.defs (F := Bits) :=
  congrArg (Pipeline.defs Cert.KernelIdeal.pcfgs) rows

theorem frame_kernel : Cert.quiescent_Kernel (hKernel := Cert.Kernel.Gen.facts) := fun m g _ => by
  rw [tables]
  exact (θ_run (Cert.KernelIdeal.defs (F := Bits)) _ _).mono (fun _ h => h) (Cert.KernelIdeal.Attn.run_frame (F := Bits) m g)

theorem frame_ideal : Cert.quiescent_KernelIdeal (hKernelIdeal := Cert.KernelIdeal.Gen.facts) := fun m g _ =>
  Cert.KernelIdeal.Attn.run_frame (F := Ideal) m g

theorem frame_reference : Cert.quiescent_ReferenceIdeal (hReferenceIdeal := Cert.ReferenceIdeal.Gen.facts) := fun m g _ => by
  exact (θ_run Cert.ReferenceIdeal.defs _ _).mono (Q := fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
    (fun r h => ⟨h, sem_eq_zero_of_no_sems (sig := Cert.ReferenceIdeal.sig) (by decide) r.2⟩) (by hlo_run)

theorem value : Cert.algebraic_KernelIdeal_ReferenceIdeal_pre_finite_queries_and_keys (hKernelIdeal := Cert.KernelIdeal.Gen.facts)
    (hReferenceIdeal := Cert.ReferenceIdeal.Gen.facts) (hPre_finite_queries_and_keys := Cert.Pre_finite_queries_and_keys.Attn.facts) := by
  pair_intro
  · run_from Cert.KernelIdeal.Attn.run_post m g
  · hlo_run
    obtain ⟨hq, hk⟩ := Cert.Pre_finite_queries_and_keys.Attn.finite (hpre c)
    choose Q hQ using hq
    choose K hK using hk
    exact (Cert.KernelIdeal.Attn.final (m := m) (c := c) (Q := fun b n f => Q (ix3 b n f)) (K := fun b n f => K (ix3 b n f))
      (fun b n f => hQ _) (fun b n f => hK _)).symm

/-- The two programs' kernels are one. -/
theorem out_rows : Cert.OutKernel.defs₀ (F := Bits) = Cert.OutKernelIdeal.defs₀ (F := Bits) := by
  unfold Cert.OutKernel.defs₀ Cert.OutKernelIdeal.defs₀
  refine congrArg (Defs.onTc (τ := Cert.OutKernelIdeal.τ) (nD := Cert.OutKernelIdeal.nD) (sig := Cert.OutKernelIdeal.sig) (Val := Elt Bits) (Λ := Cert.OutKernelIdeal.Λ₀)) ?_
  funext l x
  match l, x with
  | ⟨0, _⟩, x => rfl

theorem out_tables : Cert.OutKernel.defs (F := Bits) = Cert.OutKernelIdeal.defs (F := Bits) := congrArg (Pipeline.defs Cert.OutKernelIdeal.pcfgs) out_rows

theorem out_frame_kernel : Cert.quiescent_OutKernel (hOutKernel := Cert.OutKernel.Gen.facts) := fun m g _ => by
  rw [out_tables]
  exact (θ_run (Cert.OutKernelIdeal.defs (F := Bits)) _ _).mono (fun _ h => h) (Cert.OutKernelIdeal.Gen.frame (F := Bits) m g)

theorem out_frame_ideal : Cert.quiescent_OutKernelIdeal (hOutKernelIdeal := Cert.OutKernelIdeal.Gen.facts) := fun m g _ =>
  Cert.OutKernelIdeal.Gen.frame (F := Ideal) m g

theorem out_frame_reference : Cert.quiescent_OutReferenceIdeal (hOutReferenceIdeal := Cert.OutReferenceIdeal.Gen.facts) := fun m g _ => by
  exact (θ_run Cert.OutReferenceIdeal.defs _ _).mono (Q := fun r => ∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
    (fun r h => ⟨h, sem_eq_zero_of_no_sems (sig := Cert.OutReferenceIdeal.sig) (by decide) r.2⟩) (by hlo_run)

theorem out_value : Cert.algebraic_OutKernelIdeal_OutReferenceIdeal (hOutKernelIdeal := Cert.OutKernelIdeal.Gen.facts)
    (hOutReferenceIdeal := Cert.OutReferenceIdeal.Gen.facts) := by
  pair_intro
  · run_from Cert.OutKernelIdeal.Value.run_blocks m g
  · hlo_run
    exact (Cert.OutKernelIdeal.Mlp.final m c).symm

/-- The two programs' kernels are one. -/
theorem conv_rows : Cert.ConvKernel.defs₀ (F := Bits) = Cert.ConvKernelIdeal.defs₀ (F := Bits) := by
  unfold Cert.ConvKernel.defs₀ Cert.ConvKernelIdeal.defs₀
  refine congrArg (Defs.onTc (τ := Cert.ConvKernelIdeal.τ) (nD := Cert.ConvKernelIdeal.nD) (sig := Cert.ConvKernelIdeal.sig) (Val := Elt Bits) (Λ := Cert.ConvKernelIdeal.Λ₀)) ?_
  funext l x
  match l, x with
  | ⟨0, _⟩, x => rfl

theorem conv_tables : Cert.ConvKernel.defs (F := Bits) = Cert.ConvKernelIdeal.defs (F := Bits) := congrArg (Pipeline.defs Cert.ConvKernelIdeal.pcfgs) conv_rows

theorem conv_frame_kernel : Cert.quiescent_ConvKernel (hConvKernel := Cert.ConvKernel.Gen.facts) := fun m g _ => by
  rw [conv_tables]
  exact (θ_run (Cert.ConvKernelIdeal.defs (F := Bits)) _ _).mono (fun _ h => h) (Cert.ConvKernelIdeal.Gen.frame (F := Bits) m g)

theorem conv_frame_ideal : Cert.quiescent_ConvKernelIdeal (hConvKernelIdeal := Cert.ConvKernelIdeal.Gen.facts) := fun m g _ =>
  Cert.ConvKernelIdeal.Gen.frame (F := Ideal) m g

theorem conv_frame_reference : Cert.quiescent_ConvReferenceIdeal (hConvReferenceIdeal := Cert.ConvReferenceIdeal.Gen.facts) := fun m g _ => by
  exact (θ_run Cert.ConvReferenceIdeal.defs _ _).mono (Q := fun r => ∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6)
      ∧ r.2.mem ((c.tc : Thread Cert.ConvReferenceIdeal.nD Cert.ConvReferenceIdeal.τ).loc Cert.ConvReferenceIdeal.main_arg7) = m ((c.tc : Thread Cert.ConvReferenceIdeal.nD Cert.ConvReferenceIdeal.τ).loc Cert.ConvReferenceIdeal.main_arg7))
    (fun r h => ⟨h, sem_eq_zero_of_no_sems (sig := Cert.ConvReferenceIdeal.sig) (by decide) r.2⟩) (by hlo_run)

theorem conv_value : Cert.algebraic_ConvKernelIdeal_ConvReferenceIdeal (hConvKernelIdeal := Cert.ConvKernelIdeal.Gen.facts)
    (hConvReferenceIdeal := Cert.ConvReferenceIdeal.Gen.facts) := by
  pair_intro
  · run_from Cert.ConvKernelIdeal.Value.run_blocks m g
  · hlo_run
    exact (Cert.ConvKernelIdeal.Mix.final m c).symm
/-- The two programs' kernels are one. -/
theorem gate_rows : Cert.GateKernel.defs₀ (F := Bits) = Cert.GateKernelIdeal.defs₀ (F := Bits) := by
  unfold Cert.GateKernel.defs₀ Cert.GateKernelIdeal.defs₀
  refine congrArg (Defs.onTc (τ := Cert.GateKernelIdeal.τ) (nD := Cert.GateKernelIdeal.nD) (sig := Cert.GateKernelIdeal.sig) (Val := Elt Bits) (Λ := Cert.GateKernelIdeal.Λ₀)) ?_
  funext l x
  match l, x with
  | ⟨0, _⟩, x => rfl

theorem gate_tables : Cert.GateKernel.defs (F := Bits) = Cert.GateKernelIdeal.defs (F := Bits) := congrArg (Pipeline.defs Cert.GateKernelIdeal.pcfgs) gate_rows

theorem gate_frame_kernel : Cert.quiescent_GateKernel (hGateKernel := Cert.GateKernel.Gen.facts) := fun m g _ => by
  rw [gate_tables]
  exact (θ_run (Cert.GateKernelIdeal.defs (F := Bits)) _ _).mono (fun _ h => h) (Cert.GateKernelIdeal.Gen.frame (F := Bits) m g)

theorem gate_frame_ideal : Cert.quiescent_GateKernelIdeal (hGateKernelIdeal := Cert.GateKernelIdeal.Gen.facts) := fun m g _ =>
  Cert.GateKernelIdeal.Gen.frame (F := Ideal) m g

theorem gate_frame_reference : Cert.quiescent_GateReferenceIdeal (hGateReferenceIdeal := Cert.GateReferenceIdeal.Gen.facts) := fun m g _ => by
  exact (θ_run Cert.GateReferenceIdeal.defs _ _).mono (Q := fun r => ∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
    (fun r h => ⟨h, sem_eq_zero_of_no_sems (sig := Cert.GateReferenceIdeal.sig) (by decide) r.2⟩) (by hlo_run)

theorem gate_value : Cert.algebraic_GateKernelIdeal_GateReferenceIdeal (hGateKernelIdeal := Cert.GateKernelIdeal.Gen.facts)
    (hGateReferenceIdeal := Cert.GateReferenceIdeal.Gen.facts) := by
  pair_intro
  · run_from Cert.GateKernelIdeal.Value.run_blocks m g
  · hlo_run
    · exact (Cert.GateKernelIdeal.Mix.final_gate m c).symm
    · exact (Cert.GateKernelIdeal.Mix.final_gated m c).symm
set_option maxHeartbeats 2000000 in
/-- The two programs' kernels are one. -/
theorem proj_rows : Cert.ProjKernel.defs₀ (F := Bits) = Cert.ProjKernelIdeal.defs₀ (F := Bits) := by
  unfold Cert.ProjKernel.defs₀ Cert.ProjKernelIdeal.defs₀
  refine congrArg (Defs.onTc (τ := Cert.ProjKernelIdeal.τ) (nD := Cert.ProjKernelIdeal.nD) (sig := Cert.ProjKernelIdeal.sig) (Val := Elt Bits) (Λ := Cert.ProjKernelIdeal.Λ₀)) ?_
  funext l x
  match l, x with
  | ⟨0, _⟩, x => rfl

theorem proj_tables : Cert.ProjKernel.defs (F := Bits) = Cert.ProjKernelIdeal.defs (F := Bits) := congrArg (Pipeline.defs Cert.ProjKernelIdeal.pcfgs) proj_rows

theorem proj_frame_kernel : Cert.quiescent_ProjKernel (hProjKernel := Cert.ProjKernel.Gen.facts) := fun m g _ => by
  rw [proj_tables]
  exact (θ_run (Cert.ProjKernelIdeal.defs (F := Bits)) _ _).mono (fun _ h => h) (Cert.ProjKernelIdeal.Gen.frame (F := Bits) m g)

theorem proj_frame_ideal : Cert.quiescent_ProjKernelIdeal (hProjKernelIdeal := Cert.ProjKernelIdeal.Gen.facts) := fun m g _ =>
  Cert.ProjKernelIdeal.Gen.frame (F := Ideal) m g

theorem proj_frame_reference : Cert.quiescent_ProjReferenceIdeal (hProjReferenceIdeal := Cert.ProjReferenceIdeal.Gen.facts) := fun m g _ => by
  exact (θ_run Cert.ProjReferenceIdeal.defs _ _).mono (Q := fun r => ∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
    (fun r h => ⟨h, sem_eq_zero_of_no_sems (sig := Cert.ProjReferenceIdeal.sig) (by decide) r.2⟩) (by hlo_run)

/-- What a line of operations leaves, from what its first operations leave. -/
theorem stage {τ : Topo} {sig : RefSig} {Val : EltTy → Type} {ops : List (HloOp τ sig Val)} {V : Valuation τ sig Val} {b : DevRef τ sig} {X} (n : Nat)
    (h : ∀ W, W = Idealize.ShloMosaic.StableHlo.after (ops.take n) V → Idealize.ShloMosaic.StableHlo.after (ops.drop n) W b = X) : Idealize.ShloMosaic.StableHlo.after ops V b = X := by
  have e : ∀ (l₁ l₂ : List (HloOp τ sig Val)) (V : Valuation τ sig Val), Idealize.ShloMosaic.StableHlo.after (l₁ ++ l₂) V = Idealize.ShloMosaic.StableHlo.after l₂ (Idealize.ShloMosaic.StableHlo.after l₁ V) := by
    intro l₁
    induction l₁ with
    | nil => intro l₂ V; rfl
    | cons op l ih => intro l₂ V; exact ih ..
  exact (congrFun ((congrArg (fun o => Idealize.ShloMosaic.StableHlo.after o V) (List.take_append_drop n ops).symm).trans (e ..)) b).trans (h _ rfl)

set_option maxHeartbeats 2000000 in
theorem proj_value : Cert.algebraic_ProjKernelIdeal_ProjReferenceIdeal (hProjKernelIdeal := Cert.ProjKernelIdeal.Gen.facts)
    (hProjReferenceIdeal := Cert.ProjReferenceIdeal.Gen.facts) := by
  pair_intro
  · run_from Cert.ProjKernelIdeal.Value.run_blocks m g
  · refine Idealize.ShloMosaic.θ_run_mono (Idealize.ShloMosaic.StableHlo.run_hlo _ _ (by hlo_seq) (by decide) (by decide) (by simp)
      (by intro _ h; (repeat (cases h with | head => rfl | tail _ h => ?_)); exact nomatch h) _ _) ?_
    intro r hr c
    have hc := hr c
    clear hr
    obtain ⟨h0, h1, h2, h3, h4, h5, h6⟩ := hagree c
    and_intros
    · refine (hc Cert.ProjReferenceIdeal.main_v99).trans ?_
      clear hc
      refine stage 56 fun W hW => ?_
      have a0 : (W (Proc.devRef .tc Cert.ProjReferenceIdeal.main_v42)) = Cert.ProjReferenceIdeal.Mix.firstTurned (Cert.ProjReferenceIdeal.Mix.headsOf (Cert.ProjReferenceIdeal.Mix.queryFeatures (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))) (m' ((c.tc : Thread Cert.ProjReferenceIdeal.nD Cert.ProjReferenceIdeal.τ).loc Cert.ProjReferenceIdeal.main_arg3))) (m' ((c.tc : Thread Cert.ProjReferenceIdeal.nD Cert.ProjReferenceIdeal.τ).loc Cert.ProjReferenceIdeal.main_arg5)) (m' ((c.tc : Thread Cert.ProjReferenceIdeal.nD Cert.ProjReferenceIdeal.τ).loc Cert.ProjReferenceIdeal.main_arg6)) := by
        rw [hW]
        after_reads_simp
        rfl
      have a1 : (W (Proc.devRef .tc Cert.ProjReferenceIdeal.main_v49)) = Cert.ProjReferenceIdeal.Mix.secondTurned (Cert.ProjReferenceIdeal.Mix.headsOf (Cert.ProjReferenceIdeal.Mix.queryFeatures (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))) (m' ((c.tc : Thread Cert.ProjReferenceIdeal.nD Cert.ProjReferenceIdeal.τ).loc Cert.ProjReferenceIdeal.main_arg3))) (m' ((c.tc : Thread Cert.ProjReferenceIdeal.nD Cert.ProjReferenceIdeal.τ).loc Cert.ProjReferenceIdeal.main_arg5)) (m' ((c.tc : Thread Cert.ProjReferenceIdeal.nD Cert.ProjReferenceIdeal.τ).loc Cert.ProjReferenceIdeal.main_arg6)) := by
        rw [hW]
        after_reads_simp
        rfl
      have a2 : (W (Proc.devRef .tc Cert.ProjReferenceIdeal.main_v33)) = Cert.ProjReferenceIdeal.Mix.others (Cert.ProjReferenceIdeal.Mix.headsOf (Cert.ProjReferenceIdeal.Mix.queryFeatures (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))) (m' ((c.tc : Thread Cert.ProjReferenceIdeal.nD Cert.ProjReferenceIdeal.τ).loc Cert.ProjReferenceIdeal.main_arg3))) := by
        rw [hW]
        after_reads_simp
        rfl
      clear hW
      refine Eq.trans (b := Cert.ProjReferenceIdeal.Mix.blocks (Cert.ProjReferenceIdeal.Mix.scaled (Cert.ProjReferenceIdeal.Mix.joined (W (Proc.devRef .tc Cert.ProjReferenceIdeal.main_v42)) (W (Proc.devRef .tc Cert.ProjReferenceIdeal.main_v49)) (W (Proc.devRef .tc Cert.ProjReferenceIdeal.main_v33))))) ?_ ?_
      · after_reads_simp
        rfl
      · rw [a0, a1, a2, Cert.ProjReferenceIdeal.Mix.queries_pieces, h0, h1, h2, h3, h5, h6]
        exact (Cert.ProjKernelIdeal.Mix.final_q m c).symm
    · refine (hc Cert.ProjReferenceIdeal.main_v100).trans ?_
      clear hc
      refine stage 97 fun W hW => ?_
      have a0 : (W (Proc.devRef .tc Cert.ProjReferenceIdeal.main_v79)) = Cert.ProjReferenceIdeal.Mix.firstTurned (Cert.ProjReferenceIdeal.Mix.headsOf (Cert.ProjReferenceIdeal.Mix.keyFeatures (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))) (m' ((c.tc : Thread Cert.ProjReferenceIdeal.nD Cert.ProjReferenceIdeal.τ).loc Cert.ProjReferenceIdeal.main_arg4))) (m' ((c.tc : Thread Cert.ProjReferenceIdeal.nD Cert.ProjReferenceIdeal.τ).loc Cert.ProjReferenceIdeal.main_arg5)) (m' ((c.tc : Thread Cert.ProjReferenceIdeal.nD Cert.ProjReferenceIdeal.τ).loc Cert.ProjReferenceIdeal.main_arg6)) := by
        rw [hW]
        after_reads_simp
        rfl
      have a1 : (W (Proc.devRef .tc Cert.ProjReferenceIdeal.main_v86)) = Cert.ProjReferenceIdeal.Mix.secondTurned (Cert.ProjReferenceIdeal.Mix.headsOf (Cert.ProjReferenceIdeal.Mix.keyFeatures (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))) (m' ((c.tc : Thread Cert.ProjReferenceIdeal.nD Cert.ProjReferenceIdeal.τ).loc Cert.ProjReferenceIdeal.main_arg4))) (m' ((c.tc : Thread Cert.ProjReferenceIdeal.nD Cert.ProjReferenceIdeal.τ).loc Cert.ProjReferenceIdeal.main_arg5)) (m' ((c.tc : Thread Cert.ProjReferenceIdeal.nD Cert.ProjReferenceIdeal.τ).loc Cert.ProjReferenceIdeal.main_arg6)) := by
        rw [hW]
        after_reads_simp
        rfl
      have a2 : (W (Proc.devRef .tc Cert.ProjReferenceIdeal.main_v70)) = Cert.ProjReferenceIdeal.Mix.others (Cert.ProjReferenceIdeal.Mix.headsOf (Cert.ProjReferenceIdeal.Mix.keyFeatures (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))) (m' ((c.tc : Thread Cert.ProjReferenceIdeal.nD Cert.ProjReferenceIdeal.τ).loc Cert.ProjReferenceIdeal.main_arg4))) := by
        rw [hW]
        after_reads_simp
        rfl
      clear hW
      refine Eq.trans (b := Cert.ProjReferenceIdeal.Mix.streams (Cert.ProjReferenceIdeal.Mix.joined (W (Proc.devRef .tc Cert.ProjReferenceIdeal.main_v79)) (W (Proc.devRef .tc Cert.ProjReferenceIdeal.main_v86)) (W (Proc.devRef .tc Cert.ProjReferenceIdeal.main_v70)))) ?_ ?_
      · after_reads_simp
        rfl
      · rw [a0, a1, a2, Cert.ProjReferenceIdeal.Mix.keys_pieces, h0, h1, h2, h4, h5, h6]
        exact (Cert.ProjKernelIdeal.Mix.final_k m c).symm
    · refine (hc Cert.ProjReferenceIdeal.main_v101).trans ?_
      clear hc
      refine stage 109 fun W hW => ?_
      have a0 : (W (Proc.devRef .tc Cert.ProjReferenceIdeal.main_v94)) = Cert.ProjReferenceIdeal.Mix.pairs (Cert.ProjReferenceIdeal.Mix.valueFeatures (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))) := by
        rw [hW]
        after_reads_simp
        rfl
      have a1 : (W (Proc.devRef .tc Cert.ProjReferenceIdeal.main_v95)) = Cert.ProjReferenceIdeal.Mix.oneRow := by
        rw [hW]
        after_reads_simp
        rfl
      have a2 : (W (Proc.devRef .tc Cert.ProjReferenceIdeal.main_v96)) = Cert.ProjReferenceIdeal.Mix.zeroRows := by
        rw [hW]
        after_reads_simp
        rfl
      clear hW
      refine Eq.trans (b := Cert.ProjReferenceIdeal.Mix.rows (Cert.ProjReferenceIdeal.Mix.stacked (W (Proc.devRef .tc Cert.ProjReferenceIdeal.main_v94)) (W (Proc.devRef .tc Cert.ProjReferenceIdeal.main_v95)) (W (Proc.devRef .tc Cert.ProjReferenceIdeal.main_v96)))) ?_ ?_
      · after_reads_simp
        rfl
      · rw [a0, a1, a2, Cert.ProjReferenceIdeal.Mix.values_pieces, h0, h1, h2]
        exact (Cert.ProjKernelIdeal.Mix.final_v m c).symm
    · refine (hc Cert.ProjReferenceIdeal.main_arg0).trans ?_
      clear hc
      after_reads_simp
    · refine (hc Cert.ProjReferenceIdeal.main_arg1).trans ?_
      clear hc
      after_reads_simp
    · refine (hc Cert.ProjReferenceIdeal.main_arg2).trans ?_
      clear hc
      after_reads_simp
    · refine (hc Cert.ProjReferenceIdeal.main_arg3).trans ?_
      clear hc
      after_reads_simp
    · refine (hc Cert.ProjReferenceIdeal.main_arg4).trans ?_
      clear hc
      after_reads_simp
    · refine (hc Cert.ProjReferenceIdeal.main_arg5).trans ?_
      clear hc
      after_reads_simp
    · refine (hc Cert.ProjReferenceIdeal.main_arg6).trans ?_
      clear hc
      after_reads_simp

set_option maxHeartbeats 2000000 in
/-- The two programs' kernels are one. -/
theorem projFour_rows : Cert.Proj4Kernel.defs₀ (F := Bits) = Cert.Proj4KernelIdeal.defs₀ (F := Bits) := by
  unfold Cert.Proj4Kernel.defs₀ Cert.Proj4KernelIdeal.defs₀
  refine congrArg (Defs.onTc (τ := Cert.Proj4KernelIdeal.τ) (nD := Cert.Proj4KernelIdeal.nD) (sig := Cert.Proj4KernelIdeal.sig) (Val := Elt Bits) (Λ := Cert.Proj4KernelIdeal.Λ₀)) ?_
  funext l x
  match l, x with
  | ⟨0, _⟩, x => rfl

theorem projFour_tables : Cert.Proj4Kernel.defs (F := Bits) = Cert.Proj4KernelIdeal.defs (F := Bits) := congrArg (Pipeline.defs Cert.Proj4KernelIdeal.pcfgs) projFour_rows

theorem projFour_frame_kernel : Cert.quiescent_Proj4Kernel (hProj4Kernel := Cert.Proj4Kernel.Gen.facts) := fun m g _ => by
  rw [projFour_tables]
  exact (θ_run (Cert.Proj4KernelIdeal.defs (F := Bits)) _ _).mono (fun _ h => h) (Cert.Proj4KernelIdeal.Gen.frame (F := Bits) m g)

theorem projFour_frame_ideal : Cert.quiescent_Proj4KernelIdeal (hProj4KernelIdeal := Cert.Proj4KernelIdeal.Gen.facts) := fun m g _ =>
  Cert.Proj4KernelIdeal.Gen.frame (F := Ideal) m g

theorem projFour_frame_reference : Cert.quiescent_Proj4ReferenceIdeal (hProj4ReferenceIdeal := Cert.Proj4ReferenceIdeal.Gen.facts) := fun m g _ => by
  exact (θ_run Cert.Proj4ReferenceIdeal.defs _ _).mono (Q := fun r => ∀ c : Dev Cert.Proj4ReferenceIdeal.nD,
      r.2.mem ((c.tc : Thread Cert.Proj4ReferenceIdeal.nD Cert.Proj4ReferenceIdeal.τ).loc Cert.Proj4ReferenceIdeal.main_arg0) = m ((c.tc : Thread Cert.Proj4ReferenceIdeal.nD Cert.Proj4ReferenceIdeal.τ).loc Cert.Proj4ReferenceIdeal.main_arg0)
      ∧ r.2.mem ((c.tc : Thread Cert.Proj4ReferenceIdeal.nD Cert.Proj4ReferenceIdeal.τ).loc Cert.Proj4ReferenceIdeal.main_arg1) = m ((c.tc : Thread Cert.Proj4ReferenceIdeal.nD Cert.Proj4ReferenceIdeal.τ).loc Cert.Proj4ReferenceIdeal.main_arg1)
      ∧ r.2.mem ((c.tc : Thread Cert.Proj4ReferenceIdeal.nD Cert.Proj4ReferenceIdeal.τ).loc Cert.Proj4ReferenceIdeal.main_arg2) = m ((c.tc : Thread Cert.Proj4ReferenceIdeal.nD Cert.Proj4ReferenceIdeal.τ).loc Cert.Proj4ReferenceIdeal.main_arg2)
      ∧ r.2.mem ((c.tc : Thread Cert.Proj4ReferenceIdeal.nD Cert.Proj4ReferenceIdeal.τ).loc Cert.Proj4ReferenceIdeal.main_arg3) = m ((c.tc : Thread Cert.Proj4ReferenceIdeal.nD Cert.Proj4ReferenceIdeal.τ).loc Cert.Proj4ReferenceIdeal.main_arg3)
      ∧ r.2.mem ((c.tc : Thread Cert.Proj4ReferenceIdeal.nD Cert.Proj4ReferenceIdeal.τ).loc Cert.Proj4ReferenceIdeal.main_arg4) = m ((c.tc : Thread Cert.Proj4ReferenceIdeal.nD Cert.Proj4ReferenceIdeal.τ).loc Cert.Proj4ReferenceIdeal.main_arg4)
      ∧ r.2.mem ((c.tc : Thread Cert.Proj4ReferenceIdeal.nD Cert.Proj4ReferenceIdeal.τ).loc Cert.Proj4ReferenceIdeal.main_arg5) = m ((c.tc : Thread Cert.Proj4ReferenceIdeal.nD Cert.Proj4ReferenceIdeal.τ).loc Cert.Proj4ReferenceIdeal.main_arg5)
      ∧ r.2.mem ((c.tc : Thread Cert.Proj4ReferenceIdeal.nD Cert.Proj4ReferenceIdeal.τ).loc Cert.Proj4ReferenceIdeal.main_arg6) = m ((c.tc : Thread Cert.Proj4ReferenceIdeal.nD Cert.Proj4ReferenceIdeal.τ).loc Cert.Proj4ReferenceIdeal.main_arg6))
    (fun r h => ⟨h, sem_eq_zero_of_no_sems (sig := Cert.Proj4ReferenceIdeal.sig) (by decide) r.2⟩) (by hlo_run)

set_option maxHeartbeats 2000000 in
theorem projFour_value : Cert.algebraic_Proj4KernelIdeal_Proj4ReferenceIdeal (hProj4KernelIdeal := Cert.Proj4KernelIdeal.Gen.facts)
    (hProj4ReferenceIdeal := Cert.Proj4ReferenceIdeal.Gen.facts) := by
  pair_intro
  · run_from Cert.Proj4KernelIdeal.Value.run_blocks m g
  · refine Idealize.ShloMosaic.θ_run_mono (Idealize.ShloMosaic.StableHlo.run_hlo _ _ (by hlo_seq) (by decide) (by decide) (by simp)
      (by intro _ h; (repeat (cases h with | head => rfl | tail _ h => ?_)); exact nomatch h) _ _) ?_
    intro r hr c
    have hc := hr c
    clear hr
    obtain ⟨h0, h1, h2, h3, h4, h5, h6⟩ := hagree c
    and_intros
    · refine (hc Cert.Proj4ReferenceIdeal.main_v99).trans ?_
      clear hc
      refine stage 56 fun W hW => ?_
      have a0 : (W (Proc.devRef .tc Cert.Proj4ReferenceIdeal.main_v42)) = Cert.Proj4ReferenceIdeal.Mix.firstTurned (Cert.Proj4ReferenceIdeal.Mix.headsOf (Cert.Proj4ReferenceIdeal.Mix.queryFeatures (m' ((c.tc : Thread Cert.Proj4ReferenceIdeal.nD Cert.Proj4ReferenceIdeal.τ).loc Cert.Proj4ReferenceIdeal.main_arg0)) (m' ((c.tc : Thread Cert.Proj4ReferenceIdeal.nD Cert.Proj4ReferenceIdeal.τ).loc Cert.Proj4ReferenceIdeal.main_arg1)) (m' ((c.tc : Thread Cert.Proj4ReferenceIdeal.nD Cert.Proj4ReferenceIdeal.τ).loc Cert.Proj4ReferenceIdeal.main_arg2))) (m' ((c.tc : Thread Cert.Proj4ReferenceIdeal.nD Cert.Proj4ReferenceIdeal.τ).loc Cert.Proj4ReferenceIdeal.main_arg3))) (m' ((c.tc : Thread Cert.Proj4ReferenceIdeal.nD Cert.Proj4ReferenceIdeal.τ).loc Cert.Proj4ReferenceIdeal.main_arg5)) (m' ((c.tc : Thread Cert.Proj4ReferenceIdeal.nD Cert.Proj4ReferenceIdeal.τ).loc Cert.Proj4ReferenceIdeal.main_arg6)) := by
        rw [hW]
        after_reads_simp
        rfl
      have a1 : (W (Proc.devRef .tc Cert.Proj4ReferenceIdeal.main_v49)) = Cert.Proj4ReferenceIdeal.Mix.secondTurned (Cert.Proj4ReferenceIdeal.Mix.headsOf (Cert.Proj4ReferenceIdeal.Mix.queryFeatures (m' ((c.tc : Thread Cert.Proj4ReferenceIdeal.nD Cert.Proj4ReferenceIdeal.τ).loc Cert.Proj4ReferenceIdeal.main_arg0)) (m' ((c.tc : Thread Cert.Proj4ReferenceIdeal.nD Cert.Proj4ReferenceIdeal.τ).loc Cert.Proj4ReferenceIdeal.main_arg1)) (m' ((c.tc : Thread Cert.Proj4ReferenceIdeal.nD Cert.Proj4ReferenceIdeal.τ).loc Cert.Proj4ReferenceIdeal.main_arg2))) (m' ((c.tc : Thread Cert.Proj4ReferenceIdeal.nD Cert.Proj4ReferenceIdeal.τ).loc Cert.Proj4ReferenceIdeal.main_arg3))) (m' ((c.tc : Thread Cert.Proj4ReferenceIdeal.nD Cert.Proj4ReferenceIdeal.τ).loc Cert.Proj4ReferenceIdeal.main_arg5)) (m' ((c.tc : Thread Cert.Proj4ReferenceIdeal.nD Cert.Proj4ReferenceIdeal.τ).loc Cert.Proj4ReferenceIdeal.main_arg6)) := by
        rw [hW]
        after_reads_simp
        rfl
      have a2 : (W (Proc.devRef .tc Cert.Proj4ReferenceIdeal.main_v33)) = Cert.Proj4ReferenceIdeal.Mix.others (Cert.Proj4ReferenceIdeal.Mix.headsOf (Cert.Proj4ReferenceIdeal.Mix.queryFeatures (m' ((c.tc : Thread Cert.Proj4ReferenceIdeal.nD Cert.Proj4ReferenceIdeal.τ).loc Cert.Proj4ReferenceIdeal.main_arg0)) (m' ((c.tc : Thread Cert.Proj4ReferenceIdeal.nD Cert.Proj4ReferenceIdeal.τ).loc Cert.Proj4ReferenceIdeal.main_arg1)) (m' ((c.tc : Thread Cert.Proj4ReferenceIdeal.nD Cert.Proj4ReferenceIdeal.τ).loc Cert.Proj4ReferenceIdeal.main_arg2))) (m' ((c.tc : Thread Cert.Proj4ReferenceIdeal.nD Cert.Proj4ReferenceIdeal.τ).loc Cert.Proj4ReferenceIdeal.main_arg3))) := by
        rw [hW]
        after_reads_simp
        rfl
      clear hW
      refine Eq.trans (b := Cert.Proj4ReferenceIdeal.Mix.blocks (Cert.Proj4ReferenceIdeal.Mix.scaled (Cert.Proj4ReferenceIdeal.Mix.joined (W (Proc.devRef .tc Cert.Proj4ReferenceIdeal.main_v42)) (W (Proc.devRef .tc Cert.Proj4ReferenceIdeal.main_v49)) (W (Proc.devRef .tc Cert.Proj4ReferenceIdeal.main_v33))))) ?_ ?_
      · after_reads_simp
        rfl
      · rw [a0, a1, a2, Cert.Proj4ReferenceIdeal.Mix.queries_pieces, h0, h1, h2, h3, h5, h6]
        exact (Cert.Proj4KernelIdeal.Mix.final_q m c).symm
    · refine (hc Cert.Proj4ReferenceIdeal.main_v100).trans ?_
      clear hc
      refine stage 97 fun W hW => ?_
      have a0 : (W (Proc.devRef .tc Cert.Proj4ReferenceIdeal.main_v79)) = Cert.Proj4ReferenceIdeal.Mix.firstTurned (Cert.Proj4ReferenceIdeal.Mix.headsOf (Cert.Proj4ReferenceIdeal.Mix.keyFeatures (m' ((c.tc : Thread Cert.Proj4ReferenceIdeal.nD Cert.Proj4ReferenceIdeal.τ).loc Cert.Proj4ReferenceIdeal.main_arg0)) (m' ((c.tc : Thread Cert.Proj4ReferenceIdeal.nD Cert.Proj4ReferenceIdeal.τ).loc Cert.Proj4ReferenceIdeal.main_arg1)) (m' ((c.tc : Thread Cert.Proj4ReferenceIdeal.nD Cert.Proj4ReferenceIdeal.τ).loc Cert.Proj4ReferenceIdeal.main_arg2))) (m' ((c.tc : Thread Cert.Proj4ReferenceIdeal.nD Cert.Proj4ReferenceIdeal.τ).loc Cert.Proj4ReferenceIdeal.main_arg4))) (m' ((c.tc : Thread Cert.Proj4ReferenceIdeal.nD Cert.Proj4ReferenceIdeal.τ).loc Cert.Proj4ReferenceIdeal.main_arg5)) (m' ((c.tc : Thread Cert.Proj4ReferenceIdeal.nD Cert.Proj4ReferenceIdeal.τ).loc Cert.Proj4ReferenceIdeal.main_arg6)) := by
        rw [hW]
        after_reads_simp
        rfl
      have a1 : (W (Proc.devRef .tc Cert.Proj4ReferenceIdeal.main_v86)) = Cert.Proj4ReferenceIdeal.Mix.secondTurned (Cert.Proj4ReferenceIdeal.Mix.headsOf (Cert.Proj4ReferenceIdeal.Mix.keyFeatures (m' ((c.tc : Thread Cert.Proj4ReferenceIdeal.nD Cert.Proj4ReferenceIdeal.τ).loc Cert.Proj4ReferenceIdeal.main_arg0)) (m' ((c.tc : Thread Cert.Proj4ReferenceIdeal.nD Cert.Proj4ReferenceIdeal.τ).loc Cert.Proj4ReferenceIdeal.main_arg1)) (m' ((c.tc : Thread Cert.Proj4ReferenceIdeal.nD Cert.Proj4ReferenceIdeal.τ).loc Cert.Proj4ReferenceIdeal.main_arg2))) (m' ((c.tc : Thread Cert.Proj4ReferenceIdeal.nD Cert.Proj4ReferenceIdeal.τ).loc Cert.Proj4ReferenceIdeal.main_arg4))) (m' ((c.tc : Thread Cert.Proj4ReferenceIdeal.nD Cert.Proj4ReferenceIdeal.τ).loc Cert.Proj4ReferenceIdeal.main_arg5)) (m' ((c.tc : Thread Cert.Proj4ReferenceIdeal.nD Cert.Proj4ReferenceIdeal.τ).loc Cert.Proj4ReferenceIdeal.main_arg6)) := by
        rw [hW]
        after_reads_simp
        rfl
      have a2 : (W (Proc.devRef .tc Cert.Proj4ReferenceIdeal.main_v70)) = Cert.Proj4ReferenceIdeal.Mix.others (Cert.Proj4ReferenceIdeal.Mix.headsOf (Cert.Proj4ReferenceIdeal.Mix.keyFeatures (m' ((c.tc : Thread Cert.Proj4ReferenceIdeal.nD Cert.Proj4ReferenceIdeal.τ).loc Cert.Proj4ReferenceIdeal.main_arg0)) (m' ((c.tc : Thread Cert.Proj4ReferenceIdeal.nD Cert.Proj4ReferenceIdeal.τ).loc Cert.Proj4ReferenceIdeal.main_arg1)) (m' ((c.tc : Thread Cert.Proj4ReferenceIdeal.nD Cert.Proj4ReferenceIdeal.τ).loc Cert.Proj4ReferenceIdeal.main_arg2))) (m' ((c.tc : Thread Cert.Proj4ReferenceIdeal.nD Cert.Proj4ReferenceIdeal.τ).loc Cert.Proj4ReferenceIdeal.main_arg4))) := by
        rw [hW]
        after_reads_simp
        rfl
      clear hW
      refine Eq.trans (b := Cert.Proj4ReferenceIdeal.Mix.streams (Cert.Proj4ReferenceIdeal.Mix.joined (W (Proc.devRef .tc Cert.Proj4ReferenceIdeal.main_v79)) (W (Proc.devRef .tc Cert.Proj4ReferenceIdeal.main_v86)) (W (Proc.devRef .tc Cert.Proj4ReferenceIdeal.main_v70)))) ?_ ?_
      · after_reads_simp
        rfl
      · rw [a0, a1, a2, Cert.Proj4ReferenceIdeal.Mix.keys_pieces, h0, h1, h2, h4, h5, h6]
        exact (Cert.Proj4KernelIdeal.Mix.final_k m c).symm
    · refine (hc Cert.Proj4ReferenceIdeal.main_v101).trans ?_
      clear hc
      refine stage 109 fun W hW => ?_
      have a0 : (W (Proc.devRef .tc Cert.Proj4ReferenceIdeal.main_v94)) = Cert.Proj4ReferenceIdeal.Mix.pairs (Cert.Proj4ReferenceIdeal.Mix.valueFeatures (m' ((c.tc : Thread Cert.Proj4ReferenceIdeal.nD Cert.Proj4ReferenceIdeal.τ).loc Cert.Proj4ReferenceIdeal.main_arg0)) (m' ((c.tc : Thread Cert.Proj4ReferenceIdeal.nD Cert.Proj4ReferenceIdeal.τ).loc Cert.Proj4ReferenceIdeal.main_arg1)) (m' ((c.tc : Thread Cert.Proj4ReferenceIdeal.nD Cert.Proj4ReferenceIdeal.τ).loc Cert.Proj4ReferenceIdeal.main_arg2))) := by
        rw [hW]
        after_reads_simp
        rfl
      have a1 : (W (Proc.devRef .tc Cert.Proj4ReferenceIdeal.main_v95)) = Cert.Proj4ReferenceIdeal.Mix.oneRow := by
        rw [hW]
        after_reads_simp
        rfl
      have a2 : (W (Proc.devRef .tc Cert.Proj4ReferenceIdeal.main_v96)) = Cert.Proj4ReferenceIdeal.Mix.zeroRows := by
        rw [hW]
        after_reads_simp
        rfl
      clear hW
      refine Eq.trans (b := Cert.Proj4ReferenceIdeal.Mix.rows (Cert.Proj4ReferenceIdeal.Mix.stacked (W (Proc.devRef .tc Cert.Proj4ReferenceIdeal.main_v94)) (W (Proc.devRef .tc Cert.Proj4ReferenceIdeal.main_v95)) (W (Proc.devRef .tc Cert.Proj4ReferenceIdeal.main_v96)))) ?_ ?_
      · after_reads_simp
        rfl
      · rw [a0, a1, a2, Cert.Proj4ReferenceIdeal.Mix.values_pieces, h0, h1, h2]
        exact (Cert.Proj4KernelIdeal.Mix.final_v m c).symm
    · refine (hc Cert.Proj4ReferenceIdeal.main_arg0).trans ?_
      clear hc
      after_reads_simp
    · refine (hc Cert.Proj4ReferenceIdeal.main_arg1).trans ?_
      clear hc
      after_reads_simp
    · refine (hc Cert.Proj4ReferenceIdeal.main_arg2).trans ?_
      clear hc
      after_reads_simp
    · refine (hc Cert.Proj4ReferenceIdeal.main_arg3).trans ?_
      clear hc
      after_reads_simp
    · refine (hc Cert.Proj4ReferenceIdeal.main_arg4).trans ?_
      clear hc
      after_reads_simp
    · refine (hc Cert.Proj4ReferenceIdeal.main_arg5).trans ?_
      clear hc
      after_reads_simp
    · refine (hc Cert.Proj4ReferenceIdeal.main_arg6).trans ?_
      clear hc
      after_reads_simp

set_option maxHeartbeats 2000000 in
/-- The two programs' kernels are one. -/
theorem projSixteen_rows : Cert.Proj16Kernel.defs₀ (F := Bits) = Cert.Proj16KernelIdeal.defs₀ (F := Bits) := by
  unfold Cert.Proj16Kernel.defs₀ Cert.Proj16KernelIdeal.defs₀
  refine congrArg (Defs.onTc (τ := Cert.Proj16KernelIdeal.τ) (nD := Cert.Proj16KernelIdeal.nD) (sig := Cert.Proj16KernelIdeal.sig) (Val := Elt Bits) (Λ := Cert.Proj16KernelIdeal.Λ₀)) ?_
  funext l x
  match l, x with
  | ⟨0, _⟩, x => rfl

theorem projSixteen_tables : Cert.Proj16Kernel.defs (F := Bits) = Cert.Proj16KernelIdeal.defs (F := Bits) := congrArg (Pipeline.defs Cert.Proj16KernelIdeal.pcfgs) projSixteen_rows

theorem projSixteen_frame_kernel : Cert.quiescent_Proj16Kernel (hProj16Kernel := Cert.Proj16Kernel.Gen.facts) := fun m g _ => by
  rw [projSixteen_tables]
  exact (θ_run (Cert.Proj16KernelIdeal.defs (F := Bits)) _ _).mono (fun _ h => h) (Cert.Proj16KernelIdeal.Gen.frame (F := Bits) m g)

theorem projSixteen_frame_ideal : Cert.quiescent_Proj16KernelIdeal (hProj16KernelIdeal := Cert.Proj16KernelIdeal.Gen.facts) := fun m g _ =>
  Cert.Proj16KernelIdeal.Gen.frame (F := Ideal) m g

theorem projSixteen_frame_reference : Cert.quiescent_Proj16ReferenceIdeal (hProj16ReferenceIdeal := Cert.Proj16ReferenceIdeal.Gen.facts) := fun m g _ => by
  exact (θ_run Cert.Proj16ReferenceIdeal.defs _ _).mono (Q := fun r => ∀ c : Dev Cert.Proj16ReferenceIdeal.nD,
      r.2.mem ((c.tc : Thread Cert.Proj16ReferenceIdeal.nD Cert.Proj16ReferenceIdeal.τ).loc Cert.Proj16ReferenceIdeal.main_arg0) = m ((c.tc : Thread Cert.Proj16ReferenceIdeal.nD Cert.Proj16ReferenceIdeal.τ).loc Cert.Proj16ReferenceIdeal.main_arg0)
      ∧ r.2.mem ((c.tc : Thread Cert.Proj16ReferenceIdeal.nD Cert.Proj16ReferenceIdeal.τ).loc Cert.Proj16ReferenceIdeal.main_arg1) = m ((c.tc : Thread Cert.Proj16ReferenceIdeal.nD Cert.Proj16ReferenceIdeal.τ).loc Cert.Proj16ReferenceIdeal.main_arg1)
      ∧ r.2.mem ((c.tc : Thread Cert.Proj16ReferenceIdeal.nD Cert.Proj16ReferenceIdeal.τ).loc Cert.Proj16ReferenceIdeal.main_arg2) = m ((c.tc : Thread Cert.Proj16ReferenceIdeal.nD Cert.Proj16ReferenceIdeal.τ).loc Cert.Proj16ReferenceIdeal.main_arg2)
      ∧ r.2.mem ((c.tc : Thread Cert.Proj16ReferenceIdeal.nD Cert.Proj16ReferenceIdeal.τ).loc Cert.Proj16ReferenceIdeal.main_arg3) = m ((c.tc : Thread Cert.Proj16ReferenceIdeal.nD Cert.Proj16ReferenceIdeal.τ).loc Cert.Proj16ReferenceIdeal.main_arg3)
      ∧ r.2.mem ((c.tc : Thread Cert.Proj16ReferenceIdeal.nD Cert.Proj16ReferenceIdeal.τ).loc Cert.Proj16ReferenceIdeal.main_arg4) = m ((c.tc : Thread Cert.Proj16ReferenceIdeal.nD Cert.Proj16ReferenceIdeal.τ).loc Cert.Proj16ReferenceIdeal.main_arg4)
      ∧ r.2.mem ((c.tc : Thread Cert.Proj16ReferenceIdeal.nD Cert.Proj16ReferenceIdeal.τ).loc Cert.Proj16ReferenceIdeal.main_arg5) = m ((c.tc : Thread Cert.Proj16ReferenceIdeal.nD Cert.Proj16ReferenceIdeal.τ).loc Cert.Proj16ReferenceIdeal.main_arg5)
      ∧ r.2.mem ((c.tc : Thread Cert.Proj16ReferenceIdeal.nD Cert.Proj16ReferenceIdeal.τ).loc Cert.Proj16ReferenceIdeal.main_arg6) = m ((c.tc : Thread Cert.Proj16ReferenceIdeal.nD Cert.Proj16ReferenceIdeal.τ).loc Cert.Proj16ReferenceIdeal.main_arg6))
    (fun r h => ⟨h, sem_eq_zero_of_no_sems (sig := Cert.Proj16ReferenceIdeal.sig) (by decide) r.2⟩) (by hlo_run)

set_option maxHeartbeats 2000000 in
theorem projSixteen_value : Cert.algebraic_Proj16KernelIdeal_Proj16ReferenceIdeal (hProj16KernelIdeal := Cert.Proj16KernelIdeal.Gen.facts)
    (hProj16ReferenceIdeal := Cert.Proj16ReferenceIdeal.Gen.facts) := by
  pair_intro
  · run_from Cert.Proj16KernelIdeal.Value.run_blocks m g
  · refine Idealize.ShloMosaic.θ_run_mono (Idealize.ShloMosaic.StableHlo.run_hlo _ _ (by hlo_seq) (by decide) (by decide) (by simp)
      (by intro _ h; (repeat (cases h with | head => rfl | tail _ h => ?_)); exact nomatch h) _ _) ?_
    intro r hr c
    have hc := hr c
    clear hr
    obtain ⟨h0, h1, h2, h3, h4, h5, h6⟩ := hagree c
    and_intros
    · refine (hc Cert.Proj16ReferenceIdeal.main_v99).trans ?_
      clear hc
      refine stage 56 fun W hW => ?_
      have a0 : (W (Proc.devRef .tc Cert.Proj16ReferenceIdeal.main_v42)) = Cert.Proj16ReferenceIdeal.Mix.firstTurned (Cert.Proj16ReferenceIdeal.Mix.headsOf (Cert.Proj16ReferenceIdeal.Mix.queryFeatures (m' ((c.tc : Thread Cert.Proj16ReferenceIdeal.nD Cert.Proj16ReferenceIdeal.τ).loc Cert.Proj16ReferenceIdeal.main_arg0)) (m' ((c.tc : Thread Cert.Proj16ReferenceIdeal.nD Cert.Proj16ReferenceIdeal.τ).loc Cert.Proj16ReferenceIdeal.main_arg1)) (m' ((c.tc : Thread Cert.Proj16ReferenceIdeal.nD Cert.Proj16ReferenceIdeal.τ).loc Cert.Proj16ReferenceIdeal.main_arg2))) (m' ((c.tc : Thread Cert.Proj16ReferenceIdeal.nD Cert.Proj16ReferenceIdeal.τ).loc Cert.Proj16ReferenceIdeal.main_arg3))) (m' ((c.tc : Thread Cert.Proj16ReferenceIdeal.nD Cert.Proj16ReferenceIdeal.τ).loc Cert.Proj16ReferenceIdeal.main_arg5)) (m' ((c.tc : Thread Cert.Proj16ReferenceIdeal.nD Cert.Proj16ReferenceIdeal.τ).loc Cert.Proj16ReferenceIdeal.main_arg6)) := by
        rw [hW]
        after_reads_simp
        rfl
      have a1 : (W (Proc.devRef .tc Cert.Proj16ReferenceIdeal.main_v49)) = Cert.Proj16ReferenceIdeal.Mix.secondTurned (Cert.Proj16ReferenceIdeal.Mix.headsOf (Cert.Proj16ReferenceIdeal.Mix.queryFeatures (m' ((c.tc : Thread Cert.Proj16ReferenceIdeal.nD Cert.Proj16ReferenceIdeal.τ).loc Cert.Proj16ReferenceIdeal.main_arg0)) (m' ((c.tc : Thread Cert.Proj16ReferenceIdeal.nD Cert.Proj16ReferenceIdeal.τ).loc Cert.Proj16ReferenceIdeal.main_arg1)) (m' ((c.tc : Thread Cert.Proj16ReferenceIdeal.nD Cert.Proj16ReferenceIdeal.τ).loc Cert.Proj16ReferenceIdeal.main_arg2))) (m' ((c.tc : Thread Cert.Proj16ReferenceIdeal.nD Cert.Proj16ReferenceIdeal.τ).loc Cert.Proj16ReferenceIdeal.main_arg3))) (m' ((c.tc : Thread Cert.Proj16ReferenceIdeal.nD Cert.Proj16ReferenceIdeal.τ).loc Cert.Proj16ReferenceIdeal.main_arg5)) (m' ((c.tc : Thread Cert.Proj16ReferenceIdeal.nD Cert.Proj16ReferenceIdeal.τ).loc Cert.Proj16ReferenceIdeal.main_arg6)) := by
        rw [hW]
        after_reads_simp
        rfl
      have a2 : (W (Proc.devRef .tc Cert.Proj16ReferenceIdeal.main_v33)) = Cert.Proj16ReferenceIdeal.Mix.others (Cert.Proj16ReferenceIdeal.Mix.headsOf (Cert.Proj16ReferenceIdeal.Mix.queryFeatures (m' ((c.tc : Thread Cert.Proj16ReferenceIdeal.nD Cert.Proj16ReferenceIdeal.τ).loc Cert.Proj16ReferenceIdeal.main_arg0)) (m' ((c.tc : Thread Cert.Proj16ReferenceIdeal.nD Cert.Proj16ReferenceIdeal.τ).loc Cert.Proj16ReferenceIdeal.main_arg1)) (m' ((c.tc : Thread Cert.Proj16ReferenceIdeal.nD Cert.Proj16ReferenceIdeal.τ).loc Cert.Proj16ReferenceIdeal.main_arg2))) (m' ((c.tc : Thread Cert.Proj16ReferenceIdeal.nD Cert.Proj16ReferenceIdeal.τ).loc Cert.Proj16ReferenceIdeal.main_arg3))) := by
        rw [hW]
        after_reads_simp
        rfl
      clear hW
      refine Eq.trans (b := Cert.Proj16ReferenceIdeal.Mix.blocks (Cert.Proj16ReferenceIdeal.Mix.scaled (Cert.Proj16ReferenceIdeal.Mix.joined (W (Proc.devRef .tc Cert.Proj16ReferenceIdeal.main_v42)) (W (Proc.devRef .tc Cert.Proj16ReferenceIdeal.main_v49)) (W (Proc.devRef .tc Cert.Proj16ReferenceIdeal.main_v33))))) ?_ ?_
      · after_reads_simp
        rfl
      · rw [a0, a1, a2, Cert.Proj16ReferenceIdeal.Mix.queries_pieces, h0, h1, h2, h3, h5, h6]
        exact (Cert.Proj16KernelIdeal.Mix.final_q m c).symm
    · refine (hc Cert.Proj16ReferenceIdeal.main_v100).trans ?_
      clear hc
      refine stage 97 fun W hW => ?_
      have a0 : (W (Proc.devRef .tc Cert.Proj16ReferenceIdeal.main_v79)) = Cert.Proj16ReferenceIdeal.Mix.firstTurned (Cert.Proj16ReferenceIdeal.Mix.headsOf (Cert.Proj16ReferenceIdeal.Mix.keyFeatures (m' ((c.tc : Thread Cert.Proj16ReferenceIdeal.nD Cert.Proj16ReferenceIdeal.τ).loc Cert.Proj16ReferenceIdeal.main_arg0)) (m' ((c.tc : Thread Cert.Proj16ReferenceIdeal.nD Cert.Proj16ReferenceIdeal.τ).loc Cert.Proj16ReferenceIdeal.main_arg1)) (m' ((c.tc : Thread Cert.Proj16ReferenceIdeal.nD Cert.Proj16ReferenceIdeal.τ).loc Cert.Proj16ReferenceIdeal.main_arg2))) (m' ((c.tc : Thread Cert.Proj16ReferenceIdeal.nD Cert.Proj16ReferenceIdeal.τ).loc Cert.Proj16ReferenceIdeal.main_arg4))) (m' ((c.tc : Thread Cert.Proj16ReferenceIdeal.nD Cert.Proj16ReferenceIdeal.τ).loc Cert.Proj16ReferenceIdeal.main_arg5)) (m' ((c.tc : Thread Cert.Proj16ReferenceIdeal.nD Cert.Proj16ReferenceIdeal.τ).loc Cert.Proj16ReferenceIdeal.main_arg6)) := by
        rw [hW]
        after_reads_simp
        rfl
      have a1 : (W (Proc.devRef .tc Cert.Proj16ReferenceIdeal.main_v86)) = Cert.Proj16ReferenceIdeal.Mix.secondTurned (Cert.Proj16ReferenceIdeal.Mix.headsOf (Cert.Proj16ReferenceIdeal.Mix.keyFeatures (m' ((c.tc : Thread Cert.Proj16ReferenceIdeal.nD Cert.Proj16ReferenceIdeal.τ).loc Cert.Proj16ReferenceIdeal.main_arg0)) (m' ((c.tc : Thread Cert.Proj16ReferenceIdeal.nD Cert.Proj16ReferenceIdeal.τ).loc Cert.Proj16ReferenceIdeal.main_arg1)) (m' ((c.tc : Thread Cert.Proj16ReferenceIdeal.nD Cert.Proj16ReferenceIdeal.τ).loc Cert.Proj16ReferenceIdeal.main_arg2))) (m' ((c.tc : Thread Cert.Proj16ReferenceIdeal.nD Cert.Proj16ReferenceIdeal.τ).loc Cert.Proj16ReferenceIdeal.main_arg4))) (m' ((c.tc : Thread Cert.Proj16ReferenceIdeal.nD Cert.Proj16ReferenceIdeal.τ).loc Cert.Proj16ReferenceIdeal.main_arg5)) (m' ((c.tc : Thread Cert.Proj16ReferenceIdeal.nD Cert.Proj16ReferenceIdeal.τ).loc Cert.Proj16ReferenceIdeal.main_arg6)) := by
        rw [hW]
        after_reads_simp
        rfl
      have a2 : (W (Proc.devRef .tc Cert.Proj16ReferenceIdeal.main_v70)) = Cert.Proj16ReferenceIdeal.Mix.others (Cert.Proj16ReferenceIdeal.Mix.headsOf (Cert.Proj16ReferenceIdeal.Mix.keyFeatures (m' ((c.tc : Thread Cert.Proj16ReferenceIdeal.nD Cert.Proj16ReferenceIdeal.τ).loc Cert.Proj16ReferenceIdeal.main_arg0)) (m' ((c.tc : Thread Cert.Proj16ReferenceIdeal.nD Cert.Proj16ReferenceIdeal.τ).loc Cert.Proj16ReferenceIdeal.main_arg1)) (m' ((c.tc : Thread Cert.Proj16ReferenceIdeal.nD Cert.Proj16ReferenceIdeal.τ).loc Cert.Proj16ReferenceIdeal.main_arg2))) (m' ((c.tc : Thread Cert.Proj16ReferenceIdeal.nD Cert.Proj16ReferenceIdeal.τ).loc Cert.Proj16ReferenceIdeal.main_arg4))) := by
        rw [hW]
        after_reads_simp
        rfl
      clear hW
      refine Eq.trans (b := Cert.Proj16ReferenceIdeal.Mix.streams (Cert.Proj16ReferenceIdeal.Mix.joined (W (Proc.devRef .tc Cert.Proj16ReferenceIdeal.main_v79)) (W (Proc.devRef .tc Cert.Proj16ReferenceIdeal.main_v86)) (W (Proc.devRef .tc Cert.Proj16ReferenceIdeal.main_v70)))) ?_ ?_
      · after_reads_simp
        rfl
      · rw [a0, a1, a2, Cert.Proj16ReferenceIdeal.Mix.keys_pieces, h0, h1, h2, h4, h5, h6]
        exact (Cert.Proj16KernelIdeal.Mix.final_k m c).symm
    · refine (hc Cert.Proj16ReferenceIdeal.main_v101).trans ?_
      clear hc
      refine stage 109 fun W hW => ?_
      have a0 : (W (Proc.devRef .tc Cert.Proj16ReferenceIdeal.main_v94)) = Cert.Proj16ReferenceIdeal.Mix.pairs (Cert.Proj16ReferenceIdeal.Mix.valueFeatures (m' ((c.tc : Thread Cert.Proj16ReferenceIdeal.nD Cert.Proj16ReferenceIdeal.τ).loc Cert.Proj16ReferenceIdeal.main_arg0)) (m' ((c.tc : Thread Cert.Proj16ReferenceIdeal.nD Cert.Proj16ReferenceIdeal.τ).loc Cert.Proj16ReferenceIdeal.main_arg1)) (m' ((c.tc : Thread Cert.Proj16ReferenceIdeal.nD Cert.Proj16ReferenceIdeal.τ).loc Cert.Proj16ReferenceIdeal.main_arg2))) := by
        rw [hW]
        after_reads_simp
        rfl
      have a1 : (W (Proc.devRef .tc Cert.Proj16ReferenceIdeal.main_v95)) = Cert.Proj16ReferenceIdeal.Mix.oneRow := by
        rw [hW]
        after_reads_simp
        rfl
      have a2 : (W (Proc.devRef .tc Cert.Proj16ReferenceIdeal.main_v96)) = Cert.Proj16ReferenceIdeal.Mix.zeroRows := by
        rw [hW]
        after_reads_simp
        rfl
      clear hW
      refine Eq.trans (b := Cert.Proj16ReferenceIdeal.Mix.rows (Cert.Proj16ReferenceIdeal.Mix.stacked (W (Proc.devRef .tc Cert.Proj16ReferenceIdeal.main_v94)) (W (Proc.devRef .tc Cert.Proj16ReferenceIdeal.main_v95)) (W (Proc.devRef .tc Cert.Proj16ReferenceIdeal.main_v96)))) ?_ ?_
      · after_reads_simp
        rfl
      · rw [a0, a1, a2, Cert.Proj16ReferenceIdeal.Mix.values_pieces, h0, h1, h2]
        exact (Cert.Proj16KernelIdeal.Mix.final_v m c).symm
    · refine (hc Cert.Proj16ReferenceIdeal.main_arg0).trans ?_
      clear hc
      after_reads_simp
    · refine (hc Cert.Proj16ReferenceIdeal.main_arg1).trans ?_
      clear hc
      after_reads_simp
    · refine (hc Cert.Proj16ReferenceIdeal.main_arg2).trans ?_
      clear hc
      after_reads_simp
    · refine (hc Cert.Proj16ReferenceIdeal.main_arg3).trans ?_
      clear hc
      after_reads_simp
    · refine (hc Cert.Proj16ReferenceIdeal.main_arg4).trans ?_
      clear hc
      after_reads_simp
    · refine (hc Cert.Proj16ReferenceIdeal.main_arg5).trans ?_
      clear hc
      after_reads_simp
    · refine (hc Cert.Proj16ReferenceIdeal.main_arg6).trans ?_
      clear hc
      after_reads_simp

theorem claim : Cert.Claim :=
  ⟨Cert.Kernel.Gen.facts, Cert.KernelIdeal.Gen.facts, Cert.ReferenceIdeal.Gen.facts, Cert.OutKernel.Gen.facts, Cert.OutKernelIdeal.Gen.facts,
    Cert.OutReferenceIdeal.Gen.facts,
    Cert.ConvKernel.Gen.facts, Cert.ConvKernelIdeal.Gen.facts, Cert.ConvReferenceIdeal.Gen.facts,
    Cert.GateKernel.Gen.facts, Cert.GateKernelIdeal.Gen.facts, Cert.GateReferenceIdeal.Gen.facts,
    Cert.ProjKernel.Gen.facts, Cert.ProjKernelIdeal.Gen.facts, Cert.ProjReferenceIdeal.Gen.facts,
    Cert.Proj4Kernel.Gen.facts, Cert.Proj4KernelIdeal.Gen.facts, Cert.Proj4ReferenceIdeal.Gen.facts,
    Cert.Proj16Kernel.Gen.facts, Cert.Proj16KernelIdeal.Gen.facts, Cert.Proj16ReferenceIdeal.Gen.facts,
    Cert.Pre_finite_queries_and_keys.Attn.facts,
    frame_kernel, frame_ideal, fun m g _ => frame_ideal m g trivial, frame_reference, fun m g _ => frame_reference m g trivial,
    out_frame_kernel, out_frame_ideal, out_frame_reference,
    conv_frame_kernel, conv_frame_ideal, conv_frame_reference,
    gate_frame_kernel, gate_frame_ideal, gate_frame_reference,
    proj_frame_kernel, proj_frame_ideal, proj_frame_reference,
    projFour_frame_kernel, projFour_frame_ideal, projFour_frame_reference,
    projSixteen_frame_kernel, projSixteen_frame_ideal, projSixteen_frame_reference,
    trivial, value, trivial, out_value, trivial, conv_value, trivial, gate_value, trivial, proj_value, trivial, projFour_value, trivial, projSixteen_value⟩

end Cert.Proof

end
